-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_and_c [hPre_finite_qk_and_c : Cert.Pre_finite_qk_and_c.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_and_c.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_qk_and_c.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_and_c [hPre_finite_qk_and_c : Cert.Pre_finite_qk_and_c.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_and_c.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_qk_and_c.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MlstmIn (m : (ℓ : Loc Cert.MlstmIn.nD Cert.MlstmIn.τ Cert.MlstmIn.sig) → Buf (Elt Bits) ℓ) : Prop :=
  True

def Pre_MlstmInIdeal (m : (ℓ : Loc Cert.MlstmInIdeal.nD Cert.MlstmInIdeal.τ Cert.MlstmInIdeal.sig) → Buf (Elt Ideal) ℓ) : Prop :=
  True

def Pre_MlstmInReferenceIdeal (m : (ℓ : Loc Cert.MlstmInReferenceIdeal.nD Cert.MlstmInReferenceIdeal.τ Cert.MlstmInReferenceIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInReferenceIdeal (m : (ℓ : Loc Cert.SsdInReferenceIdeal.nD Cert.SsdInReferenceIdeal.τ Cert.SsdInReferenceIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_qkv_a_and_b [hPre_finite_qkv_a_and_b : Cert.Pre_finite_qkv_a_and_b.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_qkv_a_and_b.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3))).1 = (fun _ => 1#1)
    ∧ (Cert.Pre_finite_qkv_a_and_b.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3))).2.1 = (fun _ => 1#1)
    ∧ (Cert.Pre_finite_qkv_a_and_b.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3))).2.2 = (fun _ => 1#1)

def Pre_MlstmReferenceIdeal (m : (ℓ : Loc Cert.MlstmReferenceIdeal.nD Cert.MlstmReferenceIdeal.τ Cert.MlstmReferenceIdeal.sig) → Buf (Elt Ideal) ℓ) : Prop :=
  True

def Pre_MlstmReferenceIdeal_finite_qkv_a_and_b [hPre_finite_qkv_a_and_b : Cert.Pre_finite_qkv_a_and_b.Facts] (m : (ℓ : Loc Cert.MlstmReferenceIdeal.nD Cert.MlstmReferenceIdeal.τ Cert.MlstmReferenceIdeal.sig) → Buf (Elt Ideal) ℓ) : Prop :=
  ∀ c : Dev Cert.MlstmReferenceIdeal.nD,
    (Cert.Pre_finite_qkv_a_and_b.fn (F := Ideal) (m ((c.tc : Thread Cert.MlstmReferenceIdeal.nD Cert.MlstmReferenceIdeal.τ).loc Cert.MlstmReferenceIdeal.main_arg0)) (m ((c.tc : Thread Cert.MlstmReferenceIdeal.nD Cert.MlstmReferenceIdeal.τ).loc Cert.MlstmReferenceIdeal.main_arg1)) (m ((c.tc : Thread Cert.MlstmReferenceIdeal.nD Cert.MlstmReferenceIdeal.τ).loc Cert.MlstmReferenceIdeal.main_arg2)) (m ((c.tc : Thread Cert.MlstmReferenceIdeal.nD Cert.MlstmReferenceIdeal.τ).loc Cert.MlstmReferenceIdeal.main_arg3))).1 = (fun _ => 1#1)
    ∧ (Cert.Pre_finite_qkv_a_and_b.fn (F := Ideal) (m ((c.tc : Thread Cert.MlstmReferenceIdeal.nD Cert.MlstmReferenceIdeal.τ).loc Cert.MlstmReferenceIdeal.main_arg0)) (m ((c.tc : Thread Cert.MlstmReferenceIdeal.nD Cert.MlstmReferenceIdeal.τ).loc Cert.MlstmReferenceIdeal.main_arg1)) (m ((c.tc : Thread Cert.MlstmReferenceIdeal.nD Cert.MlstmReferenceIdeal.τ).loc Cert.MlstmReferenceIdeal.main_arg2)) (m ((c.tc : Thread Cert.MlstmReferenceIdeal.nD Cert.MlstmReferenceIdeal.τ).loc Cert.MlstmReferenceIdeal.main_arg3))).2.1 = (fun _ => 1#1)
    ∧ (Cert.Pre_finite_qkv_a_and_b.fn (F := Ideal) (m ((c.tc : Thread Cert.MlstmReferenceIdeal.nD Cert.MlstmReferenceIdeal.τ).loc Cert.MlstmReferenceIdeal.main_arg0)) (m ((c.tc : Thread Cert.MlstmReferenceIdeal.nD Cert.MlstmReferenceIdeal.τ).loc Cert.MlstmReferenceIdeal.main_arg1)) (m ((c.tc : Thread Cert.MlstmReferenceIdeal.nD Cert.MlstmReferenceIdeal.τ).loc Cert.MlstmReferenceIdeal.main_arg2)) (m ((c.tc : Thread Cert.MlstmReferenceIdeal.nD Cert.MlstmReferenceIdeal.τ).loc Cert.MlstmReferenceIdeal.main_arg3))).2.2 = (fun _ => 1#1)

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def Pre_EvenGatesIn (m : (ℓ : Loc Cert.EvenGatesIn.nD Cert.EvenGatesIn.τ Cert.EvenGatesIn.sig) → Buf (Elt Bits) ℓ) : Prop :=
  True

def Pre_EvenGatesInIdeal (m : (ℓ : Loc Cert.EvenGatesInIdeal.nD Cert.EvenGatesInIdeal.τ Cert.EvenGatesInIdeal.sig) → Buf (Elt Ideal) ℓ) : Prop :=
  True

def Pre_EvenGatesInReferenceIdeal (m : (ℓ : Loc Cert.EvenGatesInReferenceIdeal.nD Cert.EvenGatesInReferenceIdeal.τ Cert.EvenGatesInReferenceIdeal.sig) → Buf (Elt Ideal) ℓ) : Prop :=
  True

def Pre_OddGatesIn (m : (ℓ : Loc Cert.OddGatesIn.nD Cert.OddGatesIn.τ Cert.OddGatesIn.sig) → Buf (Elt Bits) ℓ) : Prop :=
  True

def Pre_OddGatesInIdeal (m : (ℓ : Loc Cert.OddGatesInIdeal.nD Cert.OddGatesInIdeal.τ Cert.OddGatesInIdeal.sig) → Buf (Elt Ideal) ℓ) : Prop :=
  True

def Pre_OddGatesInReferenceIdeal (m : (ℓ : Loc Cert.OddGatesInReferenceIdeal.nD Cert.OddGatesInReferenceIdeal.τ Cert.OddGatesInReferenceIdeal.sig) → Buf (Elt Ideal) ℓ) : Prop :=
  True

def Pre_FoxGates (m : (ℓ : Loc Cert.FoxGates.nD Cert.FoxGates.τ Cert.FoxGates.sig) → Buf (Elt Bits) ℓ) : Prop :=
  True

def Pre_FoxGatesIdeal (m : (ℓ : Loc Cert.FoxGatesIdeal.nD Cert.FoxGatesIdeal.τ Cert.FoxGatesIdeal.sig) → Buf (Elt Ideal) ℓ) : Prop :=
  True

def Pre_FoxGatesReferenceIdeal (m : (ℓ : Loc Cert.FoxGatesReferenceIdeal.nD Cert.FoxGatesReferenceIdeal.τ Cert.FoxGatesReferenceIdeal.sig) → Buf (Elt Ideal) ℓ) : Prop :=
  True

def Pre_MlstmGates (m : (ℓ : Loc Cert.MlstmGates.nD Cert.MlstmGates.τ Cert.MlstmGates.sig) → Buf (Elt Bits) ℓ) : Prop :=
  True

def Pre_MlstmGatesIdeal (m : (ℓ : Loc Cert.MlstmGatesIdeal.nD Cert.MlstmGatesIdeal.τ Cert.MlstmGatesIdeal.sig) → Buf (Elt Ideal) ℓ) : Prop :=
  True

def Pre_MlstmGatesReferenceIdeal (m : (ℓ : Loc Cert.MlstmGatesReferenceIdeal.nD Cert.MlstmGatesReferenceIdeal.τ Cert.MlstmGatesReferenceIdeal.sig) → Buf (Elt Ideal) ℓ) : Prop :=
  True

def Pre_SsdGates (m : (ℓ : Loc Cert.SsdGates.nD Cert.SsdGates.τ Cert.SsdGates.sig) → Buf (Elt Bits) ℓ) : Prop :=
  True

def Pre_SsdGatesIdeal (m : (ℓ : Loc Cert.SsdGatesIdeal.nD Cert.SsdGatesIdeal.τ Cert.SsdGatesIdeal.sig) → Buf (Elt Ideal) ℓ) : Prop :=
  True

def Pre_SsdGatesReferenceIdeal (m : (ℓ : Loc Cert.SsdGatesReferenceIdeal.nD Cert.SsdGatesReferenceIdeal.τ Cert.SsdGatesReferenceIdeal.sig) → Buf (Elt Ideal) ℓ) : Prop :=
  True

def Pre_Conformer (m : (ℓ : Loc Cert.Conformer.nD Cert.Conformer.τ Cert.Conformer.sig) → Buf (Elt Bits) ℓ) : Prop :=
  True

def Pre_ConformerIdeal (m : (ℓ : Loc Cert.ConformerIdeal.nD Cert.ConformerIdeal.τ Cert.ConformerIdeal.sig) → Buf (Elt Ideal) ℓ) : Prop :=
  True

def Pre_ConformerReferenceIdeal (m : (ℓ : Loc Cert.ConformerReferenceIdeal.nD Cert.ConformerReferenceIdeal.τ Cert.ConformerReferenceIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk_and_c [hKernelIdeal : Cert.KernelIdeal.Facts] [hPre_finite_qk_and_c : Cert.Pre_finite_qk_and_c.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_and_c m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk_and_c [hReferenceIdeal : Cert.ReferenceIdeal.Facts] [hPre_finite_qk_and_c : Cert.Pre_finite_qk_and_c.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_and_c m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MlstmIn [hMlstmIn : Cert.MlstmIn.Facts] : Prop :=
  ∀ (m : (ℓ : Loc Cert.MlstmIn.nD Cert.MlstmIn.τ Cert.MlstmIn.sig) → Buf (Elt Bits) ℓ) (g : Dev Cert.MlstmIn.nD → PrngReg), Pre_MlstmIn m →
    θ_run (Cert.MlstmIn.defs (F := Bits)) (onTc (τ := Cert.MlstmIn.τ) (Cert.MlstmIn.main (F := Bits))) ⟨m, fun _ => 0, g⟩ (fun r => (∀ c : Dev Cert.MlstmIn.nD,
      r.2.mem ((c.tc : Thread Cert.MlstmIn.nD Cert.MlstmIn.τ).loc Cert.MlstmIn.main_arg0) = m ((c.tc : Thread Cert.MlstmIn.nD Cert.MlstmIn.τ).loc Cert.MlstmIn.main_arg0)
      ∧ r.2.mem ((c.tc : Thread Cert.MlstmIn.nD Cert.MlstmIn.τ).loc Cert.MlstmIn.main_arg1) = m ((c.tc : Thread Cert.MlstmIn.nD Cert.MlstmIn.τ).loc Cert.MlstmIn.main_arg1))
      ∧ r.2.sem = fun _ => 0)

def quiescent_MlstmInIdeal [hMlstmInIdeal : Cert.MlstmInIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg), Pre_MlstmInIdeal m →
    θ_run (Cert.MlstmInIdeal.defs (F := Ideal)) (onTc (τ := Cert.MlstmInIdeal.τ) (Cert.MlstmInIdeal.main (F := Ideal))) ⟨m, fun _ => 0, g⟩ (fun r => (∀ c : Dev Cert.MlstmInIdeal.nD,
      r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
      ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1))
      ∧ r.2.sem = fun _ => 0)

def quiescent_MlstmInReferenceIdeal [hMlstmInReferenceIdeal : Cert.MlstmInReferenceIdeal.Facts] : Prop :=
  ∀ (m : (ℓ : Loc Cert.MlstmInReferenceIdeal.nD Cert.MlstmInReferenceIdeal.τ Cert.MlstmInReferenceIdeal.sig) → Buf (Elt Ideal) ℓ) (g : Dev Cert.MlstmInReferenceIdeal.nD → PrngReg), Pre_MlstmInReferenceIdeal m →
    θ_run (Cert.MlstmInReferenceIdeal.defs (F := Ideal)) (onTc (τ := Cert.MlstmInReferenceIdeal.τ) (Cert.MlstmInReferenceIdeal.main (F := Ideal))) ⟨m, fun _ => 0, g⟩ (fun r => (∀ c : Dev Cert.MlstmInReferenceIdeal.nD,
      r.2.mem ((c.tc : Thread Cert.MlstmInReferenceIdeal.nD Cert.MlstmInReferenceIdeal.τ).loc Cert.MlstmInReferenceIdeal.main_arg0) = m ((c.tc : Thread Cert.MlstmInReferenceIdeal.nD Cert.MlstmInReferenceIdeal.τ).loc Cert.MlstmInReferenceIdeal.main_arg0)
      ∧ r.2.mem ((c.tc : Thread Cert.MlstmInReferenceIdeal.nD Cert.MlstmInReferenceIdeal.τ).loc Cert.MlstmInReferenceIdeal.main_arg1) = m ((c.tc : Thread Cert.MlstmInReferenceIdeal.nD Cert.MlstmInReferenceIdeal.τ).loc Cert.MlstmInReferenceIdeal.main_arg1))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ r.2.sem = fun _ => 0)

def quiescent_SsdInReferenceIdeal [hSsdInReferenceIdeal : Cert.SsdInReferenceIdeal.Facts] : Prop :=
  ∀ (m : (ℓ : Loc Cert.SsdInReferenceIdeal.nD Cert.SsdInReferenceIdeal.τ Cert.SsdInReferenceIdeal.sig) → Buf (Elt Ideal) ℓ) (g : Dev Cert.SsdInReferenceIdeal.nD → PrngReg), Pre_SsdInReferenceIdeal m →
    θ_run (Cert.SsdInReferenceIdeal.defs (F := Ideal)) (onTc (τ := Cert.SsdInReferenceIdeal.τ) (Cert.SsdInReferenceIdeal.main (F := Ideal))) ⟨m, fun _ => 0, g⟩ (fun r => (∀ c : Dev Cert.SsdInReferenceIdeal.nD,
      r.2.mem ((c.tc : Thread Cert.SsdInReferenceIdeal.nD Cert.SsdInReferenceIdeal.τ).loc Cert.SsdInReferenceIdeal.main_arg0) = m ((c.tc : Thread Cert.SsdInReferenceIdeal.nD Cert.SsdInReferenceIdeal.τ).loc Cert.SsdInReferenceIdeal.main_arg0)
      ∧ r.2.mem ((c.tc : Thread Cert.SsdInReferenceIdeal.nD Cert.SsdInReferenceIdeal.τ).loc Cert.SsdInReferenceIdeal.main_arg1) = m ((c.tc : Thread Cert.SsdInReferenceIdeal.nD Cert.SsdInReferenceIdeal.τ).loc Cert.SsdInReferenceIdeal.main_arg1))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ r.2.sem = fun _ => 0)

def quiescent_MlstmIdeal_pre_finite_qkv_a_and_b [hMlstmIdeal : Cert.MlstmIdeal.Facts] [hPre_finite_qkv_a_and_b : Cert.Pre_finite_qkv_a_and_b.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_qkv_a_and_b m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ r.2.sem = fun _ => 0)

def quiescent_MlstmReferenceIdeal [hMlstmReferenceIdeal : Cert.MlstmReferenceIdeal.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3))
      ∧ r.2.sem = fun _ => 0)

def quiescent_MlstmReferenceIdeal_pre_finite_qkv_a_and_b [hMlstmReferenceIdeal : Cert.MlstmReferenceIdeal.Facts] [hPre_finite_qkv_a_and_b : Cert.Pre_finite_qkv_a_and_b.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal_finite_qkv_a_and_b m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def quiescent_EvenGatesIn [hEvenGatesIn : Cert.EvenGatesIn.Facts] : Prop :=
  ∀ (m : (ℓ : Loc Cert.EvenGatesIn.nD Cert.EvenGatesIn.τ Cert.EvenGatesIn.sig) → Buf (Elt Bits) ℓ) (g : Dev Cert.EvenGatesIn.nD → PrngReg), Pre_EvenGatesIn m →
    θ_run (Cert.EvenGatesIn.defs (F := Bits)) (onTc (τ := Cert.EvenGatesIn.τ) (Cert.EvenGatesIn.main (F := Bits))) ⟨m, fun _ => 0, g⟩ (fun r => (∀ c : Dev Cert.EvenGatesIn.nD,
      r.2.mem ((c.tc : Thread Cert.EvenGatesIn.nD Cert.EvenGatesIn.τ).loc Cert.EvenGatesIn.main_arg0) = m ((c.tc : Thread Cert.EvenGatesIn.nD Cert.EvenGatesIn.τ).loc Cert.EvenGatesIn.main_arg0)
      ∧ r.2.mem ((c.tc : Thread Cert.EvenGatesIn.nD Cert.EvenGatesIn.τ).loc Cert.EvenGatesIn.main_arg1) = m ((c.tc : Thread Cert.EvenGatesIn.nD Cert.EvenGatesIn.τ).loc Cert.EvenGatesIn.main_arg1))
      ∧ r.2.sem = fun _ => 0)

def quiescent_EvenGatesInIdeal [hEvenGatesInIdeal : Cert.EvenGatesInIdeal.Facts] : Prop :=
  ∀ (m : (ℓ : Loc Cert.EvenGatesInIdeal.nD Cert.EvenGatesInIdeal.τ Cert.EvenGatesInIdeal.sig) → Buf (Elt Ideal) ℓ) (g : Dev Cert.EvenGatesInIdeal.nD → PrngReg), Pre_EvenGatesInIdeal m →
    θ_run (Cert.EvenGatesInIdeal.defs (F := Ideal)) (onTc (τ := Cert.EvenGatesInIdeal.τ) (Cert.EvenGatesInIdeal.main (F := Ideal))) ⟨m, fun _ => 0, g⟩ (fun r => (∀ c : Dev Cert.EvenGatesInIdeal.nD,
      r.2.mem ((c.tc : Thread Cert.EvenGatesInIdeal.nD Cert.EvenGatesInIdeal.τ).loc Cert.EvenGatesInIdeal.main_arg0) = m ((c.tc : Thread Cert.EvenGatesInIdeal.nD Cert.EvenGatesInIdeal.τ).loc Cert.EvenGatesInIdeal.main_arg0)
      ∧ r.2.mem ((c.tc : Thread Cert.EvenGatesInIdeal.nD Cert.EvenGatesInIdeal.τ).loc Cert.EvenGatesInIdeal.main_arg1) = m ((c.tc : Thread Cert.EvenGatesInIdeal.nD Cert.EvenGatesInIdeal.τ).loc Cert.EvenGatesInIdeal.main_arg1))
      ∧ r.2.sem = fun _ => 0)

def quiescent_EvenGatesInReferenceIdeal [hEvenGatesInReferenceIdeal : Cert.EvenGatesInReferenceIdeal.Facts] : Prop :=
  ∀ (m : (ℓ : Loc Cert.EvenGatesInReferenceIdeal.nD Cert.EvenGatesInReferenceIdeal.τ Cert.EvenGatesInReferenceIdeal.sig) → Buf (Elt Ideal) ℓ) (g : Dev Cert.EvenGatesInReferenceIdeal.nD → PrngReg), Pre_EvenGatesInReferenceIdeal m →
    θ_run (Cert.EvenGatesInReferenceIdeal.defs (F := Ideal)) (onTc (τ := Cert.EvenGatesInReferenceIdeal.τ) (Cert.EvenGatesInReferenceIdeal.main (F := Ideal))) ⟨m, fun _ => 0, g⟩ (fun r => (∀ c : Dev Cert.EvenGatesInReferenceIdeal.nD,
      r.2.mem ((c.tc : Thread Cert.EvenGatesInReferenceIdeal.nD Cert.EvenGatesInReferenceIdeal.τ).loc Cert.EvenGatesInReferenceIdeal.main_arg0) = m ((c.tc : Thread Cert.EvenGatesInReferenceIdeal.nD Cert.EvenGatesInReferenceIdeal.τ).loc Cert.EvenGatesInReferenceIdeal.main_arg0)
      ∧ r.2.mem ((c.tc : Thread Cert.EvenGatesInReferenceIdeal.nD Cert.EvenGatesInReferenceIdeal.τ).loc Cert.EvenGatesInReferenceIdeal.main_arg1) = m ((c.tc : Thread Cert.EvenGatesInReferenceIdeal.nD Cert.EvenGatesInReferenceIdeal.τ).loc Cert.EvenGatesInReferenceIdeal.main_arg1))
      ∧ r.2.sem = fun _ => 0)

def quiescent_OddGatesIn [hOddGatesIn : Cert.OddGatesIn.Facts] : Prop :=
  ∀ (m : (ℓ : Loc Cert.OddGatesIn.nD Cert.OddGatesIn.τ Cert.OddGatesIn.sig) → Buf (Elt Bits) ℓ) (g : Dev Cert.OddGatesIn.nD → PrngReg), Pre_OddGatesIn m →
    θ_run (Cert.OddGatesIn.defs (F := Bits)) (onTc (τ := Cert.OddGatesIn.τ) (Cert.OddGatesIn.main (F := Bits))) ⟨m, fun _ => 0, g⟩ (fun r => (∀ c : Dev Cert.OddGatesIn.nD,
      r.2.mem ((c.tc : Thread Cert.OddGatesIn.nD Cert.OddGatesIn.τ).loc Cert.OddGatesIn.main_arg0) = m ((c.tc : Thread Cert.OddGatesIn.nD Cert.OddGatesIn.τ).loc Cert.OddGatesIn.main_arg0)
      ∧ r.2.mem ((c.tc : Thread Cert.OddGatesIn.nD Cert.OddGatesIn.τ).loc Cert.OddGatesIn.main_arg1) = m ((c.tc : Thread Cert.OddGatesIn.nD Cert.OddGatesIn.τ).loc Cert.OddGatesIn.main_arg1))
      ∧ r.2.sem = fun _ => 0)

def quiescent_OddGatesInIdeal [hOddGatesInIdeal : Cert.OddGatesInIdeal.Facts] : Prop :=
  ∀ (m : (ℓ : Loc Cert.OddGatesInIdeal.nD Cert.OddGatesInIdeal.τ Cert.OddGatesInIdeal.sig) → Buf (Elt Ideal) ℓ) (g : Dev Cert.OddGatesInIdeal.nD → PrngReg), Pre_OddGatesInIdeal m →
    θ_run (Cert.OddGatesInIdeal.defs (F := Ideal)) (onTc (τ := Cert.OddGatesInIdeal.τ) (Cert.OddGatesInIdeal.main (F := Ideal))) ⟨m, fun _ => 0, g⟩ (fun r => (∀ c : Dev Cert.OddGatesInIdeal.nD,
      r.2.mem ((c.tc : Thread Cert.OddGatesInIdeal.nD Cert.OddGatesInIdeal.τ).loc Cert.OddGatesInIdeal.main_arg0) = m ((c.tc : Thread Cert.OddGatesInIdeal.nD Cert.OddGatesInIdeal.τ).loc Cert.OddGatesInIdeal.main_arg0)
      ∧ r.2.mem ((c.tc : Thread Cert.OddGatesInIdeal.nD Cert.OddGatesInIdeal.τ).loc Cert.OddGatesInIdeal.main_arg1) = m ((c.tc : Thread Cert.OddGatesInIdeal.nD Cert.OddGatesInIdeal.τ).loc Cert.OddGatesInIdeal.main_arg1))
      ∧ r.2.sem = fun _ => 0)

def quiescent_OddGatesInReferenceIdeal [hOddGatesInReferenceIdeal : Cert.OddGatesInReferenceIdeal.Facts] : Prop :=
  ∀ (m : (ℓ : Loc Cert.OddGatesInReferenceIdeal.nD Cert.OddGatesInReferenceIdeal.τ Cert.OddGatesInReferenceIdeal.sig) → Buf (Elt Ideal) ℓ) (g : Dev Cert.OddGatesInReferenceIdeal.nD → PrngReg), Pre_OddGatesInReferenceIdeal m →
    θ_run (Cert.OddGatesInReferenceIdeal.defs (F := Ideal)) (onTc (τ := Cert.OddGatesInReferenceIdeal.τ) (Cert.OddGatesInReferenceIdeal.main (F := Ideal))) ⟨m, fun _ => 0, g⟩ (fun r => (∀ c : Dev Cert.OddGatesInReferenceIdeal.nD,
      r.2.mem ((c.tc : Thread Cert.OddGatesInReferenceIdeal.nD Cert.OddGatesInReferenceIdeal.τ).loc Cert.OddGatesInReferenceIdeal.main_arg0) = m ((c.tc : Thread Cert.OddGatesInReferenceIdeal.nD Cert.OddGatesInReferenceIdeal.τ).loc Cert.OddGatesInReferenceIdeal.main_arg0)
      ∧ r.2.mem ((c.tc : Thread Cert.OddGatesInReferenceIdeal.nD Cert.OddGatesInReferenceIdeal.τ).loc Cert.OddGatesInReferenceIdeal.main_arg1) = m ((c.tc : Thread Cert.OddGatesInReferenceIdeal.nD Cert.OddGatesInReferenceIdeal.τ).loc Cert.OddGatesInReferenceIdeal.main_arg1))
      ∧ r.2.sem = fun _ => 0)

def quiescent_FoxGates [hFoxGates : Cert.FoxGates.Facts] : Prop :=
  ∀ (m : (ℓ : Loc Cert.FoxGates.nD Cert.FoxGates.τ Cert.FoxGates.sig) → Buf (Elt Bits) ℓ) (g : Dev Cert.FoxGates.nD → PrngReg), Pre_FoxGates m →
    θ_run (Cert.FoxGates.defs (F := Bits)) (onTc (τ := Cert.FoxGates.τ) (Cert.FoxGates.main (F := Bits))) ⟨m, fun _ => 0, g⟩ (fun r => (∀ c : Dev Cert.FoxGates.nD,
      r.2.mem ((c.tc : Thread Cert.FoxGates.nD Cert.FoxGates.τ).loc Cert.FoxGates.main_arg0) = m ((c.tc : Thread Cert.FoxGates.nD Cert.FoxGates.τ).loc Cert.FoxGates.main_arg0)
      ∧ r.2.mem ((c.tc : Thread Cert.FoxGates.nD Cert.FoxGates.τ).loc Cert.FoxGates.main_arg1) = m ((c.tc : Thread Cert.FoxGates.nD Cert.FoxGates.τ).loc Cert.FoxGates.main_arg1))
      ∧ r.2.sem = fun _ => 0)

def quiescent_FoxGatesIdeal [hFoxGatesIdeal : Cert.FoxGatesIdeal.Facts] : Prop :=
  ∀ (m : (ℓ : Loc Cert.FoxGatesIdeal.nD Cert.FoxGatesIdeal.τ Cert.FoxGatesIdeal.sig) → Buf (Elt Ideal) ℓ) (g : Dev Cert.FoxGatesIdeal.nD → PrngReg), Pre_FoxGatesIdeal m →
    θ_run (Cert.FoxGatesIdeal.defs (F := Ideal)) (onTc (τ := Cert.FoxGatesIdeal.τ) (Cert.FoxGatesIdeal.main (F := Ideal))) ⟨m, fun _ => 0, g⟩ (fun r => (∀ c : Dev Cert.FoxGatesIdeal.nD,
      r.2.mem ((c.tc : Thread Cert.FoxGatesIdeal.nD Cert.FoxGatesIdeal.τ).loc Cert.FoxGatesIdeal.main_arg0) = m ((c.tc : Thread Cert.FoxGatesIdeal.nD Cert.FoxGatesIdeal.τ).loc Cert.FoxGatesIdeal.main_arg0)
      ∧ r.2.mem ((c.tc : Thread Cert.FoxGatesIdeal.nD Cert.FoxGatesIdeal.τ).loc Cert.FoxGatesIdeal.main_arg1) = m ((c.tc : Thread Cert.FoxGatesIdeal.nD Cert.FoxGatesIdeal.τ).loc Cert.FoxGatesIdeal.main_arg1))
      ∧ r.2.sem = fun _ => 0)

def quiescent_FoxGatesReferenceIdeal [hFoxGatesReferenceIdeal : Cert.FoxGatesReferenceIdeal.Facts] : Prop :=
  ∀ (m : (ℓ : Loc Cert.FoxGatesReferenceIdeal.nD Cert.FoxGatesReferenceIdeal.τ Cert.FoxGatesReferenceIdeal.sig) → Buf (Elt Ideal) ℓ) (g : Dev Cert.FoxGatesReferenceIdeal.nD → PrngReg), Pre_FoxGatesReferenceIdeal m →
    θ_run (Cert.FoxGatesReferenceIdeal.defs (F := Ideal)) (onTc (τ := Cert.FoxGatesReferenceIdeal.τ) (Cert.FoxGatesReferenceIdeal.main (F := Ideal))) ⟨m, fun _ => 0, g⟩ (fun r => (∀ c : Dev Cert.FoxGatesReferenceIdeal.nD,
      r.2.mem ((c.tc : Thread Cert.FoxGatesReferenceIdeal.nD Cert.FoxGatesReferenceIdeal.τ).loc Cert.FoxGatesReferenceIdeal.main_arg0) = m ((c.tc : Thread Cert.FoxGatesReferenceIdeal.nD Cert.FoxGatesReferenceIdeal.τ).loc Cert.FoxGatesReferenceIdeal.main_arg0)
      ∧ r.2.mem ((c.tc : Thread Cert.FoxGatesReferenceIdeal.nD Cert.FoxGatesReferenceIdeal.τ).loc Cert.FoxGatesReferenceIdeal.main_arg1) = m ((c.tc : Thread Cert.FoxGatesReferenceIdeal.nD Cert.FoxGatesReferenceIdeal.τ).loc Cert.FoxGatesReferenceIdeal.main_arg1))
      ∧ r.2.sem = fun _ => 0)

def quiescent_MlstmGates [hMlstmGates : Cert.MlstmGates.Facts] : Prop :=
  ∀ (m : (ℓ : Loc Cert.MlstmGates.nD Cert.MlstmGates.τ Cert.MlstmGates.sig) → Buf (Elt Bits) ℓ) (g : Dev Cert.MlstmGates.nD → PrngReg), Pre_MlstmGates m →
    θ_run (Cert.MlstmGates.defs (F := Bits)) (onTc (τ := Cert.MlstmGates.τ) (Cert.MlstmGates.main (F := Bits))) ⟨m, fun _ => 0, g⟩ (fun r => (∀ c : Dev Cert.MlstmGates.nD,
      r.2.mem ((c.tc : Thread Cert.MlstmGates.nD Cert.MlstmGates.τ).loc Cert.MlstmGates.main_arg0) = m ((c.tc : Thread Cert.MlstmGates.nD Cert.MlstmGates.τ).loc Cert.MlstmGates.main_arg0)
      ∧ r.2.mem ((c.tc : Thread Cert.MlstmGates.nD Cert.MlstmGates.τ).loc Cert.MlstmGates.main_arg1) = m ((c.tc : Thread Cert.MlstmGates.nD Cert.MlstmGates.τ).loc Cert.MlstmGates.main_arg1)
      ∧ r.2.mem ((c.tc : Thread Cert.MlstmGates.nD Cert.MlstmGates.τ).loc Cert.MlstmGates.main_arg2) = m ((c.tc : Thread Cert.MlstmGates.nD Cert.MlstmGates.τ).loc Cert.MlstmGates.main_arg2))
      ∧ r.2.sem = fun _ => 0)

def quiescent_MlstmGatesIdeal [hMlstmGatesIdeal : Cert.MlstmGatesIdeal.Facts] : Prop :=
  ∀ (m : (ℓ : Loc Cert.MlstmGatesIdeal.nD Cert.MlstmGatesIdeal.τ Cert.MlstmGatesIdeal.sig) → Buf (Elt Ideal) ℓ) (g : Dev Cert.MlstmGatesIdeal.nD → PrngReg), Pre_MlstmGatesIdeal m →
    θ_run (Cert.MlstmGatesIdeal.defs (F := Ideal)) (onTc (τ := Cert.MlstmGatesIdeal.τ) (Cert.MlstmGatesIdeal.main (F := Ideal))) ⟨m, fun _ => 0, g⟩ (fun r => (∀ c : Dev Cert.MlstmGatesIdeal.nD,
      r.2.mem ((c.tc : Thread Cert.MlstmGatesIdeal.nD Cert.MlstmGatesIdeal.τ).loc Cert.MlstmGatesIdeal.main_arg0) = m ((c.tc : Thread Cert.MlstmGatesIdeal.nD Cert.MlstmGatesIdeal.τ).loc Cert.MlstmGatesIdeal.main_arg0)
      ∧ r.2.mem ((c.tc : Thread Cert.MlstmGatesIdeal.nD Cert.MlstmGatesIdeal.τ).loc Cert.MlstmGatesIdeal.main_arg1) = m ((c.tc : Thread Cert.MlstmGatesIdeal.nD Cert.MlstmGatesIdeal.τ).loc Cert.MlstmGatesIdeal.main_arg1)
      ∧ r.2.mem ((c.tc : Thread Cert.MlstmGatesIdeal.nD Cert.MlstmGatesIdeal.τ).loc Cert.MlstmGatesIdeal.main_arg2) = m ((c.tc : Thread Cert.MlstmGatesIdeal.nD Cert.MlstmGatesIdeal.τ).loc Cert.MlstmGatesIdeal.main_arg2))
      ∧ r.2.sem = fun _ => 0)

def quiescent_MlstmGatesReferenceIdeal [hMlstmGatesReferenceIdeal : Cert.MlstmGatesReferenceIdeal.Facts] : Prop :=
  ∀ (m : (ℓ : Loc Cert.MlstmGatesReferenceIdeal.nD Cert.MlstmGatesReferenceIdeal.τ Cert.MlstmGatesReferenceIdeal.sig) → Buf (Elt Ideal) ℓ) (g : Dev Cert.MlstmGatesReferenceIdeal.nD → PrngReg), Pre_MlstmGatesReferenceIdeal m →
    θ_run (Cert.MlstmGatesReferenceIdeal.defs (F := Ideal)) (onTc (τ := Cert.MlstmGatesReferenceIdeal.τ) (Cert.MlstmGatesReferenceIdeal.main (F := Ideal))) ⟨m, fun _ => 0, g⟩ (fun r => (∀ c : Dev Cert.MlstmGatesReferenceIdeal.nD,
      r.2.mem ((c.tc : Thread Cert.MlstmGatesReferenceIdeal.nD Cert.MlstmGatesReferenceIdeal.τ).loc Cert.MlstmGatesReferenceIdeal.main_arg0) = m ((c.tc : Thread Cert.MlstmGatesReferenceIdeal.nD Cert.MlstmGatesReferenceIdeal.τ).loc Cert.MlstmGatesReferenceIdeal.main_arg0)
      ∧ r.2.mem ((c.tc : Thread Cert.MlstmGatesReferenceIdeal.nD Cert.MlstmGatesReferenceIdeal.τ).loc Cert.MlstmGatesReferenceIdeal.main_arg1) = m ((c.tc : Thread Cert.MlstmGatesReferenceIdeal.nD Cert.MlstmGatesReferenceIdeal.τ).loc Cert.MlstmGatesReferenceIdeal.main_arg1)
      ∧ r.2.mem ((c.tc : Thread Cert.MlstmGatesReferenceIdeal.nD Cert.MlstmGatesReferenceIdeal.τ).loc Cert.MlstmGatesReferenceIdeal.main_arg2) = m ((c.tc : Thread Cert.MlstmGatesReferenceIdeal.nD Cert.MlstmGatesReferenceIdeal.τ).loc Cert.MlstmGatesReferenceIdeal.main_arg2))
      ∧ r.2.sem = fun _ => 0)

def quiescent_SsdGates [hSsdGates : Cert.SsdGates.Facts] : Prop :=
  ∀ (m : (ℓ : Loc Cert.SsdGates.nD Cert.SsdGates.τ Cert.SsdGates.sig) → Buf (Elt Bits) ℓ) (g : Dev Cert.SsdGates.nD → PrngReg), Pre_SsdGates m →
    θ_run (Cert.SsdGates.defs (F := Bits)) (onTc (τ := Cert.SsdGates.τ) (Cert.SsdGates.main (F := Bits))) ⟨m, fun _ => 0, g⟩ (fun r => (∀ c : Dev Cert.SsdGates.nD,
      r.2.mem ((c.tc : Thread Cert.SsdGates.nD Cert.SsdGates.τ).loc Cert.SsdGates.main_arg0) = m ((c.tc : Thread Cert.SsdGates.nD Cert.SsdGates.τ).loc Cert.SsdGates.main_arg0)
      ∧ r.2.mem ((c.tc : Thread Cert.SsdGates.nD Cert.SsdGates.τ).loc Cert.SsdGates.main_arg1) = m ((c.tc : Thread Cert.SsdGates.nD Cert.SsdGates.τ).loc Cert.SsdGates.main_arg1)
      ∧ r.2.mem ((c.tc : Thread Cert.SsdGates.nD Cert.SsdGates.τ).loc Cert.SsdGates.main_arg2) = m ((c.tc : Thread Cert.SsdGates.nD Cert.SsdGates.τ).loc Cert.SsdGates.main_arg2))
      ∧ r.2.sem = fun _ => 0)

def quiescent_SsdGatesIdeal [hSsdGatesIdeal : Cert.SsdGatesIdeal.Facts] : Prop :=
  ∀ (m : (ℓ : Loc Cert.SsdGatesIdeal.nD Cert.SsdGatesIdeal.τ Cert.SsdGatesIdeal.sig) → Buf (Elt Ideal) ℓ) (g : Dev Cert.SsdGatesIdeal.nD → PrngReg), Pre_SsdGatesIdeal m →
    θ_run (Cert.SsdGatesIdeal.defs (F := Ideal)) (onTc (τ := Cert.SsdGatesIdeal.τ) (Cert.SsdGatesIdeal.main (F := Ideal))) ⟨m, fun _ => 0, g⟩ (fun r => (∀ c : Dev Cert.SsdGatesIdeal.nD,
      r.2.mem ((c.tc : Thread Cert.SsdGatesIdeal.nD Cert.SsdGatesIdeal.τ).loc Cert.SsdGatesIdeal.main_arg0) = m ((c.tc : Thread Cert.SsdGatesIdeal.nD Cert.SsdGatesIdeal.τ).loc Cert.SsdGatesIdeal.main_arg0)
      ∧ r.2.mem ((c.tc : Thread Cert.SsdGatesIdeal.nD Cert.SsdGatesIdeal.τ).loc Cert.SsdGatesIdeal.main_arg1) = m ((c.tc : Thread Cert.SsdGatesIdeal.nD Cert.SsdGatesIdeal.τ).loc Cert.SsdGatesIdeal.main_arg1)
      ∧ r.2.mem ((c.tc : Thread Cert.SsdGatesIdeal.nD Cert.SsdGatesIdeal.τ).loc Cert.SsdGatesIdeal.main_arg2) = m ((c.tc : Thread Cert.SsdGatesIdeal.nD Cert.SsdGatesIdeal.τ).loc Cert.SsdGatesIdeal.main_arg2))
      ∧ r.2.sem = fun _ => 0)

def quiescent_SsdGatesReferenceIdeal [hSsdGatesReferenceIdeal : Cert.SsdGatesReferenceIdeal.Facts] : Prop :=
  ∀ (m : (ℓ : Loc Cert.SsdGatesReferenceIdeal.nD Cert.SsdGatesReferenceIdeal.τ Cert.SsdGatesReferenceIdeal.sig) → Buf (Elt Ideal) ℓ) (g : Dev Cert.SsdGatesReferenceIdeal.nD → PrngReg), Pre_SsdGatesReferenceIdeal m →
    θ_run (Cert.SsdGatesReferenceIdeal.defs (F := Ideal)) (onTc (τ := Cert.SsdGatesReferenceIdeal.τ) (Cert.SsdGatesReferenceIdeal.main (F := Ideal))) ⟨m, fun _ => 0, g⟩ (fun r => (∀ c : Dev Cert.SsdGatesReferenceIdeal.nD,
      r.2.mem ((c.tc : Thread Cert.SsdGatesReferenceIdeal.nD Cert.SsdGatesReferenceIdeal.τ).loc Cert.SsdGatesReferenceIdeal.main_arg0) = m ((c.tc : Thread Cert.SsdGatesReferenceIdeal.nD Cert.SsdGatesReferenceIdeal.τ).loc Cert.SsdGatesReferenceIdeal.main_arg0)
      ∧ r.2.mem ((c.tc : Thread Cert.SsdGatesReferenceIdeal.nD Cert.SsdGatesReferenceIdeal.τ).loc Cert.SsdGatesReferenceIdeal.main_arg1) = m ((c.tc : Thread Cert.SsdGatesReferenceIdeal.nD Cert.SsdGatesReferenceIdeal.τ).loc Cert.SsdGatesReferenceIdeal.main_arg1)
      ∧ r.2.mem ((c.tc : Thread Cert.SsdGatesReferenceIdeal.nD Cert.SsdGatesReferenceIdeal.τ).loc Cert.SsdGatesReferenceIdeal.main_arg2) = m ((c.tc : Thread Cert.SsdGatesReferenceIdeal.nD Cert.SsdGatesReferenceIdeal.τ).loc Cert.SsdGatesReferenceIdeal.main_arg2))
      ∧ r.2.sem = fun _ => 0)

def quiescent_Conformer [hConformer : Cert.Conformer.Facts] : Prop :=
  ∀ (m : (ℓ : Loc Cert.Conformer.nD Cert.Conformer.τ Cert.Conformer.sig) → Buf (Elt Bits) ℓ) (g : Dev Cert.Conformer.nD → PrngReg), Pre_Conformer m →
    θ_run (Cert.Conformer.defs (F := Bits)) (onTc (τ := Cert.Conformer.τ) (Cert.Conformer.main (F := Bits))) ⟨m, fun _ => 0, g⟩ (fun r => (∀ c : Dev Cert.Conformer.nD,
      r.2.mem ((c.tc : Thread Cert.Conformer.nD Cert.Conformer.τ).loc Cert.Conformer.main_arg0) = m ((c.tc : Thread Cert.Conformer.nD Cert.Conformer.τ).loc Cert.Conformer.main_arg0)
      ∧ r.2.mem ((c.tc : Thread Cert.Conformer.nD Cert.Conformer.τ).loc Cert.Conformer.main_arg1) = m ((c.tc : Thread Cert.Conformer.nD Cert.Conformer.τ).loc Cert.Conformer.main_arg1)
      ∧ r.2.mem ((c.tc : Thread Cert.Conformer.nD Cert.Conformer.τ).loc Cert.Conformer.main_arg2) = m ((c.tc : Thread Cert.Conformer.nD Cert.Conformer.τ).loc Cert.Conformer.main_arg2)
      ∧ r.2.mem ((c.tc : Thread Cert.Conformer.nD Cert.Conformer.τ).loc Cert.Conformer.main_arg3) = m ((c.tc : Thread Cert.Conformer.nD Cert.Conformer.τ).loc Cert.Conformer.main_arg3)
      ∧ r.2.mem ((c.tc : Thread Cert.Conformer.nD Cert.Conformer.τ).loc Cert.Conformer.main_arg4) = m ((c.tc : Thread Cert.Conformer.nD Cert.Conformer.τ).loc Cert.Conformer.main_arg4))
      ∧ r.2.sem = fun _ => 0)

def quiescent_ConformerIdeal [hConformerIdeal : Cert.ConformerIdeal.Facts] : Prop :=
  ∀ (m : (ℓ : Loc Cert.ConformerIdeal.nD Cert.ConformerIdeal.τ Cert.ConformerIdeal.sig) → Buf (Elt Ideal) ℓ) (g : Dev Cert.ConformerIdeal.nD → PrngReg), Pre_ConformerIdeal m →
    θ_run (Cert.ConformerIdeal.defs (F := Ideal)) (onTc (τ := Cert.ConformerIdeal.τ) (Cert.ConformerIdeal.main (F := Ideal))) ⟨m, fun _ => 0, g⟩ (fun r => (∀ c : Dev Cert.ConformerIdeal.nD,
      r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
      ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
      ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
      ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
      ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4))
      ∧ r.2.sem = fun _ => 0)

def quiescent_ConformerReferenceIdeal [hConformerReferenceIdeal : Cert.ConformerReferenceIdeal.Facts] : Prop :=
  ∀ (m : (ℓ : Loc Cert.ConformerReferenceIdeal.nD Cert.ConformerReferenceIdeal.τ Cert.ConformerReferenceIdeal.sig) → Buf (Elt Ideal) ℓ) (g : Dev Cert.ConformerReferenceIdeal.nD → PrngReg), Pre_ConformerReferenceIdeal m →
    θ_run (Cert.ConformerReferenceIdeal.defs (F := Ideal)) (onTc (τ := Cert.ConformerReferenceIdeal.τ) (Cert.ConformerReferenceIdeal.main (F := Ideal))) ⟨m, fun _ => 0, g⟩ (fun r => (∀ c : Dev Cert.ConformerReferenceIdeal.nD,
      r.2.mem ((c.tc : Thread Cert.ConformerReferenceIdeal.nD Cert.ConformerReferenceIdeal.τ).loc Cert.ConformerReferenceIdeal.main_arg0) = m ((c.tc : Thread Cert.ConformerReferenceIdeal.nD Cert.ConformerReferenceIdeal.τ).loc Cert.ConformerReferenceIdeal.main_arg0)
      ∧ r.2.mem ((c.tc : Thread Cert.ConformerReferenceIdeal.nD Cert.ConformerReferenceIdeal.τ).loc Cert.ConformerReferenceIdeal.main_arg1) = m ((c.tc : Thread Cert.ConformerReferenceIdeal.nD Cert.ConformerReferenceIdeal.τ).loc Cert.ConformerReferenceIdeal.main_arg1)
      ∧ r.2.mem ((c.tc : Thread Cert.ConformerReferenceIdeal.nD Cert.ConformerReferenceIdeal.τ).loc Cert.ConformerReferenceIdeal.main_arg2) = m ((c.tc : Thread Cert.ConformerReferenceIdeal.nD Cert.ConformerReferenceIdeal.τ).loc Cert.ConformerReferenceIdeal.main_arg2)
      ∧ r.2.mem ((c.tc : Thread Cert.ConformerReferenceIdeal.nD Cert.ConformerReferenceIdeal.τ).loc Cert.ConformerReferenceIdeal.main_arg3) = m ((c.tc : Thread Cert.ConformerReferenceIdeal.nD Cert.ConformerReferenceIdeal.τ).loc Cert.ConformerReferenceIdeal.main_arg3)
      ∧ r.2.mem ((c.tc : Thread Cert.ConformerReferenceIdeal.nD Cert.ConformerReferenceIdeal.τ).loc Cert.ConformerReferenceIdeal.main_arg4) = m ((c.tc : Thread Cert.ConformerReferenceIdeal.nD Cert.ConformerReferenceIdeal.τ).loc Cert.ConformerReferenceIdeal.main_arg4))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_qk_and_c [hKernelIdeal : Cert.KernelIdeal.Facts] [hReferenceIdeal : Cert.ReferenceIdeal.Facts] [hPre_finite_qk_and_c : Cert.Pre_finite_qk_and_c.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_and_c m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v4) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MlstmIn_MlstmInIdeal : Prop :=
  True

def algebraic_MlstmInIdeal_MlstmInReferenceIdeal [hMlstmInIdeal : Cert.MlstmInIdeal.Facts] [hMlstmInReferenceIdeal : Cert.MlstmInReferenceIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg)
    (m' : (ℓ : Loc Cert.MlstmInReferenceIdeal.nD Cert.MlstmInReferenceIdeal.τ Cert.MlstmInReferenceIdeal.sig) → Buf (Elt Ideal) ℓ) (g' : Dev Cert.MlstmInReferenceIdeal.nD → PrngReg), Pre_MlstmInIdeal m →
    (∀ c : Dev Cert.MlstmInIdeal.nD,
      m' ((c.tc : Thread Cert.MlstmInReferenceIdeal.nD Cert.MlstmInReferenceIdeal.τ).loc Cert.MlstmInReferenceIdeal.main_arg0) = m ((c.tc : Thread Cert.MlstmInIdeal.nD Cert.MlstmInIdeal.τ).loc Cert.MlstmInIdeal.main_arg0)
      ∧ m' ((c.tc : Thread Cert.MlstmInReferenceIdeal.nD Cert.MlstmInReferenceIdeal.τ).loc Cert.MlstmInReferenceIdeal.main_arg1) = m ((c.tc : Thread Cert.MlstmInIdeal.nD Cert.MlstmInIdeal.τ).loc Cert.MlstmInIdeal.main_arg1)) →
    ∃ (v0 : (c : Dev Cert.MlstmInIdeal.nD) → Buf (Elt Ideal) ((c.tc : Thread Cert.MlstmInIdeal.nD Cert.MlstmInIdeal.τ).loc Cert.MlstmInIdeal.main_v1)),
      θ_run (Cert.MlstmInIdeal.defs (F := Ideal)) (onTc (τ := Cert.MlstmInIdeal.τ) (Cert.MlstmInIdeal.main (F := Ideal))) ⟨m, fun _ => 0, g⟩ (fun r => ∀ c : Dev Cert.MlstmInIdeal.nD,
          r.2.mem ((c.tc : Thread Cert.MlstmInIdeal.nD Cert.MlstmInIdeal.τ).loc Cert.MlstmInIdeal.main_v1) = v0 c
          ∧ r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
          ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1))
      ∧ θ_run (Cert.MlstmInReferenceIdeal.defs (F := Ideal)) (onTc (τ := Cert.MlstmInReferenceIdeal.τ) (Cert.MlstmInReferenceIdeal.main (F := Ideal))) ⟨m', fun _ => 0, g'⟩ (fun r => ∀ c : Dev Cert.MlstmInReferenceIdeal.nD,
          r.2.mem ((c.tc : Thread Cert.MlstmInReferenceIdeal.nD Cert.MlstmInReferenceIdeal.τ).loc Cert.MlstmInReferenceIdeal.main_v4) = v0 c
          ∧ r.2.mem ((c.tc : Thread Cert.MlstmInReferenceIdeal.nD Cert.MlstmInReferenceIdeal.τ).loc Cert.MlstmInReferenceIdeal.main_arg0) = m' ((c.tc : Thread Cert.MlstmInReferenceIdeal.nD Cert.MlstmInReferenceIdeal.τ).loc Cert.MlstmInReferenceIdeal.main_arg0)
          ∧ r.2.mem ((c.tc : Thread Cert.MlstmInReferenceIdeal.nD Cert.MlstmInReferenceIdeal.τ).loc Cert.MlstmInReferenceIdeal.main_arg1) = m' ((c.tc : Thread Cert.MlstmInReferenceIdeal.nD Cert.MlstmInReferenceIdeal.τ).loc Cert.MlstmInReferenceIdeal.main_arg1))

def preserves_SsdIn_SsdInIdeal : Prop :=
  True

def algebraic_SsdInIdeal_SsdInReferenceIdeal [hSsdInIdeal : Cert.SsdInIdeal.Facts] [hSsdInReferenceIdeal : Cert.SsdInReferenceIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInReferenceIdeal.nD Cert.SsdInReferenceIdeal.τ Cert.SsdInReferenceIdeal.sig) → Buf (Elt Ideal) ℓ) (g' : Dev Cert.SsdInReferenceIdeal.nD → PrngReg), Pre_SsdInIdeal m →
    (∀ c : Dev Cert.SsdInIdeal.nD,
      m' ((c.tc : Thread Cert.SsdInReferenceIdeal.nD Cert.SsdInReferenceIdeal.τ).loc Cert.SsdInReferenceIdeal.main_arg0) = m ((c.tc : Thread Cert.SsdInIdeal.nD Cert.SsdInIdeal.τ).loc Cert.SsdInIdeal.main_arg0)
      ∧ m' ((c.tc : Thread Cert.SsdInReferenceIdeal.nD Cert.SsdInReferenceIdeal.τ).loc Cert.SsdInReferenceIdeal.main_arg1) = m ((c.tc : Thread Cert.SsdInIdeal.nD Cert.SsdInIdeal.τ).loc Cert.SsdInIdeal.main_arg1)) →
    ∃ (v0 : (c : Dev Cert.SsdInIdeal.nD) → Buf (Elt Ideal) ((c.tc : Thread Cert.SsdInIdeal.nD Cert.SsdInIdeal.τ).loc Cert.SsdInIdeal.main_v2)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v2) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ θ_run (Cert.SsdInReferenceIdeal.defs (F := Ideal)) (onTc (τ := Cert.SsdInReferenceIdeal.τ) (Cert.SsdInReferenceIdeal.main (F := Ideal))) ⟨m', fun _ => 0, g'⟩ (fun r => ∀ c : Dev Cert.SsdInReferenceIdeal.nD,
          r.2.mem ((c.tc : Thread Cert.SsdInReferenceIdeal.nD Cert.SsdInReferenceIdeal.τ).loc Cert.SsdInReferenceIdeal.main_v4) = v0 c
          ∧ r.2.mem ((c.tc : Thread Cert.SsdInReferenceIdeal.nD Cert.SsdInReferenceIdeal.τ).loc Cert.SsdInReferenceIdeal.main_arg0) = m' ((c.tc : Thread Cert.SsdInReferenceIdeal.nD Cert.SsdInReferenceIdeal.τ).loc Cert.SsdInReferenceIdeal.main_arg0)
          ∧ r.2.mem ((c.tc : Thread Cert.SsdInReferenceIdeal.nD Cert.SsdInReferenceIdeal.τ).loc Cert.SsdInReferenceIdeal.main_arg1) = m' ((c.tc : Thread Cert.SsdInReferenceIdeal.nD Cert.SsdInReferenceIdeal.τ).loc Cert.SsdInReferenceIdeal.main_arg1))

def preserves_Mlstm_MlstmIdeal : Prop :=
  True

def algebraic_MlstmIdeal_MlstmReferenceIdeal_pre_finite_qkv_a_and_b [hMlstmIdeal : Cert.MlstmIdeal.Facts] [hMlstmReferenceIdeal : Cert.MlstmReferenceIdeal.Facts] [hPre_finite_qkv_a_and_b : Cert.Pre_finite_qkv_a_and_b.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmReferenceIdeal.nD Cert.MlstmReferenceIdeal.τ Cert.MlstmReferenceIdeal.sig) → Buf (Elt Ideal) ℓ) (g' : Dev Cert.MlstmReferenceIdeal.nD → PrngReg), Pre_MlstmIdeal_finite_qkv_a_and_b m →
    (∀ c : Dev Cert.MlstmIdeal.nD,
      m' ((c.tc : Thread Cert.MlstmReferenceIdeal.nD Cert.MlstmReferenceIdeal.τ).loc Cert.MlstmReferenceIdeal.main_arg0) = m ((c.tc : Thread Cert.MlstmIdeal.nD Cert.MlstmIdeal.τ).loc Cert.MlstmIdeal.main_arg0)
      ∧ m' ((c.tc : Thread Cert.MlstmReferenceIdeal.nD Cert.MlstmReferenceIdeal.τ).loc Cert.MlstmReferenceIdeal.main_arg1) = m ((c.tc : Thread Cert.MlstmIdeal.nD Cert.MlstmIdeal.τ).loc Cert.MlstmIdeal.main_arg1)
      ∧ m' ((c.tc : Thread Cert.MlstmReferenceIdeal.nD Cert.MlstmReferenceIdeal.τ).loc Cert.MlstmReferenceIdeal.main_arg2) = m ((c.tc : Thread Cert.MlstmIdeal.nD Cert.MlstmIdeal.τ).loc Cert.MlstmIdeal.main_arg2)
      ∧ m' ((c.tc : Thread Cert.MlstmReferenceIdeal.nD Cert.MlstmReferenceIdeal.τ).loc Cert.MlstmReferenceIdeal.main_arg3) = m ((c.tc : Thread Cert.MlstmIdeal.nD Cert.MlstmIdeal.τ).loc Cert.MlstmIdeal.main_arg3)) →
    ∃ (v0 : (c : Dev Cert.MlstmIdeal.nD) → Buf (Elt Ideal) ((c.tc : Thread Cert.MlstmIdeal.nD Cert.MlstmIdeal.τ).loc Cert.MlstmIdeal.main_v4)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v4) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ θ_run (Cert.MlstmReferenceIdeal.defs (F := Ideal)) (onTc (τ := Cert.MlstmReferenceIdeal.τ) (Cert.MlstmReferenceIdeal.main (F := Ideal))) ⟨m', fun _ => 0, g'⟩ (fun r => ∀ c : Dev Cert.MlstmReferenceIdeal.nD,
          r.2.mem ((c.tc : Thread Cert.MlstmReferenceIdeal.nD Cert.MlstmReferenceIdeal.τ).loc Cert.MlstmReferenceIdeal.main_v71) = v0 c
          ∧ r.2.mem ((c.tc : Thread Cert.MlstmReferenceIdeal.nD Cert.MlstmReferenceIdeal.τ).loc Cert.MlstmReferenceIdeal.main_arg0) = m' ((c.tc : Thread Cert.MlstmReferenceIdeal.nD Cert.MlstmReferenceIdeal.τ).loc Cert.MlstmReferenceIdeal.main_arg0)
          ∧ r.2.mem ((c.tc : Thread Cert.MlstmReferenceIdeal.nD Cert.MlstmReferenceIdeal.τ).loc Cert.MlstmReferenceIdeal.main_arg1) = m' ((c.tc : Thread Cert.MlstmReferenceIdeal.nD Cert.MlstmReferenceIdeal.τ).loc Cert.MlstmReferenceIdeal.main_arg1)
          ∧ r.2.mem ((c.tc : Thread Cert.MlstmReferenceIdeal.nD Cert.MlstmReferenceIdeal.τ).loc Cert.MlstmReferenceIdeal.main_arg2) = m' ((c.tc : Thread Cert.MlstmReferenceIdeal.nD Cert.MlstmReferenceIdeal.τ).loc Cert.MlstmReferenceIdeal.main_arg2)
          ∧ r.2.mem ((c.tc : Thread Cert.MlstmReferenceIdeal.nD Cert.MlstmReferenceIdeal.τ).loc Cert.MlstmReferenceIdeal.main_arg3) = m' ((c.tc : Thread Cert.MlstmReferenceIdeal.nD Cert.MlstmReferenceIdeal.τ).loc Cert.MlstmReferenceIdeal.main_arg3))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v12) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def preserves_EvenGatesIn_EvenGatesInIdeal : Prop :=
  True

def algebraic_EvenGatesInIdeal_EvenGatesInReferenceIdeal [hEvenGatesInIdeal : Cert.EvenGatesInIdeal.Facts] [hEvenGatesInReferenceIdeal : Cert.EvenGatesInReferenceIdeal.Facts] : Prop :=
  ∀ (m : (ℓ : Loc Cert.EvenGatesInIdeal.nD Cert.EvenGatesInIdeal.τ Cert.EvenGatesInIdeal.sig) → Buf (Elt Ideal) ℓ) (g : Dev Cert.EvenGatesInIdeal.nD → PrngReg)
    (m' : (ℓ : Loc Cert.EvenGatesInReferenceIdeal.nD Cert.EvenGatesInReferenceIdeal.τ Cert.EvenGatesInReferenceIdeal.sig) → Buf (Elt Ideal) ℓ) (g' : Dev Cert.EvenGatesInReferenceIdeal.nD → PrngReg), Pre_EvenGatesInIdeal m →
    (∀ c : Dev Cert.EvenGatesInIdeal.nD,
      m' ((c.tc : Thread Cert.EvenGatesInReferenceIdeal.nD Cert.EvenGatesInReferenceIdeal.τ).loc Cert.EvenGatesInReferenceIdeal.main_arg0) = m ((c.tc : Thread Cert.EvenGatesInIdeal.nD Cert.EvenGatesInIdeal.τ).loc Cert.EvenGatesInIdeal.main_arg0)
      ∧ m' ((c.tc : Thread Cert.EvenGatesInReferenceIdeal.nD Cert.EvenGatesInReferenceIdeal.τ).loc Cert.EvenGatesInReferenceIdeal.main_arg1) = m ((c.tc : Thread Cert.EvenGatesInIdeal.nD Cert.EvenGatesInIdeal.τ).loc Cert.EvenGatesInIdeal.main_arg1)) →
    ∃ (v0 : (c : Dev Cert.EvenGatesInIdeal.nD) → Buf (Elt Ideal) ((c.tc : Thread Cert.EvenGatesInIdeal.nD Cert.EvenGatesInIdeal.τ).loc Cert.EvenGatesInIdeal.main_v6)),
      θ_run (Cert.EvenGatesInIdeal.defs (F := Ideal)) (onTc (τ := Cert.EvenGatesInIdeal.τ) (Cert.EvenGatesInIdeal.main (F := Ideal))) ⟨m, fun _ => 0, g⟩ (fun r => ∀ c : Dev Cert.EvenGatesInIdeal.nD,
          r.2.mem ((c.tc : Thread Cert.EvenGatesInIdeal.nD Cert.EvenGatesInIdeal.τ).loc Cert.EvenGatesInIdeal.main_v6) = v0 c
          ∧ r.2.mem ((c.tc : Thread Cert.EvenGatesInIdeal.nD Cert.EvenGatesInIdeal.τ).loc Cert.EvenGatesInIdeal.main_arg0) = m ((c.tc : Thread Cert.EvenGatesInIdeal.nD Cert.EvenGatesInIdeal.τ).loc Cert.EvenGatesInIdeal.main_arg0)
          ∧ r.2.mem ((c.tc : Thread Cert.EvenGatesInIdeal.nD Cert.EvenGatesInIdeal.τ).loc Cert.EvenGatesInIdeal.main_arg1) = m ((c.tc : Thread Cert.EvenGatesInIdeal.nD Cert.EvenGatesInIdeal.τ).loc Cert.EvenGatesInIdeal.main_arg1))
      ∧ θ_run (Cert.EvenGatesInReferenceIdeal.defs (F := Ideal)) (onTc (τ := Cert.EvenGatesInReferenceIdeal.τ) (Cert.EvenGatesInReferenceIdeal.main (F := Ideal))) ⟨m', fun _ => 0, g'⟩ (fun r => ∀ c : Dev Cert.EvenGatesInReferenceIdeal.nD,
          r.2.mem ((c.tc : Thread Cert.EvenGatesInReferenceIdeal.nD Cert.EvenGatesInReferenceIdeal.τ).loc Cert.EvenGatesInReferenceIdeal.main_v8) = v0 c
          ∧ r.2.mem ((c.tc : Thread Cert.EvenGatesInReferenceIdeal.nD Cert.EvenGatesInReferenceIdeal.τ).loc Cert.EvenGatesInReferenceIdeal.main_arg0) = m' ((c.tc : Thread Cert.EvenGatesInReferenceIdeal.nD Cert.EvenGatesInReferenceIdeal.τ).loc Cert.EvenGatesInReferenceIdeal.main_arg0)
          ∧ r.2.mem ((c.tc : Thread Cert.EvenGatesInReferenceIdeal.nD Cert.EvenGatesInReferenceIdeal.τ).loc Cert.EvenGatesInReferenceIdeal.main_arg1) = m' ((c.tc : Thread Cert.EvenGatesInReferenceIdeal.nD Cert.EvenGatesInReferenceIdeal.τ).loc Cert.EvenGatesInReferenceIdeal.main_arg1))

def preserves_OddGatesIn_OddGatesInIdeal : Prop :=
  True

def algebraic_OddGatesInIdeal_OddGatesInReferenceIdeal [hOddGatesInIdeal : Cert.OddGatesInIdeal.Facts] [hOddGatesInReferenceIdeal : Cert.OddGatesInReferenceIdeal.Facts] : Prop :=
  ∀ (m : (ℓ : Loc Cert.OddGatesInIdeal.nD Cert.OddGatesInIdeal.τ Cert.OddGatesInIdeal.sig) → Buf (Elt Ideal) ℓ) (g : Dev Cert.OddGatesInIdeal.nD → PrngReg)
    (m' : (ℓ : Loc Cert.OddGatesInReferenceIdeal.nD Cert.OddGatesInReferenceIdeal.τ Cert.OddGatesInReferenceIdeal.sig) → Buf (Elt Ideal) ℓ) (g' : Dev Cert.OddGatesInReferenceIdeal.nD → PrngReg), Pre_OddGatesInIdeal m →
    (∀ c : Dev Cert.OddGatesInIdeal.nD,
      m' ((c.tc : Thread Cert.OddGatesInReferenceIdeal.nD Cert.OddGatesInReferenceIdeal.τ).loc Cert.OddGatesInReferenceIdeal.main_arg0) = m ((c.tc : Thread Cert.OddGatesInIdeal.nD Cert.OddGatesInIdeal.τ).loc Cert.OddGatesInIdeal.main_arg0)
      ∧ m' ((c.tc : Thread Cert.OddGatesInReferenceIdeal.nD Cert.OddGatesInReferenceIdeal.τ).loc Cert.OddGatesInReferenceIdeal.main_arg1) = m ((c.tc : Thread Cert.OddGatesInIdeal.nD Cert.OddGatesInIdeal.τ).loc Cert.OddGatesInIdeal.main_arg1)) →
    ∃ (v0 : (c : Dev Cert.OddGatesInIdeal.nD) → Buf (Elt Ideal) ((c.tc : Thread Cert.OddGatesInIdeal.nD Cert.OddGatesInIdeal.τ).loc Cert.OddGatesInIdeal.main_v4)),
      θ_run (Cert.OddGatesInIdeal.defs (F := Ideal)) (onTc (τ := Cert.OddGatesInIdeal.τ) (Cert.OddGatesInIdeal.main (F := Ideal))) ⟨m, fun _ => 0, g⟩ (fun r => ∀ c : Dev Cert.OddGatesInIdeal.nD,
          r.2.mem ((c.tc : Thread Cert.OddGatesInIdeal.nD Cert.OddGatesInIdeal.τ).loc Cert.OddGatesInIdeal.main_v4) = v0 c
          ∧ r.2.mem ((c.tc : Thread Cert.OddGatesInIdeal.nD Cert.OddGatesInIdeal.τ).loc Cert.OddGatesInIdeal.main_arg0) = m ((c.tc : Thread Cert.OddGatesInIdeal.nD Cert.OddGatesInIdeal.τ).loc Cert.OddGatesInIdeal.main_arg0)
          ∧ r.2.mem ((c.tc : Thread Cert.OddGatesInIdeal.nD Cert.OddGatesInIdeal.τ).loc Cert.OddGatesInIdeal.main_arg1) = m ((c.tc : Thread Cert.OddGatesInIdeal.nD Cert.OddGatesInIdeal.τ).loc Cert.OddGatesInIdeal.main_arg1))
      ∧ θ_run (Cert.OddGatesInReferenceIdeal.defs (F := Ideal)) (onTc (τ := Cert.OddGatesInReferenceIdeal.τ) (Cert.OddGatesInReferenceIdeal.main (F := Ideal))) ⟨m', fun _ => 0, g'⟩ (fun r => ∀ c : Dev Cert.OddGatesInReferenceIdeal.nD,
          r.2.mem ((c.tc : Thread Cert.OddGatesInReferenceIdeal.nD Cert.OddGatesInReferenceIdeal.τ).loc Cert.OddGatesInReferenceIdeal.main_v5) = v0 c
          ∧ r.2.mem ((c.tc : Thread Cert.OddGatesInReferenceIdeal.nD Cert.OddGatesInReferenceIdeal.τ).loc Cert.OddGatesInReferenceIdeal.main_arg0) = m' ((c.tc : Thread Cert.OddGatesInReferenceIdeal.nD Cert.OddGatesInReferenceIdeal.τ).loc Cert.OddGatesInReferenceIdeal.main_arg0)
          ∧ r.2.mem ((c.tc : Thread Cert.OddGatesInReferenceIdeal.nD Cert.OddGatesInReferenceIdeal.τ).loc Cert.OddGatesInReferenceIdeal.main_arg1) = m' ((c.tc : Thread Cert.OddGatesInReferenceIdeal.nD Cert.OddGatesInReferenceIdeal.τ).loc Cert.OddGatesInReferenceIdeal.main_arg1))

def preserves_FoxGates_FoxGatesIdeal : Prop :=
  True

def algebraic_FoxGatesIdeal_FoxGatesReferenceIdeal [hFoxGatesIdeal : Cert.FoxGatesIdeal.Facts] [hFoxGatesReferenceIdeal : Cert.FoxGatesReferenceIdeal.Facts] : Prop :=
  ∀ (m : (ℓ : Loc Cert.FoxGatesIdeal.nD Cert.FoxGatesIdeal.τ Cert.FoxGatesIdeal.sig) → Buf (Elt Ideal) ℓ) (g : Dev Cert.FoxGatesIdeal.nD → PrngReg)
    (m' : (ℓ : Loc Cert.FoxGatesReferenceIdeal.nD Cert.FoxGatesReferenceIdeal.τ Cert.FoxGatesReferenceIdeal.sig) → Buf (Elt Ideal) ℓ) (g' : Dev Cert.FoxGatesReferenceIdeal.nD → PrngReg), Pre_FoxGatesIdeal m →
    (∀ c : Dev Cert.FoxGatesIdeal.nD,
      m' ((c.tc : Thread Cert.FoxGatesReferenceIdeal.nD Cert.FoxGatesReferenceIdeal.τ).loc Cert.FoxGatesReferenceIdeal.main_arg0) = m ((c.tc : Thread Cert.FoxGatesIdeal.nD Cert.FoxGatesIdeal.τ).loc Cert.FoxGatesIdeal.main_arg0)
      ∧ m' ((c.tc : Thread Cert.FoxGatesReferenceIdeal.nD Cert.FoxGatesReferenceIdeal.τ).loc Cert.FoxGatesReferenceIdeal.main_arg1) = m ((c.tc : Thread Cert.FoxGatesIdeal.nD Cert.FoxGatesIdeal.τ).loc Cert.FoxGatesIdeal.main_arg1)) →
    ∃ (v0 : (c : Dev Cert.FoxGatesIdeal.nD) → Buf (Elt Ideal) ((c.tc : Thread Cert.FoxGatesIdeal.nD Cert.FoxGatesIdeal.τ).loc Cert.FoxGatesIdeal.main_v3)),
      θ_run (Cert.FoxGatesIdeal.defs (F := Ideal)) (onTc (τ := Cert.FoxGatesIdeal.τ) (Cert.FoxGatesIdeal.main (F := Ideal))) ⟨m, fun _ => 0, g⟩ (fun r => ∀ c : Dev Cert.FoxGatesIdeal.nD,
          r.2.mem ((c.tc : Thread Cert.FoxGatesIdeal.nD Cert.FoxGatesIdeal.τ).loc Cert.FoxGatesIdeal.main_v3) = v0 c
          ∧ r.2.mem ((c.tc : Thread Cert.FoxGatesIdeal.nD Cert.FoxGatesIdeal.τ).loc Cert.FoxGatesIdeal.main_arg0) = m ((c.tc : Thread Cert.FoxGatesIdeal.nD Cert.FoxGatesIdeal.τ).loc Cert.FoxGatesIdeal.main_arg0)
          ∧ r.2.mem ((c.tc : Thread Cert.FoxGatesIdeal.nD Cert.FoxGatesIdeal.τ).loc Cert.FoxGatesIdeal.main_arg1) = m ((c.tc : Thread Cert.FoxGatesIdeal.nD Cert.FoxGatesIdeal.τ).loc Cert.FoxGatesIdeal.main_arg1))
      ∧ θ_run (Cert.FoxGatesReferenceIdeal.defs (F := Ideal)) (onTc (τ := Cert.FoxGatesReferenceIdeal.τ) (Cert.FoxGatesReferenceIdeal.main (F := Ideal))) ⟨m', fun _ => 0, g'⟩ (fun r => ∀ c : Dev Cert.FoxGatesReferenceIdeal.nD,
          r.2.mem ((c.tc : Thread Cert.FoxGatesReferenceIdeal.nD Cert.FoxGatesReferenceIdeal.τ).loc Cert.FoxGatesReferenceIdeal.main_v6) = v0 c
          ∧ r.2.mem ((c.tc : Thread Cert.FoxGatesReferenceIdeal.nD Cert.FoxGatesReferenceIdeal.τ).loc Cert.FoxGatesReferenceIdeal.main_arg0) = m' ((c.tc : Thread Cert.FoxGatesReferenceIdeal.nD Cert.FoxGatesReferenceIdeal.τ).loc Cert.FoxGatesReferenceIdeal.main_arg0)
          ∧ r.2.mem ((c.tc : Thread Cert.FoxGatesReferenceIdeal.nD Cert.FoxGatesReferenceIdeal.τ).loc Cert.FoxGatesReferenceIdeal.main_arg1) = m' ((c.tc : Thread Cert.FoxGatesReferenceIdeal.nD Cert.FoxGatesReferenceIdeal.τ).loc Cert.FoxGatesReferenceIdeal.main_arg1))

def preserves_MlstmGates_MlstmGatesIdeal : Prop :=
  True

def algebraic_MlstmGatesIdeal_MlstmGatesReferenceIdeal [hMlstmGatesIdeal : Cert.MlstmGatesIdeal.Facts] [hMlstmGatesReferenceIdeal : Cert.MlstmGatesReferenceIdeal.Facts] : Prop :=
  ∀ (m : (ℓ : Loc Cert.MlstmGatesIdeal.nD Cert.MlstmGatesIdeal.τ Cert.MlstmGatesIdeal.sig) → Buf (Elt Ideal) ℓ) (g : Dev Cert.MlstmGatesIdeal.nD → PrngReg)
    (m' : (ℓ : Loc Cert.MlstmGatesReferenceIdeal.nD Cert.MlstmGatesReferenceIdeal.τ Cert.MlstmGatesReferenceIdeal.sig) → Buf (Elt Ideal) ℓ) (g' : Dev Cert.MlstmGatesReferenceIdeal.nD → PrngReg), Pre_MlstmGatesIdeal m →
    (∀ c : Dev Cert.MlstmGatesIdeal.nD,
      m' ((c.tc : Thread Cert.MlstmGatesReferenceIdeal.nD Cert.MlstmGatesReferenceIdeal.τ).loc Cert.MlstmGatesReferenceIdeal.main_arg0) = m ((c.tc : Thread Cert.MlstmGatesIdeal.nD Cert.MlstmGatesIdeal.τ).loc Cert.MlstmGatesIdeal.main_arg0)
      ∧ m' ((c.tc : Thread Cert.MlstmGatesReferenceIdeal.nD Cert.MlstmGatesReferenceIdeal.τ).loc Cert.MlstmGatesReferenceIdeal.main_arg1) = m ((c.tc : Thread Cert.MlstmGatesIdeal.nD Cert.MlstmGatesIdeal.τ).loc Cert.MlstmGatesIdeal.main_arg1)
      ∧ m' ((c.tc : Thread Cert.MlstmGatesReferenceIdeal.nD Cert.MlstmGatesReferenceIdeal.τ).loc Cert.MlstmGatesReferenceIdeal.main_arg2) = m ((c.tc : Thread Cert.MlstmGatesIdeal.nD Cert.MlstmGatesIdeal.τ).loc Cert.MlstmGatesIdeal.main_arg2)) →
    ∃ (v0 : (c : Dev Cert.MlstmGatesIdeal.nD) → Buf (Elt Ideal) ((c.tc : Thread Cert.MlstmGatesIdeal.nD Cert.MlstmGatesIdeal.τ).loc Cert.MlstmGatesIdeal.main_v6_0)) (v1 : (c : Dev Cert.MlstmGatesIdeal.nD) → Buf (Elt Ideal) ((c.tc : Thread Cert.MlstmGatesIdeal.nD Cert.MlstmGatesIdeal.τ).loc Cert.MlstmGatesIdeal.main_v6_1)),
      θ_run (Cert.MlstmGatesIdeal.defs (F := Ideal)) (onTc (τ := Cert.MlstmGatesIdeal.τ) (Cert.MlstmGatesIdeal.main (F := Ideal))) ⟨m, fun _ => 0, g⟩ (fun r => ∀ c : Dev Cert.MlstmGatesIdeal.nD,
          r.2.mem ((c.tc : Thread Cert.MlstmGatesIdeal.nD Cert.MlstmGatesIdeal.τ).loc Cert.MlstmGatesIdeal.main_v6_0) = v0 c
          ∧ r.2.mem ((c.tc : Thread Cert.MlstmGatesIdeal.nD Cert.MlstmGatesIdeal.τ).loc Cert.MlstmGatesIdeal.main_v6_1) = v1 c
          ∧ r.2.mem ((c.tc : Thread Cert.MlstmGatesIdeal.nD Cert.MlstmGatesIdeal.τ).loc Cert.MlstmGatesIdeal.main_arg0) = m ((c.tc : Thread Cert.MlstmGatesIdeal.nD Cert.MlstmGatesIdeal.τ).loc Cert.MlstmGatesIdeal.main_arg0)
          ∧ r.2.mem ((c.tc : Thread Cert.MlstmGatesIdeal.nD Cert.MlstmGatesIdeal.τ).loc Cert.MlstmGatesIdeal.main_arg1) = m ((c.tc : Thread Cert.MlstmGatesIdeal.nD Cert.MlstmGatesIdeal.τ).loc Cert.MlstmGatesIdeal.main_arg1)
          ∧ r.2.mem ((c.tc : Thread Cert.MlstmGatesIdeal.nD Cert.MlstmGatesIdeal.τ).loc Cert.MlstmGatesIdeal.main_arg2) = m ((c.tc : Thread Cert.MlstmGatesIdeal.nD Cert.MlstmGatesIdeal.τ).loc Cert.MlstmGatesIdeal.main_arg2))
      ∧ θ_run (Cert.MlstmGatesReferenceIdeal.defs (F := Ideal)) (onTc (τ := Cert.MlstmGatesReferenceIdeal.τ) (Cert.MlstmGatesReferenceIdeal.main (F := Ideal))) ⟨m', fun _ => 0, g'⟩ (fun r => ∀ c : Dev Cert.MlstmGatesReferenceIdeal.nD,
          r.2.mem ((c.tc : Thread Cert.MlstmGatesReferenceIdeal.nD Cert.MlstmGatesReferenceIdeal.τ).loc Cert.MlstmGatesReferenceIdeal.main_v13) = v0 c
          ∧ r.2.mem ((c.tc : Thread Cert.MlstmGatesReferenceIdeal.nD Cert.MlstmGatesReferenceIdeal.τ).loc Cert.MlstmGatesReferenceIdeal.main_v14) = v1 c
          ∧ r.2.mem ((c.tc : Thread Cert.MlstmGatesReferenceIdeal.nD Cert.MlstmGatesReferenceIdeal.τ).loc Cert.MlstmGatesReferenceIdeal.main_arg0) = m' ((c.tc : Thread Cert.MlstmGatesReferenceIdeal.nD Cert.MlstmGatesReferenceIdeal.τ).loc Cert.MlstmGatesReferenceIdeal.main_arg0)
          ∧ r.2.mem ((c.tc : Thread Cert.MlstmGatesReferenceIdeal.nD Cert.MlstmGatesReferenceIdeal.τ).loc Cert.MlstmGatesReferenceIdeal.main_arg1) = m' ((c.tc : Thread Cert.MlstmGatesReferenceIdeal.nD Cert.MlstmGatesReferenceIdeal.τ).loc Cert.MlstmGatesReferenceIdeal.main_arg1)
          ∧ r.2.mem ((c.tc : Thread Cert.MlstmGatesReferenceIdeal.nD Cert.MlstmGatesReferenceIdeal.τ).loc Cert.MlstmGatesReferenceIdeal.main_arg2) = m' ((c.tc : Thread Cert.MlstmGatesReferenceIdeal.nD Cert.MlstmGatesReferenceIdeal.τ).loc Cert.MlstmGatesReferenceIdeal.main_arg2))

def preserves_SsdGates_SsdGatesIdeal : Prop :=
  True

def algebraic_SsdGatesIdeal_SsdGatesReferenceIdeal [hSsdGatesIdeal : Cert.SsdGatesIdeal.Facts] [hSsdGatesReferenceIdeal : Cert.SsdGatesReferenceIdeal.Facts] : Prop :=
  ∀ (m : (ℓ : Loc Cert.SsdGatesIdeal.nD Cert.SsdGatesIdeal.τ Cert.SsdGatesIdeal.sig) → Buf (Elt Ideal) ℓ) (g : Dev Cert.SsdGatesIdeal.nD → PrngReg)
    (m' : (ℓ : Loc Cert.SsdGatesReferenceIdeal.nD Cert.SsdGatesReferenceIdeal.τ Cert.SsdGatesReferenceIdeal.sig) → Buf (Elt Ideal) ℓ) (g' : Dev Cert.SsdGatesReferenceIdeal.nD → PrngReg), Pre_SsdGatesIdeal m →
    (∀ c : Dev Cert.SsdGatesIdeal.nD,
      m' ((c.tc : Thread Cert.SsdGatesReferenceIdeal.nD Cert.SsdGatesReferenceIdeal.τ).loc Cert.SsdGatesReferenceIdeal.main_arg0) = m ((c.tc : Thread Cert.SsdGatesIdeal.nD Cert.SsdGatesIdeal.τ).loc Cert.SsdGatesIdeal.main_arg0)
      ∧ m' ((c.tc : Thread Cert.SsdGatesReferenceIdeal.nD Cert.SsdGatesReferenceIdeal.τ).loc Cert.SsdGatesReferenceIdeal.main_arg1) = m ((c.tc : Thread Cert.SsdGatesIdeal.nD Cert.SsdGatesIdeal.τ).loc Cert.SsdGatesIdeal.main_arg1)
      ∧ m' ((c.tc : Thread Cert.SsdGatesReferenceIdeal.nD Cert.SsdGatesReferenceIdeal.τ).loc Cert.SsdGatesReferenceIdeal.main_arg2) = m ((c.tc : Thread Cert.SsdGatesIdeal.nD Cert.SsdGatesIdeal.τ).loc Cert.SsdGatesIdeal.main_arg2)) →
    ∃ (v0 : (c : Dev Cert.SsdGatesIdeal.nD) → Buf (Elt Ideal) ((c.tc : Thread Cert.SsdGatesIdeal.nD Cert.SsdGatesIdeal.τ).loc Cert.SsdGatesIdeal.main_v4_0)) (v1 : (c : Dev Cert.SsdGatesIdeal.nD) → Buf (Elt Ideal) ((c.tc : Thread Cert.SsdGatesIdeal.nD Cert.SsdGatesIdeal.τ).loc Cert.SsdGatesIdeal.main_v4_1)),
      θ_run (Cert.SsdGatesIdeal.defs (F := Ideal)) (onTc (τ := Cert.SsdGatesIdeal.τ) (Cert.SsdGatesIdeal.main (F := Ideal))) ⟨m, fun _ => 0, g⟩ (fun r => ∀ c : Dev Cert.SsdGatesIdeal.nD,
          r.2.mem ((c.tc : Thread Cert.SsdGatesIdeal.nD Cert.SsdGatesIdeal.τ).loc Cert.SsdGatesIdeal.main_v4_0) = v0 c
          ∧ r.2.mem ((c.tc : Thread Cert.SsdGatesIdeal.nD Cert.SsdGatesIdeal.τ).loc Cert.SsdGatesIdeal.main_v4_1) = v1 c
          ∧ r.2.mem ((c.tc : Thread Cert.SsdGatesIdeal.nD Cert.SsdGatesIdeal.τ).loc Cert.SsdGatesIdeal.main_arg0) = m ((c.tc : Thread Cert.SsdGatesIdeal.nD Cert.SsdGatesIdeal.τ).loc Cert.SsdGatesIdeal.main_arg0)
          ∧ r.2.mem ((c.tc : Thread Cert.SsdGatesIdeal.nD Cert.SsdGatesIdeal.τ).loc Cert.SsdGatesIdeal.main_arg1) = m ((c.tc : Thread Cert.SsdGatesIdeal.nD Cert.SsdGatesIdeal.τ).loc Cert.SsdGatesIdeal.main_arg1)
          ∧ r.2.mem ((c.tc : Thread Cert.SsdGatesIdeal.nD Cert.SsdGatesIdeal.τ).loc Cert.SsdGatesIdeal.main_arg2) = m ((c.tc : Thread Cert.SsdGatesIdeal.nD Cert.SsdGatesIdeal.τ).loc Cert.SsdGatesIdeal.main_arg2))
      ∧ θ_run (Cert.SsdGatesReferenceIdeal.defs (F := Ideal)) (onTc (τ := Cert.SsdGatesReferenceIdeal.τ) (Cert.SsdGatesReferenceIdeal.main (F := Ideal))) ⟨m', fun _ => 0, g'⟩ (fun r => ∀ c : Dev Cert.SsdGatesReferenceIdeal.nD,
          r.2.mem ((c.tc : Thread Cert.SsdGatesReferenceIdeal.nD Cert.SsdGatesReferenceIdeal.τ).loc Cert.SsdGatesReferenceIdeal.main_v13) = v0 c
          ∧ r.2.mem ((c.tc : Thread Cert.SsdGatesReferenceIdeal.nD Cert.SsdGatesReferenceIdeal.τ).loc Cert.SsdGatesReferenceIdeal.main_v14) = v1 c
          ∧ r.2.mem ((c.tc : Thread Cert.SsdGatesReferenceIdeal.nD Cert.SsdGatesReferenceIdeal.τ).loc Cert.SsdGatesReferenceIdeal.main_arg0) = m' ((c.tc : Thread Cert.SsdGatesReferenceIdeal.nD Cert.SsdGatesReferenceIdeal.τ).loc Cert.SsdGatesReferenceIdeal.main_arg0)
          ∧ r.2.mem ((c.tc : Thread Cert.SsdGatesReferenceIdeal.nD Cert.SsdGatesReferenceIdeal.τ).loc Cert.SsdGatesReferenceIdeal.main_arg1) = m' ((c.tc : Thread Cert.SsdGatesReferenceIdeal.nD Cert.SsdGatesReferenceIdeal.τ).loc Cert.SsdGatesReferenceIdeal.main_arg1)
          ∧ r.2.mem ((c.tc : Thread Cert.SsdGatesReferenceIdeal.nD Cert.SsdGatesReferenceIdeal.τ).loc Cert.SsdGatesReferenceIdeal.main_arg2) = m' ((c.tc : Thread Cert.SsdGatesReferenceIdeal.nD Cert.SsdGatesReferenceIdeal.τ).loc Cert.SsdGatesReferenceIdeal.main_arg2))

def preserves_Conformer_ConformerIdeal : Prop :=
  True

def algebraic_ConformerIdeal_ConformerReferenceIdeal [hConformerIdeal : Cert.ConformerIdeal.Facts] [hConformerReferenceIdeal : Cert.ConformerReferenceIdeal.Facts] : Prop :=
  ∀ (m : (ℓ : Loc Cert.ConformerIdeal.nD Cert.ConformerIdeal.τ Cert.ConformerIdeal.sig) → Buf (Elt Ideal) ℓ) (g : Dev Cert.ConformerIdeal.nD → PrngReg)
    (m' : (ℓ : Loc Cert.ConformerReferenceIdeal.nD Cert.ConformerReferenceIdeal.τ Cert.ConformerReferenceIdeal.sig) → Buf (Elt Ideal) ℓ) (g' : Dev Cert.ConformerReferenceIdeal.nD → PrngReg), Pre_ConformerIdeal m →
    (∀ c : Dev Cert.ConformerIdeal.nD,
      m' ((c.tc : Thread Cert.ConformerReferenceIdeal.nD Cert.ConformerReferenceIdeal.τ).loc Cert.ConformerReferenceIdeal.main_arg0) = m ((c.tc : Thread Cert.ConformerIdeal.nD Cert.ConformerIdeal.τ).loc Cert.ConformerIdeal.main_arg0)
      ∧ m' ((c.tc : Thread Cert.ConformerReferenceIdeal.nD Cert.ConformerReferenceIdeal.τ).loc Cert.ConformerReferenceIdeal.main_arg1) = m ((c.tc : Thread Cert.ConformerIdeal.nD Cert.ConformerIdeal.τ).loc Cert.ConformerIdeal.main_arg1)
      ∧ m' ((c.tc : Thread Cert.ConformerReferenceIdeal.nD Cert.ConformerReferenceIdeal.τ).loc Cert.ConformerReferenceIdeal.main_arg2) = m ((c.tc : Thread Cert.ConformerIdeal.nD Cert.ConformerIdeal.τ).loc Cert.ConformerIdeal.main_arg2)
      ∧ m' ((c.tc : Thread Cert.ConformerReferenceIdeal.nD Cert.ConformerReferenceIdeal.τ).loc Cert.ConformerReferenceIdeal.main_arg3) = m ((c.tc : Thread Cert.ConformerIdeal.nD Cert.ConformerIdeal.τ).loc Cert.ConformerIdeal.main_arg3)
      ∧ m' ((c.tc : Thread Cert.ConformerReferenceIdeal.nD Cert.ConformerReferenceIdeal.τ).loc Cert.ConformerReferenceIdeal.main_arg4) = m ((c.tc : Thread Cert.ConformerIdeal.nD Cert.ConformerIdeal.τ).loc Cert.ConformerIdeal.main_arg4)) →
    ∃ (v0 : (c : Dev Cert.ConformerIdeal.nD) → Buf (Elt Ideal) ((c.tc : Thread Cert.ConformerIdeal.nD Cert.ConformerIdeal.τ).loc Cert.ConformerIdeal.main_v5)),
      θ_run (Cert.ConformerIdeal.defs (F := Ideal)) (onTc (τ := Cert.ConformerIdeal.τ) (Cert.ConformerIdeal.main (F := Ideal))) ⟨m, fun _ => 0, g⟩ (fun r => ∀ c : Dev Cert.ConformerIdeal.nD,
          r.2.mem ((c.tc : Thread Cert.ConformerIdeal.nD Cert.ConformerIdeal.τ).loc Cert.ConformerIdeal.main_v5) = v0 c
          ∧ r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
          ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
          ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
          ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
          ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4))
      ∧ θ_run (Cert.ConformerReferenceIdeal.defs (F := Ideal)) (onTc (τ := Cert.ConformerReferenceIdeal.τ) (Cert.ConformerReferenceIdeal.main (F := Ideal))) ⟨m', fun _ => 0, g'⟩ (fun r => ∀ c : Dev Cert.ConformerReferenceIdeal.nD,
          r.2.mem ((c.tc : Thread Cert.ConformerReferenceIdeal.nD Cert.ConformerReferenceIdeal.τ).loc Cert.ConformerReferenceIdeal.main_v259) = v0 c
          ∧ r.2.mem ((c.tc : Thread Cert.ConformerReferenceIdeal.nD Cert.ConformerReferenceIdeal.τ).loc Cert.ConformerReferenceIdeal.main_arg0) = m' ((c.tc : Thread Cert.ConformerReferenceIdeal.nD Cert.ConformerReferenceIdeal.τ).loc Cert.ConformerReferenceIdeal.main_arg0)
          ∧ r.2.mem ((c.tc : Thread Cert.ConformerReferenceIdeal.nD Cert.ConformerReferenceIdeal.τ).loc Cert.ConformerReferenceIdeal.main_arg1) = m' ((c.tc : Thread Cert.ConformerReferenceIdeal.nD Cert.ConformerReferenceIdeal.τ).loc Cert.ConformerReferenceIdeal.main_arg1)
          ∧ r.2.mem ((c.tc : Thread Cert.ConformerReferenceIdeal.nD Cert.ConformerReferenceIdeal.τ).loc Cert.ConformerReferenceIdeal.main_arg2) = m' ((c.tc : Thread Cert.ConformerReferenceIdeal.nD Cert.ConformerReferenceIdeal.τ).loc Cert.ConformerReferenceIdeal.main_arg2)
          ∧ r.2.mem ((c.tc : Thread Cert.ConformerReferenceIdeal.nD Cert.ConformerReferenceIdeal.τ).loc Cert.ConformerReferenceIdeal.main_arg3) = m' ((c.tc : Thread Cert.ConformerReferenceIdeal.nD Cert.ConformerReferenceIdeal.τ).loc Cert.ConformerReferenceIdeal.main_arg3)
          ∧ r.2.mem ((c.tc : Thread Cert.ConformerReferenceIdeal.nD Cert.ConformerReferenceIdeal.τ).loc Cert.ConformerReferenceIdeal.main_arg4) = m' ((c.tc : Thread Cert.ConformerReferenceIdeal.nD Cert.ConformerReferenceIdeal.τ).loc Cert.ConformerReferenceIdeal.main_arg4))

def preserves_Ssd_SsdIdeal : Prop :=
  True

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hNorm : Cert.Norm.Facts) (hNormIdeal : Cert.NormIdeal.Facts) (hNormReferenceIdeal : Cert.NormReferenceIdeal.Facts) (hMlstmIn : Cert.MlstmIn.Facts) (hMlstmInIdeal : Cert.MlstmInIdeal.Facts) (hMlstmInReferenceIdeal : Cert.MlstmInReferenceIdeal.Facts) (hSsdIn : Cert.SsdIn.Facts) (hSsdInIdeal : Cert.SsdInIdeal.Facts) (hSsdInReferenceIdeal : Cert.SsdInReferenceIdeal.Facts) (hMlstm : Cert.Mlstm.Facts) (hMlstmIdeal : Cert.MlstmIdeal.Facts) (hMlstmReferenceIdeal : Cert.MlstmReferenceIdeal.Facts) (hFinalNorm : Cert.FinalNorm.Facts) (hFinalNormIdeal : Cert.FinalNormIdeal.Facts) (hFinalNormReferenceIdeal : Cert.FinalNormReferenceIdeal.Facts) (hEvenGatesIn : Cert.EvenGatesIn.Facts) (hEvenGatesInIdeal : Cert.EvenGatesInIdeal.Facts) (hEvenGatesInReferenceIdeal : Cert.EvenGatesInReferenceIdeal.Facts) (hOddGatesIn : Cert.OddGatesIn.Facts) (hOddGatesInIdeal : Cert.OddGatesInIdeal.Facts) (hOddGatesInReferenceIdeal : Cert.OddGatesInReferenceIdeal.Facts) (hFoxGates : Cert.FoxGates.Facts) (hFoxGatesIdeal : Cert.FoxGatesIdeal.Facts) (hFoxGatesReferenceIdeal : Cert.FoxGatesReferenceIdeal.Facts) (hMlstmGates : Cert.MlstmGates.Facts) (hMlstmGatesIdeal : Cert.MlstmGatesIdeal.Facts) (hMlstmGatesReferenceIdeal : Cert.MlstmGatesReferenceIdeal.Facts) (hSsdGates : Cert.SsdGates.Facts) (hSsdGatesIdeal : Cert.SsdGatesIdeal.Facts) (hSsdGatesReferenceIdeal : Cert.SsdGatesReferenceIdeal.Facts) (hConformer : Cert.Conformer.Facts) (hConformerIdeal : Cert.ConformerIdeal.Facts) (hConformerReferenceIdeal : Cert.ConformerReferenceIdeal.Facts) (hSsd : Cert.Ssd.Facts) (hSsdIdeal : Cert.SsdIdeal.Facts) (hPre_finite_qk_and_c : Cert.Pre_finite_qk_and_c.Facts) (hPre_finite_qkv_a_and_b : Cert.Pre_finite_qkv_a_and_b.Facts),
    quiescent_Kernel (hKernel := hKernel)
    ∧ quiescent_KernelIdeal (hKernelIdeal := hKernelIdeal)
    ∧ quiescent_KernelIdeal_pre_finite_qk_and_c (hKernelIdeal := hKernelIdeal) (hPre_finite_qk_and_c := hPre_finite_qk_and_c)
    ∧ quiescent_ReferenceIdeal (hReferenceIdeal := hReferenceIdeal)
    ∧ quiescent_ReferenceIdeal_pre_finite_qk_and_c (hReferenceIdeal := hReferenceIdeal) (hPre_finite_qk_and_c := hPre_finite_qk_and_c)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_MlstmIn (hMlstmIn := hMlstmIn)
    ∧ quiescent_MlstmInIdeal (hMlstmInIdeal := hMlstmInIdeal)
    ∧ quiescent_MlstmInReferenceIdeal (hMlstmInReferenceIdeal := hMlstmInReferenceIdeal)
    ∧ quiescent_SsdIn (hSsdIn := hSsdIn)
    ∧ quiescent_SsdInIdeal (hSsdInIdeal := hSsdInIdeal)
    ∧ quiescent_SsdInReferenceIdeal (hSsdInReferenceIdeal := hSsdInReferenceIdeal)
    ∧ quiescent_Mlstm (hMlstm := hMlstm)
    ∧ quiescent_MlstmIdeal (hMlstmIdeal := hMlstmIdeal)
    ∧ quiescent_MlstmIdeal_pre_finite_qkv_a_and_b (hMlstmIdeal := hMlstmIdeal) (hPre_finite_qkv_a_and_b := hPre_finite_qkv_a_and_b)
    ∧ quiescent_MlstmReferenceIdeal (hMlstmReferenceIdeal := hMlstmReferenceIdeal)
    ∧ quiescent_MlstmReferenceIdeal_pre_finite_qkv_a_and_b (hMlstmReferenceIdeal := hMlstmReferenceIdeal) (hPre_finite_qkv_a_and_b := hPre_finite_qkv_a_and_b)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ quiescent_EvenGatesIn (hEvenGatesIn := hEvenGatesIn)
    ∧ quiescent_EvenGatesInIdeal (hEvenGatesInIdeal := hEvenGatesInIdeal)
    ∧ quiescent_EvenGatesInReferenceIdeal (hEvenGatesInReferenceIdeal := hEvenGatesInReferenceIdeal)
    ∧ quiescent_OddGatesIn (hOddGatesIn := hOddGatesIn)
    ∧ quiescent_OddGatesInIdeal (hOddGatesInIdeal := hOddGatesInIdeal)
    ∧ quiescent_OddGatesInReferenceIdeal (hOddGatesInReferenceIdeal := hOddGatesInReferenceIdeal)
    ∧ quiescent_FoxGates (hFoxGates := hFoxGates)
    ∧ quiescent_FoxGatesIdeal (hFoxGatesIdeal := hFoxGatesIdeal)
    ∧ quiescent_FoxGatesReferenceIdeal (hFoxGatesReferenceIdeal := hFoxGatesReferenceIdeal)
    ∧ quiescent_MlstmGates (hMlstmGates := hMlstmGates)
    ∧ quiescent_MlstmGatesIdeal (hMlstmGatesIdeal := hMlstmGatesIdeal)
    ∧ quiescent_MlstmGatesReferenceIdeal (hMlstmGatesReferenceIdeal := hMlstmGatesReferenceIdeal)
    ∧ quiescent_SsdGates (hSsdGates := hSsdGates)
    ∧ quiescent_SsdGatesIdeal (hSsdGatesIdeal := hSsdGatesIdeal)
    ∧ quiescent_SsdGatesReferenceIdeal (hSsdGatesReferenceIdeal := hSsdGatesReferenceIdeal)
    ∧ quiescent_Conformer (hConformer := hConformer)
    ∧ quiescent_ConformerIdeal (hConformerIdeal := hConformerIdeal)
    ∧ quiescent_ConformerReferenceIdeal (hConformerReferenceIdeal := hConformerReferenceIdeal)
    ∧ quiescent_Ssd (hSsd := hSsd)
    ∧ quiescent_SsdIdeal (hSsdIdeal := hSsdIdeal)
    ∧ preserves_Kernel_KernelIdeal
    ∧ algebraic_KernelIdeal_ReferenceIdeal_pre_finite_qk_and_c (hKernelIdeal := hKernelIdeal) (hReferenceIdeal := hReferenceIdeal) (hPre_finite_qk_and_c := hPre_finite_qk_and_c)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Norm_NormIdeal
    ∧ algebraic_NormIdeal_NormReferenceIdeal (hNormIdeal := hNormIdeal) (hNormReferenceIdeal := hNormReferenceIdeal)
    ∧ preserves_MlstmIn_MlstmInIdeal
    ∧ algebraic_MlstmInIdeal_MlstmInReferenceIdeal (hMlstmInIdeal := hMlstmInIdeal) (hMlstmInReferenceIdeal := hMlstmInReferenceIdeal)
    ∧ preserves_SsdIn_SsdInIdeal
    ∧ algebraic_SsdInIdeal_SsdInReferenceIdeal (hSsdInIdeal := hSsdInIdeal) (hSsdInReferenceIdeal := hSsdInReferenceIdeal)
    ∧ preserves_Mlstm_MlstmIdeal
    ∧ algebraic_MlstmIdeal_MlstmReferenceIdeal_pre_finite_qkv_a_and_b (hMlstmIdeal := hMlstmIdeal) (hMlstmReferenceIdeal := hMlstmReferenceIdeal) (hPre_finite_qkv_a_and_b := hPre_finite_qkv_a_and_b)
    ∧ preserves_FinalNorm_FinalNormIdeal
    ∧ algebraic_FinalNormIdeal_FinalNormReferenceIdeal (hFinalNormIdeal := hFinalNormIdeal) (hFinalNormReferenceIdeal := hFinalNormReferenceIdeal)
    ∧ preserves_EvenGatesIn_EvenGatesInIdeal
    ∧ algebraic_EvenGatesInIdeal_EvenGatesInReferenceIdeal (hEvenGatesInIdeal := hEvenGatesInIdeal) (hEvenGatesInReferenceIdeal := hEvenGatesInReferenceIdeal)
    ∧ preserves_OddGatesIn_OddGatesInIdeal
    ∧ algebraic_OddGatesInIdeal_OddGatesInReferenceIdeal (hOddGatesInIdeal := hOddGatesInIdeal) (hOddGatesInReferenceIdeal := hOddGatesInReferenceIdeal)
    ∧ preserves_FoxGates_FoxGatesIdeal
    ∧ algebraic_FoxGatesIdeal_FoxGatesReferenceIdeal (hFoxGatesIdeal := hFoxGatesIdeal) (hFoxGatesReferenceIdeal := hFoxGatesReferenceIdeal)
    ∧ preserves_MlstmGates_MlstmGatesIdeal
    ∧ algebraic_MlstmGatesIdeal_MlstmGatesReferenceIdeal (hMlstmGatesIdeal := hMlstmGatesIdeal) (hMlstmGatesReferenceIdeal := hMlstmGatesReferenceIdeal)
    ∧ preserves_SsdGates_SsdGatesIdeal
    ∧ algebraic_SsdGatesIdeal_SsdGatesReferenceIdeal (hSsdGatesIdeal := hSsdGatesIdeal) (hSsdGatesReferenceIdeal := hSsdGatesReferenceIdeal)
    ∧ preserves_Conformer_ConformerIdeal
    ∧ algebraic_ConformerIdeal_ConformerReferenceIdeal (hConformerIdeal := hConformerIdeal) (hConformerReferenceIdeal := hConformerReferenceIdeal)
    ∧ preserves_Ssd_SsdIdeal
-- ==== Pre_finite_qk_and_c.lean ====
abbrev S4x4096x28672 : Shape := ⟨3, ![4, 4096, 28672]⟩
abbrev S4x32x4096 : Shape := ⟨3, ![4, 32, 4096]⟩
abbrev S4x4096x8192 : Shape := ⟨3, ![4, 4096, 8192]⟩
abbrev S_ : Shape := ⟨0, ![]⟩

class Facts : Prop where
  slices_S4x4096x28672_S4x4096x8192_0_0_12288 : S4x4096x28672.Slices ![0, 0, 12288] S4x4096x8192
  bitsLt_bf16_f32 : FTy.bits .bf16 < FTy.bits .f32
  bcast_S_S4x4096x8192 : S_.BroadcastsInDim S4x4096x8192 (![] : Fin 0 → Fin S4x4096x8192.rank)
  bcast_S_S4x32x4096 : S_.BroadcastsInDim S4x32x4096 (![] : Fin 0 → Fin S4x32x4096.rank)

variable [Facts]

def fn {F : FTy → Type} [FloatOps F] (main_arg0 : FVec F S4x4096x28672 .bf16) (main_arg1 : FVec F S4x32x4096 .f32) : IVec S4x4096x8192 1 × IVec S4x32x4096 1 :=
  let main_v0 : FVec F S4x4096x8192 .bf16 := (extractStridedSlice S4x4096x8192 ![0, 0, 12288] · slices_S4x4096x28672_S4x4096x8192_0_0_12288) main_arg0
  let main_v1 : FVec F S4x4096x8192 .f32 := (extf .f32 · bitsLt_bf16_f32) main_v0
  let main_v2 : FVec F S4x4096x8192 .f32 := Host.absf main_v1
  let main_cst : FVec F S_ .f32 := constant S_ .f32 0x7F800000#32
  let main_v3 : FVec F S4x4096x8192 .f32 := broadcastInDim S4x4096x8192 ![] bcast_S_S4x4096x8192 main_cst
  let main_v4 : IVec S4x4096x8192 1 := cmpf .olt main_v2 main_v3
  let main_v5 : FVec F S4x32x4096 .f32 := Host.absf main_arg1
  let main_cst_0 : FVec F S_ .f32 := constant S_ .f32 0x7F800000#32
  let main_v6 : FVec F S4x32x4096 .f32 := broadcastInDim S4x32x4096 ![] bcast_S_S4x32x4096 main_cst_0
  let main_v7 : IVec S4x32x4096 1 := cmpf .olt main_v5 main_v6
  (main_v4, main_v7)
-- ==== Pre_finite_qkv_a_and_b.lean ====
abbrev S4x4096x12288 : Shape := ⟨3, ![4, 4096, 12288]⟩
abbrev S4x8x4096 : Shape := ⟨3, ![4, 8, 4096]⟩
abbrev S4096 : Shape := ⟨1, ![4096]⟩
abbrev S4x4096x8192 : Shape := ⟨3, ![4, 4096, 8192]⟩
abbrev S_ : Shape := ⟨0, ![]⟩

class Facts : Prop where
  slices_S4x4096x12288_S4x4096x8192_0_0_0 : S4x4096x12288.Slices ![0, 0, 0] S4x4096x8192
  bitsLt_bf16_f32 : FTy.bits .bf16 < FTy.bits .f32
  bcast_S_S4x4096x8192 : S_.BroadcastsInDim S4x4096x8192 (![] : Fin 0 → Fin S4x4096x8192.rank)
  bcast_S_S4x8x4096 : S_.BroadcastsInDim S4x8x4096 (![] : Fin 0 → Fin S4x8x4096.rank)

variable [Facts]

def fn {F : FTy → Type} [FloatOps F] (main_arg0 : FVec F S4x4096x12288 .bf16) (main_arg1 : FVec F S4x8x4096 .f32) (main_arg2 : FVec F S4x8x4096 .f32) (main_arg3 : FVec F S4096 .f32) : IVec S4x4096x8192 1 × IVec S4x8x4096 1 × IVec S4x8x4096 1 :=
  let main_v0 : FVec F S4x4096x8192 .bf16 := (extractStridedSlice S4x4096x8192 ![0, 0, 0] · slices_S4x4096x12288_S4x4096x8192_0_0_0) main_arg0
  let main_v1 : FVec F S4x4096x8192 .f32 := (extf .f32 · bitsLt_bf16_f32) main_v0
  let main_v2 : FVec F S4x4096x8192 .f32 := Host.absf main_v1
  let main_cst : FVec F S_ .f32 := constant S_ .f32 0x7F800000#32
  let main_v3 : FVec F S4x4096x8192 .f32 := broadcastInDim S4x4096x8192 ![] bcast_S_S4x4096x8192 main_cst
  let main_v4 : IVec S4x4096x8192 1 := cmpf .olt main_v2 main_v3
  let main_v5 : FVec F S4x8x4096 .f32 := Host.absf main_arg1
  let main_cst_0 : FVec F S_ .f32 := constant S_ .f32 0x7F800000#32
  let main_v6 : FVec F S4x8x4096 .f32 := broadcastInDim S4x8x4096 ![] bcast_S_S4x8x4096 main_cst_0
  let main_v7 : IVec S4x8x4096 1 := cmpf .olt main_v5 main_v6
  let main_v8 : FVec F S4x8x4096 .f32 := Host.absf main_arg2
  let main_cst_1 : FVec F S_ .f32 := constant S_ .f32 0x7F800000#32
  let main_v9 : FVec F S4x8x4096 .f32 := broadcastInDim S4x8x4096 ![] bcast_S_S4x8x4096 main_cst_1
  let main_v10 : IVec S4x8x4096 1 := cmpf .olt main_v8 main_v9
  (main_v4, main_v7, main_v10)
-- ==== Kernel.lean ====
abbrev S4x4096x28672 : Shape := ⟨3, ![4, 4096, 28672]⟩
abbrev S4x32x4096 : Shape := ⟨3, ![4, 32, 4096]⟩
abbrev S4x32x1x4096 : Shape := ⟨4, ![4, 32, 1, 4096]⟩
abbrev S4x4096x4096 : Shape := ⟨3, ![4, 4096, 4096]⟩
abbrev S1x1024x128 : Shape := ⟨3, ![1, 1024, 128]⟩
abbrev S1x4096x128 : Shape := ⟨3, ![1, 4096, 128]⟩
abbrev S1x1x1x4096 : Shape := ⟨4, ![1, 1, 1, 4096]⟩
abbrev S1024x128 : Shape := ⟨2, ![1024, 128]⟩
abbrev S512x128 : Shape := ⟨2, ![512, 128]⟩
abbrev S512x1 : Shape := ⟨2, ![512, 1]⟩
abbrev S1x512x128 : Shape := ⟨3, ![1, 512, 128]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩
abbrev S512x1024 : Shape := ⟨2, ![512, 1024]⟩
abbrev S1x1x1x1024 : Shape := ⟨4, ![1, 1, 1, 1024]⟩
abbrev S1x1024 : Shape := ⟨2, ![1, 1024]⟩
abbrev S1024x1 : Shape := ⟨2, ![1024, 1]⟩

abbrev nBuf : Space → Nat
  | .hbm => 4
  | .vmem => 12
  | .smem => 0
  | _ => 0

abbrev bufTy : (tb : Table) → Fin (tcTables nBuf tb) → BufTy
  | .hbm, ⟨0, _⟩ => ⟨S4x4096x28672, .bf16⟩
  | .hbm, ⟨1, _⟩ => ⟨S4x32x4096, .f32⟩
  | .hbm, ⟨2, _⟩ => ⟨S4x32x1x4096, .f32⟩
  | .hbm, ⟨3, _⟩ => ⟨S4x4096x4096, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x1x4096, .f32⟩
  | .local _ .vmem, ⟨7, _⟩ => ⟨S1x1x1x4096, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | _, _ => ⟨S4x4096x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 32, 4], ![false, false, false]⟩

def k0_mult1 (i : grid0.Coords) : BitVec 32 :=
  let arg2 : BitVec 32 := BitVec.ofNat 32 (i 2).val
  let c1024_i32 : BitVec 32 := 1024#32
  let v6 : BitVec 32 := Scalar.muli arg2 c1024_i32
  v6
def k0_off1 (i : grid0.Coords) : Fin 3 → Nat :=
  let c0_5 : Index := 0#32
  let arg2 : BitVec 32 := BitVec.ofNat 32 (i 2).val
  let c1024_i32 : BitVec 32 := 1024#32
  let v6 : BitVec 32 := Scalar.muli arg2 c1024_i32
  let v7 : BitVec 32 := v6
  let v12 : Index := Scalar.indexCast v7
  let c0_6 : Index := 0#32
  ![0, v12.toNat, 0]
def k0_off2 (i : grid0.Coords) : Fin 4 → Nat :=
  let c0_8 : Index := 0#32
  let c0_9 : Index := 0#32
  let c0_10 : Index := 0#32
  let arg2 : BitVec 32 := BitVec.ofNat 32 (i 2).val
  let c1024_i32 : BitVec 32 := 1024#32
  let v6 : BitVec 32 := Scalar.muli arg2 c1024_i32
  let v7 : BitVec 32 := v6
  let v16 : Index := Scalar.indexCast v7
  ![0, 0, 0, v16.toNat]
def k0_off3 (i : grid0.Coords) : Fin 3 → Nat :=
  let c0_22 : Index := 0#32
  let arg2 : BitVec 32 := BitVec.ofNat 32 (i 2).val
  let c1024_i32 : BitVec 32 := 1024#32
  let v6 : BitVec 32 := Scalar.muli arg2 c1024_i32
  let v7 : BitVec 32 := v6
  let v58 : Index := Scalar.indexCast v7
  let c0_23 : Index := 0#32
  ![0, v58.toNat, 0]
def k0_off4 (i : grid0.Coords) : Fin 4 → Nat :=
  let c0_25 : Index := 0#32
  let c0_26 : Index := 0#32
  let c0_27 : Index := 0#32
  let arg2 : BitVec 32 := BitVec.ofNat 32 (i 2).val
  let c1024_i32 : BitVec 32 := 1024#32
  let v6 : BitVec 32 := Scalar.muli arg2 c1024_i32
  let v7 : BitVec 32 := v6
  let v62 : Index := Scalar.indexCast v7
  ![0, 0, 0, v62.toNat]
@[reducible] def k0_t1_loop (i : grid0.Coords) : Scf.Loop 32 :=
  let c0_i32_36 : BitVec 32 := 0#32
  let arg2 : BitVec 32 := BitVec.ofNat 32 (i 2).val
  let v100 : BitVec 32 := Scalar.subi arg2 c0_i32_36
  let c1_i32 : BitVec 32 := 1#32
  let v102 : BitVec 32 := Scalar.divsi v100 c1_i32
  let v103 : BitVec 32 := Scalar.muli v102 c1_i32
  let v104 : BitVec 32 := Scalar.addi c0_i32_36 v103
  let c1_i32_37 : BitVec 32 := 1#32
  ⟨c0_i32_36, v104, c1_i32_37⟩
def k0_mult2 (i : grid0.Coords) (k0_t1 : Fin (k0_t1_loop i).trips) : BitVec 32 :=
  let c0_i32_36 : BitVec 32 := 0#32
  let c1_i32_37 : BitVec 32 := 1#32
  let arg9 : BitVec 32 := Scf.iv c0_i32_36 c1_i32_37 k0_t1
  let c1024_i32_48 : BitVec 32 := 1024#32
  let v127 : BitVec 32 := Scalar.muli arg9 c1024_i32_48
  v127
def k0_off5 (i : grid0.Coords) (k0_t1 : Fin (k0_t1_loop i).trips) : Fin 3 → Nat :=
  let c0_49 : Index := 0#32
  let c0_i32_36 : BitVec 32 := 0#32
  let c1_i32_37 : BitVec 32 := 1#32
  let arg9 : BitVec 32 := Scf.iv c0_i32_36 c1_i32_37 k0_t1
  let c1024_i32_48 : BitVec 32 := 1024#32
  let v127 : BitVec 32 := Scalar.muli arg9 c1024_i32_48
  let v128 : BitVec 32 := v127
  let v130 : Index := Scalar.indexCast v128
  let c0_50 : Index := 0#32
  ![0, v130.toNat, 0]
def k0_off6 (i : grid0.Coords) (k0_t1 : Fin (k0_t1_loop i).trips) : Fin 4 → Nat :=
  let c0_52 : Index := 0#32
  let c0_53 : Index := 0#32
  let c0_54 : Index := 0#32
  let c0_i32_36 : BitVec 32 := 0#32
  let c1_i32_37 : BitVec 32 := 1#32
  let arg9 : BitVec 32 := Scf.iv c0_i32_36 c1_i32_37 k0_t1
  let c1024_i32_48 : BitVec 32 := 1024#32
  let v127 : BitVec 32 := Scalar.muli arg9 c1024_i32_48
  let v128 : BitVec 32 := v127
  let v134 : Index := Scalar.indexCast v128
  ![0, 0, 0, v134.toNat]
@[reducible] def k0_t2_loop (i : grid0.Coords) : Scf.Loop 32 :=
  let c0_i32_36 : BitVec 32 := 0#32
  let arg2 : BitVec 32 := BitVec.ofNat 32 (i 2).val
  let v100 : BitVec 32 := Scalar.subi arg2 c0_i32_36
  let c1_i32 : BitVec 32 := 1#32
  let v102 : BitVec 32 := Scalar.divsi v100 c1_i32
  let v103 : BitVec 32 := Scalar.muli v102 c1_i32
  let v104 : BitVec 32 := Scalar.addi c0_i32_36 v103
  let v101 : BitVec 32 := Scalar.addi c0_i32_36 v100
  let c1_i32_38 : BitVec 32 := 1#32
  ⟨v104, v101, c1_i32_38⟩
def k0_mult3 (i : grid0.Coords) (k0_t2 : Fin (k0_t2_loop i).trips) : BitVec 32 :=
  let c0_i32_36 : BitVec 32 := 0#32
  let arg2 : BitVec 32 := BitVec.ofNat 32 (i 2).val
  let v100 : BitVec 32 := Scalar.subi arg2 c0_i32_36
  let c1_i32 : BitVec 32 := 1#32
  let v102 : BitVec 32 := Scalar.divsi v100 c1_i32
  let v103 : BitVec 32 := Scalar.muli v102 c1_i32
  let v104 : BitVec 32 := Scalar.addi c0_i32_36 v103
  let c1_i32_38 : BitVec 32 := 1#32
  let arg9 : BitVec 32 := Scf.iv v104 c1_i32_38 k0_t2
  let c1024_i32_48 : BitVec 32 := 1024#32
  let v127 : BitVec 32 := Scalar.muli arg9 c1024_i32_48
  v127
def k0_off7 (i : grid0.Coords) (k0_t2 : Fin (k0_t2_loop i).trips) : Fin 3 → Nat :=
  let c0_49 : Index := 0#32
  let c0_i32_36 : BitVec 32 := 0#32
  let arg2 : BitVec 32 := BitVec.ofNat 32 (i 2).val
  let v100 : BitVec 32 := Scalar.subi arg2 c0_i32_36
  let c1_i32 : BitVec 32 := 1#32
  let v102 : BitVec 32 := Scalar.divsi v100 c1_i32
  let v103 : BitVec 32 := Scalar.muli v102 c1_i32
  let v104 : BitVec 32 := Scalar.addi c0_i32_36 v103
  let c1_i32_38 : BitVec 32 := 1#32
  let arg9 : BitVec 32 := Scf.iv v104 c1_i32_38 k0_t2
  let c1024_i32_48 : BitVec 32 := 1024#32
  let v127 : BitVec 32 := Scalar.muli arg9 c1024_i32_48
  let v128 : BitVec 32 := v127
  let v130 : Index := Scalar.indexCast v128
  let c0_50 : Index := 0#32
  ![0, v130.toNat, 0]
def k0_off8 (i : grid0.Coords) (k0_t2 : Fin (k0_t2_loop i).trips) : Fin 4 → Nat :=
  let c0_52 : Index := 0#32
  let c0_53 : Index := 0#32
  let c0_54 : Index := 0#32
  let c0_i32_36 : BitVec 32 := 0#32
  let arg2 : BitVec 32 := BitVec.ofNat 32 (i 2).val
  let v100 : BitVec 32 := Scalar.subi arg2 c0_i32_36
  let c1_i32 : BitVec 32 := 1#32
  let v102 : BitVec 32 := Scalar.divsi v100 c1_i32
  let v103 : BitVec 32 := Scalar.muli v102 c1_i32
  let v104 : BitVec 32 := Scalar.addi c0_i32_36 v103
  let c1_i32_38 : BitVec 32 := 1#32
  let arg9 : BitVec 32 := Scf.iv v104 c1_i32_38 k0_t2
  let c1024_i32_48 : BitVec 32 := 1024#32
  let v127 : BitVec 32 := Scalar.muli arg9 c1024_i32_48
  let v128 : BitVec 32 := v127
  let v134 : Index := Scalar.indexCast v128
  ![0, 0, 0, v134.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c96_i32 : BitVec 32 := 96#32
  let v0 : BitVec 32 := Scalar.addi c96_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c160_i32 : BitVec 32 := 160#32
  let v0 : BitVec 32 := Scalar.addi c160_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.addi c192_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((Real.sqrt 128)⁻¹ * (Real.log 2)⁻¹ : ℝ) : EReal)
  | _ => none
-- ==== ReferenceIdeal.lean ====
abbrev S4x4096x28672 : Shape := ⟨3, ![4, 4096, 28672]⟩
abbrev S4x32x4096 : Shape := ⟨3, ![4, 32, 4096]⟩
abbrev S4x4096x16384 : Shape := ⟨3, ![4, 4096, 16384]⟩
abbrev S4x4096x4096 : Shape := ⟨3, ![4, 4096, 4096]⟩
abbrev S4x4096x32x128 : Shape := ⟨4, ![4, 4096, 32, 128]⟩
abbrev S4x32x4096x4096 : Shape := ⟨4, ![4, 32, 4096, 4096]⟩
abbrev S_ : Shape := ⟨0, ![]⟩
abbrev S4x32x4096x1 : Shape := ⟨4, ![4, 32, 4096, 1]⟩
abbrev S4x32x1x4096 : Shape := ⟨4, ![4, 32, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x32x128x4096 : Shape := ⟨4, ![4, 32, 128, 4096]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x28672, .bf16⟩
  | .hbm, ⟨1, _⟩ => ⟨S4x32x4096, .f32⟩
  | .hbm, ⟨2, _⟩ => ⟨S4x4096x28672, .f32⟩
  | .hbm, ⟨3, _⟩ => ⟨S4x4096x16384, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S4x4096x32x128, .f32⟩
  | .hbm, ⟨9, _⟩ => ⟨S4x4096x32x128, .f32⟩
  | .hbm, ⟨10, _⟩ => ⟨S4x4096x32x128, .f32⟩
  | .hbm, ⟨11, _⟩ => ⟨S4x32x4096x4096, .f32⟩
  | .hbm, ⟨12, _⟩ => ⟨S_, .f32⟩
  | .hbm, ⟨13, _⟩ => ⟨S_, .f32⟩
  | .hbm, ⟨14, _⟩ => ⟨S4x32x4096x4096, .f32⟩
  | .hbm, ⟨15, _⟩ => ⟨S4x32x4096x4096, .f32⟩
  | .hbm, ⟨16, _⟩ => ⟨S4x32x4096x1, .f32⟩
  | .hbm, ⟨17, _⟩ => ⟨S4x32x4096x4096, .f32⟩
  | .hbm, ⟨18, _⟩ => ⟨S4x32x4096x4096, .f32⟩
  | .hbm, ⟨19, _⟩ => ⟨S4x32x1x4096, .f32⟩
  | .hbm, ⟨20, _⟩ => ⟨S4x32x4096x4096, .f32⟩
  | .hbm, ⟨21, _⟩ => ⟨S4x32x4096x4096, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S4x32x4096x4096, .i1⟩
  | .hbm, ⟨31, _⟩ => ⟨S4x32x4096x4096, .f32⟩
  | .hbm, ⟨32, _⟩ => ⟨S4x32x4096x4096, .f32⟩
  | .hbm, ⟨33, _⟩ => ⟨S_, .f32⟩
  | .hbm, ⟨34, _⟩ => ⟨S4x32x4096, .f32⟩
  | .hbm, ⟨35, _⟩ => ⟨S_, .f32⟩
  | .hbm, ⟨36, _⟩ => ⟨S4x32x4096, .f32⟩
  | .hbm, ⟨37, _⟩ => ⟨S4x32x4096, .f32⟩
  | .hbm, ⟨38, _⟩ => ⟨S4x32x4096x1, .f32⟩
  | .hbm, ⟨39, _⟩ => ⟨S4x32x4096x4096, .f32⟩
  | .hbm, ⟨40, _⟩ => ⟨S4x32x4096x4096, .f32⟩
  | .hbm, ⟨41, _⟩ => ⟨S4x32x4096x4096, .f32⟩
  | .hbm, ⟨42, _⟩ => ⟨S_, .f32⟩
  | .hbm, ⟨43, _⟩ => ⟨S4x32x4096, .f32⟩
  | .hbm, ⟨44, _⟩ => ⟨S4x32x4096x1, .f32⟩
  | .hbm, ⟨45, _⟩ => ⟨S4x32x4096x4096, .f32⟩
  | .hbm, ⟨46, _⟩ => ⟨S4x32x4096x4096, .f32⟩
  | .hbm, ⟨47, _⟩ => ⟨S4x32x128x4096, .f32⟩
  | .hbm, ⟨48, _⟩ => ⟨S4x4096x32x128, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096x4096, .f32⟩
  | .hbm, ⟨54, _⟩ => ⟨S4x4096x4096, .f32⟩
  | .hbm, ⟨55, _⟩ => ⟨S_, .f32⟩
  | .hbm, ⟨56, _⟩ => ⟨S4x4096x4096, .f32⟩
  | .hbm, ⟨57, _⟩ => ⟨S4x4096x4096, .f32⟩
  | .hbm, ⟨58, _⟩ => ⟨S4x4096x4096, .f32⟩
  | .hbm, ⟨59, _⟩ => ⟨S4x4096x4096, .f32⟩
  | .hbm, ⟨60, _⟩ => ⟨S4x4096x4096, .bf16⟩
  | _, _ => ⟨S4x4096x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== InProj.lean ====
abbrev S16384x4096 : Shape := ⟨2, ![16384, 4096]⟩
abbrev S2x4096x28704 : Shape := ⟨3, ![2, 4096, 28704]⟩
abbrev S2x28704x4096 : Shape := ⟨3, ![2, 28704, 4096]⟩
abbrev S16384x28672 : Shape := ⟨2, ![16384, 28672]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S2x4096x28704, .f32⟩
  | .hbm, ⟨2, _⟩ => ⟨S2x28704x4096, .f32⟩
  | .hbm, ⟨3, _⟩ => ⟨S16384x28672, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![56, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S16384x4096 : Shape := ⟨2, ![16384, 4096]⟩
abbrev S2x4096x28704 : Shape := ⟨3, ![2, 4096, 28704]⟩
abbrev S1x4096x28672 : Shape := ⟨3, ![1, 4096, 28672]⟩
abbrev S4096x28672 : Shape := ⟨2, ![4096, 28672]⟩
abbrev S16384x28672 : Shape := ⟨2, ![16384, 28672]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x28704, .f32⟩
  | .hbm, ⟨2, _⟩ => ⟨S16384x4096, .f32⟩
  | .hbm, ⟨3, _⟩ => ⟨S1x4096x28672, .f32⟩
  | .hbm, ⟨4, _⟩ => ⟨S4096x28672, .f32⟩
  | .hbm, ⟨5, _⟩ => ⟨S16384x28672, .f32⟩
  | .hbm, ⟨6, _⟩ => ⟨S16384x28672, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S16384x4096 : Shape := ⟨2, ![16384, 4096]⟩
abbrev S2x8192x4096 : Shape := ⟨3, ![2, 8192, 4096]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S2x8192x4096, .f32⟩
  | .hbm, ⟨3, _⟩ => ⟨S16384x4096, .f32⟩
  | .hbm, ⟨4, _⟩ => ⟨S2x8192x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjReferenceIdeal.lean ====
abbrev S16384x4096 : Shape := ⟨2, ![16384, 4096]⟩
abbrev S2x8192x4096 : Shape := ⟨3, ![2, 8192, 4096]⟩
abbrev S16384x8192 : Shape := ⟨2, ![16384, 8192]⟩
abbrev S1x8192x4096 : Shape := ⟨3, ![1, 8192, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S2x8192x4096, .f32⟩
  | .hbm, ⟨3, _⟩ => ⟨S16384x4096, .f32⟩
  | .hbm, ⟨4, _⟩ => ⟨S16384x8192, .bf16⟩
  | .hbm, ⟨5, _⟩ => ⟨S16384x8192, .f32⟩
  | .hbm, ⟨6, _⟩ => ⟨S1x8192x4096, .f32⟩
  | .hbm, ⟨7, _⟩ => ⟨S8192x4096, .f32⟩
  | .hbm, ⟨8, _⟩ => ⟨S16384x4096, .f32⟩
  | .hbm, ⟨9, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MlstmIn.lean ====
abbrev S16384x4096 : Shape := ⟨2, ![16384, 4096]⟩
abbrev S2x4096x22608 : Shape := ⟨3, ![2, 4096, 22608]⟩
abbrev S2x22608x4096 : Shape := ⟨3, ![2, 22608, 4096]⟩
abbrev S16384x12288 : Shape := ⟨2, ![16384, 12288]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S2x4096x22608, .f32⟩
  | .hbm, ⟨2, _⟩ => ⟨S2x22608x4096, .f32⟩
  | .hbm, ⟨3, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlstmInReferenceIdeal.lean ====
abbrev S16384x4096 : Shape := ⟨2, ![16384, 4096]⟩
abbrev S2x4096x22608 : Shape := ⟨3, ![2, 4096, 22608]⟩
abbrev S1x4096x12288 : Shape := ⟨3, ![1, 4096, 12288]⟩
abbrev S4096x12288 : Shape := ⟨2, ![4096, 12288]⟩
abbrev S16384x12288 : Shape := ⟨2, ![16384, 12288]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22608, .f32⟩
  | .hbm, ⟨2, _⟩ => ⟨S16384x4096, .f32⟩
  | .hbm, ⟨3, _⟩ => ⟨S1x4096x12288, .f32⟩
  | .hbm, ⟨4, _⟩ => ⟨S4096x12288, .f32⟩
  | .hbm, ⟨5, _⟩ => ⟨S16384x12288, .f32⟩
  | .hbm, ⟨6, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsdIn.lean ====
abbrev S16384x4096 : Shape := ⟨2, ![16384, 4096]⟩
abbrev S2x4096x22608 : Shape := ⟨3, ![2, 4096, 22608]⟩
abbrev S2x22608x4096 : Shape := ⟨3, ![2, 22608, 4096]⟩
abbrev S1x10240x4096 : Shape := ⟨3, ![1, 10240, 4096]⟩
abbrev S16384x10240 : Shape := ⟨2, ![16384, 10240]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S2x4096x22608, .f32⟩
  | .hbm, ⟨2, _⟩ => ⟨S2x22608x4096, .f32⟩
  | .hbm, ⟨3, _⟩ => ⟨S1x10240x4096, .f32⟩
  | .hbm, ⟨4, _⟩ => ⟨S16384x10240, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsdInReferenceIdeal.lean ====
abbrev S16384x4096 : Shape := ⟨2, ![16384, 4096]⟩
abbrev S2x4096x22608 : Shape := ⟨3, ![2, 4096, 22608]⟩
abbrev S1x4096x10240 : Shape := ⟨3, ![1, 4096, 10240]⟩
abbrev S4096x10240 : Shape := ⟨2, ![4096, 10240]⟩
abbrev S16384x10240 : Shape := ⟨2, ![16384, 10240]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22608, .f32⟩
  | .hbm, ⟨2, _⟩ => ⟨S16384x4096, .f32⟩
  | .hbm, ⟨3, _⟩ => ⟨S1x4096x10240, .f32⟩
  | .hbm, ⟨4, _⟩ => ⟨S4096x10240, .f32⟩
  | .hbm, ⟨5, _⟩ => ⟨S16384x10240, .f32⟩
  | .hbm, ⟨6, _⟩ => ⟨S16384x10240, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mlstm.lean ====
abbrev S4x4096x12288 : Shape := ⟨3, ![4, 4096, 12288]⟩
abbrev S4x8x4096 : Shape := ⟨3, ![4, 8, 4096]⟩
abbrev S4096 : Shape := ⟨1, ![4096]⟩
abbrev S4x8x1x4096 : Shape := ⟨4, ![4, 8, 1, 4096]⟩
abbrev S4x8x4096x1 : Shape := ⟨4, ![4, 8, 4096, 1]⟩
abbrev S1x4096 : Shape := ⟨2, ![1, 4096]⟩
abbrev S4x4096x4096 : Shape := ⟨3, ![4, 4096, 4096]⟩
abbrev S1x512x256 : Shape := ⟨3, ![1, 512, 256]⟩
abbrev S1x512x512 : Shape := ⟨3, ![1, 512, 512]⟩
abbrev S1x1x1x512 : Shape := ⟨4, ![1, 1, 1, 512]⟩
abbrev S1x1x512x1 : Shape := ⟨4, ![1, 1, 512, 1]⟩
abbrev S1x512 : Shape := ⟨2, ![1, 512]⟩
abbrev S256x640 : Shape := ⟨2, ![256, 640]⟩
abbrev S8x128 : Shape := ⟨2, ![8, 128]⟩
abbrev S512x256 : Shape := ⟨2, ![512, 256]⟩
abbrev S512x128 : Shape := ⟨2, ![512, 128]⟩
abbrev S512x512 : Shape := ⟨2, ![512, 512]⟩
abbrev S512x640 : Shape := ⟨2, ![512, 640]⟩
abbrev S512x1 : Shape := ⟨2, ![512, 1]⟩
abbrev S1x1 : Shape := ⟨2, ![1, 1]⟩
abbrev S512 : Shape := ⟨1, ![512]⟩
abbrev S1 : Shape := ⟨1, ![1]⟩

abbrev nBuf : Space → Nat
  | .hbm => 9
  | .vmem => 20
  | .smem => 0
  | _ => 0

abbrev bufTy : (tb : Table) → Fin (tcTables nBuf tb) → BufTy
  | .hbm, ⟨0, _⟩ => ⟨S4x4096x12288, .bf16⟩
  | .hbm, ⟨1, _⟩ => ⟨S4x8x4096, .f32⟩
  | .hbm, ⟨2, _⟩ => ⟨S4x8x4096, .f32⟩
  | .hbm, ⟨3, _⟩ => ⟨S4096, .f32⟩
  | .hbm, ⟨4, _⟩ => ⟨S4x8x1x4096, .f32⟩
  | .hbm, ⟨5, _⟩ => ⟨S4x8x4096x1, .f32⟩
  | .hbm, ⟨6, _⟩ => ⟨S4x8x4096x1, .f32⟩
  | .hbm, ⟨7, _⟩ => ⟨S1x4096, .f32⟩
  | .hbm, ⟨8, _⟩ => ⟨S4x4096x4096, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x1x1x512, .f32⟩
  | .local _ .vmem, ⟨9, _⟩ => ⟨S1x1x1x512, .f32⟩
  | .local _ .vmem, ⟨10, _⟩ => ⟨S1x1x512x1, .f32⟩
  | .local _ .vmem, ⟨11, _⟩ => ⟨S1x1x512x1, .f32⟩
  | .local _ .vmem, ⟨12, _⟩ => ⟨S1x1x512x1, .f32⟩
  | .local _ .vmem, ⟨13, _⟩ => ⟨S1x1x512x1, .f32⟩
  | .local _ .vmem, ⟨14, _⟩ => ⟨S1x512, .f32⟩
  | .local _ .vmem, ⟨15, _⟩ => ⟨S1x512, .f32⟩
  | .local _ .vmem, ⟨16, _⟩ => ⟨S1x512x512, .bf16⟩
  | .local _ .vmem, ⟨17, _⟩ => ⟨S1x512x512, .bf16⟩
  | .local _ .vmem, ⟨18, _⟩ => ⟨S256x640, .f32⟩
  | .local _ .vmem, ⟨19, _⟩ => ⟨S8x128, .f32⟩
  | _, _ => ⟨S4x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== MlstmReferenceIdeal.lean ====
abbrev S4x4096x12288 : Shape := ⟨3, ![4, 4096, 12288]⟩
abbrev S4x8x4096 : Shape := ⟨3, ![4, 8, 4096]⟩
abbrev S4096 : Shape := ⟨1, ![4096]⟩
abbrev S4x4096x2048 : Shape := ⟨3, ![4, 4096, 2048]⟩
abbrev S4x4096x8x256 : Shape := ⟨4, ![4, 4096, 8, 256]⟩
abbrev S_ : Shape := ⟨0, ![]⟩
abbrev S4x4096x4096 : Shape := ⟨3, ![4, 4096, 4096]⟩
abbrev S4x4096x8x512 : Shape := ⟨4, ![4, 4096, 8, 512]⟩
abbrev S4x8x8x512 : Shape := ⟨4, ![4, 8, 8, 512]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S4x8x8x1 : Shape := ⟨4, ![4, 8, 8, 1]⟩
abbrev S4x8x8 : Shape := ⟨3, ![4, 8, 8]⟩
abbrev S4x8x1x8 : Shape := ⟨4, ![4, 8, 1, 8]⟩
abbrev S4x8x8x8 : Shape := ⟨4, ![4, 8, 8, 8]⟩
abbrev S1x4096 : Shape := ⟨2, ![1, 4096]⟩
abbrev S4096x1 : Shape := ⟨2, ![4096, 1]⟩
abbrev S4096x4096 : Shape := ⟨2, ![4096, 4096]⟩
abbrev S4x8x4096x1 : Shape := ⟨4, ![4, 8, 4096, 1]⟩
abbrev S4x8x1x4096 : Shape := ⟨4, ![4, 8, 1, 4096]⟩
abbrev S4x8x4096x4096 : Shape := ⟨4, ![4, 8, 4096, 4096]⟩
abbrev S4x8x512x4096 : Shape := ⟨4, ![4, 8, 512, 4096]⟩
abbrev S4x4096x8 : Shape := ⟨3, ![4, 4096, 8]⟩
abbrev S4x4096x8x1 : Shape := ⟨4, ![4, 4096, 8, 1]⟩
abbrev S1x1x4096 : Shape := ⟨3, ![1, 1, 4096]⟩

abbrev nBuf : Space → Nat
  | .hbm => 100
  | .vmem => 0
  | .smem => 0
  | _ => 0

abbrev bufTy : (tb : Table) → Fin (tcTables nBuf tb) → BufTy
  | .hbm, ⟨0, _⟩ => ⟨S4x4096x12288, .bf16⟩
  | .hbm, ⟨1, _⟩ => ⟨S4x8x4096, .f32⟩
  | .hbm, ⟨2, _⟩ => ⟨S4x8x4096, .f32⟩
  | .hbm, ⟨3, _⟩ => ⟨S4096, .f32⟩
  | .hbm, ⟨4, _⟩ => ⟨S4x4096x12288, .f32⟩
  | .hbm, ⟨5, _⟩ => ⟨S4x4096x2048, .f32⟩
  | .hbm, ⟨6, _⟩ => ⟨S4x4096x8x256, .f32⟩
  | .hbm, ⟨7, _⟩ => ⟨S_, .f32⟩
  | .hbm, ⟨8, _⟩ => ⟨S4x4096x8x256, .f32⟩
  | .hbm, ⟨9, _⟩ => ⟨S4x4096x8x256, .f32⟩
  | .hbm, ⟨10, _⟩ => ⟨S4x4096x2048, .f32⟩
  | .hbm, ⟨11, _⟩ => ⟨S4x4096x8x256, .f32⟩
  | .hbm, ⟨12, _⟩ => ⟨S4x4096x4096, .f32⟩
  | .hbm, ⟨13, _⟩ => ⟨S4x4096x8x512, .f32⟩
  | .hbm, ⟨14, _⟩ => ⟨S4x4096x4096, .f32⟩
  | .hbm, ⟨15, _⟩ => ⟨S4x8x4096, .f32⟩
  | .hbm, ⟨16, _⟩ => ⟨S4x8x8x512, .f32⟩
  | .hbm, ⟨17, _⟩ => ⟨S8, .i32⟩
  | .hbm, ⟨18, _⟩ => ⟨S1x8, .i32⟩
  | .hbm, ⟨19, _⟩ => ⟨S8x1, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S4x8x8x1, .f32⟩
  | .hbm, ⟨24, _⟩ => ⟨S4x8x8, .f32⟩
  | .hbm, ⟨25, _⟩ => ⟨S4x8x1x8, .f32⟩
  | .hbm, ⟨26, _⟩ => ⟨S_, .f32⟩
  | .hbm, ⟨27, _⟩ => ⟨S_, .f32⟩
  | .hbm, ⟨28, _⟩ => ⟨S4x8x8x8, .i1⟩
  | .hbm, ⟨29, _⟩ => ⟨S4x8x8x8, .f32⟩
  | .hbm, ⟨30, _⟩ => ⟨S4x8x8x8, .f32⟩
  | .hbm, ⟨31, _⟩ => ⟨S4x8x8x8, .f32⟩
  | .hbm, ⟨32, _⟩ => ⟨S_, .f32⟩
  | .hbm, ⟨33, _⟩ => ⟨S4x8x8, .f32⟩
  | .hbm, ⟨34, _⟩ => ⟨S4x8x8x1, .f32⟩
  | .hbm, ⟨35, _⟩ => ⟨S4x8x8x512, .f32⟩
  | .hbm, ⟨36, _⟩ => ⟨S4x8x8x512, .f32⟩
  | .hbm, ⟨37, _⟩ => ⟨S4x8x4096, .f32⟩
  | .hbm, ⟨38, _⟩ => ⟨S4096, .i32⟩
  | .hbm, ⟨39, _⟩ => ⟨S1x4096, .i32⟩
  | .hbm, ⟨40, _⟩ => ⟨S4096x1, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S4x8x4096x1, .f32⟩
  | .hbm, ⟨45, _⟩ => ⟨S4x8x1x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x1x4096, .f32⟩
  | .hbm, ⟨50, _⟩ => ⟨S4x8x4096x4096, .f32⟩
  | .hbm, ⟨51, _⟩ => ⟨S4x8x4096x4096, .f32⟩
  | .hbm, ⟨52, _⟩ => ⟨S_, .f32⟩
  | .hbm, ⟨53, _⟩ => ⟨S_, .f32⟩
  | .hbm, ⟨54, _⟩ => ⟨S4x8x4096x4096, .i1⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x512x4096, .f32⟩
  | .hbm, ⟨61, _⟩ => ⟨S4x4096x8x512, .f32⟩
  | .hbm, ⟨62, _⟩ => ⟨S_, .f32⟩
  | .hbm, ⟨63, _⟩ => ⟨S4x8x4096, .f32⟩
  | .hbm, ⟨64, _⟩ => ⟨S4x4096x8, .f32⟩
  | .hbm, ⟨65, _⟩ => ⟨S4x4096x8, .f32⟩
  | .hbm, ⟨66, _⟩ => ⟨S_, .f32⟩
  | .hbm, ⟨67, _⟩ => ⟨S4x4096x8, .f32⟩
  | .hbm, ⟨68, _⟩ => ⟨S4x4096x8, .f32⟩
  | .hbm, ⟨69, _⟩ => ⟨S4x4096x8x1, .f32⟩
  | .hbm, ⟨70, _⟩ => ⟨S4x4096x8x512, .f32⟩
  | .hbm, ⟨71, _⟩ => ⟨S4x4096x8x512, .f32⟩
  | .hbm, ⟨72, _⟩ => ⟨S4x4096x8x512, .f32⟩
  | .hbm, ⟨73, _⟩ => ⟨S_, .f32⟩
  | .hbm, ⟨74, _⟩ => ⟨S4x4096x8, .f32⟩
  | .hbm, ⟨75, _⟩ => ⟨S4x4096x8x1, .f32⟩
  | .hbm, ⟨76, _⟩ => ⟨S_, .f32⟩
  | .hbm, ⟨77, _⟩ => ⟨S4x4096x8x1, .f32⟩
  | .hbm, ⟨78, _⟩ => ⟨S4x4096x8x1, .f32⟩
  | .hbm, ⟨79, _⟩ => ⟨S_, .f32⟩
  | .hbm, ⟨80, _⟩ => ⟨S4x4096x8x1, .f32⟩
  | .hbm, ⟨81, _⟩ => ⟨S4x4096x8x1, .f32⟩
  | .hbm, ⟨82, _⟩ => ⟨S4x4096x8x1, .f32⟩
  | .hbm, ⟨83, _⟩ => ⟨S4x4096x8x512, .f32⟩
  | .hbm, ⟨84, _⟩ => ⟨S4x4096x8x512, .f32⟩
  | .hbm, ⟨85, _⟩ => ⟨S4x4096x4096, .f32⟩
  | .hbm, ⟨86, _⟩ => ⟨S1x1x4096, .f32⟩
  | .hbm, ⟨87, _⟩ => ⟨S4x4096x4096, .f32⟩
  | .hbm, ⟨88, _⟩ => ⟨S4x4096x4096, .f32⟩
  | .hbm, ⟨89, _⟩ => ⟨S4x4096x4096, .f32⟩
  | .hbm, ⟨90, _⟩ => ⟨S4x4096x4096, .f32⟩
  | .hbm, ⟨91, _⟩ => ⟨S_, .f32⟩
  | .hbm, ⟨92, _⟩ => ⟨S4x4096x4096, .f32⟩
  | .hbm, ⟨93, _⟩ => ⟨S4x4096x4096, .f32⟩
  | .hbm, ⟨94, _⟩ => ⟨S_, .f32⟩
  | .hbm, ⟨95, _⟩ => ⟨S4x4096x4096, .f32⟩
  | .hbm, ⟨96, _⟩ => ⟨S4x4096x4096, .f32⟩
  | .hbm, ⟨97, _⟩ => ⟨S4x4096x4096, .f32⟩
  | .hbm, ⟨98, _⟩ => ⟨S4x4096x4096, .f32⟩
  | .hbm, ⟨99, _⟩ => ⟨S4x4096x4096, .bf16⟩
  | _, _ => ⟨S4x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_v56 : Ref sig .tc := ⟨.hbm, 74, rfl⟩
abbrev main_v57 : Ref sig .tc := ⟨.hbm, 75, rfl⟩
abbrev main_cst_6 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== FinalNorm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== EvenGatesIn.lean ====
abbrev S16384x4096 : Shape := ⟨2, ![16384, 4096]⟩
abbrev S2x4096x22608 : Shape := ⟨3, ![2, 4096, 22608]⟩
abbrev S2x22608x4096 : Shape := ⟨3, ![2, 22608, 4096]⟩
abbrev S1x16x4096 : Shape := ⟨3, ![1, 16, 4096]⟩
abbrev S1x64x4096 : Shape := ⟨3, ![1, 64, 4096]⟩
abbrev S1x80x4096 : Shape := ⟨3, ![1, 80, 4096]⟩
abbrev S_ : Shape := ⟨0, ![]⟩
abbrev S1x48x4096 : Shape := ⟨3, ![1, 48, 4096]⟩
abbrev S1x128x4096 : Shape := ⟨3, ![1, 128, 4096]⟩
abbrev S16384x128 : Shape := ⟨2, ![16384, 128]⟩
abbrev S1024x4096 : Shape := ⟨2, ![1024, 4096]⟩
abbrev S1024x128 : Shape := ⟨2, ![1024, 128]⟩
abbrev S128x4096 : Shape := ⟨2, ![128, 4096]⟩

abbrev nBuf : Space → Nat
  | .hbm => 10
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x22608, .f32⟩
  | .hbm, ⟨2, _⟩ => ⟨S2x22608x4096, .f32⟩
  | .hbm, ⟨3, _⟩ => ⟨S1x16x4096, .f32⟩
  | .hbm, ⟨4, _⟩ => ⟨S1x64x4096, .f32⟩
  | .hbm, ⟨5, _⟩ => ⟨S1x80x4096, .f32⟩
  | .hbm, ⟨6, _⟩ => ⟨S_, .f32⟩
  | .hbm, ⟨7, _⟩ => ⟨S1x48x4096, .f32⟩
  | .hbm, ⟨8, _⟩ => ⟨S1x128x4096, .f32⟩
  | .hbm, ⟨9, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x128x4096, .f32⟩
  | .local _ .vmem, ⟨3, _⟩ => ⟨S1024x128, .f32⟩
  | .local _ .vmem, ⟨4, _⟩ => ⟨S1024x128, .f32⟩
  | .local _ .vmem, ⟨5, _⟩ => ⟨S128x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenGatesInReferenceIdeal.lean ====
abbrev S16384x4096 : Shape := ⟨2, ![16384, 4096]⟩
abbrev S2x4096x22608 : Shape := ⟨3, ![2, 4096, 22608]⟩
abbrev S1x4096x16 : Shape := ⟨3, ![1, 4096, 16]⟩
abbrev S4096x16 : Shape := ⟨2, ![4096, 16]⟩
abbrev S16384x16 : Shape := ⟨2, ![16384, 16]⟩
abbrev S1x4096x64 : Shape := ⟨3, ![1, 4096, 64]⟩
abbrev S4096x64 : Shape := ⟨2, ![4096, 64]⟩
abbrev S16384x64 : Shape := ⟨2, ![16384, 64]⟩
abbrev S_ : Shape := ⟨0, ![]⟩
abbrev S16384x48 : Shape := ⟨2, ![16384, 48]⟩
abbrev S16384x128 : Shape := ⟨2, ![16384, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22608, .f32⟩
  | .hbm, ⟨2, _⟩ => ⟨S16384x4096, .f32⟩
  | .hbm, ⟨3, _⟩ => ⟨S1x4096x16, .f32⟩
  | .hbm, ⟨4, _⟩ => ⟨S4096x16, .f32⟩
  | .hbm, ⟨5, _⟩ => ⟨S16384x16, .f32⟩
  | .hbm, ⟨6, _⟩ => ⟨S1x4096x64, .f32⟩
  | .hbm, ⟨7, _⟩ => ⟨S4096x64, .f32⟩
  | .hbm, ⟨8, _⟩ => ⟨S16384x64, .f32⟩
  | .hbm, ⟨9, _⟩ => ⟨S_, .f32⟩
  | .hbm, ⟨10, _⟩ => ⟨S16384x48, .f32⟩
  | .hbm, ⟨11, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OddGatesIn.lean ====
abbrev S16384x4096 : Shape := ⟨2, ![16384, 4096]⟩
abbrev S2x4096x28704 : Shape := ⟨3, ![2, 4096, 28704]⟩
abbrev S2x28704x4096 : Shape := ⟨3, ![2, 28704, 4096]⟩
abbrev S1x32x4096 : Shape := ⟨3, ![1, 32, 4096]⟩
abbrev S_ : Shape := ⟨0, ![]⟩
abbrev S1x96x4096 : Shape := ⟨3, ![1, 96, 4096]⟩
abbrev S1x128x4096 : Shape := ⟨3, ![1, 128, 4096]⟩
abbrev S16384x128 : Shape := ⟨2, ![16384, 128]⟩
abbrev S1024x4096 : Shape := ⟨2, ![1024, 4096]⟩
abbrev S1024x128 : Shape := ⟨2, ![1024, 128]⟩
abbrev S128x4096 : Shape := ⟨2, ![128, 4096]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x28704, .f32⟩
  | .hbm, ⟨2, _⟩ => ⟨S2x28704x4096, .f32⟩
  | .hbm, ⟨3, _⟩ => ⟨S1x32x4096, .f32⟩
  | .hbm, ⟨4, _⟩ => ⟨S_, .f32⟩
  | .hbm, ⟨5, _⟩ => ⟨S1x96x4096, .f32⟩
  | .hbm, ⟨6, _⟩ => ⟨S1x128x4096, .f32⟩
  | .hbm, ⟨7, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x128x4096, .f32⟩
  | .local _ .vmem, ⟨3, _⟩ => ⟨S1024x128, .f32⟩
  | .local _ .vmem, ⟨4, _⟩ => ⟨S1024x128, .f32⟩
  | .local _ .vmem, ⟨5, _⟩ => ⟨S128x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddGatesInReferenceIdeal.lean ====
abbrev S16384x4096 : Shape := ⟨2, ![16384, 4096]⟩
abbrev S2x4096x28704 : Shape := ⟨3, ![2, 4096, 28704]⟩
abbrev S1x4096x32 : Shape := ⟨3, ![1, 4096, 32]⟩
abbrev S4096x32 : Shape := ⟨2, ![4096, 32]⟩
abbrev S16384x32 : Shape := ⟨2, ![16384, 32]⟩
abbrev S_ : Shape := ⟨0, ![]⟩
abbrev S16384x96 : Shape := ⟨2, ![16384, 96]⟩
abbrev S16384x128 : Shape := ⟨2, ![16384, 128]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x28704, .f32⟩
  | .hbm, ⟨2, _⟩ => ⟨S16384x4096, .f32⟩
  | .hbm, ⟨3, _⟩ => ⟨S1x4096x32, .f32⟩
  | .hbm, ⟨4, _⟩ => ⟨S4096x32, .f32⟩
  | .hbm, ⟨5, _⟩ => ⟨S16384x32, .f32⟩
  | .hbm, ⟨6, _⟩ => ⟨S_, .f32⟩
  | .hbm, ⟨7, _⟩ => ⟨S16384x96, .f32⟩
  | .hbm, ⟨8, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FoxGates.lean ====
abbrev S4x4096x128 : Shape := ⟨3, ![4, 4096, 128]⟩
abbrev S32 : Shape := ⟨1, ![32]⟩
abbrev S4x4096x32 : Shape := ⟨3, ![4, 4096, 32]⟩
abbrev S4x32x4096 : Shape := ⟨3, ![4, 32, 4096]⟩
abbrev S32x1 : Shape := ⟨2, ![32, 1]⟩
abbrev S1x32x4096 : Shape := ⟨3, ![1, 32, 4096]⟩
abbrev S32x4096 : Shape := ⟨2, ![32, 4096]⟩
abbrev S256x256 : Shape := ⟨2, ![256, 256]⟩
abbrev S32x256 : Shape := ⟨2, ![32, 256]⟩
abbrev S1x32x256 : Shape := ⟨3, ![1, 32, 256]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x128, .f32⟩
  | .hbm, ⟨1, _⟩ => ⟨S32, .f32⟩
  | .hbm, ⟨2, _⟩ => ⟨S4x4096x32, .f32⟩
  | .hbm, ⟨3, _⟩ => ⟨S4x32x4096, .f32⟩
  | .hbm, ⟨4, _⟩ => ⟨S32x1, .f32⟩
  | .hbm, ⟨5, _⟩ => ⟨S4x32x4096, .f32⟩
  | .local _ .vmem, ⟨0, _⟩ => ⟨S1x32x4096, .f32⟩
  | .local _ .vmem, ⟨1, _⟩ => ⟨S1x32x4096, .f32⟩
  | .local _ .vmem, ⟨2, _⟩ => ⟨S32x1, .f32⟩
  | .local _ .vmem, ⟨3, _⟩ => ⟨S1x32x4096, .f32⟩
  | .local _ .vmem, ⟨4, _⟩ => ⟨S1x32x4096, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoxGatesReferenceIdeal.lean ====
abbrev S4x4096x128 : Shape := ⟨3, ![4, 4096, 128]⟩
abbrev S32 : Shape := ⟨1, ![32]⟩
abbrev S4x4096x32 : Shape := ⟨3, ![4, 4096, 32]⟩
abbrev S1x1x32 : Shape := ⟨3, ![1, 1, 32]⟩
abbrev S_ : Shape := ⟨0, ![]⟩
abbrev S4x32x4096 : Shape := ⟨3, ![4, 32, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S32, .f32⟩
  | .hbm, ⟨2, _⟩ => ⟨S4x4096x32, .f32⟩
  | .hbm, ⟨3, _⟩ => ⟨S1x1x32, .f32⟩
  | .hbm, ⟨4, _⟩ => ⟨S4x4096x32, .f32⟩
  | .hbm, ⟨5, _⟩ => ⟨S4x4096x32, .f32⟩
  | .hbm, ⟨6, _⟩ => ⟨S4x4096x32, .f32⟩
  | .hbm, ⟨7, _⟩ => ⟨S_, .f32⟩
  | .hbm, ⟨8, _⟩ => ⟨S4x4096x32, .f32⟩
  | .hbm, ⟨9, _⟩ => ⟨S4x4096x32, .f32⟩
  | .hbm, ⟨10, _⟩ => ⟨S4x4096x32, .f32⟩
  | .hbm, ⟨11, _⟩ => ⟨S4x4096x32, .f32⟩
  | .hbm, ⟨12, _⟩ => ⟨S4x4096x32, .i1⟩
  | .hbm, ⟨13, _⟩ => ⟨S4x4096x32, .f32⟩
  | .hbm, ⟨14, _⟩ => ⟨S4x4096x32, .f32⟩
  | .hbm, ⟨15, _⟩ => ⟨S4x4096x32, .f32⟩
  | .hbm, ⟨16, _⟩ => ⟨S4x4096x32, .f32⟩
  | .hbm, ⟨17, _⟩ => ⟨S4x4096x32, .f32⟩
  | .hbm, ⟨18, _⟩ => ⟨S4x4096x32, .f32⟩
  | .hbm, ⟨19, _⟩ => ⟨S4x4096x32, .f32⟩
  | .hbm, ⟨20, _⟩ => ⟨S4x4096x32, .f32⟩
  | .hbm, ⟨21, _⟩ => ⟨S4x4096x32, .f32⟩
  | .hbm, ⟨22, _⟩ => ⟨S_, .f32⟩
  | .hbm, ⟨23, _⟩ => ⟨S_, .f32⟩
  | .hbm, ⟨24, _⟩ => ⟨S4x4096x32, .f32⟩
  | .hbm, ⟨25, _⟩ => ⟨S4x32x4096, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== MlstmGates.lean ====
abbrev S4x4096x128 : Shape := ⟨3, ![4, 4096, 128]⟩
abbrev S8 : Shape := ⟨1, ![8]⟩
abbrev S4x4096x8 : Shape := ⟨3, ![4, 4096, 8]⟩
abbrev S4x8x4096 : Shape := ⟨3, ![4, 8, 4096]⟩
abbrev S8x1 : Shape := ⟨2, ![8, 1]⟩
abbrev S1x8x4096 : Shape := ⟨3, ![1, 8, 4096]⟩
abbrev S8x4096 : Shape := ⟨2, ![8, 4096]⟩
abbrev S512x512 : Shape := ⟨2, ![512, 512]⟩
abbrev S8x512 : Shape := ⟨2, ![8, 512]⟩
abbrev S1x8x512 : Shape := ⟨3, ![1, 8, 512]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x128, .f32⟩
  | .hbm, ⟨1, _⟩ => ⟨S8, .f32⟩
  | .hbm, ⟨2, _⟩ => ⟨S8, .f32⟩
  | .hbm, ⟨3, _⟩ => ⟨S4x4096x8, .f32⟩
  | .hbm, ⟨4, _⟩ => ⟨S4x8x4096, .f32⟩
  | .hbm, ⟨5, _⟩ => ⟨S4x4096x8, .f32⟩
  | .hbm, ⟨6, _⟩ => ⟨S4x8x4096, .f32⟩
  | .hbm, ⟨7, _⟩ => ⟨S8x1, .f32⟩
  | .hbm, ⟨8, _⟩ => ⟨S8x1, .f32⟩
  | .hbm, ⟨9, _⟩ => ⟨S4x8x4096, .f32⟩
  | .hbm, ⟨10, _⟩ => ⟨S4x8x4096, .f32⟩
  | .local _ .vmem, ⟨0, _⟩ => ⟨S1x8x4096, .f32⟩
  | .local _ .vmem, ⟨1, _⟩ => ⟨S1x8x4096, .f32⟩
  | .local _ .vmem, ⟨2, _⟩ => ⟨S1x8x4096, .f32⟩
  | .local _ .vmem, ⟨3, _⟩ => ⟨S1x8x4096, .f32⟩
  | .local _ .vmem, ⟨4, _⟩ => ⟨S8x1, .f32⟩
  | .local _ .vmem, ⟨5, _⟩ => ⟨S8x1, .f32⟩
  | .local _ .vmem, ⟨6, _⟩ => ⟨S1x8x4096, .f32⟩
  | .local _ .vmem, ⟨7, _⟩ => ⟨S1x8x4096, .f32⟩
  | .local _ .vmem, ⟨8, _⟩ => ⟨S1x8x4096, .f32⟩
  | .local _ .vmem, ⟨9, _⟩ => ⟨S1x8x4096, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlstmGatesReferenceIdeal.lean ====
abbrev S4x4096x128 : Shape := ⟨3, ![4, 4096, 128]⟩
abbrev S8 : Shape := ⟨1, ![8]⟩
abbrev S4x4096x8 : Shape := ⟨3, ![4, 4096, 8]⟩
abbrev S1x1x8 : Shape := ⟨3, ![1, 1, 8]⟩
abbrev S_ : Shape := ⟨0, ![]⟩
abbrev S4x8x512x8 : Shape := ⟨4, ![4, 8, 512, 8]⟩
abbrev S4x8x4096 : Shape := ⟨3, ![4, 8, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S8, .f32⟩
  | .hbm, ⟨2, _⟩ => ⟨S8, .f32⟩
  | .hbm, ⟨3, _⟩ => ⟨S4x4096x8, .f32⟩
  | .hbm, ⟨4, _⟩ => ⟨S1x1x8, .f32⟩
  | .hbm, ⟨5, _⟩ => ⟨S4x4096x8, .f32⟩
  | .hbm, ⟨6, _⟩ => ⟨S4x4096x8, .f32⟩
  | .hbm, ⟨7, _⟩ => ⟨S4x4096x8, .f32⟩
  | .hbm, ⟨8, _⟩ => ⟨S1x1x8, .f32⟩
  | .hbm, ⟨9, _⟩ => ⟨S4x4096x8, .f32⟩
  | .hbm, ⟨10, _⟩ => ⟨S4x4096x8, .f32⟩
  | .hbm, ⟨11, _⟩ => ⟨S4x4096x8, .f32⟩
  | .hbm, ⟨12, _⟩ => ⟨S_, .f32⟩
  | .hbm, ⟨13, _⟩ => ⟨S4x4096x8, .f32⟩
  | .hbm, ⟨14, _⟩ => ⟨S4x4096x8, .f32⟩
  | .hbm, ⟨15, _⟩ => ⟨S4x4096x8, .f32⟩
  | .hbm, ⟨16, _⟩ => ⟨S4x4096x8, .f32⟩
  | .hbm, ⟨17, _⟩ => ⟨S4x4096x8, .i1⟩
  | .hbm, ⟨18, _⟩ => ⟨S4x4096x8, .f32⟩
  | .hbm, ⟨19, _⟩ => ⟨S4x4096x8, .f32⟩
  | .hbm, ⟨20, _⟩ => ⟨S4x4096x8, .f32⟩
  | .hbm, ⟨21, _⟩ => ⟨S4x4096x8, .f32⟩
  | .hbm, ⟨22, _⟩ => ⟨S4x4096x8, .f32⟩
  | .hbm, ⟨23, _⟩ => ⟨S4x4096x8, .f32⟩
  | .hbm, ⟨24, _⟩ => ⟨S4x4096x8, .f32⟩
  | .hbm, ⟨25, _⟩ => ⟨S4x4096x8, .f32⟩
  | .hbm, ⟨26, _⟩ => ⟨S4x4096x8, .f32⟩
  | .hbm, ⟨27, _⟩ => ⟨S4x8x512x8, .f32⟩
  | .hbm, ⟨28, _⟩ => ⟨S_, .f32⟩
  | .hbm, ⟨29, _⟩ => ⟨S_, .f32⟩
  | .hbm, ⟨30, _⟩ => ⟨S4x8x512x8, .f32⟩
  | .hbm, ⟨31, _⟩ => ⟨S4x4096x8, .f32⟩
  | .hbm, ⟨32, _⟩ => ⟨S4x4096x8, .f32⟩
  | .hbm, ⟨33, _⟩ => ⟨S4x8x4096, .f32⟩
  | .hbm, ⟨34, _⟩ => ⟨S4x8x4096, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v8 : Ref sig .tc := ⟨.hbm, 26, rfl⟩
abbrev main_v9 : Ref sig .tc := ⟨.hbm, 27, rfl⟩
abbrev main_call1_call0_cst : Ref sig .tc := ⟨.hbm, 28, rfl⟩
abbrev main_call1_call0_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== SsdGates.lean ====
abbrev S4x4096x128 : Shape := ⟨3, ![4, 4096, 128]⟩
abbrev S64 : Shape := ⟨1, ![64]⟩
abbrev S4x4096x64 : Shape := ⟨3, ![4, 4096, 64]⟩
abbrev S4x64x4096 : Shape := ⟨3, ![4, 64, 4096]⟩
abbrev S64x1 : Shape := ⟨2, ![64, 1]⟩
abbrev S1x64x4096 : Shape := ⟨3, ![1, 64, 4096]⟩
abbrev S64x4096 : Shape := ⟨2, ![64, 4096]⟩
abbrev S128x128 : Shape := ⟨2, ![128, 128]⟩
abbrev S64x128 : Shape := ⟨2, ![64, 128]⟩
abbrev S1x64x128 : Shape := ⟨3, ![1, 64, 128]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x128, .f32⟩
  | .hbm, ⟨1, _⟩ => ⟨S64, .f32⟩
  | .hbm, ⟨2, _⟩ => ⟨S64, .f32⟩
  | .hbm, ⟨3, _⟩ => ⟨S4x4096x64, .f32⟩
  | .hbm, ⟨4, _⟩ => ⟨S4x64x4096, .f32⟩
  | .hbm, ⟨5, _⟩ => ⟨S64x1, .f32⟩
  | .hbm, ⟨6, _⟩ => ⟨S64x1, .f32⟩
  | .hbm, ⟨7, _⟩ => ⟨S4x64x4096, .f32⟩
  | .hbm, ⟨8, _⟩ => ⟨S4x64x4096, .f32⟩
  | .local _ .vmem, ⟨0, _⟩ => ⟨S1x64x4096, .f32⟩
  | .local _ .vmem, ⟨1, _⟩ => ⟨S1x64x4096, .f32⟩
  | .local _ .vmem, ⟨2, _⟩ => ⟨S64x1, .f32⟩
  | .local _ .vmem, ⟨3, _⟩ => ⟨S64x1, .f32⟩
  | .local _ .vmem, ⟨4, _⟩ => ⟨S1x64x4096, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SsdGatesReferenceIdeal.lean ====
abbrev S4x4096x128 : Shape := ⟨3, ![4, 4096, 128]⟩
abbrev S64 : Shape := ⟨1, ![64]⟩
abbrev S4x4096x64 : Shape := ⟨3, ![4, 4096, 64]⟩
abbrev S1x1x64 : Shape := ⟨3, ![1, 1, 64]⟩
abbrev S_ : Shape := ⟨0, ![]⟩
abbrev S4x32x128x64 : Shape := ⟨4, ![4, 32, 128, 64]⟩
abbrev S4x64x4096 : Shape := ⟨3, ![4, 64, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S64, .f32⟩
  | .hbm, ⟨2, _⟩ => ⟨S64, .f32⟩
  | .hbm, ⟨3, _⟩ => ⟨S4x4096x64, .f32⟩
  | .hbm, ⟨4, _⟩ => ⟨S1x1x64, .f32⟩
  | .hbm, ⟨5, _⟩ => ⟨S4x4096x64, .f32⟩
  | .hbm, ⟨6, _⟩ => ⟨S4x4096x64, .f32⟩
  | .hbm, ⟨7, _⟩ => ⟨S_, .f32⟩
  | .hbm, ⟨8, _⟩ => ⟨S4x4096x64, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S4x4096x64, .i1⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S4x4096x64, .f32⟩
  | .hbm, ⟨19, _⟩ => ⟨S4x4096x64, .f32⟩
  | .hbm, ⟨20, _⟩ => ⟨S4x4096x64, .f32⟩
  | .hbm, ⟨21, _⟩ => ⟨S64, .f32⟩
  | .hbm, ⟨22, _⟩ => ⟨S64, .f32⟩
  | .hbm, ⟨23, _⟩ => ⟨S1x1x64, .f32⟩
  | .hbm, ⟨24, _⟩ => ⟨S4x4096x64, .f32⟩
  | .hbm, ⟨25, _⟩ => ⟨S4x4096x64, .f32⟩
  | .hbm, ⟨26, _⟩ => ⟨S4x32x128x64, .f32⟩
  | .hbm, ⟨27, _⟩ => ⟨S_, .f32⟩
  | .hbm, ⟨28, _⟩ => ⟨S_, .f32⟩
  | .hbm, ⟨29, _⟩ => ⟨S4x32x128x64, .f32⟩
  | .hbm, ⟨30, _⟩ => ⟨S4x4096x64, .f32⟩
  | .hbm, ⟨31, _⟩ => ⟨S4x64x4096, .f32⟩
  | .hbm, ⟨32, _⟩ => ⟨S4x64x4096, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_call0_cst : Ref sig .tc := ⟨.hbm, 27, rfl⟩
abbrev main_call1_call0_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== Conformer.lean ====
abbrev S4x4096x28672 : Shape := ⟨3, ![4, 4096, 28672]⟩
abbrev S31x4096 : Shape := ⟨2, ![31, 4096]⟩
abbrev S4096 : Shape := ⟨1, ![4096]⟩
abbrev S_ : Shape := ⟨0, ![]⟩
abbrev S1x4096 : Shape := ⟨2, ![1, 4096]⟩
abbrev S32x4096 : Shape := ⟨2, ![32, 4096]⟩
abbrev S4x4096x4096 : Shape := ⟨3, ![4, 4096, 4096]⟩
abbrev S1x256x4096 : Shape := ⟨3, ![1, 256, 4096]⟩
abbrev S288x4096 : Shape := ⟨2, ![288, 4096]⟩
abbrev S256x4096 : Shape := ⟨2, ![256, 4096]⟩
abbrev S1x128 : Shape := ⟨2, ![1, 128]⟩
abbrev S128x128 : Shape := ⟨2, ![128, 128]⟩
abbrev S136x128 : Shape := ⟨2, ![136, 128]⟩
abbrev S16x4096 : Shape := ⟨2, ![16, 4096]⟩
abbrev S16 : Shape := ⟨1, ![16]⟩
abbrev S16x1 : Shape := ⟨2, ![16, 1]⟩
abbrev S1x16x4096 : Shape := ⟨3, ![1, 16, 4096]⟩

abbrev nBuf : Space → Nat
  | .hbm => 12
  | .vmem => 14
  | .smem => 0
  | _ => 0

abbrev bufTy : (tb : Table) → Fin (tcTables nBuf tb) → BufTy
  | .hbm, ⟨0, _⟩ => ⟨S4x4096x28672, .bf16⟩
  | .hbm, ⟨1, _⟩ => ⟨S31x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S1x4096, .f32⟩
  | .hbm, ⟨7, _⟩ => ⟨S32x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S4x4096x4096, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x256x4096, .bf16⟩
  | .local _ .vmem, ⟨5, _⟩ => ⟨S1x256x4096, .bf16⟩
  | .local _ .vmem, ⟨6, _⟩ => ⟨S32x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S1x256x4096, .bf16⟩
  | .local _ .vmem, ⟨11, _⟩ => ⟨S1x256x4096, .bf16⟩
  | .local _ .vmem, ⟨12, _⟩ => ⟨S288x4096, .f32⟩
  | .local _ .vmem, ⟨13, _⟩ => ⟨S256x4096, .f32⟩
  | _, _ => ⟨S4x4096x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_10 : BitVec 32 := 0#32
  let c32_i32 : BitVec 32 := 32#32
  let v23 : BitVec 32 := Scalar.addi c0_i32_10 c32_i32
  let c1_i32 : BitVec 32 := 1#32
  ⟨c0_i32_10, v23, c1_i32⟩
def k0_mult1 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  v25
def k0_off1 (k0_t1 : Fin k0_t1_loop.trips) : Fin 2 → Nat :=
  let c0_15 : Index := 0#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v27 : Index := Scalar.indexCast v26
  ![0, v27.toNat]
def k0_off2 (k0_t1 : Fin k0_t1_loop.trips) : Fin 2 → Nat :=
  let c6 : Index := 6#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v32 : Index := Scalar.indexCast v26
  ![6, v32.toNat]
def k0_off3 (k0_t1 : Fin k0_t1_loop.trips) : Fin 2 → Nat :=
  let c8 : Index := 8#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v35 : Index := Scalar.indexCast v26
  ![8, v35.toNat]
def k0_off4 (k0_t1 : Fin k0_t1_loop.trips) : Fin 2 → Nat :=
  let c14 : Index := 14#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v39 : Index := Scalar.indexCast v26
  ![14, v39.toNat]
def k0_off5 (k0_t1 : Fin k0_t1_loop.trips) : Fin 2 → Nat :=
  let c16 : Index := 16#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v42 : Index := Scalar.indexCast v26
  ![16, v42.toNat]
def k0_off6 (k0_t1 : Fin k0_t1_loop.trips) : Fin 2 → Nat :=
  let c22 : Index := 22#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v47 : Index := Scalar.indexCast v26
  ![22, v47.toNat]
def k0_off7 (k0_t1 : Fin k0_t1_loop.trips) : Fin 2 → Nat :=
  let c24 : Index := 24#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v50 : Index := Scalar.indexCast v26
  ![24, v50.toNat]
def k0_off8 (k0_t1 : Fin k0_t1_loop.trips) : Fin 2 → Nat :=
  let c30 : Index := 30#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v55 : Index := Scalar.indexCast v26
  ![30, v55.toNat]
def k0_off9 (k0_t1 : Fin k0_t1_loop.trips) : Fin 2 → Nat :=
  let c32_16 : Index := 32#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v58 : Index := Scalar.indexCast v26
  ![32, v58.toNat]
def k0_off10 (k0_t1 : Fin k0_t1_loop.trips) : Fin 2 → Nat :=
  let c7 : Index := 7#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v64 : Index := Scalar.indexCast v26
  ![7, v64.toNat]
def k0_off11 (k0_t1 : Fin k0_t1_loop.trips) : Fin 2 → Nat :=
  let c8_17 : Index := 8#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v67 : Index := Scalar.indexCast v26
  ![8, v67.toNat]
def k0_off12 (k0_t1 : Fin k0_t1_loop.trips) : Fin 2 → Nat :=
  let c15 : Index := 15#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v71 : Index := Scalar.indexCast v26
  ![15, v71.toNat]
def k0_off13 (k0_t1 : Fin k0_t1_loop.trips) : Fin 2 → Nat :=
  let c16_18 : Index := 16#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v74 : Index := Scalar.indexCast v26
  ![16, v74.toNat]
def k0_off14 (k0_t1 : Fin k0_t1_loop.trips) : Fin 2 → Nat :=
  let c23 : Index := 23#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v79 : Index := Scalar.indexCast v26
  ![23, v79.toNat]
def k0_off15 (k0_t1 : Fin k0_t1_loop.trips) : Fin 2 → Nat :=
  let c24_19 : Index := 24#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v82 : Index := Scalar.indexCast v26
  ![24, v82.toNat]
def k0_off16 (k0_t1 : Fin k0_t1_loop.trips) : Fin 2 → Nat :=
  let c0_20 : Index := 0#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v89 : Index := Scalar.indexCast v26
  ![0, v89.toNat]
def k0_off17 (k0_t1 : Fin k0_t1_loop.trips) : Fin 2 → Nat :=
  let c0_21 : Index := 0#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v92 : Index := Scalar.indexCast v26
  ![0, v92.toNat]
def k0_off18 (k0_t1 : Fin k0_t1_loop.trips) : Fin 2 → Nat :=
  let c8_22 : Index := 8#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v96 : Index := Scalar.indexCast v26
  ![8, v96.toNat]
def k0_off19 (k0_t1 : Fin k0_t1_loop.trips) : Fin 2 → Nat :=
  let c16_24 : Index := 16#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v104 : Index := Scalar.indexCast v26
  ![16, v104.toNat]
def k0_off20 (k0_t1 : Fin k0_t1_loop.trips) : Fin 2 → Nat :=
  let c24_26 : Index := 24#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v112 : Index := Scalar.indexCast v26
  ![24, v112.toNat]
def k0_off21 (k0_t1 : Fin k0_t1_loop.trips) : Fin 2 → Nat :=
  let c1 : Index := 1#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v122 : Index := Scalar.indexCast v26
  ![1, v122.toNat]
def k0_off22 (k0_t1 : Fin k0_t1_loop.trips) : Fin 2 → Nat :=
  let c9 : Index := 9#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v129 : Index := Scalar.indexCast v26
  ![9, v129.toNat]
def k0_off23 (k0_t1 : Fin k0_t1_loop.trips) : Fin 2 → Nat :=
  let c17 : Index := 17#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v137 : Index := Scalar.indexCast v26
  ![17, v137.toNat]
def k0_off24 (k0_t1 : Fin k0_t1_loop.trips) : Fin 2 → Nat :=
  let c25 : Index := 25#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v145 : Index := Scalar.indexCast v26
  ![25, v145.toNat]
def k0_off25 (k0_t1 : Fin k0_t1_loop.trips) : Fin 2 → Nat :=
  let c2 : Index := 2#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v155 : Index := Scalar.indexCast v26
  ![2, v155.toNat]
def k0_off26 (k0_t1 : Fin k0_t1_loop.trips) : Fin 2 → Nat :=
  let c10 : Index := 10#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v162 : Index := Scalar.indexCast v26
  ![10, v162.toNat]
def k0_off27 (k0_t1 : Fin k0_t1_loop.trips) : Fin 2 → Nat :=
  let c18 : Index := 18#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v170 : Index := Scalar.indexCast v26
  ![18, v170.toNat]
def k0_off28 (k0_t1 : Fin k0_t1_loop.trips) : Fin 2 → Nat :=
  let c26 : Index := 26#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v178 : Index := Scalar.indexCast v26
  ![26, v178.toNat]
def k0_off29 (k0_t1 : Fin k0_t1_loop.trips) : Fin 2 → Nat :=
  let c3 : Index := 3#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v188 : Index := Scalar.indexCast v26
  ![3, v188.toNat]
def k0_off30 (k0_t1 : Fin k0_t1_loop.trips) : Fin 2 → Nat :=
  let c11 : Index := 11#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v195 : Index := Scalar.indexCast v26
  ![11, v195.toNat]
def k0_off31 (k0_t1 : Fin k0_t1_loop.trips) : Fin 2 → Nat :=
  let c19 : Index := 19#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v203 : Index := Scalar.indexCast v26
  ![19, v203.toNat]
def k0_off32 (k0_t1 : Fin k0_t1_loop.trips) : Fin 2 → Nat :=
  let c27 : Index := 27#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v211 : Index := Scalar.indexCast v26
  ![27, v211.toNat]
def k0_off33 (k0_t1 : Fin k0_t1_loop.trips) : Fin 2 → Nat :=
  let c4 : Index := 4#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v221 : Index := Scalar.indexCast v26
  ![4, v221.toNat]
def k0_off34 (k0_t1 : Fin k0_t1_loop.trips) : Fin 2 → Nat :=
  let c12 : Index := 12#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v228 : Index := Scalar.indexCast v26
  ![12, v228.toNat]
def k0_off35 (k0_t1 : Fin k0_t1_loop.trips) : Fin 2 → Nat :=
  let c20 : Index := 20#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v236 : Index := Scalar.indexCast v26
  ![20, v236.toNat]
def k0_off36 (k0_t1 : Fin k0_t1_loop.trips) : Fin 2 → Nat :=
  let c28 : Index := 28#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v244 : Index := Scalar.indexCast v26
  ![28, v244.toNat]
def k0_off37 (k0_t1 : Fin k0_t1_loop.trips) : Fin 2 → Nat :=
  let c5 : Index := 5#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v254 : Index := Scalar.indexCast v26
  ![5, v254.toNat]
def k0_off38 (k0_t1 : Fin k0_t1_loop.trips) : Fin 2 → Nat :=
  let c13 : Index := 13#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v261 : Index := Scalar.indexCast v26
  ![13, v261.toNat]
def k0_off39 (k0_t1 : Fin k0_t1_loop.trips) : Fin 2 → Nat :=
  let c21 : Index := 21#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v269 : Index := Scalar.indexCast v26
  ![21, v269.toNat]
def k0_off40 (k0_t1 : Fin k0_t1_loop.trips) : Fin 2 → Nat :=
  let c29 : Index := 29#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v277 : Index := Scalar.indexCast v26
  ![29, v277.toNat]
def k0_off41 (k0_t1 : Fin k0_t1_loop.trips) : Fin 2 → Nat :=
  let c0_48 : Index := 0#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v287 : Index := Scalar.indexCast v26
  ![0, v287.toNat]
def k0_off42 (k0_t1 : Fin k0_t1_loop.trips) : Fin 2 → Nat :=
  let c136 : Index := 136#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v299 : Index := Scalar.indexCast v26
  ![136, v299.toNat]
def k0_off43 (k0_t1 : Fin k0_t1_loop.trips) : Fin 2 → Nat :=
  let c144 : Index := 144#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v306 : Index := Scalar.indexCast v26
  ![144, v306.toNat]
def k0_off44 (k0_t1 : Fin k0_t1_loop.trips) : Fin 2 → Nat :=
  let c152 : Index := 152#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v314 : Index := Scalar.indexCast v26
  ![152, v314.toNat]
def k0_off45 (k0_t1 : Fin k0_t1_loop.trips) : Fin 2 → Nat :=
  let c160 : Index := 160#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v322 : Index := Scalar.indexCast v26
  ![160, v322.toNat]
def k0_off46 (k0_t1 : Fin k0_t1_loop.trips) : Fin 2 → Nat :=
  let c136_55 : Index := 136#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v331 : Index := Scalar.indexCast v26
  ![136, v331.toNat]
def k0_off47 (k0_t1 : Fin k0_t1_loop.trips) : Fin 2 → Nat :=
  let c144_57 : Index := 144#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v338 : Index := Scalar.indexCast v26
  ![144, v338.toNat]
def k0_off48 (k0_t1 : Fin k0_t1_loop.trips) : Fin 2 → Nat :=
  let c152_59 : Index := 152#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v346 : Index := Scalar.indexCast v26
  ![152, v346.toNat]
def k0_off49 (k0_t1 : Fin k0_t1_loop.trips) : Fin 2 → Nat :=
  let c128 : Index := 128#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v356 : Index := Scalar.indexCast v26
  ![128, v356.toNat]
def k0_off50 (k0_t1 : Fin k0_t1_loop.trips) : Fin 2 → Nat :=
  let c128_107 : Index := 128#32
  let c0_i32_10 : BitVec 32 := 0#32
  let c1_i32 : BitVec 32 := 1#32
  let arg12 : BitVec 32 := Scf.iv c0_i32_10 c1_i32 k0_t1
  let c128_i32 : BitVec 32 := 128#32
  let v25 : BitVec 32 := Scalar.muli arg12 c128_i32
  let v26 : BitVec 32 := v25
  let v551 : Index := Scalar.indexCast v26
  ![128, v551.toNat]
@[reducible] def k0_t2_loop : Scf.Loop 32 :=
  let c0_i32_12 : BitVec 32 := 0#32
  let c16_i32 : BitVec 32 := 16#32
  let v24 : BitVec 32 := Scalar.addi c0_i32_12 c16_i32
  let c1_i32_13 : BitVec 32 := 1#32
  ⟨c0_i32_12, v24, c1_i32_13⟩
def k0_mult2 (k0_t2 : Fin k0_t2_loop.trips) : BitVec 32 :=
  let c0_i32_12 : BitVec 32 := 0#32
  let c1_i32_13 : BitVec 32 := 1#32
  let arg12 : BitVec 32 := Scf.iv c0_i32_12 c1_i32_13 k0_t2
  let c16_i32_15 : BitVec 32 := 16#32
  let v25 : BitVec 32 := Scalar.muli arg12 c16_i32_15
  v25
def k0_off51 (k0_t2 : Fin k0_t2_loop.trips) : Fin 2 → Nat :=
  let c0_i32_12 : BitVec 32 := 0#32
  let c1_i32_13 : BitVec 32 := 1#32
  let arg12 : BitVec 32 := Scf.iv c0_i32_12 c1_i32_13 k0_t2
  let c16_i32_15 : BitVec 32 := 16#32
  let v25 : BitVec 32 := Scalar.muli arg12 c16_i32_15
  let v26 : BitVec 32 := v25
  let v27 : Index := Scalar.indexCast v26
  let c0_16 : Index := 0#32
  ![v27.toNat, 0]
def k0_off52 (k0_t2 : Fin k0_t2_loop.trips) : Fin 3 → Nat :=
  let c0_26 : Index := 0#32
  let c0_i32_12 : BitVec 32 := 0#32
  let c1_i32_13 : BitVec 32 := 1#32
  let arg12 : BitVec 32 := Scf.iv c0_i32_12 c1_i32_13 k0_t2
  let c16_i32_15 : BitVec 32 := 16#32
  let v25 : BitVec 32 := Scalar.muli arg12 c16_i32_15
  let v26 : BitVec 32 := v25
  let v53 : Index := Scalar.indexCast v26
  let c0_27 : Index := 0#32
  ![0, v53.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConformerReferenceIdeal.lean ====
abbrev S4x4096x28672 : Shape := ⟨3, ![4, 4096, 28672]⟩
abbrev S31x4096 : Shape := ⟨2, ![31, 4096]⟩
abbrev S4096 : Shape := ⟨1, ![4096]⟩
abbrev S4x4096x4096 : Shape := ⟨3, ![4, 4096, 4096]⟩
abbrev S_ : Shape := ⟨0, ![]⟩
abbrev S4x30x4096 : Shape := ⟨3, ![4, 30, 4096]⟩
abbrev S4x4126x4096 : Shape := ⟨3, ![4, 4126, 4096]⟩
abbrev S1x4096 : Shape := ⟨2, ![1, 4096]⟩
abbrev S1x1x4096 : Shape := ⟨3, ![1, 1, 4096]⟩
abbrev S4x4096 : Shape := ⟨2, ![4, 4096]⟩
abbrev S4x4096x1 : Shape := ⟨3, ![4, 4096, 1]⟩

abbrev nBuf : Space → Nat
  | .hbm => 289
  | .vmem => 0
  | .smem => 0
  | _ => 0

abbrev hbmTy0_0 (i : Nat) : BufTy := match i % 128 with
  | 0 => ⟨S4x4096x28672, .bf16⟩
  | 1 => ⟨S31x4096, .f32⟩
  | 2 => ⟨S4096, .f32⟩
  | 3 => ⟨S4096, .f32⟩
  | 4 => ⟨S4096, .f32⟩
  | 5 => ⟨S4x4096x4096, .bf16⟩
  | 6 => ⟨S4x4096x4096, .f32⟩
  | 7 => ⟨S4x4096x4096, .bf16⟩
  | 8 => ⟨S4x4096x4096, .f32⟩
  | 9 => ⟨S4x4096x4096, .bf16⟩
  | 10 => ⟨S4x4096x4096, .f32⟩
  | 11 => ⟨S_, .f32⟩
  | 12 => ⟨S4x30x4096, .f32⟩
  | 13 => ⟨S4x4096x4096, .f32⟩
  | 14 => ⟨S4x4096x4096, .f32⟩
  | 15 => ⟨S_, .f32⟩
  | 16 => ⟨S4x4096x4096, .f32⟩
  | 17 => ⟨S4x4096x4096, .f32⟩
  | 18 => ⟨S_, .f32⟩
  | 19 => ⟨S4x4096x4096, .f32⟩
  | 20 => ⟨S4x4096x4096, .f32⟩
  | 21 => ⟨S4x4096x4096, .f32⟩
  | 22 => ⟨S4x4126x4096, .f32⟩
  | 23 => ⟨S1x4096, .f32⟩
  | 24 => ⟨S4096, .f32⟩
  | 25 => ⟨S4x4096x4096, .f32⟩
  | 26 => ⟨S1x1x4096, .f32⟩
  | 27 => ⟨S4x4096x4096, .f32⟩
  | 28 => ⟨S4x4096x4096, .f32⟩
  | 29 => ⟨S1x1x4096, .f32⟩
  | 30 => ⟨S4x4096x4096, .f32⟩
  | 31 => ⟨S4x4096x4096, .f32⟩
  | 32 => ⟨S1x4096, .f32⟩
  | 33 => ⟨S4096, .f32⟩
  | 34 => ⟨S4x4096x4096, .f32⟩
  | 35 => ⟨S1x1x4096, .f32⟩
  | 36 => ⟨S4x4096x4096, .f32⟩
  | 37 => ⟨S4x4096x4096, .f32⟩
  | 38 => ⟨S4x4096x4096, .f32⟩
  | 39 => ⟨S1x4096, .f32⟩
  | 40 => ⟨S4096, .f32⟩
  | 41 => ⟨S4x4096x4096, .f32⟩
  | 42 => ⟨S1x1x4096, .f32⟩
  | 43 => ⟨S4x4096x4096, .f32⟩
  | 44 => ⟨S4x4096x4096, .f32⟩
  | 45 => ⟨S4x4096x4096, .f32⟩
  | 46 => ⟨S1x4096, .f32⟩
  | 47 => ⟨S4096, .f32⟩
  | 48 => ⟨S4x4096x4096, .f32⟩
  | 49 => ⟨S1x1x4096, .f32⟩
  | 50 => ⟨S4x4096x4096, .f32⟩
  | 51 => ⟨S4x4096x4096, .f32⟩
  | 52 => ⟨S4x4096x4096, .f32⟩
  | 53 => ⟨S1x4096, .f32⟩
  | 54 => ⟨S4096, .f32⟩
  | 55 => ⟨S4x4096x4096, .f32⟩
  | 56 => ⟨S1x1x4096, .f32⟩
  | 57 => ⟨S4x4096x4096, .f32⟩
  | 58 => ⟨S4x4096x4096, .f32⟩
  | 59 => ⟨S4x4096x4096, .f32⟩
  | 60 => ⟨S1x4096, .f32⟩
  | 61 => ⟨S4096, .f32⟩
  | 62 => ⟨S4x4096x4096, .f32⟩
  | 63 => ⟨S1x1x4096, .f32⟩
  | 64 => ⟨S4x4096x4096, .f32⟩
  | 65 => ⟨S4x4096x4096, .f32⟩
  | 66 => ⟨S4x4096x4096, .f32⟩
  | 67 => ⟨S1x4096, .f32⟩
  | 68 => ⟨S4096, .f32⟩
  | 69 => ⟨S4x4096x4096, .f32⟩
  | 70 => ⟨S1x1x4096, .f32⟩
  | 71 => ⟨S4x4096x4096, .f32⟩
  | 72 => ⟨S4x4096x4096, .f32⟩
  | 73 => ⟨S4x4096x4096, .f32⟩
  | 74 => ⟨S1x4096, .f32⟩
  | 75 => ⟨S4096, .f32⟩
  | 76 => ⟨S4x4096x4096, .f32⟩
  | 77 => ⟨S1x1x4096, .f32⟩
  | 78 => ⟨S4x4096x4096, .f32⟩
  | 79 => ⟨S4x4096x4096, .f32⟩
  | 80 => ⟨S4x4096x4096, .f32⟩
  | 81 => ⟨S1x4096, .f32⟩
  | 82 => ⟨S4096, .f32⟩
  | 83 => ⟨S4x4096x4096, .f32⟩
  | 84 => ⟨S1x1x4096, .f32⟩
  | 85 => ⟨S4x4096x4096, .f32⟩
  | 86 => ⟨S4x4096x4096, .f32⟩
  | 87 => ⟨S4x4096x4096, .f32⟩
  | 88 => ⟨S1x4096, .f32⟩
  | 89 => ⟨S4096, .f32⟩
  | 90 => ⟨S4x4096x4096, .f32⟩
  | 91 => ⟨S1x1x4096, .f32⟩
  | 92 => ⟨S4x4096x4096, .f32⟩
  | 93 => ⟨S4x4096x4096, .f32⟩
  | 94 => ⟨S4x4096x4096, .f32⟩
  | 95 => ⟨S1x4096, .f32⟩
  | 96 => ⟨S4096, .f32⟩
  | 97 => ⟨S4x4096x4096, .f32⟩
  | 98 => ⟨S1x1x4096, .f32⟩
  | 99 => ⟨S4x4096x4096, .f32⟩
  | 100 => ⟨S4x4096x4096, .f32⟩
  | 101 => ⟨S4x4096x4096, .f32⟩
  | 102 => ⟨S1x4096, .f32⟩
  | 103 => ⟨S4096, .f32⟩
  | 104 => ⟨S4x4096x4096, .f32⟩
  | 105 => ⟨S1x1x4096, .f32⟩
  | 106 => ⟨S4x4096x4096, .f32⟩
  | 107 => ⟨S4x4096x4096, .f32⟩
  | 108 => ⟨S4x4096x4096, .f32⟩
  | 109 => ⟨S1x4096, .f32⟩
  | 110 => ⟨S4096, .f32⟩
  | 111 => ⟨S4x4096x4096, .f32⟩
  | 112 => ⟨S1x1x4096, .f32⟩
  | 113 => ⟨S4x4096x4096, .f32⟩
  | 114 => ⟨S4x4096x4096, .f32⟩
  | 115 => ⟨S4x4096x4096, .f32⟩
  | 116 => ⟨S1x4096, .f32⟩
  | 117 => ⟨S4096, .f32⟩
  | 118 => ⟨S4x4096x4096, .f32⟩
  | 119 => ⟨S1x1x4096, .f32⟩
  | 120 => ⟨S4x4096x4096, .f32⟩
  | 121 => ⟨S4x4096x4096, .f32⟩
  | 122 => ⟨S4x4096x4096, .f32⟩
  | 123 => ⟨S1x4096, .f32⟩
  | 124 => ⟨S4096, .f32⟩
  | 125 => ⟨S4x4096x4096, .f32⟩
  | 126 => ⟨S1x1x4096, .f32⟩
  | 127 => ⟨S4x4096x4096, .f32⟩
  | _ => ⟨S4x4096x28672, .bf16⟩

abbrev hbmTy0_1 (i : Nat) : BufTy := match i % 128 with
  | 0 => ⟨S4x4096x4096, .f32⟩
  | 1 => ⟨S4x4096x4096, .f32⟩
  | 2 => ⟨S1x4096, .f32⟩
  | 3 => ⟨S4096, .f32⟩
  | 4 => ⟨S4x4096x4096, .f32⟩
  | 5 => ⟨S1x1x4096, .f32⟩
  | 6 => ⟨S4x4096x4096, .f32⟩
  | 7 => ⟨S4x4096x4096, .f32⟩
  | 8 => ⟨S4x4096x4096, .f32⟩
  | 9 => ⟨S1x4096, .f32⟩
  | 10 => ⟨S4096, .f32⟩
  | 11 => ⟨S4x4096x4096, .f32⟩
  | 12 => ⟨S1x1x4096, .f32⟩
  | 13 => ⟨S4x4096x4096, .f32⟩
  | 14 => ⟨S4x4096x4096, .f32⟩
  | 15 => ⟨S4x4096x4096, .f32⟩
  | 16 => ⟨S1x4096, .f32⟩
  | 17 => ⟨S4096, .f32⟩
  | 18 => ⟨S4x4096x4096, .f32⟩
  | 19 => ⟨S1x1x4096, .f32⟩
  | 20 => ⟨S4x4096x4096, .f32⟩
  | 21 => ⟨S4x4096x4096, .f32⟩
  | 22 => ⟨S4x4096x4096, .f32⟩
  | 23 => ⟨S1x4096, .f32⟩
  | 24 => ⟨S4096, .f32⟩
  | 25 => ⟨S4x4096x4096, .f32⟩
  | 26 => ⟨S1x1x4096, .f32⟩
  | 27 => ⟨S4x4096x4096, .f32⟩
  | 28 => ⟨S4x4096x4096, .f32⟩
  | 29 => ⟨S4x4096x4096, .f32⟩
  | 30 => ⟨S1x4096, .f32⟩
  | 31 => ⟨S4096, .f32⟩
  | 32 => ⟨S4x4096x4096, .f32⟩
  | 33 => ⟨S1x1x4096, .f32⟩
  | 34 => ⟨S4x4096x4096, .f32⟩
  | 35 => ⟨S4x4096x4096, .f32⟩
  | 36 => ⟨S4x4096x4096, .f32⟩
  | 37 => ⟨S1x4096, .f32⟩
  | 38 => ⟨S4096, .f32⟩
  | 39 => ⟨S4x4096x4096, .f32⟩
  | 40 => ⟨S1x1x4096, .f32⟩
  | 41 => ⟨S4x4096x4096, .f32⟩
  | 42 => ⟨S4x4096x4096, .f32⟩
  | 43 => ⟨S4x4096x4096, .f32⟩
  | 44 => ⟨S1x4096, .f32⟩
  | 45 => ⟨S4096, .f32⟩
  | 46 => ⟨S4x4096x4096, .f32⟩
  | 47 => ⟨S1x1x4096, .f32⟩
  | 48 => ⟨S4x4096x4096, .f32⟩
  | 49 => ⟨S4x4096x4096, .f32⟩
  | 50 => ⟨S4x4096x4096, .f32⟩
  | 51 => ⟨S1x4096, .f32⟩
  | 52 => ⟨S4096, .f32⟩
  | 53 => ⟨S4x4096x4096, .f32⟩
  | 54 => ⟨S1x1x4096, .f32⟩
  | 55 => ⟨S4x4096x4096, .f32⟩
  | 56 => ⟨S4x4096x4096, .f32⟩
  | 57 => ⟨S4x4096x4096, .f32⟩
  | 58 => ⟨S1x4096, .f32⟩
  | 59 => ⟨S4096, .f32⟩
  | 60 => ⟨S4x4096x4096, .f32⟩
  | 61 => ⟨S1x1x4096, .f32⟩
  | 62 => ⟨S4x4096x4096, .f32⟩
  | 63 => ⟨S4x4096x4096, .f32⟩
  | 64 => ⟨S4x4096x4096, .f32⟩
  | 65 => ⟨S1x4096, .f32⟩
  | 66 => ⟨S4096, .f32⟩
  | 67 => ⟨S4x4096x4096, .f32⟩
  | 68 => ⟨S1x1x4096, .f32⟩
  | 69 => ⟨S4x4096x4096, .f32⟩
  | 70 => ⟨S4x4096x4096, .f32⟩
  | 71 => ⟨S4x4096x4096, .f32⟩
  | 72 => ⟨S1x4096, .f32⟩
  | 73 => ⟨S4096, .f32⟩
  | 74 => ⟨S4x4096x4096, .f32⟩
  | 75 => ⟨S1x1x4096, .f32⟩
  | 76 => ⟨S4x4096x4096, .f32⟩
  | 77 => ⟨S4x4096x4096, .f32⟩
  | 78 => ⟨S4x4096x4096, .f32⟩
  | 79 => ⟨S1x4096, .f32⟩
  | 80 => ⟨S4096, .f32⟩
  | 81 => ⟨S4x4096x4096, .f32⟩
  | 82 => ⟨S1x1x4096, .f32⟩
  | 83 => ⟨S4x4096x4096, .f32⟩
  | 84 => ⟨S4x4096x4096, .f32⟩
  | 85 => ⟨S4x4096x4096, .f32⟩
  | 86 => ⟨S1x4096, .f32⟩
  | 87 => ⟨S4096, .f32⟩
  | 88 => ⟨S4x4096x4096, .f32⟩
  | 89 => ⟨S1x1x4096, .f32⟩
  | 90 => ⟨S4x4096x4096, .f32⟩
  | 91 => ⟨S4x4096x4096, .f32⟩
  | 92 => ⟨S4x4096x4096, .f32⟩
  | 93 => ⟨S1x4096, .f32⟩
  | 94 => ⟨S4096, .f32⟩
  | 95 => ⟨S4x4096x4096, .f32⟩
  | 96 => ⟨S1x1x4096, .f32⟩
  | 97 => ⟨S4x4096x4096, .f32⟩
  | 98 => ⟨S4x4096x4096, .f32⟩
  | 99 => ⟨S4x4096x4096, .f32⟩
  | 100 => ⟨S1x4096, .f32⟩
  | 101 => ⟨S4096, .f32⟩
  | 102 => ⟨S4x4096x4096, .f32⟩
  | 103 => ⟨S1x1x4096, .f32⟩
  | 104 => ⟨S4x4096x4096, .f32⟩
  | 105 => ⟨S4x4096x4096, .f32⟩
  | 106 => ⟨S4x4096x4096, .f32⟩
  | 107 => ⟨S1x4096, .f32⟩
  | 108 => ⟨S4096, .f32⟩
  | 109 => ⟨S4x4096x4096, .f32⟩
  | 110 => ⟨S1x1x4096, .f32⟩
  | 111 => ⟨S4x4096x4096, .f32⟩
  | 112 => ⟨S4x4096x4096, .f32⟩
  | 113 => ⟨S4x4096x4096, .f32⟩
  | 114 => ⟨S_, .f32⟩
  | 115 => ⟨S4x4096, .f32⟩
  | 116 => ⟨S4x4096x1, .f32⟩
  | 117 => ⟨S_, .f32⟩
  | 118 => ⟨S4x4096x1, .f32⟩
  | 119 => ⟨S4x4096x1, .f32⟩
  | 120 => ⟨S4x4096x4096, .f32⟩
  | 121 => ⟨S4x4096x4096, .f32⟩
  | 122 => ⟨S4x4096x4096, .f32⟩
  | 123 => ⟨S_, .f32⟩
  | 124 => ⟨S4x4096, .f32⟩
  | 125 => ⟨S4x4096x1, .f32⟩
  | 126 => ⟨S_, .f32⟩
  | 127 => ⟨S4x4096x1, .f32⟩
  | _ => ⟨S4x4096x28672, .bf16⟩

abbrev hbmTy0_2 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S4x4096x1, .f32⟩
  | 5 => ⟨S4x4096x4096, .f32⟩
  | 6 => ⟨S4x4096x4096, .f32⟩
  | 7 => ⟨S1x1x4096, .f32⟩
  | 8 => ⟨S4x4096x4096, .f32⟩
  | 9 => ⟨S4x4096x4096, .f32⟩
  | 10 => ⟨S1x1x4096, .f32⟩
  | 11 => ⟨S4x4096x4096, .f32⟩
  | 12 => ⟨S4x4096x4096, .f32⟩
  | 13 => ⟨S4x4096x4096, .f32⟩
  | 14 => ⟨S4x4096x4096, .f32⟩
  | 15 => ⟨S_, .f32⟩
  | 16 => ⟨S4x4096x4096, .f32⟩
  | 17 => ⟨S4x4096x4096, .f32⟩
  | 18 => ⟨S_, .f32⟩
  | 19 => ⟨S4x4096x4096, .f32⟩
  | 20 => ⟨S4x4096x4096, .f32⟩
  | 21 => ⟨S4x4096x4096, .f32⟩
  | 22 => ⟨S4x4096x4096, .f32⟩
  | 23 => ⟨S4x4096x4096, .f32⟩
  | 24 => ⟨S_, .f32⟩
  | 25 => ⟨S4x4096x4096, .f32⟩
  | 26 => ⟨S4x4096x4096, .f32⟩
  | 27 => ⟨S_, .f32⟩
  | 28 => ⟨S4x4096x4096, .f32⟩
  | 29 => ⟨S4x4096x4096, .f32⟩
  | 30 => ⟨S4x4096x4096, .f32⟩
  | 31 => ⟨S4x4096x4096, .f32⟩
  | 32 => ⟨S4x4096x4096, .bf16⟩
  | _ => ⟨S4x4096x28672, .bf16⟩

abbrev hbmTy (i : Nat) : BufTy := match i / 128 with
  | 0 => hbmTy0_0 i
  | 1 => hbmTy0_1 i
  | 2 => hbmTy0_2 i
  | _ => ⟨S4x4096x28672, .bf16⟩

abbrev bufTy : (tb : Table) → Fin (tcTables nBuf tb) → BufTy
  | .hbm, ⟨i, _⟩ => hbmTy i
  | _, _ => ⟨S4x4096x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_cst_2 : Ref sig .tc := ⟨.hbm, 242, rfl⟩
abbrev main_v234 : Ref sig .tc := ⟨.hbm, 243, rfl⟩
abbrev main_v235 : Ref sig .tc := ⟨.hbm, 244, rfl⟩
abbrev main_cst_3 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_cst_4 : Ref sig .tc := ⟨.hbm, 251, rfl⟩
abbrev main_v241 : Ref sig .tc := ⟨.hbm, 252, rfl⟩
abbrev main_v242 : Ref sig .tc := ⟨.hbm, 253, rfl⟩
abbrev main_cst_5 : Ref sig .tc := ⟨.hbm, 254, rfl⟩
abbrev main_v243 : Ref sig .tc := ⟨.hbm, 255, rfl⟩
abbrev main_v244 : Ref sig .tc := ⟨.hbm, 256, rfl⟩
abbrev main_cst_6 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v256 : Ref sig .tc := ⟨.hbm, 277, rfl⟩
abbrev main_call1_v0 : Ref sig .tc := ⟨.hbm, 278, rfl⟩
abbrev main_call1_v1 : Ref sig .tc := ⟨.hbm, 279, rfl⟩
abbrev main_call1_cst : Ref sig .tc := ⟨.hbm, 280, rfl⟩
abbrev main_call1_v2 : Ref sig .tc := ⟨.hbm, 281, rfl⟩
abbrev main_call1_v3 : Ref sig .tc := ⟨.hbm, 282, rfl⟩
abbrev main_call1_cst_0 : Ref sig .tc := ⟨.hbm, 283, rfl⟩
abbrev main_call1_v4 : Ref sig .tc := ⟨.hbm, 284, rfl⟩
abbrev main_call1_v5 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩

abbrev nD : Nat := 1
abbrev τ : Topo := Topo.v7x

variable {F : FTy → Type} [FloatOps F]
-- ==== Ssd.lean ====
abbrev S4x4096x10240 : Shape := ⟨3, ![4, 4096, 10240]⟩
abbrev S4x6144 : Shape := ⟨2, ![4, 6144]⟩
abbrev S6144 : Shape := ⟨1, ![6144]⟩
abbrev S4x64x4096 : Shape := ⟨3, ![4, 64, 4096]⟩
abbrev S64 : Shape := ⟨1, ![64]⟩
abbrev S4096 : Shape := ⟨1, ![4096]⟩
abbrev S1x6144 : Shape := ⟨2, ![1, 6144]⟩
abbrev S64x64 : Shape := ⟨2, ![64, 64]⟩
abbrev S1x4096 : Shape := ⟨2, ![1, 4096]⟩
abbrev S4x8x8x4096 : Shape := ⟨4, ![4, 8, 8, 4096]⟩
abbrev S4x8x4096x8 : Shape := ⟨4, ![4, 8, 4096, 8]⟩
abbrev S4x4096x4096 : Shape := ⟨3, ![4, 4096, 4096]⟩
abbrev S1x128x1024 : Shape := ⟨3, ![1, 128, 1024]⟩
abbrev S1x128x256 : Shape := ⟨3, ![1, 128, 256]⟩
abbrev S4x1024 : Shape := ⟨2, ![4, 1024]⟩
abbrev S4x256 : Shape := ⟨2, ![4, 256]⟩
abbrev S1x1024 : Shape := ⟨2, ![1, 1024]⟩
abbrev S1x256 : Shape := ⟨2, ![1, 256]⟩
abbrev S1x16x128 : Shape := ⟨3, ![1, 16, 128]⟩
abbrev S1x2x128x8 : Shape := ⟨4, ![1, 2, 128, 8]⟩
abbrev S2x128x512 : Shape := ⟨3, ![2, 128, 512]⟩
abbrev S136x1024 : Shape := ⟨2, ![136, 1024]⟩
abbrev S136x256 : Shape := ⟨2, ![136, 256]⟩
abbrev S8x1024 : Shape := ⟨2, ![8, 1024]⟩
abbrev S128x1024 : Shape := ⟨2, ![128, 1024]⟩
abbrev S8x256 : Shape := ⟨2, ![8, 256]⟩
abbrev S128x256 : Shape := ⟨2, ![128, 256]⟩
abbrev S128x128 : Shape := ⟨2, ![128, 128]⟩
abbrev S1x128 : Shape := ⟨2, ![1, 128]⟩
abbrev S128x512 : Shape := ⟨2, ![128, 512]⟩
abbrev S1x128x512 : Shape := ⟨3, ![1, 128, 512]⟩
abbrev S1x1x128x8 : Shape := ⟨4, ![1, 1, 128, 8]⟩
abbrev S128x8 : Shape := ⟨2, ![128, 8]⟩
abbrev S128x1 : Shape := ⟨2, ![128, 1]⟩
abbrev S1x1x128 : Shape := ⟨3, ![1, 1, 128]⟩
abbrev S256x128 : Shape := ⟨2, ![256, 128]⟩
abbrev S1x1 : Shape := ⟨2, ![1, 1]⟩
abbrev S1x512 : Shape := ⟨2, ![1, 512]⟩
abbrev S128 : Shape := ⟨1, ![128]⟩

abbrev nBuf : Space → Nat
  | .hbm => 17
  | .vmem => 38
  | .smem => 0
  | _ => 0

abbrev bufTy : (tb : Table) → Fin (tcTables nBuf tb) → BufTy
  | .hbm, ⟨0, _⟩ => ⟨S4x4096x10240, .bf16⟩
  | .hbm, ⟨1, _⟩ => ⟨S4x6144, .f32⟩
  | .hbm, ⟨2, _⟩ => ⟨S6144, .f32⟩
  | .hbm, ⟨3, _⟩ => ⟨S4x64x4096, .f32⟩
  | .hbm, ⟨4, _⟩ => ⟨S4x64x4096, .f32⟩
  | .hbm, ⟨5, _⟩ => ⟨S64, .f32⟩
  | .hbm, ⟨6, _⟩ => ⟨S4096, .f32⟩
  | .hbm, ⟨7, _⟩ => ⟨S1x6144, .f32⟩
  | .hbm, ⟨8, _⟩ => ⟨S64x64, .f32⟩
  | .hbm, ⟨9, _⟩ => ⟨S4096, .f32⟩
  | .hbm, ⟨10, _⟩ => ⟨S1x4096, .f32⟩
  | .hbm, ⟨11, _⟩ => ⟨S4x8x8x4096, .f32⟩
  | .hbm, ⟨12, _⟩ => ⟨S4x8x4096x8, .f32⟩
  | .hbm, ⟨13, _⟩ => ⟨S4x8x8x4096, .f32⟩
  | .hbm, ⟨14, _⟩ => ⟨S4x8x4096x8, .f32⟩
  | .hbm, ⟨15, _⟩ => ⟨S1x4096, .f32⟩
  | .hbm, ⟨16, _⟩ => ⟨S4x4096x4096, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x1024, .bf16⟩
  | .local _ .vmem, ⟨7, _⟩ => ⟨S1x128x1024, .bf16⟩
  | .local _ .vmem, ⟨8, _⟩ => ⟨S4x1024, .f32⟩
  | .local _ .vmem, ⟨9, _⟩ => ⟨S4x1024, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S4x256, .f32⟩
  | .local _ .vmem, ⟨14, _⟩ => ⟨S1x1024, .f32⟩
  | .local _ .vmem, ⟨15, _⟩ => ⟨S1x1024, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x16x128, .f32⟩
  | .local _ .vmem, ⟨21, _⟩ => ⟨S1x16x128, .f32⟩
  | .local _ .vmem, ⟨22, _⟩ => ⟨S1x16x128, .f32⟩
  | .local _ .vmem, ⟨23, _⟩ => ⟨S1x16x128, .f32⟩
  | .local _ .vmem, ⟨24, _⟩ => ⟨S1x2x128x8, .f32⟩
  | .local _ .vmem, ⟨25, _⟩ => ⟨S1x2x128x8, .f32⟩
  | .local _ .vmem, ⟨26, _⟩ => ⟨S1x2x128x8, .f32⟩
  | .local _ .vmem, ⟨27, _⟩ => ⟨S1x2x128x8, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x128x1024, .bf16⟩
  | .local _ .vmem, ⟨33, _⟩ => ⟨S1x128x1024, .bf16⟩
  | .local _ .vmem, ⟨34, _⟩ => ⟨S2x128x512, .f32⟩
  | .local _ .vmem, ⟨35, _⟩ => ⟨S136x1024, .f32⟩
  | .local _ .vmem, ⟨36, _⟩ => ⟨S136x256, .f32⟩
  | .local _ .vmem, ⟨37, _⟩ => ⟨S136x256, .f32⟩
  | _, _ => ⟨S4x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![4, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2x128x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x2x128x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S1x128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== Proof.InProjValue.lean ====
/- The wide input projection over the extended reals: the array that the kernel leaves is the product of the normed rows with
   the layer's weights, whose transposed block the kernel keeps in a scratch over the row blocks. -/
module

public import proofs.«01_k».proof.Defs
public import proofs.«01_k».proof.Proof.Gen.InProjIdeal.Value
public import proofs.«01_k».proof.Proof.Gen.InProjReferenceIdeal.Run
public import proofs.«01_k».proof.Proof.Gen.InProjReferenceIdeal.Read
public import Idealize.ShloMosaic.Lib.Pointwise
public import Idealize.ShloMosaic.Lib.Pipeline.Value
public import Idealize.ShloMosaic.Lib.Pipeline.ValueKit
public import Idealize.ShloMosaic.Lib.Pipeline.ValueKit.Held
public import Idealize.ShloMosaic.Lib.Pipeline.Covers

@[expose] public section

set_option maxRecDepth 16384
noncomputable section

namespace Cert.InProjValue

open Cert.InProjIdeal Cert.InProjIdeal.Gen Idealize.ShloMosaic Idealize.ShloMosaic.TcCoe Idealize.SL.Sem

/-- The block that each window takes at a grid point: 16 row blocks to each column block. -/
theorem blocks : ∀ t : Fin cfg0.N,
    win0_0.index t = ![t.val % 16, 0] ∧ win0_1.index t = ![0, t.val / 16, 0] ∧ win0_2.index t = ![t.val % 16, t.val / 16] :=
  (by decide +kernel : ∀ t : Fin grid0.N, _)

/-- Every result lies in the block of some grid point. -/
theorem covered : (cfg0.win 2).Covers := by
  decide +kernel

/-- The weights as the scratch keeps them. -/
theorem pay1 (w : Vec Ideal S1x512x4096 .f32) (l : Fin 512) (k : Fin 4096) : k0_pay1 (F := Ideal) w (ix2 l k) = w (ix3 0 l k) := by
  pointwise [k0_pay1]
/-- What the body computes at an entry of its block. -/
theorem pay2 (x : Vec Ideal S1024x4096 .bf16) (w : Vec Ideal S512x4096 .bf16) (r : Fin 1024) (l : Fin 512) :
    k0_pay2 (F := Ideal) x w (ix2 r l) = ∑ k : Fin 4096, x (ix2 r k) * w (ix2 l k) := by
  pointwise [k0_pay2]

section Blocks

variable (m : (ℓ : Loc nD τ sig) → Buf (Elt Ideal) ℓ) (c : Dev nD) (p : Fin cfg0.N)

theorem bound : p.val < 896 := p.isLt

/-- The row and the column of the array for those of the block. -/
def row (r : Fin 1024) : Fin 16384 := ⟨p.val % 16 * 1024 + r.val, by omega⟩
def col (l : Fin 512) : Fin 28704 := ⟨p.val / 16 * 512 + l.val, by have := bound p; omega⟩
def colOut (l : Fin 512) : Fin 28672 := ⟨p.val / 16 * 512 + l.val, by have := bound p; omega⟩

theorem x_block (r : Fin 1024) (k : Fin 4096) : iblk (F := Ideal) m c 0 p (ix2 r k) = m ((c : Thread nD τ).loc main_arg0) (ix2 (row p r) k) := by
  obtain ⟨e, _, _⟩ := blocks p
  blk_ext [iblk, V, e, row]

/-- The place in the array of the weight at row `l`, column `k` of the block: the array's columns are not a whole number of
    blocks, but every block that a grid point takes lies inside it. -/
def place (l : Fin 512) (k : Fin 4096) : ((cfg0.win 1).xblock (cfg0.grid.coords p)).Idx :=
  fun a => ⟨(ix3 (0 : Fin 1) l k a).val, by
    show _ < (cfg0.win 1).xsize (cfg0.grid.coords p) a
    rw [xsize0_1 p a]; exact (ix3 (0 : Fin 1) l k a).isLt⟩

theorem w_block (l : Fin 512) (k : Fin 4096) : X0_1 (F := Ideal) m c p (ix3 0 l k)
    = m ((c : Thread nD τ).loc main_arg1) (ix3 0 k (col p l)) := by
  obtain ⟨_, e, _⟩ := blocks p
  have h : X0_1 (F := Ideal) m c p (ix3 0 l k) = V m c main_v0 (((cfg0.win 1).blk p).view.emb (place p l k)) :=
    (cfg0.win 1).fill_xinj (cfg0.grid.coords p) dflt0_1 (iblk m c 1 p) (place p l k)
  have hb : ((cfg0.win 1).blk p).view.emb (place p l k) = ix3 (0 : Fin 2) (col p l) k := by
    blk_ext [e, col, place]
  rw [h, hb]
  entry_read
  pointwise

section Runs

variable (i : grid0.Coords) (arg2 : Memref sig .tc .vmem S1024x4096 .bf16) (harg2 : arg2.IsWhole) (arg3 : Memref sig .tc .vmem S1x512x4096 .f32) (harg3 : arg3.IsWhole)
  (arg4 : Memref sig .tc .vmem S1024x512 .bf16) (harg4 : arg4.IsWhole) (arg5 : Memref sig .tc .vmem S512x4096 .bf16) (harg5 : arg5.IsWhole)
  (x0 : Vec Ideal S1024x4096 .bf16) (x1 : Vec Ideal S1x512x4096 .f32) (xs : Vec Ideal S512x4096 .bf16)

/-- The first point of a column block stores the weights and multiplies with them. -/
theorem first_out (hc : cond0_0 i) : out0_A_2 c i arg2 harg2 arg3 harg3 arg4 harg4 arg5 harg5 hc x0 x1 = k0_pay2 x0 (k0_pay1 x1) := by
  frame_out
theorem first_held (hc : cond0_0 i) : sout0_A_0 c i arg2 harg2 arg3 harg3 arg4 harg4 arg5 harg5 hc x0 x1 = k0_pay1 x1 := by
  frame_out
/-- Every other point multiplies with what the scratch holds. -/
theorem later_out (hc : ¬cond0_0 i) : out0_B_2 c i arg2 harg2 arg3 harg3 arg4 harg4 arg5 harg5 hc x0 x1 xs = k0_pay2 x0 xs := by
  frame_out

end Runs

/-- What the scratch holds after a grid point: the weights of its column block, stored at the block's first point. -/
theorem held (l : Fin 512) (k : Fin 4096) : (outsAt0 (F := Ideal) m c p.val p.isLt).2 (ix2 l k)
    = m ((c : Thread nD τ).loc main_arg1) (ix3 0 k (col p l)) := by
  have h := Pipeline.eq_of_write_hold (fun n h => (outsAt0 (F := Ideal) m c n h).2) 16 (fun t => k0_pay1 (X0_1 (F := Ideal) m c t))
    (fun t h0 => by rw [outsAt0_A m c t h0]; dsimp only; rw [first_held])
    (fun t h0 => by rw [outsAt0_B m c t h0]; rfl) p
  rw [h, pay1, w_block]
  refine congrArg _ (congrArg (ix3 0 k) (Fin.ext ?_))
  show 16 * (p.val / 16) / 16 * 512 + l.val = p.val / 16 * 512 + l.val
  omega

/-- What a grid point leaves in its block. -/
theorem out_eq : (outsAt0 (F := Ideal) m c p.val p.isLt).1 = k0_pay2 (iblk m c 0 p) ((outsAt0 (F := Ideal) m c p.val p.isLt).2) := by
  by_cases h0 : p.val % 16 = 0
  · rw [outsAt0_A m c p h0]
    dsimp only
    rw [first_out, first_held]
  · rw [outsAt0_B m c p h0]
    dsimp only
    rw [later_out]
    rfl

end Blocks

section Reference

open Cert.InProjReferenceIdeal.Read

variable (x : (⟨S16384x4096, .bf16⟩ : BufTy).Contents (Elt Ideal)) (w : (⟨S2x4096x28704, .f32⟩ : BufTy).Contents (Elt Ideal))
  (r : Fin 16384) (l : Fin 28672)

/-- The weights of the layer. -/
theorem weights (k : Fin 4096) : val_main_v2 (F := Ideal) w (ix2 k l) = w (ix3 0 k (⟨l.val, by omega⟩ : Fin 28704)) := by
  pointwise [val_main_v2, val_main_v1]

/-- The reference at an entry. -/
theorem ref_value : val_main_v4 (F := Ideal) x w (ix2 r l) = ∑ k : Fin 4096, x (ix2 r k) * w (ix3 0 k (⟨l.val, by omega⟩ : Fin 28704)) := by
  rw [val_main_v4_apply]
  refine (val_main_v3_apply x w (ix2 r l)).trans (Finset.sum_congr rfl fun k _ => ?_)
  rw [← weights w l k]
  congr 1
  exact congrArg _ (by funext a; fin_cases a <;> rfl)

end Reference

/-- The array that the kernel leaves is the reference's. -/
theorem array_value (m : (ℓ : Loc nD τ sig) → Buf (Elt Ideal) ℓ) (c : Dev nD) :
    (dats m 0 c).arrAt 2 cfg0.N
      = Cert.InProjReferenceIdeal.Read.val_main_v4 (F := Ideal) (m ((c : Thread nD τ).loc main_arg0)) (m ((c : Thread nD τ).loc main_arg1)) := by
  refine (dats m 0 c).arrAt_eq_of_covers 2 _ covered fun t hf y => ?_
  blk_simp
  rw [after0_2, out_eq]
  have key : ∀ y : S1024x512.Idx, k0_pay2 (F := Ideal) (iblk m c 0 t) ((outsAt0 (F := Ideal) m c t.val t.isLt).2) y
      = Cert.InProjReferenceIdeal.Read.val_main_v4 (F := Ideal) (m ((c : Thread nD τ).loc main_arg0)) (m ((c : Thread nD τ).loc main_arg1))
          ((win0_2.blk t).view.emb y) := by
    intro y
    obtain ⟨_, _, e⟩ := blocks t
    have h0 : (y 0).val < 1024 := (y 0).isLt
    have h1 : (y 1).val < 512 := (y 1).isLt
    have hy : y = ix2 (⟨(y 0).val, h0⟩ : Fin 1024) (⟨(y 1).val, h1⟩ : Fin 512) := by
      funext a
      match a with
      | ⟨0, _⟩ => rfl
      | ⟨1, _⟩ => rfl
    have hb : (win0_2.blk t).view.emb y = ix2 (row t ⟨(y 0).val, h0⟩) (colOut t ⟨(y 1).val, h1⟩) := by
      blk_ext [e, row, colOut]
    rw [hb, ref_value]
    conv_lhs => rw [hy]
    rw [pay2]
    simp only [x_block, held]
    rfl
  exact key y

/-- The reference runs, leaves its arguments alone and every counter at zero. -/
theorem frame_ref : Cert.quiescent_InProjReferenceIdeal := fun m g _ =>
  (θ_run Cert.InProjReferenceIdeal.defs _ _).mono
    (fun r h => ⟨fun c => (h c).2, sem_eq_zero_of_no_sems (by decide) r.2⟩)
    (Cert.InProjReferenceIdeal.Value.run (F := Ideal) m g)

/-- Both programs run, from equal arguments, to equal results with their arguments unchanged. -/
theorem algebraic : Cert.algebraic_InProjIdeal_InProjReferenceIdeal := by
  intro m g m' g' _ hag
  refine ⟨fun c => (dats m 0 c).arrAt 2 cfg0.N, Cert.InProjIdeal.Value.run_blocks m g, ?_⟩
  refine (θ_run Cert.InProjReferenceIdeal.defs _ _).mono (fun r h c => ⟨?_, (h c).2⟩) (Cert.InProjReferenceIdeal.Value.run (F := Ideal) m' g')
  refine (h c).1.trans ?_
  rw [Cert.InProjReferenceIdeal.Read.val_main_v4_eq, (hag c).1, (hag c).2]
  exact (array_value m c).symm

end Cert.InProjValue
-- ==== Proof.OutProjValue.lean ====
/- The output projection over the extended reals: the array that the kernel leaves is the residual plus the product of the
   two joined halves with the weights. -/
module

public import proofs.«01_k».proof.Defs
public import proofs.«01_k».proof.Proof.Gen.OutProjIdeal.Value
public import proofs.«01_k».proof.Proof.Gen.OutProjReferenceIdeal.Run
public import proofs.«01_k».proof.Proof.Gen.OutProjReferenceIdeal.Read
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384
noncomputable section

namespace Cert.OutProjValue

open Cert.OutProjIdeal Cert.OutProjIdeal.Gen Idealize.ShloMosaic Idealize.ShloMosaic.TcCoe Idealize.SL.Sem

/-- The block that each window takes at a grid point (row block, column block). -/
theorem blocks : ∀ t : Fin cfg0.N,
    (win0_0.index t = ![(grid0.coords t 0).val, 0]
    ∧ win0_1.index t = ![(grid0.coords t 0).val, 0]
    ∧ win0_2.index t = ![0, 0, (grid0.coords t 1).val])
    ∧ win0_3.index t = ![0, 1, (grid0.coords t 1).val]
    ∧ win0_4.index t = ![(grid0.coords t 0).val, (grid0.coords t 1).val]
    ∧ win0_5.index t = ![(grid0.coords t 0).val, (grid0.coords t 1).val] :=
  (by decide +kernel : ∀ t : Fin grid0.N, _)

/-- Every result lies in the block of some grid point. -/
theorem covered : (cfg0.win 5).Covers := by
  decide +kernel

/-- What the body computes at an entry of its block. -/
theorem pay (x : Vec Ideal S1024x256 .f32) (ya yb : Vec Ideal S1024x4096 .bf16) (wa wb : Vec Ideal S1x4096x256 .bf16) (r : Fin 1024) (l : Fin 256) :
    k0_pay1 (F := Ideal) x ya wa yb wb (ix2 r l)
      = x (ix2 r l) + (∑ k : Fin 4096, ya (ix2 r k) * wa (ix3 0 k l)) + ∑ k : Fin 4096, yb (ix2 r k) * wb (ix3 0 k l) := by
  pointwise [k0_pay1]

section Blocks

variable (m : (ℓ : Loc nD τ sig) → Buf (Elt Ideal) ℓ) (c : Dev nD) (p : Fin cfg0.N)

theorem c0 : (grid0.coords p 0).val < 16 := (grid0.coords p 0).isLt
theorem c1 : (grid0.coords p 1).val < 16 := (grid0.coords p 1).isLt

/-- The row and the column of the array for those of the block. -/
def row (r : Fin 1024) : Fin 16384 := ⟨(grid0.coords p 0).val * 1024 + r.val, by have := c0 p; omega⟩
def col (l : Fin 256) : Fin 4096 := ⟨(grid0.coords p 1).val * 256 + l.val, by have := c1 p; omega⟩

theorem ya_block (r : Fin 1024) (k : Fin 4096) : iblk (F := Ideal) m c 0 p (ix2 r k) = m ((c : Thread nD τ).loc main_arg0) (ix2 (row p r) k) := by
  obtain ⟨⟨e, _, _⟩, _, _, _⟩ := blocks p
  blk_ext [iblk, V, e, row, col]
theorem yb_block (r : Fin 1024) (k : Fin 4096) : iblk (F := Ideal) m c 1 p (ix2 r k) = m ((c : Thread nD τ).loc main_arg1) (ix2 (row p r) k) := by
  obtain ⟨⟨_, e, _⟩, _, _, _⟩ := blocks p
  blk_ext [iblk, V, e, row, col]
theorem x_block (r : Fin 1024) (l : Fin 256) : iblk (F := Ideal) m c 4 p (ix2 r l) = m ((c : Thread nD τ).loc main_arg3) (ix2 (row p r) (col p l)) := by
  obtain ⟨_, _, e, _⟩ := blocks p
  blk_ext [iblk, V, e, row, col]
theorem wa_block (k : Fin 4096) (l : Fin 256) : iblk (F := Ideal) m c 2 p (ix3 0 k l)
    = m ((c : Thread nD τ).loc main_arg2) (ix3 0 (⟨k.val, by omega⟩ : Fin 8192) (col p l)) := by
  obtain ⟨⟨_, _, e⟩, _, _, _⟩ := blocks p
  show V m c main_v0 (((cfg0.win 2).blk p).view.emb (ix3 0 k l)) = _
  rw [show ((cfg0.win 2).blk p).view.emb (ix3 0 k l) = ix3 (0 : Fin 2) (⟨k.val, by omega⟩ : Fin 8192) (col p l) from by
    blk_ext [e, col]]
  entry_read
  pointwise
theorem wb_block (k : Fin 4096) (l : Fin 256) : iblk (F := Ideal) m c 3 p (ix3 0 k l)
    = m ((c : Thread nD τ).loc main_arg2) (ix3 0 (⟨4096 + k.val, by omega⟩ : Fin 8192) (col p l)) := by
  obtain ⟨_, e, _, _⟩ := blocks p
  show V m c main_v0 (((cfg0.win 3).blk p).view.emb (ix3 0 k l)) = _
  rw [show ((cfg0.win 3).blk p).view.emb (ix3 0 k l) = ix3 (0 : Fin 2) (⟨4096 + k.val, by omega⟩ : Fin 8192) (col p l) from by
    blk_ext [e, col]]
  entry_read
  pointwise

/-- What a grid point leaves in its block. -/
theorem out_eq (x0 x1 : Vec Ideal S1024x4096 .bf16) (x2 x3 : Vec Ideal S1x4096x256 .bf16) (x4 : Vec Ideal S1024x256 .f32) :
    out0_5 (F := Ideal) x0 x1 x2 x3 x4 = k0_pay1 x4 x0 x2 x1 x3 := by
  unfold out0_5
  rw [View.canon_unit_zero (S := S1024x256) (by funext a; fin_cases a <;> rfl)]
  simp only [View.ld_unit_zero (S := S1024x256) (off := ![0, 0]) (by funext a; fin_cases a <;> rfl),
    View.ld_unit_zero (S := S1024x4096) (off := ![0, 0]) (by funext a; fin_cases a <;> rfl),
    View.ld_unit_zero (S := S1x4096x256) (off := ![0, 0, 0]) (by funext a; fin_cases a <;> rfl)]

end Blocks

/-- A sum over twice `n` terms is the sum over the first `n` and over the last. -/
theorem sum_halves (n N : ℕ) (h : N = n + n) (f : Fin N → EReal) :
    ∑ k, f k = (∑ k : Fin n, f ⟨k.val, by omega⟩) + ∑ k : Fin n, f ⟨n + k.val, by omega⟩ := by
  subst h
  exact Fin.sum_univ_add f

section Reference

open Cert.OutProjReferenceIdeal.Read

variable (ya yb : (⟨S16384x4096, .bf16⟩ : BufTy).Contents (Elt Ideal)) (w : (⟨S2x8192x4096, .f32⟩ : BufTy).Contents (Elt Ideal))
  (x : (⟨S16384x4096, .f32⟩ : BufTy).Contents (Elt Ideal)) (r : Fin 16384) (l : Fin 4096)

/-- The joined halves: the first 4096 columns are the first half's, the others the second's. -/
theorem joined_left (k : Fin 4096) : val_main_v1 (F := Ideal) ya yb (ix2 r (⟨k.val, by omega⟩ : Fin 8192)) = ya (ix2 r k) := by
  pointwise [val_main_v1, val_main_v0]
theorem joined_right (k : Fin 4096) : val_main_v1 (F := Ideal) ya yb (ix2 r (⟨4096 + k.val, by omega⟩ : Fin 8192)) = yb (ix2 r k) := by
  pointwise [val_main_v1, val_main_v0]
/-- The weights of the layer. -/
theorem weights (k : Fin 8192) : val_main_v3 (F := Ideal) w (ix2 k l) = w (ix3 0 k l) := by
  pointwise [val_main_v3, val_main_v2]

/-- The reference at an entry: the residual plus one sum over the joined halves. -/
theorem ref_value :
    val_main_v5 (F := Ideal) ya yb w x (ix2 r l)
      = x (ix2 r l) + (∑ k : Fin 4096, ya (ix2 r k) * w (ix3 0 (⟨k.val, by omega⟩ : Fin 8192) l))
        + ∑ k : Fin 4096, yb (ix2 r k) * w (ix3 0 (⟨4096 + k.val, by omega⟩ : Fin 8192) l) := by
  rw [val_main_v5_apply, val_main_v4_apply]
  have h : ∀ k : Fin 8192, val_main_v1 (F := Ideal) ya yb (lidx_main_v4 (ix2 r l) k) * val_main_v3 (F := Ideal) w (ridx_main_v4 (ix2 r l) k)
      = val_main_v1 (F := Ideal) ya yb (ix2 r k) * w (ix3 0 k l) := by
    intro k
    rw [← weights w l k]
    congr 1
    exact congrArg _ (by funext a; fin_cases a <;> rfl)
  rw [Finset.sum_congr rfl fun k _ => h k]
  rw [show (∑ k : Fin 8192, val_main_v1 (F := Ideal) ya yb (ix2 r k) * w (ix3 0 k l))
      = (∑ k : Fin 4096, ya (ix2 r k) * w (ix3 0 (⟨k.val, by omega⟩ : Fin 8192) l))
        + ∑ k : Fin 4096, yb (ix2 r k) * w (ix3 0 (⟨4096 + k.val, by omega⟩ : Fin 8192) l) from by
    rw [sum_halves 4096 8192 (by norm_num) fun k : Fin 8192 => val_main_v1 (F := Ideal) ya yb (ix2 r k) * w (ix3 0 k l)]
    simp only [joined_left, joined_right]]
  exact (add_assoc _ _ _).symm

end Reference

/-- The array that the kernel leaves is the reference's. -/
theorem array_value (m : (ℓ : Loc nD τ sig) → Buf (Elt Ideal) ℓ) (c : Dev nD) :
    (dats m 0 c).arrAt 5 cfg0.N
      = Cert.OutProjReferenceIdeal.Read.val_main_v5 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ covered fun t hf y => ?_
  blk_simp
  rw [after0_5, out_eq]
  have key : ∀ y : S1024x256.Idx, k0_pay1 (F := Ideal) (iblk m c 4 t) (iblk m c 0 t) (iblk m c 2 t) (iblk m c 1 t) (iblk m c 3 t) y
      = Cert.OutProjReferenceIdeal.Read.val_main_v5 (F := Ideal) (m ((c : Thread nD τ).loc main_arg0)) (m ((c : Thread nD τ).loc main_arg1))
          (m ((c : Thread nD τ).loc main_arg2)) (m ((c : Thread nD τ).loc main_arg3)) ((win0_5.blk t).view.emb y) := by
    intro y
    obtain ⟨_, _, _, e⟩ := blocks t
    have h0 : (y 0).val < 1024 := (y 0).isLt
    have h1 : (y 1).val < 256 := (y 1).isLt
    have hy : y = ix2 (⟨(y 0).val, h0⟩ : Fin 1024) (⟨(y 1).val, h1⟩ : Fin 256) := by
      funext a
      match a with
      | ⟨0, _⟩ => rfl
      | ⟨1, _⟩ => rfl
    have hb : (win0_5.blk t).view.emb y = ix2 (row t ⟨(y 0).val, h0⟩) (col t ⟨(y 1).val, h1⟩) := by
      blk_ext [e, row, col]
    rw [hb, ref_value]
    conv_lhs => rw [hy]
    rw [pay, x_block]
    simp only [ya_block, yb_block, wa_block, wb_block]
  exact key y

/-- The reference runs, leaves its arguments alone and every counter at zero. -/
theorem frame_ref : Cert.quiescent_OutProjReferenceIdeal := fun m g _ =>
  (θ_run Cert.OutProjReferenceIdeal.defs _ _).mono
    (fun r h => ⟨fun c => (h c).2, sem_eq_zero_of_no_sems (by decide) r.2⟩)
    (Cert.OutProjReferenceIdeal.Value.run (F := Ideal) m g)

/-- Both programs run, from equal arguments, to equal results with their arguments unchanged. -/
theorem algebraic : Cert.algebraic_OutProjIdeal_OutProjReferenceIdeal := by
  intro m g m' g' _ hag
  refine ⟨fun c => (dats m 0 c).arrAt 5 cfg0.N, Cert.OutProjIdeal.Value.run_blocks m g, ?_⟩
  refine (θ_run Cert.OutProjReferenceIdeal.defs _ _).mono (fun r h c => ⟨?_, (h c).2⟩) (Cert.OutProjReferenceIdeal.Value.run (F := Ideal) m' g')
  refine (h c).1.trans ?_
  rw [Cert.OutProjReferenceIdeal.Read.val_main_v5_eq, (hag c).1, (hag c).2.1, (hag c).2.2.1, (hag c).2.2.2]
  exact (array_value m c).symm

end Cert.OutProjValue
-- ==== Proof.NormValue.lean ====
/- The root-mean-square norm that opens a layer, over the extended reals: the array that the kernel leaves is the reference's. -/
module

public import proofs.«01_k».proof.Defs
public import proofs.«01_k».proof.Proof.Gen.NormIdeal.Value
public import proofs.«01_k».proof.Proof.Gen.NormReferenceIdeal.Run
public import proofs.«01_k».proof.Proof.Gen.NormReferenceIdeal.Read
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384
noncomputable section

namespace Cert.NormValue

open Cert.NormIdeal Cert.NormIdeal.Gen Idealize.ShloMosaic Idealize.ShloMosaic.TcCoe Idealize.SL.Sem

/-- The block that each window takes at a grid point: the rows move with the point, the scale stays. -/
theorem blocks : ∀ t : Fin cfg0.N,
    win0_0.index t = ![t.val, 0] ∧ win0_1.index t = ![0, 0] ∧ win0_2.index t = ![t.val, 0] :=
  (by decide +kernel : ∀ t : Fin grid0.N, _)

/-- Every result lies in the block of some grid point. -/
theorem covered : (cfg0.win 2).Covers := by
  decide +kernel

/-- An entry `a` of a row with the sum of squares `s`, normed and scaled by `g`. -/
def entry (a s g : EReal) : EReal :=
  a * Ideal.rsqrt (Ideal.div s (Ideal.ofBits FTy.f32 0x45800000#32) + Ideal.ofBits FTy.f32 0x358637BD#32) * g

/-- What the body computes at an entry of its block. -/
theorem pay (x : Vec Ideal S256x4096 .f32) (g : Vec Ideal S1x4096 .f32) (r : Fin 256) (l : Fin 4096) :
    k0_pay1 (F := Ideal) x g (ix2 r l) = entry (x (ix2 r l)) (∑ k : Fin 4096, x (ix2 r k) * x (ix2 r k)) (g (ix2 0 l)) := by
  pointwise [k0_pay1]
  rfl

section Blocks

variable (m : (ℓ : Loc nD τ sig) → Buf (Elt Ideal) ℓ) (c : Dev nD) (p : Fin cfg0.N)

theorem bound : p.val < 64 := p.isLt

/-- The row of the array for that of the block. -/
def row (r : Fin 256) : Fin 16384 := ⟨p.val * 256 + r.val, by have := bound p; omega⟩

theorem x_block (r : Fin 256) (l : Fin 4096) : iblk (F := Ideal) m c 0 p (ix2 r l) = m ((c : Thread nD τ).loc main_arg0) (ix2 (row p r) l) := by
  obtain ⟨e, _, _⟩ := blocks p
  blk_ext [iblk, V, e, row]
theorem g_block (l : Fin 4096) : iblk (F := Ideal) m c 1 p (ix2 0 l) = m ((c : Thread nD τ).loc main_arg1) (ix1 l) := by
  obtain ⟨_, e, _⟩ := blocks p
  show V m c main_v0 (((cfg0.win 1).blk p).view.emb (ix2 0 l)) = _
  rw [show ((cfg0.win 1).blk p).view.emb (ix2 (0 : Fin 1) l) = ix2 (0 : Fin 1) l from by blk_ext [e]]
  entry_read
  pointwise

end Blocks

/-- The reference at an entry. -/
theorem ref_value (x : Vec Ideal S16384x4096 .f32) (g : Vec Ideal S4096 .f32) (r : Fin 16384) (l : Fin 4096) :
    Cert.NormReferenceIdeal.Read.val_main_v13 (F := Ideal) x g (ix2 r l)
      = entry (x (ix2 r l)) (∑ k : Fin 4096, x (ix2 r k) * x (ix2 r k)) (g (ix1 l)) := by
  simp only [Cert.NormReferenceIdeal.Read.val_main_v13_apply,
    Cert.NormReferenceIdeal.Read.val_main_v12_apply,
    Cert.NormReferenceIdeal.Read.val_main_v11_apply,
    Cert.NormReferenceIdeal.Read.val_main_v10_apply,
    Cert.NormReferenceIdeal.Read.val_main_v9_apply,
    Cert.NormReferenceIdeal.Read.val_main_v8_apply,
    Cert.NormReferenceIdeal.Read.val_main_v7_apply,
    Cert.NormReferenceIdeal.Read.val_main_v6_apply,
    Cert.NormReferenceIdeal.Read.val_main_v5_apply,
    Cert.NormReferenceIdeal.Read.val_main_v4_apply,
    Cert.NormReferenceIdeal.Read.val_main_v3_apply,
    Cert.NormReferenceIdeal.Read.val_main_v2_apply,
    Cert.NormReferenceIdeal.Read.val_main_v1_apply,
    Cert.NormReferenceIdeal.Read.val_main_v0_apply,
    Cert.NormReferenceIdeal.Read.val_main_cst_apply,
    Cert.NormReferenceIdeal.Read.val_main_cst_0_apply,
    Cert.NormReferenceIdeal.Read.val_main_cst_1_apply]
  have h : ∀ k : Fin 4096, Cert.NormReferenceIdeal.Read.idx_main_v1 (Cert.NormReferenceIdeal.Read.idx_main_v2
      (Cert.NormReferenceIdeal.Read.idx_main_v8 (ix2 r l))) k = ix2 r k := by
    intro k; funext a; fin_cases a <;> rfl
  have h' : Cert.NormReferenceIdeal.Read.idx_main_v10 (Cert.NormReferenceIdeal.Read.idx_main_v11 (ix2 r l)) = ix1 l := by
    funext a; fin_cases a; rfl
  simp only [h, h']
  have hz : (FloatOps.ofBits FTy.f32 0#32 : Ideal .f32) + (∑ k : Fin 4096, FloatOps.mulf (x (ix2 r k)) (x (ix2 r k)))
      = ∑ k : Fin 4096, x (ix2 r k) * x (ix2 r k) := by
    rw [show (FloatOps.ofBits FTy.f32 0#32 : Ideal .f32) = 0 from Ideal.ofBits_zero_f32]
    exact zero_add _
  rw [hz]
  rfl

/-- The array that the kernel leaves is the reference's. -/
theorem array_value (m : (ℓ : Loc nD τ sig) → Buf (Elt Ideal) ℓ) (c : Dev nD) :
    (dats m 0 c).arrAt 2 cfg0.N = Cert.NormReferenceIdeal.Read.val_main_v13 (F := Ideal)
      (m ((c : Thread nD τ).loc main_arg0)) (m ((c : Thread nD τ).loc main_arg1)) := by
  refine (dats m 0 c).arrAt_eq_of_covers 2 _ covered fun t hf y => ?_
  blk_simp
  rw [after0_2]
  frame_out
  have key : ∀ y : S256x4096.Idx, k0_pay1 (F := Ideal) (iblk m c 0 t) (iblk m c 1 t) y
      = Cert.NormReferenceIdeal.Read.val_main_v13 (F := Ideal) (m ((c : Thread nD τ).loc main_arg0)) (m ((c : Thread nD τ).loc main_arg1))
          ((win0_2.blk t).view.emb y) := by
    intro y
    obtain ⟨_, _, e⟩ := blocks t
    have h0 : (y 0).val < 256 := (y 0).isLt
    have h1 : (y 1).val < 4096 := (y 1).isLt
    have hy : y = ix2 (⟨(y 0).val, h0⟩ : Fin 256) (⟨(y 1).val, h1⟩ : Fin 4096) := by
      funext a
      match a with
      | ⟨0, _⟩ => rfl
      | ⟨1, _⟩ => rfl
    have hb : (win0_2.blk t).view.emb y = ix2 (row t ⟨(y 0).val, h0⟩) (⟨(y 1).val, h1⟩ : Fin 4096) := by
      blk_ext [e, row]
    rw [hb, ref_value]
    conv_lhs => rw [hy]
    rw [pay, g_block]
    simp only [x_block]
  exact key y

/-- The reference runs, leaves its arguments alone and every counter at zero. -/
theorem frame_ref : Cert.quiescent_NormReferenceIdeal := fun m g _ =>
  (θ_run Cert.NormReferenceIdeal.defs _ _).mono
    (fun r h => ⟨fun c => (h c).2, sem_eq_zero_of_no_sems (by decide) r.2⟩)
    (Cert.NormReferenceIdeal.Value.run (F := Ideal) m g)

/-- Both programs run, from equal arguments, to equal results with their arguments unchanged. -/
theorem algebraic : Cert.algebraic_NormIdeal_NormReferenceIdeal := by
  intro m g m' g' _ hag
  refine ⟨fun c => (dats m 0 c).arrAt 2 cfg0.N, Cert.NormIdeal.Value.run_blocks m g, ?_⟩
  refine (θ_run Cert.NormReferenceIdeal.defs _ _).mono (fun r h c => ⟨?_, (h c).2⟩) (Cert.NormReferenceIdeal.Value.run (F := Ideal) m' g')
  refine (h c).1.trans ?_
  rw [Cert.NormReferenceIdeal.Read.val_main_v13_eq, (hag c).1, (hag c).2]
  exact (array_value m c).symm

end Cert.NormValue
-- ==== Proof.MlstmInValue.lean ====
/- The mLSTM's input projection over the extended reals: the array that the kernel leaves is the product of the normed rows with
   the layer's weights, whose transposed block the kernel keeps in a scratch over the row blocks. -/
module

public import proofs.«01_k».proof.Defs
public import proofs.«01_k».proof.Proof.Gen.MlstmInIdeal.Value
public import proofs.«01_k».proof.Proof.Gen.MlstmInReferenceIdeal.Run
public import proofs.«01_k».proof.Proof.Gen.MlstmInReferenceIdeal.Read
public import Idealize.ShloMosaic.Lib.Pointwise
public import Idealize.ShloMosaic.Lib.Pipeline.Value
public import Idealize.ShloMosaic.Lib.Pipeline.ValueKit
public import Idealize.ShloMosaic.Lib.Pipeline.ValueKit.Held
public import Idealize.ShloMosaic.Lib.Pipeline.Covers

@[expose] public section

set_option maxRecDepth 16384
noncomputable section

namespace Cert.MlstmInValue

open Cert.MlstmInIdeal Cert.MlstmInIdeal.Gen Idealize.ShloMosaic Idealize.ShloMosaic.TcCoe Idealize.SL.Sem

/-- The block that each window takes at a grid point: 16 row blocks to each column block. -/
theorem blocks : ∀ t : Fin cfg0.N,
    win0_0.index t = ![t.val % 16, 0] ∧ win0_1.index t = ![0, t.val / 16, 0] ∧ win0_2.index t = ![t.val % 16, t.val / 16] :=
  (by decide +kernel : ∀ t : Fin grid0.N, _)

/-- Every result lies in the block of some grid point. -/
theorem covered : (cfg0.win 2).Covers := by
  decide +kernel

/-- The weights as the scratch keeps them. -/
theorem pay1 (w : Vec Ideal S1x512x4096 .f32) (l : Fin 512) (k : Fin 4096) : k0_pay1 (F := Ideal) w (ix2 l k) = w (ix3 0 l k) := by
  pointwise [k0_pay1]
/-- What the body computes at an entry of its block. -/
theorem pay2 (x : Vec Ideal S1024x4096 .bf16) (w : Vec Ideal S512x4096 .bf16) (r : Fin 1024) (l : Fin 512) :
    k0_pay2 (F := Ideal) x w (ix2 r l) = ∑ k : Fin 4096, x (ix2 r k) * w (ix2 l k) := by
  pointwise [k0_pay2]

section Blocks

variable (m : (ℓ : Loc nD τ sig) → Buf (Elt Ideal) ℓ) (c : Dev nD) (p : Fin cfg0.N)

theorem bound : p.val < 384 := p.isLt

/-- The row and the column of the array for those of the block. -/
def row (r : Fin 1024) : Fin 16384 := ⟨p.val % 16 * 1024 + r.val, by omega⟩
def col (l : Fin 512) : Fin 22608 := ⟨p.val / 16 * 512 + l.val, by have := bound p; omega⟩
def colOut (l : Fin 512) : Fin 12288 := ⟨p.val / 16 * 512 + l.val, by have := bound p; omega⟩

theorem x_block (r : Fin 1024) (k : Fin 4096) : iblk (F := Ideal) m c 0 p (ix2 r k) = m ((c : Thread nD τ).loc main_arg0) (ix2 (row p r) k) := by
  obtain ⟨e, _, _⟩ := blocks p
  blk_ext [iblk, V, e, row]

/-- The place in the array of the weight at row `l`, column `k` of the block: the array's columns are not a whole number of
    blocks, but every block that a grid point takes lies inside it. -/
def place (l : Fin 512) (k : Fin 4096) : ((cfg0.win 1).xblock (cfg0.grid.coords p)).Idx :=
  fun a => ⟨(ix3 (0 : Fin 1) l k a).val, by
    show _ < (cfg0.win 1).xsize (cfg0.grid.coords p) a
    rw [xsize0_1 p a]; exact (ix3 (0 : Fin 1) l k a).isLt⟩

theorem w_block (l : Fin 512) (k : Fin 4096) : X0_1 (F := Ideal) m c p (ix3 0 l k)
    = m ((c : Thread nD τ).loc main_arg1) (ix3 0 k (col p l)) := by
  obtain ⟨_, e, _⟩ := blocks p
  have h : X0_1 (F := Ideal) m c p (ix3 0 l k) = V m c main_v0 (((cfg0.win 1).blk p).view.emb (place p l k)) :=
    (cfg0.win 1).fill_xinj (cfg0.grid.coords p) dflt0_1 (iblk m c 1 p) (place p l k)
  have hb : ((cfg0.win 1).blk p).view.emb (place p l k) = ix3 (0 : Fin 2) (col p l) k := by
    blk_ext [e, col, place]
  rw [h, hb]
  entry_read
  pointwise

section Runs

variable (i : grid0.Coords) (arg2 : Memref sig .tc .vmem S1024x4096 .bf16) (harg2 : arg2.IsWhole) (arg3 : Memref sig .tc .vmem S1x512x4096 .f32) (harg3 : arg3.IsWhole)
  (arg4 : Memref sig .tc .vmem S1024x512 .bf16) (harg4 : arg4.IsWhole) (arg5 : Memref sig .tc .vmem S512x4096 .bf16) (harg5 : arg5.IsWhole)
  (x0 : Vec Ideal S1024x4096 .bf16) (x1 : Vec Ideal S1x512x4096 .f32) (xs : Vec Ideal S512x4096 .bf16)

/-- The first point of a column block stores the weights and multiplies with them. -/
theorem first_out (hc : cond0_0 i) : out0_A_2 c i arg2 harg2 arg3 harg3 arg4 harg4 arg5 harg5 hc x0 x1 = k0_pay2 x0 (k0_pay1 x1) := by
  frame_out
theorem first_held (hc : cond0_0 i) : sout0_A_0 c i arg2 harg2 arg3 harg3 arg4 harg4 arg5 harg5 hc x0 x1 = k0_pay1 x1 := by
  frame_out
/-- Every other point multiplies with what the scratch holds. -/
theorem later_out (hc : ¬cond0_0 i) : out0_B_2 c i arg2 harg2 arg3 harg3 arg4 harg4 arg5 harg5 hc x0 x1 xs = k0_pay2 x0 xs := by
  frame_out

end Runs

/-- What the scratch holds after a grid point: the weights of its column block, stored at the block's first point. -/
theorem held (l : Fin 512) (k : Fin 4096) : (outsAt0 (F := Ideal) m c p.val p.isLt).2 (ix2 l k)
    = m ((c : Thread nD τ).loc main_arg1) (ix3 0 k (col p l)) := by
  have h := Pipeline.eq_of_write_hold (fun n h => (outsAt0 (F := Ideal) m c n h).2) 16 (fun t => k0_pay1 (X0_1 (F := Ideal) m c t))
    (fun t h0 => by rw [outsAt0_A m c t h0]; dsimp only; rw [first_held])
    (fun t h0 => by rw [outsAt0_B m c t h0]; rfl) p
  rw [h, pay1, w_block]
  refine congrArg _ (congrArg (ix3 0 k) (Fin.ext ?_))
  show 16 * (p.val / 16) / 16 * 512 + l.val = p.val / 16 * 512 + l.val
  omega

/-- What a grid point leaves in its block. -/
theorem out_eq : (outsAt0 (F := Ideal) m c p.val p.isLt).1 = k0_pay2 (iblk m c 0 p) ((outsAt0 (F := Ideal) m c p.val p.isLt).2) := by
  by_cases h0 : p.val % 16 = 0
  · rw [outsAt0_A m c p h0]
    dsimp only
    rw [first_out, first_held]
  · rw [outsAt0_B m c p h0]
    dsimp only
    rw [later_out]
    rfl

end Blocks

section Reference

open Cert.MlstmInReferenceIdeal.Read

variable (x : (⟨S16384x4096, .bf16⟩ : BufTy).Contents (Elt Ideal)) (w : (⟨S2x4096x22608, .f32⟩ : BufTy).Contents (Elt Ideal))
  (r : Fin 16384) (l : Fin 12288)

/-- The weights of the layer. -/
theorem weights (k : Fin 4096) : val_main_v2 (F := Ideal) w (ix2 k l) = w (ix3 0 k (⟨l.val, by omega⟩ : Fin 22608)) := by
  pointwise [val_main_v2, val_main_v1]

/-- The reference at an entry. -/
theorem ref_value : val_main_v4 (F := Ideal) x w (ix2 r l) = ∑ k : Fin 4096, x (ix2 r k) * w (ix3 0 k (⟨l.val, by omega⟩ : Fin 22608)) := by
  rw [val_main_v4_apply]
  refine (val_main_v3_apply x w (ix2 r l)).trans (Finset.sum_congr rfl fun k _ => ?_)
  rw [← weights w l k]
  congr 1
  exact congrArg _ (by funext a; fin_cases a <;> rfl)

end Reference

/-- The array that the kernel leaves is the reference's. -/
theorem array_value (m : (ℓ : Loc nD τ sig) → Buf (Elt Ideal) ℓ) (c : Dev nD) :
    (dats m 0 c).arrAt 2 cfg0.N
      = Cert.MlstmInReferenceIdeal.Read.val_main_v4 (F := Ideal) (m ((c : Thread nD τ).loc main_arg0)) (m ((c : Thread nD τ).loc main_arg1)) := by
  refine (dats m 0 c).arrAt_eq_of_covers 2 _ covered fun t hf y => ?_
  blk_simp
  rw [after0_2, out_eq]
  have key : ∀ y : S1024x512.Idx, k0_pay2 (F := Ideal) (iblk m c 0 t) ((outsAt0 (F := Ideal) m c t.val t.isLt).2) y
      = Cert.MlstmInReferenceIdeal.Read.val_main_v4 (F := Ideal) (m ((c : Thread nD τ).loc main_arg0)) (m ((c : Thread nD τ).loc main_arg1))
          ((win0_2.blk t).view.emb y) := by
    intro y
    obtain ⟨_, _, e⟩ := blocks t
    have h0 : (y 0).val < 1024 := (y 0).isLt
    have h1 : (y 1).val < 512 := (y 1).isLt
    have hy : y = ix2 (⟨(y 0).val, h0⟩ : Fin 1024) (⟨(y 1).val, h1⟩ : Fin 512) := by
      funext a
      match a with
      | ⟨0, _⟩ => rfl
      | ⟨1, _⟩ => rfl
    have hb : (win0_2.blk t).view.emb y = ix2 (row t ⟨(y 0).val, h0⟩) (colOut t ⟨(y 1).val, h1⟩) := by
      blk_ext [e, row, colOut]
    rw [hb, ref_value]
    conv_lhs => rw [hy]
    rw [pay2]
    simp only [x_block, held]
    rfl
  exact key y

/-- The reference runs, leaves its arguments alone and every counter at zero. -/
theorem frame_ref : Cert.quiescent_MlstmInReferenceIdeal := fun m g _ =>
  (θ_run Cert.MlstmInReferenceIdeal.defs _ _).mono
    (fun r h => ⟨fun c => (h c).2, sem_eq_zero_of_no_sems (by decide) r.2⟩)
    (Cert.MlstmInReferenceIdeal.Value.run (F := Ideal) m g)

/-- Both programs run, from equal arguments, to equal results with their arguments unchanged. -/
theorem algebraic : Cert.algebraic_MlstmInIdeal_MlstmInReferenceIdeal := by
  intro m g m' g' _ hag
  refine ⟨fun c => (dats m 0 c).arrAt 2 cfg0.N, Cert.MlstmInIdeal.Value.run_blocks m g, ?_⟩
  refine (θ_run Cert.MlstmInReferenceIdeal.defs _ _).mono (fun r h c => ⟨?_, (h c).2⟩) (Cert.MlstmInReferenceIdeal.Value.run (F := Ideal) m' g')
  refine (h c).1.trans ?_
  rw [Cert.MlstmInReferenceIdeal.Read.val_main_v4_eq, (hag c).1, (hag c).2]
  exact (array_value m c).symm

end Cert.MlstmInValue
-- ==== Proof.SsdInValue.lean ====
/- The SSD's input projection over the extended reals: the array that the kernel leaves is the product of the normed rows with
   the layer's weights, whose transposed block the kernel keeps in a scratch over the row blocks. -/
module

public import proofs.«01_k».proof.Defs
public import proofs.«01_k».proof.Proof.Gen.SsdInIdeal.Value
public import proofs.«01_k».proof.Proof.Gen.SsdInReferenceIdeal.Run
public import proofs.«01_k».proof.Proof.Gen.SsdInReferenceIdeal.Read
public import Idealize.ShloMosaic.Lib.Pointwise
public import Idealize.ShloMosaic.Lib.Pipeline.Value
public import Idealize.ShloMosaic.Lib.Pipeline.ValueKit
public import Idealize.ShloMosaic.Lib.Pipeline.ValueKit.Held
public import Idealize.ShloMosaic.Lib.Pipeline.Covers

@[expose] public section

set_option maxRecDepth 16384
noncomputable section

namespace Cert.SsdInValue

open Cert.SsdInIdeal Cert.SsdInIdeal.Gen Idealize.ShloMosaic Idealize.ShloMosaic.TcCoe Idealize.SL.Sem

/-- The block that each window takes at a grid point: 16 row blocks to each column block. -/
theorem blocks : ∀ t : Fin cfg0.N,
    win0_0.index t = ![t.val % 16, 0] ∧ win0_1.index t = ![0, t.val / 16, 0] ∧ win0_2.index t = ![t.val % 16, t.val / 16] :=
  (by decide +kernel : ∀ t : Fin grid0.N, _)

/-- Every result lies in the block of some grid point. -/
theorem covered : (cfg0.win 2).Covers := by
  decide +kernel

/-- The weights as the scratch keeps them. -/
theorem pay1 (w : Vec Ideal S1x512x4096 .f32) (l : Fin 512) (k : Fin 4096) : k0_pay1 (F := Ideal) w (ix2 l k) = w (ix3 0 l k) := by
  pointwise [k0_pay1]
/-- What the body computes at an entry of its block. -/
theorem pay2 (x : Vec Ideal S1024x4096 .bf16) (w : Vec Ideal S512x4096 .bf16) (r : Fin 1024) (l : Fin 512) :
    k0_pay2 (F := Ideal) x w (ix2 r l) = ∑ k : Fin 4096, x (ix2 r k) * w (ix2 l k) := by
  pointwise [k0_pay2]

section Blocks

variable (m : (ℓ : Loc nD τ sig) → Buf (Elt Ideal) ℓ) (c : Dev nD) (p : Fin cfg0.N)

theorem bound : p.val < 320 := p.isLt

/-- The row and the column of the array for those of the block. -/
def row (r : Fin 1024) : Fin 16384 := ⟨p.val % 16 * 1024 + r.val, by omega⟩
def col (l : Fin 512) : Fin 22608 := ⟨12304 + (p.val / 16 * 512 + l.val), by have := bound p; omega⟩
def colOut (l : Fin 512) : Fin 10240 := ⟨p.val / 16 * 512 + l.val, by have := bound p; omega⟩

theorem x_block (r : Fin 1024) (k : Fin 4096) : iblk (F := Ideal) m c 0 p (ix2 r k) = m ((c : Thread nD τ).loc main_arg0) (ix2 (row p r) k) := by
  obtain ⟨e, _, _⟩ := blocks p
  blk_ext [iblk, V, e, row]

theorem w_block (l : Fin 512) (k : Fin 4096) : iblk (F := Ideal) m c 1 p (ix3 0 l k)
    = m ((c : Thread nD τ).loc main_arg1) (ix3 0 k (col p l)) := by
  obtain ⟨_, e, _⟩ := blocks p
  show V m c main_v1 (((cfg0.win 1).blk p).view.emb (ix3 0 l k)) = _
  rw [show ((cfg0.win 1).blk p).view.emb (ix3 (0 : Fin 1) l k) = ix3 (0 : Fin 1) (colOut p l) k from by blk_ext [e, colOut]]
  entry_read
  pointwise
  rfl

section Runs

variable (i : grid0.Coords) (arg2 : Memref sig .tc .vmem S1024x4096 .bf16) (harg2 : arg2.IsWhole) (arg3 : Memref sig .tc .vmem S1x512x4096 .f32) (harg3 : arg3.IsWhole)
  (arg4 : Memref sig .tc .vmem S1024x512 .bf16) (harg4 : arg4.IsWhole) (arg5 : Memref sig .tc .vmem S512x4096 .bf16) (harg5 : arg5.IsWhole)
  (x0 : Vec Ideal S1024x4096 .bf16) (x1 : Vec Ideal S1x512x4096 .f32) (xs : Vec Ideal S512x4096 .bf16)

/-- The first point of a column block stores the weights and multiplies with them. -/
theorem first_out (hc : cond0_0 i) : out0_A_2 c i arg2 harg2 arg3 harg3 arg4 harg4 arg5 harg5 hc x0 x1 = k0_pay2 x0 (k0_pay1 x1) := by
  frame_out
theorem first_held (hc : cond0_0 i) : sout0_A_0 c i arg2 harg2 arg3 harg3 arg4 harg4 arg5 harg5 hc x0 x1 = k0_pay1 x1 := by
  frame_out
/-- Every other point multiplies with what the scratch holds. -/
theorem later_out (hc : ¬cond0_0 i) : out0_B_2 c i arg2 harg2 arg3 harg3 arg4 harg4 arg5 harg5 hc x0 x1 xs = k0_pay2 x0 xs := by
  frame_out

end Runs

/-- What the scratch holds after a grid point: the weights of its column block, stored at the block's first point. -/
theorem held (l : Fin 512) (k : Fin 4096) : (outsAt0 (F := Ideal) m c p.val p.isLt).2 (ix2 l k)
    = m ((c : Thread nD τ).loc main_arg1) (ix3 0 k (col p l)) := by
  have h := Pipeline.eq_of_write_hold (fun n h => (outsAt0 (F := Ideal) m c n h).2) 16 (fun t => k0_pay1 (iblk (F := Ideal) m c 1 t))
    (fun t h0 => by rw [outsAt0_A m c t h0]; dsimp only; rw [first_held])
    (fun t h0 => by rw [outsAt0_B m c t h0]; rfl) p
  rw [h, pay1, w_block]
  refine congrArg _ (congrArg (ix3 0 k) (Fin.ext ?_))
  show 12304 + (16 * (p.val / 16) / 16 * 512 + l.val) = 12304 + (p.val / 16 * 512 + l.val)
  omega

/-- What a grid point leaves in its block. -/
theorem out_eq : (outsAt0 (F := Ideal) m c p.val p.isLt).1 = k0_pay2 (iblk m c 0 p) ((outsAt0 (F := Ideal) m c p.val p.isLt).2) := by
  by_cases h0 : p.val % 16 = 0
  · rw [outsAt0_A m c p h0]
    dsimp only
    rw [first_out, first_held]
  · rw [outsAt0_B m c p h0]
    dsimp only
    rw [later_out]
    rfl

end Blocks

section Reference

open Cert.SsdInReferenceIdeal.Read

variable (x : (⟨S16384x4096, .bf16⟩ : BufTy).Contents (Elt Ideal)) (w : (⟨S2x4096x22608, .f32⟩ : BufTy).Contents (Elt Ideal))
  (r : Fin 16384) (l : Fin 10240)

/-- The weights of the layer. -/
theorem weights (k : Fin 4096) : val_main_v2 (F := Ideal) w (ix2 k l) = w (ix3 0 k (⟨12304 + l.val, by omega⟩ : Fin 22608)) := by
  pointwise [val_main_v2, val_main_v1]

/-- The reference at an entry. -/
theorem ref_value : val_main_v4 (F := Ideal) x w (ix2 r l) = ∑ k : Fin 4096, x (ix2 r k) * w (ix3 0 k (⟨12304 + l.val, by omega⟩ : Fin 22608)) := by
  rw [val_main_v4_apply]
  refine (val_main_v3_apply x w (ix2 r l)).trans (Finset.sum_congr rfl fun k _ => ?_)
  rw [← weights w l k]
  congr 1
  exact congrArg _ (by funext a; fin_cases a <;> rfl)

end Reference

/-- The array that the kernel leaves is the reference's. -/
theorem array_value (m : (ℓ : Loc nD τ sig) → Buf (Elt Ideal) ℓ) (c : Dev nD) :
    (dats m 0 c).arrAt 2 cfg0.N
      = Cert.SsdInReferenceIdeal.Read.val_main_v4 (F := Ideal) (m ((c : Thread nD τ).loc main_arg0)) (m ((c : Thread nD τ).loc main_arg1)) := by
  refine (dats m 0 c).arrAt_eq_of_covers 2 _ covered fun t hf y => ?_
  blk_simp
  rw [after0_2, out_eq]
  have key : ∀ y : S1024x512.Idx, k0_pay2 (F := Ideal) (iblk m c 0 t) ((outsAt0 (F := Ideal) m c t.val t.isLt).2) y
      = Cert.SsdInReferenceIdeal.Read.val_main_v4 (F := Ideal) (m ((c : Thread nD τ).loc main_arg0)) (m ((c : Thread nD τ).loc main_arg1))
          ((win0_2.blk t).view.emb y) := by
    intro y
    obtain ⟨_, _, e⟩ := blocks t
    have h0 : (y 0).val < 1024 := (y 0).isLt
    have h1 : (y 1).val < 512 := (y 1).isLt
    have hy : y = ix2 (⟨(y 0).val, h0⟩ : Fin 1024) (⟨(y 1).val, h1⟩ : Fin 512) := by
      funext a
      match a with
      | ⟨0, _⟩ => rfl
      | ⟨1, _⟩ => rfl
    have hb : (win0_2.blk t).view.emb y = ix2 (row t ⟨(y 0).val, h0⟩) (colOut t ⟨(y 1).val, h1⟩) := by
      blk_ext [e, row, colOut]
    rw [hb, ref_value]
    conv_lhs => rw [hy]
    rw [pay2]
    simp only [x_block, held]
    rfl
  exact key y

/-- The reference runs, leaves its arguments alone and every counter at zero. -/
theorem frame_ref : Cert.quiescent_SsdInReferenceIdeal := fun m g _ =>
  (θ_run Cert.SsdInReferenceIdeal.defs _ _).mono
    (fun r h => ⟨fun c => (h c).2, sem_eq_zero_of_no_sems (by decide) r.2⟩)
    (Cert.SsdInReferenceIdeal.Value.run (F := Ideal) m g)

/-- Both programs run, from equal arguments, to equal results with their arguments unchanged. -/
theorem algebraic : Cert.algebraic_SsdInIdeal_SsdInReferenceIdeal := by
  intro m g m' g' _ hag
  refine ⟨fun c => (dats m 0 c).arrAt 2 cfg0.N, Cert.SsdInIdeal.Value.run_blocks m g, ?_⟩
  refine (θ_run Cert.SsdInReferenceIdeal.defs _ _).mono (fun r h c => ⟨?_, (h c).2⟩) (Cert.SsdInReferenceIdeal.Value.run (F := Ideal) m' g')
  refine (h c).1.trans ?_
  rw [Cert.SsdInReferenceIdeal.Read.val_main_v4_eq, (hag c).1, (hag c).2]
  exact (array_value m c).symm

end Cert.SsdInValue
-- ==== Proof.MlstmRun.lean ====
/- The mLSTM kernel's body: what a chunk leaves in its block of the result, in the carried state and in the carried offset,
   in terms of what it reads, for the first chunk of a sequence and for a later one. -/
module

public import proofs.«01_k».proof.Proof.Gen.MlstmIdeal.Value
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384
noncomputable section

namespace Cert.MlstmRun

open Cert.MlstmIdeal Cert.MlstmIdeal.Gen Idealize.ShloMosaic Idealize.ShloMosaic.TcCoe Idealize.ShloMosaic.Tactic

/-- The carried offset as the body reads it, from the corner of its buffer. -/
def first (M : Vec Ideal S8x128 .f32) : Vec Ideal S1x1 .f32 := View.ld M (Rect.unit ![0, 0] ![1, 1] inb_S8x128_S1x1_0_0)

/-- The block of the result. -/
def out (q k : Vec Ideal S1x512x256 .bf16) (v g : Vec Ideal S1x512x512 .bf16) (ar : Vec Ideal S1x1x1x512 .f32) (b : Vec Ideal S1x1x512x1 .f32)
    (gain : Vec Ideal S1x512 .f32) (C : Vec Ideal S256x640 .f32) (M : Vec Ideal S1x1 .f32) : Vec Ideal S1x512x512 .bf16 :=
  k0_pay14 (k0_pay13 (k0_pay5 q) (k0_pay6 k) (k0_pay7 v) (k0_pay8 ar) (k0_pay10 b) M k0_pay11 (k0_pay12 b) C) gain g

/-- The state after the chunk. -/
def state (k : Vec Ideal S1x512x256 .bf16) (v : Vec Ideal S1x512x512 .bf16) (a b : Vec Ideal S1x1x512x1 .f32) (C : Vec Ideal S256x640 .f32)
    (M : Vec Ideal S1x1 .f32) : Vec Ideal S256x640 .f32 :=
  k0_pay1 (k0_pay18 (k0_pay6 k) (k0_pay7 v) (k0_pay9 a) (k0_pay10 b) M C)

/-- The offset after the chunk. -/
def offset (a b : Vec Ideal S1x1x512x1 .f32) (M : Vec Ideal S1x1 .f32) : Vec Ideal S8x128 .f32 :=
  k0_pay2 (k0_pay17 (k0_pay9 a) (k0_pay10 b) M)

section

variable (c : Dev nD) (i : grid0.Coords)
  (arg3 : Memref sig .tc .vmem S1x512x256 .bf16) (harg3 : arg3.IsWhole)
  (arg4 : Memref sig .tc .vmem S1x512x256 .bf16) (harg4 : arg4.IsWhole)
  (arg5 : Memref sig .tc .vmem S1x512x512 .bf16) (harg5 : arg5.IsWhole)
  (arg6 : Memref sig .tc .vmem S1x512x512 .bf16) (harg6 : arg6.IsWhole)
  (arg7 : Memref sig .tc .vmem S1x1x1x512 .f32) (harg7 : arg7.IsWhole)
  (arg8 : Memref sig .tc .vmem S1x1x512x1 .f32) (harg8 : arg8.IsWhole)
  (arg9 : Memref sig .tc .vmem S1x1x512x1 .f32) (harg9 : arg9.IsWhole)
  (arg10 : Memref sig .tc .vmem S1x512 .f32) (harg10 : arg10.IsWhole)
  (arg11 : Memref sig .tc .vmem S1x512x512 .bf16) (harg11 : arg11.IsWhole)
  (arg12 : Memref sig .tc .vmem S256x640 .f32) (harg12 : arg12.IsWhole)
  (arg13 : Memref sig .tc .vmem S8x128 .f32) (harg13 : arg13.IsWhole)
  (x0 x1 : Vec Ideal S1x512x256 .bf16) (x2 x3 : Vec Ideal S1x512x512 .bf16) (x4 : Vec Ideal S1x1x1x512 .f32) (x5 x6 : Vec Ideal S1x1x512x1 .f32)
  (x7 : Vec Ideal S1x512 .f32) (xs0 : Vec Ideal S256x640 .f32) (xs1 : Vec Ideal S8x128 .f32)

theorem first_out (hc0 : cond0_0 i) : out0_A_8 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7
    = out x0 x1 x2 x3 x4 x6 x7 (k0_pay3 (F := Ideal)) (first (k0_pay4 (F := Ideal))) := by
  frame_open
  simp (disch := decide) only [↓ View.readCov_skip, ↓ View.readCov_cons_toLoadRect, ↓ View.readCov_fill]
  frame_out
  rfl

theorem first_state (hc0 : cond0_0 i) : sout0_A_0 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7
    = state x1 x2 x5 x6 (k0_pay3 (F := Ideal)) (first (k0_pay4 (F := Ideal))) := by
  frame_open
  simp (disch := decide) only [↓ View.readCov_skip, ↓ View.readCov_cons_toLoadRect, ↓ View.readCov_fill]
  frame_out
  rfl

theorem first_offset (hc0 : cond0_0 i) : sout0_A_1 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7
    = offset x5 x6 (first (k0_pay4 (F := Ideal))) := by
  frame_open
  simp (disch := decide) only [↓ View.readCov_skip, ↓ View.readCov_cons_toLoadRect, ↓ View.readCov_fill]
  frame_out
  rfl

theorem later_out (hc0 : ¬cond0_0 i) : out0_B_8 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1
    = out x0 x1 x2 x3 x4 x6 x7 xs0 (first xs1) := by
  frame_out
  rfl

theorem later_state (hc0 : ¬cond0_0 i) : sout0_B_0 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1
    = state x1 x2 x5 x6 xs0 (first xs1) := by
  frame_out
  rfl

theorem later_offset (hc0 : ¬cond0_0 i) : sout0_B_1 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1
    = offset x5 x6 (first xs1) := by
  frame_out
  rfl

end

end Cert.MlstmRun
-- ==== Proof.FoxRun.lean ====
/- What one grid point of the attention kernel leaves in its output block, read off the run: the state after the diagonal
   (`start`), one more full block of keys (`next`), and the block as the quotient and gate of the last state (`out_eq`). -/
module

public import proofs.«01_k».proof.Proof.Gen.KernelIdeal.Value

@[expose] public section

set_option maxRecDepth 16384
noncomputable section

namespace Cert.FoxRun

open Cert.KernelIdeal Cert.KernelIdeal.Gen Idealize.ShloMosaic Idealize.ShloMosaic.TcCoe Idealize.ShloMosaic.Tactic Idealize.SL.Sem

variable {F : FTy → Type} [FloatOps F] [Named F]

/-- What the two halves of a query block carry over the key blocks: per half the running maximum, the sum of the weights
    and the weighted sum of the values. -/
abbrev St (F : FTy → Type) : Type :=
  FVec F S512x1 .f32 × FVec F S512x1 .f32 × FVec F S512x128 .f32 × FVec F S512x1 .f32 × FVec F S512x1 .f32 × FVec F S512x128 .f32

/-- The 512 key (or value) rows on the diagonal that the upper half of the queries meets. -/
def diagA (i : grid0.Coords) (X : Vec F S1x4096x128 .bf16) : Vec F S1x512x128 .bf16 :=
  View.ld X (Rect.unit (s := S1x4096x128) (k0_off1 i) S1x512x128.size (k0_off1_inb i))
/-- The same keys' running sums. -/
def diagAC (i : grid0.Coords) (X : Vec F S1x1x1x4096 .f32) : Vec F S1x1x1x512 .f32 :=
  View.ld X (Rect.unit (s := S1x1x1x4096) (k0_off2 i) S1x1x1x512.size (k0_off2_inb i))
/-- The 1024 key (or value) rows on the diagonal that the lower half of the queries meets. -/
def diagB (i : grid0.Coords) (X : Vec F S1x4096x128 .bf16) : Vec F S1x1024x128 .bf16 :=
  View.ld X (Rect.unit (s := S1x4096x128) (k0_off3 i) S1x1024x128.size (k0_off3_inb i))
/-- The same keys' running sums. -/
def diagBC (i : grid0.Coords) (X : Vec F S1x1x1x4096 .f32) : Vec F S1x1x1x1024 .f32 :=
  View.ld X (Rect.unit (s := S1x1x1x4096) (k0_off4 i) S1x1x1x1024.size (k0_off4_inb i))
/-- The 1024 key (or value) rows of the full block `k`. -/
def full (i : grid0.Coords) (k : Fin (k0_t1_loop i).trips) (X : Vec F S1x4096x128 .bf16) : Vec F S1x1024x128 .bf16 :=
  View.ld X (Rect.unit (s := S1x4096x128) (k0_off5 i k) S1x1024x128.size (k0_off5_inb i k))
/-- The same keys' running sums. -/
def fullC (i : grid0.Coords) (k : Fin (k0_t1_loop i).trips) (X : Vec F S1x1x1x4096 .f32) : Vec F S1x1x1x1024 .f32 :=
  View.ld X (Rect.unit (s := S1x1x1x4096) (k0_off6 i k) S1x1x1x1024.size (k0_off6_inb i k))

/-- The state after the diagonal. -/
def start (i : grid0.Coords) (Q : Vec F S1x1024x128 .bf16) (K V : Vec F S1x4096x128 .bf16) (C : Vec F S1x1x1x4096 .f32) : St F :=
  let a2 := BitVec.ofNat 32 (i 2).val
  let sA := k0_pay20 i Q (diagA i K) (diagAC i C)
  let mA := k0_pay21 i Q (diagA i K) (diagAC i C)
  let dA := k0_pay22 i Q (diagA i K) (diagAC i C)
  let sB := k0_pay30 a2 (k0_pay16 Q) (Scalar.muli a2 1024#32) (diagB i K) (diagBC i C)
  (mA, k0_pay25 k0_pay18 sA mA dA, k0_pay26 k0_pay19 sA mA dA (diagA i V),
    k0_pay31 k0_pay27 sB, k0_pay34 k0_pay27 k0_pay28 sB, k0_pay35 k0_pay27 k0_pay29 sB (diagB i V))

/-- The state after one more full block of keys. -/
def next (i : grid0.Coords) (q2 : FVec F S1024x128 .bf16) (K V : Vec F S1x4096x128 .bf16) (C : Vec F S1x1x1x4096 .f32)
    (k : Fin (k0_t1_loop i).trips) (s : St F) : St F :=
  (k0_pay3 q2 s.1 (full i k K) (fullC i k C), k0_pay6 q2 s.1 s.2.1 (full i k K) (fullC i k C),
    k0_pay7 q2 s.1 s.2.2.1 (full i k K) (fullC i k C) (full i k V),
    k0_pay37 s.2.2.2.1 (k0_pay8 q2 (full i k K)) (fullC i k C),
    k0_pay40 s.2.2.2.1 s.2.2.2.2.1 (k0_pay8 q2 (full i k K)) (fullC i k C),
    k0_pay41 s.2.2.2.1 s.2.2.2.2.2 (k0_pay8 q2 (full i k K)) (fullC i k C) (full i k V))

variable (m : (ℓ : Loc nD τ sig) → Buf (Elt F) ℓ)

/-- A query block's loop makes one trip per earlier block of keys. -/
theorem trips1 (i : grid0.Coords) : (k0_t1_loop i).trips = (i 2).val := by
  have h : ∀ n : Fin 4, Scf.trips 0#32 (Scalar.addi 0#32 (Scalar.muli (Scalar.divsi (Scalar.subi (BitVec.ofNat 32 n.val) 0#32) 1#32) 1#32)) 1#32 = n.val := by
    decide +kernel
  exact h (i 2)

/-- The loop over what is left over makes no trip. -/
theorem trips2 (i : grid0.Coords) : (k0_t2_loop i).trips = 0 := by
  have h : ∀ n : Fin 4, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide +kernel
  exact h (i 2)

/-- One trip of the loop, as the run leaves it, is `next`. -/
theorem trip_eq (𝒱 : Variants) (c : Dev nD) (bd : Option 𝒱.V) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x1x4096 .f32) (harg6 : arg6.IsWhole) (arg7 : Memref sig .tc .vmem S1x1024x128 .bf16) (harg7 : arg7.IsWhole) (arg8 : Memref sig .tc .vmem S1x1024x128 .bf16) (harg8 : arg8.IsWhole) (arg2 : BitVec 32) (v5 : FVec F S1024x128 .bf16) (v7 : BitVec 32) (v36 : FVec F S512x1 .f32) (v45 : FVec F S512x1 .f32) (v53 : FVec F S512x128 .f32) (v55 : FVec F S512x1 .f32) (v56 : FVec F S512x1 .f32) (v57 : FVec F S512x128 .f32) (v79 : FVec F S512x1024 .f32)
    (K V : Vec F S1x4096x128 .bf16) (C : Vec F S1x1x1x4096 .f32) (k : Fin (k0_t1_loop i).trips) (s : St F) :
    tripR_k0_t1 (F := F) 𝒱 c bd i arg3 harg3 arg4 harg4 arg5 harg5 arg6 harg6 arg7 harg7 arg8 harg8 arg2 v5 v7 v36 v45 v53 v55 v56 v57 v79 (harg4.unread K) (harg5.unread V) (harg6.unread C) k s
      = next i v5 K V C k s := by
  unfold tripR_k0_t1 trip_k0_t1
  dsimp only
  sl_unfold_words
  simp only [View.readAt_eq_ld, harg4.read_unread, harg5.read_unread, harg6.read_unread]
  rfl

/-- A property carried by `next` holds after every trip of the run's loop. -/
theorem st_ind (𝒱 : Variants) (c : Dev nD) (bd : Option 𝒱.V) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x1x4096 .f32) (harg6 : arg6.IsWhole) (arg7 : Memref sig .tc .vmem S1x1024x128 .bf16) (harg7 : arg7.IsWhole) (arg8 : Memref sig .tc .vmem S1x1024x128 .bf16) (harg8 : arg8.IsWhole) (arg2 : BitVec 32) (v5 : FVec F S1024x128 .bf16) (v7 : BitVec 32) (v36 : FVec F S512x1 .f32) (v45 : FVec F S512x1 .f32) (v53 : FVec F S512x128 .f32) (v55 : FVec F S512x1 .f32) (v56 : FVec F S512x1 .f32) (v57 : FVec F S512x128 .f32) (v79 : FVec F S512x1024 .f32)
    (K V : Vec F S1x4096x128 .bf16) (C : Vec F S1x1x1x4096 .f32) (init : St F) (P : ℕ → St F → Prop) (h0 : P 0 init)
    (hs : ∀ (k : Fin (k0_t1_loop i).trips) (s : St F), P k.val s → P (k.val + 1) (next i v5 K V C k s)) :
    ∀ n, n ≤ (k0_t1_loop i).trips →
      P n (st_k0_t1 (F := F) 𝒱 c bd i arg3 harg3 arg4 harg4 arg5 harg5 arg6 harg6 arg7 harg7 arg8 harg8 arg2 v5 v7 v36 v45 v53 v55 v56 v57 v79 (harg4.unread K) (harg5.unread V) (harg6.unread C) init n)
  | 0, _ => by rw [st_k0_t1_zero]; exact h0
  | n + 1, hn => by
    have ih := st_ind 𝒱 c bd i arg3 harg3 arg4 harg4 arg5 harg5 arg6 harg6 arg7 harg7 arg8 harg8 arg2 v5 v7 v36 v45 v53 v55 v56 v57 v79 K V C init P h0 hs n (Nat.le_of_succ_le hn)
    have h := st_k0_t1_succ (F := F) 𝒱 c bd i arg3 harg3 arg4 harg4 arg5 harg5 arg6 harg6 arg7 harg7 arg8 harg8 arg2 v5 v7 v36 v45 v53 v55 v56 v57 v79 (harg4.unread K) (harg5.unread V) (harg6.unread C) init ⟨n, hn⟩
    rw [trip_eq] at h
    exact h ▸ hs ⟨n, hn⟩ _ ih

/-- WHAT A GRID POINT WRITES is the quotient and gate of a state that every property has which the diagonal establishes
    and a full block carries. -/
theorem out_eq (c : Dev nD) (t : Fin cfg0.N) (P : ℕ → St F → Prop)
    (h0 : P 0 (start (grid0.coords t) (iblk m c 0 t) (iblk m c 1 t) (iblk m c 2 t) (iblk m c 3 t)))
    (hs : ∀ (k : Fin (k0_t1_loop (grid0.coords t)).trips) (s : St F), P k.val s →
      P (k.val + 1) (next (grid0.coords t) (k0_pay16 (iblk m c 0 t)) (iblk m c 1 t) (iblk m c 2 t) (iblk m c 3 t) k s)) :
    ∃ s, P (k0_t1_loop (grid0.coords t)).trips s
      ∧ outsAt0 m c t = k0_pay1 (k0_pay48 s.2.1 s.2.2.1 s.2.2.2.2.1 s.2.2.2.2.2 (iblk m c 4 t)) := by
  unfold outsAt0 out0_A_5
  rw [View.read_writes_eq_canon _ _ _ (cover0_A_5 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero (S := S1x1024x128) (by funext a; fin_cases a <;> rfl)]
  simp only [View.ld_unit_zero (S := S1x1024x128) (off := ![0, 0, 0]) (by funext a; fin_cases a <;> rfl)]
  have h2 : Scf.trips (k0_t2_loop (grid0.coords t)).lb (k0_t2_loop (grid0.coords t)).ub (k0_t2_loop (grid0.coords t)).st = 0 := trips2 _
  simp only [h2, st_k0_t2_zero]
  refine ⟨_, ?_, rfl⟩
  exact st_ind _ _ _ _ _ _ _ _ _ _ _ _ _ _ _ _ _ _ _ _ _ _ _ _ _ _ _ _ _ _ P h0 hs _ le_rfl
end Cert.FoxRun
-- ==== Proof.FoxMath.lean ====
/- The mathematics of one row of the attention, over the extended reals: a softmax-weighted sum collected key block by key
   block under a running maximum, and the two spellings of the gate. No program is mentioned here. -/
module

public import Idealize.ShloMosaic.PureOps.Ideal

@[expose] public section

namespace Cert.FoxMath

open Idealize.ShloMosaic

/-! ## Sums of extended reals -/

/-- A real number, seen as an extended real, passes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplication by a nonnegative real distributes over a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-! ## The maximum of a block of scores -/

/-- The maximum over a block of scores, none of them `⊤` and one of them real, is a real number. -/
theorem fold_max_real {n : ℕ} (y : Fin n → EReal) (htop : ∀ k, y k ≠ ⊤) (k₀ : Fin n) (h₀ : y k₀ ≠ ⊥) :
    ∃ μ : ℝ, Finset.univ.fold max ⊥ y = (μ : EReal) := by
  have hne_top : Finset.univ.fold max ⊥ y ≠ ⊤ := by
    have : Finset.univ.fold max ⊥ y < ⊤ := by
      rw [Finset.fold_max_lt]
      exact ⟨bot_lt_top, fun k _ => lt_of_le_of_ne le_top (htop k)⟩
    exact this.ne
  have hne_bot : Finset.univ.fold max ⊥ y ≠ ⊥ := by
    intro h
    have : y k₀ ≤ Finset.univ.fold max ⊥ y := by
      rw [Finset.le_fold_max]; exact Or.inr ⟨k₀, Finset.mem_univ _, le_rfl⟩
    rw [h] at this
    exact h₀ (le_bot_iff.mp this)
  exact ⟨_, (EReal.coe_toReal hne_top hne_bot).symm⟩

/-- The maximum of two reals among the extended reals is real. -/
theorem max_real (a b : ℝ) : ∃ μ : ℝ, max (a : EReal) (b : EReal) = (μ : EReal) :=
  by
  rcases le_total a b with h | h
  · exact ⟨b, max_eq_right (EReal.coe_le_coe_iff.mpr h)⟩
  · exact ⟨a, max_eq_left (EReal.coe_le_coe_iff.mpr h)⟩

/-! ## The running softmax -/

/-- WHAT A ROW HOLDS after the keys of `T`: a real offset `m`, the sum `l` of the keys' weights `2 ^ (x s - m)` and the
    weighted sum `a` of the keys' values, where `x` is a key's score to base two and `v` its value. -/
def Online {ι : Type*} (T : Finset ι) (x : ι → ℝ) (v : ι → EReal) (m l a : EReal) : Prop :=
  ∃ μ : ℝ, m = (μ : EReal)
    ∧ l = ((∑ s ∈ T, (2 : ℝ) ^ (x s - μ) : ℝ) : EReal)
    ∧ a = ∑ s ∈ T, (((2 : ℝ) ^ (x s - μ) : ℝ) : EReal) * v s

/-- A real score's weight. -/
theorem exp2_real (x μ : ℝ) : Ideal.exp2 ((x : EReal) - (μ : EReal)) = (((2 : ℝ) ^ (x - μ) : ℝ) : EReal) := by
  rw [← EReal.coe_sub, Ideal.exp2_coe]; rfl

/-- A masked score's weight is zero. -/
theorem exp2_masked (μ : ℝ) : Ideal.exp2 ((⊥ : EReal) - (μ : EReal)) = 0 := by
  rw [sub_eq_add_neg, EReal.bot_add, Ideal.exp2_bot]

section Block

variable {ι : Type*} {n : ℕ} (e : Fin n → ι) (he : Function.Injective e) (p : Fin n → Prop) [DecidablePred p]
  (x : ι → ℝ) (v : ι → EReal) (y w : Fin n → EReal)
  (hy : ∀ k, p k → y k = (x (e k) : EReal)) (hy' : ∀ k, ¬ p k → y k = ⊥) (hw : ∀ k, w k = v (e k))
  (S : Finset ι) (hS : ∀ s, s ∈ S ↔ ∃ k, p k ∧ e k = s)

include he hS in
/-- A sum over the unmasked keys of a block, re-indexed by the keys themselves. -/
theorem sum_block {M : Type*} [AddCommMonoid M] (g : ι → M) :
    ∑ k : Fin n, (if p k then g (e k) else 0) = ∑ s ∈ S, g s := by
  classical
  rw [← Finset.sum_filter]
  have : S = (Finset.univ.filter p).map ⟨e, he⟩ := by
    ext s; rw [hS]; simp
  rw [this, Finset.sum_map]; rfl

include he hy hy' hS in
/-- The block's weights add up to the weights of its unmasked keys. -/
theorem block_sum (μ : ℝ) :
    ∑ k : Fin n, Ideal.exp2 (y k - (μ : EReal)) = ((∑ s ∈ S, (2 : ℝ) ^ (x s - μ) : ℝ) : EReal) := by
  rw [coe_sum, ← sum_block e he p S hS (fun s => (((2 : ℝ) ^ (x s - μ) : ℝ) : EReal))]
  refine Finset.sum_congr rfl fun k _ => ?_
  by_cases h : p k
  · rw [if_pos h, hy k h, exp2_real]
  · rw [if_neg h, hy' k h, exp2_masked]

include he hy hy' hw hS in
/-- The block's weighted values add up to those of its unmasked keys. -/
theorem block_weighted (μ : ℝ) :
    ∑ k : Fin n, Ideal.exp2 (y k - (μ : EReal)) * w k = ∑ s ∈ S, (((2 : ℝ) ^ (x s - μ) : ℝ) : EReal) * v s := by
  rw [← sum_block e he p S hS (fun s => (((2 : ℝ) ^ (x s - μ) : ℝ) : EReal) * v s)]
  refine Finset.sum_congr rfl fun k _ => ?_
  by_cases h : p k
  · rw [if_pos h, hy k h, exp2_real, hw]
  · rw [if_neg h, hy' k h, exp2_masked, zero_mul]

include hy hy' in
/-- A block with one unmasked key has a real maximum. -/
theorem block_max (k₀ : Fin n) (h₀ : p k₀) : ∃ μ : ℝ, Finset.univ.fold max ⊥ y = (μ : EReal) := by
  refine fold_max_real y (fun k => ?_) k₀ ?_
  · by_cases h : p k
    · rw [hy k h]; exact EReal.coe_ne_top _
    · rw [hy' k h]; exact bot_ne_top
  · rw [hy k₀ h₀]; exact EReal.coe_ne_bot _

include he hy hy' hw hS in
/-- THE FIRST BLOCK of a row, met with the offset at `⊥` and both sums at zero. -/
theorem Online.first (k₀ : Fin n) (h₀ : p k₀) (m' l' a' : EReal)
    (hm : m' = max ⊥ (Finset.univ.fold max ⊥ y))
    (hl : l' = Ideal.exp2 (⊥ - m') * 0 + ∑ k : Fin n, Ideal.exp2 (y k - m'))
    (ha : a' = Ideal.exp2 (⊥ - m') * 0 + ∑ k : Fin n, Ideal.exp2 (y k - m') * w k) :
    Online S x v m' l' a' := by
  obtain ⟨μ, hμ⟩ := block_max e p x y hy hy' k₀ h₀
  rw [hμ, max_eq_right bot_le] at hm
  subst hm
  refine ⟨μ, rfl, ?_, ?_⟩
  · rw [hl, mul_zero, zero_add, block_sum e he p x y hy hy' S hS]
  · rw [ha, mul_zero, zero_add, block_weighted e he p x v y w hy hy' hw S hS]

include he hy hy' hw hS in
/-- ANOTHER BLOCK of a row: the offset moves to the new maximum and both sums are rescaled. -/
theorem Online.step {T T' : Finset ι} {m l a : EReal} (h : Online T x v m l a) (hdis : ∀ s ∈ T, s ∉ S)
    (hT' : ∀ s, s ∈ T' ↔ s ∈ T ∨ s ∈ S) (k₀ : Fin n) (h₀ : p k₀) (m' l' a' : EReal)
    (hm : m' = max m (Finset.univ.fold max ⊥ y))
    (hl : l' = Ideal.exp2 (m - m') * l + ∑ k : Fin n, Ideal.exp2 (y k - m'))
    (ha : a' = Ideal.exp2 (m - m') * a + ∑ k : Fin n, Ideal.exp2 (y k - m') * w k) :
    Online T' x v m' l' a' := by
  classical
  obtain ⟨μ, rfl, rfl, rfl⟩ := h
  obtain ⟨ν, hν⟩ := block_max e p x y hy hy' k₀ h₀
  obtain ⟨κ, hκ⟩ := max_real μ ν
  rw [hν, hκ] at hm
  subst hm
  have hpow : ∀ s, (2 : ℝ) ^ (μ - κ) * (2 : ℝ) ^ (x s - μ) = (2 : ℝ) ^ (x s - κ) := fun s => by
    rw [← Real.rpow_add two_pos]; congr 1; ring
  have hU : T' = T ∪ S := by ext s; rw [hT', Finset.mem_union]
  have hD : Disjoint T S := Finset.disjoint_left.mpr hdis
  refine ⟨κ, rfl, ?_, ?_⟩
  · rw [hl, exp2_real, block_sum e he p x y hy hy' S hS, hU, Finset.sum_union hD, EReal.coe_add, ← EReal.coe_mul,
      Finset.mul_sum]
    simp only [hpow]
  · rw [ha, exp2_real, block_weighted e he p x v y w hy hy' hw S hS, hU, Finset.sum_union hD,
      coe_mul_sum _ _ (Real.rpow_nonneg two_pos.le _)]
    simp only [← mul_assoc, ← EReal.coe_mul, hpow]

end Block

/-! ## The quotient -/

/-- THE SPECIFICATION of a row: the values of the keys of `T`, weighted by the softmax of their scores `x` to base two. -/
noncomputable def soft {ι : Type*} (T : Finset ι) (x : ι → ℝ) (v : ι → EReal) : EReal :=
  ∑ s ∈ T, (((2 : ℝ) ^ x s / ∑ s' ∈ T, (2 : ℝ) ^ x s' : ℝ) : EReal) * v s

/-- At the end of a row, the weighted sum over the sum of the weights is the softmax-weighted sum. -/
theorem Online.quotient {ι : Type*} {T : Finset ι} {x : ι → ℝ} {v : ι → EReal} {m l a : EReal}
    (h : Online T x v m l a) (hT : T.Nonempty) : Ideal.div a l = soft T x v := by
  obtain ⟨μ, rfl, rfl, rfl⟩ := h
  have hpos : 0 < ∑ s ∈ T, (2 : ℝ) ^ (x s - μ) := Finset.sum_pos (fun s _ => Real.rpow_pos_of_pos two_pos _) hT
  rw [Ideal.div_coe hpos.ne', mul_comm, coe_mul_sum _ _ (one_div_nonneg.mpr hpos.le)]
  refine Finset.sum_congr rfl fun s _ => ?_
  rw [← mul_assoc, ← EReal.coe_mul]
  congr 2
  have h2 : (2 : ℝ) ^ (-μ) ≠ 0 := (Real.rpow_pos_of_pos two_pos _).ne'
  have hs : ∀ s, (2 : ℝ) ^ (x s - μ) = (2 : ℝ) ^ x s * (2 : ℝ) ^ (-μ) := fun s => by
    rw [← Real.rpow_add two_pos, sub_eq_add_neg]
  simp only [hs]
  rw [← Finset.sum_mul]
  have h3 : ∑ s ∈ T, (2 : ℝ) ^ x s ≠ 0 := (Finset.sum_pos (fun s _ => Real.rpow_pos_of_pos two_pos _) hT).ne'
  field_simp

/-- THE PLAIN SOFTMAX: over all the keys, masked ones at `⊥`, with the maximum `M` of the natural scores `z` subtracted and
    each weight divided by their sum before it meets the value, the sum is the same. The natural scores are the base-two
    ones times `log 2`, up to a constant `γ` of the row. -/
theorem soft_of_plain {n : ℕ} (p : Fin n → Prop) [DecidablePred p] (x : Fin n → ℝ) (v : Fin n → EReal) (z : Fin n → EReal)
    (γ : ℝ) (hz : ∀ k, p k → z k = ((Real.log 2 * x k + γ : ℝ) : EReal)) (hz' : ∀ k, ¬ p k → z k = ⊥)
    (k₀ : Fin n) (h₀ : p k₀) (M : EReal) (hM : M = max ⊥ (Finset.univ.fold max ⊥ z)) :
    ∑ k : Fin n, v k * Ideal.div (Ideal.exp (z k - M)) (0 + ∑ k' : Fin n, Ideal.exp (z k' - M))
      = soft (Finset.univ.filter p) x v := by
  obtain ⟨μ, hμ⟩ := block_max (fun k => k) p (fun k => Real.log 2 * x k + γ) z hz hz' k₀ h₀
  rw [hμ, max_eq_right bot_le] at hM
  subst hM
  have hexp : ∀ k, Ideal.exp (z k - (μ : EReal)) = ((if p k then (2 : ℝ) ^ x k * Real.exp (γ - μ) else 0 : ℝ) : EReal) := by
    intro k
    by_cases h : p k
    · rw [if_pos h, hz k h, ← EReal.coe_sub, Ideal.exp_coe, Real.rpow_def_of_pos two_pos, ← Real.exp_add]
      congr 2; ring
    · rw [if_neg h, hz' k h, sub_eq_add_neg, EReal.bot_add, Ideal.exp_bot, EReal.coe_zero]
  simp only [hexp]
  rw [zero_add, ← coe_sum, ← Finset.sum_filter]
  have hne : (Finset.univ.filter p).Nonempty := ⟨k₀, by simp [h₀]⟩
  have h3 : 0 < ∑ s ∈ Finset.univ.filter p, (2 : ℝ) ^ x s := Finset.sum_pos (fun s _ => Real.rpow_pos_of_pos two_pos _) hne
  have hpos : 0 < ∑ s ∈ Finset.univ.filter p, (2 : ℝ) ^ x s * Real.exp (γ - μ) :=
    Finset.sum_pos (fun s _ => mul_pos (Real.rpow_pos_of_pos two_pos _) (Real.exp_pos _)) hne
  unfold soft
  refine Eq.trans ?_ (Finset.sum_filter p _).symm
  refine Finset.sum_congr rfl fun k _ => ?_
  rw [Ideal.div_coe hpos.ne', ← EReal.coe_mul]
  by_cases h : p k
  · rw [if_pos h, if_pos h, mul_comm]
    congr 2
    rw [← Finset.sum_mul]
    have h4 : Real.exp (γ - μ) ≠ 0 := (Real.exp_pos _).ne'
    have h5 := h3.ne'
    field_simp
  · rw [if_neg h, if_neg h, zero_mul, EReal.coe_zero, mul_zero]

/-! ## The gate -/

/-- The logistic function written with the hyperbolic tangent, at a real number. -/
theorem half_tanh (r : ℝ) : 0.5 * Real.tanh (0.5 * r) + 0.5 = (1 + Real.exp (-r))⁻¹ := by
  rw [Real.tanh_eq_sinh_div_cosh, Real.sinh_eq, Real.cosh_eq]
  have h : Real.exp (-r) = Real.exp (-(0.5 * r)) * Real.exp (-(0.5 * r)) := by rw [← Real.exp_add]; congr 1; ring
  have h1 : Real.exp (0.5 * r) * Real.exp (-(0.5 * r)) = 1 := by rw [← Real.exp_add]; simp
  have ha := Real.exp_pos (0.5 * r)
  have hb := Real.exp_pos (-(0.5 * r))
  rw [h]
  generalize Real.exp (0.5 * r) = a at *
  generalize Real.exp (-(0.5 * r)) = b at *
  have hs : a + b ≠ 0 := (add_pos ha hb).ne'
  have ht : 1 + b * b ≠ 0 := (add_pos one_pos (mul_pos hb hb)).ne'
  field_simp
  nlinarith [h1]

end Cert.FoxMath
-- ==== Proof.FoxOps.lean ====
/- The attention kernel's body over the extended reals, operation by operation at an index: scores, running maximum, sum of
   weights and weighted sum of values of each half of a query block, on the diagonal and against a full block of keys. -/
module

public import proofs.«01_k».proof.Proof.FoxRun
public import proofs.«01_k».proof.Proof.FoxMath
public import Idealize.ShloMosaic.Lib.Pointwise
public import Idealize.ShloMosaic.Lib.Pipeline.ValueKit.Tiles
public import Idealize.ShloMosaic.Lib.Tactic.WordOmega

@[expose] public section

set_option maxRecDepth 16384
noncomputable section

namespace Cert.FoxBlock

open Cert.KernelIdeal Cert.KernelIdeal.Gen Cert.FoxRun Cert.FoxMath Idealize.ShloMosaic Idealize.ShloMosaic.TcCoe

/-! ## Constants -/

/-- The factor of the queries: one over the root of the head's width, to base two. -/
def qs : ℝ := (Real.sqrt 128)⁻¹ * (Real.log 2)⁻¹
/-- The factor of the running sums: to base two. -/
def l2e : ℝ := (Real.log 2)⁻¹

theorem named_qs : Named.named (F := Ideal) (φ := .f32) κ "qscale" 0x3E0293EE#32 = (qs : EReal) :=
  IdealRules.named_const.ideal_named_scalar _ _ _ _ rfl
theorem named_l2e : Named.named (F := Ideal) (φ := .f32) κ "log2e" 0x3FB8AA3B#32 = (l2e : EReal) :=
  IdealRules.named_const.ideal_named_scalar _ _ _ _ rfl
/-- The word of `-∞` is `⊥`. -/
theorem neg_inf : Ideal.ofBits .f32 0xFF800000#32 = (⊥ : EReal) := by
  simp [Ideal.ofBits, Ideal.ieee]
/-- The word of one half. -/
theorem half : Ideal.ofBits .f32 0x3F000000#32 = ((0.5 : ℝ) : EReal) := by
  simp [Ideal.ofBits, Ideal.ieee]
  rw [← EReal.coe_mul]
  norm_num

/-! ## The body's operations at an index -/

section Ops

variable (i : grid0.Coords) (Q : Vec Ideal S1x1024x128 .bf16) (q : FVec Ideal S1024x128 .bf16) (m l : FVec Ideal S512x1 .f32) (a : FVec Ideal S512x128 .f32)
  (K V : Vec Ideal S1x1024x128 .bf16) (C : Vec Ideal S1x1x1x1024 .f32)
  (K' V' : Vec Ideal S1x512x128 .bf16) (C' : Vec Ideal S1x1x1x512 .f32) (r : Fin 512) (d : Fin 128)

/-- The queries, scaled. -/
theorem pay16 (t : Fin 1024) : k0_pay16 (F := Ideal) Q (ix2 t d) = Q (ix3 0 t d) * (qs : EReal) := by
  pointwise [k0_pay16]
  rw [named_qs]

/-- The scores of an upper row against a full block. -/
theorem pay2 (k : Fin 1024) : k0_pay2 (F := Ideal) q K C (ix2 r k)
    = ∑ x : Fin 128, q (ix2 ⟨r.val, by omega⟩ x) * K (ix3 0 k x) - C (ix4 0 0 0 k) * (l2e : EReal) := by
  pointwise [k0_pay2]
  rw [named_l2e]

theorem pay3 : k0_pay3 (F := Ideal) q m K C (ix2 r 0)
    = max (m (ix2 r 0)) (Finset.univ.fold max ⊥ fun k : Fin 1024 => k0_pay2 (F := Ideal) q K C (ix2 r k)) := by
  pointwise [k0_pay3]
  rw [neg_inf]

theorem pay6 : k0_pay6 (F := Ideal) q m l K C (ix2 r 0)
    = Ideal.exp2 (m (ix2 r 0) - k0_pay3 (F := Ideal) q m K C (ix2 r 0)) * l (ix2 r 0)
      + ∑ k : Fin 1024, Ideal.exp2 (k0_pay2 (F := Ideal) q K C (ix2 r k) - k0_pay3 (F := Ideal) q m K C (ix2 r 0)) := by
  pointwise [k0_pay6, k0_pay4, k0_pay5]
  rfl

theorem pay7 : k0_pay7 (F := Ideal) q m a K C V (ix2 r d)
    = Ideal.exp2 (m (ix2 r 0) - k0_pay3 (F := Ideal) q m K C (ix2 r 0)) * a (ix2 r d)
      + ∑ k : Fin 1024, Ideal.exp2 (k0_pay2 (F := Ideal) q K C (ix2 r k) - k0_pay3 (F := Ideal) q m K C (ix2 r 0)) * V (ix3 0 k d) := by
  pointwise [k0_pay7, k0_pay4, k0_pay5]
  rfl

/-- The scores of a lower row against a full block. -/
theorem pay36 (k : Fin 1024) : k0_pay36 (F := Ideal) (k0_pay8 q K) C (ix2 r k)
    = ∑ x : Fin 128, q (ix2 ⟨512 + r.val, by omega⟩ x) * K (ix3 0 k x) - C (ix4 0 0 0 k) * (l2e : EReal) := by
  pointwise [k0_pay36, k0_pay8]
  rw [named_l2e]

variable (s : FVec Ideal S512x1024 .f32)

theorem pay37 : k0_pay37 (F := Ideal) m s C (ix2 r 0)
    = max (m (ix2 r 0)) (Finset.univ.fold max ⊥ fun k : Fin 1024 => k0_pay36 (F := Ideal) s C (ix2 r k)) := by
  pointwise [k0_pay37]
  rw [neg_inf]

theorem pay40 : k0_pay40 (F := Ideal) m l s C (ix2 r 0)
    = Ideal.exp2 (m (ix2 r 0) - k0_pay37 (F := Ideal) m s C (ix2 r 0)) * l (ix2 r 0)
      + ∑ k : Fin 1024, Ideal.exp2 (k0_pay36 (F := Ideal) s C (ix2 r k) - k0_pay37 (F := Ideal) m s C (ix2 r 0)) := by
  pointwise [k0_pay40, k0_pay38, k0_pay39]
  rfl

theorem pay41 : k0_pay41 (F := Ideal) m a s C V (ix2 r d)
    = Ideal.exp2 (m (ix2 r 0) - k0_pay37 (F := Ideal) m s C (ix2 r 0)) * a (ix2 r d)
      + ∑ k : Fin 1024, Ideal.exp2 (k0_pay36 (F := Ideal) s C (ix2 r k) - k0_pay37 (F := Ideal) m s C (ix2 r 0)) * V (ix3 0 k d) := by
  pointwise [k0_pay41, k0_pay38, k0_pay39]
  rfl

/-- The causal mask on the diagonal, as the body compares positions: keys up to the query's own. -/
theorem mask (b : Fin 4) (h k r : ℕ) (hh : h ≤ 512) (hk : k < 1024) (hr : r < 512) {α : Type} (x y : α) :
    Scalar.select (IntOp.cmpi .sle (IntOp.addi (Scalar.muli (BitVec.ofNat 32 b.val) 1024#32) (BitVec.ofNat 32 k))
        (IntOp.addi (Scalar.addi (Scalar.muli (BitVec.ofNat 32 b.val) 1024#32) (BitVec.ofNat 32 h)) (BitVec.ofNat 32 r))) x y
      = if k ≤ h + r then x else y := by
  have hb := b.isLt
  have e1 : (IntOp.addi (Scalar.muli (BitVec.ofNat 32 b.val) 1024#32) (BitVec.ofNat 32 k)) = BitVec.ofNat 32 (b.val * 1024 + k) := by
    apply BitVec.eq_of_toNat_eq
    simp [IntOp.addi, Scalar.muli, IntOp.muli, BitVec.toNat_add, BitVec.toNat_mul, BitVec.toNat_ofNat]
  have e2 : (IntOp.addi (Scalar.addi (Scalar.muli (BitVec.ofNat 32 b.val) 1024#32) (BitVec.ofNat 32 h)) (BitVec.ofNat 32 r))
      = BitVec.ofNat 32 (b.val * 1024 + h + r) := by
    apply BitVec.eq_of_toNat_eq
    simp [IntOp.addi, Scalar.addi, Scalar.muli, IntOp.muli, BitVec.toNat_add, BitVec.toNat_mul, BitVec.toNat_ofNat]
  rw [e1, e2]
  have t1 : (BitVec.ofNat 32 (b.val * 1024 + k)).toInt = ((b.val * 1024 + k : ℕ) : ℤ) := by
    rw [BitVec.toInt_eq_toNat_of_lt] <;> simp only [BitVec.toNat_ofNat] <;> omega
  have t2 : (BitVec.ofNat 32 (b.val * 1024 + h + r)).toInt = ((b.val * 1024 + h + r : ℕ) : ℤ) := by
    rw [BitVec.toInt_eq_toNat_of_lt] <;> simp only [BitVec.toNat_ofNat] <;> omega
  by_cases hc : k ≤ h + r
  · rw [if_pos hc]
    simp only [Scalar.select, IntOp.cmpi, BitVec.sle, t1, t2]
    rw [if_pos]
    rw [decide_eq_true (by omega)]; rfl
  · rw [if_neg hc]
    simp only [Scalar.select, IntOp.cmpi, BitVec.sle, t1, t2]
    rw [if_neg]
    rw [decide_eq_false (by omega)]; decide

/-- The scores of an upper row on the diagonal. -/
theorem pay20 (k : Fin 512) : k0_pay20 (F := Ideal) i Q K' C' (ix2 r k)
    = if k.val ≤ r.val then ∑ x : Fin 128, k0_pay16 (F := Ideal) Q (ix2 ⟨r.val, by omega⟩ x) * K' (ix3 0 k x) - C' (ix4 0 0 0 k) * (l2e : EReal) else ⊥ := by
  pointwise [k0_pay20]
  rw [named_l2e, neg_inf]
  refine (mask (i 2) 0 k.val r.val (by omega) (by omega) r.isLt _ _).trans ?_
  rw [zero_add]

theorem pay21 : k0_pay21 (F := Ideal) i Q K' C' (ix2 r 0)
    = max ⊥ (Finset.univ.fold max ⊥ fun k : Fin 512 => k0_pay20 (F := Ideal) i Q K' C' (ix2 r k)) := by
  pointwise [k0_pay21, k0_pay17]
  simp only [neg_inf]

theorem pay25 : k0_pay25 (F := Ideal) k0_pay18 (k0_pay20 i Q K' C') (k0_pay21 i Q K' C') (k0_pay22 i Q K' C') (ix2 r 0)
    = Ideal.exp2 (⊥ - k0_pay21 (F := Ideal) i Q K' C' (ix2 r 0)) * 0
      + ∑ k : Fin 512, Ideal.exp2 (k0_pay20 (F := Ideal) i Q K' C' (ix2 r k) - k0_pay21 (F := Ideal) i Q K' C' (ix2 r 0)) := by
  pointwise [k0_pay25, k0_pay23, k0_pay24, k0_pay18, k0_pay22, k0_pay17]
  simp only [neg_inf, Ideal.ofBits_zero_f32]
  rfl

theorem pay26 : k0_pay26 (F := Ideal) k0_pay19 (k0_pay20 i Q K' C') (k0_pay21 i Q K' C') (k0_pay22 i Q K' C') V' (ix2 r d)
    = Ideal.exp2 (⊥ - k0_pay21 (F := Ideal) i Q K' C' (ix2 r 0)) * 0
      + ∑ k : Fin 512, Ideal.exp2 (k0_pay20 (F := Ideal) i Q K' C' (ix2 r k) - k0_pay21 (F := Ideal) i Q K' C' (ix2 r 0)) * V' (ix3 0 k d) := by
  pointwise [k0_pay26, k0_pay23, k0_pay24, k0_pay19, k0_pay22, k0_pay17]
  simp only [neg_inf, Ideal.ofBits_zero_f32]
  rfl

/-- The scores of a lower row on the diagonal. -/
theorem pay30 (k : Fin 1024) : k0_pay30 (F := Ideal) (BitVec.ofNat 32 (i 2).val) q (Scalar.muli (BitVec.ofNat 32 (i 2).val) 1024#32) K C (ix2 r k)
    = if k.val ≤ 512 + r.val then ∑ x : Fin 128, q (ix2 ⟨512 + r.val, by omega⟩ x) * K (ix3 0 k x) - C (ix4 0 0 0 k) * (l2e : EReal) else ⊥ := by
  pointwise [k0_pay30]
  rw [named_l2e, neg_inf]
  exact mask (i 2) 512 k.val r.val le_rfl k.isLt r.isLt _ _

theorem pay31 : k0_pay31 (F := Ideal) k0_pay27 s (ix2 r 0) = max ⊥ (Finset.univ.fold max ⊥ fun k : Fin 1024 => s (ix2 r k)) := by
  pointwise [k0_pay31, k0_pay27]
  simp only [neg_inf]

theorem pay34 : k0_pay34 (F := Ideal) k0_pay27 k0_pay28 s (ix2 r 0)
    = Ideal.exp2 (⊥ - k0_pay31 (F := Ideal) k0_pay27 s (ix2 r 0)) * 0
      + ∑ k : Fin 1024, Ideal.exp2 (s (ix2 r k) - k0_pay31 (F := Ideal) k0_pay27 s (ix2 r 0)) := by
  generalize hM : k0_pay31 (F := Ideal) k0_pay27 s = M
  pointwise [k0_pay34, k0_pay32, k0_pay33, k0_pay28]
  simp only [hM]
  pointwise [k0_pay27]
  simp only [neg_inf, Ideal.ofBits_zero_f32]
  rfl

theorem pay35 : k0_pay35 (F := Ideal) k0_pay27 k0_pay29 s V (ix2 r d)
    = Ideal.exp2 (⊥ - k0_pay31 (F := Ideal) k0_pay27 s (ix2 r 0)) * 0
      + ∑ k : Fin 1024, Ideal.exp2 (s (ix2 r k) - k0_pay31 (F := Ideal) k0_pay27 s (ix2 r 0)) * V (ix3 0 k d) := by
  generalize hM : k0_pay31 (F := Ideal) k0_pay27 s = M
  pointwise [k0_pay35, k0_pay32, k0_pay33, k0_pay29]
  simp only [hM]
  pointwise [k0_pay27]
  simp only [neg_inf, Ideal.ofBits_zero_f32]
  rfl

/-- The gate of the kernel: `x` times its logistic, by the hyperbolic tangent. -/
def gate (x : EReal) : EReal := x * (((0.5 : ℝ) : EReal) * Ideal.tanh (((0.5 : ℝ) : EReal) * x) + ((0.5 : ℝ) : EReal))

/-- The block written: each half's quotient, gated. -/
theorem pay48 (l' : FVec Ideal S512x1 .f32) (a' : FVec Ideal S512x128 .f32) (t : Fin 1024) :
    k0_pay48 (F := Ideal) l a l' a' Q (ix2 t d)
      = (if h : t.val < 512 then Ideal.div (a (ix2 ⟨t.val, h⟩ d)) (l (ix2 ⟨t.val, h⟩ 0))
          else Ideal.div (a' (ix2 ⟨t.val - 512, by omega⟩ d)) (l' (ix2 ⟨t.val - 512, by omega⟩ 0))) * gate (Q (ix3 0 t d)) := by
  pointwise [k0_pay48]
  rw [half]
  unfold gate
  by_cases h : t.val < 512
  · simp only [dif_pos h]
  · simp only [dif_neg h]

theorem pay1 (x : FVec Ideal S1024x128 .bf16) (t : Fin 1024) : k0_pay1 (F := Ideal) x (ix3 0 t d) = x (ix2 t d) := by
  pointwise [k0_pay1]

end Ops

end Cert.FoxBlock
-- ==== Proof.MlstmOps.lean ====
/- The mLSTM kernel's body over the extended reals, operation by operation at an index: the log weights of a chunk, the
   offset of a row, the weighted sums, the read-out, the state and the offset after the chunk. -/
module

public import proofs.«01_k».proof.Proof.MlstmRun
public import proofs.«01_k».proof.Proof.FoxOps

@[expose] public section

set_option maxRecDepth 16384
noncomputable section

namespace Cert.MlstmOps

open Cert.MlstmIdeal Cert.MlstmIdeal.Gen Cert.MlstmRun Idealize.ShloMosaic Idealize.ShloMosaic.TcCoe

/-- The word of one sixteenth. -/
theorem sixteenth : Ideal.ofBits .f32 0x3D800000#32 = ((0.0625 : ℝ) : EReal) := by
  simp [Ideal.ofBits, Ideal.ieee]
  rw [← EReal.coe_mul]
  norm_num

/-- A result, from a head's read-outs at a position: over their root mean square, times the gain and the gate. -/
def result (h : Fin 512 → EReal) (e : Fin 512) (w g : EReal) : EReal :=
  h e * Ideal.rsqrt (Ideal.div (∑ j, h j * h j) (Ideal.ofBits .f32 0x44000000#32) + Ideal.ofBits .f32 0x358637BD#32) * w * FoxBlock.gate g

/-- The causal mask of a chunk: positions up to the row's own. -/
theorem mask (k r : ℕ) (hk : k < 512) (hr : r < 512) {α : Type} (x y : α) :
    Scalar.select (IntOp.cmpi .sle (BitVec.ofNat 32 k) (BitVec.ofNat 32 r)) x y = if k ≤ r then x else y := by
  have t1 : (BitVec.ofNat 32 k).toInt = (k : ℤ) := by
    rw [BitVec.toInt_eq_toNat_of_lt] <;> simp only [BitVec.toNat_ofNat] <;> omega
  have t2 : (BitVec.ofNat 32 r).toInt = (r : ℤ) := by
    rw [BitVec.toInt_eq_toNat_of_lt] <;> simp only [BitVec.toNat_ofNat] <;> omega
  simp only [Scalar.select, IntOp.cmpi, BitVec.sle, t1, t2]
  by_cases h : k ≤ r
  · rw [if_pos h, if_pos (by rw [decide_eq_true (by omega)]; rfl)]
  · rw [if_neg h, if_neg (by rw [decide_eq_false (by omega)]; decide)]

/-- The lane of ones: the first of those behind the values. -/
theorem lane (n : ℕ) (hn : n < 128) {α : Type} (x y : α) :
    Scalar.select (IntOp.cmpi .eq (BitVec.ofNat 32 n) 0#32) x y = if n = 0 then x else y := by
  by_cases h : n = 0
  · subst h; rfl
  · have t : (BitVec.ofNat 32 n).toNat = n := by simp only [BitVec.toNat_ofNat]; omega
    have hne : BitVec.ofNat 32 n ≠ 0#32 := fun e => h (by rw [← t, e]; rfl)
    rw [if_neg h]
    unfold Scalar.select
    rw [if_neg]
    show ¬ BitVec.ofBool (BitVec.ofNat 32 n == 0#32) = 1#1
    rw [beq_eq_false_iff_ne.mpr hne]; decide

/-! ## The body's stages of a row, named -/

section Stages

variable (q k : FVec Ideal S512x256 .bf16) (x : FVec Ideal S512x640 .bf16) (ar : FVec Ideal S1x512 .f32) (bc : FVec Ideal S512x1 .f32)
  (M : Vec Ideal S1x1 .f32) (mask : IVec S512x512 1) (bb : FVec Ideal S512x512 .f32) (C : Vec Ideal S256x640 .f32)

/-- The masked log weights of the chunk's own positions. -/
def logw : FVec Ideal S512x512 .f32 :=
  select mask (addf bb (broadcastTo S512x512 ar broadcasts_S1x512_S512x512)) (broadcast S512x512 (Scalar.ofBits .f32 0xFF800000#32 : Ideal .f32))

/-- The log weight of what came before. -/
def carry : FVec Ideal S512x1 .f32 := addf bc (broadcastTo S512x1 M broadcasts_S1x1_S512x1)

/-- A row's offset: the largest log weight. -/
def rowoff : FVec Ideal S512x1 .f32 :=
  maximumf (carry bc M) (shapeCast S512x1 (multiReduction .maximumf [1] S512 (logw ar mask bb) 0xFF800000#32 reduces_S512x512_S512 (.inl rfl) rfl) shapeCasts_S512_S512x1)

/-- The sums of a row: values and, in lane 512, the weights alone. -/
def sums (L : FVec Ideal S512x512 .f32) (I T : FVec Ideal S512x1 .f32) : FVec Ideal S512x640 .f32 :=
  addf
    (matmul dot_S512x512_S512x640_S512x640_1_0_0_1_n_n none
      (truncf .bf16 (mulf (mulf (matmul dot_S512x256_S512x256_S512x512_1_1_0_0_n_n none q k (constant S512x512 .f32 0x00000000#32)) (broadcast S512x512 (Scalar.ofBits .f32 0x3D800000#32 : Ideal .f32)))
        (exp (subf L (broadcastTo S512x512 T broadcasts_S512x1_S512x512)))) bitsLt_bf16_f32) x (constant S512x640 .f32 0x00000000#32))
    (mulf (broadcastTo S512x640 (mulf (exp (subf I T)) (broadcast S512x1 (Scalar.ofBits .f32 0x3D800000#32 : Ideal .f32))) broadcasts_S512x1_S512x640)
      (matmul dot_S512x256_S256x640_S512x640_1_0_0_1_n_n none q (truncf .bf16 C bitsLt_bf16_f32) (constant S512x640 .f32 0x00000000#32)))

/-- The read-out of a row: its weighted sum over the larger of its weight and the offset's. -/
def readout (N : FVec Ideal S512x640 .f32) (T : FVec Ideal S512x1 .f32) : FVec Ideal S512x512 .f32 :=
  divf (extractStridedSlice S512x512 ![0, 0] N slices_S512x640_o0_0_S512x512)
    (broadcastTo S512x512 (maximumf (absf (extractStridedSlice S512x1 ![0, 512] N slices_S512x640_o0_512_S512x1))
      (exp (subf (broadcast S512x1 (Scalar.ofBits .f32 0x00000000#32 : Ideal .f32)) T))) broadcasts_S512x1_S512x512)

/-- A row over its root mean square. -/
def normed (h : FVec Ideal S512x512 .f32) : FVec Ideal S512x512 .f32 :=
  mulf h (broadcastTo S512x512 (rsqrt (addf (divf (shapeCast S512x1 (multiReduction .add [1] S512 (mulf h h) 0x00000000#32 reduces_S512x512_S512 (.inl rfl) rfl) shapeCasts_S512_S512x1)
    (broadcast S512x1 (Scalar.ofBits .f32 0x44000000#32 : Ideal .f32))) (broadcast S512x1 (Scalar.ofBits .f32 0x358637BD#32 : Ideal .f32)))) broadcasts_S512x1_S512x512)

theorem pay13 : k0_pay13 (F := Ideal) q k x ar bc M mask bb C
    = normed (readout (sums q k x C (logw ar mask bb) (carry bc M) (rowoff ar bc M mask bb)) (rowoff ar bc M mask bb)) := rfl

variable (r : Fin 512)

theorem carry_at : carry bc M (ix2 r 0) = bc (ix2 r 0) + M (ix2 0 0) := by
  pointwise [carry]

theorem logw_at (b : Vec Ideal S1x1x512x1 .f32) (a : Vec Ideal S1x1x1x512 .f32) (s : Fin 512) : logw (k0_pay8 a) k0_pay11 (k0_pay12 b) (ix2 r s)
    = if s.val ≤ r.val then b (ix4 0 0 r 0) + a (ix4 0 0 0 s) else ⊥ := by
  pointwise [logw, k0_pay8, k0_pay11, k0_pay12, k0_pay10]
  rw [FoxBlock.neg_inf]
  exact mask s.val r.val s.isLt r.isLt _ _

theorem rowoff_at : rowoff ar bc M mask bb (ix2 r 0)
    = max (bc (ix2 r 0) + M (ix2 0 0)) (Finset.univ.fold max ⊥ fun s : Fin 512 => logw ar mask bb (ix2 r s)) := by
  rw [← carry_at]
  generalize hI : carry bc M = I
  generalize hL : logw ar mask bb = L
  unfold rowoff
  rw [hI, hL]
  pointwise
  rw [FoxBlock.neg_inf]

theorem sums_at (L : FVec Ideal S512x512 .f32) (I T : FVec Ideal S512x1 .f32) (e : Fin 640) : sums q k x C L I T (ix2 r e)
    = (∑ s : Fin 512, (∑ d : Fin 256, q (ix2 r d) * k (ix2 s d)) * ((0.0625 : ℝ) : EReal) * Ideal.exp (L (ix2 r s) - T (ix2 r 0)) * x (ix2 s e))
      + Ideal.exp (I (ix2 r 0) - T (ix2 r 0)) * ((0.0625 : ℝ) : EReal) * ∑ d : Fin 256, q (ix2 r d) * C (ix2 d e) := by
  pointwise [sums]
  rw [sixteenth]

theorem readout_at (N : FVec Ideal S512x640 .f32) (T : FVec Ideal S512x1 .f32) (e : Fin 512) : readout N T (ix2 r e)
    = Ideal.div (N (ix2 r ⟨e.val, by omega⟩)) (max (FloatOps.absf (F := Ideal) (φ := .f32) (N (ix2 r ⟨512, by omega⟩))) (Ideal.exp (0 - T (ix2 r 0)))) := by
  pointwise [readout]

theorem normed_at (h : FVec Ideal S512x512 .f32) (e : Fin 512) : normed h (ix2 r e)
    = h (ix2 r e) * Ideal.rsqrt (Ideal.div (∑ j : Fin 512, h (ix2 r j) * h (ix2 r j)) (Ideal.ofBits .f32 0x44000000#32) + Ideal.ofBits .f32 0x358637BD#32) := by
  pointwise [normed]

end Stages

/-! ## Loads and the state -/

section Loads

variable (q : Vec Ideal S1x512x256 .bf16) (v : Vec Ideal S1x512x512 .bf16) (a b : Vec Ideal S1x1x512x1 .f32) (r : Fin 512)

theorem pay5 (d : Fin 256) : k0_pay5 (F := Ideal) q (ix2 r d) = q (ix3 0 r d) := by pointwise [k0_pay5]
theorem pay6 (d : Fin 256) : k0_pay6 (F := Ideal) q (ix2 r d) = q (ix3 0 r d) := by pointwise [k0_pay6]
theorem pay9 : k0_pay9 (F := Ideal) a (ix2 r 0) = a (ix4 0 0 r 0) := by pointwise [k0_pay9]
theorem pay10 : k0_pay10 (F := Ideal) b (ix2 r 0) = b (ix4 0 0 r 0) := by pointwise [k0_pay10]

/-- The values of a chunk, a column of ones behind them. -/
theorem pay7 (e : Fin 640) : k0_pay7 (F := Ideal) v (ix2 r e)
    = if h : e.val < 512 then v (ix3 0 r ⟨e.val, h⟩) else if e.val = 512 then 1 else 0 := by
  pointwise [k0_pay7]
  by_cases h : e.val < 512
  · simp only [dif_pos h]
  · simp only [dif_neg h]
    rw [lane _ (by omega)]
    by_cases h' : e.val = 512
    · rw [if_pos (by omega), if_pos h']
    · rw [if_neg (by omega), if_neg h']

theorem first_at (M : Vec Ideal S8x128 .f32) : first M (ix2 0 0) = M (ix2 0 0) := by
  unfold first
  pointwise

theorem pay15 (bc : FVec Ideal S512x1 .f32) : k0_pay15 (F := Ideal) bc (ix2 0 0) = bc (ix2 ⟨511, by omega⟩ 0) := by
  pointwise [k0_pay15]

theorem pay17 (ac bc : FVec Ideal S512x1 .f32) (M : Vec Ideal S1x1 .f32) : k0_pay17 (F := Ideal) ac bc M (ix2 0 0)
    = max (bc (ix2 ⟨511, by omega⟩ 0) + M (ix2 0 0)) (Finset.univ.fold max ⊥ fun s : Fin 512 => bc (ix2 ⟨511, by omega⟩ 0) + ac (ix2 s 0)) := by
  pointwise [k0_pay17, k0_pay16, k0_pay15]
  rw [FoxBlock.neg_inf]

theorem pay18 (k : FVec Ideal S512x256 .bf16) (x : FVec Ideal S512x640 .bf16) (ac bc : FVec Ideal S512x1 .f32) (M : Vec Ideal S1x1 .f32)
    (C : Vec Ideal S256x640 .f32) (d : Fin 256) (e : Fin 640) : k0_pay18 (F := Ideal) k x ac bc M C (ix2 d e)
    = Ideal.exp (bc (ix2 ⟨511, by omega⟩ 0) + M (ix2 0 0) - k0_pay17 (F := Ideal) ac bc M (ix2 0 0)) * C (ix2 d e)
      + ∑ s : Fin 512, k (ix2 s d) * Ideal.exp (bc (ix2 ⟨511, by omega⟩ 0) + ac (ix2 s 0) - k0_pay17 (F := Ideal) ac bc M (ix2 0 0)) * x (ix2 s e) := by
  generalize hM : k0_pay17 (F := Ideal) ac bc M = M'
  unfold k0_pay18
  rw [hM]
  pointwise [k0_pay16, k0_pay15]

theorem pay1 (C : FVec Ideal S256x640 .f32) (d : Fin 256) (e : Fin 640) : k0_pay1 (F := Ideal) C (ix2 d e) = C (ix2 d e) := by
  pointwise [k0_pay1]
theorem pay2 (M : FVec Ideal S1x1 .f32) : k0_pay2 (F := Ideal) M (ix2 0 0) = M (ix2 0 0) := by
  pointwise [k0_pay2]
theorem pay3 (d : Fin 256) (e : Fin 640) : k0_pay3 (F := Ideal) (ix2 d e) = 0 := by
  pointwise [k0_pay3]
theorem pay4 : k0_pay4 (F := Ideal) (ix2 0 0) = 0 := by
  pointwise [k0_pay4]

/-- The block written: the row over its root mean square, times the gain and the gate. -/
theorem pay14 (h : FVec Ideal S512x512 .f32) (w : Vec Ideal S1x512 .f32) (e : Fin 512) : k0_pay14 (F := Ideal) h w v (ix3 0 r e)
    = h (ix2 r e) * w (ix2 0 e) * FoxBlock.gate (v (ix3 0 r e)) := by
  pointwise [k0_pay14]
  rw [FoxBlock.half]
  rfl

end Loads

end Cert.MlstmOps
-- ==== Proof.MlstmMath.lean ====
/- The mathematics of one head of the mLSTM over the reals: a row's weighted sum over everything before it, collected chunk
   by chunk in a state held against an offset. No program is mentioned here. -/
module

public import proofs.«01_k».proof.Proof.FoxMath

@[expose] public section

noncomputable section

namespace Cert.MlstmMath

open Idealize.ShloMosaic

/-! ## A head over the reals -/

section Head

variable (a b : ℕ → ℝ) (q k : ℕ → Fin 256 → ℝ) (x : ℕ → ℝ)

/-- The sum of the log forget gates before chunk `n`, from the running sums within the chunks. -/
def before (n : ℕ) : ℝ := ∑ i ∈ Finset.range n, b (512 * i + 511)

/-- The running sum of the log forget gates at a position. -/
def run (t : ℕ) : ℝ := before b (t / 512) + b t

/-- The weight of position `s` at position `t`: the forget gates between them, times the input gate at `s`. -/
def weight (t s : ℕ) : ℝ := Real.exp (run b t - run b s + (a s + b s))

/-- The plain weighted sum of a row over the positions up to its own. -/
def total (t : ℕ) : ℝ := ∑ s ∈ Finset.range (t + 1), (∑ d, q t d * 0.0625 * k s d) * weight a b t s * x s

/-- The state before chunk `n`, against no offset. -/
def held (n : ℕ) (d : Fin 256) : ℝ := ∑ s ∈ Finset.range (512 * n), Real.exp (before b n - before b (s / 512) + a s) * k s d * x s

theorem held_zero (d : Fin 256) : held a b k x 0 d = 0 := by
  simp [held]

theorem before_succ (n : ℕ) : before b (n + 1) = before b n + b (512 * n + 511) := by
  simp [before, Finset.sum_range_succ]

/-- One chunk's step of the state, against the old and the new offset. -/
theorem held_succ (n : ℕ) (d : Fin 256) (m m' : ℝ) :
    Real.exp (b (512 * n + 511) + m - m') * (Real.exp (-m) * held a b k x n d)
      + ∑ i : Fin 512, k (512 * n + i.val) d * Real.exp (b (512 * n + 511) + a (512 * n + i.val) - m') * x (512 * n + i.val)
    = Real.exp (-m') * held a b k x (n + 1) d := by
  rw [Fin.sum_univ_eq_sum_range (fun i => k (512 * n + i) d * Real.exp (b (512 * n + 511) + a (512 * n + i) - m') * x (512 * n + i)) 512]
  unfold held
  rw [show 512 * (n + 1) = 512 * n + 512 by ring, Finset.sum_range_add, mul_add, before_succ]
  congr 1
  · rw [← mul_assoc, ← Real.exp_add, Finset.mul_sum, Finset.mul_sum]
    refine Finset.sum_congr rfl fun s _ => ?_
    rw [← mul_assoc, ← mul_assoc, ← mul_assoc, ← mul_assoc, ← Real.exp_add, ← Real.exp_add]
    congr 3
    ring
  · rw [Finset.mul_sum]
    refine Finset.sum_congr rfl fun i hi => ?_
    have : (512 * n + i) / 512 = n := by have := Finset.mem_range.mp hi; omega
    rw [this, ← mul_assoc, ← mul_assoc, ← Real.exp_add, mul_comm (k _ d)]
    congr 3
    ring

/-- A row of chunk `n`: what the chunk itself adds and what the state holds make the plain sum, against the row's offset. -/
theorem row_total (n : ℕ) (r : Fin 512) (m T : ℝ) :
    (∑ i : Fin 512, (∑ d, q (512 * n + r.val) d * k (512 * n + i.val) d) * 0.0625
        * (if i.val ≤ r.val then Real.exp (b (512 * n + r.val) + a (512 * n + i.val) - T) else 0) * x (512 * n + i.val))
      + Real.exp (b (512 * n + r.val) + m - T) * 0.0625 * ∑ d, q (512 * n + r.val) d * (Real.exp (-m) * held a b k x n d)
    = Real.exp (-T) * total a b q k x (512 * n + r.val) := by
  have hr := r.isLt
  have ht : (512 * n + r.val) / 512 = n := by omega
  unfold total
  rw [show 512 * n + r.val + 1 = 512 * n + (r.val + 1) by ring, Finset.sum_range_add, mul_add, add_comm]
  congr 1
  · unfold held
    rw [Finset.mul_sum, Finset.mul_sum]
    simp only [Finset.mul_sum]
    rw [Finset.sum_comm]
    refine Finset.sum_congr rfl fun s _ => ?_
    rw [Finset.sum_mul, Finset.sum_mul, Finset.mul_sum]
    refine Finset.sum_congr rfl fun d _ => ?_
    unfold weight run
    rw [ht]
    have e : Real.exp (b (512 * n + r.val) + m - T) * Real.exp (-m) * Real.exp (before b n - before b (s / 512) + a s)
        = Real.exp (-T) * Real.exp (before b n + b (512 * n + r.val) - (before b (s / 512) + b s) + (a s + b s)) := by
      rw [← Real.exp_add, ← Real.exp_add, ← Real.exp_add]
      congr 1
      ring
    linear_combination (q (512 * n + r.val) d * 0.0625 * k s d * x s) * e
  · rw [Fin.sum_univ_eq_sum_range (fun i => (∑ d, q (512 * n + r.val) d * k (512 * n + i) d) * 0.0625
        * (if i ≤ r.val then Real.exp (b (512 * n + r.val) + a (512 * n + i) - T) else 0) * x (512 * n + i)) 512,
      show Finset.range 512 = Finset.range ((r.val + 1) + (511 - r.val)) from congrArg _ (by omega), Finset.sum_range_add, Finset.mul_sum]
    have z : ∑ i ∈ Finset.range (511 - r.val), (∑ d, q (512 * n + r.val) d * k (512 * n + (r.val + 1 + i)) d) * 0.0625
        * (if r.val + 1 + i ≤ r.val then Real.exp (b (512 * n + r.val) + a (512 * n + (r.val + 1 + i)) - T) else 0) * x (512 * n + (r.val + 1 + i)) = 0 := by
      refine Finset.sum_eq_zero fun i _ => ?_
      rw [if_neg (by omega), mul_zero, zero_mul]
    rw [z, add_zero]
    refine Finset.sum_congr rfl fun i hi => ?_
    have hi' := Finset.mem_range.mp hi
    have hd : (512 * n + i) / 512 = n := by omega
    rw [if_pos (by omega)]
    unfold weight run
    rw [ht, hd]
    have e : Real.exp (b (512 * n + r.val) + a (512 * n + i) - T)
        = Real.exp (-T) * Real.exp (before b n + b (512 * n + r.val) - (before b n + b (512 * n + i)) + (a (512 * n + i) + b (512 * n + i))) := by
      rw [← Real.exp_add]
      congr 1
      ring
    have f : (∑ d, q (512 * n + r.val) d * 0.0625 * k (512 * n + i) d) = (∑ d, q (512 * n + r.val) d * k (512 * n + i) d) * 0.0625 := by
      rw [Finset.sum_mul]
      exact Finset.sum_congr rfl fun d _ => by ring
    rw [f, e]
    ring

/-- The plain sum over all positions of the sequence, those after the row masked away. -/
theorem total_masked (t : ℕ) (ht : t < 4096) :
    ∑ s : Fin 4096, (∑ d, q t d * 0.0625 * k s.val d) * (if s.val ≤ t then weight a b t s.val else 0) * x s.val = total a b q k x t := by
  rw [Fin.sum_univ_eq_sum_range (fun s => (∑ d, q t d * 0.0625 * k s d) * (if s ≤ t then weight a b t s else 0) * x s) 4096,
    show (4096 : ℕ) = (t + 1) + (4095 - t) by omega, Finset.sum_range_add]
  unfold total
  rw [add_eq_left.mpr]
  · refine Finset.sum_congr rfl fun s hs => ?_
    rw [if_pos (by have := Finset.mem_range.mp hs; omega)]
  · refine Finset.sum_eq_zero fun i _ => ?_
    rw [if_neg (by omega), mul_zero, zero_mul]

end Head

/-! ## Quotients -/

/-- A row's read-out: its weighted sum over its weight, the weight taken at least one. -/
def read (n d : ℝ) : ℝ := n * (1 / max |d| 1)

theorem coe_max (x y : ℝ) : ((max x y : ℝ) : EReal) = max (x : EReal) (y : EReal) :=
  EReal.coe_strictMono.monotone.map_max

theorem abs_real (d : ℝ) : max (d : EReal) (-(d : EReal)) = ((|d| : ℝ) : EReal) := by
  rw [← EReal.coe_neg, ← coe_max]
  rfl

theorem max_pos (d : ℝ) : max |d| 1 ≠ 0 := (lt_of_lt_of_le one_pos (le_max_right _ _)).ne'

theorem read_plain (n d : ℝ) : Ideal.div (n : EReal) (max (max (d : EReal) (-(d : EReal))) 1) = (read n d : EReal) := by
  rw [abs_real, ← EReal.coe_one, ← coe_max, Ideal.div_coe (max_pos d), ← EReal.coe_mul]
  rfl

theorem read_offset (n d T : ℝ) :
    Ideal.div ((Real.exp (-T) * n : ℝ) : EReal) (max (max ((Real.exp (-T) * d : ℝ) : EReal) (-((Real.exp (-T) * d : ℝ) : EReal))) (Ideal.exp (0 - (T : EReal))))
      = (read n d : EReal) := by
  have h := Real.exp_pos (-T)
  rw [abs_real, ← EReal.coe_zero, ← EReal.coe_sub, Ideal.exp_coe, ← coe_max, zero_sub, abs_mul, abs_of_pos h]
  have e : max (Real.exp (-T) * |d|) (Real.exp (-T)) = Real.exp (-T) * max |d| 1 := by
    rw [mul_max_of_nonneg _ _ h.le, mul_one]
  rw [e, Ideal.div_coe (mul_ne_zero h.ne' (max_pos d)), ← EReal.coe_mul]
  congr 1
  unfold read
  have := max_pos d
  field_simp

end Cert.MlstmMath
-- ==== Proof.MlstmBlock.lean ====
/- One chunk of the mLSTM over real arguments: from a state that holds the earlier positions against a real offset, the body
   leaves a state that holds the chunk's positions too, and the plain read-outs of the chunk's rows. -/
module

public import proofs.«01_k».proof.Proof.MlstmOps
public import proofs.«01_k».proof.Proof.MlstmMath

@[expose] public section

set_option maxRecDepth 16384
noncomputable section

namespace Cert.MlstmBlock

open Cert.MlstmIdeal Cert.MlstmIdeal.Gen Cert.MlstmRun Cert.MlstmMath Idealize.ShloMosaic Idealize.ShloMosaic.TcCoe

/-- The columns the state gathers: the values, then a column of ones, then nothing. -/
def column (vr : Fin 512 → ℕ → ℝ) (e : Fin 640) (s : ℕ) : ℝ := if h : e.val < 512 then vr ⟨e.val, h⟩ s else if e.val = 512 then 1 else 0

section Chunk

variable (n : ℕ) (ar br : ℕ → ℝ) (qr kr : ℕ → Fin 256 → ℝ) (vr : Fin 512 → ℕ → ℝ)
  (q k : Vec Ideal S1x512x256 .bf16) (v g : Vec Ideal S1x512x512 .bf16) (al : Vec Ideal S1x1x1x512 .f32) (a b : Vec Ideal S1x1x512x1 .f32)
  (w : Vec Ideal S1x512 .f32) (C : Vec Ideal S256x640 .f32) (M : Vec Ideal S1x1 .f32)
  (hq : ∀ (r : Fin 512) x, q (ix3 0 r x) = (qr (512 * n + r.val) x : EReal))
  (hk : ∀ (r : Fin 512) x, k (ix3 0 r x) = (kr (512 * n + r.val) x : EReal))
  (hv : ∀ (r : Fin 512) j, v (ix3 0 r j) = (vr j (512 * n + r.val) : EReal))
  (hal : ∀ r : Fin 512, al (ix4 0 0 0 r) = (ar (512 * n + r.val) : EReal))
  (ha : ∀ r : Fin 512, a (ix4 0 0 r 0) = (ar (512 * n + r.val) : EReal))
  (hb : ∀ r : Fin 512, b (ix4 0 0 r 0) = (br (512 * n + r.val) : EReal))
  (μ : ℝ) (hM : M (ix2 0 0) = (μ : EReal))
  (hC : ∀ d e, C (ix2 d e) = ((Real.exp (-μ) * held ar br kr (column vr e) n d : ℝ) : EReal))

include hv in
/-- The values with the column of ones. -/
theorem columns (r : Fin 512) (e : Fin 640) : k0_pay7 (F := Ideal) v (ix2 r e) = (column vr e (512 * n + r.val) : EReal) := by
  rw [MlstmOps.pay7]
  unfold column
  by_cases h : e.val < 512
  · rw [dif_pos h, dif_pos h, hv]
  · rw [dif_neg h, dif_neg h]
    by_cases h' : e.val = 512
    · rw [if_pos h', if_pos h', EReal.coe_one]
    · rw [if_neg h', if_neg h', EReal.coe_zero]

include ha hb hM in
/-- The offset after the chunk is real. -/
theorem offset_real : ∃ μ' : ℝ, k0_pay17 (F := Ideal) (k0_pay9 a) (k0_pay10 b) M (ix2 0 0) = (μ' : EReal) := by
  rw [MlstmOps.pay17]
  obtain ⟨ν, hν⟩ := FoxMath.fold_max_real (fun s : Fin 512 => k0_pay10 (F := Ideal) b (ix2 ⟨511, by omega⟩ 0) + k0_pay9 (F := Ideal) a (ix2 s 0))
    (fun s => by rw [MlstmOps.pay10, MlstmOps.pay9, hb, ha, ← EReal.coe_add]; exact EReal.coe_ne_top _) ⟨0, by omega⟩
    (by rw [MlstmOps.pay10, MlstmOps.pay9, hb, ha, ← EReal.coe_add]; exact EReal.coe_ne_bot _)
  rw [hν, MlstmOps.pay10, hb, hM, ← EReal.coe_add]
  exact FoxMath.max_real _ _

include hk hv ha hb hM hC in
/-- What the chunk leaves: a real offset, and the positions up to the chunk's end held against it. -/
theorem step : ∃ μ' : ℝ, offset a b M (ix2 0 0) = (μ' : EReal)
    ∧ ∀ d e, state k v a b C M (ix2 d e) = ((Real.exp (-μ') * held ar br kr (column vr e) (n + 1) d : ℝ) : EReal) := by
  obtain ⟨μ', hμ'⟩ := offset_real n ar br a b M ha hb μ hM
  refine ⟨μ', (MlstmOps.pay2 _).trans hμ', fun d e => ?_⟩
  unfold state
  rw [MlstmOps.pay1, MlstmOps.pay18, hμ', hM, hC, ← held_succ, MlstmOps.pay10, hb, EReal.coe_add, EReal.coe_mul, FoxMath.coe_sum, ← EReal.coe_add, ← EReal.coe_sub,
    Ideal.exp_coe]
  congr 1
  refine Finset.sum_congr rfl fun s _ => ?_
  rw [MlstmOps.pay6, hk, MlstmOps.pay9, ha, columns n vr v hv, ← EReal.coe_add, ← EReal.coe_sub, Ideal.exp_coe, ← EReal.coe_mul, ← EReal.coe_mul]

include hal hb in
/-- The masked log weights of a row. -/
theorem logw (r s : Fin 512) : MlstmOps.logw (k0_pay8 al) k0_pay11 (k0_pay12 b) (ix2 r s)
    = if s.val ≤ r.val then ((br (512 * n + r.val) + ar (512 * n + s.val) : ℝ) : EReal) else ⊥ := by
  rw [MlstmOps.logw_at, hb, hal, EReal.coe_add]

include hal hb hM in
/-- A row's offset is real. -/
theorem rowoff_real (r : Fin 512) : ∃ T : ℝ, MlstmOps.rowoff (k0_pay8 al) (k0_pay10 b) M k0_pay11 (k0_pay12 b) (ix2 r 0) = (T : EReal) := by
  rw [MlstmOps.rowoff_at]
  obtain ⟨ν, hν⟩ := FoxMath.fold_max_real (fun s : Fin 512 => MlstmOps.logw (k0_pay8 al) k0_pay11 (k0_pay12 b) (ix2 r s))
    (fun s => by
      rw [logw n ar br al b hal hb]
      by_cases h : s.val ≤ r.val
      · rw [if_pos h]; exact EReal.coe_ne_top _
      · rw [if_neg h]; exact bot_ne_top) r
    (by rw [logw n ar br al b hal hb, if_pos le_rfl]; exact EReal.coe_ne_bot _)
  rw [hν, MlstmOps.pay10, hb, hM, ← EReal.coe_add]
  exact FoxMath.max_real _ _

include hq hk hv hal hb hM hC in
/-- A row's sums are the plain ones against the row's offset. -/
theorem sums (r : Fin 512) (T : ℝ) (hT : MlstmOps.rowoff (k0_pay8 al) (k0_pay10 b) M k0_pay11 (k0_pay12 b) (ix2 r 0) = (T : EReal)) (e : Fin 640) :
    MlstmOps.sums (k0_pay5 q) (k0_pay6 k) (k0_pay7 v) C (MlstmOps.logw (k0_pay8 al) k0_pay11 (k0_pay12 b)) (MlstmOps.carry (k0_pay10 b) M)
        (MlstmOps.rowoff (k0_pay8 al) (k0_pay10 b) M k0_pay11 (k0_pay12 b)) (ix2 r e)
      = ((Real.exp (-T) * total ar br qr kr (column vr e) (512 * n + r.val) : ℝ) : EReal) := by
  rw [MlstmOps.sums_at, hT, MlstmOps.carry_at, MlstmOps.pay10, hb, hM, ← row_total ar br qr kr (column vr e) n r μ T, ← EReal.coe_add, ← EReal.coe_sub, Ideal.exp_coe,
    EReal.coe_add, EReal.coe_mul, EReal.coe_mul, FoxMath.coe_sum, FoxMath.coe_sum]
  congr 1
  · refine Finset.sum_congr rfl fun s _ => ?_
    rw [logw n ar br al b hal hb, columns n vr v hv, EReal.coe_mul, EReal.coe_mul, EReal.coe_mul, FoxMath.coe_sum]
    congr 1
    congr 1
    · congr 1
      refine Finset.sum_congr rfl fun x _ => ?_
      rw [MlstmOps.pay5, MlstmOps.pay6, hq, hk, EReal.coe_mul]
    · by_cases h : s.val ≤ r.val
      · rw [if_pos h, if_pos h, ← EReal.coe_sub, Ideal.exp_coe]
      · rw [if_neg h, if_neg h, sub_eq_add_neg, EReal.bot_add, Ideal.exp_bot, EReal.coe_zero]
  · congr 1
    refine Finset.sum_congr rfl fun x _ => ?_
    rw [MlstmOps.pay5, hq, hC, ← EReal.coe_mul]

include hq hk hv hal hb hM hC in
/-- A row's read-out is the plain one. -/
theorem readout (r : Fin 512) (j : Fin 512) :
    MlstmOps.readout (MlstmOps.sums (k0_pay5 q) (k0_pay6 k) (k0_pay7 v) C (MlstmOps.logw (k0_pay8 al) k0_pay11 (k0_pay12 b)) (MlstmOps.carry (k0_pay10 b) M)
        (MlstmOps.rowoff (k0_pay8 al) (k0_pay10 b) M k0_pay11 (k0_pay12 b))) (MlstmOps.rowoff (k0_pay8 al) (k0_pay10 b) M k0_pay11 (k0_pay12 b)) (ix2 r j)
      = (read (total ar br qr kr (vr j) (512 * n + r.val)) (total ar br qr kr (fun _ => 1) (512 * n + r.val)) : EReal) := by
  obtain ⟨T, hT⟩ := rowoff_real n ar br al b M hal hb μ hM r
  have key := sums n ar br qr kr vr q k v al b C M hq hk hv hal hb μ hM hC r T hT
  have c1 : column vr ⟨j.val, by omega⟩ = vr j := by
    funext s
    unfold column
    rw [dif_pos j.isLt]
  have c2 : column vr ⟨512, by omega⟩ = fun _ => 1 := by
    funext s
    unfold column
    rw [dif_neg (by simp), if_pos rfl]
  rw [MlstmOps.readout_at, hT, key, key, c1, c2]
  exact read_offset _ _ T

include hq hk hv hal hb hM hC in
/-- The block written. -/
theorem written (r : Fin 512) (e : Fin 512) : out q k v g al b w C M (ix3 0 r e)
    = MlstmOps.result (fun j => (read (total ar br qr kr (vr j) (512 * n + r.val)) (total ar br qr kr (fun _ => 1) (512 * n + r.val)) : EReal)) e
        (w (ix2 0 e)) (g (ix3 0 r e)) := by
  unfold out
  rw [MlstmOps.pay14, MlstmOps.pay13, MlstmOps.normed_at]
  simp only [readout n ar br qr kr vr q k v al b C M hq hk hv hal hb μ hM hC]
  rfl

end Chunk

end Cert.MlstmBlock
-- ==== Proof.FoxReference.lean ====
/- The reference's attention over the extended reals, read stage by stage at an index, and its closed form: each result is
   the softmax-weighted sum of the values of the keys up to the query, times the gate. -/
module

public import proofs.«01_k».proof.Proof.FoxOps
public import proofs.«01_k».proof.Proof.FoxMath
public import proofs.«01_k».proof.Proof.Gen.ReferenceIdeal.Read
public import Idealize.ShloMosaic.Lib.Pointwise

@[expose] public section

set_option maxRecDepth 16384
noncomputable section

namespace Cert.FoxReference

open Cert.ReferenceIdeal Cert.ReferenceIdeal.Gen Cert.ReferenceIdeal.Read Cert.FoxMath Idealize.ShloMosaic Idealize.ShloMosaic.TcCoe

/-! ## Scalars -/

/-- The gate by the hyperbolic tangent is the gate by the logistic function, at every extended real. -/
theorem gate_eq (x : EReal) : FoxBlock.gate x = x * Ideal.div 1 (1 + Ideal.exp (-x)) := by
  unfold FoxBlock.gate
  congr 1
  induction x with
  | bot =>
    rw [EReal.coe_mul_bot_of_pos (by norm_num), Ideal.tanh_bot, EReal.neg_bot, Ideal.exp_top, EReal.add_top_of_ne_bot (by decide)]
    rw [show ((-1 : EReal)) = ((-1 : ℝ) : EReal) by simp, ← EReal.coe_mul, ← EReal.coe_add]
    norm_num [Ideal.div]
  | top =>
    rw [EReal.coe_mul_top_of_pos (by norm_num), Ideal.tanh_top, EReal.neg_top, Ideal.exp_bot, add_zero, mul_one, ← EReal.coe_add]
    rw [show (1 : EReal) = ((1 : ℝ) : EReal) by simp, Ideal.div_coe one_ne_zero, ← EReal.coe_mul]
    norm_num
  | coe r =>
    have h : (1 : ℝ) + Real.exp (-r) ≠ 0 := (by positivity : (0 : ℝ) < 1 + Real.exp (-r)).ne'
    rw [← EReal.coe_mul, Ideal.tanh_coe, ← EReal.coe_mul, ← EReal.coe_add, half_tanh, ← EReal.coe_neg, Ideal.exp_coe,
      show (1 : EReal) = ((1 : ℝ) : EReal) by simp, ← EReal.coe_add, Ideal.div_coe h, ← EReal.coe_mul, one_mul, one_div]

/-- The maximum of two numbers, as the programs write it. -/
theorem larger (x y : EReal) : FloatOps.maximumf (F := Ideal) (φ := .f32) x y = max x y := rfl

/-- The word of the head's width. -/
theorem width : Ideal.ofBits .f32 1124073472#32 = ((128 : ℝ) : EReal) := by
  simp [Ideal.ofBits, Ideal.ieee]
  rw [← EReal.coe_mul]
  norm_num

/-- The causal mask, as the reference compares positions. -/
theorem mask (s t : ℕ) (hs : s < 4096) (ht : t < 4096) {α : Type} (x y : α) :
    Scalar.select (IntOp.cmpi .sle (BitVec.ofNat 32 s) (BitVec.ofNat 32 t)) x y = if s ≤ t then x else y := by
  have t1 : (BitVec.ofNat 32 s).toInt = (s : ℤ) := by
    rw [BitVec.toInt_eq_toNat_of_lt] <;> simp only [BitVec.toNat_ofNat] <;> omega
  have t2 : (BitVec.ofNat 32 t).toInt = (t : ℤ) := by
    rw [BitVec.toInt_eq_toNat_of_lt] <;> simp only [BitVec.toNat_ofNat] <;> omega
  by_cases h : s ≤ t <;> simp [Scalar.select, IntOp.cmpi, BitVec.sle, t1, t2, h]

/-! ## The stages at an index -/

section Stages

variable (U : (⟨S4x4096x28672, .bf16⟩ : BufTy).Contents (Elt Ideal)) (C : (⟨S4x32x4096, .f32⟩ : BufTy).Contents (Elt Ideal))
  (b : Fin 4) (t s : Fin 4096) (h : Fin 32) (d : Fin 128) (e : Fin 4096)

/-- A lane of the projection, counted from the start of its last four parts of 4096. -/
def lane (part : Fin 4) (h : Fin 32) (d : Fin 128) : Fin 28672 := ⟨12288 + part.val * 4096 + h.val * 128 + d.val, by omega⟩

theorem q_apply : val_main_v6 (F := Ideal) U (ix4 b t h d) = U (ix3 b t (lane 0 h d)) := by
  pointwise [val_main_v6, val_main_v2, val_main_v1, val_main_v0]
  exact congrArg U (congrArg (ix3 b t) (Fin.ext (by simp [lane]; omega)))

theorem k_apply : val_main_v7 (F := Ideal) U (ix4 b t h d) = U (ix3 b t (lane 1 h d)) := by
  pointwise [val_main_v7, val_main_v3, val_main_v1, val_main_v0]
  exact congrArg U (congrArg (ix3 b t) (Fin.ext (by simp [lane]; omega)))

theorem v_apply : val_main_v8 (F := Ideal) U (ix4 b t h d) = U (ix3 b t (lane 2 h d)) := by
  pointwise [val_main_v8, val_main_v4, val_main_v1, val_main_v0]
  exact congrArg U (congrArg (ix3 b t) (Fin.ext (by simp [lane]; omega)))

theorem dot_apply : val_main_v9 (F := Ideal) U (ix4 b h t s)
    = ∑ d, val_main_v6 (F := Ideal) U (ix4 b t h d) * val_main_v7 (F := Ideal) U (ix4 b s h d) := by
  pointwise [val_main_v9]

theorem logit_apply : val_main_v25 (F := Ideal) U C (ix4 b h t s)
    = if s.val ≤ t.val then Ideal.div (val_main_v9 (F := Ideal) U (ix4 b h t s)) (Ideal.sqrt ((128 : ℝ) : EReal)) + C (ix3 b h t) - C (ix3 b h s) else ⊥ := by
  pointwise [val_main_v25, val_main_v18, val_main_v17, val_main_v16, val_main_v15, val_main_v14, val_main_v13, val_main_v12,
    val_main_v11, val_main_v10, val_main_cst, val_main_v24, val_main_v23, val_main_v22, val_main_v21, val_main_v20, val_main_v19,
    val_main_call0_v0, val_main_call0_v1, val_main_call0_v2, val_main_cst_0]
  refine (mask s.val t.val s.isLt t.isLt _ _).trans ?_
  rw [width]
  exact if_congr Iff.rfl rfl FoxBlock.neg_inf

theorem rowmax_apply : val_main_v26 (F := Ideal) U C (ix3 b h t)
    = Finset.univ.fold max ⊥ fun s => val_main_v25 (F := Ideal) U C (ix4 b h t s) := by
  unfold val_main_v26
  generalize val_main_v25 (F := Ideal) U C = Z
  have hr : S4x32x4096x4096.Reduces [3] S4x32x4096 := by decide
  refine (Host.reduce_eq_fold_single (α := EReal) max Z (val_main_cst_1 (F := Ideal)) reducesTo_S4x32x4096x4096_S4x32x4096_d3 hr h_S_ (ix3 b h t)).trans ?_
  rw [show val_main_cst_1 (F := Ideal) (Shape.Idx.first h_S_) = (⊥ : EReal) from FoxBlock.neg_inf]
  refine congrArg (fun f => Finset.fold max (⊥ : EReal) f (Finset.univ : Finset (Fin 4096))) (funext fun s => congrArg Z ?_)
  funext a
  match a with
  | ⟨0, _⟩ => rfl
  | ⟨1, _⟩ => rfl
  | ⟨2, _⟩ => rfl
  | ⟨3, _⟩ => rfl

theorem max_apply : val_main_v28 (F := Ideal) U C (ix3 b h t)
    = max ⊥ (Finset.univ.fold max ⊥ fun s => val_main_v25 (F := Ideal) U C (ix4 b h t s)) := by
  have e1 : val_main_v27 (F := Ideal) (ix3 b h t) = (⊥ : EReal) :=
    (val_main_v27_apply _).trans ((val_main_cst_2_apply _).trans FoxBlock.neg_inf)
  rw [val_main_v28_apply, e1, rowmax_apply]
  exact larger _ _

theorem p_apply : val_main_v36 (F := Ideal) U C (ix4 b h t s)
    = Ideal.div (Ideal.exp (val_main_v25 (F := Ideal) U C (ix4 b h t s) - val_main_v28 (F := Ideal) U C (ix3 b h t)))
        (∑ s', Ideal.exp (val_main_v25 (F := Ideal) U C (ix4 b h t s') - val_main_v28 (F := Ideal) U C (ix3 b h t))) := by
  unfold val_main_v36 val_main_v35 val_main_v34 val_main_v33 val_main_v32 val_main_v31 val_main_v30 val_main_v29
  generalize val_main_v25 (F := Ideal) U C = Z
  generalize val_main_v28 (F := Ideal) U C = M
  pointwise [val_main_cst_3]

theorem o_apply : val_main_v37 (F := Ideal) U C (ix4 b h d t)
    = ∑ s, val_main_v8 (F := Ideal) U (ix4 b s h d) * val_main_v36 (F := Ideal) U C (ix4 b h t s) := by
  unfold val_main_v37
  generalize val_main_v36 (F := Ideal) U C = P
  generalize val_main_v8 (F := Ideal) U = W
  pointwise

theorem out_apply (he : e.val = h.val * 128 + d.val) : val_main_v42 (F := Ideal) U C (ix3 b t e)
    = val_main_v37 (F := Ideal) U C (ix4 b h d t) * FoxBlock.gate (U (ix3 b t (lane 3 h d))) := by
  have e1 : (⟨e.val / 128, by omega⟩ : Fin 32) = h := Fin.ext (by show e.val / 128 = h.val; omega)
  have e2 : (⟨e.val % 128, by omega⟩ : Fin 128) = d := Fin.ext (by show e.val % 128 = d.val; omega)
  have e3 : (⟨12288 + (12288 + e.val), by omega⟩ : Fin 28672) = lane 3 h d := Fin.ext (by simp [lane]; omega)
  unfold val_main_v42 val_main_v41 val_main_v39 val_main_v38
  generalize val_main_v37 (F := Ideal) U C = O
  pointwise [val_main_v40, val_main_call1_v5, val_main_call1_v4, val_main_call1_v3, val_main_call1_v2, val_main_call1_v1,
    val_main_call1_v0, val_main_call1_cst, val_main_call1_cst_0, val_main_v5, val_main_v1, val_main_v0]
  rw [e1, e2, e3, gate_eq]

end Stages

/-! ## The closed form -/

/-- The score of a key for a query, to base two: the scaled product of the two less the key's running sum. -/
def score (qr : Fin 128 → ℝ) (kr : Fin 4096 → Fin 128 → ℝ) (cr : Fin 4096 → ℝ) (s : Fin 4096) : ℝ :=
  (∑ x, qr x * FoxBlock.qs * kr s x) - cr s * FoxBlock.l2e

/-- The reference's logit in natural units is the score to base two, up to the query's own running sum. -/
theorem logit_real (qr : Fin 128 → ℝ) (kr : Fin 4096 → Fin 128 → ℝ) (cr : Fin 4096 → ℝ) (s t : Fin 4096) :
    (∑ x, qr x * kr s x) * (1 / Real.sqrt 128) + cr t - cr s = Real.log 2 * score qr kr cr s + cr t := by
  have h2 : Real.log 2 ≠ 0 := (Real.log_pos one_lt_two).ne'
  have hsum : ∑ x, qr x * FoxBlock.qs * kr s x = FoxBlock.qs * ∑ x, qr x * kr s x := by
    rw [Finset.mul_sum]
    exact Finset.sum_congr rfl fun x _ => by ring
  unfold score
  rw [hsum]
  unfold FoxBlock.qs FoxBlock.l2e
  field_simp
  ring

/-- Where queries, keys and running sums are real, the reference's result is the softmax-weighted sum of the values of the
    keys up to the query, times the gate. -/
theorem value (U : (⟨S4x4096x28672, .bf16⟩ : BufTy).Contents (Elt Ideal)) (C : (⟨S4x32x4096, .f32⟩ : BufTy).Contents (Elt Ideal))
    (b : Fin 4) (t : Fin 4096) (h : Fin 32) (d : Fin 128) (e : Fin 4096) (he : e.val = h.val * 128 + d.val)
    (qr : Fin 128 → ℝ) (kr : Fin 4096 → Fin 128 → ℝ) (cr : Fin 4096 → ℝ)
    (hq : ∀ x, U (ix3 b t (lane 0 h x)) = (qr x : EReal)) (hk : ∀ s x, U (ix3 b s (lane 1 h x)) = (kr s x : EReal))
    (hc : ∀ s, C (ix3 b h s) = (cr s : EReal)) :
    val_main_v42 (F := Ideal) U C (ix3 b t e)
      = soft (Finset.univ.filter fun s : Fin 4096 => s.val ≤ t.val) (score qr kr cr) (fun s => U (ix3 b s (lane 2 h d)))
        * FoxBlock.gate (U (ix3 b t (lane 3 h d))) := by
  rw [out_apply U C b t h d e he, o_apply]
  congr 1
  have hz : ∀ s : Fin 4096, s.val ≤ t.val → val_main_v25 (F := Ideal) U C (ix4 b h t s) = ((Real.log 2 * score qr kr cr s + cr t : ℝ) : EReal) := by
    intro s hs
    have hroot : Real.sqrt 128 ≠ 0 := (Real.sqrt_pos.mpr (by norm_num)).ne'
    have hdot : val_main_v9 (F := Ideal) U (ix4 b h t s) = ((∑ x, qr x * kr s x : ℝ) : EReal) := by
      rw [dot_apply, coe_sum]
      refine Finset.sum_congr rfl fun x _ => ?_
      rw [q_apply, k_apply, hq, hk, EReal.coe_mul]
    rw [logit_apply, if_pos hs, hdot, ← logit_real, Ideal.sqrt_coe, if_neg (by norm_num), Ideal.div_coe hroot, hc, hc,
      EReal.coe_sub, EReal.coe_add, EReal.coe_mul]
  have hz' : ∀ s : Fin 4096, ¬ s.val ≤ t.val → val_main_v25 (F := Ideal) U C (ix4 b h t s) = ⊥ := by
    intro s hs
    rw [logit_apply, if_neg hs]
  have key := soft_of_plain (fun s : Fin 4096 => s.val ≤ t.val) (score qr kr cr) (fun s => U (ix3 b s (lane 2 h d)))
    (fun s => val_main_v25 (F := Ideal) U C (ix4 b h t s)) (cr t) hz hz' t le_rfl _ (max_apply U C b t h)
  rw [← key]
  refine Finset.sum_congr rfl fun s _ => ?_
  rw [v_apply, p_apply, zero_add]

end Cert.FoxReference
-- ==== Proof.MlstmReference.lean ====
/- The reference's mLSTM over the extended reals, read stage by stage at an index, and its closed form over real arguments. -/
module

public import proofs.«01_k».proof.Proof.MlstmOps
public import proofs.«01_k».proof.Proof.MlstmMath
public import proofs.«01_k».proof.Proof.FoxReference
public import proofs.«01_k».proof.Proof.Gen.MlstmReferenceIdeal.Read
public import Idealize.ShloMosaic.Lib.Pointwise

@[expose] public section

set_option maxRecDepth 16384
noncomputable section

namespace Cert.MlstmReference

open Cert.MlstmReferenceIdeal Cert.MlstmReferenceIdeal.Gen Cert.MlstmReferenceIdeal.Read Cert.MlstmMath Idealize.ShloMosaic Idealize.ShloMosaic.TcCoe

/-- The mask of the earlier chunks. -/
theorem earlier (s t : ℕ) (hs : s < 8) (ht : t < 8) {α : Type} (x y : α) :
    Scalar.select (IntOp.cmpi .slt (BitVec.ofNat 32 s) (BitVec.ofNat 32 t)) x y = if s < t then x else y := by
  have t1 : (BitVec.ofNat 32 s).toInt = (s : ℤ) := by
    rw [BitVec.toInt_eq_toNat_of_lt] <;> simp only [BitVec.toNat_ofNat] <;> omega
  have t2 : (BitVec.ofNat 32 t).toInt = (t : ℤ) := by
    rw [BitVec.toInt_eq_toNat_of_lt] <;> simp only [BitVec.toNat_ofNat] <;> omega
  by_cases h : s < t <;> simp [Scalar.select, IntOp.cmpi, BitVec.slt, t1, t2, h]

/-! ## The stages at an index -/

section Stages

variable (U : (⟨S4x4096x12288, .bf16⟩ : BufTy).Contents (Elt Ideal)) (A B : (⟨S4x8x4096, .f32⟩ : BufTy).Contents (Elt Ideal))
  (W : (⟨S4096, .f32⟩ : BufTy).Contents (Elt Ideal))
  (b : Fin 4) (t s : Fin 4096) (h : Fin 8) (x : Fin 256) (d : Fin 512) (e : Fin 4096) (n : Fin 8)

/-- The lanes of the projection: queries, keys, values, gates. -/
def qlane (h : Fin 8) (x : Fin 256) : Fin 12288 := ⟨h.val * 256 + x.val, by omega⟩
def klane (h : Fin 8) (x : Fin 256) : Fin 12288 := ⟨2048 + h.val * 256 + x.val, by omega⟩
def vlane (h : Fin 8) (d : Fin 512) : Fin 12288 := ⟨4096 + h.val * 512 + d.val, by omega⟩
def glane (h : Fin 8) (d : Fin 512) : Fin 12288 := ⟨8192 + h.val * 512 + d.val, by omega⟩

theorem q_apply : val_main_v4 (F := Ideal) U (ix4 b t h x) = U (ix3 b t (qlane h x)) * ((0.0625 : ℝ) : EReal) := by
  pointwise [val_main_v4, val_main_v3, val_main_cst, val_main_v2, val_main_v1, val_main_v0]
  rw [MlstmOps.sixteenth]
  exact congrArg (· * ((0.0625 : ℝ) : EReal)) (congrArg U (congrArg (ix3 b t) (Fin.ext (by simp [qlane]))))

theorem k_apply : val_main_v6 (F := Ideal) U (ix4 b t h x) = U (ix3 b t (klane h x)) := by
  pointwise [val_main_v6, val_main_v5, val_main_v0]
  exact congrArg U (congrArg (ix3 b t) (Fin.ext (by simp [klane]; omega)))

theorem v_apply : val_main_v8 (F := Ideal) U (ix4 b t h d) = U (ix3 b t (vlane h d)) := by
  pointwise [val_main_v8, val_main_v7, val_main_v0]
  exact congrArg U (congrArg (ix3 b t) (Fin.ext (by simp [vlane]; omega)))

theorem before_apply : val_main_v22 (F := Ideal) B (ix3 b h n)
    = ∑ i : Fin 8, if i.val < n.val then B (ix3 b h ⟨512 * i.val + 511, by omega⟩) else 0 := by
  pointwise [val_main_v22, val_main_cst_1, val_main_v21, val_main_call0_v3, val_main_call0_v2, val_main_call0_v1, val_main_call0_v0,
    val_main_cst_0, val_main_v20, val_main_v19, val_main_v18, val_main_v11, val_main_v17, val_main_v16, val_main_v15, val_main_v14, val_main_v13, val_main_v12]
  refine Finset.sum_congr rfl fun i _ => (earlier i.val n.val i.isLt n.isLt _ _).trans ?_
  refine if_congr Iff.rfl (congrArg B (congrArg (ix3 b h) (Fin.ext ?_))) Ideal.ofBits_zero_f32
  show i.val * 512 + 511 = 512 * i.val + 511
  omega

theorem c_apply : val_main_v26 (F := Ideal) B (ix3 b h t) = B (ix3 b h t) + val_main_v22 (F := Ideal) B (ix3 b h ⟨t.val / 512, by omega⟩) := by
  unfold val_main_v26 val_main_v25 val_main_v24 val_main_v23
  generalize val_main_v22 (F := Ideal) B = Z
  pointwise [val_main_v11]

theorem logw_apply : val_main_v41 (F := Ideal) A B (ix4 b h t s)
    = if s.val ≤ t.val then val_main_v26 (F := Ideal) B (ix3 b h t) - val_main_v26 (F := Ideal) B (ix3 b h s) + (A (ix3 b h s) + B (ix3 b h s)) else ⊥ := by
  unfold val_main_v41 val_main_call1_v2 val_main_call1_v1 val_main_call1_v0 val_main_v40 val_main_v39 val_main_v38 val_main_v37 val_main_v36
    val_main_v35 val_main_v34 val_main_v33
  generalize val_main_v26 (F := Ideal) B = Z
  pointwise [val_main_cst_2, val_main_v32, val_main_v31, val_main_v30, val_main_v29, val_main_v28, val_main_v27, val_main_v10]
  refine (FoxReference.mask s.val t.val s.isLt t.isLt _ _).trans ?_
  exact if_congr Iff.rfl rfl FoxBlock.neg_inf

theorem score_apply : val_main_v44 (F := Ideal) U A B (ix4 b h t s)
    = (∑ x, val_main_v4 (F := Ideal) U (ix4 b t h x) * val_main_v6 (F := Ideal) U (ix4 b s h x)) * Ideal.exp (val_main_v41 (F := Ideal) A B (ix4 b h t s)) := by
  unfold val_main_v44 val_main_v43 val_main_v42
  generalize val_main_v41 (F := Ideal) A B = Z
  generalize val_main_v4 (F := Ideal) U = Q
  generalize val_main_v6 (F := Ideal) U = K
  pointwise

theorem out_apply : val_main_v54 (F := Ideal) U A B (ix4 b t h d)
    = Ideal.div (∑ s, val_main_v8 (F := Ideal) U (ix4 b s h d) * val_main_v44 (F := Ideal) U A B (ix4 b h t s))
        (max (max (∑ s, val_main_v44 (F := Ideal) U A B (ix4 b h t s)) (-∑ s, val_main_v44 (F := Ideal) U A B (ix4 b h t s))) 1) := by
  unfold val_main_v54 val_main_v53 val_main_v52 val_main_v51 val_main_v50 val_main_v49 val_main_v48 val_main_v47 val_main_v46 val_main_v45
  generalize val_main_v44 (F := Ideal) U A B = S
  generalize val_main_v8 (F := Ideal) U = X
  pointwise [val_main_cst_3, val_main_cst_4]
  rfl

theorem normed_apply : val_main_v64 (F := Ideal) U A B (ix4 b t h d)
    = val_main_v54 (F := Ideal) U A B (ix4 b t h d) * Ideal.rsqrt (Ideal.div (∑ j, val_main_v54 (F := Ideal) U A B (ix4 b t h j) * val_main_v54 (F := Ideal) U A B (ix4 b t h j))
        (Ideal.ofBits .f32 0x44000000#32) + Ideal.ofBits .f32 0x358637BD#32) := by
  unfold val_main_v64 val_main_v63 val_main_v62 val_main_v61 val_main_v60 val_main_v59 val_main_v58 val_main_v57 val_main_v56 val_main_v55
  generalize val_main_v54 (F := Ideal) U A B = O
  pointwise [val_main_cst_5, val_main_cst_6, val_main_cst_7]

theorem gate_apply (he : e.val = h.val * 512 + d.val) : val_main_v69 (F := Ideal) U (ix3 b t e) = FoxBlock.gate (U (ix3 b t (glane h d))) := by
  have e3 : (⟨8192 + e.val, by omega⟩ : Fin 12288) = glane h d := Fin.ext (by show 8192 + e.val = 8192 + h.val * 512 + d.val; omega)
  pointwise [val_main_v69, val_main_call2_v5, val_main_call2_v4, val_main_call2_v3, val_main_call2_v2, val_main_call2_v1,
    val_main_call2_v0, val_main_call2_cst, val_main_call2_cst_0, val_main_v9, val_main_v0]
  rw [e3, FoxReference.gate_eq]

theorem gain_apply : val_main_v67 (F := Ideal) W (ix3 b t e) = W (ix1 e) := by
  pointwise [val_main_v67, val_main_v66]

theorem head_apply (he : e.val = h.val * 512 + d.val) : val_main_v65 (F := Ideal) U A B (ix3 b t e)
    = val_main_v64 (F := Ideal) U A B (ix4 b t h d) := by
  have e1 : (⟨e.val / 512, by omega⟩ : Fin 8) = h := Fin.ext (by show e.val / 512 = h.val; omega)
  have e2 : (⟨e.val % 512, by omega⟩ : Fin 512) = d := Fin.ext (by show e.val % 512 = d.val; omega)
  unfold val_main_v65
  generalize val_main_v64 (F := Ideal) U A B = O
  pointwise
  rw [e1, e2]

theorem result_apply (he : e.val = h.val * 512 + d.val) : val_main_v71 (F := Ideal) U A B W (ix3 b t e)
    = MlstmOps.result (fun j => val_main_v54 (F := Ideal) U A B (ix4 b t h j)) d (W (ix1 e)) (U (ix3 b t (glane h d))) := by
  have key : val_main_v71 (F := Ideal) U A B W (ix3 b t e)
      = val_main_v65 (F := Ideal) U A B (ix3 b t e) * val_main_v67 (F := Ideal) W (ix3 b t e) * val_main_v69 (F := Ideal) U (ix3 b t e) := by
    refine (val_main_v71_apply _ _ _ _ _).trans ?_
    rw [val_main_v70_apply, val_main_v68_apply]
    generalize val_main_v65 (F := Ideal) U A B = X
    generalize val_main_v67 (F := Ideal) W = Z
    generalize val_main_v69 (F := Ideal) U = Y
    rfl
  rw [key, head_apply U A B b t h d e he, gain_apply, gate_apply U b t h d e he, normed_apply]
  rfl

end Stages

/-! ## The closed form -/

/-- Where queries, keys, values and gates' logarithms are real, the reference's result is the head's read-outs at the
    position, each the plain weighted sum over the weight, over their root mean square, times the gain and the gate. -/
theorem value (U : (⟨S4x4096x12288, .bf16⟩ : BufTy).Contents (Elt Ideal)) (A B : (⟨S4x8x4096, .f32⟩ : BufTy).Contents (Elt Ideal))
    (W : (⟨S4096, .f32⟩ : BufTy).Contents (Elt Ideal)) (b : Fin 4) (t : Fin 4096) (h : Fin 8) (d : Fin 512) (e : Fin 4096)
    (he : e.val = h.val * 512 + d.val) (ar br : ℕ → ℝ) (qr kr : ℕ → Fin 256 → ℝ) (vr : Fin 512 → ℕ → ℝ)
    (hq : ∀ (s : Fin 4096) x, U (ix3 b s (qlane h x)) = (qr s.val x : EReal)) (hk : ∀ (s : Fin 4096) x, U (ix3 b s (klane h x)) = (kr s.val x : EReal))
    (hv : ∀ (s : Fin 4096) j, U (ix3 b s (vlane h j)) = (vr j s.val : EReal))
    (ha : ∀ s : Fin 4096, A (ix3 b h s) = (ar s.val : EReal)) (hb : ∀ s : Fin 4096, B (ix3 b h s) = (br s.val : EReal)) :
    val_main_v71 (F := Ideal) U A B W (ix3 b t e)
      = MlstmOps.result (fun j => (MlstmMath.read (total ar br qr kr (vr j) t.val) (total ar br qr kr (fun _ => 1) t.val) : EReal)) d
          (W (ix1 e)) (U (ix3 b t (glane h d))) := by
  have hbefore : ∀ n : Fin 8, val_main_v22 (F := Ideal) B (ix3 b h n) = (before br n.val : EReal) := by
    intro n
    rw [before_apply]
    have e1 : ∀ i : Fin 8, (if i.val < n.val then B (ix3 b h ⟨512 * i.val + 511, by omega⟩) else 0)
        = ((if i.val < n.val then br (512 * i.val + 511) else 0 : ℝ) : EReal) := by
      intro i
      by_cases hi : i.val < n.val
      · rw [if_pos hi, if_pos hi, hb]
      · rw [if_neg hi, if_neg hi, EReal.coe_zero]
    rw [Finset.sum_congr rfl fun i _ => e1 i, ← FoxMath.coe_sum]
    congr 1
    rw [Fin.sum_univ_eq_sum_range (fun i => if i < n.val then br (512 * i + 511) else 0) 8, ← Finset.sum_filter]
    unfold before
    refine Finset.sum_congr ?_ fun _ _ => rfl
    ext i
    have := n.isLt
    simp only [Finset.mem_filter, Finset.mem_range]
    omega
  have hrun : ∀ s : Fin 4096, val_main_v26 (F := Ideal) B (ix3 b h s) = (run br s.val : EReal) := by
    intro s
    rw [c_apply, hb, hbefore, ← EReal.coe_add, add_comm]
    rfl
  have hw : ∀ s : Fin 4096, Ideal.exp (val_main_v41 (F := Ideal) A B (ix4 b h t s)) = ((if s.val ≤ t.val then weight ar br t.val s.val else 0 : ℝ) : EReal) := by
    intro s
    rw [logw_apply]
    by_cases hs : s.val ≤ t.val
    · rw [if_pos hs, if_pos hs, hrun, hrun, ha, hb, ← EReal.coe_sub, ← EReal.coe_add, ← EReal.coe_add, Ideal.exp_coe]
      rfl
    · rw [if_neg hs, if_neg hs, Ideal.exp_bot, EReal.coe_zero]
  have hs : ∀ s : Fin 4096, val_main_v44 (F := Ideal) U A B (ix4 b h t s)
      = (((∑ x, qr t.val x * 0.0625 * kr s.val x) * (if s.val ≤ t.val then weight ar br t.val s.val else 0) : ℝ) : EReal) := by
    intro s
    rw [score_apply, hw, EReal.coe_mul, FoxMath.coe_sum]
    congr 1
    refine Finset.sum_congr rfl fun x _ => ?_
    rw [q_apply, k_apply, hq, hk, ← EReal.coe_mul, ← EReal.coe_mul]
  have hden : ∑ s, val_main_v44 (F := Ideal) U A B (ix4 b h t s) = (total ar br qr kr (fun _ => 1) t.val : EReal) := by
    rw [← total_masked ar br qr kr (fun _ => 1) t.val t.isLt, FoxMath.coe_sum]
    refine Finset.sum_congr rfl fun s _ => ?_
    rw [hs, mul_one]
  have hnum : ∀ j : Fin 512, ∑ s, val_main_v8 (F := Ideal) U (ix4 b s h j) * val_main_v44 (F := Ideal) U A B (ix4 b h t s)
      = (total ar br qr kr (vr j) t.val : EReal) := by
    intro j
    rw [← total_masked ar br qr kr (vr j) t.val t.isLt, FoxMath.coe_sum]
    refine Finset.sum_congr rfl fun s _ => ?_
    rw [hs, v_apply, hv, ← EReal.coe_mul, mul_comm]
  rw [result_apply U A B W b t h d e he]
  refine congrArg (fun f => MlstmOps.result f d (W (ix1 e)) (U (ix3 b t (glane h d)))) (funext fun j => ?_)
  rw [out_apply, hden, hnum, read_plain]

end Cert.MlstmReference
-- ==== Proof.MlstmArray.lean ====
/- The array that the mLSTM kernel leaves, over the extended reals: by induction over the grid the carried state holds the
   positions of the chunks before, so that every block holds the plain read-outs, normalised and gated. -/
module

public import proofs.«01_k».proof.Proof.MlstmBlock
public import proofs.«01_k».proof.Proof.MlstmReference
public import proofs.«01_k».proof.Proof.Gen.MlstmIdeal.Value
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384
noncomputable section

namespace Cert.MlstmArray

open Cert.MlstmIdeal Cert.MlstmIdeal.Gen Cert.MlstmMath Cert.MlstmReference Idealize.ShloMosaic Idealize.ShloMosaic.TcCoe

/-! ## Where the blocks lie -/

/-- The block that each window takes at a grid point; the chunk runs fastest, then the head, then the batch. -/
theorem blocks : ∀ t : Fin cfg0.N,
    (win0_0.index t = ![t.val / 64, t.val % 8, t.val / 8 % 8]
    ∧ win0_1.index t = ![t.val / 64, t.val % 8, 8 + t.val / 8 % 8]
    ∧ win0_2.index t = ![t.val / 64, t.val % 8, 8 + t.val / 8 % 8]
    ∧ win0_3.index t = ![t.val / 64, t.val % 8, 16 + t.val / 8 % 8])
    ∧ (win0_4.index t = ![t.val / 64, t.val / 8 % 8, 0, t.val % 8]
    ∧ win0_5.index t = ![t.val / 64, t.val / 8 % 8, t.val % 8, 0]
    ∧ win0_6.index t = ![t.val / 64, t.val / 8 % 8, t.val % 8, 0])
    ∧ win0_7.index t = ![0, t.val / 8 % 8]
    ∧ win0_8.index t = ![t.val / 64, t.val % 8, t.val / 8 % 8] :=
  (by decide +kernel : ∀ t : Fin grid0.N, _)

theorem points (p : Fin cfg0.N) : p.val < 256 := p.isLt

/-- Every result lies in the block of some grid point. -/
theorem covered : (cfg0.win 8).Covers := by
  decide +kernel

variable (m : (ℓ : Loc nD τ sig) → Buf (Elt Ideal) ℓ) (c : Dev nD) (p : Fin cfg0.N)

/-- Batch, head, row of the array for a row of the block, and column of the array for a column of the block. -/
def batch : Fin 4 := ⟨p.val / 64, by have := points p; omega⟩
def head : Fin 8 := ⟨p.val / 8 % 8, by omega⟩
def row (r : Fin 512) : Fin 4096 := ⟨512 * (p.val % 8) + r.val, by omega⟩
def col (e : Fin 512) : Fin 4096 := ⟨p.val / 8 % 8 * 512 + e.val, by omega⟩

theorem q_block (r : Fin 512) (x : Fin 256) : iblk (F := Ideal) m c 0 p (ix3 0 r x)
    = m ((c : Thread nD τ).loc main_arg0) (ix3 (batch p) (row p r) (qlane (head p) x)) := by
  obtain ⟨⟨e, _, _, _⟩, _, _⟩ := blocks p
  blk_ext [iblk, V, e, batch, head, row, qlane]

theorem k_block (r : Fin 512) (x : Fin 256) : iblk (F := Ideal) m c 1 p (ix3 0 r x)
    = m ((c : Thread nD τ).loc main_arg0) (ix3 (batch p) (row p r) (klane (head p) x)) := by
  obtain ⟨⟨_, e, _, _⟩, _, _⟩ := blocks p
  blk_ext [iblk, V, e, batch, head, row, klane]

theorem v_block (r : Fin 512) (j : Fin 512) : iblk (F := Ideal) m c 2 p (ix3 0 r j)
    = m ((c : Thread nD τ).loc main_arg0) (ix3 (batch p) (row p r) (vlane (head p) j)) := by
  obtain ⟨⟨_, _, e, _⟩, _, _⟩ := blocks p
  blk_ext [iblk, V, e, batch, head, row, vlane]

theorem g_block (r : Fin 512) (j : Fin 512) : iblk (F := Ideal) m c 3 p (ix3 0 r j)
    = m ((c : Thread nD τ).loc main_arg0) (ix3 (batch p) (row p r) (glane (head p) j)) := by
  obtain ⟨⟨_, _, _, e⟩, _, _⟩ := blocks p
  blk_ext [iblk, V, e, batch, head, row, glane]

theorem arow_block (r : Fin 512) : iblk (F := Ideal) m c 4 p (ix4 0 0 0 r)
    = m ((c : Thread nD τ).loc main_arg1) (ix3 (batch p) (head p) (row p r)) := by
  obtain ⟨_, ⟨e, _, _⟩, _⟩ := blocks p
  show V m c main_v0 (((cfg0.win 4).blk p).view.emb (ix4 0 0 0 r)) = _
  rw [show ((cfg0.win 4).blk p).view.emb (ix4 0 0 0 r) = ix4 (batch p) (head p) 0 (row p r) from by
    blk_ext [e, batch, head, row]]
  entry_read
  pointwise

theorem acol_block (r : Fin 512) : iblk (F := Ideal) m c 5 p (ix4 0 0 r 0)
    = m ((c : Thread nD τ).loc main_arg1) (ix3 (batch p) (head p) (row p r)) := by
  obtain ⟨_, ⟨_, e, _⟩, _⟩ := blocks p
  show V m c main_v1 (((cfg0.win 5).blk p).view.emb (ix4 0 0 r 0)) = _
  rw [show ((cfg0.win 5).blk p).view.emb (ix4 0 0 r 0) = ix4 (batch p) (head p) (row p r) 0 from by
    blk_ext [e, batch, head, row]]
  entry_read
  pointwise

theorem bcol_block (r : Fin 512) : iblk (F := Ideal) m c 6 p (ix4 0 0 r 0)
    = m ((c : Thread nD τ).loc main_arg2) (ix3 (batch p) (head p) (row p r)) := by
  obtain ⟨_, ⟨_, _, e⟩, _⟩ := blocks p
  show V m c main_v2 (((cfg0.win 6).blk p).view.emb (ix4 0 0 r 0)) = _
  rw [show ((cfg0.win 6).blk p).view.emb (ix4 0 0 r 0) = ix4 (batch p) (head p) (row p r) 0 from by
    blk_ext [e, batch, head, row]]
  entry_read
  pointwise

theorem gain_block (j : Fin 512) : iblk (F := Ideal) m c 7 p (ix2 0 j)
    = m ((c : Thread nD τ).loc main_arg3) (ix1 (col p j)) := by
  obtain ⟨_, _, e, _⟩ := blocks p
  show V m c main_v3 (((cfg0.win 7).blk p).view.emb (ix2 0 j)) = _
  rw [show ((cfg0.win 7).blk p).view.emb (ix2 0 j) = ix2 0 (col p j) from by
    blk_ext [e, col]]
  entry_read
  pointwise

/-! ## The induction over the grid -/

section Real

variable (ar br : Fin 4 → Fin 8 → ℕ → ℝ) (qr kr : Fin 4 → Fin 8 → ℕ → Fin 256 → ℝ) (vr : Fin 4 → Fin 8 → Fin 512 → ℕ → ℝ)
  (hq : ∀ b h (s : Fin 4096) x, m ((c : Thread nD τ).loc main_arg0) (ix3 b s (qlane h x)) = (qr b h s.val x : EReal))
  (hk : ∀ b h (s : Fin 4096) x, m ((c : Thread nD τ).loc main_arg0) (ix3 b s (klane h x)) = (kr b h s.val x : EReal))
  (hv : ∀ b h (s : Fin 4096) j, m ((c : Thread nD τ).loc main_arg0) (ix3 b s (vlane h j)) = (vr b h j s.val : EReal))
  (ha : ∀ b h (s : Fin 4096), m ((c : Thread nD τ).loc main_arg1) (ix3 b h s) = (ar b h s.val : EReal))
  (hb : ∀ b h (s : Fin 4096), m ((c : Thread nD τ).loc main_arg2) (ix3 b h s) = (br b h s.val : EReal))

/-- A state and an offset that hold the first `n` chunks of a batch and head. -/
def Holds (b : Fin 4) (h : Fin 8) (n : ℕ) (C : Vec Ideal S256x640 .f32) (M : Vec Ideal S1x1 .f32) : Prop :=
  ∃ μ : ℝ, M (ix2 0 0) = (μ : EReal)
    ∧ ∀ d e, C (ix2 d e) = ((Real.exp (-μ) * held (ar b h) (br b h) (kr b h) (MlstmBlock.column (vr b h) e) n d : ℝ) : EReal)

/-- The cleared scratch holds no position. -/
theorem holds_cleared (b : Fin 4) (h : Fin 8) : Holds ar br kr vr b h 0 (k0_pay3 (F := Ideal)) (MlstmRun.first (k0_pay4 (F := Ideal))) := by
  refine ⟨0, ?_, fun d e => ?_⟩
  · rw [MlstmOps.first_at, MlstmOps.pay4, EReal.coe_zero]
  · rw [MlstmOps.pay3, held_zero, mul_zero, EReal.coe_zero]

include hk hv ha hb in
/-- A point adds its chunk to the state. -/
theorem step (C : Vec Ideal S256x640 .f32) (M : Vec Ideal S1x1 .f32) (hC : Holds ar br kr vr (batch p) (head p) (p.val % 8) C M) :
    Holds ar br kr vr (batch p) (head p) (p.val % 8 + 1) (MlstmRun.state (iblk m c 1 p) (iblk m c 2 p) (iblk m c 5 p) (iblk m c 6 p) C M)
      (MlstmRun.first (MlstmRun.offset (iblk m c 5 p) (iblk m c 6 p) M)) := by
  obtain ⟨μ, hM, hC⟩ := hC
  obtain ⟨μ', h1, h2⟩ := MlstmBlock.step (p.val % 8) (ar (batch p) (head p)) (br (batch p) (head p)) (kr (batch p) (head p)) (vr (batch p) (head p))
    (iblk m c 1 p) (iblk m c 2 p) (iblk m c 5 p) (iblk m c 6 p) C M
    (fun r x => (k_block m c p r x).trans (hk _ _ _ _)) (fun r x => (v_block m c p r x).trans (hv _ _ _ _))
    (fun r => (acol_block m c p r).trans (ha _ _ _)) (fun r => (bcol_block m c p r).trans (hb _ _ _)) μ hM hC
  exact ⟨μ', (MlstmOps.first_at _).trans h1, h2⟩

/-- The point before has the same batch and head. -/
theorem before_same (q : Fin cfg0.N) (hp : ¬ p.val % 8 = 0) (hqp : q.val = p.val - 1) :
    batch q = batch p ∧ head q = head p ∧ q.val % 8 + 1 = p.val % 8 := by
  have := points p
  refine ⟨Fin.ext ?_, Fin.ext ?_, ?_⟩
  · show q.val / 64 = p.val / 64
    omega
  · show q.val / 8 % 8 = p.val / 8 % 8
    omega
  · omega

/-- What a point leaves: the state over what it found, and the block. -/
theorem leaves_first (h0 : p.val % 8 = 0) : outsAt0 m c p.val p.isLt
    = (MlstmRun.out (iblk m c 0 p) (iblk m c 1 p) (iblk m c 2 p) (iblk m c 3 p) (iblk m c 4 p) (iblk m c 6 p) (iblk m c 7 p) (k0_pay3 (F := Ideal))
          (MlstmRun.first (k0_pay4 (F := Ideal))),
        MlstmRun.state (iblk m c 1 p) (iblk m c 2 p) (iblk m c 5 p) (iblk m c 6 p) (k0_pay3 (F := Ideal)) (MlstmRun.first (k0_pay4 (F := Ideal))),
        MlstmRun.offset (iblk m c 5 p) (iblk m c 6 p) (MlstmRun.first (k0_pay4 (F := Ideal)))) := by
  rw [outsAt0_A m c p h0, MlstmRun.first_out, MlstmRun.first_state, MlstmRun.first_offset]

theorem leaves_later (h0 : ¬ p.val % 8 = 0) (q : Fin cfg0.N) (hqp : q.val = p.val - 1) : outsAt0 m c p.val p.isLt
    = (MlstmRun.out (iblk m c 0 p) (iblk m c 1 p) (iblk m c 2 p) (iblk m c 3 p) (iblk m c 4 p) (iblk m c 6 p) (iblk m c 7 p)
          (outsAt0 m c q.val q.isLt).2.1 (MlstmRun.first (outsAt0 m c q.val q.isLt).2.2),
        MlstmRun.state (iblk m c 1 p) (iblk m c 2 p) (iblk m c 5 p) (iblk m c 6 p) (outsAt0 m c q.val q.isLt).2.1
          (MlstmRun.first (outsAt0 m c q.val q.isLt).2.2),
        MlstmRun.offset (iblk m c 5 p) (iblk m c 6 p) (MlstmRun.first (outsAt0 m c q.val q.isLt).2.2)) := by
  obtain ⟨q, hq⟩ := q
  subst hqp
  rw [outsAt0_B m c p h0, MlstmRun.later_out, MlstmRun.later_state, MlstmRun.later_offset]

include hk hv ha hb in
/-- After a point the carried buffers hold the chunks up to the point's. -/
theorem holds : ∀ (n : ℕ) (hn : n < cfg0.N),
    Holds ar br kr vr (batch ⟨n, hn⟩) (head ⟨n, hn⟩) (n % 8 + 1) (outsAt0 m c n hn).2.1 (MlstmRun.first (outsAt0 m c n hn).2.2) := by
  intro n
  induction n with
  | zero =>
    intro hn
    rw [leaves_first m c ⟨0, hn⟩ rfl]
    exact step m c ⟨0, hn⟩ ar br kr vr hk hv ha hb _ _ (holds_cleared ar br kr vr _ _)
  | succ n ih =>
    intro hn
    by_cases h0 : (n + 1) % 8 = 0
    · rw [leaves_first m c ⟨n + 1, hn⟩ h0]
      refine step m c ⟨n + 1, hn⟩ ar br kr vr hk hv ha hb _ _ ?_
      dsimp only
      rw [h0]
      exact holds_cleared ar br kr vr _ _
    · have hn' : n < cfg0.N := by omega
      rw [leaves_later m c ⟨n + 1, hn⟩ h0 ⟨n, hn'⟩ rfl]
      refine step m c ⟨n + 1, hn⟩ ar br kr vr hk hv ha hb _ _ ?_
      obtain ⟨e1, e2, e3⟩ := before_same ⟨n + 1, hn⟩ ⟨n, hn'⟩ h0 rfl
      have key := ih hn'
      dsimp only at e3
      rw [e1, e2, e3] at key
      exact key

/-- The read-out of an entry of the array. -/
def entry (b : Fin 4) (h : Fin 8) (t : ℕ) (d : Fin 512) (w g : EReal) : EReal :=
  MlstmOps.result (fun j => (MlstmMath.read (total (ar b h) (br b h) (qr b h) (kr b h) (vr b h j) t)
    (total (ar b h) (br b h) (qr b h) (kr b h) (fun _ => 1) t) : EReal)) d w g

include hq hk hv ha hb in
/-- The block over a state that holds the chunks before. -/
theorem written (C : Vec Ideal S256x640 .f32) (M : Vec Ideal S1x1 .f32) (hC : Holds ar br kr vr (batch p) (head p) (p.val % 8) C M) (r e : Fin 512) :
    MlstmRun.out (iblk m c 0 p) (iblk m c 1 p) (iblk m c 2 p) (iblk m c 3 p) (iblk m c 4 p) (iblk m c 6 p) (iblk m c 7 p) C M (ix3 0 r e)
      = entry ar br qr kr vr (batch p) (head p) (row p r).val e (m ((c : Thread nD τ).loc main_arg3) (ix1 (col p e)))
          (m ((c : Thread nD τ).loc main_arg0) (ix3 (batch p) (row p r) (glane (head p) e))) := by
  obtain ⟨μ, hM, hC⟩ := hC
  rw [MlstmBlock.written (p.val % 8) (ar (batch p) (head p)) (br (batch p) (head p)) (qr (batch p) (head p)) (kr (batch p) (head p))
    (vr (batch p) (head p)) (iblk m c 0 p) (iblk m c 1 p) (iblk m c 2 p) (iblk m c 3 p) (iblk m c 4 p) (iblk m c 6 p) (iblk m c 7 p) C M
    (fun r x => (q_block m c p r x).trans (hq _ _ _ _)) (fun r x => (k_block m c p r x).trans (hk _ _ _ _))
    (fun r x => (v_block m c p r x).trans (hv _ _ _ _)) (fun r => (arow_block m c p r).trans (ha _ _ _))
    (fun r => (bcol_block m c p r).trans (hb _ _ _)) μ hM hC, gain_block, g_block]
  rfl

include hq hk hv ha hb in
/-- The block that a point leaves. -/
theorem block_value (r e : Fin 512) : (outsAt0 m c p.val p.isLt).1 (ix3 0 r e)
    = entry ar br qr kr vr (batch p) (head p) (row p r).val e (m ((c : Thread nD τ).loc main_arg3) (ix1 (col p e)))
        (m ((c : Thread nD τ).loc main_arg0) (ix3 (batch p) (row p r) (glane (head p) e))) := by
  by_cases h0 : p.val % 8 = 0
  · rw [leaves_first m c p h0]
    refine written m c p ar br qr kr vr hq hk hv ha hb _ _ ?_ r e
    rw [h0]
    exact holds_cleared ar br kr vr _ _
  · have hp := points p
    have hlt : p.val - 1 < cfg0.N := Nat.lt_of_le_of_lt (Nat.sub_le _ _) p.isLt
    rw [leaves_later m c p h0 ⟨p.val - 1, hlt⟩ rfl]
    refine written m c p ar br qr kr vr hq hk hv ha hb _ _ ?_ r e
    obtain ⟨e1, e2, e3⟩ := before_same p ⟨p.val - 1, hlt⟩ h0 rfl
    have key := holds m c ar br kr vr hk hv ha hb (p.val - 1) hlt
    dsimp only at e3
    rw [e1, e2, e3] at key
    exact key

include hq hk hv ha hb in
/-- The whole array: any array `G` that is the plain read-out at every batch, head, row and column. -/
theorem array_value (G : Vec Ideal S4x4096x4096 .bf16)
    (hG : ∀ (b : Fin 4) (t : Fin 4096) (h : Fin 8) (d : Fin 512) (e : Fin 4096), e.val = h.val * 512 + d.val →
      G (ix3 b t e) = entry ar br qr kr vr b h t.val d (m ((c : Thread nD τ).loc main_arg3) (ix1 e))
        (m ((c : Thread nD τ).loc main_arg0) (ix3 b t (glane h d)))) :
    (dats m 0 c).arrAt 8 cfg0.N = G := by
  refine (dats m 0 c).arrAt_eq_of_covers 8 G covered fun t hf y => ?_
  blk_simp
  rw [after0_8]
  have key : ∀ y : S1x512x512.Idx, (outsAt0 m c t.val t.isLt).1 y = G ((win0_8.blk t).view.emb y) := by
    intro y
    obtain ⟨_, _, _, e⟩ := blocks t
    have h0 : (y 0).val < 1 := (y 0).isLt
    have h1 : (y 1).val < 512 := (y 1).isLt
    have h2 : (y 2).val < 512 := (y 2).isLt
    have hy : y = ix3 (0 : Fin 1) (⟨(y 1).val, h1⟩ : Fin 512) (⟨(y 2).val, h2⟩ : Fin 512) := by
      funext a
      match a with
      | ⟨0, _⟩ => exact Fin.ext (show (y 0).val = 0 by omega)
      | ⟨1, _⟩ => rfl
      | ⟨2, _⟩ => rfl
    have hb' : (win0_8.blk t).view.emb y = ix3 (batch t) (row t ⟨(y 1).val, h1⟩) (col t ⟨(y 2).val, h2⟩) := by
      blk_ext [e, batch, row, col]
    rw [hb', hG (batch t) (row t ⟨(y 1).val, h1⟩) (head t) ⟨(y 2).val, h2⟩ _ rfl]
    conv_lhs => rw [hy]
    exact block_value m c t ar br qr kr vr hq hk hv ha hb _ _
  exact key y

end Real

end Cert.MlstmArray
-- ==== Proof.FoxPre.lean ====
/- What the precondition says: every lane of the queries and keys and every running sum is a real number. -/
module

public import proofs.«01_k».proof.Proof.Gen.Pre_finite_qk_and_c
public import Idealize.ShloMosaic.Lib.Pointwise

@[expose] public section

set_option maxRecDepth 16384
noncomputable section

namespace Cert.FoxPre

open Cert.Pre_finite_qk_and_c Idealize.ShloMosaic Idealize.ShloMosaic.TcCoe

/-- The word of +∞. -/
theorem infinity : Ideal.ofBits .f32 2139095040#32 = (⊤ : EReal) := by
  simp [Ideal.ofBits, Ideal.ieee]

variable (U : FVec Ideal S4x4096x28672 .bf16) (C : FVec Ideal S4x32x4096 .f32)

/-- A number whose absolute value is below +∞ is real. -/
theorem real_of_lt (x : EReal)
    (h : BitVec.ofBool (decide (FloatOps.absf (F := Ideal) (φ := .f32) x < Ideal.ofBits .f32 2139095040#32)) = 1#1) :
    ∃ r : ℝ, x = (r : EReal) := by
  rw [infinity] at h
  have h' : max x (-x) < (⊤ : EReal) := by
    by_contra hc
    have h0 : BitVec.ofBool (decide (max x (-x) < (⊤ : EReal))) = 1#1 := h
    rw [decide_eq_false hc] at h0
    exact absurd h0 (by decide)
  induction x with
  | bot => simp at h'
  | top => simp at h'
  | coe r => exact ⟨r, rfl⟩

theorem qk_real (hU : (fn (F := Ideal) U C).1 = fun _ => 1#1) (b : Fin 4) (t : Fin 4096) (e : Fin 8192) :
    ∃ r : ℝ, U (ix3 b t (⟨12288 + e.val, by omega⟩ : Fin 28672)) = (r : EReal) := by
  refine real_of_lt _ (Eq.trans ?_ (congrFun hU (ix3 b t e)))
  symm
  pointwise [fn]

theorem c_real (hC : (fn (F := Ideal) U C).2 = fun _ => 1#1) (b : Fin 4) (h : Fin 32) (t : Fin 4096) :
    ∃ r : ℝ, C (ix3 b h t) = (r : EReal) := by
  refine real_of_lt _ (Eq.trans ?_ (congrFun hC (ix3 b h t)))
  symm
  pointwise [fn]

end Cert.FoxPre
-- ==== Proof.MlstmPre.lean ====
/- What the mLSTM's precondition says: every lane of the queries, keys and values and every log gate is a real number. -/
module

public import proofs.«01_k».proof.Proof.Gen.Pre_finite_qkv_a_and_b
public import proofs.«01_k».proof.Proof.FoxPre

@[expose] public section

set_option maxRecDepth 16384
noncomputable section

namespace Cert.MlstmPre

open Cert.Pre_finite_qkv_a_and_b Idealize.ShloMosaic Idealize.ShloMosaic.TcCoe

variable (U : FVec Ideal S4x4096x12288 .bf16) (A B : FVec Ideal S4x8x4096 .f32) (W : FVec Ideal S4096 .f32)

theorem qkv_real (hU : (fn (F := Ideal) U A B W).1 = fun _ => 1#1) (b : Fin 4) (t : Fin 4096) (e : Fin 8192) :
    ∃ r : ℝ, U (ix3 b t (⟨e.val, by omega⟩ : Fin 12288)) = (r : EReal) := by
  refine FoxPre.real_of_lt _ (Eq.trans ?_ (congrFun hU (ix3 b t e)))
  symm
  pointwise [fn]

theorem a_real (hA : (fn (F := Ideal) U A B W).2.1 = fun _ => 1#1) (b : Fin 4) (h : Fin 8) (t : Fin 4096) :
    ∃ r : ℝ, A (ix3 b h t) = (r : EReal) := by
  refine FoxPre.real_of_lt _ (Eq.trans ?_ (congrFun hA (ix3 b h t)))
  symm
  pointwise [fn]

theorem b_real (hB : (fn (F := Ideal) U A B W).2.2 = fun _ => 1#1) (b : Fin 4) (h : Fin 8) (t : Fin 4096) :
    ∃ r : ℝ, B (ix3 b h t) = (r : EReal) := by
  refine FoxPre.real_of_lt _ (Eq.trans ?_ (congrFun hB (ix3 b h t)))
  symm
  pointwise [fn]

end Cert.MlstmPre
-- ==== Proof.MlstmValue.lean ====
/- The claims about the mLSTM: the reference's frame and the equation of the two programs. -/
module

public import proofs.«01_k».proof.Defs
public import proofs.«01_k».proof.Proof.MlstmArray
public import proofs.«01_k».proof.Proof.MlstmPre
public import proofs.«01_k».proof.Proof.Gen.MlstmReferenceIdeal.Run

@[expose] public section

set_option maxRecDepth 16384
noncomputable section

namespace Cert.MlstmValue

open Cert.MlstmIdeal Cert.MlstmIdeal.Gen Cert.MlstmReference Idealize.ShloMosaic Idealize.ShloMosaic.TcCoe Idealize.SL.Sem

/-- The reference runs, leaves its arguments alone and every counter at zero. -/
theorem frame_ref : Cert.quiescent_MlstmReferenceIdeal := fun m g _ =>
  (θ_run Cert.MlstmReferenceIdeal.defs _ _).mono
    (fun r h => ⟨fun c => (h c).2, sem_eq_zero_of_no_sems (by decide) r.2⟩)
    (Cert.MlstmReferenceIdeal.Value.run (F := Ideal) m g)

/-- From equal arguments with real queries, keys, values and log gates, the kernel's array is the reference's. -/
theorem arrays_equal (m : (ℓ : Loc nD τ sig) → Buf (Elt Ideal) ℓ) (c : Dev nD) (hpre : Cert.Pre_MlstmIdeal_finite_qkv_a_and_b m) :
    (dats m 0 c).arrAt 8 cfg0.N
      = Cert.MlstmReferenceIdeal.Read.val_main_v71 (F := Ideal) (m ((c : Thread nD τ).loc main_arg0)) (m ((c : Thread nD τ).loc main_arg1))
          (m ((c : Thread nD τ).loc main_arg2)) (m ((c : Thread nD τ).loc main_arg3)) := by
  have hU := MlstmPre.qkv_real _ _ _ _ (hpre c).1
  have hA := MlstmPre.a_real _ _ _ _ (hpre c).2.1
  have hB := MlstmPre.b_real _ _ _ _ (hpre c).2.2
  choose ur hur using hU
  choose ar har using hA
  choose br hbr using hB
  have hm : ∀ s : Fin 4096, (⟨s.val % 4096, Nat.mod_lt _ (by norm_num)⟩ : Fin 4096) = s := fun s => Fin.ext (Nat.mod_eq_of_lt s.isLt)
  have hq : ∀ (b : Fin 4) (h : Fin 8) (s : Fin 4096) (x : Fin 256), m ((c : Thread nD τ).loc main_arg0) (ix3 b s (qlane h x))
      = ((fun n => ur b ⟨n % 4096, Nat.mod_lt _ (by norm_num)⟩ ⟨h.val * 256 + x.val, by omega⟩ : ℕ → ℝ) s.val : EReal) := by
    intro b h s x
    dsimp only
    rw [hm s]
    exact hur b s ⟨h.val * 256 + x.val, by omega⟩
  have hk : ∀ (b : Fin 4) (h : Fin 8) (s : Fin 4096) (x : Fin 256), m ((c : Thread nD τ).loc main_arg0) (ix3 b s (klane h x))
      = ((fun n => ur b ⟨n % 4096, Nat.mod_lt _ (by norm_num)⟩ ⟨2048 + h.val * 256 + x.val, by omega⟩ : ℕ → ℝ) s.val : EReal) := by
    intro b h s x
    dsimp only
    rw [hm s]
    exact hur b s ⟨2048 + h.val * 256 + x.val, by omega⟩
  have hv : ∀ (b : Fin 4) (h : Fin 8) (s : Fin 4096) (j : Fin 512), m ((c : Thread nD τ).loc main_arg0) (ix3 b s (vlane h j))
      = ((fun n => ur b ⟨n % 4096, Nat.mod_lt _ (by norm_num)⟩ ⟨4096 + h.val * 512 + j.val, by omega⟩ : ℕ → ℝ) s.val : EReal) := by
    intro b h s j
    dsimp only
    rw [hm s]
    exact hur b s ⟨4096 + h.val * 512 + j.val, by omega⟩
  have ha : ∀ (b : Fin 4) (h : Fin 8) (s : Fin 4096), m ((c : Thread nD τ).loc main_arg1) (ix3 b h s)
      = ((fun n => ar b h ⟨n % 4096, Nat.mod_lt _ (by norm_num)⟩ : ℕ → ℝ) s.val : EReal) := by
    intro b h s
    dsimp only
    rw [hm s]
    exact har b h s
  have hb : ∀ (b : Fin 4) (h : Fin 8) (s : Fin 4096), m ((c : Thread nD τ).loc main_arg2) (ix3 b h s)
      = ((fun n => br b h ⟨n % 4096, Nat.mod_lt _ (by norm_num)⟩ : ℕ → ℝ) s.val : EReal) := by
    intro b h s
    dsimp only
    rw [hm s]
    exact hbr b h s
  refine MlstmArray.array_value m c (fun b h n => ar b h ⟨n % 4096, Nat.mod_lt _ (by norm_num)⟩) (fun b h n => br b h ⟨n % 4096, Nat.mod_lt _ (by norm_num)⟩)
    (fun b h n x => ur b ⟨n % 4096, Nat.mod_lt _ (by norm_num)⟩ ⟨h.val * 256 + x.val, by omega⟩)
    (fun b h n x => ur b ⟨n % 4096, Nat.mod_lt _ (by norm_num)⟩ ⟨2048 + h.val * 256 + x.val, by omega⟩)
    (fun b h j n => ur b ⟨n % 4096, Nat.mod_lt _ (by norm_num)⟩ ⟨4096 + h.val * 512 + j.val, by omega⟩)
    hq hk hv ha hb _ fun b t h d e he => ?_
  exact value _ _ _ _ b t h d e he _ _ _ _ _ (fun s x => hq b h s x) (fun s x => hk b h s x) (fun s j => hv b h s j) (fun s => ha b h s)
    (fun s => hb b h s)

/-- Both programs run, from equal arguments that meet the precondition, to equal results with their arguments unchanged. -/
theorem algebraic : Cert.algebraic_MlstmIdeal_MlstmReferenceIdeal_pre_finite_qkv_a_and_b := by
  intro m g m' g' hpre hag
  refine ⟨fun c => (dats m 0 c).arrAt 8 cfg0.N, Cert.MlstmIdeal.Value.run_blocks m g, ?_⟩
  refine (θ_run Cert.MlstmReferenceIdeal.defs _ _).mono (fun r h c => ⟨?_, (h c).2⟩) (Cert.MlstmReferenceIdeal.Value.run (F := Ideal) m' g')
  refine (h c).1.trans ?_
  rw [Cert.MlstmReferenceIdeal.Read.val_main_v71_eq, (hag c).1, (hag c).2.1, (hag c).2.2.1, (hag c).2.2.2]
  exact (arrays_equal m c hpre).symm

end Cert.MlstmValue
-- ==== Proof.FinalNormValue.lean ====
/- The root-mean-square norm that closes the model, over the extended reals: the array that the kernel leaves is the reference's. -/
module

public import proofs.«01_k».proof.Defs
public import proofs.«01_k».proof.Proof.Gen.FinalNormIdeal.Value
public import proofs.«01_k».proof.Proof.Gen.FinalNormReferenceIdeal.Run
public import proofs.«01_k».proof.Proof.Gen.FinalNormReferenceIdeal.Read
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384
noncomputable section

namespace Cert.FinalNormValue

open Cert.FinalNormIdeal Cert.FinalNormIdeal.Gen Idealize.ShloMosaic Idealize.ShloMosaic.TcCoe Idealize.SL.Sem

/-- The block that each window takes at a grid point: the rows move with the point, the scale stays. -/
theorem blocks : ∀ t : Fin cfg0.N,
    win0_0.index t = ![t.val, 0] ∧ win0_1.index t = ![0, 0] ∧ win0_2.index t = ![t.val, 0] :=
  (by decide +kernel : ∀ t : Fin grid0.N, _)

/-- Every result lies in the block of some grid point. -/
theorem covered : (cfg0.win 2).Covers := by
  decide +kernel

/-- An entry `a` of a row with the sum of squares `s`, normed and scaled by `g`. -/
def entry (a s g : EReal) : EReal :=
  a * Ideal.rsqrt (Ideal.div s (Ideal.ofBits FTy.f32 0x45800000#32) + Ideal.ofBits FTy.f32 0x358637BD#32) * g

/-- What the body computes at an entry of its block. -/
theorem pay (x : Vec Ideal S256x4096 .f32) (g : Vec Ideal S1x4096 .f32) (r : Fin 256) (l : Fin 4096) :
    k0_pay1 (F := Ideal) x g (ix2 r l) = entry (x (ix2 r l)) (∑ k : Fin 4096, x (ix2 r k) * x (ix2 r k)) (g (ix2 0 l)) := by
  pointwise [k0_pay1]
  rfl

section Blocks

variable (m : (ℓ : Loc nD τ sig) → Buf (Elt Ideal) ℓ) (c : Dev nD) (p : Fin cfg0.N)

theorem bound : p.val < 64 := p.isLt

/-- The row of the array for that of the block. -/
def row (r : Fin 256) : Fin 16384 := ⟨p.val * 256 + r.val, by have := bound p; omega⟩

theorem x_block (r : Fin 256) (l : Fin 4096) : iblk (F := Ideal) m c 0 p (ix2 r l) = m ((c : Thread nD τ).loc main_arg0) (ix2 (row p r) l) := by
  obtain ⟨e, _, _⟩ := blocks p
  blk_ext [iblk, V, e, row]
theorem g_block (l : Fin 4096) : iblk (F := Ideal) m c 1 p (ix2 0 l) = m ((c : Thread nD τ).loc main_arg1) (ix1 l) := by
  obtain ⟨_, e, _⟩ := blocks p
  show V m c main_v0 (((cfg0.win 1).blk p).view.emb (ix2 0 l)) = _
  rw [show ((cfg0.win 1).blk p).view.emb (ix2 (0 : Fin 1) l) = ix2 (0 : Fin 1) l from by blk_ext [e]]
  entry_read
  pointwise

end Blocks

/-- The reference at an entry. -/
theorem ref_value (x : Vec Ideal S16384x4096 .f32) (g : Vec Ideal S4096 .f32) (r : Fin 16384) (l : Fin 4096) :
    Cert.FinalNormReferenceIdeal.Read.val_main_v12 (F := Ideal) x g (ix2 r l)
      = entry (x (ix2 r l)) (∑ k : Fin 4096, x (ix2 r k) * x (ix2 r k)) (g (ix1 l)) := by
  simp only [Cert.FinalNormReferenceIdeal.Read.val_main_v12_apply,
    Cert.FinalNormReferenceIdeal.Read.val_main_v11_apply,
    Cert.FinalNormReferenceIdeal.Read.val_main_v10_apply,
    Cert.FinalNormReferenceIdeal.Read.val_main_v9_apply,
    Cert.FinalNormReferenceIdeal.Read.val_main_v8_apply,
    Cert.FinalNormReferenceIdeal.Read.val_main_v7_apply,
    Cert.FinalNormReferenceIdeal.Read.val_main_v6_apply,
    Cert.FinalNormReferenceIdeal.Read.val_main_v5_apply,
    Cert.FinalNormReferenceIdeal.Read.val_main_v4_apply,
    Cert.FinalNormReferenceIdeal.Read.val_main_v3_apply,
    Cert.FinalNormReferenceIdeal.Read.val_main_v2_apply,
    Cert.FinalNormReferenceIdeal.Read.val_main_v1_apply,
    Cert.FinalNormReferenceIdeal.Read.val_main_v0_apply,
    Cert.FinalNormReferenceIdeal.Read.val_main_cst_apply,
    Cert.FinalNormReferenceIdeal.Read.val_main_cst_0_apply,
    Cert.FinalNormReferenceIdeal.Read.val_main_cst_1_apply]
  have h : ∀ k : Fin 4096, Cert.FinalNormReferenceIdeal.Read.idx_main_v1 (Cert.FinalNormReferenceIdeal.Read.idx_main_v2
      (Cert.FinalNormReferenceIdeal.Read.idx_main_v8 (ix2 r l))) k = ix2 r k := by
    intro k; funext a; fin_cases a <;> rfl
  have h' : Cert.FinalNormReferenceIdeal.Read.idx_main_v10 (Cert.FinalNormReferenceIdeal.Read.idx_main_v11 (ix2 r l)) = ix1 l := by
    funext a; fin_cases a; rfl
  simp only [h, h']
  have hz : (FloatOps.ofBits FTy.f32 0#32 : Ideal .f32) + (∑ k : Fin 4096, FloatOps.mulf (x (ix2 r k)) (x (ix2 r k)))
      = ∑ k : Fin 4096, x (ix2 r k) * x (ix2 r k) := by
    rw [show (FloatOps.ofBits FTy.f32 0#32 : Ideal .f32) = 0 from Ideal.ofBits_zero_f32]
    exact zero_add _
  rw [hz]
  rfl

/-- The array that the kernel leaves is the reference's. -/
theorem array_value (m : (ℓ : Loc nD τ sig) → Buf (Elt Ideal) ℓ) (c : Dev nD) :
    (dats m 0 c).arrAt 2 cfg0.N = Cert.FinalNormReferenceIdeal.Read.val_main_v12 (F := Ideal)
      (m ((c : Thread nD τ).loc main_arg0)) (m ((c : Thread nD τ).loc main_arg1)) := by
  refine (dats m 0 c).arrAt_eq_of_covers 2 _ covered fun t hf y => ?_
  blk_simp
  rw [after0_2]
  frame_out
  have key : ∀ y : S256x4096.Idx, k0_pay1 (F := Ideal) (iblk m c 0 t) (iblk m c 1 t) y
      = Cert.FinalNormReferenceIdeal.Read.val_main_v12 (F := Ideal) (m ((c : Thread nD τ).loc main_arg0)) (m ((c : Thread nD τ).loc main_arg1))
          ((win0_2.blk t).view.emb y) := by
    intro y
    obtain ⟨_, _, e⟩ := blocks t
    have h0 : (y 0).val < 256 := (y 0).isLt
    have h1 : (y 1).val < 4096 := (y 1).isLt
    have hy : y = ix2 (⟨(y 0).val, h0⟩ : Fin 256) (⟨(y 1).val, h1⟩ : Fin 4096) := by
      funext a
      match a with
      | ⟨0, _⟩ => rfl
      | ⟨1, _⟩ => rfl
    have hb : (win0_2.blk t).view.emb y = ix2 (row t ⟨(y 0).val, h0⟩) (⟨(y 1).val, h1⟩ : Fin 4096) := by
      blk_ext [e, row]
    rw [hb, ref_value]
    conv_lhs => rw [hy]
    rw [pay, g_block]
    simp only [x_block]
  exact key y

/-- The reference runs, leaves its arguments alone and every counter at zero. -/
theorem frame_ref : Cert.quiescent_FinalNormReferenceIdeal := fun m g _ =>
  (θ_run Cert.FinalNormReferenceIdeal.defs _ _).mono
    (fun r h => ⟨fun c => (h c).2, sem_eq_zero_of_no_sems (by decide) r.2⟩)
    (Cert.FinalNormReferenceIdeal.Value.run (F := Ideal) m g)

/-- Both programs run, from equal arguments, to equal results with their arguments unchanged. -/
theorem algebraic : Cert.algebraic_FinalNormIdeal_FinalNormReferenceIdeal := by
  intro m g m' g' _ hag
  refine ⟨fun c => (dats m 0 c).arrAt 2 cfg0.N, Cert.FinalNormIdeal.Value.run_blocks m g, ?_⟩
  refine (θ_run Cert.FinalNormReferenceIdeal.defs _ _).mono (fun r h c => ⟨?_, (h c).2⟩) (Cert.FinalNormReferenceIdeal.Value.run (F := Ideal) m' g')
  refine (h c).1.trans ?_
  rw [Cert.FinalNormReferenceIdeal.Read.val_main_v12_eq, (hag c).1, (hag c).2]
  exact (array_value m c).symm

end Cert.FinalNormValue
-- ==== Proof.EvenGatesInValue.lean ====
/- The narrow input projection of an even layer over the extended reals: the array that the kernel leaves is the product of the normed
   rows with the gates' weights, whose transposed rows the kernel keeps in a scratch over the row blocks. -/
module

public import proofs.«01_k».proof.Defs
public import proofs.«01_k».proof.Proof.Gen.EvenGatesInIdeal.Value
public import proofs.«01_k».proof.Proof.Gen.EvenGatesInReferenceIdeal.Run
public import proofs.«01_k».proof.Proof.Gen.EvenGatesInReferenceIdeal.Read
public import Idealize.ShloMosaic.Lib.Pointwise
public import Idealize.ShloMosaic.Lib.Pipeline.Value
public import Idealize.ShloMosaic.Lib.Pipeline.ValueKit
public import Idealize.ShloMosaic.Lib.Pipeline.ValueKit.Held
public import Idealize.ShloMosaic.Lib.Pipeline.Covers

@[expose] public section

set_option maxRecDepth 16384
noncomputable section

namespace Cert.EvenGatesInValue

open Cert.EvenGatesInIdeal Cert.EvenGatesInIdeal.Gen Idealize.ShloMosaic Idealize.ShloMosaic.TcCoe Idealize.SL.Sem

/-- The block that each window takes at a grid point: the rows move with the point, the weights stay. -/
theorem blocks : ∀ t : Fin cfg0.N,
    win0_0.index t = ![t.val, 0] ∧ win0_1.index t = ![0, 0, 0] ∧ win0_2.index t = ![t.val, 0] :=
  (by decide +kernel : ∀ t : Fin grid0.N, _)

/-- Every result lies in the block of some grid point. -/
theorem covered : (cfg0.win 2).Covers := by
  decide +kernel

/-- The weights as the scratch keeps them. -/
theorem pay1 (w : Vec Ideal S1x128x4096 .f32) (l : Fin 128) (k : Fin 4096) : k0_pay1 (F := Ideal) w (ix2 l k) = w (ix3 0 l k) := by
  pointwise [k0_pay1]
/-- What the body computes at an entry of its block. -/
theorem pay2 (x : Vec Ideal S1024x4096 .bf16) (w : Vec Ideal S128x4096 .bf16) (r : Fin 1024) (l : Fin 128) :
    k0_pay2 (F := Ideal) x w (ix2 r l) = ∑ k : Fin 4096, x (ix2 r k) * w (ix2 l k) := by
  pointwise [k0_pay2]

/-- The weight of row `k` in column `l`: the gates' columns of the layer, one range after the other, then zeros. -/
def weight (w : Vec Ideal S2x4096x22608 .f32) (l : Fin 128) (k : Fin 4096) : EReal :=
  if h : l.val < 16 then w (ix3 0 k ⟨12288 + l.val, by omega⟩)
  else if h : l.val < 80 then w (ix3 0 k ⟨22544 + (l.val - 16), by omega⟩) else 0

section Blocks

variable (m : (ℓ : Loc nD τ sig) → Buf (Elt Ideal) ℓ) (c : Dev nD) (p : Fin cfg0.N)

theorem bound : p.val < 16 := p.isLt

/-- The row of the array for that of the block. -/
def row (r : Fin 1024) : Fin 16384 := ⟨p.val * 1024 + r.val, by have := bound p; omega⟩

theorem x_block (r : Fin 1024) (k : Fin 4096) : iblk (F := Ideal) m c 0 p (ix2 r k) = m ((c : Thread nD τ).loc main_arg0) (ix2 (row p r) k) := by
  obtain ⟨e, _, _⟩ := blocks p
  blk_ext [iblk, V, e, row]

/-- The rows of the mLSTM's gates, as the host slices them. -/
theorem mlstm_rows (l : Fin 16) (k : Fin 4096) : V m c main_v1 (ix3 (0 : Fin 1) l k)
    = m ((c : Thread nD τ).loc main_arg1) (ix3 0 k ⟨12288 + l.val, by omega⟩) := by
  entry_read
  pointwise

/-- The rows of the SSD's step sizes, as the host slices them. -/
theorem ssd_rows (l : Fin 64) (k : Fin 4096) : V m c main_v2 (ix3 (0 : Fin 1) l k)
    = m ((c : Thread nD τ).loc main_arg1) (ix3 0 k ⟨22544 + l.val, by omega⟩) := by
  entry_read
  pointwise

theorem w_block (l : Fin 128) (k : Fin 4096) : iblk (F := Ideal) m c 1 p (ix3 0 l k)
    = weight (m ((c : Thread nD τ).loc main_arg1)) l k := by
  obtain ⟨_, e, _⟩ := blocks p
  show V m c main_v5 (((cfg0.win 1).blk p).view.emb (ix3 0 l k)) = _
  rw [show ((cfg0.win 1).blk p).view.emb (ix3 (0 : Fin 1) l k) = ix3 (0 : Fin 1) l k from by blk_ext [e]]
  entry_read
  unfold weight
  pointwise
  by_cases h80 : l.val < 80
  · by_cases h16 : l.val < 16
    · simp only [h80, h16, dif_pos]
      exact mlstm_rows m c ⟨l.val, h16⟩ k
    · simp only [h80, h16, dif_pos, dif_neg, not_false_eq_true]
      exact ssd_rows m c ⟨l.val - 16, by omega⟩ k
  · have h16 : ¬l.val < 16 := by omega
    simp only [h80, h16, dif_neg, not_false_eq_true]

section Runs

variable (i : grid0.Coords) (arg2 : Memref sig .tc .vmem S1024x4096 .bf16) (harg2 : arg2.IsWhole) (arg3 : Memref sig .tc .vmem S1x128x4096 .f32) (harg3 : arg3.IsWhole)
  (arg4 : Memref sig .tc .vmem S1024x128 .f32) (harg4 : arg4.IsWhole) (arg5 : Memref sig .tc .vmem S128x4096 .bf16) (harg5 : arg5.IsWhole)
  (x0 : Vec Ideal S1024x4096 .bf16) (x1 : Vec Ideal S1x128x4096 .f32) (xs : Vec Ideal S128x4096 .bf16)

/-- The first point of a column block stores the weights and multiplies with them. -/
theorem first_out (hc : cond0_0 i) : out0_A_2 c i arg2 harg2 arg3 harg3 arg4 harg4 arg5 harg5 hc x0 x1 = k0_pay2 x0 (k0_pay1 x1) := by
  frame_out
theorem first_held (hc : cond0_0 i) : sout0_A_0 c i arg2 harg2 arg3 harg3 arg4 harg4 arg5 harg5 hc x0 x1 = k0_pay1 x1 := by
  frame_out
/-- Every other point multiplies with what the scratch holds. -/
theorem later_out (hc : ¬cond0_0 i) : out0_B_2 c i arg2 harg2 arg3 harg3 arg4 harg4 arg5 harg5 hc x0 x1 xs = k0_pay2 x0 xs := by
  frame_out

end Runs

/-- What the scratch holds after a grid point: the weights, stored at the first point. -/
theorem held (l : Fin 128) (k : Fin 4096) : (outsAt0 (F := Ideal) m c p.val p.isLt).2 (ix2 l k)
    = weight (m ((c : Thread nD τ).loc main_arg1)) l k := by
  have h := Pipeline.eq_of_write_hold (fun n h => (outsAt0 (F := Ideal) m c n h).2) 16 (fun t => k0_pay1 (iblk (F := Ideal) m c 1 t))
    (fun t h0 => by rw [outsAt0_A m c t h0]; dsimp only; rw [first_held])
    (fun t h0 => by rw [outsAt0_B m c t h0]; rfl) p
  rw [h, pay1, w_block]

/-- What a grid point leaves in its block. -/
theorem out_eq : (outsAt0 (F := Ideal) m c p.val p.isLt).1 = k0_pay2 (iblk m c 0 p) ((outsAt0 (F := Ideal) m c p.val p.isLt).2) := by
  by_cases h0 : p.val % 16 = 0
  · rw [outsAt0_A m c p h0]
    dsimp only
    rw [first_out, first_held]
  · rw [outsAt0_B m c p h0]
    dsimp only
    rw [later_out]
    rfl

end Blocks

section Reference

open Cert.EvenGatesInReferenceIdeal.Read

variable (x : (⟨S16384x4096, .bf16⟩ : BufTy).Contents (Elt Ideal)) (w : (⟨S2x4096x22608, .f32⟩ : BufTy).Contents (Elt Ideal))
  (r : Fin 16384)

/-- The mLSTM's gates. -/
theorem ref_mlstm (l : Fin 16) : val_main_v3 (F := Ideal) x w (ix2 r l) = ∑ k : Fin 4096, x (ix2 r k) * w (ix3 0 k ⟨12288 + l.val, by omega⟩) := by
  refine (val_main_v3_apply x w (ix2 r l)).trans (Finset.sum_congr rfl fun k _ => ?_)
  have h : val_main_v2 (F := Ideal) w (ix2 k l) = w (ix3 0 k ⟨12288 + l.val, by omega⟩) := by
    pointwise [val_main_v2, val_main_v1]
  rw [← h]
  congr 1
  exact congrArg _ (by funext a; fin_cases a <;> rfl)

/-- The SSD's step sizes. -/
theorem ref_ssd (l : Fin 64) : val_main_v6 (F := Ideal) x w (ix2 r l) = ∑ k : Fin 4096, x (ix2 r k) * w (ix3 0 k ⟨22544 + l.val, by omega⟩) := by
  refine (val_main_v6_apply x w (ix2 r l)).trans (Finset.sum_congr rfl fun k _ => ?_)
  have h : val_main_v5 (F := Ideal) w (ix2 k l) = w (ix3 0 k ⟨22544 + l.val, by omega⟩) := by
    pointwise [val_main_v5, val_main_v4]
  rw [← h]
  congr 1
  exact congrArg _ (by funext a; fin_cases a <;> rfl)

/-- The reference at an entry. -/
theorem ref_value (l : Fin 128) : val_main_v8 (F := Ideal) x w (ix2 r l) = ∑ k : Fin 4096, x (ix2 r k) * weight w l k := by
  have h0 : ∀ l : Fin 48, val_main_v7 (F := Ideal) (ix2 r l) = 0 := by
    intro l; rw [val_main_v7_apply, val_main_cst_apply]; exact Ideal.ofBits_zero_f32
  have key : val_main_v8 (F := Ideal) x w (ix2 r l) = if h : l.val < 16 then val_main_v3 (F := Ideal) x w (ix2 r ⟨l.val, h⟩)
      else if h' : l.val - 16 < 64 then val_main_v6 (F := Ideal) x w (ix2 r ⟨l.val - 16, h'⟩)
      else val_main_v7 (F := Ideal) (ix2 r ⟨l.val - 16 - 64, by omega⟩) := by
    unfold val_main_v8
    generalize val_main_v3 (F := Ideal) x w = a
    generalize val_main_v6 (F := Ideal) x w = b
    generalize val_main_v7 (F := Ideal) = d
    pointwise
  rw [key]
  unfold weight
  by_cases h1 : l.val < 16
  · simp only [h1, dif_pos]
    exact ref_mlstm x w r ⟨l.val, h1⟩
  by_cases h2 : l.val < 80
  · have h3 : l.val - 16 < 64 := by omega
    simp only [h1, h2, h3, dif_pos, dif_neg, not_false_eq_true]
    exact ref_ssd x w r ⟨l.val - 16, h3⟩
  · have h3 : ¬l.val - 16 < 64 := by omega
    simp only [h1, h2, h3, dif_neg, not_false_eq_true]
    rw [h0]
    exact (Finset.sum_eq_zero fun k _ => mul_zero _).symm

end Reference

/-- The array that the kernel leaves is the reference's. -/
theorem array_value (m : (ℓ : Loc nD τ sig) → Buf (Elt Ideal) ℓ) (c : Dev nD) :
    (dats m 0 c).arrAt 2 cfg0.N
      = Cert.EvenGatesInReferenceIdeal.Read.val_main_v8 (F := Ideal) (m ((c : Thread nD τ).loc main_arg0)) (m ((c : Thread nD τ).loc main_arg1)) := by
  refine (dats m 0 c).arrAt_eq_of_covers 2 _ covered fun t hf y => ?_
  blk_simp
  rw [after0_2, out_eq]
  have key : ∀ y : S1024x128.Idx, k0_pay2 (F := Ideal) (iblk m c 0 t) ((outsAt0 (F := Ideal) m c t.val t.isLt).2) y
      = Cert.EvenGatesInReferenceIdeal.Read.val_main_v8 (F := Ideal) (m ((c : Thread nD τ).loc main_arg0)) (m ((c : Thread nD τ).loc main_arg1))
          ((win0_2.blk t).view.emb y) := by
    intro y
    obtain ⟨_, _, e⟩ := blocks t
    have h0 : (y 0).val < 1024 := (y 0).isLt
    have h1 : (y 1).val < 128 := (y 1).isLt
    have hy : y = ix2 (⟨(y 0).val, h0⟩ : Fin 1024) (⟨(y 1).val, h1⟩ : Fin 128) := by
      funext a
      match a with
      | ⟨0, _⟩ => rfl
      | ⟨1, _⟩ => rfl
    have hb : (win0_2.blk t).view.emb y = ix2 (row t ⟨(y 0).val, h0⟩) (⟨(y 1).val, h1⟩ : Fin 128) := by
      blk_ext [e, row]
    rw [hb, ref_value]
    conv_lhs => rw [hy]
    rw [pay2]
    simp only [x_block, held]
  exact key y

/-- The reference runs, leaves its arguments alone and every counter at zero. -/
theorem frame_ref : Cert.quiescent_EvenGatesInReferenceIdeal := fun m g _ =>
  (θ_run Cert.EvenGatesInReferenceIdeal.defs _ _).mono
    (fun r h => ⟨fun c => (h c).2, sem_eq_zero_of_no_sems (by decide) r.2⟩)
    (Cert.EvenGatesInReferenceIdeal.Value.run (F := Ideal) m g)

/-- Both programs run, from equal arguments, to equal results with their arguments unchanged. -/
theorem algebraic : Cert.algebraic_EvenGatesInIdeal_EvenGatesInReferenceIdeal := by
  intro m g m' g' _ hag
  refine ⟨fun c => (dats m 0 c).arrAt 2 cfg0.N, Cert.EvenGatesInIdeal.Value.run_blocks m g, ?_⟩
  refine (θ_run Cert.EvenGatesInReferenceIdeal.defs _ _).mono (fun r h c => ⟨?_, (h c).2⟩) (Cert.EvenGatesInReferenceIdeal.Value.run (F := Ideal) m' g')
  refine (h c).1.trans ?_
  rw [Cert.EvenGatesInReferenceIdeal.Read.val_main_v8_eq, (hag c).1, (hag c).2]
  exact (array_value m c).symm

end Cert.EvenGatesInValue
-- ==== Proof.OddGatesInValue.lean ====
/- The narrow input projection of an odd layer over the extended reals: the array that the kernel leaves is the product of the normed
   rows with the forget gates' weights, whose transposed rows the kernel keeps in a scratch over the row blocks. -/
module

public import proofs.«01_k».proof.Defs
public import proofs.«01_k».proof.Proof.Gen.OddGatesInIdeal.Value
public import proofs.«01_k».proof.Proof.Gen.OddGatesInReferenceIdeal.Run
public import proofs.«01_k».proof.Proof.Gen.OddGatesInReferenceIdeal.Read
public import Idealize.ShloMosaic.Lib.Pointwise
public import Idealize.ShloMosaic.Lib.Pipeline.Value
public import Idealize.ShloMosaic.Lib.Pipeline.ValueKit
public import Idealize.ShloMosaic.Lib.Pipeline.ValueKit.Held
public import Idealize.ShloMosaic.Lib.Pipeline.Covers

@[expose] public section

set_option maxRecDepth 16384
noncomputable section

namespace Cert.OddGatesInValue

open Cert.OddGatesInIdeal Cert.OddGatesInIdeal.Gen Idealize.ShloMosaic Idealize.ShloMosaic.TcCoe Idealize.SL.Sem

/-- The block that each window takes at a grid point: the rows move with the point, the weights stay. -/
theorem blocks : ∀ t : Fin cfg0.N,
    win0_0.index t = ![t.val, 0] ∧ win0_1.index t = ![0, 0, 0] ∧ win0_2.index t = ![t.val, 0] :=
  (by decide +kernel : ∀ t : Fin grid0.N, _)

/-- Every result lies in the block of some grid point. -/
theorem covered : (cfg0.win 2).Covers := by
  decide +kernel

/-- The weights as the scratch keeps them. -/
theorem pay1 (w : Vec Ideal S1x128x4096 .f32) (l : Fin 128) (k : Fin 4096) : k0_pay1 (F := Ideal) w (ix2 l k) = w (ix3 0 l k) := by
  pointwise [k0_pay1]
/-- What the body computes at an entry of its block. -/
theorem pay2 (x : Vec Ideal S1024x4096 .bf16) (w : Vec Ideal S128x4096 .bf16) (r : Fin 1024) (l : Fin 128) :
    k0_pay2 (F := Ideal) x w (ix2 r l) = ∑ k : Fin 4096, x (ix2 r k) * w (ix2 l k) := by
  pointwise [k0_pay2]

/-- The weight of row `k` in column `l`: the forget gates' columns of the layer, then zeros. -/
def weight (w : Vec Ideal S2x4096x28704 .f32) (l : Fin 128) (k : Fin 4096) : EReal :=
  if h : l.val < 32 then w (ix3 0 k ⟨28672 + l.val, by omega⟩) else 0

section Blocks

variable (m : (ℓ : Loc nD τ sig) → Buf (Elt Ideal) ℓ) (c : Dev nD) (p : Fin cfg0.N)

theorem bound : p.val < 16 := p.isLt

/-- The row of the array for that of the block. -/
def row (r : Fin 1024) : Fin 16384 := ⟨p.val * 1024 + r.val, by have := bound p; omega⟩

theorem x_block (r : Fin 1024) (k : Fin 4096) : iblk (F := Ideal) m c 0 p (ix2 r k) = m ((c : Thread nD τ).loc main_arg0) (ix2 (row p r) k) := by
  obtain ⟨e, _, _⟩ := blocks p
  blk_ext [iblk, V, e, row]

theorem w_block (l : Fin 128) (k : Fin 4096) : iblk (F := Ideal) m c 1 p (ix3 0 l k)
    = weight (m ((c : Thread nD τ).loc main_arg1)) l k := by
  obtain ⟨_, e, _⟩ := blocks p
  show V m c main_v3 (((cfg0.win 1).blk p).view.emb (ix3 0 l k)) = _
  rw [show ((cfg0.win 1).blk p).view.emb (ix3 (0 : Fin 1) l k) = ix3 (0 : Fin 1) l k from by blk_ext [e]]
  entry_read
  unfold weight
  pointwise

section Runs

variable (i : grid0.Coords) (arg2 : Memref sig .tc .vmem S1024x4096 .bf16) (harg2 : arg2.IsWhole) (arg3 : Memref sig .tc .vmem S1x128x4096 .f32) (harg3 : arg3.IsWhole)
  (arg4 : Memref sig .tc .vmem S1024x128 .f32) (harg4 : arg4.IsWhole) (arg5 : Memref sig .tc .vmem S128x4096 .bf16) (harg5 : arg5.IsWhole)
  (x0 : Vec Ideal S1024x4096 .bf16) (x1 : Vec Ideal S1x128x4096 .f32) (xs : Vec Ideal S128x4096 .bf16)

/-- The first point of a column block stores the weights and multiplies with them. -/
theorem first_out (hc : cond0_0 i) : out0_A_2 c i arg2 harg2 arg3 harg3 arg4 harg4 arg5 harg5 hc x0 x1 = k0_pay2 x0 (k0_pay1 x1) := by
  frame_out
theorem first_held (hc : cond0_0 i) : sout0_A_0 c i arg2 harg2 arg3 harg3 arg4 harg4 arg5 harg5 hc x0 x1 = k0_pay1 x1 := by
  frame_out
/-- Every other point multiplies with what the scratch holds. -/
theorem later_out (hc : ¬cond0_0 i) : out0_B_2 c i arg2 harg2 arg3 harg3 arg4 harg4 arg5 harg5 hc x0 x1 xs = k0_pay2 x0 xs := by
  frame_out

end Runs

/-- What the scratch holds after a grid point: the weights, stored at the first point. -/
theorem held (l : Fin 128) (k : Fin 4096) : (outsAt0 (F := Ideal) m c p.val p.isLt).2 (ix2 l k)
    = weight (m ((c : Thread nD τ).loc main_arg1)) l k := by
  have h := Pipeline.eq_of_write_hold (fun n h => (outsAt0 (F := Ideal) m c n h).2) 16 (fun t => k0_pay1 (iblk (F := Ideal) m c 1 t))
    (fun t h0 => by rw [outsAt0_A m c t h0]; dsimp only; rw [first_held])
    (fun t h0 => by rw [outsAt0_B m c t h0]; rfl) p
  rw [h, pay1, w_block]

/-- What a grid point leaves in its block. -/
theorem out_eq : (outsAt0 (F := Ideal) m c p.val p.isLt).1 = k0_pay2 (iblk m c 0 p) ((outsAt0 (F := Ideal) m c p.val p.isLt).2) := by
  by_cases h0 : p.val % 16 = 0
  · rw [outsAt0_A m c p h0]
    dsimp only
    rw [first_out, first_held]
  · rw [outsAt0_B m c p h0]
    dsimp only
    rw [later_out]
    rfl

end Blocks

section Reference

open Cert.OddGatesInReferenceIdeal.Read

variable (x : (⟨S16384x4096, .bf16⟩ : BufTy).Contents (Elt Ideal)) (w : (⟨S2x4096x28704, .f32⟩ : BufTy).Contents (Elt Ideal))
  (r : Fin 16384)

/-- The forget gates. -/
theorem ref_fox (l : Fin 32) : val_main_v3 (F := Ideal) x w (ix2 r l) = ∑ k : Fin 4096, x (ix2 r k) * w (ix3 0 k ⟨28672 + l.val, by omega⟩) := by
  refine (val_main_v3_apply x w (ix2 r l)).trans (Finset.sum_congr rfl fun k _ => ?_)
  have h : val_main_v2 (F := Ideal) w (ix2 k l) = w (ix3 0 k ⟨28672 + l.val, by omega⟩) := by
    pointwise [val_main_v2, val_main_v1]
  rw [← h]
  congr 1
  exact congrArg _ (by funext a; fin_cases a <;> rfl)

/-- The reference at an entry. -/
theorem ref_value (l : Fin 128) : val_main_v5 (F := Ideal) x w (ix2 r l) = ∑ k : Fin 4096, x (ix2 r k) * weight w l k := by
  have h0 : ∀ l : Fin 96, val_main_v4 (F := Ideal) (ix2 r l) = 0 := by
    intro l; rw [val_main_v4_apply, val_main_cst_apply]; exact Ideal.ofBits_zero_f32
  have key : val_main_v5 (F := Ideal) x w (ix2 r l) = if h : l.val < 32 then val_main_v3 (F := Ideal) x w (ix2 r ⟨l.val, h⟩)
      else val_main_v4 (F := Ideal) (ix2 r ⟨l.val - 32, by omega⟩) := by
    unfold val_main_v5
    generalize val_main_v3 (F := Ideal) x w = a
    generalize val_main_v4 (F := Ideal) = d
    pointwise
  rw [key]
  unfold weight
  split_ifs with h1
  · exact ref_fox x w r ⟨l.val, h1⟩
  · rw [h0]
    exact (Finset.sum_eq_zero fun k _ => mul_zero _).symm

end Reference

/-- The array that the kernel leaves is the reference's. -/
theorem array_value (m : (ℓ : Loc nD τ sig) → Buf (Elt Ideal) ℓ) (c : Dev nD) :
    (dats m 0 c).arrAt 2 cfg0.N
      = Cert.OddGatesInReferenceIdeal.Read.val_main_v5 (F := Ideal) (m ((c : Thread nD τ).loc main_arg0)) (m ((c : Thread nD τ).loc main_arg1)) := by
  refine (dats m 0 c).arrAt_eq_of_covers 2 _ covered fun t hf y => ?_
  blk_simp
  rw [after0_2, out_eq]
  have key : ∀ y : S1024x128.Idx, k0_pay2 (F := Ideal) (iblk m c 0 t) ((outsAt0 (F := Ideal) m c t.val t.isLt).2) y
      = Cert.OddGatesInReferenceIdeal.Read.val_main_v5 (F := Ideal) (m ((c : Thread nD τ).loc main_arg0)) (m ((c : Thread nD τ).loc main_arg1))
          ((win0_2.blk t).view.emb y) := by
    intro y
    obtain ⟨_, _, e⟩ := blocks t
    have h0 : (y 0).val < 1024 := (y 0).isLt
    have h1 : (y 1).val < 128 := (y 1).isLt
    have hy : y = ix2 (⟨(y 0).val, h0⟩ : Fin 1024) (⟨(y 1).val, h1⟩ : Fin 128) := by
      funext a
      match a with
      | ⟨0, _⟩ => rfl
      | ⟨1, _⟩ => rfl
    have hb : (win0_2.blk t).view.emb y = ix2 (row t ⟨(y 0).val, h0⟩) (⟨(y 1).val, h1⟩ : Fin 128) := by
      blk_ext [e, row]
    rw [hb, ref_value]
    conv_lhs => rw [hy]
    rw [pay2]
    simp only [x_block, held]
  exact key y

/-- The reference runs, leaves its arguments alone and every counter at zero. -/
theorem frame_ref : Cert.quiescent_OddGatesInReferenceIdeal := fun m g _ =>
  (θ_run Cert.OddGatesInReferenceIdeal.defs _ _).mono
    (fun r h => ⟨fun c => (h c).2, sem_eq_zero_of_no_sems (by decide) r.2⟩)
    (Cert.OddGatesInReferenceIdeal.Value.run (F := Ideal) m g)

/-- Both programs run, from equal arguments, to equal results with their arguments unchanged. -/
theorem algebraic : Cert.algebraic_OddGatesInIdeal_OddGatesInReferenceIdeal := by
  intro m g m' g' _ hag
  refine ⟨fun c => (dats m 0 c).arrAt 2 cfg0.N, Cert.OddGatesInIdeal.Value.run_blocks m g, ?_⟩
  refine (θ_run Cert.OddGatesInReferenceIdeal.defs _ _).mono (fun r h c => ⟨?_, (h c).2⟩) (Cert.OddGatesInReferenceIdeal.Value.run (F := Ideal) m' g')
  refine (h c).1.trans ?_
  rw [Cert.OddGatesInReferenceIdeal.Read.val_main_v5_eq, (hag c).1, (hag c).2]
  exact (array_value m c).symm

end Cert.OddGatesInValue
-- ==== Proof.GatesMath.lean ====
/- Of the gates' running sums over the extended reals: the log-sigmoid and the softplus as the kernels and the references write them,
   the sum that a kernel takes by a triangle of ones from three parts of each number, and the host's running sum along one axis. -/
module

public import Idealize.ShloMosaic.Lib.Pointwise

@[expose] public section

noncomputable section

namespace Cert.GatesMath

open Idealize.ShloMosaic

/-- `log (1 + exp (-|x|))`. -/
def tail (x : EReal) : EReal := Ideal.log1p (Ideal.exp (0 - max x (-x)))

/-- `log σ(x)` as the kernels write it. -/
def logSigmoid (x : EReal) : EReal := min x 0 - tail x

/-- `log (1 + exp x)` as the kernels write it. -/
def softplus (x : EReal) : EReal := max x 0 + tail x

theorem tail_real (x : EReal) : ∃ r : ℝ, 0 ≤ r ∧ tail x = r := by
  have h0 : Ideal.log1p (Ideal.exp ⊥) = ((0 : ℝ) : EReal) := by
    show Ideal.log (1 + 0) = _
    rw [add_zero]
    show (if (1 : ℝ) ≤ 0 then ⊥ else ((Real.log 1 : ℝ) : EReal)) = _
    rw [if_neg (by norm_num), Real.log_one]
  induction x with
  | bot => exact ⟨0, le_refl _, by unfold tail; rw [EReal.neg_bot, max_eq_right bot_le, zero_sub, EReal.neg_top]; exact h0⟩
  | top => exact ⟨0, le_refl _, by unfold tail; rw [EReal.neg_top, max_eq_left bot_le, zero_sub, EReal.neg_top]; exact h0⟩
  | coe x =>
    refine ⟨Real.log (1 + Real.exp (0 - max x (-x))), Real.log_nonneg (by have := Real.exp_pos (0 - max x (-x)); linarith), ?_⟩
    unfold tail
    have e : (0 : EReal) - max (x : EReal) (-(x : EReal)) = ((0 - max x (-x) : ℝ) : EReal) := by push_cast; rfl
    rw [e]
    show Ideal.log (1 + ((Real.exp (0 - max x (-x)) : ℝ) : EReal)) = _
    have e1 : (1 : EReal) + ((Real.exp (0 - max x (-x)) : ℝ) : EReal) = ((1 + Real.exp (0 - max x (-x)) : ℝ) : EReal) := by push_cast; rfl
    rw [e1]
    show (if (1 + Real.exp (0 - max x (-x)) : ℝ) ≤ 0 then ⊥ else ((Real.log (1 + Real.exp (0 - max x (-x))) : ℝ) : EReal)) = _
    rw [if_neg (by have := Real.exp_pos (0 - max x (-x)); linarith)]

theorem logSigmoid_ne_top (x : EReal) : logSigmoid x ≠ ⊤ := by
  obtain ⟨r, _, e⟩ := tail_real x
  unfold logSigmoid
  rw [e]
  intro h
  have h1 : min x 0 ≠ ⊤ := fun h' => by
    have := min_le_right x 0
    rw [h'] at this
    exact absurd this (by simp)
  generalize min x 0 = y at h h1
  induction y with
  | bot => simp at h
  | top => exact h1 rfl
  | coe y => exact absurd h (by rw [← EReal.coe_sub]; exact EReal.coe_ne_top _)

theorem softplus_nonneg (x : EReal) : 0 ≤ softplus x := by
  obtain ⟨r, h, e⟩ := tail_real x
  unfold softplus
  rw [e]
  exact add_nonneg (le_max_right _ _) (EReal.coe_nonneg.mpr h)

theorem exp_nonneg (x : EReal) : 0 ≤ Ideal.exp x := by
  induction x with
  | bot => exact le_refl _
  | top => exact le_top
  | coe x => exact EReal.coe_nonneg.mpr (Real.exp_pos x).le

/-- A step's decay is never positive. -/
theorem decay_ne_top (x a : EReal) : softplus x * -Ideal.exp a ≠ ⊤ := by
  have h : softplus x * -Ideal.exp a ≤ 0 := by
    rw [mul_neg, EReal.neg_le, neg_zero]
    exact mul_nonneg (softplus_nonneg x) (exp_nonneg a)
  intro e
  rw [e] at h
  exact absurd h (by simp)

/-- The softplus as the references write it. -/
theorem softplus_ref (x : EReal) : max x 0 + Ideal.log1p (Ideal.exp (-max (x - 0) (-(x - 0)))) = softplus x := by
  unfold softplus tail
  rw [sub_zero, zero_sub]

/-- The log-sigmoid as the references write it. -/
theorem logSigmoid_ref (x : EReal) : -softplus (-x) = logSigmoid x := by
  have h : tail (-x) = tail x := by
    unfold tail
    rw [neg_neg, max_comm]
  unfold softplus logSigmoid
  rw [h]
  obtain ⟨r, _, e⟩ := tail_real x
  rw [e]
  induction x with
  | bot => simp
  | top => simp
  | coe x =>
    have : max (-x) 0 = -min x 0 := by rw [← neg_zero, max_neg_neg, neg_zero]
    have e1 : max (-(x : EReal)) 0 = ((max (-x) 0 : ℝ) : EReal) := by push_cast; rfl
    have e2 : min (x : EReal) 0 = ((min x 0 : ℝ) : EReal) := by push_cast; rfl
    rw [e1, e2, ← EReal.coe_add, ← EReal.coe_neg, ← EReal.coe_sub, this]
    congr 1
    ring

/-- Nothing differs from itself. -/
theorem select_self (d x y : EReal) : Scalar.select (Ideal.cmp .une d d) x y = y := by
  show (if Ideal.cmp .une d d = 1 then x else y) = y
  rw [if_neg]
  show ¬BitVec.ofBool (decide (d ≠ d)) = 1
  simp

/-- The entry of the triangle of ones. -/
theorem triangle {L : ℕ} (hL : L ≤ 512) (k t : Fin L) :
    Scalar.select (IntOp.cmpi .sle (BitVec.ofNat 32 k.val) (BitVec.ofNat 32 t.val)) (1 : EReal) 0 = if k ≤ t then 1 else 0 := by
  have hk := k.isLt
  have ht := t.isLt
  have h : (BitVec.ofNat 32 k.val).sle (BitVec.ofNat 32 t.val) = decide (k ≤ t) := by
    rw [BitVec.sle_eq_decide]
    have e1 : (BitVec.ofNat 32 k.val).toInt = k.val := by
      rw [BitVec.toInt_ofNat']; exact Int.bmod_eq_of_le (by omega) (by omega)
    have e2 : (BitVec.ofNat 32 t.val).toInt = t.val := by
      rw [BitVec.toInt_ofNat']; exact Int.bmod_eq_of_le (by omega) (by omega)
    rw [e1, e2]
    simp only [Fin.le_def, Nat.cast_le]
  show (if IntOp.cmpi .sle (BitVec.ofNat 32 k.val) (BitVec.ofNat 32 t.val) = 1 then (1 : EReal) else 0) = _
  have : IntOp.cmpi .sle (BitVec.ofNat 32 k.val) (BitVec.ofNat 32 t.val) = BitVec.ofBool ((BitVec.ofNat 32 k.val).sle (BitVec.ofNat 32 t.val)) := rfl
  rw [this, h]
  by_cases hkt : k ≤ t <;> simp [hkt]

/-- A number below `⊤` less itself, twice over, adds nothing to it: the triangle's sum of the three parts is the sum of the numbers. -/
theorem split_prefix {L : ℕ} (f : Fin L → EReal) (hf : ∀ k, f k ≠ ⊤) (T : Fin L → EReal) (t : Fin L) (hT : ∀ k, T k = if k ≤ t then 1 else 0) :
    ∑ k, f k * T k + ∑ k, (f k - f k) * T k + ∑ k, (f k - f k - (f k - f k)) * T k = ∑ k, if k ≤ t then f k else 0 := by
  rw [← Finset.sum_add_distrib, ← Finset.sum_add_distrib]
  refine Finset.sum_congr rfl fun k _ => ?_
  rw [hT k]
  by_cases h : k ≤ t
  · simp only [h, if_true, mul_one]
    have := hf k
    generalize f k = y at this
    induction y with
    | bot => simp
    | top => exact absurd rfl this
    | coe y => rw [← EReal.coe_sub, sub_self, EReal.coe_zero, sub_zero, add_zero, add_zero]
  · simp only [h, if_false, mul_zero, add_zero]

/-- The host's running sum along one axis, at an index: the sum of the entries up to it. -/
theorem running_sum {s : Shape} (a0 : Fin s.rank) (window strides lo hi : Fin s.rank → Nat) (hw : window a0 = s.size a0)
    (hw1 : ∀ a, a ≠ a0 → window a = 1) (hs : ∀ a, strides a = 1) (hl : lo a0 + 1 = s.size a0) (hl0 : ∀ a, a ≠ a0 → lo a = 0)
    (h : s.ReduceWindows window strides lo hi s) (x : s.Idx → EReal) (j : s.Idx) :
    Ideal.hostReduceWindowAdd window strides lo hi h x 0 j
      = ∑ i : Fin (s.size a0), if i ≤ j a0 then x (Function.update j a0 i) else 0 := by
  let W : Shape := ⟨s.rank, window⟩
  let G : W.Idx → EReal := fun w => if hin : ∀ a, lo a ≤ (j a).val * strides a + (w a).val ∧ (j a).val * strides a + (w a).val - lo a < s.size a
    then x (fun a => ⟨(j a).val * strides a + (w a).val - lo a, (hin a).2⟩) else 0
  have hf : ∀ (n : ℕ) (g : Fin n → EReal), (List.finRange n).foldl (fun r k => r + g k) 0 = ∑ k, g k := by
    intro n g
    have : ∀ (l : List (Fin n)) (r : EReal), l.foldl (fun r k => r + g k) r = r + (l.map g).sum := by
      intro l
      induction l with
      | nil => intro r; simp
      | cons a l ih => intro r; rw [List.foldl_cons, ih, List.map_cons, List.sum_cons, add_assoc]
    rw [this, zero_add, Fin.sum_univ_def]
  have h0 : Ideal.hostReduceWindowAdd window strides lo hi h x 0 j = (List.finRange W.numel).foldl (fun r k => r + G (W.rowMajor.symm k)) 0 := by
    unfold Ideal.hostReduceWindowAdd Host.reduceWindow
    dsimp only
    congr 1
    funext r k
    congr 1
    split
    · next hin =>
      have hin' : ∀ a, lo a ≤ (j a).val * strides a + (W.rowMajor.symm k a).val ∧ (j a).val * strides a + (W.rowMajor.symm k a).val - lo a < s.size a := hin
      simp only [G]
      rw [dif_pos hin']
      rfl
    · next hin =>
      have hin' : ¬(∀ a, lo a ≤ (j a).val * strides a + (W.rowMajor.symm k a).val ∧ (j a).val * strides a + (W.rowMajor.symm k a).val - lo a < s.size a) := hin
      simp only [G]
      rw [dif_neg hin']
  rw [h0, hf, Equiv.sum_comp W.rowMajor.symm G]
  let e : Fin (s.size a0) ≃ W.Idx :=
    { toFun := fun i a => ⟨if a = a0 then i.val else 0, by
        show _ < window a
        split
        · next h => rw [h, hw]; exact i.isLt
        · next h => rw [hw1 a h]; exact Nat.one_pos⟩
      invFun := fun w => ⟨(w a0).val, by have := (w a0).isLt; exact this.trans_eq hw⟩
      left_inv := fun i => by ext; simp
      right_inv := fun w => by
        funext a
        apply Fin.ext
        by_cases h : a = a0
        · subst h; simp
        · have := (w a).isLt
          have h1 : (w a).val < 1 := this.trans_eq (hw1 a h)
          simp only [h, if_false]
          omega }
  rw [← Equiv.sum_comp e G]
  have hj : (j a0).val < s.size a0 := (j a0).isLt
  have key : ∀ i : Fin (s.size a0), G (e i) = if hi : lo a0 ≤ (j a0).val + i.val then
      x (Function.update j a0 ⟨(j a0).val + i.val - lo a0, by have := i.isLt; omega⟩) else 0 := by
    intro i
    have hi := i.isLt
    have e0 : ((e i) a0).val = i.val := by show (if a0 = a0 then i.val else 0) = _; rw [if_pos rfl]
    have e1 : ∀ a, a ≠ a0 → ((e i) a).val = 0 := fun a ha => by show (if a = a0 then i.val else 0) = _; rw [if_neg ha]
    by_cases hi2 : lo a0 ≤ (j a0).val + i.val
    · rw [dif_pos hi2]
      have hin : ∀ a, lo a ≤ (j a).val * strides a + ((e i) a).val ∧ (j a).val * strides a + ((e i) a).val - lo a < s.size a := by
        intro a
        rw [hs a, mul_one]
        by_cases ha : a = a0
        · subst ha; rw [e0]; omega
        · rw [e1 a ha, hl0 a ha]; have := (j a).isLt; omega
      refine (dif_pos hin).trans (congrArg x ?_)
      funext a
      apply Fin.ext
      show (j a).val * strides a + ((e i) a).val - lo a = _
      rw [hs a, mul_one]
      by_cases ha : a = a0
      · subst ha; rw [e0, Function.update_self]
      · rw [e1 a ha, hl0 a ha, Function.update_of_ne ha]; omega
    · rw [dif_neg hi2]
      refine dif_neg fun hin => hi2 ?_
      have := (hin a0).1
      rw [hs a0, mul_one, e0] at this
      exact this
  simp only [key]
  have key2 : ∀ i : Fin (s.size a0), (if hi : lo a0 ≤ (j a0).val + i.val then
      x (Function.update j a0 ⟨(j a0).val + i.val - lo a0, by have := i.isLt; omega⟩) else 0)
      = if lo a0 ≤ (j a0).val + i.val then x (Function.update j a0 ⟨(j a0).val + i.val - lo a0, by have := i.isLt; omega⟩) else 0 := fun i => rfl
  simp only [key2]
  rw [← Finset.sum_filter, ← Finset.sum_filter]
  refine Finset.sum_bij' (fun i _ => ⟨(j a0).val + i.val - lo a0, by have := i.isLt; omega⟩)
    (fun i hi => ⟨i.val + lo a0 - (j a0).val, ?_⟩) ?_ ?_ ?_ ?_ ?_
  · have h2 : i.val ≤ (j a0).val := (Finset.mem_filter.mp hi).2
    omega
  · intro i hi
    refine Finset.mem_filter.mpr ⟨Finset.mem_univ _, ?_⟩
    have := i.isLt
    show (j a0).val + i.val - lo a0 ≤ (j a0).val
    omega
  · intro i hi
    refine Finset.mem_filter.mpr ⟨Finset.mem_univ _, ?_⟩
    show lo a0 ≤ (j a0).val + (i.val + lo a0 - (j a0).val)
    omega
  · intro i hi
    have h2 : lo a0 ≤ (j a0).val + i.val := (Finset.mem_filter.mp hi).2
    apply Fin.ext
    show (j a0).val + i.val - lo a0 + lo a0 - (j a0).val = i.val
    omega
  · intro i hi
    have h2 : i.val ≤ (j a0).val := (Finset.mem_filter.mp hi).2
    apply Fin.ext
    show (j a0).val + (i.val + lo a0 - (j a0).val) - lo a0 = i.val
    omega
  · intro i _
    rfl

/-- The same of the host's operation, started at an array of zeros. -/
theorem host_running_sum {s u : Shape} (a0 : Fin s.rank) (window strides lo hi : Fin s.rank → Nat) (hw : window a0 = s.size a0)
    (hw1 : ∀ a, a ≠ a0 → window a = 1) (hs : ∀ a, strides a = 1) (hl : lo a0 + 1 = s.size a0) (hl0 : ∀ a, a ≠ a0 → lo a = 0)
    (h : s.ReduceWindows window strides lo hi s) (hu : 0 < u.numel) (x : FVec Ideal s .f32) (z : u.Idx → Ideal .f32) (hz : ∀ i, z i = 0) (j : s.Idx) :
    Host.reduceWindowAdd window strides lo hi x z h hu j
      = ∑ i : Fin (s.size a0), if i ≤ j a0 then x (Function.update j a0 i) else 0 := by
  show Ideal.hostReduceWindowAdd window strides lo hi h x (z (Shape.Idx.first hu)) j = _
  rw [hz]
  exact running_sum a0 window strides lo hi hw hw1 hs hl hl0 h x j

/-- A sum over the first indices: those of a chunk up to an index in it, and those before the chunk. -/
theorem prefix_add {N L : ℕ} (f : Fin N → EReal) (o : ℕ) (ho : o + L ≤ N) (t : Fin L) :
    (∑ k : Fin L, if k ≤ t then f ⟨o + k.val, by omega⟩ else 0) + (∑ s : Fin N, if s.val < o then f s else 0)
      = ∑ s : Fin N, if s.val < o + t.val + 1 then f s else 0 := by
  have e : ∀ s : Fin N, (if s.val < o + t.val + 1 then f s else 0)
      = (if o ≤ s.val ∧ s.val ≤ o + t.val then f s else 0) + (if s.val < o then f s else 0) := by
    intro s
    by_cases h1 : s.val < o
    · rw [if_pos (by omega), if_neg (by omega), if_pos h1, zero_add]
    · by_cases h2 : s.val ≤ o + t.val
      · rw [if_pos (by omega), if_pos (by omega), if_neg h1, add_zero]
      · rw [if_neg (by omega), if_neg (by omega), if_neg h1, add_zero]
  simp only [e, Finset.sum_add_distrib]
  congr 1
  rw [← Finset.sum_filter, ← Finset.sum_filter]
  have ht := t.isLt
  refine Finset.sum_bij' (fun k _ => ⟨o + k.val, by have := k.isLt; omega⟩)
    (fun s hs => ⟨s.val - o, by have := (Finset.mem_filter.mp hs).2; omega⟩) ?_ ?_ ?_ ?_ ?_
  · intro k hk
    have h2 : k.val ≤ t.val := (Finset.mem_filter.mp hk).2
    refine Finset.mem_filter.mpr ⟨Finset.mem_univ _, ?_⟩
    show o ≤ o + k.val ∧ o + k.val ≤ o + t.val
    omega
  · intro s hs
    have h2 := (Finset.mem_filter.mp hs).2
    refine Finset.mem_filter.mpr ⟨Finset.mem_univ _, ?_⟩
    show s.val - o ≤ t.val
    omega
  · intro k _
    apply Fin.ext
    show o + k.val - o = k.val
    omega
  · intro s hs
    have h2 := (Finset.mem_filter.mp hs).2
    apply Fin.ext
    show o + (s.val - o) = s.val
    omega
  · intro k _
    rfl

end Cert.GatesMath
-- ==== Proof.FoxGatesValue.lean ====
/- The FoX layer's gates over the extended reals: the array that the kernel leaves is, per head and token, the running sum of the forget
   gates' log-sigmoid over the sequence, which the kernel takes by chunks of 256 tokens as three products with a triangle of ones, and
   carries from each chunk to the next. -/
module

public import proofs.«01_k».proof.Defs
public import proofs.«01_k».proof.Proof.GatesMath
public import proofs.«01_k».proof.Proof.Gen.FoxGatesIdeal.Value
public import proofs.«01_k».proof.Proof.Gen.FoxGatesReferenceIdeal.Run
public import proofs.«01_k».proof.Proof.Gen.FoxGatesReferenceIdeal.Read
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384
noncomputable section

namespace Cert.FoxGatesValue

open Cert.FoxGatesIdeal Cert.FoxGatesIdeal.Gen Idealize.ShloMosaic Idealize.ShloMosaic.TcCoe Idealize.SL.Sem
open Cert.GatesMath

/-- The block that each window takes at a grid point: the sequence moves with the point, the bias stays. -/
theorem blocks : ∀ t : Fin cfg0.N,
    win0_0.index t = ![t.val, 0, 0] ∧ win0_1.index t = ![0, 0] ∧ win0_2.index t = ![t.val, 0, 0] :=
  (by decide +kernel : ∀ t : Fin grid0.N, _)

/-- Every result lies in the block of some grid point. -/
theorem covered : (cfg0.win 2).Covers := by
  decide +kernel

section Body

/-- The forget gate's log-sigmoid as the body computes it. -/
theorem pay3 (v : Vec Ideal S1x32x4096 .f32) (b : Vec Ideal S32x1 .f32) (h : Fin 32) (t : Fin 4096) :
    k0_pay3 (F := Ideal) v b (ix2 h t) = logSigmoid (v (ix3 0 h t) + b (ix2 h 0)) := by
  pointwise [k0_pay3]
  rfl
/-- The triangle of ones. -/
theorem pay4 (k t : Fin 256) : k0_pay4 (F := Ideal) (ix2 k t) = if k ≤ t then 1 else 0 := by
  pointwise [k0_pay4]
  exact triangle (by omega) k t

/-- The body's product of 256 columns with the triangle, in three parts: the columns, what rounding leaves of them, and what rounding
    leaves of that. -/
def sums (y : FVec Ideal S32x256 .f32) : FVec Ideal S32x256 .f32 :=
  addf (addf
      (matmul dot_S32x256_S256x256_S32x256_1_0_0_1_n_n none (truncf .bf16 y bitsLt_bf16_f32) (k0_pay4 (F := Ideal)) (constant S32x256 .f32 0x00000000#32))
      (matmul dot_S32x256_S256x256_S32x256_1_0_0_1_n_n none (truncf .bf16 (subf y (extf .f32 (truncf .bf16 y bitsLt_bf16_f32) bitsLt_bf16_f32)) bitsLt_bf16_f32)
        (k0_pay4 (F := Ideal)) (constant S32x256 .f32 0x00000000#32)))
    (matmul dot_S32x256_S256x256_S32x256_1_0_0_1_n_n none
      (truncf .bf16 (subf (subf y (extf .f32 (truncf .bf16 y bitsLt_bf16_f32) bitsLt_bf16_f32))
        (extf .f32 (truncf .bf16 (subf y (extf .f32 (truncf .bf16 y bitsLt_bf16_f32) bitsLt_bf16_f32)) bitsLt_bf16_f32) bitsLt_bf16_f32)) bitsLt_bf16_f32)
      (k0_pay4 (F := Ideal)) (constant S32x256 .f32 0x00000000#32))

/-- Of columns that are nowhere `⊤` the product is the running sum. -/
theorem sums_apply (y : FVec Ideal S32x256 .f32) (h : Fin 32) (hy : ∀ k, y (ix2 h k) ≠ ⊤) (t : Fin 256) :
    sums y (ix2 h t) = ∑ k : Fin 256, if k ≤ t then y (ix2 h k) else 0 := by
  rw [← split_prefix (fun k => y (ix2 h k)) hy (fun k => k0_pay4 (F := Ideal) (ix2 k t)) t fun k => pay4 k t]
  unfold sums
  generalize k0_pay4 (F := Ideal) = d
  pointwise

/-- The sum of a head's columns before column `n`. -/
def before (f : FVec Ideal S32x4096 .f32) (h : Fin 32) (n : ℕ) : EReal :=
  ∑ s : Fin 4096, if s.val < n then f (ix2 h s) else 0

/-- A chunk's running sums on top of what is carried into it. -/
def onto (k : FVec Ideal S32x1 .f32) (z : FVec Ideal S32x256 .f32) : FVec Ideal S32x256 .f32 :=
  addf (sums z) (broadcastTo S32x256 k broadcasts_S32x1_S32x256)
/-- What a chunk carries into the next: its last column. -/
def last (d : FVec Ideal S32x256 .f32) : FVec Ideal S32x1 .f32 :=
  extractStridedSlice S32x1 ![0, 255] d slices_S32x256_o0_255_S32x1

theorem last_apply (d : FVec Ideal S32x256 .f32) (h : Fin 32) : last d (ix2 h 0) = d (ix2 h 255) := by
  unfold last
  pointwise

/-- If the sum before a chunk is carried into it, the chunk holds the sums up to each of its columns. -/
theorem onto_apply (f : FVec Ideal S32x4096 .f32) (hf : ∀ h n, f (ix2 h n) ≠ ⊤) (o : ℕ) (ho : o + 256 ≤ 4096)
    (k : FVec Ideal S32x1 .f32) (hk : ∀ h, k (ix2 h 0) = before f h o)
    (z : FVec Ideal S32x256 .f32) (hz : ∀ (h : Fin 32) (t : Fin 256), z (ix2 h t) = f (ix2 h ⟨o + t.val, by omega⟩))
    (h : Fin 32) (t : Fin 256) : onto k z (ix2 h t) = before f h (o + t.val + 1) := by
  have e : onto k z (ix2 h t) = sums z (ix2 h t) + k (ix2 h 0) := by
    unfold onto
    generalize sums z = d
    pointwise
  rw [e, hk, sums_apply z h (fun k => by rw [hz]; exact hf _ _) t]
  unfold before
  rw [← prefix_add (fun s => f (ix2 h s)) o ho t]
  simp only [hz]

/-- The sum before the next chunk is carried into it. -/
theorem carried (f : FVec Ideal S32x4096 .f32) (o : ℕ) (d : FVec Ideal S32x256 .f32)
    (hd : ∀ (h : Fin 32) (t : Fin 256), d (ix2 h t) = before f h (o + t.val + 1)) (h : Fin 32) :
    last d (ix2 h 0) = before f h (o + 256) := by
  rw [last_apply, hd]
  rfl

variable (f : FVec Ideal S32x4096 .f32)

/-- The chunks one after another, each on top of the last column of the one before. -/
def chunk0 : FVec Ideal S32x256 .f32 :=
  onto (broadcast S32x1 (Scalar.ofBits .f32 0x00000000#32)) (extractStridedSlice S32x256 ![0, 0] f slices_S32x4096_o0_0_S32x256)
def chunk1 : FVec Ideal S32x256 .f32 :=
  onto (last (chunk0 f)) (extractStridedSlice S32x256 ![0, 256] f slices_S32x4096_o0_256_S32x256)
def chunk2 : FVec Ideal S32x256 .f32 :=
  onto (last (chunk1 f)) (extractStridedSlice S32x256 ![0, 512] f slices_S32x4096_o0_512_S32x256)
def chunk3 : FVec Ideal S32x256 .f32 :=
  onto (last (chunk2 f)) (extractStridedSlice S32x256 ![0, 768] f slices_S32x4096_o0_768_S32x256)
def chunk4 : FVec Ideal S32x256 .f32 :=
  onto (last (chunk3 f)) (extractStridedSlice S32x256 ![0, 1024] f slices_S32x4096_o0_1024_S32x256)
def chunk5 : FVec Ideal S32x256 .f32 :=
  onto (last (chunk4 f)) (extractStridedSlice S32x256 ![0, 1280] f slices_S32x4096_o0_1280_S32x256)
def chunk6 : FVec Ideal S32x256 .f32 :=
  onto (last (chunk5 f)) (extractStridedSlice S32x256 ![0, 1536] f slices_S32x4096_o0_1536_S32x256)
def chunk7 : FVec Ideal S32x256 .f32 :=
  onto (last (chunk6 f)) (extractStridedSlice S32x256 ![0, 1792] f slices_S32x4096_o0_1792_S32x256)
def chunk8 : FVec Ideal S32x256 .f32 :=
  onto (last (chunk7 f)) (extractStridedSlice S32x256 ![0, 2048] f slices_S32x4096_o0_2048_S32x256)
def chunk9 : FVec Ideal S32x256 .f32 :=
  onto (last (chunk8 f)) (extractStridedSlice S32x256 ![0, 2304] f slices_S32x4096_o0_2304_S32x256)
def chunk10 : FVec Ideal S32x256 .f32 :=
  onto (last (chunk9 f)) (extractStridedSlice S32x256 ![0, 2560] f slices_S32x4096_o0_2560_S32x256)
def chunk11 : FVec Ideal S32x256 .f32 :=
  onto (last (chunk10 f)) (extractStridedSlice S32x256 ![0, 2816] f slices_S32x4096_o0_2816_S32x256)
def chunk12 : FVec Ideal S32x256 .f32 :=
  onto (last (chunk11 f)) (extractStridedSlice S32x256 ![0, 3072] f slices_S32x4096_o0_3072_S32x256)
def chunk13 : FVec Ideal S32x256 .f32 :=
  onto (last (chunk12 f)) (extractStridedSlice S32x256 ![0, 3328] f slices_S32x4096_o0_3328_S32x256)
def chunk14 : FVec Ideal S32x256 .f32 :=
  onto (last (chunk13 f)) (extractStridedSlice S32x256 ![0, 3584] f slices_S32x4096_o0_3584_S32x256)
def chunk15 : FVec Ideal S32x256 .f32 :=
  onto (last (chunk14 f)) (extractStridedSlice S32x256 ![0, 3840] f slices_S32x4096_o0_3840_S32x256)

/-- Each chunk holds the sums up to its columns. -/
theorem chunk0_apply (hf : ∀ h n, f (ix2 h n) ≠ ⊤) (h : Fin 32) (t : Fin 256) : chunk0 f (ix2 h t) = before f h (0 + t.val + 1) := by
  refine onto_apply f hf 0 (by omega) _ (fun h => ?_) _ (fun h t => by pointwise) h t
  unfold before
  simp only [Nat.not_lt_zero, if_false, Finset.sum_const_zero]
  exact Ideal.ofBits_zero_f32
theorem chunk1_apply (hf : ∀ h n, f (ix2 h n) ≠ ⊤) (h : Fin 32) (t : Fin 256) : chunk1 f (ix2 h t) = before f h (256 + t.val + 1) :=
  onto_apply f hf 256 (by omega) _ (carried f 0 _ (chunk0_apply f hf)) _ (fun h t => by pointwise) h t
theorem chunk2_apply (hf : ∀ h n, f (ix2 h n) ≠ ⊤) (h : Fin 32) (t : Fin 256) : chunk2 f (ix2 h t) = before f h (512 + t.val + 1) :=
  onto_apply f hf 512 (by omega) _ (carried f 256 _ (chunk1_apply f hf)) _ (fun h t => by pointwise) h t
theorem chunk3_apply (hf : ∀ h n, f (ix2 h n) ≠ ⊤) (h : Fin 32) (t : Fin 256) : chunk3 f (ix2 h t) = before f h (768 + t.val + 1) :=
  onto_apply f hf 768 (by omega) _ (carried f 512 _ (chunk2_apply f hf)) _ (fun h t => by pointwise) h t
theorem chunk4_apply (hf : ∀ h n, f (ix2 h n) ≠ ⊤) (h : Fin 32) (t : Fin 256) : chunk4 f (ix2 h t) = before f h (1024 + t.val + 1) :=
  onto_apply f hf 1024 (by omega) _ (carried f 768 _ (chunk3_apply f hf)) _ (fun h t => by pointwise) h t
theorem chunk5_apply (hf : ∀ h n, f (ix2 h n) ≠ ⊤) (h : Fin 32) (t : Fin 256) : chunk5 f (ix2 h t) = before f h (1280 + t.val + 1) :=
  onto_apply f hf 1280 (by omega) _ (carried f 1024 _ (chunk4_apply f hf)) _ (fun h t => by pointwise) h t
theorem chunk6_apply (hf : ∀ h n, f (ix2 h n) ≠ ⊤) (h : Fin 32) (t : Fin 256) : chunk6 f (ix2 h t) = before f h (1536 + t.val + 1) :=
  onto_apply f hf 1536 (by omega) _ (carried f 1280 _ (chunk5_apply f hf)) _ (fun h t => by pointwise) h t
theorem chunk7_apply (hf : ∀ h n, f (ix2 h n) ≠ ⊤) (h : Fin 32) (t : Fin 256) : chunk7 f (ix2 h t) = before f h (1792 + t.val + 1) :=
  onto_apply f hf 1792 (by omega) _ (carried f 1536 _ (chunk6_apply f hf)) _ (fun h t => by pointwise) h t
theorem chunk8_apply (hf : ∀ h n, f (ix2 h n) ≠ ⊤) (h : Fin 32) (t : Fin 256) : chunk8 f (ix2 h t) = before f h (2048 + t.val + 1) :=
  onto_apply f hf 2048 (by omega) _ (carried f 1792 _ (chunk7_apply f hf)) _ (fun h t => by pointwise) h t
theorem chunk9_apply (hf : ∀ h n, f (ix2 h n) ≠ ⊤) (h : Fin 32) (t : Fin 256) : chunk9 f (ix2 h t) = before f h (2304 + t.val + 1) :=
  onto_apply f hf 2304 (by omega) _ (carried f 2048 _ (chunk8_apply f hf)) _ (fun h t => by pointwise) h t
theorem chunk10_apply (hf : ∀ h n, f (ix2 h n) ≠ ⊤) (h : Fin 32) (t : Fin 256) : chunk10 f (ix2 h t) = before f h (2560 + t.val + 1) :=
  onto_apply f hf 2560 (by omega) _ (carried f 2304 _ (chunk9_apply f hf)) _ (fun h t => by pointwise) h t
theorem chunk11_apply (hf : ∀ h n, f (ix2 h n) ≠ ⊤) (h : Fin 32) (t : Fin 256) : chunk11 f (ix2 h t) = before f h (2816 + t.val + 1) :=
  onto_apply f hf 2816 (by omega) _ (carried f 2560 _ (chunk10_apply f hf)) _ (fun h t => by pointwise) h t
theorem chunk12_apply (hf : ∀ h n, f (ix2 h n) ≠ ⊤) (h : Fin 32) (t : Fin 256) : chunk12 f (ix2 h t) = before f h (3072 + t.val + 1) :=
  onto_apply f hf 3072 (by omega) _ (carried f 2816 _ (chunk11_apply f hf)) _ (fun h t => by pointwise) h t
theorem chunk13_apply (hf : ∀ h n, f (ix2 h n) ≠ ⊤) (h : Fin 32) (t : Fin 256) : chunk13 f (ix2 h t) = before f h (3328 + t.val + 1) :=
  onto_apply f hf 3328 (by omega) _ (carried f 3072 _ (chunk12_apply f hf)) _ (fun h t => by pointwise) h t
theorem chunk14_apply (hf : ∀ h n, f (ix2 h n) ≠ ⊤) (h : Fin 32) (t : Fin 256) : chunk14 f (ix2 h t) = before f h (3584 + t.val + 1) :=
  onto_apply f hf 3584 (by omega) _ (carried f 3328 _ (chunk13_apply f hf)) _ (fun h t => by pointwise) h t
theorem chunk15_apply (hf : ∀ h n, f (ix2 h n) ≠ ⊤) (h : Fin 32) (t : Fin 256) : chunk15 f (ix2 h t) = before f h (3840 + t.val + 1) :=
  onto_apply f hf 3840 (by omega) _ (carried f 3584 _ (chunk14_apply f hf)) _ (fun h t => by pointwise) h t

/-- The running sums at an entry of the block. -/
def runs (y : S1x32x4096.Idx) : EReal := before f ⟨(y 1).val, (y 1).isLt⟩ ((y 2).val + 1)

variable (x0 : Vec Ideal S1x32x4096 .f32) (x1 : Vec Ideal S32x1 .f32)

/-- The loads are the whole blocks. -/
theorem ld_block (x : Vec Ideal S1x32x4096 .f32) : View.ld x r0_0 = x :=
  View.ld_unit_zero (S := S1x32x4096) (off := ![0, 0, 0]) (by funext a; fin_cases a <;> rfl) _ x
theorem ld_bias (x : Vec Ideal S32x1 .f32) : View.ld x r0_1 = x :=
  View.ld_unit_zero (S := S32x1) (off := ![0, 0]) (by funext a; fin_cases a <;> rfl) _ x

theorem gate_ne_top (h : Fin 32) (n : Fin 4096) : k0_pay3 (F := Ideal) x0 x1 (ix2 h n) ≠ ⊤ := by
  rw [pay3]
  exact logSigmoid_ne_top _

/-- An index of a stored piece by its head and its column. -/
theorem piece_idx (i : S1x32x256.Idx) : i = ix3 (0 : Fin 1) (⟨(i 1).val, (i 1).isLt⟩ : Fin 32) (⟨(i 2).val, (i 2).isLt⟩ : Fin 256) := by
  funext a
  match a with
  | ⟨0, _⟩ => exact Subsingleton.elim (α := Fin 1) _ _
  | ⟨1, _⟩ => rfl
  | ⟨2, _⟩ => rfl

/-- Where an index of a stored piece lies in the block. -/
theorem at1 (o : ℕ) (inb) (i : S1x32x256.Idx) : ((Rect.unit (s := S1x32x4096) ![0, 0, o] S1x32x256.size inb).emb i 1).val = (i 1).val :=
  (ValueKit.rect_emb_unit_val (s := S1x32x4096) ![0, 0, o] S1x32x256.size inb i 1).trans (Nat.zero_add _)
theorem at2 (o : ℕ) (inb) (i : S1x32x256.Idx) : ((Rect.unit (s := S1x32x4096) ![0, 0, o] S1x32x256.size inb).emb i 2).val = o + (i 2).val :=
  ValueKit.rect_emb_unit_val (s := S1x32x4096) ![0, 0, o] S1x32x256.size inb i 2

/-- A chunk, re-laid as a stored piece, at an entry. -/
theorem store_runs (o : ℕ) (d : FVec Ideal S32x256 .f32) (hd : ∀ (h : Fin 32) (t : Fin 256), d (ix2 h t) = before f h (o + t.val + 1))
    (i : S1x32x256.Idx) (y : S1x32x4096.Idx) (y1 : (y 1).val = (i 1).val) (y2 : (y 2).val = o + (i 2).val) :
    shapeCast S1x32x256 d shapeCasts_S32x256_S1x32x256 i = runs f y := by
  have e : shapeCast S1x32x256 d shapeCasts_S32x256_S1x32x256 i
      = d (ix2 (⟨(i 1).val, (i 1).isLt⟩ : Fin 32) (⟨(i 2).val, (i 2).isLt⟩ : Fin 256)) := by
    rw [piece_idx i]
    pointwise
  rw [e, hd]
  unfold runs
  rw [y2]
  congr 1
  exact Fin.ext y1.symm

/-- What each store leaves. -/
theorem b_0 (i : S1x32x256.Idx) : (k0_pay6 (View.ld x0 r0_0) (View.ld x1 r0_1) : Vec Ideal S1x32x256 .f32) i
    = runs (k0_pay3 (F := Ideal) x0 x1) (r0_2.emb i) := by
  have e : (k0_pay6 (View.ld x0 r0_0) (View.ld x1 r0_1) : Vec Ideal S1x32x256 .f32)
      = shapeCast S1x32x256 (chunk0 (k0_pay3 (View.ld x0 r0_0) (View.ld x1 r0_1))) shapeCasts_S32x256_S1x32x256 := rfl
  rw [e]
  simp only [ld_block, ld_bias]
  exact store_runs _ 0 _ (chunk0_apply _ (gate_ne_top x0 x1)) i _ (at1 0 _ i) (at2 0 _ i)

theorem b_1 (i : S1x32x256.Idx) : (k0_pay10 (k0_pay58 x0 x1) (k0_pay59 x0 x1) (k0_pay60 x0 x1) : Vec Ideal S1x32x256 .f32) i
    = runs (k0_pay3 (F := Ideal) x0 x1) (r0_3.emb i) := by
  have e : (k0_pay10 (k0_pay58 x0 x1) (k0_pay59 x0 x1) (k0_pay60 x0 x1) : Vec Ideal S1x32x256 .f32)
      = shapeCast S1x32x256 (chunk1 (k0_pay3 (View.ld x0 r0_0) (View.ld x1 r0_1))) shapeCasts_S32x256_S1x32x256 := rfl
  rw [e]
  simp only [ld_block, ld_bias]
  exact store_runs _ 256 _ (chunk1_apply _ (gate_ne_top x0 x1)) i _ (at1 256 _ i) (at2 256 _ i)

theorem b_2 (i : S1x32x256.Idx) : (k0_pay12 (k0_pay57 x0 x1) (k0_pay58 x0 x1) (k0_pay59 x0 x1) (k0_pay60 x0 x1) : Vec Ideal S1x32x256 .f32) i
    = runs (k0_pay3 (F := Ideal) x0 x1) (r0_4.emb i) := by
  have e : (k0_pay12 (k0_pay57 x0 x1) (k0_pay58 x0 x1) (k0_pay59 x0 x1) (k0_pay60 x0 x1) : Vec Ideal S1x32x256 .f32)
      = shapeCast S1x32x256 (chunk2 (k0_pay3 (View.ld x0 r0_0) (View.ld x1 r0_1))) shapeCasts_S32x256_S1x32x256 := rfl
  rw [e]
  simp only [ld_block, ld_bias]
  exact store_runs _ 512 _ (chunk2_apply _ (gate_ne_top x0 x1)) i _ (at1 512 _ i) (at2 512 _ i)

theorem b_3 (i : S1x32x256.Idx) : (k0_pay20 (k0_pay58 x0 x1) (k0_pay62 x0 x1) (k0_pay63 x0 x1) (k0_pay64 x0 x1) (k0_pay65 x0 x1) (k0_pay61 x0 x1) : Vec Ideal S1x32x256 .f32) i
    = runs (k0_pay3 (F := Ideal) x0 x1) (r0_5.emb i) := by
  have e : (k0_pay20 (k0_pay58 x0 x1) (k0_pay62 x0 x1) (k0_pay63 x0 x1) (k0_pay64 x0 x1) (k0_pay65 x0 x1) (k0_pay61 x0 x1) : Vec Ideal S1x32x256 .f32)
      = shapeCast S1x32x256 (chunk3 (k0_pay3 (View.ld x0 r0_0) (View.ld x1 r0_1))) shapeCasts_S32x256_S1x32x256 := rfl
  rw [e]
  simp only [ld_block, ld_bias]
  exact store_runs _ 768 _ (chunk3_apply _ (gate_ne_top x0 x1)) i _ (at1 768 _ i) (at2 768 _ i)

theorem b_4 (i : S1x32x256.Idx) : (k0_pay22 (k0_pay57 x0 x1) (k0_pay58 x0 x1) (k0_pay62 x0 x1) (k0_pay63 x0 x1) (k0_pay64 x0 x1) (k0_pay65 x0 x1) (k0_pay61 x0 x1) : Vec Ideal S1x32x256 .f32) i
    = runs (k0_pay3 (F := Ideal) x0 x1) (r0_6.emb i) := by
  have e : (k0_pay22 (k0_pay57 x0 x1) (k0_pay58 x0 x1) (k0_pay62 x0 x1) (k0_pay63 x0 x1) (k0_pay64 x0 x1) (k0_pay65 x0 x1) (k0_pay61 x0 x1) : Vec Ideal S1x32x256 .f32)
      = shapeCast S1x32x256 (chunk4 (k0_pay3 (View.ld x0 r0_0) (View.ld x1 r0_1))) shapeCasts_S32x256_S1x32x256 := rfl
  rw [e]
  simp only [ld_block, ld_bias]
  exact store_runs _ 1024 _ (chunk4_apply _ (gate_ne_top x0 x1)) i _ (at1 1024 _ i) (at2 1024 _ i)

theorem b_5 (i : S1x32x256.Idx) : (k0_pay26 (k0_pay66 x0 x1) (k0_pay67 x0 x1) : Vec Ideal S1x32x256 .f32) i
    = runs (k0_pay3 (F := Ideal) x0 x1) (r0_7.emb i) := by
  have e : (k0_pay26 (k0_pay66 x0 x1) (k0_pay67 x0 x1) : Vec Ideal S1x32x256 .f32)
      = shapeCast S1x32x256 (chunk5 (k0_pay3 (View.ld x0 r0_0) (View.ld x1 r0_1))) shapeCasts_S32x256_S1x32x256 := rfl
  rw [e]
  simp only [ld_block, ld_bias]
  exact store_runs _ 1280 _ (chunk5_apply _ (gate_ne_top x0 x1)) i _ (at1 1280 _ i) (at2 1280 _ i)

theorem b_6 (i : S1x32x256.Idx) : (k0_pay28 (k0_pay57 x0 x1) (k0_pay58 x0 x1) (k0_pay66 x0 x1) (k0_pay67 x0 x1) : Vec Ideal S1x32x256 .f32) i
    = runs (k0_pay3 (F := Ideal) x0 x1) (r0_8.emb i) := by
  have e : (k0_pay28 (k0_pay57 x0 x1) (k0_pay58 x0 x1) (k0_pay66 x0 x1) (k0_pay67 x0 x1) : Vec Ideal S1x32x256 .f32)
      = shapeCast S1x32x256 (chunk6 (k0_pay3 (View.ld x0 r0_0) (View.ld x1 r0_1))) shapeCasts_S32x256_S1x32x256 := rfl
  rw [e]
  simp only [ld_block, ld_bias]
  exact store_runs _ 1536 _ (chunk6_apply _ (gate_ne_top x0 x1)) i _ (at1 1536 _ i) (at2 1536 _ i)

theorem b_7 (i : S1x32x256.Idx) : (k0_pay30 (k0_pay57 x0 x1) (k0_pay58 x0 x1) (k0_pay66 x0 x1) (k0_pay67 x0 x1) : Vec Ideal S1x32x256 .f32) i
    = runs (k0_pay3 (F := Ideal) x0 x1) (r0_9.emb i) := by
  have e : (k0_pay30 (k0_pay57 x0 x1) (k0_pay58 x0 x1) (k0_pay66 x0 x1) (k0_pay67 x0 x1) : Vec Ideal S1x32x256 .f32)
      = shapeCast S1x32x256 (chunk7 (k0_pay3 (View.ld x0 r0_0) (View.ld x1 r0_1))) shapeCasts_S32x256_S1x32x256 := rfl
  rw [e]
  simp only [ld_block, ld_bias]
  exact store_runs _ 1792 _ (chunk7_apply _ (gate_ne_top x0 x1)) i _ (at1 1792 _ i) (at2 1792 _ i)

theorem b_8 (i : S1x32x256.Idx) : (k0_pay32 (k0_pay57 x0 x1) (k0_pay58 x0 x1) (k0_pay68 x0 x1) : Vec Ideal S1x32x256 .f32) i
    = runs (k0_pay3 (F := Ideal) x0 x1) (r0_10.emb i) := by
  have e : (k0_pay32 (k0_pay57 x0 x1) (k0_pay58 x0 x1) (k0_pay68 x0 x1) : Vec Ideal S1x32x256 .f32)
      = shapeCast S1x32x256 (chunk8 (k0_pay3 (View.ld x0 r0_0) (View.ld x1 r0_1))) shapeCasts_S32x256_S1x32x256 := rfl
  rw [e]
  simp only [ld_block, ld_bias]
  exact store_runs _ 2048 _ (chunk8_apply _ (gate_ne_top x0 x1)) i _ (at1 2048 _ i) (at2 2048 _ i)

theorem b_9 (i : S1x32x256.Idx) : (k0_pay34 (k0_pay57 x0 x1) (k0_pay58 x0 x1) (k0_pay68 x0 x1) : Vec Ideal S1x32x256 .f32) i
    = runs (k0_pay3 (F := Ideal) x0 x1) (r0_11.emb i) := by
  have e : (k0_pay34 (k0_pay57 x0 x1) (k0_pay58 x0 x1) (k0_pay68 x0 x1) : Vec Ideal S1x32x256 .f32)
      = shapeCast S1x32x256 (chunk9 (k0_pay3 (View.ld x0 r0_0) (View.ld x1 r0_1))) shapeCasts_S32x256_S1x32x256 := rfl
  rw [e]
  simp only [ld_block, ld_bias]
  exact store_runs _ 2304 _ (chunk9_apply _ (gate_ne_top x0 x1)) i _ (at1 2304 _ i) (at2 2304 _ i)

theorem b_10 (i : S1x32x256.Idx) : (k0_pay42 (k0_pay58 x0 x1) (k0_pay69 x0 x1) (k0_pay70 x0 x1) (k0_pay71 x0 x1) (k0_pay72 x0 x1) : Vec Ideal S1x32x256 .f32) i
    = runs (k0_pay3 (F := Ideal) x0 x1) (r0_12.emb i) := by
  have e : (k0_pay42 (k0_pay58 x0 x1) (k0_pay69 x0 x1) (k0_pay70 x0 x1) (k0_pay71 x0 x1) (k0_pay72 x0 x1) : Vec Ideal S1x32x256 .f32)
      = shapeCast S1x32x256 (chunk10 (k0_pay3 (View.ld x0 r0_0) (View.ld x1 r0_1))) shapeCasts_S32x256_S1x32x256 := rfl
  rw [e]
  simp only [ld_block, ld_bias]
  exact store_runs _ 2560 _ (chunk10_apply _ (gate_ne_top x0 x1)) i _ (at1 2560 _ i) (at2 2560 _ i)

theorem b_11 (i : S1x32x256.Idx) : (k0_pay44 (k0_pay57 x0 x1) (k0_pay58 x0 x1) (k0_pay69 x0 x1) (k0_pay70 x0 x1) (k0_pay71 x0 x1) (k0_pay72 x0 x1) : Vec Ideal S1x32x256 .f32) i
    = runs (k0_pay3 (F := Ideal) x0 x1) (r0_13.emb i) := by
  have e : (k0_pay44 (k0_pay57 x0 x1) (k0_pay58 x0 x1) (k0_pay69 x0 x1) (k0_pay70 x0 x1) (k0_pay71 x0 x1) (k0_pay72 x0 x1) : Vec Ideal S1x32x256 .f32)
      = shapeCast S1x32x256 (chunk11 (k0_pay3 (View.ld x0 r0_0) (View.ld x1 r0_1))) shapeCasts_S32x256_S1x32x256 := rfl
  rw [e]
  simp only [ld_block, ld_bias]
  exact store_runs _ 2816 _ (chunk11_apply _ (gate_ne_top x0 x1)) i _ (at1 2816 _ i) (at2 2816 _ i)

theorem b_12 (i : S1x32x256.Idx) : (k0_pay53 (k0_pay73 x0 x1) (k0_pay74 x0 x1) (k0_pay75 x0 x1) : Vec Ideal S1x32x256 .f32) i
    = runs (k0_pay3 (F := Ideal) x0 x1) (r0_14.emb i) := by
  have e : (k0_pay53 (k0_pay73 x0 x1) (k0_pay74 x0 x1) (k0_pay75 x0 x1) : Vec Ideal S1x32x256 .f32)
      = shapeCast S1x32x256 (chunk12 (k0_pay3 (View.ld x0 r0_0) (View.ld x1 r0_1))) shapeCasts_S32x256_S1x32x256 := rfl
  rw [e]
  simp only [ld_block, ld_bias]
  exact store_runs _ 3072 _ (chunk12_apply _ (gate_ne_top x0 x1)) i _ (at1 3072 _ i) (at2 3072 _ i)

theorem b_13 (i : S1x32x256.Idx) : (k0_pay55 (k0_pay57 x0 x1) (k0_pay58 x0 x1) (k0_pay73 x0 x1) (k0_pay74 x0 x1) (k0_pay75 x0 x1) : Vec Ideal S1x32x256 .f32) i
    = runs (k0_pay3 (F := Ideal) x0 x1) (r0_15.emb i) := by
  have e : (k0_pay55 (k0_pay57 x0 x1) (k0_pay58 x0 x1) (k0_pay73 x0 x1) (k0_pay74 x0 x1) (k0_pay75 x0 x1) : Vec Ideal S1x32x256 .f32)
      = shapeCast S1x32x256 (chunk13 (k0_pay3 (View.ld x0 r0_0) (View.ld x1 r0_1))) shapeCasts_S32x256_S1x32x256 := rfl
  rw [e]
  simp only [ld_block, ld_bias]
  exact store_runs _ 3328 _ (chunk13_apply _ (gate_ne_top x0 x1)) i _ (at1 3328 _ i) (at2 3328 _ i)

theorem b_14 (i : S1x32x256.Idx) : (k0_pay1 (k0_pay76 x0 x1) : Vec Ideal S1x32x256 .f32) i
    = runs (k0_pay3 (F := Ideal) x0 x1) (r0_16.emb i) := by
  have e : (k0_pay1 (k0_pay76 x0 x1) : Vec Ideal S1x32x256 .f32)
      = shapeCast S1x32x256 (chunk14 (k0_pay3 (View.ld x0 r0_0) (View.ld x1 r0_1))) shapeCasts_S32x256_S1x32x256 := rfl
  rw [e]
  simp only [ld_block, ld_bias]
  exact store_runs _ 3584 _ (chunk14_apply _ (gate_ne_top x0 x1)) i _ (at1 3584 _ i) (at2 3584 _ i)

theorem b_15 (i : S1x32x256.Idx) : (k0_pay2 (k0_pay57 x0 x1) (k0_pay58 x0 x1) (k0_pay76 x0 x1) : Vec Ideal S1x32x256 .f32) i
    = runs (k0_pay3 (F := Ideal) x0 x1) (r0_17.emb i) := by
  have e : (k0_pay2 (k0_pay57 x0 x1) (k0_pay58 x0 x1) (k0_pay76 x0 x1) : Vec Ideal S1x32x256 .f32)
      = shapeCast S1x32x256 (chunk15 (k0_pay3 (View.ld x0 r0_0) (View.ld x1 r0_1))) shapeCasts_S32x256_S1x32x256 := rfl
  rw [e]
  simp only [ld_block, ld_bias]
  exact store_runs _ 3840 _ (chunk15_apply _ (gate_ne_top x0 x1)) i _ (at1 3840 _ i) (at2 3840 _ i)

/-- What a grid point leaves in its block. -/
theorem out2 (y : S1x32x4096.Idx) : out0_2 (F := Ideal) x0 x1 y = runs (k0_pay3 (F := Ideal) x0 x1) y := by
  unfold out0_2
  refine View.canon_apply_of_pieces (Val := Elt Ideal) (e := .f32) (runs (k0_pay3 (F := Ideal) x0 x1)) _ ?_ y (cover0_2 _ _ _ _ _ _ _ _ _ _ _ _ _ _ _ _ y)
  intro p hp
  rcases List.mem_cons.mp hp with rfl | hp
  · exact b_15 x0 x1
  rcases List.mem_cons.mp hp with rfl | hp
  · exact b_14 x0 x1
  rcases List.mem_cons.mp hp with rfl | hp
  · exact b_13 x0 x1
  rcases List.mem_cons.mp hp with rfl | hp
  · exact b_12 x0 x1
  rcases List.mem_cons.mp hp with rfl | hp
  · exact b_11 x0 x1
  rcases List.mem_cons.mp hp with rfl | hp
  · exact b_10 x0 x1
  rcases List.mem_cons.mp hp with rfl | hp
  · exact b_9 x0 x1
  rcases List.mem_cons.mp hp with rfl | hp
  · exact b_8 x0 x1
  rcases List.mem_cons.mp hp with rfl | hp
  · exact b_7 x0 x1
  rcases List.mem_cons.mp hp with rfl | hp
  · exact b_6 x0 x1
  rcases List.mem_cons.mp hp with rfl | hp
  · exact b_5 x0 x1
  rcases List.mem_cons.mp hp with rfl | hp
  · exact b_4 x0 x1
  rcases List.mem_cons.mp hp with rfl | hp
  · exact b_3 x0 x1
  rcases List.mem_cons.mp hp with rfl | hp
  · exact b_2 x0 x1
  rcases List.mem_cons.mp hp with rfl | hp
  · exact b_1 x0 x1
  rcases List.mem_cons.mp hp with rfl | hp
  · exact b_0 x0 x1
  nomatch hp

end Body

section Blocks

variable (m : (ℓ : Loc nD τ sig) → Buf (Elt Ideal) ℓ) (c : Dev nD) (p : Fin cfg0.N)

/-- The sequence that a grid point computes. -/
def seq : Fin 4 := ⟨p.val, p.isLt⟩

theorem x_block (h : Fin 32) (t : Fin 4096) : iblk (F := Ideal) m c 0 p (ix3 0 h t)
    = m ((c : Thread nD τ).loc main_arg0) (ix3 (seq p) t ⟨h.val, by omega⟩) := by
  obtain ⟨e, _⟩ := blocks p
  show V m c main_v1 (((cfg0.win 0).blk p).view.emb (ix3 0 h t)) = _
  rw [show ((cfg0.win 0).blk p).view.emb (ix3 (0 : Fin 1) h t) = ix3 (seq p) h t from by blk_ext [e, seq]]
  entry_read
  pointwise

theorem b_block (h : Fin 32) : iblk (F := Ideal) m c 1 p (ix2 h 0) = m ((c : Thread nD τ).loc main_arg1) (ix1 h) := by
  obtain ⟨_, e, _⟩ := blocks p
  show V m c main_v2 (((cfg0.win 1).blk p).view.emb (ix2 h 0)) = _
  rw [show ((cfg0.win 1).blk p).view.emb (ix2 h (0 : Fin 1)) = ix2 h (0 : Fin 1) from by blk_ext [e]]
  entry_read
  pointwise

end Blocks

section Reference

open Cert.FoxGatesReferenceIdeal.Read

variable (x : (⟨Cert.FoxGatesReferenceIdeal.S4x4096x128, .f32⟩ : BufTy).Contents (Elt Ideal))
  (w : (⟨Cert.FoxGatesReferenceIdeal.S32, .f32⟩ : BufTy).Contents (Elt Ideal)) (b : Fin 4) (h : Fin 32) (t : Fin 4096)

/-- The forget gate's preactivation. -/
theorem ref_pre : val_main_v3 (F := Ideal) x w (ix3 b t h) = x (ix3 b t ⟨h.val, by omega⟩) + w (ix1 h) := by
  pointwise [val_main_v3, val_main_v2, val_main_v1, val_main_v0]

/-- The forget gate's log-sigmoid. -/
theorem ref_gate : val_main_v4 (F := Ideal) x w (ix3 b t h) = logSigmoid (x (ix3 b t ⟨h.val, by omega⟩) + w (ix1 h)) := by
  have e : ∀ i, val_main_call0_v1 (F := Ideal) x w i = softplus (-val_main_v3 (F := Ideal) x w i) := by
    intro i
    have z : FloatOps.ofBits (F := Ideal) .f32 0x00000000#32 = 0 := Ideal.ofBits_zero_f32
    simp only [val_main_call0_v1_apply, val_main_call0_call0_v4_apply, val_main_call0_call0_v3_apply, val_main_call0_call0_v11_apply,
      val_main_call0_call0_v1_apply, val_main_call0_call0_v10_apply, val_main_call0_call0_v9_apply, val_main_call0_call0_v8_apply,
      val_main_call0_call0_v7_apply, val_main_call0_call0_v3_apply, val_main_call0_call0_v2_apply, val_main_call0_call0_v0_apply,
      val_main_call0_call0_cst_apply, val_main_call0_v0_apply, z]
    exact (select_self _ _ _).trans (softplus_ref (-val_main_v3 (F := Ideal) x w i))
  rw [← ref_pre, ← logSigmoid_ref, ← e]
  exact val_main_v4_apply x w _

/-- The running sum at a token. -/
theorem ref_sum : val_main_v6 (F := Ideal) x w (ix3 b h t)
    = ∑ s : Fin 4096, if s ≤ t then val_main_v4 (F := Ideal) x w (ix3 b s h) else 0 := by
  have e6 : val_main_v6 (F := Ideal) x w (ix3 b h t) = val_main_v5 (F := Ideal) x w (ix3 b t h) := by
    unfold val_main_v6
    generalize val_main_v5 (F := Ideal) x w = d
    pointwise
  rw [e6]
  unfold val_main_v5
  have h0 : ∀ i, val_main_call1_call0_v0 (F := Ideal) i = 0 := fun i => by
    rw [val_main_call1_call0_v0_apply, val_main_call1_call0_cst_apply]; exact Ideal.ofBits_zero_f32
  generalize val_main_v4 (F := Ideal) x w = d
  refine (host_running_sum (s := Cert.FoxGatesReferenceIdeal.S4x4096x32) (1 : Fin 3) ![1, 4096, 1] ![1, 1, 1] ![0, 4095, 0] ![0, 0, 0]
    rfl (by decide) (by decide) rfl (by decide) _ _ d _ h0 (ix3 b t h)).trans ?_
  refine Finset.sum_congr rfl fun k _ => ?_
  have e : Function.update (ix3 b t h) (1 : Fin 3) k = ix3 b k h := by
    funext a
    fin_cases a <;> rfl
  rw [e]
  rfl

end Reference

/-- The array that the kernel leaves is the reference's. -/
theorem array_value (m : (ℓ : Loc nD τ sig) → Buf (Elt Ideal) ℓ) (c : Dev nD) : (dats m 0 c).arrAt 2 cfg0.N
      = Cert.FoxGatesReferenceIdeal.Read.val_main_v6 (F := Ideal) (m ((c : Thread nD τ).loc main_arg0)) (m ((c : Thread nD τ).loc main_arg1)) := by
  refine (dats m 0 c).arrAt_eq_of_covers 2 _ covered fun t hf y => ?_
  blk_simp
  rw [after0_2]
  have key : ∀ y : S1x32x4096.Idx, out0_2 (F := Ideal) (iblk m c 0 t) (iblk m c 1 t) y
      = Cert.FoxGatesReferenceIdeal.Read.val_main_v6 (F := Ideal) (m ((c : Thread nD τ).loc main_arg0)) (m ((c : Thread nD τ).loc main_arg1)) ((win0_2.blk t).view.emb y) := by
    intro y
    obtain ⟨_, _, e⟩ := blocks t
    have hb : (win0_2.blk t).view.emb y = ix3 (seq t) (⟨(y 1).val, (y 1).isLt⟩ : Fin 32) (⟨(y 2).val, (y 2).isLt⟩ : Fin 4096) := by
      have hy : (y 0).val < 1 := (y 0).isLt
      blk_ext [e, seq]
    rw [out2, hb, ref_sum]
    unfold runs before
    refine Finset.sum_congr rfl fun s _ => ?_
    have e1 : (s.val < (y 2).val + 1) = (s ≤ (⟨(y 2).val, (y 2).isLt⟩ : Fin 4096)) := propext Nat.lt_succ_iff
    simp only [e1, pay3, x_block, b_block, ref_gate]
  exact key y

/-- The reference runs, leaves its arguments alone and every counter at zero. -/
theorem frame_ref : Cert.quiescent_FoxGatesReferenceIdeal := fun m g _ =>
  (θ_run Cert.FoxGatesReferenceIdeal.defs _ _).mono
    (fun r h => ⟨fun c => (h c).2, sem_eq_zero_of_no_sems (by decide) r.2⟩)
    (Cert.FoxGatesReferenceIdeal.Value.run (F := Ideal) m g)

/-- Both programs run, from equal arguments, to equal results with their arguments unchanged. -/
theorem algebraic : Cert.algebraic_FoxGatesIdeal_FoxGatesReferenceIdeal := by
  intro m g m' g' _ hag
  refine ⟨fun c => (dats m 0 c).arrAt 2 cfg0.N, Cert.FoxGatesIdeal.Value.run_blocks m g, ?_⟩
  refine (θ_run Cert.FoxGatesReferenceIdeal.defs _ _).mono (fun r h c => ⟨?_, (h c).2⟩) (Cert.FoxGatesReferenceIdeal.Value.run (F := Ideal) m' g')
  refine (h c).1.trans ?_
  rw [Cert.FoxGatesReferenceIdeal.Read.val_main_v6_eq, (hag c).1, (hag c).2]
  exact (array_value m c).symm

end Cert.FoxGatesValue
-- ==== Proof.MlstmGatesValue.lean ====
/- The mLSTM's gates over the extended reals: the arrays that the kernel leaves are, per head and token, the running sum of the forget
   gates' log-sigmoid within each 512 tokens, which the kernel takes as three products with a triangle of ones, and the input gate less it. -/
module

public import proofs.«01_k».proof.Defs
public import proofs.«01_k».proof.Proof.GatesMath
public import proofs.«01_k».proof.Proof.Gen.MlstmGatesIdeal.Frame
public import proofs.«01_k».proof.Proof.Gen.MlstmGatesReferenceIdeal.Run
public import proofs.«01_k».proof.Proof.Gen.MlstmGatesReferenceIdeal.Read
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384
noncomputable section

namespace Cert.MlstmGatesValue

open Cert.MlstmGatesIdeal Cert.MlstmGatesIdeal.Gen Idealize.ShloMosaic Idealize.ShloMosaic.TcCoe Idealize.SL.Sem
open Cert.GatesMath

/-- The block that each window takes at a grid point: the sequence moves with the point, the biases stay. -/
theorem blocks : ∀ t : Fin cfg0.N,
    win0_0.index t = ![t.val, 0, 0] ∧ win0_1.index t = ![t.val, 0, 0] ∧ win0_2.index t = ![0, 0] ∧ win0_3.index t = ![0, 0]
      ∧ win0_4.index t = ![t.val, 0, 0] ∧ win0_5.index t = ![t.val, 0, 0] :=
  (by decide +kernel : ∀ t : Fin grid0.N, _)

/-- Every result lies in the block of some grid point. -/
theorem covered4 : (cfg0.win 4).Covers := by
  decide +kernel
theorem covered5 : (cfg0.win 5).Covers := by
  decide +kernel

section Body

/-- The input gate's preactivation as the body computes it. -/
theorem pay2 (v : Vec Ideal S1x8x4096 .f32) (b : Vec Ideal S8x1 .f32) (h : Fin 8) (t : Fin 4096) :
    k0_pay2 (F := Ideal) v b (ix2 h t) = v (ix3 0 h t) + b (ix2 h 0) := by
  pointwise [k0_pay2]
/-- The forget gate's log-sigmoid as the body computes it. -/
theorem pay3 (v : Vec Ideal S1x8x4096 .f32) (b : Vec Ideal S8x1 .f32) (h : Fin 8) (t : Fin 4096) :
    k0_pay3 (F := Ideal) v b (ix2 h t) = logSigmoid (v (ix3 0 h t) + b (ix2 h 0)) := by
  pointwise [k0_pay3]
  rfl
/-- The triangle of ones. -/
theorem pay4 (k t : Fin 512) : k0_pay4 (F := Ideal) (ix2 k t) = if k ≤ t then 1 else 0 := by
  pointwise [k0_pay4]
  exact triangle (by omega) k t

/-- The body's product of 512 columns with the triangle, in three parts: the columns, what rounding leaves of them, and what rounding
    leaves of that. -/
def sums (y : FVec Ideal S8x512 .f32) : FVec Ideal S8x512 .f32 :=
  addf (addf
      (matmul dot_S8x512_S512x512_S8x512_1_0_0_1_n_n none (truncf .bf16 y bitsLt_bf16_f32) (k0_pay4 (F := Ideal)) (constant S8x512 .f32 0x00000000#32))
      (matmul dot_S8x512_S512x512_S8x512_1_0_0_1_n_n none (truncf .bf16 (subf y (extf .f32 (truncf .bf16 y bitsLt_bf16_f32) bitsLt_bf16_f32)) bitsLt_bf16_f32)
        (k0_pay4 (F := Ideal)) (constant S8x512 .f32 0x00000000#32)))
    (matmul dot_S8x512_S512x512_S8x512_1_0_0_1_n_n none
      (truncf .bf16 (subf (subf y (extf .f32 (truncf .bf16 y bitsLt_bf16_f32) bitsLt_bf16_f32))
        (extf .f32 (truncf .bf16 (subf y (extf .f32 (truncf .bf16 y bitsLt_bf16_f32) bitsLt_bf16_f32)) bitsLt_bf16_f32) bitsLt_bf16_f32)) bitsLt_bf16_f32)
      (k0_pay4 (F := Ideal)) (constant S8x512 .f32 0x00000000#32))

/-- Of columns that are nowhere `⊤` the product is the running sum. -/
theorem sums_apply (y : FVec Ideal S8x512 .f32) (h : Fin 8) (hy : ∀ k, y (ix2 h k) ≠ ⊤) (t : Fin 512) :
    sums y (ix2 h t) = ∑ k : Fin 512, if k ≤ t then y (ix2 h k) else 0 := by
  rw [← split_prefix (fun k => y (ix2 h k)) hy (fun k => k0_pay4 (F := Ideal) (ix2 k t)) t fun k => pay4 k t]
  unfold sums
  generalize k0_pay4 (F := Ideal) = d
  pointwise

/-- The running sum within each 512 columns, at an entry of the block. -/
def runs (f : FVec Ideal S8x4096 .f32) (y : S1x8x4096.Idx) : EReal :=
  ∑ k : Fin 512, if k.val ≤ (y 2).val % 512 then
    f (ix2 ⟨(y 1).val, (y 1).isLt⟩ ⟨(y 2).val / 512 * 512 + k.val, by have h : (y 2).val < 4096 := (y 2).isLt; omega⟩) else 0

/-- A stored piece holds the running sums of its columns. -/
theorem run_piece (f : FVec Ideal S8x4096 .f32) (hf : ∀ h n, f (ix2 h n) ≠ ⊤) (o : ℕ) (ho : o + 512 ≤ 4096) (h512 : o % 512 = 0)
    (z : FVec Ideal S8x512 .f32) (hz : ∀ (h : Fin 8) (t : Fin 512), z (ix2 h t) = f (ix2 h ⟨o + t.val, by omega⟩))
    (h : Fin 8) (t : Fin 512) (y : S1x8x4096.Idx) (y1 : (y 1).val = h.val) (y2 : (y 2).val = o + t.val) :
    sums z (ix2 h t) = runs f y := by
  rw [sums_apply z h (fun k => by rw [hz]; exact hf _ _) t]
  unfold runs
  have ht := t.isLt
  refine Finset.sum_congr rfl fun k _ => ?_
  have e1 : (k ≤ t) = (k.val ≤ (y 2).val % 512) := by
    rw [Fin.le_def, show (y 2).val % 512 = t.val from by omega]
  simp only [e1]
  split_ifs
  · rw [hz]
    congr 2
    · exact Fin.ext y1.symm
    · apply Fin.ext
      show o + k.val = (y 2).val / 512 * 512 + k.val
      omega
  · rfl

variable (x0 x1 : Vec Ideal S1x8x4096 .f32) (x2 x3 : Vec Ideal S8x1 .f32)

/-- The loads are the whole blocks. -/
theorem ld_block (x : Vec Ideal S1x8x4096 .f32) : View.ld x r0_0 = x :=
  View.ld_unit_zero (S := S1x8x4096) (off := ![0, 0, 0]) (by funext a; fin_cases a <;> rfl) _ x
theorem ld_bias (x : Vec Ideal S8x1 .f32) : View.ld x r0_1 = x :=
  View.ld_unit_zero (S := S8x1) (off := ![0, 0]) (by funext a; fin_cases a <;> rfl) _ x

theorem gate_ne_top (h : Fin 8) (n : Fin 4096) : k0_pay3 (F := Ideal) x1 x3 (ix2 h n) ≠ ⊤ := by
  rw [pay3]
  exact logSigmoid_ne_top _

/-- An index of a stored piece by its head and its column. -/
theorem piece_idx (i : S1x8x512.Idx) : i = ix3 (0 : Fin 1) (⟨(i 1).val, (i 1).isLt⟩ : Fin 8) (⟨(i 2).val, (i 2).isLt⟩ : Fin 512) := by
  funext a
  match a with
  | ⟨0, _⟩ => exact Subsingleton.elim (α := Fin 1) _ _
  | ⟨1, _⟩ => rfl
  | ⟨2, _⟩ => rfl

/-- Where an index of a stored piece lies in the block. -/
theorem at1 (o : ℕ) (inb) (i : S1x8x512.Idx) : ((Rect.unit (s := S1x8x4096) ![0, 0, o] S1x8x512.size inb).emb i 1).val = (i 1).val :=
  (ValueKit.rect_emb_unit_val (s := S1x8x4096) ![0, 0, o] S1x8x512.size inb i 1).trans (Nat.zero_add _)
theorem at2 (o : ℕ) (inb) (i : S1x8x512.Idx) : ((Rect.unit (s := S1x8x4096) ![0, 0, o] S1x8x512.size inb).emb i 2).val = o + (i 2).val :=
  ValueKit.rect_emb_unit_val (s := S1x8x4096) ![0, 0, o] S1x8x512.size inb i 2

/-- The running sums, re-laid as a stored piece, at an entry. -/
theorem store_runs (o : ℕ) (ho : o + 512 ≤ 4096) (h512 : o % 512 = 0) (z : FVec Ideal S8x512 .f32)
    (hz : ∀ (h : Fin 8) (t : Fin 512), z (ix2 h t) = k0_pay3 (F := Ideal) x1 x3 (ix2 h ⟨o + t.val, by omega⟩))
    (i : S1x8x512.Idx) (y : S1x8x4096.Idx) (y1 : (y 1).val = (i 1).val) (y2 : (y 2).val = o + (i 2).val) :
    shapeCast S1x8x512 (sums z) shapeCasts_S8x512_S1x8x512 i = runs (k0_pay3 (F := Ideal) x1 x3) y := by
  rw [← run_piece _ (gate_ne_top x1 x3) o ho h512 z hz ⟨(i 1).val, (i 1).isLt⟩ ⟨(i 2).val, (i 2).isLt⟩ y y1 y2]
  generalize sums z = d
  rw [piece_idx i]
  pointwise

/-- The input gate less the running sums, re-laid as a stored piece, at an entry. -/
theorem store_diff (o : ℕ) (ho : o + 512 ≤ 4096) (h512 : o % 512 = 0) (w z : FVec Ideal S8x512 .f32)
    (hw : ∀ (h : Fin 8) (t : Fin 512), w (ix2 h t) = k0_pay2 (F := Ideal) x0 x2 (ix2 h ⟨o + t.val, by omega⟩))
    (hz : ∀ (h : Fin 8) (t : Fin 512), z (ix2 h t) = k0_pay3 (F := Ideal) x1 x3 (ix2 h ⟨o + t.val, by omega⟩))
    (i : S1x8x512.Idx) (y : S1x8x4096.Idx) (y1 : (y 1).val = (i 1).val) (y2 : (y 2).val = o + (i 2).val) :
    shapeCast S1x8x512 (subf w (sums z)) shapeCasts_S8x512_S1x8x512 i
      = k0_pay2 (F := Ideal) x0 x2 (ix2 ⟨(y 1).val, (y 1).isLt⟩ ⟨(y 2).val, (y 2).isLt⟩) - runs (k0_pay3 (F := Ideal) x1 x3) y := by
  rw [← run_piece _ (gate_ne_top x1 x3) o ho h512 z hz ⟨(i 1).val, (i 1).isLt⟩ ⟨(i 2).val, (i 2).isLt⟩ y y1 y2]
  have e : k0_pay2 (F := Ideal) x0 x2 (ix2 (⟨(y 1).val, (y 1).isLt⟩ : Fin 8) (⟨(y 2).val, (y 2).isLt⟩ : Fin 4096))
      = w (ix2 (⟨(i 1).val, (i 1).isLt⟩ : Fin 8) (⟨(i 2).val, (i 2).isLt⟩ : Fin 512)) := by
    rw [hw]
    congr 2
    · exact Fin.ext y1
    · exact Fin.ext y2
  rw [e]
  generalize sums z = d
  rw [piece_idx i]
  pointwise

/-- What each store leaves of the running sums. -/
theorem b_0 (i : S1x8x512.Idx) : (k0_pay6 (k0_pay49 x0 x1 x2 x3) : Vec Ideal S1x8x512 .f32) i
    = runs (k0_pay3 (F := Ideal) x1 x3) (r0_2.emb i) := by
  have e : (k0_pay6 (k0_pay49 x0 x1 x2 x3) : Vec Ideal S1x8x512 .f32)
      = shapeCast S1x8x512 (sums (extractStridedSlice S8x512 ![0, 0] (k0_pay3 (View.ld x1 r0_0) (View.ld x3 r0_1)) slices_S8x4096_o0_0_S8x512)) shapeCasts_S8x512_S1x8x512 := rfl
  rw [e]
  simp only [ld_block, ld_bias]
  exact store_runs x1 x3 0 (by omega) (by omega) _ (fun h t => by pointwise) i _ (at1 0 _ i) (at2 0 _ i)

theorem b_1 (i : S1x8x512.Idx) : (k0_pay9 (k0_pay47 x0 x1 x2 x3) (k0_pay48 x0 x1 x2 x3) : Vec Ideal S1x8x512 .f32) i
    = runs (k0_pay3 (F := Ideal) x1 x3) (r0_3.emb i) := by
  have e : (k0_pay9 (k0_pay47 x0 x1 x2 x3) (k0_pay48 x0 x1 x2 x3) : Vec Ideal S1x8x512 .f32)
      = shapeCast S1x8x512 (sums (extractStridedSlice S8x512 ![0, 512] (k0_pay3 (View.ld x1 r0_0) (View.ld x3 r0_1)) slices_S8x4096_o0_512_S8x512)) shapeCasts_S8x512_S1x8x512 := rfl
  rw [e]
  simp only [ld_block, ld_bias]
  exact store_runs x1 x3 512 (by omega) (by omega) _ (fun h t => by pointwise) i _ (at1 512 _ i) (at2 512 _ i)

theorem b_2 (i : S1x8x512.Idx) : (k0_pay18 (k0_pay48 x0 x1 x2 x3) (k0_pay51 x0 x1 x2 x3) (k0_pay52 x0 x1 x2 x3) (k0_pay50 x0 x1 x2 x3) : Vec Ideal S1x8x512 .f32) i
    = runs (k0_pay3 (F := Ideal) x1 x3) (r0_4.emb i) := by
  have e : (k0_pay18 (k0_pay48 x0 x1 x2 x3) (k0_pay51 x0 x1 x2 x3) (k0_pay52 x0 x1 x2 x3) (k0_pay50 x0 x1 x2 x3) : Vec Ideal S1x8x512 .f32)
      = shapeCast S1x8x512 (sums (extractStridedSlice S8x512 ![0, 1024] (k0_pay3 (View.ld x1 r0_0) (View.ld x3 r0_1)) slices_S8x4096_o0_1024_S8x512)) shapeCasts_S8x512_S1x8x512 := rfl
  rw [e]
  simp only [ld_block, ld_bias]
  exact store_runs x1 x3 1024 (by omega) (by omega) _ (fun h t => by pointwise) i _ (at1 1024 _ i) (at2 1024 _ i)

theorem b_3 (i : S1x8x512.Idx) : (k0_pay21 (k0_pay47 x0 x1 x2 x3) (k0_pay48 x0 x1 x2 x3) : Vec Ideal S1x8x512 .f32) i
    = runs (k0_pay3 (F := Ideal) x1 x3) (r0_5.emb i) := by
  have e : (k0_pay21 (k0_pay47 x0 x1 x2 x3) (k0_pay48 x0 x1 x2 x3) : Vec Ideal S1x8x512 .f32)
      = shapeCast S1x8x512 (sums (extractStridedSlice S8x512 ![0, 1536] (k0_pay3 (View.ld x1 r0_0) (View.ld x3 r0_1)) slices_S8x4096_o0_1536_S8x512)) shapeCasts_S8x512_S1x8x512 := rfl
  rw [e]
  simp only [ld_block, ld_bias]
  exact store_runs x1 x3 1536 (by omega) (by omega) _ (fun h t => by pointwise) i _ (at1 1536 _ i) (at2 1536 _ i)

theorem b_4 (i : S1x8x512.Idx) : (k0_pay30 (k0_pay48 x0 x1 x2 x3) (k0_pay53 x0 x1 x2 x3) (k0_pay54 x0 x1 x2 x3) (k0_pay55 x0 x1 x2 x3) : Vec Ideal S1x8x512 .f32) i
    = runs (k0_pay3 (F := Ideal) x1 x3) (r0_6.emb i) := by
  have e : (k0_pay30 (k0_pay48 x0 x1 x2 x3) (k0_pay53 x0 x1 x2 x3) (k0_pay54 x0 x1 x2 x3) (k0_pay55 x0 x1 x2 x3) : Vec Ideal S1x8x512 .f32)
      = shapeCast S1x8x512 (sums (extractStridedSlice S8x512 ![0, 2048] (k0_pay3 (View.ld x1 r0_0) (View.ld x3 r0_1)) slices_S8x4096_o0_2048_S8x512)) shapeCasts_S8x512_S1x8x512 := rfl
  rw [e]
  simp only [ld_block, ld_bias]
  exact store_runs x1 x3 2048 (by omega) (by omega) _ (fun h t => by pointwise) i _ (at1 2048 _ i) (at2 2048 _ i)

theorem b_5 (i : S1x8x512.Idx) : (k0_pay33 (k0_pay47 x0 x1 x2 x3) (k0_pay48 x0 x1 x2 x3) : Vec Ideal S1x8x512 .f32) i
    = runs (k0_pay3 (F := Ideal) x1 x3) (r0_7.emb i) := by
  have e : (k0_pay33 (k0_pay47 x0 x1 x2 x3) (k0_pay48 x0 x1 x2 x3) : Vec Ideal S1x8x512 .f32)
      = shapeCast S1x8x512 (sums (extractStridedSlice S8x512 ![0, 2560] (k0_pay3 (View.ld x1 r0_0) (View.ld x3 r0_1)) slices_S8x4096_o0_2560_S8x512)) shapeCasts_S8x512_S1x8x512 := rfl
  rw [e]
  simp only [ld_block, ld_bias]
  exact store_runs x1 x3 2560 (by omega) (by omega) _ (fun h t => by pointwise) i _ (at1 2560 _ i) (at2 2560 _ i)

theorem b_6 (i : S1x8x512.Idx) : (k0_pay41 (k0_pay48 x0 x1 x2 x3) (k0_pay56 x0 x1 x2 x3) (k0_pay57 x0 x1 x2 x3) (k0_pay58 x0 x1 x2 x3) (k0_pay59 x0 x1 x2 x3) : Vec Ideal S1x8x512 .f32) i
    = runs (k0_pay3 (F := Ideal) x1 x3) (r0_8.emb i) := by
  have e : (k0_pay41 (k0_pay48 x0 x1 x2 x3) (k0_pay56 x0 x1 x2 x3) (k0_pay57 x0 x1 x2 x3) (k0_pay58 x0 x1 x2 x3) (k0_pay59 x0 x1 x2 x3) : Vec Ideal S1x8x512 .f32)
      = shapeCast S1x8x512 (sums (extractStridedSlice S8x512 ![0, 3072] (k0_pay3 (View.ld x1 r0_0) (View.ld x3 r0_1)) slices_S8x4096_o0_3072_S8x512)) shapeCasts_S8x512_S1x8x512 := rfl
  rw [e]
  simp only [ld_block, ld_bias]
  exact store_runs x1 x3 3072 (by omega) (by omega) _ (fun h t => by pointwise) i _ (at1 3072 _ i) (at2 3072 _ i)

theorem b_7 (i : S1x8x512.Idx) : (k0_pay44 (k0_pay47 x0 x1 x2 x3) (k0_pay48 x0 x1 x2 x3) : Vec Ideal S1x8x512 .f32) i
    = runs (k0_pay3 (F := Ideal) x1 x3) (r0_9.emb i) := by
  have e : (k0_pay44 (k0_pay47 x0 x1 x2 x3) (k0_pay48 x0 x1 x2 x3) : Vec Ideal S1x8x512 .f32)
      = shapeCast S1x8x512 (sums (extractStridedSlice S8x512 ![0, 3584] (k0_pay3 (View.ld x1 r0_0) (View.ld x3 r0_1)) slices_S8x4096_o0_3584_S8x512)) shapeCasts_S8x512_S1x8x512 := rfl
  rw [e]
  simp only [ld_block, ld_bias]
  exact store_runs x1 x3 3584 (by omega) (by omega) _ (fun h t => by pointwise) i _ (at1 3584 _ i) (at2 3584 _ i)

/-- What each store leaves of the input gate less the running sums. -/
theorem a_0 (i : S1x8x512.Idx) : (k0_pay7 (k0_pay46 x0 x1 x2 x3) (k0_pay49 x0 x1 x2 x3) : Vec Ideal S1x8x512 .f32) i
    = k0_pay2 (F := Ideal) x0 x2 (ix2 ⟨(r0_2.emb i 1).val, (r0_2.emb i 1).isLt⟩ ⟨(r0_2.emb i 2).val, (r0_2.emb i 2).isLt⟩) - runs (k0_pay3 (F := Ideal) x1 x3) (r0_2.emb i) := by
  have e : (k0_pay7 (k0_pay46 x0 x1 x2 x3) (k0_pay49 x0 x1 x2 x3) : Vec Ideal S1x8x512 .f32)
      = shapeCast S1x8x512 (subf (extractStridedSlice S8x512 ![0, 0] (k0_pay2 (View.ld x0 r0_0) (View.ld x2 r0_1)) slices_S8x4096_o0_0_S8x512) (sums (extractStridedSlice S8x512 ![0, 0] (k0_pay3 (View.ld x1 r0_0) (View.ld x3 r0_1)) slices_S8x4096_o0_0_S8x512))) shapeCasts_S8x512_S1x8x512 := rfl
  rw [e]
  simp only [ld_block, ld_bias]
  exact store_diff x0 x1 x2 x3 0 (by omega) (by omega) _ _ (fun h t => by pointwise) (fun h t => by pointwise) i _ (at1 0 _ i) (at2 0 _ i)

theorem a_1 (i : S1x8x512.Idx) : (k0_pay10 (k0_pay46 x0 x1 x2 x3) (k0_pay47 x0 x1 x2 x3) (k0_pay48 x0 x1 x2 x3) : Vec Ideal S1x8x512 .f32) i
    = k0_pay2 (F := Ideal) x0 x2 (ix2 ⟨(r0_3.emb i 1).val, (r0_3.emb i 1).isLt⟩ ⟨(r0_3.emb i 2).val, (r0_3.emb i 2).isLt⟩) - runs (k0_pay3 (F := Ideal) x1 x3) (r0_3.emb i) := by
  have e : (k0_pay10 (k0_pay46 x0 x1 x2 x3) (k0_pay47 x0 x1 x2 x3) (k0_pay48 x0 x1 x2 x3) : Vec Ideal S1x8x512 .f32)
      = shapeCast S1x8x512 (subf (extractStridedSlice S8x512 ![0, 512] (k0_pay2 (View.ld x0 r0_0) (View.ld x2 r0_1)) slices_S8x4096_o0_512_S8x512) (sums (extractStridedSlice S8x512 ![0, 512] (k0_pay3 (View.ld x1 r0_0) (View.ld x3 r0_1)) slices_S8x4096_o0_512_S8x512))) shapeCasts_S8x512_S1x8x512 := rfl
  rw [e]
  simp only [ld_block, ld_bias]
  exact store_diff x0 x1 x2 x3 512 (by omega) (by omega) _ _ (fun h t => by pointwise) (fun h t => by pointwise) i _ (at1 512 _ i) (at2 512 _ i)

theorem a_2 (i : S1x8x512.Idx) : (k0_pay19 (k0_pay46 x0 x1 x2 x3) (k0_pay48 x0 x1 x2 x3) (k0_pay51 x0 x1 x2 x3) (k0_pay52 x0 x1 x2 x3) (k0_pay50 x0 x1 x2 x3) : Vec Ideal S1x8x512 .f32) i
    = k0_pay2 (F := Ideal) x0 x2 (ix2 ⟨(r0_4.emb i 1).val, (r0_4.emb i 1).isLt⟩ ⟨(r0_4.emb i 2).val, (r0_4.emb i 2).isLt⟩) - runs (k0_pay3 (F := Ideal) x1 x3) (r0_4.emb i) := by
  have e : (k0_pay19 (k0_pay46 x0 x1 x2 x3) (k0_pay48 x0 x1 x2 x3) (k0_pay51 x0 x1 x2 x3) (k0_pay52 x0 x1 x2 x3) (k0_pay50 x0 x1 x2 x3) : Vec Ideal S1x8x512 .f32)
      = shapeCast S1x8x512 (subf (extractStridedSlice S8x512 ![0, 1024] (k0_pay2 (View.ld x0 r0_0) (View.ld x2 r0_1)) slices_S8x4096_o0_1024_S8x512) (sums (extractStridedSlice S8x512 ![0, 1024] (k0_pay3 (View.ld x1 r0_0) (View.ld x3 r0_1)) slices_S8x4096_o0_1024_S8x512))) shapeCasts_S8x512_S1x8x512 := rfl
  rw [e]
  simp only [ld_block, ld_bias]
  exact store_diff x0 x1 x2 x3 1024 (by omega) (by omega) _ _ (fun h t => by pointwise) (fun h t => by pointwise) i _ (at1 1024 _ i) (at2 1024 _ i)

theorem a_3 (i : S1x8x512.Idx) : (k0_pay22 (k0_pay46 x0 x1 x2 x3) (k0_pay47 x0 x1 x2 x3) (k0_pay48 x0 x1 x2 x3) : Vec Ideal S1x8x512 .f32) i
    = k0_pay2 (F := Ideal) x0 x2 (ix2 ⟨(r0_5.emb i 1).val, (r0_5.emb i 1).isLt⟩ ⟨(r0_5.emb i 2).val, (r0_5.emb i 2).isLt⟩) - runs (k0_pay3 (F := Ideal) x1 x3) (r0_5.emb i) := by
  have e : (k0_pay22 (k0_pay46 x0 x1 x2 x3) (k0_pay47 x0 x1 x2 x3) (k0_pay48 x0 x1 x2 x3) : Vec Ideal S1x8x512 .f32)
      = shapeCast S1x8x512 (subf (extractStridedSlice S8x512 ![0, 1536] (k0_pay2 (View.ld x0 r0_0) (View.ld x2 r0_1)) slices_S8x4096_o0_1536_S8x512) (sums (extractStridedSlice S8x512 ![0, 1536] (k0_pay3 (View.ld x1 r0_0) (View.ld x3 r0_1)) slices_S8x4096_o0_1536_S8x512))) shapeCasts_S8x512_S1x8x512 := rfl
  rw [e]
  simp only [ld_block, ld_bias]
  exact store_diff x0 x1 x2 x3 1536 (by omega) (by omega) _ _ (fun h t => by pointwise) (fun h t => by pointwise) i _ (at1 1536 _ i) (at2 1536 _ i)

theorem a_4 (i : S1x8x512.Idx) : (k0_pay31 (k0_pay46 x0 x1 x2 x3) (k0_pay48 x0 x1 x2 x3) (k0_pay53 x0 x1 x2 x3) (k0_pay54 x0 x1 x2 x3) (k0_pay55 x0 x1 x2 x3) : Vec Ideal S1x8x512 .f32) i
    = k0_pay2 (F := Ideal) x0 x2 (ix2 ⟨(r0_6.emb i 1).val, (r0_6.emb i 1).isLt⟩ ⟨(r0_6.emb i 2).val, (r0_6.emb i 2).isLt⟩) - runs (k0_pay3 (F := Ideal) x1 x3) (r0_6.emb i) := by
  have e : (k0_pay31 (k0_pay46 x0 x1 x2 x3) (k0_pay48 x0 x1 x2 x3) (k0_pay53 x0 x1 x2 x3) (k0_pay54 x0 x1 x2 x3) (k0_pay55 x0 x1 x2 x3) : Vec Ideal S1x8x512 .f32)
      = shapeCast S1x8x512 (subf (extractStridedSlice S8x512 ![0, 2048] (k0_pay2 (View.ld x0 r0_0) (View.ld x2 r0_1)) slices_S8x4096_o0_2048_S8x512) (sums (extractStridedSlice S8x512 ![0, 2048] (k0_pay3 (View.ld x1 r0_0) (View.ld x3 r0_1)) slices_S8x4096_o0_2048_S8x512))) shapeCasts_S8x512_S1x8x512 := rfl
  rw [e]
  simp only [ld_block, ld_bias]
  exact store_diff x0 x1 x2 x3 2048 (by omega) (by omega) _ _ (fun h t => by pointwise) (fun h t => by pointwise) i _ (at1 2048 _ i) (at2 2048 _ i)

theorem a_5 (i : S1x8x512.Idx) : (k0_pay34 (k0_pay46 x0 x1 x2 x3) (k0_pay47 x0 x1 x2 x3) (k0_pay48 x0 x1 x2 x3) : Vec Ideal S1x8x512 .f32) i
    = k0_pay2 (F := Ideal) x0 x2 (ix2 ⟨(r0_7.emb i 1).val, (r0_7.emb i 1).isLt⟩ ⟨(r0_7.emb i 2).val, (r0_7.emb i 2).isLt⟩) - runs (k0_pay3 (F := Ideal) x1 x3) (r0_7.emb i) := by
  have e : (k0_pay34 (k0_pay46 x0 x1 x2 x3) (k0_pay47 x0 x1 x2 x3) (k0_pay48 x0 x1 x2 x3) : Vec Ideal S1x8x512 .f32)
      = shapeCast S1x8x512 (subf (extractStridedSlice S8x512 ![0, 2560] (k0_pay2 (View.ld x0 r0_0) (View.ld x2 r0_1)) slices_S8x4096_o0_2560_S8x512) (sums (extractStridedSlice S8x512 ![0, 2560] (k0_pay3 (View.ld x1 r0_0) (View.ld x3 r0_1)) slices_S8x4096_o0_2560_S8x512))) shapeCasts_S8x512_S1x8x512 := rfl
  rw [e]
  simp only [ld_block, ld_bias]
  exact store_diff x0 x1 x2 x3 2560 (by omega) (by omega) _ _ (fun h t => by pointwise) (fun h t => by pointwise) i _ (at1 2560 _ i) (at2 2560 _ i)

theorem a_6 (i : S1x8x512.Idx) : (k0_pay42 (k0_pay46 x0 x1 x2 x3) (k0_pay48 x0 x1 x2 x3) (k0_pay56 x0 x1 x2 x3) (k0_pay57 x0 x1 x2 x3) (k0_pay58 x0 x1 x2 x3) (k0_pay59 x0 x1 x2 x3) : Vec Ideal S1x8x512 .f32) i
    = k0_pay2 (F := Ideal) x0 x2 (ix2 ⟨(r0_8.emb i 1).val, (r0_8.emb i 1).isLt⟩ ⟨(r0_8.emb i 2).val, (r0_8.emb i 2).isLt⟩) - runs (k0_pay3 (F := Ideal) x1 x3) (r0_8.emb i) := by
  have e : (k0_pay42 (k0_pay46 x0 x1 x2 x3) (k0_pay48 x0 x1 x2 x3) (k0_pay56 x0 x1 x2 x3) (k0_pay57 x0 x1 x2 x3) (k0_pay58 x0 x1 x2 x3) (k0_pay59 x0 x1 x2 x3) : Vec Ideal S1x8x512 .f32)
      = shapeCast S1x8x512 (subf (extractStridedSlice S8x512 ![0, 3072] (k0_pay2 (View.ld x0 r0_0) (View.ld x2 r0_1)) slices_S8x4096_o0_3072_S8x512) (sums (extractStridedSlice S8x512 ![0, 3072] (k0_pay3 (View.ld x1 r0_0) (View.ld x3 r0_1)) slices_S8x4096_o0_3072_S8x512))) shapeCasts_S8x512_S1x8x512 := rfl
  rw [e]
  simp only [ld_block, ld_bias]
  exact store_diff x0 x1 x2 x3 3072 (by omega) (by omega) _ _ (fun h t => by pointwise) (fun h t => by pointwise) i _ (at1 3072 _ i) (at2 3072 _ i)

theorem a_7 (i : S1x8x512.Idx) : (k0_pay1 (k0_pay45 (k0_pay46 x0 x1 x2 x3) (k0_pay47 x0 x1 x2 x3) (k0_pay48 x0 x1 x2 x3)) : Vec Ideal S1x8x512 .f32) i
    = k0_pay2 (F := Ideal) x0 x2 (ix2 ⟨(r0_9.emb i 1).val, (r0_9.emb i 1).isLt⟩ ⟨(r0_9.emb i 2).val, (r0_9.emb i 2).isLt⟩) - runs (k0_pay3 (F := Ideal) x1 x3) (r0_9.emb i) := by
  have e : (k0_pay1 (k0_pay45 (k0_pay46 x0 x1 x2 x3) (k0_pay47 x0 x1 x2 x3) (k0_pay48 x0 x1 x2 x3)) : Vec Ideal S1x8x512 .f32)
      = shapeCast S1x8x512 (subf (extractStridedSlice S8x512 ![0, 3584] (k0_pay2 (View.ld x0 r0_0) (View.ld x2 r0_1)) slices_S8x4096_o0_3584_S8x512) (sums (extractStridedSlice S8x512 ![0, 3584] (k0_pay3 (View.ld x1 r0_0) (View.ld x3 r0_1)) slices_S8x4096_o0_3584_S8x512))) shapeCasts_S8x512_S1x8x512 := rfl
  rw [e]
  simp only [ld_block, ld_bias]
  exact store_diff x0 x1 x2 x3 3584 (by omega) (by omega) _ _ (fun h t => by pointwise) (fun h t => by pointwise) i _ (at1 3584 _ i) (at2 3584 _ i)

/-- What a grid point leaves in its block of running sums. -/
theorem out5 (y : S1x8x4096.Idx) : out0_5 (F := Ideal) x0 x1 x2 x3 y = runs (k0_pay3 (F := Ideal) x1 x3) y := by
  unfold out0_5
  refine View.canon_apply_of_pieces (Val := Elt Ideal) (e := .f32) (runs (k0_pay3 (F := Ideal) x1 x3)) _ ?_ y (cover0_5 _ _ _ _ _ _ _ _ y)
  intro p hp
  rcases List.mem_cons.mp hp with rfl | hp
  · exact b_7 x0 x1 x2 x3
  rcases List.mem_cons.mp hp with rfl | hp
  · exact b_6 x0 x1 x2 x3
  rcases List.mem_cons.mp hp with rfl | hp
  · exact b_5 x0 x1 x2 x3
  rcases List.mem_cons.mp hp with rfl | hp
  · exact b_4 x0 x1 x2 x3
  rcases List.mem_cons.mp hp with rfl | hp
  · exact b_3 x0 x1 x2 x3
  rcases List.mem_cons.mp hp with rfl | hp
  · exact b_2 x0 x1 x2 x3
  rcases List.mem_cons.mp hp with rfl | hp
  · exact b_1 x0 x1 x2 x3
  rcases List.mem_cons.mp hp with rfl | hp
  · exact b_0 x0 x1 x2 x3
  nomatch hp

/-- What a grid point leaves in its other block. -/
theorem out4 (y : S1x8x4096.Idx) : out0_4 (F := Ideal) x0 x1 x2 x3 y
    = k0_pay2 (F := Ideal) x0 x2 (ix2 ⟨(y 1).val, (y 1).isLt⟩ ⟨(y 2).val, (y 2).isLt⟩) - runs (k0_pay3 (F := Ideal) x1 x3) y := by
  unfold out0_4
  refine View.canon_apply_of_pieces (Val := Elt Ideal) (e := .f32) (fun y => k0_pay2 (F := Ideal) x0 x2 (ix2 ⟨(y 1).val, (y 1).isLt⟩ ⟨(y 2).val, (y 2).isLt⟩)
    - runs (k0_pay3 (F := Ideal) x1 x3) y) _ ?_ y (cover0_4 _ _ _ _ _ _ _ _ y)
  intro p hp
  rcases List.mem_cons.mp hp with rfl | hp
  · exact a_7 x0 x1 x2 x3
  rcases List.mem_cons.mp hp with rfl | hp
  · exact a_6 x0 x1 x2 x3
  rcases List.mem_cons.mp hp with rfl | hp
  · exact a_5 x0 x1 x2 x3
  rcases List.mem_cons.mp hp with rfl | hp
  · exact a_4 x0 x1 x2 x3
  rcases List.mem_cons.mp hp with rfl | hp
  · exact a_3 x0 x1 x2 x3
  rcases List.mem_cons.mp hp with rfl | hp
  · exact a_2 x0 x1 x2 x3
  rcases List.mem_cons.mp hp with rfl | hp
  · exact a_1 x0 x1 x2 x3
  rcases List.mem_cons.mp hp with rfl | hp
  · exact a_0 x0 x1 x2 x3
  nomatch hp

end Body

section Blocks

variable (m : (ℓ : Loc nD τ sig) → Buf (Elt Ideal) ℓ) (c : Dev nD) (p : Fin cfg0.N)

/-- The sequence that a grid point computes. -/
def seq : Fin 4 := ⟨p.val, p.isLt⟩

theorem i_block (h : Fin 8) (t : Fin 4096) : iblk (F := Ideal) m c 0 p (ix3 0 h t)
    = m ((c : Thread nD τ).loc main_arg0) (ix3 (seq p) t ⟨h.val, by omega⟩) := by
  obtain ⟨e, _⟩ := blocks p
  show V m c main_v1 (((cfg0.win 0).blk p).view.emb (ix3 0 h t)) = _
  rw [show ((cfg0.win 0).blk p).view.emb (ix3 (0 : Fin 1) h t) = ix3 (seq p) h t from by blk_ext [e, seq]]
  entry_read
  pointwise

theorem f_block (h : Fin 8) (t : Fin 4096) : iblk (F := Ideal) m c 1 p (ix3 0 h t)
    = m ((c : Thread nD τ).loc main_arg0) (ix3 (seq p) t ⟨8 + h.val, by omega⟩) := by
  obtain ⟨_, e, _⟩ := blocks p
  show V m c main_v3 (((cfg0.win 1).blk p).view.emb (ix3 0 h t)) = _
  rw [show ((cfg0.win 1).blk p).view.emb (ix3 (0 : Fin 1) h t) = ix3 (seq p) h t from by blk_ext [e, seq]]
  entry_read
  pointwise

theorem ib_block (h : Fin 8) : iblk (F := Ideal) m c 2 p (ix2 h 0) = m ((c : Thread nD τ).loc main_arg1) (ix1 h) := by
  obtain ⟨_, _, e, _⟩ := blocks p
  show V m c main_v4 (((cfg0.win 2).blk p).view.emb (ix2 h 0)) = _
  rw [show ((cfg0.win 2).blk p).view.emb (ix2 h (0 : Fin 1)) = ix2 h (0 : Fin 1) from by blk_ext [e]]
  entry_read
  pointwise

theorem fb_block (h : Fin 8) : iblk (F := Ideal) m c 3 p (ix2 h 0) = m ((c : Thread nD τ).loc main_arg2) (ix1 h) := by
  obtain ⟨_, _, _, e, _⟩ := blocks p
  show V m c main_v5 (((cfg0.win 3).blk p).view.emb (ix2 h 0)) = _
  rw [show ((cfg0.win 3).blk p).view.emb (ix2 h (0 : Fin 1)) = ix2 h (0 : Fin 1) from by blk_ext [e]]
  entry_read
  pointwise

end Blocks

section Reference

open Cert.MlstmGatesReferenceIdeal.Read

variable (x : (⟨Cert.MlstmGatesReferenceIdeal.S4x4096x128, .f32⟩ : BufTy).Contents (Elt Ideal))
  (w1 w : (⟨Cert.MlstmGatesReferenceIdeal.S8, .f32⟩ : BufTy).Contents (Elt Ideal)) (b : Fin 4) (h : Fin 8) (t : Fin 4096)

/-- The forget gate's preactivation. -/
theorem ref_pre : val_main_v7 (F := Ideal) x w (ix3 b t h) = x (ix3 b t ⟨8 + h.val, by omega⟩) + w (ix1 h) := by
  pointwise [val_main_v7, val_main_v6, val_main_v5, val_main_v4]

/-- The forget gate's log-sigmoid. -/
theorem ref_gate : val_main_v8 (F := Ideal) x w (ix3 b t h) = logSigmoid (x (ix3 b t ⟨8 + h.val, by omega⟩) + w (ix1 h)) := by
  have e : ∀ i, val_main_call0_v1 (F := Ideal) x w i = softplus (-val_main_v7 (F := Ideal) x w i) := by
    intro i
    have z : FloatOps.ofBits (F := Ideal) .f32 0x00000000#32 = 0 := Ideal.ofBits_zero_f32
    simp only [val_main_call0_v1_apply, val_main_call0_call0_v4_apply, val_main_call0_call0_v3_apply, val_main_call0_call0_v11_apply,
      val_main_call0_call0_v1_apply, val_main_call0_call0_v10_apply, val_main_call0_call0_v9_apply, val_main_call0_call0_v8_apply,
      val_main_call0_call0_v7_apply, val_main_call0_call0_v3_apply, val_main_call0_call0_v2_apply, val_main_call0_call0_v0_apply,
      val_main_call0_call0_cst_apply, val_main_call0_v0_apply, z]
    exact (select_self _ _ _).trans (softplus_ref (-val_main_v7 (F := Ideal) x w i))
  rw [← ref_pre, ← logSigmoid_ref, ← e]
  exact val_main_v8_apply x w _

/-- The running sum within 512 tokens. -/
theorem ref_sum (q : Fin 8) (r : Fin 512) : val_main_v10 (F := Ideal) x w (ix4 b q r h)
    = ∑ k : Fin 512, if k ≤ r then val_main_v8 (F := Ideal) x w (ix3 b ⟨q.val * 512 + k.val, by omega⟩ h) else 0 := by
  unfold val_main_v10
  have h0 : ∀ i, val_main_call1_call0_v0 (F := Ideal) i = 0 := fun i => by
    rw [val_main_call1_call0_v0_apply, val_main_call1_call0_cst_apply]; exact Ideal.ofBits_zero_f32
  have h9 : ∀ k : Fin 512, val_main_v9 (F := Ideal) x w (ix4 b q k h) = val_main_v8 (F := Ideal) x w (ix3 b ⟨q.val * 512 + k.val, by omega⟩ h) := by
    intro k
    unfold val_main_v9
    generalize val_main_v8 (F := Ideal) x w = d
    pointwise
  generalize val_main_v9 (F := Ideal) x w = d at h9 ⊢
  simp only [← h9]
  show Ideal.hostReduceWindowAdd ![1, 1, 512, 1] ![1, 1, 1, 1] ![0, 0, 511, 0] ![0, 0, 0, 0]
    Cert.MlstmGatesReferenceIdeal.Gen.reduceWindows_S4x8x512x8_S4x8x512x8_w1s1p0_0_w1s1p0_0_w512s1p511_0_w1s1p0_0 d
    (val_main_call1_call0_v0 (F := Ideal) _) (ix4 b q r h) = _
  rw [h0]
  refine (running_sum (s := Cert.MlstmGatesReferenceIdeal.S4x8x512x8) (2 : Fin 4) ![1, 1, 512, 1] ![1, 1, 1, 1] ![0, 0, 511, 0] ![0, 0, 0, 0]
    rfl (by decide) (by decide) rfl (by decide) _ d (ix4 b q r h)).trans ?_
  refine Finset.sum_congr rfl fun k _ => ?_
  have e : Function.update (ix4 b q r h) (2 : Fin 4) k = ix4 b q k h := by
    funext a
    fin_cases a <;> rfl
  rw [e]
  rfl

/-- The running sum at a token. -/
theorem ref_b : val_main_v14 (F := Ideal) x w (ix3 b h t)
    = ∑ k : Fin 512, if k.val ≤ t.val % 512 then val_main_v8 (F := Ideal) x w (ix3 b ⟨t.val / 512 * 512 + k.val, by omega⟩ h) else 0 := by
  refine Eq.trans ?_ (ref_sum x w b h ⟨t.val / 512, by omega⟩ ⟨t.val % 512, by omega⟩)
  unfold val_main_v14 val_main_v11
  generalize val_main_v10 (F := Ideal) x w = d
  pointwise

/-- The input gate less the running sum at a token. -/
theorem ref_a : val_main_v13 (F := Ideal) x w1 w (ix3 b h t)
    = x (ix3 b t ⟨h.val, by omega⟩) + w1 (ix1 h) - val_main_v14 (F := Ideal) x w (ix3 b h t) := by
  unfold val_main_v13 val_main_v12 val_main_v14
  generalize val_main_v11 (F := Ideal) x w = d
  pointwise [val_main_v3, val_main_v2, val_main_v1, val_main_v0]

end Reference

section Value

variable (m : (ℓ : Loc nD τ sig) → Buf (Elt Ideal) ℓ) (c : Dev nD) (p : Fin cfg0.N)

/-- The running sum that a grid point leaves is the reference's. -/
theorem block_b (y : S1x8x4096.Idx) :
    runs (k0_pay3 (F := Ideal) (iblk m c 1 p) (iblk m c 3 p)) y
      = Cert.MlstmGatesReferenceIdeal.Read.val_main_v14 (F := Ideal) (m ((c : Thread nD τ).loc main_arg0)) (m ((c : Thread nD τ).loc main_arg2))
          (ix3 (seq p) ⟨(y 1).val, (y 1).isLt⟩ ⟨(y 2).val, (y 2).isLt⟩) := by
  rw [ref_b]
  unfold runs
  refine Finset.sum_congr rfl fun k _ => ?_
  simp only [pay3, f_block, fb_block, ref_gate]

/-- The arrays that the kernel leaves are the reference's. -/
theorem array_b : (dats m 0 c).arrAt 5 cfg0.N
      = Cert.MlstmGatesReferenceIdeal.Read.val_main_v14 (F := Ideal) (m ((c : Thread nD τ).loc main_arg0)) (m ((c : Thread nD τ).loc main_arg2)) := by
  refine (dats m 0 c).arrAt_eq_of_covers 5 _ covered5 fun t hf y => ?_
  blk_simp
  rw [after0_5]
  have key : ∀ y : S1x8x4096.Idx, out0_5 (F := Ideal) (iblk m c 0 t) (iblk m c 1 t) (iblk m c 2 t) (iblk m c 3 t) y
      = Cert.MlstmGatesReferenceIdeal.Read.val_main_v14 (F := Ideal) (m ((c : Thread nD τ).loc main_arg0)) (m ((c : Thread nD τ).loc main_arg2))
          ((win0_5.blk t).view.emb y) := by
    intro y
    obtain ⟨_, _, _, _, _, e⟩ := blocks t
    rw [out5, block_b]
    congr 1
    have hy : (y 0).val < 1 := (y 0).isLt
    blk_ext [e, seq]
  exact key y

theorem array_a : (dats m 0 c).arrAt 4 cfg0.N
      = Cert.MlstmGatesReferenceIdeal.Read.val_main_v13 (F := Ideal) (m ((c : Thread nD τ).loc main_arg0)) (m ((c : Thread nD τ).loc main_arg1))
          (m ((c : Thread nD τ).loc main_arg2)) := by
  refine (dats m 0 c).arrAt_eq_of_covers 4 _ covered4 fun t hf y => ?_
  blk_simp
  rw [after0_4]
  have key : ∀ y : S1x8x4096.Idx, out0_4 (F := Ideal) (iblk m c 0 t) (iblk m c 1 t) (iblk m c 2 t) (iblk m c 3 t) y
      = Cert.MlstmGatesReferenceIdeal.Read.val_main_v13 (F := Ideal) (m ((c : Thread nD τ).loc main_arg0)) (m ((c : Thread nD τ).loc main_arg1))
          (m ((c : Thread nD τ).loc main_arg2)) ((win0_4.blk t).view.emb y) := by
    intro y
    obtain ⟨_, _, _, _, e, _⟩ := blocks t
    have hb : (win0_4.blk t).view.emb y = ix3 (seq t) (⟨(y 1).val, (y 1).isLt⟩ : Fin 8) (⟨(y 2).val, (y 2).isLt⟩ : Fin 4096) := by
      have hy : (y 0).val < 1 := (y 0).isLt
      blk_ext [e, seq]
    rw [out4, hb, ref_a, block_b, pay2, i_block, ib_block]
  exact key y

end Value

section Run

variable (m : (ℓ : Loc nD τ sig) → Buf (Elt Ideal) ℓ) (ρ : Dev nD → PrngReg)

/-- After a run an argument that no window takes is as launched. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The kernel runs, leaves its results in the arrays of its last windows, and its arguments alone. -/
theorem runs_to : θ_run defs (onTc (τ := τ) (main (F := Ideal))) ⟨m, fun _ => 0, ρ⟩ fun r => ∀ c : Dev nD,
      r.2.mem ((c : Thread nD τ).loc main_v6_0) = (dats m 0 c).arrAt 4 cfg0.N
      ∧ r.2.mem ((c : Thread nD τ).loc main_v6_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4, (h c).1 5, kept0 m r h c, kept1 m r h c, kept2 m r h c⟩) (run_main m ρ)

end Run

/-- The reference runs, leaves its arguments alone and every counter at zero. -/
theorem frame_ref : Cert.quiescent_MlstmGatesReferenceIdeal := fun m g _ =>
  (θ_run Cert.MlstmGatesReferenceIdeal.defs _ _).mono
    (fun r h => ⟨fun c => (h c).2.2, sem_eq_zero_of_no_sems (by decide) r.2⟩)
    (Cert.MlstmGatesReferenceIdeal.Value.run (F := Ideal) m g)

/-- Both programs run, from equal arguments, to equal results with their arguments unchanged. -/
theorem algebraic : Cert.algebraic_MlstmGatesIdeal_MlstmGatesReferenceIdeal := by
  intro m g m' g' _ hag
  refine ⟨fun c => (dats m 0 c).arrAt 4 cfg0.N, fun c => (dats m 0 c).arrAt 5 cfg0.N, runs_to m g, ?_⟩
  refine (θ_run Cert.MlstmGatesReferenceIdeal.defs _ _).mono (fun r h c => ⟨?_, ?_, (h c).2.2⟩) (Cert.MlstmGatesReferenceIdeal.Value.run (F := Ideal) m' g')
  · refine (h c).1.trans ?_
    rw [Cert.MlstmGatesReferenceIdeal.Read.val_main_v13_eq, (hag c).1, (hag c).2.1, (hag c).2.2]
    exact (array_a m c).symm
  · refine (h c).2.1.trans ?_
    rw [Cert.MlstmGatesReferenceIdeal.Read.val_main_v14_eq, (hag c).1, (hag c).2.2]
    exact (array_b m c).symm

end Cert.MlstmGatesValue
-- ==== Proof.SsdGatesValue.lean ====
/- The SSD's gates over the extended reals: the arrays that the kernel leaves are, per head and token, the step size and the running sum of
   the step size times the decay within each 128 tokens, which the kernel takes as three products with a triangle of ones. -/
module

public import proofs.«01_k».proof.Defs
public import proofs.«01_k».proof.Proof.GatesMath
public import proofs.«01_k».proof.Proof.Gen.SsdGatesIdeal.Value
public import proofs.«01_k».proof.Proof.Gen.SsdGatesReferenceIdeal.Run
public import proofs.«01_k».proof.Proof.Gen.SsdGatesReferenceIdeal.Read
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384
noncomputable section

namespace Cert.SsdGatesValue

open Cert.SsdGatesIdeal Cert.SsdGatesIdeal.Gen Idealize.ShloMosaic Idealize.ShloMosaic.TcCoe Idealize.SL.Sem
open Cert.GatesMath

/-- The block that each window takes at a grid point: the sequence moves with the point, the bias and the decay stay. -/
theorem blocks : ∀ t : Fin cfg0.N,
    win0_0.index t = ![t.val, 0, 0] ∧ win0_1.index t = ![0, 0] ∧ win0_2.index t = ![0, 0]
      ∧ win0_3.index t = ![t.val, 0, 0] ∧ win0_4.index t = ![t.val, 0, 0] :=
  (by decide +kernel : ∀ t : Fin grid0.N, _)

/-- Every result lies in the block of some grid point. -/
theorem covered3 : (cfg0.win 3).Covers := by
  decide +kernel
theorem covered4 : (cfg0.win 4).Covers := by
  decide +kernel

section Body

/-- The step size as the body computes it. -/
theorem pay2 (v : Vec Ideal S1x64x4096 .f32) (b : Vec Ideal S64x1 .f32) (h : Fin 64) (t : Fin 4096) :
    k0_pay2 (F := Ideal) v b (ix2 h t) = softplus (v (ix3 0 h t) + b (ix2 h 0)) := by
  pointwise [k0_pay2]
  rfl
/-- The step size times the decay as the body computes it. -/
theorem pay3 (v : Vec Ideal S1x64x4096 .f32) (b a : Vec Ideal S64x1 .f32) (h : Fin 64) (t : Fin 4096) :
    k0_pay3 (F := Ideal) v b a (ix2 h t) = softplus (v (ix3 0 h t) + b (ix2 h 0)) * -Ideal.exp (a (ix2 h 0)) := by
  rw [← pay2]
  unfold k0_pay3
  generalize k0_pay2 (F := Ideal) v b = d
  pointwise
  rw [zero_sub]
/-- The triangle of ones. -/
theorem pay5 (k t : Fin 128) : k0_pay5 (F := Ideal) (ix2 k t) = if k ≤ t then 1 else 0 := by
  pointwise [k0_pay5]
  exact triangle (by omega) k t

/-- The body's product of 128 columns with the triangle, in three parts: the columns, what rounding leaves of them, and what rounding
    leaves of that. -/
def sums (y : FVec Ideal S64x128 .f32) : FVec Ideal S64x128 .f32 :=
  addf (addf
      (matmul dot_S64x128_S128x128_S64x128_1_0_0_1_n_n none (truncf .bf16 y bitsLt_bf16_f32) (k0_pay5 (F := Ideal)) (constant S64x128 .f32 0x00000000#32))
      (matmul dot_S64x128_S128x128_S64x128_1_0_0_1_n_n none (truncf .bf16 (subf y (extf .f32 (truncf .bf16 y bitsLt_bf16_f32) bitsLt_bf16_f32)) bitsLt_bf16_f32)
        (k0_pay5 (F := Ideal)) (constant S64x128 .f32 0x00000000#32)))
    (matmul dot_S64x128_S128x128_S64x128_1_0_0_1_n_n none
      (truncf .bf16 (subf (subf y (extf .f32 (truncf .bf16 y bitsLt_bf16_f32) bitsLt_bf16_f32))
        (extf .f32 (truncf .bf16 (subf y (extf .f32 (truncf .bf16 y bitsLt_bf16_f32) bitsLt_bf16_f32)) bitsLt_bf16_f32) bitsLt_bf16_f32)) bitsLt_bf16_f32)
      (k0_pay5 (F := Ideal)) (constant S64x128 .f32 0x00000000#32))

/-- Of columns that are nowhere `⊤` the product is the running sum. -/
theorem sums_apply (y : FVec Ideal S64x128 .f32) (h : Fin 64) (hy : ∀ k, y (ix2 h k) ≠ ⊤) (t : Fin 128) :
    sums y (ix2 h t) = ∑ k : Fin 128, if k ≤ t then y (ix2 h k) else 0 := by
  rw [← split_prefix (fun k => y (ix2 h k)) hy (fun k => k0_pay5 (F := Ideal) (ix2 k t)) t fun k => pay5 k t]
  unfold sums
  generalize k0_pay5 (F := Ideal) = d
  pointwise

/-- The running sum within each 128 columns, at an entry of the block. -/
def runs (f : FVec Ideal S64x4096 .f32) (y : S1x64x4096.Idx) : EReal :=
  ∑ k : Fin 128, if k.val ≤ (y 2).val % 128 then
    f (ix2 ⟨(y 1).val, (y 1).isLt⟩ ⟨(y 2).val / 128 * 128 + k.val, by have h : (y 2).val < 4096 := (y 2).isLt; omega⟩) else 0

/-- A stored piece holds the running sums of its columns. -/
theorem run_piece (f : FVec Ideal S64x4096 .f32) (hf : ∀ h n, f (ix2 h n) ≠ ⊤) (o : ℕ) (ho : o + 128 ≤ 4096) (h128 : o % 128 = 0)
    (z : FVec Ideal S64x128 .f32) (hz : ∀ (h : Fin 64) (t : Fin 128), z (ix2 h t) = f (ix2 h ⟨o + t.val, by omega⟩))
    (h : Fin 64) (t : Fin 128) (y : S1x64x4096.Idx) (y1 : (y 1).val = h.val) (y2 : (y 2).val = o + t.val) :
    sums z (ix2 h t) = runs f y := by
  rw [sums_apply z h (fun k => by rw [hz]; exact hf _ _) t]
  unfold runs
  have ht := t.isLt
  refine Finset.sum_congr rfl fun k _ => ?_
  have e1 : (k ≤ t) = (k.val ≤ (y 2).val % 128) := by
    rw [Fin.le_def, show (y 2).val % 128 = t.val from by omega]
  simp only [e1]
  split_ifs
  · rw [hz]
    congr 2
    · exact Fin.ext y1.symm
    · apply Fin.ext
      show o + k.val = (y 2).val / 128 * 128 + k.val
      omega
  · rfl

variable (x0 : Vec Ideal S1x64x4096 .f32) (x1 x2 : Vec Ideal S64x1 .f32)

/-- The loads are the whole blocks. -/
theorem ld_block (x : Vec Ideal S1x64x4096 .f32) : View.ld x r0_0 = x :=
  View.ld_unit_zero (S := S1x64x4096) (off := ![0, 0, 0]) (by funext a; fin_cases a <;> rfl) _ x
theorem ld_bias (x : Vec Ideal S64x1 .f32) : View.ld x r0_1 = x :=
  View.ld_unit_zero (S := S64x1) (off := ![0, 0]) (by funext a; fin_cases a <;> rfl) _ x

theorem gate_ne_top (h : Fin 64) (n : Fin 4096) : k0_pay3 (F := Ideal) x0 x1 x2 (ix2 h n) ≠ ⊤ := by
  rw [pay3]
  exact decay_ne_top _ _

/-- An index of a stored piece by its head and its column. -/
theorem piece_idx (i : S1x64x128.Idx) : i = ix3 (0 : Fin 1) (⟨(i 1).val, (i 1).isLt⟩ : Fin 64) (⟨(i 2).val, (i 2).isLt⟩ : Fin 128) := by
  funext a
  match a with
  | ⟨0, _⟩ => exact Subsingleton.elim (α := Fin 1) _ _
  | ⟨1, _⟩ => rfl
  | ⟨2, _⟩ => rfl

/-- Where an index of a stored piece lies in the block. -/
theorem at1 (o : ℕ) (inb) (i : S1x64x128.Idx) : ((Rect.unit (s := S1x64x4096) ![0, 0, o] S1x64x128.size inb).emb i 1).val = (i 1).val :=
  (ValueKit.rect_emb_unit_val (s := S1x64x4096) ![0, 0, o] S1x64x128.size inb i 1).trans (Nat.zero_add _)
theorem at2 (o : ℕ) (inb) (i : S1x64x128.Idx) : ((Rect.unit (s := S1x64x4096) ![0, 0, o] S1x64x128.size inb).emb i 2).val = o + (i 2).val :=
  ValueKit.rect_emb_unit_val (s := S1x64x4096) ![0, 0, o] S1x64x128.size inb i 2

/-- The running sums, re-laid as a stored piece, at an entry. -/
theorem store_runs (o : ℕ) (ho : o + 128 ≤ 4096) (h128 : o % 128 = 0) (z : FVec Ideal S64x128 .f32)
    (hz : ∀ (h : Fin 64) (t : Fin 128), z (ix2 h t) = k0_pay3 (F := Ideal) x0 x1 x2 (ix2 h ⟨o + t.val, by omega⟩))
    (i : S1x64x128.Idx) (y : S1x64x4096.Idx) (y1 : (y 1).val = (i 1).val) (y2 : (y 2).val = o + (i 2).val) :
    shapeCast S1x64x128 (sums z) shapeCasts_S64x128_S1x64x128 i = runs (k0_pay3 (F := Ideal) x0 x1 x2) y := by
  rw [← run_piece _ (gate_ne_top x0 x1 x2) o ho h128 z hz ⟨(i 1).val, (i 1).isLt⟩ ⟨(i 2).val, (i 2).isLt⟩ y y1 y2]
  generalize sums z = d
  rw [piece_idx i]
  pointwise

/-- What each store leaves of the running sums. -/
theorem b_0 (i : S1x64x128.Idx) : (k0_pay13 (k0_pay80 x0 x1 x2) (k0_pay10 (View.ld x0 r0_0) (View.ld x1 r0_1) (View.ld x2 r0_1)) (k0_pay11 (View.ld x0 r0_0) (View.ld x1 r0_1) (View.ld x2 r0_1)) (k0_pay12 (View.ld x0 r0_0) (View.ld x1 r0_1) (View.ld x2 r0_1)) : Vec Ideal S1x64x128 .f32) i
    = runs (k0_pay3 (F := Ideal) x0 x1 x2) (r0_2.emb i) := by
  have e : (k0_pay13 (k0_pay80 x0 x1 x2) (k0_pay10 (View.ld x0 r0_0) (View.ld x1 r0_1) (View.ld x2 r0_1)) (k0_pay11 (View.ld x0 r0_0) (View.ld x1 r0_1) (View.ld x2 r0_1)) (k0_pay12 (View.ld x0 r0_0) (View.ld x1 r0_1) (View.ld x2 r0_1)) : Vec Ideal S1x64x128 .f32)
      = shapeCast S1x64x128 (sums (extractStridedSlice S64x128 ![0, 0] (k0_pay3 (View.ld x0 r0_0) (View.ld x1 r0_1) (View.ld x2 r0_1)) slices_S64x4096_o0_0_S64x128)) shapeCasts_S64x128_S1x64x128 := rfl
  rw [e]
  simp only [ld_block, ld_bias]
  exact store_runs x0 x1 x2 0 (by omega) (by omega) _ (fun h t => by pointwise) i _ (at1 0 _ i) (at2 0 _ i)

theorem b_1 (i : S1x64x128.Idx) : (k0_pay14 (k0_pay79 x0 x1 x2) (k0_pay80 x0 x1 x2) : Vec Ideal S1x64x128 .f32) i
    = runs (k0_pay3 (F := Ideal) x0 x1 x2) (r0_3.emb i) := by
  have e : (k0_pay14 (k0_pay79 x0 x1 x2) (k0_pay80 x0 x1 x2) : Vec Ideal S1x64x128 .f32)
      = shapeCast S1x64x128 (sums (extractStridedSlice S64x128 ![0, 128] (k0_pay3 (View.ld x0 r0_0) (View.ld x1 r0_1) (View.ld x2 r0_1)) slices_S64x4096_o0_128_S64x128)) shapeCasts_S64x128_S1x64x128 := rfl
  rw [e]
  simp only [ld_block, ld_bias]
  exact store_runs x0 x1 x2 128 (by omega) (by omega) _ (fun h t => by pointwise) i _ (at1 128 _ i) (at2 128 _ i)

theorem b_2 (i : S1x64x128.Idx) : (k0_pay15 (k0_pay79 x0 x1 x2) (k0_pay80 x0 x1 x2) : Vec Ideal S1x64x128 .f32) i
    = runs (k0_pay3 (F := Ideal) x0 x1 x2) (r0_4.emb i) := by
  have e : (k0_pay15 (k0_pay79 x0 x1 x2) (k0_pay80 x0 x1 x2) : Vec Ideal S1x64x128 .f32)
      = shapeCast S1x64x128 (sums (extractStridedSlice S64x128 ![0, 256] (k0_pay3 (View.ld x0 r0_0) (View.ld x1 r0_1) (View.ld x2 r0_1)) slices_S64x4096_o0_256_S64x128)) shapeCasts_S64x128_S1x64x128 := rfl
  rw [e]
  simp only [ld_block, ld_bias]
  exact store_runs x0 x1 x2 256 (by omega) (by omega) _ (fun h t => by pointwise) i _ (at1 256 _ i) (at2 256 _ i)

theorem b_3 (i : S1x64x128.Idx) : (k0_pay19 (k0_pay80 x0 x1 x2) (k0_pay16 (k0_pay79 x0 x1 x2)) (k0_pay17 (k0_pay79 x0 x1 x2)) (k0_pay18 (k0_pay79 x0 x1 x2)) : Vec Ideal S1x64x128 .f32) i
    = runs (k0_pay3 (F := Ideal) x0 x1 x2) (r0_5.emb i) := by
  have e : (k0_pay19 (k0_pay80 x0 x1 x2) (k0_pay16 (k0_pay79 x0 x1 x2)) (k0_pay17 (k0_pay79 x0 x1 x2)) (k0_pay18 (k0_pay79 x0 x1 x2)) : Vec Ideal S1x64x128 .f32)
      = shapeCast S1x64x128 (sums (extractStridedSlice S64x128 ![0, 384] (k0_pay3 (View.ld x0 r0_0) (View.ld x1 r0_1) (View.ld x2 r0_1)) slices_S64x4096_o0_384_S64x128)) shapeCasts_S64x128_S1x64x128 := rfl
  rw [e]
  simp only [ld_block, ld_bias]
  exact store_runs x0 x1 x2 384 (by omega) (by omega) _ (fun h t => by pointwise) i _ (at1 384 _ i) (at2 384 _ i)

theorem b_4 (i : S1x64x128.Idx) : (k0_pay20 (k0_pay79 x0 x1 x2) (k0_pay80 x0 x1 x2) : Vec Ideal S1x64x128 .f32) i
    = runs (k0_pay3 (F := Ideal) x0 x1 x2) (r0_6.emb i) := by
  have e : (k0_pay20 (k0_pay79 x0 x1 x2) (k0_pay80 x0 x1 x2) : Vec Ideal S1x64x128 .f32)
      = shapeCast S1x64x128 (sums (extractStridedSlice S64x128 ![0, 512] (k0_pay3 (View.ld x0 r0_0) (View.ld x1 r0_1) (View.ld x2 r0_1)) slices_S64x4096_o0_512_S64x128)) shapeCasts_S64x128_S1x64x128 := rfl
  rw [e]
  simp only [ld_block, ld_bias]
  exact store_runs x0 x1 x2 512 (by omega) (by omega) _ (fun h t => by pointwise) i _ (at1 512 _ i) (at2 512 _ i)

theorem b_5 (i : S1x64x128.Idx) : (k0_pay22 (k0_pay21 (k0_pay79 x0 x1 x2) (k0_pay80 x0 x1 x2)) : Vec Ideal S1x64x128 .f32) i
    = runs (k0_pay3 (F := Ideal) x0 x1 x2) (r0_7.emb i) := by
  have e : (k0_pay22 (k0_pay21 (k0_pay79 x0 x1 x2) (k0_pay80 x0 x1 x2)) : Vec Ideal S1x64x128 .f32)
      = shapeCast S1x64x128 (sums (extractStridedSlice S64x128 ![0, 640] (k0_pay3 (View.ld x0 r0_0) (View.ld x1 r0_1) (View.ld x2 r0_1)) slices_S64x4096_o0_640_S64x128)) shapeCasts_S64x128_S1x64x128 := rfl
  rw [e]
  simp only [ld_block, ld_bias]
  exact store_runs x0 x1 x2 640 (by omega) (by omega) _ (fun h t => by pointwise) i _ (at1 640 _ i) (at2 640 _ i)

theorem b_6 (i : S1x64x128.Idx) : (k0_pay23 (k0_pay79 x0 x1 x2) (k0_pay80 x0 x1 x2) : Vec Ideal S1x64x128 .f32) i
    = runs (k0_pay3 (F := Ideal) x0 x1 x2) (r0_8.emb i) := by
  have e : (k0_pay23 (k0_pay79 x0 x1 x2) (k0_pay80 x0 x1 x2) : Vec Ideal S1x64x128 .f32)
      = shapeCast S1x64x128 (sums (extractStridedSlice S64x128 ![0, 768] (k0_pay3 (View.ld x0 r0_0) (View.ld x1 r0_1) (View.ld x2 r0_1)) slices_S64x4096_o0_768_S64x128)) shapeCasts_S64x128_S1x64x128 := rfl
  rw [e]
  simp only [ld_block, ld_bias]
  exact store_runs x0 x1 x2 768 (by omega) (by omega) _ (fun h t => by pointwise) i _ (at1 768 _ i) (at2 768 _ i)

theorem b_7 (i : S1x64x128.Idx) : (k0_pay24 (k0_pay79 x0 x1 x2) (k0_pay80 x0 x1 x2) : Vec Ideal S1x64x128 .f32) i
    = runs (k0_pay3 (F := Ideal) x0 x1 x2) (r0_9.emb i) := by
  have e : (k0_pay24 (k0_pay79 x0 x1 x2) (k0_pay80 x0 x1 x2) : Vec Ideal S1x64x128 .f32)
      = shapeCast S1x64x128 (sums (extractStridedSlice S64x128 ![0, 896] (k0_pay3 (View.ld x0 r0_0) (View.ld x1 r0_1) (View.ld x2 r0_1)) slices_S64x4096_o0_896_S64x128)) shapeCasts_S64x128_S1x64x128 := rfl
  rw [e]
  simp only [ld_block, ld_bias]
  exact store_runs x0 x1 x2 896 (by omega) (by omega) _ (fun h t => by pointwise) i _ (at1 896 _ i) (at2 896 _ i)

theorem b_8 (i : S1x64x128.Idx) : (k0_pay30 (k0_pay80 x0 x1 x2) (k0_pay26 (k0_pay79 x0 x1 x2)) (k0_pay28 (k0_pay79 x0 x1 x2)) (k0_pay29 (k0_pay79 x0 x1 x2)) : Vec Ideal S1x64x128 .f32) i
    = runs (k0_pay3 (F := Ideal) x0 x1 x2) (r0_10.emb i) := by
  have e : (k0_pay30 (k0_pay80 x0 x1 x2) (k0_pay26 (k0_pay79 x0 x1 x2)) (k0_pay28 (k0_pay79 x0 x1 x2)) (k0_pay29 (k0_pay79 x0 x1 x2)) : Vec Ideal S1x64x128 .f32)
      = shapeCast S1x64x128 (sums (extractStridedSlice S64x128 ![0, 1024] (k0_pay3 (View.ld x0 r0_0) (View.ld x1 r0_1) (View.ld x2 r0_1)) slices_S64x4096_o0_1024_S64x128)) shapeCasts_S64x128_S1x64x128 := rfl
  rw [e]
  simp only [ld_block, ld_bias]
  exact store_runs x0 x1 x2 1024 (by omega) (by omega) _ (fun h t => by pointwise) i _ (at1 1024 _ i) (at2 1024 _ i)

theorem b_9 (i : S1x64x128.Idx) : (k0_pay31 (k0_pay79 x0 x1 x2) (k0_pay80 x0 x1 x2) : Vec Ideal S1x64x128 .f32) i
    = runs (k0_pay3 (F := Ideal) x0 x1 x2) (r0_11.emb i) := by
  have e : (k0_pay31 (k0_pay79 x0 x1 x2) (k0_pay80 x0 x1 x2) : Vec Ideal S1x64x128 .f32)
      = shapeCast S1x64x128 (sums (extractStridedSlice S64x128 ![0, 1152] (k0_pay3 (View.ld x0 r0_0) (View.ld x1 r0_1) (View.ld x2 r0_1)) slices_S64x4096_o0_1152_S64x128)) shapeCasts_S64x128_S1x64x128 := rfl
  rw [e]
  simp only [ld_block, ld_bias]
  exact store_runs x0 x1 x2 1152 (by omega) (by omega) _ (fun h t => by pointwise) i _ (at1 1152 _ i) (at2 1152 _ i)

theorem b_10 (i : S1x64x128.Idx) : (k0_pay32 (k0_pay79 x0 x1 x2) (k0_pay80 x0 x1 x2) : Vec Ideal S1x64x128 .f32) i
    = runs (k0_pay3 (F := Ideal) x0 x1 x2) (r0_12.emb i) := by
  have e : (k0_pay32 (k0_pay79 x0 x1 x2) (k0_pay80 x0 x1 x2) : Vec Ideal S1x64x128 .f32)
      = shapeCast S1x64x128 (sums (extractStridedSlice S64x128 ![0, 1280] (k0_pay3 (View.ld x0 r0_0) (View.ld x1 r0_1) (View.ld x2 r0_1)) slices_S64x4096_o0_1280_S64x128)) shapeCasts_S64x128_S1x64x128 := rfl
  rw [e]
  simp only [ld_block, ld_bias]
  exact store_runs x0 x1 x2 1280 (by omega) (by omega) _ (fun h t => by pointwise) i _ (at1 1280 _ i) (at2 1280 _ i)

theorem b_11 (i : S1x64x128.Idx) : (k0_pay33 (k0_pay79 x0 x1 x2) (k0_pay80 x0 x1 x2) : Vec Ideal S1x64x128 .f32) i
    = runs (k0_pay3 (F := Ideal) x0 x1 x2) (r0_13.emb i) := by
  have e : (k0_pay33 (k0_pay79 x0 x1 x2) (k0_pay80 x0 x1 x2) : Vec Ideal S1x64x128 .f32)
      = shapeCast S1x64x128 (sums (extractStridedSlice S64x128 ![0, 1408] (k0_pay3 (View.ld x0 r0_0) (View.ld x1 r0_1) (View.ld x2 r0_1)) slices_S64x4096_o0_1408_S64x128)) shapeCasts_S64x128_S1x64x128 := rfl
  rw [e]
  simp only [ld_block, ld_bias]
  exact store_runs x0 x1 x2 1408 (by omega) (by omega) _ (fun h t => by pointwise) i _ (at1 1408 _ i) (at2 1408 _ i)

theorem b_12 (i : S1x64x128.Idx) : (k0_pay34 (k0_pay79 x0 x1 x2) (k0_pay80 x0 x1 x2) : Vec Ideal S1x64x128 .f32) i
    = runs (k0_pay3 (F := Ideal) x0 x1 x2) (r0_14.emb i) := by
  have e : (k0_pay34 (k0_pay79 x0 x1 x2) (k0_pay80 x0 x1 x2) : Vec Ideal S1x64x128 .f32)
      = shapeCast S1x64x128 (sums (extractStridedSlice S64x128 ![0, 1536] (k0_pay3 (View.ld x0 r0_0) (View.ld x1 r0_1) (View.ld x2 r0_1)) slices_S64x4096_o0_1536_S64x128)) shapeCasts_S64x128_S1x64x128 := rfl
  rw [e]
  simp only [ld_block, ld_bias]
  exact store_runs x0 x1 x2 1536 (by omega) (by omega) _ (fun h t => by pointwise) i _ (at1 1536 _ i) (at2 1536 _ i)

theorem b_13 (i : S1x64x128.Idx) : (k0_pay41 (k0_pay80 x0 x1 x2) (k0_pay39 (k0_pay79 x0 x1 x2)) (k0_pay40 (k0_pay79 x0 x1 x2) (k0_pay80 x0 x1 x2)) : Vec Ideal S1x64x128 .f32) i
    = runs (k0_pay3 (F := Ideal) x0 x1 x2) (r0_15.emb i) := by
  have e : (k0_pay41 (k0_pay80 x0 x1 x2) (k0_pay39 (k0_pay79 x0 x1 x2)) (k0_pay40 (k0_pay79 x0 x1 x2) (k0_pay80 x0 x1 x2)) : Vec Ideal S1x64x128 .f32)
      = shapeCast S1x64x128 (sums (extractStridedSlice S64x128 ![0, 1664] (k0_pay3 (View.ld x0 r0_0) (View.ld x1 r0_1) (View.ld x2 r0_1)) slices_S64x4096_o0_1664_S64x128)) shapeCasts_S64x128_S1x64x128 := rfl
  rw [e]
  simp only [ld_block, ld_bias]
  exact store_runs x0 x1 x2 1664 (by omega) (by omega) _ (fun h t => by pointwise) i _ (at1 1664 _ i) (at2 1664 _ i)

theorem b_14 (i : S1x64x128.Idx) : (k0_pay42 (k0_pay79 x0 x1 x2) (k0_pay80 x0 x1 x2) : Vec Ideal S1x64x128 .f32) i
    = runs (k0_pay3 (F := Ideal) x0 x1 x2) (r0_16.emb i) := by
  have e : (k0_pay42 (k0_pay79 x0 x1 x2) (k0_pay80 x0 x1 x2) : Vec Ideal S1x64x128 .f32)
      = shapeCast S1x64x128 (sums (extractStridedSlice S64x128 ![0, 1792] (k0_pay3 (View.ld x0 r0_0) (View.ld x1 r0_1) (View.ld x2 r0_1)) slices_S64x4096_o0_1792_S64x128)) shapeCasts_S64x128_S1x64x128 := rfl
  rw [e]
  simp only [ld_block, ld_bias]
  exact store_runs x0 x1 x2 1792 (by omega) (by omega) _ (fun h t => by pointwise) i _ (at1 1792 _ i) (at2 1792 _ i)

theorem b_15 (i : S1x64x128.Idx) : (k0_pay43 (k0_pay79 x0 x1 x2) (k0_pay80 x0 x1 x2) : Vec Ideal S1x64x128 .f32) i
    = runs (k0_pay3 (F := Ideal) x0 x1 x2) (r0_17.emb i) := by
  have e : (k0_pay43 (k0_pay79 x0 x1 x2) (k0_pay80 x0 x1 x2) : Vec Ideal S1x64x128 .f32)
      = shapeCast S1x64x128 (sums (extractStridedSlice S64x128 ![0, 1920] (k0_pay3 (View.ld x0 r0_0) (View.ld x1 r0_1) (View.ld x2 r0_1)) slices_S64x4096_o0_1920_S64x128)) shapeCasts_S64x128_S1x64x128 := rfl
  rw [e]
  simp only [ld_block, ld_bias]
  exact store_runs x0 x1 x2 1920 (by omega) (by omega) _ (fun h t => by pointwise) i _ (at1 1920 _ i) (at2 1920 _ i)

theorem b_16 (i : S1x64x128.Idx) : (k0_pay47 (k0_pay80 x0 x1 x2) (k0_pay45 (k0_pay79 x0 x1 x2)) (k0_pay46 (k0_pay79 x0 x1 x2)) : Vec Ideal S1x64x128 .f32) i
    = runs (k0_pay3 (F := Ideal) x0 x1 x2) (r0_18.emb i) := by
  have e : (k0_pay47 (k0_pay80 x0 x1 x2) (k0_pay45 (k0_pay79 x0 x1 x2)) (k0_pay46 (k0_pay79 x0 x1 x2)) : Vec Ideal S1x64x128 .f32)
      = shapeCast S1x64x128 (sums (extractStridedSlice S64x128 ![0, 2048] (k0_pay3 (View.ld x0 r0_0) (View.ld x1 r0_1) (View.ld x2 r0_1)) slices_S64x4096_o0_2048_S64x128)) shapeCasts_S64x128_S1x64x128 := rfl
  rw [e]
  simp only [ld_block, ld_bias]
  exact store_runs x0 x1 x2 2048 (by omega) (by omega) _ (fun h t => by pointwise) i _ (at1 2048 _ i) (at2 2048 _ i)

theorem b_17 (i : S1x64x128.Idx) : (k0_pay48 (k0_pay79 x0 x1 x2) (k0_pay80 x0 x1 x2) : Vec Ideal S1x64x128 .f32) i
    = runs (k0_pay3 (F := Ideal) x0 x1 x2) (r0_19.emb i) := by
  have e : (k0_pay48 (k0_pay79 x0 x1 x2) (k0_pay80 x0 x1 x2) : Vec Ideal S1x64x128 .f32)
      = shapeCast S1x64x128 (sums (extractStridedSlice S64x128 ![0, 2176] (k0_pay3 (View.ld x0 r0_0) (View.ld x1 r0_1) (View.ld x2 r0_1)) slices_S64x4096_o0_2176_S64x128)) shapeCasts_S64x128_S1x64x128 := rfl
  rw [e]
  simp only [ld_block, ld_bias]
  exact store_runs x0 x1 x2 2176 (by omega) (by omega) _ (fun h t => by pointwise) i _ (at1 2176 _ i) (at2 2176 _ i)

theorem b_18 (i : S1x64x128.Idx) : (k0_pay50 (k0_pay49 (k0_pay79 x0 x1 x2) (k0_pay80 x0 x1 x2)) : Vec Ideal S1x64x128 .f32) i
    = runs (k0_pay3 (F := Ideal) x0 x1 x2) (r0_20.emb i) := by
  have e : (k0_pay50 (k0_pay49 (k0_pay79 x0 x1 x2) (k0_pay80 x0 x1 x2)) : Vec Ideal S1x64x128 .f32)
      = shapeCast S1x64x128 (sums (extractStridedSlice S64x128 ![0, 2304] (k0_pay3 (View.ld x0 r0_0) (View.ld x1 r0_1) (View.ld x2 r0_1)) slices_S64x4096_o0_2304_S64x128)) shapeCasts_S64x128_S1x64x128 := rfl
  rw [e]
  simp only [ld_block, ld_bias]
  exact store_runs x0 x1 x2 2304 (by omega) (by omega) _ (fun h t => by pointwise) i _ (at1 2304 _ i) (at2 2304 _ i)

theorem b_19 (i : S1x64x128.Idx) : (k0_pay51 (k0_pay79 x0 x1 x2) (k0_pay80 x0 x1 x2) : Vec Ideal S1x64x128 .f32) i
    = runs (k0_pay3 (F := Ideal) x0 x1 x2) (r0_21.emb i) := by
  have e : (k0_pay51 (k0_pay79 x0 x1 x2) (k0_pay80 x0 x1 x2) : Vec Ideal S1x64x128 .f32)
      = shapeCast S1x64x128 (sums (extractStridedSlice S64x128 ![0, 2432] (k0_pay3 (View.ld x0 r0_0) (View.ld x1 r0_1) (View.ld x2 r0_1)) slices_S64x4096_o0_2432_S64x128)) shapeCasts_S64x128_S1x64x128 := rfl
  rw [e]
  simp only [ld_block, ld_bias]
  exact store_runs x0 x1 x2 2432 (by omega) (by omega) _ (fun h t => by pointwise) i _ (at1 2432 _ i) (at2 2432 _ i)

theorem b_20 (i : S1x64x128.Idx) : (k0_pay52 (k0_pay79 x0 x1 x2) (k0_pay80 x0 x1 x2) : Vec Ideal S1x64x128 .f32) i
    = runs (k0_pay3 (F := Ideal) x0 x1 x2) (r0_22.emb i) := by
  have e : (k0_pay52 (k0_pay79 x0 x1 x2) (k0_pay80 x0 x1 x2) : Vec Ideal S1x64x128 .f32)
      = shapeCast S1x64x128 (sums (extractStridedSlice S64x128 ![0, 2560] (k0_pay3 (View.ld x0 r0_0) (View.ld x1 r0_1) (View.ld x2 r0_1)) slices_S64x4096_o0_2560_S64x128)) shapeCasts_S64x128_S1x64x128 := rfl
  rw [e]
  simp only [ld_block, ld_bias]
  exact store_runs x0 x1 x2 2560 (by omega) (by omega) _ (fun h t => by pointwise) i _ (at1 2560 _ i) (at2 2560 _ i)

theorem b_21 (i : S1x64x128.Idx) : (k0_pay58 (k0_pay80 x0 x1 x2) (k0_pay54 (k0_pay79 x0 x1 x2)) (k0_pay56 (k0_pay79 x0 x1 x2)) (k0_pay57 (k0_pay79 x0 x1 x2)) (constant S64x128 .f32 0x00000000#32) : Vec Ideal S1x64x128 .f32) i
    = runs (k0_pay3 (F := Ideal) x0 x1 x2) (r0_23.emb i) := by
  have e : (k0_pay58 (k0_pay80 x0 x1 x2) (k0_pay54 (k0_pay79 x0 x1 x2)) (k0_pay56 (k0_pay79 x0 x1 x2)) (k0_pay57 (k0_pay79 x0 x1 x2)) (constant S64x128 .f32 0x00000000#32) : Vec Ideal S1x64x128 .f32)
      = shapeCast S1x64x128 (sums (extractStridedSlice S64x128 ![0, 2688] (k0_pay3 (View.ld x0 r0_0) (View.ld x1 r0_1) (View.ld x2 r0_1)) slices_S64x4096_o0_2688_S64x128)) shapeCasts_S64x128_S1x64x128 := rfl
  rw [e]
  simp only [ld_block, ld_bias]
  exact store_runs x0 x1 x2 2688 (by omega) (by omega) _ (fun h t => by pointwise) i _ (at1 2688 _ i) (at2 2688 _ i)

theorem b_22 (i : S1x64x128.Idx) : (k0_pay59 (k0_pay79 x0 x1 x2) (k0_pay80 x0 x1 x2) : Vec Ideal S1x64x128 .f32) i
    = runs (k0_pay3 (F := Ideal) x0 x1 x2) (r0_24.emb i) := by
  have e : (k0_pay59 (k0_pay79 x0 x1 x2) (k0_pay80 x0 x1 x2) : Vec Ideal S1x64x128 .f32)
      = shapeCast S1x64x128 (sums (extractStridedSlice S64x128 ![0, 2816] (k0_pay3 (View.ld x0 r0_0) (View.ld x1 r0_1) (View.ld x2 r0_1)) slices_S64x4096_o0_2816_S64x128)) shapeCasts_S64x128_S1x64x128 := rfl
  rw [e]
  simp only [ld_block, ld_bias]
  exact store_runs x0 x1 x2 2816 (by omega) (by omega) _ (fun h t => by pointwise) i _ (at1 2816 _ i) (at2 2816 _ i)

theorem b_23 (i : S1x64x128.Idx) : (k0_pay60 (k0_pay79 x0 x1 x2) (k0_pay80 x0 x1 x2) : Vec Ideal S1x64x128 .f32) i
    = runs (k0_pay3 (F := Ideal) x0 x1 x2) (r0_25.emb i) := by
  have e : (k0_pay60 (k0_pay79 x0 x1 x2) (k0_pay80 x0 x1 x2) : Vec Ideal S1x64x128 .f32)
      = shapeCast S1x64x128 (sums (extractStridedSlice S64x128 ![0, 2944] (k0_pay3 (View.ld x0 r0_0) (View.ld x1 r0_1) (View.ld x2 r0_1)) slices_S64x4096_o0_2944_S64x128)) shapeCasts_S64x128_S1x64x128 := rfl
  rw [e]
  simp only [ld_block, ld_bias]
  exact store_runs x0 x1 x2 2944 (by omega) (by omega) _ (fun h t => by pointwise) i _ (at1 2944 _ i) (at2 2944 _ i)

theorem b_24 (i : S1x64x128.Idx) : (k0_pay61 (k0_pay79 x0 x1 x2) (k0_pay80 x0 x1 x2) : Vec Ideal S1x64x128 .f32) i
    = runs (k0_pay3 (F := Ideal) x0 x1 x2) (r0_26.emb i) := by
  have e : (k0_pay61 (k0_pay79 x0 x1 x2) (k0_pay80 x0 x1 x2) : Vec Ideal S1x64x128 .f32)
      = shapeCast S1x64x128 (sums (extractStridedSlice S64x128 ![0, 3072] (k0_pay3 (View.ld x0 r0_0) (View.ld x1 r0_1) (View.ld x2 r0_1)) slices_S64x4096_o0_3072_S64x128)) shapeCasts_S64x128_S1x64x128 := rfl
  rw [e]
  simp only [ld_block, ld_bias]
  exact store_runs x0 x1 x2 3072 (by omega) (by omega) _ (fun h t => by pointwise) i _ (at1 3072 _ i) (at2 3072 _ i)

theorem b_25 (i : S1x64x128.Idx) : (k0_pay62 (k0_pay79 x0 x1 x2) (k0_pay80 x0 x1 x2) : Vec Ideal S1x64x128 .f32) i
    = runs (k0_pay3 (F := Ideal) x0 x1 x2) (r0_27.emb i) := by
  have e : (k0_pay62 (k0_pay79 x0 x1 x2) (k0_pay80 x0 x1 x2) : Vec Ideal S1x64x128 .f32)
      = shapeCast S1x64x128 (sums (extractStridedSlice S64x128 ![0, 3200] (k0_pay3 (View.ld x0 r0_0) (View.ld x1 r0_1) (View.ld x2 r0_1)) slices_S64x4096_o0_3200_S64x128)) shapeCasts_S64x128_S1x64x128 := rfl
  rw [e]
  simp only [ld_block, ld_bias]
  exact store_runs x0 x1 x2 3200 (by omega) (by omega) _ (fun h t => by pointwise) i _ (at1 3200 _ i) (at2 3200 _ i)

theorem b_26 (i : S1x64x128.Idx) : (k0_pay69 (k0_pay80 x0 x1 x2) (k0_pay67 (k0_pay79 x0 x1 x2)) (k0_pay68 (k0_pay79 x0 x1 x2) (k0_pay80 x0 x1 x2)) (constant S64x128 .f32 0x00000000#32) : Vec Ideal S1x64x128 .f32) i
    = runs (k0_pay3 (F := Ideal) x0 x1 x2) (r0_28.emb i) := by
  have e : (k0_pay69 (k0_pay80 x0 x1 x2) (k0_pay67 (k0_pay79 x0 x1 x2)) (k0_pay68 (k0_pay79 x0 x1 x2) (k0_pay80 x0 x1 x2)) (constant S64x128 .f32 0x00000000#32) : Vec Ideal S1x64x128 .f32)
      = shapeCast S1x64x128 (sums (extractStridedSlice S64x128 ![0, 3328] (k0_pay3 (View.ld x0 r0_0) (View.ld x1 r0_1) (View.ld x2 r0_1)) slices_S64x4096_o0_3328_S64x128)) shapeCasts_S64x128_S1x64x128 := rfl
  rw [e]
  simp only [ld_block, ld_bias]
  exact store_runs x0 x1 x2 3328 (by omega) (by omega) _ (fun h t => by pointwise) i _ (at1 3328 _ i) (at2 3328 _ i)

theorem b_27 (i : S1x64x128.Idx) : (k0_pay70 (k0_pay79 x0 x1 x2) (k0_pay80 x0 x1 x2) : Vec Ideal S1x64x128 .f32) i
    = runs (k0_pay3 (F := Ideal) x0 x1 x2) (r0_29.emb i) := by
  have e : (k0_pay70 (k0_pay79 x0 x1 x2) (k0_pay80 x0 x1 x2) : Vec Ideal S1x64x128 .f32)
      = shapeCast S1x64x128 (sums (extractStridedSlice S64x128 ![0, 3456] (k0_pay3 (View.ld x0 r0_0) (View.ld x1 r0_1) (View.ld x2 r0_1)) slices_S64x4096_o0_3456_S64x128)) shapeCasts_S64x128_S1x64x128 := rfl
  rw [e]
  simp only [ld_block, ld_bias]
  exact store_runs x0 x1 x2 3456 (by omega) (by omega) _ (fun h t => by pointwise) i _ (at1 3456 _ i) (at2 3456 _ i)

theorem b_28 (i : S1x64x128.Idx) : (k0_pay71 (k0_pay79 x0 x1 x2) (k0_pay80 x0 x1 x2) : Vec Ideal S1x64x128 .f32) i
    = runs (k0_pay3 (F := Ideal) x0 x1 x2) (r0_30.emb i) := by
  have e : (k0_pay71 (k0_pay79 x0 x1 x2) (k0_pay80 x0 x1 x2) : Vec Ideal S1x64x128 .f32)
      = shapeCast S1x64x128 (sums (extractStridedSlice S64x128 ![0, 3584] (k0_pay3 (View.ld x0 r0_0) (View.ld x1 r0_1) (View.ld x2 r0_1)) slices_S64x4096_o0_3584_S64x128)) shapeCasts_S64x128_S1x64x128 := rfl
  rw [e]
  simp only [ld_block, ld_bias]
  exact store_runs x0 x1 x2 3584 (by omega) (by omega) _ (fun h t => by pointwise) i _ (at1 3584 _ i) (at2 3584 _ i)

theorem b_29 (i : S1x64x128.Idx) : (k0_pay76 (k0_pay80 x0 x1 x2) (k0_pay73 (k0_pay79 x0 x1 x2)) (k0_pay74 (k0_pay79 x0 x1 x2)) (k0_pay75 (k0_pay79 x0 x1 x2)) : Vec Ideal S1x64x128 .f32) i
    = runs (k0_pay3 (F := Ideal) x0 x1 x2) (r0_31.emb i) := by
  have e : (k0_pay76 (k0_pay80 x0 x1 x2) (k0_pay73 (k0_pay79 x0 x1 x2)) (k0_pay74 (k0_pay79 x0 x1 x2)) (k0_pay75 (k0_pay79 x0 x1 x2)) : Vec Ideal S1x64x128 .f32)
      = shapeCast S1x64x128 (sums (extractStridedSlice S64x128 ![0, 3712] (k0_pay3 (View.ld x0 r0_0) (View.ld x1 r0_1) (View.ld x2 r0_1)) slices_S64x4096_o0_3712_S64x128)) shapeCasts_S64x128_S1x64x128 := rfl
  rw [e]
  simp only [ld_block, ld_bias]
  exact store_runs x0 x1 x2 3712 (by omega) (by omega) _ (fun h t => by pointwise) i _ (at1 3712 _ i) (at2 3712 _ i)

theorem b_30 (i : S1x64x128.Idx) : (k0_pay77 (k0_pay79 x0 x1 x2) (k0_pay80 x0 x1 x2) : Vec Ideal S1x64x128 .f32) i
    = runs (k0_pay3 (F := Ideal) x0 x1 x2) (r0_32.emb i) := by
  have e : (k0_pay77 (k0_pay79 x0 x1 x2) (k0_pay80 x0 x1 x2) : Vec Ideal S1x64x128 .f32)
      = shapeCast S1x64x128 (sums (extractStridedSlice S64x128 ![0, 3840] (k0_pay3 (View.ld x0 r0_0) (View.ld x1 r0_1) (View.ld x2 r0_1)) slices_S64x4096_o0_3840_S64x128)) shapeCasts_S64x128_S1x64x128 := rfl
  rw [e]
  simp only [ld_block, ld_bias]
  exact store_runs x0 x1 x2 3840 (by omega) (by omega) _ (fun h t => by pointwise) i _ (at1 3840 _ i) (at2 3840 _ i)

theorem b_31 (i : S1x64x128.Idx) : (k0_pay1 (k0_pay78 (k0_pay79 x0 x1 x2) (k0_pay80 x0 x1 x2)) : Vec Ideal S1x64x128 .f32) i
    = runs (k0_pay3 (F := Ideal) x0 x1 x2) (r0_33.emb i) := by
  have e : (k0_pay1 (k0_pay78 (k0_pay79 x0 x1 x2) (k0_pay80 x0 x1 x2)) : Vec Ideal S1x64x128 .f32)
      = shapeCast S1x64x128 (sums (extractStridedSlice S64x128 ![0, 3968] (k0_pay3 (View.ld x0 r0_0) (View.ld x1 r0_1) (View.ld x2 r0_1)) slices_S64x4096_o0_3968_S64x128)) shapeCasts_S64x128_S1x64x128 := rfl
  rw [e]
  simp only [ld_block, ld_bias]
  exact store_runs x0 x1 x2 3968 (by omega) (by omega) _ (fun h t => by pointwise) i _ (at1 3968 _ i) (at2 3968 _ i)

/-- What a grid point leaves in its block of running sums. -/
theorem out4 (y : S1x64x4096.Idx) : out0_4 (F := Ideal) x0 x1 x2 y = runs (k0_pay3 (F := Ideal) x0 x1 x2) y := by
  unfold out0_4
  refine View.canon_apply_of_pieces (Val := Elt Ideal) (e := .f32) (runs (k0_pay3 (F := Ideal) x0 x1 x2)) _ ?_ y (cover0_4 _ _ _ _ _ _ _ _ _ _ _ _ _ _ _ _ _ _ _ _ _ _ _ _ _ _ _ _ _ _ _ _ y)
  intro p hp
  rcases List.mem_cons.mp hp with rfl | hp
  · exact b_31 x0 x1 x2
  rcases List.mem_cons.mp hp with rfl | hp
  · exact b_30 x0 x1 x2
  rcases List.mem_cons.mp hp with rfl | hp
  · exact b_29 x0 x1 x2
  rcases List.mem_cons.mp hp with rfl | hp
  · exact b_28 x0 x1 x2
  rcases List.mem_cons.mp hp with rfl | hp
  · exact b_27 x0 x1 x2
  rcases List.mem_cons.mp hp with rfl | hp
  · exact b_26 x0 x1 x2
  rcases List.mem_cons.mp hp with rfl | hp
  · exact b_25 x0 x1 x2
  rcases List.mem_cons.mp hp with rfl | hp
  · exact b_24 x0 x1 x2
  rcases List.mem_cons.mp hp with rfl | hp
  · exact b_23 x0 x1 x2
  rcases List.mem_cons.mp hp with rfl | hp
  · exact b_22 x0 x1 x2
  rcases List.mem_cons.mp hp with rfl | hp
  · exact b_21 x0 x1 x2
  rcases List.mem_cons.mp hp with rfl | hp
  · exact b_20 x0 x1 x2
  rcases List.mem_cons.mp hp with rfl | hp
  · exact b_19 x0 x1 x2
  rcases List.mem_cons.mp hp with rfl | hp
  · exact b_18 x0 x1 x2
  rcases List.mem_cons.mp hp with rfl | hp
  · exact b_17 x0 x1 x2
  rcases List.mem_cons.mp hp with rfl | hp
  · exact b_16 x0 x1 x2
  rcases List.mem_cons.mp hp with rfl | hp
  · exact b_15 x0 x1 x2
  rcases List.mem_cons.mp hp with rfl | hp
  · exact b_14 x0 x1 x2
  rcases List.mem_cons.mp hp with rfl | hp
  · exact b_13 x0 x1 x2
  rcases List.mem_cons.mp hp with rfl | hp
  · exact b_12 x0 x1 x2
  rcases List.mem_cons.mp hp with rfl | hp
  · exact b_11 x0 x1 x2
  rcases List.mem_cons.mp hp with rfl | hp
  · exact b_10 x0 x1 x2
  rcases List.mem_cons.mp hp with rfl | hp
  · exact b_9 x0 x1 x2
  rcases List.mem_cons.mp hp with rfl | hp
  · exact b_8 x0 x1 x2
  rcases List.mem_cons.mp hp with rfl | hp
  · exact b_7 x0 x1 x2
  rcases List.mem_cons.mp hp with rfl | hp
  · exact b_6 x0 x1 x2
  rcases List.mem_cons.mp hp with rfl | hp
  · exact b_5 x0 x1 x2
  rcases List.mem_cons.mp hp with rfl | hp
  · exact b_4 x0 x1 x2
  rcases List.mem_cons.mp hp with rfl | hp
  · exact b_3 x0 x1 x2
  rcases List.mem_cons.mp hp with rfl | hp
  · exact b_2 x0 x1 x2
  rcases List.mem_cons.mp hp with rfl | hp
  · exact b_1 x0 x1 x2
  rcases List.mem_cons.mp hp with rfl | hp
  · exact b_0 x0 x1 x2
  nomatch hp

/-- What a grid point leaves in its block of step sizes. -/
theorem out3 (h : Fin 64) (t : Fin 4096) : out0_3 (F := Ideal) x0 x1 x2 (ix3 0 h t) = softplus (x0 (ix3 0 h t) + x1 (ix2 h 0)) := by
  unfold out0_3
  rw [View.canon_unit_zero (S := S1x64x4096) (by funext a; fin_cases a <;> rfl), ld_block, ld_bias, ← pay2]
  unfold k0_pay4
  generalize k0_pay2 (F := Ideal) x0 x1 = d
  pointwise

end Body

section Blocks

variable (m : (ℓ : Loc nD τ sig) → Buf (Elt Ideal) ℓ) (c : Dev nD) (p : Fin cfg0.N)

/-- The sequence that a grid point computes. -/
def seq : Fin 4 := ⟨p.val, p.isLt⟩

theorem x_block (h : Fin 64) (t : Fin 4096) : iblk (F := Ideal) m c 0 p (ix3 0 h t)
    = m ((c : Thread nD τ).loc main_arg0) (ix3 (seq p) t ⟨16 + h.val, by omega⟩) := by
  obtain ⟨e, _⟩ := blocks p
  show V m c main_v1 (((cfg0.win 0).blk p).view.emb (ix3 0 h t)) = _
  rw [show ((cfg0.win 0).blk p).view.emb (ix3 (0 : Fin 1) h t) = ix3 (seq p) h t from by blk_ext [e, seq]]
  entry_read
  pointwise

theorem b_block (h : Fin 64) : iblk (F := Ideal) m c 1 p (ix2 h 0) = m ((c : Thread nD τ).loc main_arg1) (ix1 h) := by
  obtain ⟨_, e, _⟩ := blocks p
  show V m c main_v2 (((cfg0.win 1).blk p).view.emb (ix2 h 0)) = _
  rw [show ((cfg0.win 1).blk p).view.emb (ix2 h (0 : Fin 1)) = ix2 h (0 : Fin 1) from by blk_ext [e]]
  entry_read
  pointwise

theorem a_block (h : Fin 64) : iblk (F := Ideal) m c 2 p (ix2 h 0) = m ((c : Thread nD τ).loc main_arg2) (ix1 h) := by
  obtain ⟨_, _, e, _⟩ := blocks p
  show V m c main_v3 (((cfg0.win 2).blk p).view.emb (ix2 h 0)) = _
  rw [show ((cfg0.win 2).blk p).view.emb (ix2 h (0 : Fin 1)) = ix2 h (0 : Fin 1) from by blk_ext [e]]
  entry_read
  pointwise

end Blocks

section Reference

open Cert.SsdGatesReferenceIdeal.Read

variable (x : (⟨Cert.SsdGatesReferenceIdeal.S4x4096x128, .f32⟩ : BufTy).Contents (Elt Ideal))
  (w1 w : (⟨Cert.SsdGatesReferenceIdeal.S64, .f32⟩ : BufTy).Contents (Elt Ideal)) (b : Fin 4) (h : Fin 64) (t : Fin 4096)

/-- The step size before its softplus. -/
theorem ref_pre : val_main_v3 (F := Ideal) x w1 (ix3 b t h) = x (ix3 b t ⟨16 + h.val, by omega⟩) + w1 (ix1 h) := by
  pointwise [val_main_v3, val_main_v2, val_main_v1, val_main_v0]

/-- The step size. -/
theorem ref_step : val_main_v4 (F := Ideal) x w1 (ix3 b t h) = softplus (x (ix3 b t ⟨16 + h.val, by omega⟩) + w1 (ix1 h)) := by
  have e : ∀ i, val_main_v4 (F := Ideal) x w1 i = softplus (val_main_v3 (F := Ideal) x w1 i) := by
    intro i
    have z : FloatOps.ofBits (F := Ideal) .f32 0x00000000#32 = 0 := Ideal.ofBits_zero_f32
    simp only [val_main_v4_apply, val_main_call0_v4_apply, val_main_call0_v3_apply, val_main_call0_v11_apply,
      val_main_call0_v1_apply, val_main_call0_v10_apply, val_main_call0_v9_apply, val_main_call0_v8_apply,
      val_main_call0_v7_apply, val_main_call0_v2_apply, val_main_call0_v0_apply, val_main_call0_cst_apply, z]
    exact (select_self _ _ _).trans (softplus_ref (val_main_v3 (F := Ideal) x w1 i))
  rw [← ref_pre, ← e]

/-- The step size times the decay. -/
theorem ref_gate : val_main_v9 (F := Ideal) x w1 w (ix3 b t h)
    = softplus (x (ix3 b t ⟨16 + h.val, by omega⟩) + w1 (ix1 h)) * -Ideal.exp (w (ix1 h)) := by
  rw [← ref_step]
  unfold val_main_v9
  generalize val_main_v4 (F := Ideal) x w1 = d
  pointwise [val_main_v8, val_main_v7, val_main_v6, val_main_v5]

/-- The running sum within 128 tokens. -/
theorem ref_sum (q : Fin 32) (r : Fin 128) : val_main_v11 (F := Ideal) x w1 w (ix4 b q r h)
    = ∑ k : Fin 128, if k ≤ r then val_main_v9 (F := Ideal) x w1 w (ix3 b ⟨q.val * 128 + k.val, by omega⟩ h) else 0 := by
  unfold val_main_v11
  have h0 : ∀ i, val_main_call1_call0_v0 (F := Ideal) i = 0 := fun i => by
    rw [val_main_call1_call0_v0_apply, val_main_call1_call0_cst_apply]; exact Ideal.ofBits_zero_f32
  have h9 : ∀ k : Fin 128, val_main_v10 (F := Ideal) x w1 w (ix4 b q k h) = val_main_v9 (F := Ideal) x w1 w (ix3 b ⟨q.val * 128 + k.val, by omega⟩ h) := by
    intro k
    unfold val_main_v10
    generalize val_main_v9 (F := Ideal) x w1 w = d
    pointwise
  generalize val_main_v10 (F := Ideal) x w1 w = d at h9 ⊢
  simp only [← h9]
  show Ideal.hostReduceWindowAdd ![1, 1, 128, 1] ![1, 1, 1, 1] ![0, 0, 127, 0] ![0, 0, 0, 0]
    Cert.SsdGatesReferenceIdeal.Gen.reduceWindows_S4x32x128x64_S4x32x128x64_w1s1p0_0_w1s1p0_0_w128s1p127_0_w1s1p0_0 d
    (val_main_call1_call0_v0 (F := Ideal) _) (ix4 b q r h) = _
  rw [h0]
  refine (running_sum (s := Cert.SsdGatesReferenceIdeal.S4x32x128x64) (2 : Fin 4) ![1, 1, 128, 1] ![1, 1, 1, 1] ![0, 0, 127, 0] ![0, 0, 0, 0]
    rfl (by decide) (by decide) rfl (by decide) _ d (ix4 b q r h)).trans ?_
  refine Finset.sum_congr rfl fun k _ => ?_
  have e : Function.update (ix4 b q r h) (2 : Fin 4) k = ix4 b q k h := by
    funext a
    fin_cases a <;> rfl
  rw [e]
  rfl

/-- The running sum at a token. -/
theorem ref_b : val_main_v14 (F := Ideal) x w1 w (ix3 b h t)
    = ∑ k : Fin 128, if k.val ≤ t.val % 128 then val_main_v9 (F := Ideal) x w1 w (ix3 b ⟨t.val / 128 * 128 + k.val, by omega⟩ h) else 0 := by
  refine Eq.trans ?_ (ref_sum x w1 w b h ⟨t.val / 128, by omega⟩ ⟨t.val % 128, by omega⟩)
  unfold val_main_v14 val_main_v12
  generalize val_main_v11 (F := Ideal) x w1 w = d
  pointwise

/-- The step size at a token. -/
theorem ref_dt : val_main_v13 (F := Ideal) x w1 (ix3 b h t) = softplus (x (ix3 b t ⟨16 + h.val, by omega⟩) + w1 (ix1 h)) := by
  rw [← ref_step]
  unfold val_main_v13
  generalize val_main_v4 (F := Ideal) x w1 = d
  pointwise

end Reference

section Value

variable (m : (ℓ : Loc nD τ sig) → Buf (Elt Ideal) ℓ) (c : Dev nD) (p : Fin cfg0.N)

/-- The running sum that a grid point leaves is the reference's. -/
theorem block_cum (y : S1x64x4096.Idx) :
    runs (k0_pay3 (F := Ideal) (iblk m c 0 p) (iblk m c 1 p) (iblk m c 2 p)) y
      = Cert.SsdGatesReferenceIdeal.Read.val_main_v14 (F := Ideal) (m ((c : Thread nD τ).loc main_arg0)) (m ((c : Thread nD τ).loc main_arg1)) (m ((c : Thread nD τ).loc main_arg2))
          (ix3 (seq p) ⟨(y 1).val, (y 1).isLt⟩ ⟨(y 2).val, (y 2).isLt⟩) := by
  rw [ref_b]
  unfold runs
  refine Finset.sum_congr rfl fun k _ => ?_
  simp only [pay3, x_block, b_block, a_block, ref_gate]

/-- The arrays that the kernel leaves are the reference's. -/
theorem array_cum : (dats m 0 c).arrAt 4 cfg0.N
      = Cert.SsdGatesReferenceIdeal.Read.val_main_v14 (F := Ideal) (m ((c : Thread nD τ).loc main_arg0)) (m ((c : Thread nD τ).loc main_arg1)) (m ((c : Thread nD τ).loc main_arg2)) := by
  refine (dats m 0 c).arrAt_eq_of_covers 4 _ covered4 fun t hf y => ?_
  blk_simp
  rw [after0_4]
  have key : ∀ y : S1x64x4096.Idx, out0_4 (F := Ideal) (iblk m c 0 t) (iblk m c 1 t) (iblk m c 2 t) y
      = Cert.SsdGatesReferenceIdeal.Read.val_main_v14 (F := Ideal) (m ((c : Thread nD τ).loc main_arg0)) (m ((c : Thread nD τ).loc main_arg1)) (m ((c : Thread nD τ).loc main_arg2)) ((win0_4.blk t).view.emb y) := by
    intro y
    obtain ⟨_, _, _, _, e⟩ := blocks t
    rw [out4, block_cum]
    congr 1
    have hy : (y 0).val < 1 := (y 0).isLt
    blk_ext [e, seq]
  exact key y

theorem array_dt : (dats m 0 c).arrAt 3 cfg0.N
      = Cert.SsdGatesReferenceIdeal.Read.val_main_v13 (F := Ideal) (m ((c : Thread nD τ).loc main_arg0)) (m ((c : Thread nD τ).loc main_arg1)) := by
  refine (dats m 0 c).arrAt_eq_of_covers 3 _ covered3 fun t hf y => ?_
  blk_simp
  rw [after0_3]
  have key : ∀ y : S1x64x4096.Idx, out0_3 (F := Ideal) (iblk m c 0 t) (iblk m c 1 t) (iblk m c 2 t) y
      = Cert.SsdGatesReferenceIdeal.Read.val_main_v13 (F := Ideal) (m ((c : Thread nD τ).loc main_arg0)) (m ((c : Thread nD τ).loc main_arg1)) ((win0_3.blk t).view.emb y) := by
    intro y
    obtain ⟨_, _, _, e, _⟩ := blocks t
    have h0 : (y 0).val < 1 := (y 0).isLt
    have hy : y = ix3 (0 : Fin 1) (⟨(y 1).val, (y 1).isLt⟩ : Fin 64) (⟨(y 2).val, (y 2).isLt⟩ : Fin 4096) := by
      funext a
      match a with
      | ⟨0, _⟩ => exact Subsingleton.elim (α := Fin 1) _ _
      | ⟨1, _⟩ => rfl
      | ⟨2, _⟩ => rfl
    have hb : (win0_3.blk t).view.emb y = ix3 (seq t) (⟨(y 1).val, (y 1).isLt⟩ : Fin 64) (⟨(y 2).val, (y 2).isLt⟩ : Fin 4096) := by
      blk_ext [e, seq]
    rw [hb, ref_dt]
    conv_lhs => rw [hy]
    rw [out3, x_block, b_block]
  exact key y

end Value

/-- The reference runs, leaves its arguments alone and every counter at zero. -/
theorem frame_ref : Cert.quiescent_SsdGatesReferenceIdeal := fun m g _ =>
  (θ_run Cert.SsdGatesReferenceIdeal.defs _ _).mono
    (fun r h => ⟨fun c => (h c).2.2, sem_eq_zero_of_no_sems (by decide) r.2⟩)
    (Cert.SsdGatesReferenceIdeal.Value.run (F := Ideal) m g)

/-- Both programs run, from equal arguments, to equal results with their arguments unchanged. -/
theorem algebraic : Cert.algebraic_SsdGatesIdeal_SsdGatesReferenceIdeal := by
  intro m g m' g' _ hag
  refine ⟨fun c => (dats m 0 c).arrAt 3 cfg0.N, fun c => (dats m 0 c).arrAt 4 cfg0.N, Cert.SsdGatesIdeal.Value.run_blocks m g, ?_⟩
  refine (θ_run Cert.SsdGatesReferenceIdeal.defs _ _).mono (fun r h c => ⟨?_, ?_, (h c).2.2⟩) (Cert.SsdGatesReferenceIdeal.Value.run (F := Ideal) m' g')
  · refine (h c).1.trans ?_
    rw [Cert.SsdGatesReferenceIdeal.Read.val_main_v13_eq, (hag c).1, (hag c).2.1]
    exact (array_dt m c).symm
  · refine (h c).2.1.trans ?_
    rw [Cert.SsdGatesReferenceIdeal.Read.val_main_v14_eq, (hag c).1, (hag c).2.1, (hag c).2.2]
    exact (array_cum m c).symm

end Cert.SsdGatesValue
-- ==== Proof.ConformerIdealRun.lean ====
module

public import proofs.«01_k».proof.Proof.Gen.ConformerIdeal.Frame.Runs

/-!
The conformer branch: what the body of one grid point does with its buffers, at the first block of a sequence (A) and at a later
one (B). The rows that the first loop convolves are stored whole before the second reads them, so nothing of what the scratch held
before is read.
-/

@[expose] public section

set_option maxRecDepth 16384

noncomputable section

namespace Cert.ConformerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem conf_writes_eq_junk {κ : Kind} {sp : Space} {s : Shape} {e : EltTy} {M : Memref sig κ sp s e} (hw : M.IsWhole)
    (f : M.view.ty.Contents (Elt F)) (L : List (View.Piece (Elt F) s e)) (h : ∀ y : s.Idx, ∃ p ∈ L, y ∈ p.1.set) :
    M.view.writes (Elt F) f L = M.view.writes (Elt F) M.view.junk L := by
  obtain ⟨b, rfl, rfl, rfl, hh⟩ := hw; cases hh
  funext y
  exact View.read_writes_apply_eq (View.whole b) f (View.whole b) (View.whole b).junk y L (h y)

theorem conf_strips_cover (𝒱 : Variants) (c : Dev nD) (bd : Option 𝒱.V) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (X_arg5 : BufTy.Contents (Elt F) arg5.view.ty) (X_arg6 : BufTy.Contents (Elt F) arg6.view.ty) (X_arg10 : BufTy.Contents (Elt F) arg10.view.ty) (y : S256x4096.Idx) :
    ∃ p ∈ pb_k0_t1 (F := F) 𝒱 c bd i arg2 harg2 arg3 harg3 arg4 harg4 arg5 harg5 arg6 harg6 arg7 harg7 arg8 harg8 arg9 harg9 arg10 harg10 arg11 harg11 X_arg5 X_arg6 X_arg10 (Scf.trips k0_t1_loop.lb k0_t1_loop.ub k0_t1_loop.st), y ∈ p.1.set :=
  View.cover_of_tiledL (pb_k0_t1 (F := F) 𝒱 c bd i arg2 harg2 arg3 harg3 arg4 harg4 arg5 harg5 arg6 harg6 arg7 harg7 arg8 harg8 arg9 harg9 arg10 harg10 arg11 harg11 X_arg5 X_arg6 X_arg10 (Scf.trips k0_t1_loop.lb k0_t1_loop.ub k0_t1_loop.st)) S128x128.size (by sl_kernel_rfl) y
set_option maxHeartbeats 4000000 in
noncomputable def kernelRun0_A (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : cond0_0 i) (hc1 : ¬cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) :
    Σ' (L7 : List (View.Piece (Elt F) S1x256x4096 .bf16)), { LS0 : List (View.Piece (Elt F) S288x4096 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ d, owns (c : Thread nD τ) arg11 fullShare d)) -∗ K ⟨⟩))
          ⊢ wp frame (wpE (defs₀ (F := F)) Variants.none c none) E (cc0_conformer_conv i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_conformer_conv_eq_skeleton]; unfold cc0_conformer_conv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    rw [conf_writes_eq_junk harg11 fs1 _ (conf_strips_cover _ _ _ _ _ _ _ _ _ _ _ _ _ _ _ _ _ _ _ _ _ _ _ _ _ _ _)]
    isplitl [H7]; · iexists _; iexact H7
    isplitl [HS0]; · iexists _; iexact HS0
    iexists _, _; isplitr; swap; · iexact HS1
    ipureintro; rfl
set_option maxHeartbeats 4000000 in
noncomputable def kernelRun0_B (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : ¬cond0_0 i) (hc1 : cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) (xs0 : Vec F S288x4096 .f32) :
    Σ' (L7 : List (View.Piece (Elt F) S1x256x4096 .bf16)), { LS0 : List (View.Piece (Elt F) S288x4096 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ d, owns (c : Thread nD τ) arg11 fullShare d)) -∗ K ⟨⟩))
          ⊢ wp frame (wpE (defs₀ (F := F)) Variants.none c none) E (cc0_conformer_conv i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_conformer_conv_eq_skeleton]; unfold cc0_conformer_conv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    rw [conf_writes_eq_junk harg11 fs1 _ (conf_strips_cover _ _ _ _ _ _ _ _ _ _ _ _ _ _ _ _ _ _ _ _ _ _ _ _ _ _ _)]
    isplitl [H7]; · iexists _; iexact H7
    isplitl [HS0]; · iexists _; iexact HS0
    iexists _, _; isplitr; swap; · iexact HS1
    ipureintro; rfl

end Cert.ConformerIdeal.Gen

end
-- ==== Proof.ConformerIdealFrame.lean ====
module

public import proofs.«01_k».proof.Proof.ConformerIdealRun
public import Idealize.ShloMosaic.Lib.Claim

/-!
The conformer branch: what the output and the carried rows hold after each grid point, and that the program runs.
-/

@[expose] public section

set_option maxRecDepth 16384

noncomputable section

namespace Cert.ConformerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem cover0_A_7 (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : cond0_0 i) (hc1 : ¬cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) (y : S1x256x4096.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S1x16x4096.size (by sl_kernel_rfl) y

def out0_A_7 (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : cond0_0 i) (hc1 : ¬cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) : Vec F S1x256x4096 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)

theorem scover0_A_0 (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : cond0_0 i) (hc1 : ¬cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) (y : S288x4096.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledBy (kernelRun0_A c i arg2 harg2 arg3 harg3 arg4 harg4 arg5 harg5 arg6 harg6 arg7 harg7 arg8 harg8 arg9 harg9 arg10 harg10 arg11 harg11 hc0 hc1 x0 x1 x2 x3 x4 x5 x6).2.1 ![32, 4096] (by sl_kernel_rfl) y

def sout0_A_0 (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : cond0_0 i) (hc1 : ¬cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) : Vec F S288x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

theorem cover0_B_7 (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : ¬cond0_0 i) (hc1 : cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) (xs0 : Vec F S288x4096 .f32) (y : S1x256x4096.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S1x16x4096.size (by sl_kernel_rfl) y

def out0_B_7 (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : ¬cond0_0 i) (hc1 : cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) (xs0 : Vec F S288x4096 .f32) : Vec F S1x256x4096 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)

theorem scover0_B_0 (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : ¬cond0_0 i) (hc1 : cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) (xs0 : Vec F S288x4096 .f32) (y : S288x4096.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledBy (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1 ![32, 4096] (by sl_kernel_rfl) y

def sout0_B_0 (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (hc0 : ¬cond0_0 i) (hc1 : cond0_1 i)
    (x0 : Vec F S1x256x4096 .bf16) (x1 : Vec F S1x256x4096 .bf16) (x2 : Vec F S1x256x4096 .bf16) (x3 : Vec F S32x4096 .f32) (x4 : Vec F S1x4096 .f32) (x5 : Vec F S1x4096 .f32) (x6 : Vec F S1x4096 .f32) (xs0 : Vec F S288x4096 .f32) : Vec F S288x4096 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1)

def outsAt0 (c : Dev nD) : (n : ℕ) → n < cfg0.N → Vec F S1x256x4096 .bf16 × Vec F S288x4096 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 16 = 0 then
      if h1 : 1 ≤ (n + 1) % 16 then
        False.elim (by have hN : n + 1 < 64 := lt_of_lt_of_eq hn (show cfg0.N = 64 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : 1 ≤ (n + 1) % 16 then
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)
      else
        False.elim (by have hN : n + 1 < 64 := lt_of_lt_of_eq hn (show cfg0.N = 64 from N_0); omega)

theorem outsAt0_A (c : Dev nD) (t : Fin cfg0.N) (h0 : t.val % 16 = 0) (h1 : ¬1 ≤ t.val % 16) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : 1 ≤ t.val % 16) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases h1 : 1 ≤ t.val % 16
    · exfalso; omega
    · by_cases hz : t.val = 0
      · rw [PhiS_castSucc m c t, PhiS_zero m c _ _ hz, PhiA0_eq]
        rw [outsAt0_A m c t h0 h1]
        unfold out0_A_7 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        iintro ⟨H0, H1, H2, H3, H4, H5, H6, ⟨%e7, H7⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_7 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexists _; iexact HS0
        isplitl [HS1]; · iexact HS1
        iintro ⟨H0, H1, H2, H3, H4, H5, H6, ⟨%e7, H7⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
  · by_cases h1 : 1 ≤ t.val % 16
    · by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_7 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        iintro ⟨H0, H1, H2, H3, H4, H5, H6, ⟨%e7, H7⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 64 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ConformerIdeal.Gen

end
-- ==== Proof.ConformerOps.lean ====
/- The conformer branch's convolution at an entry: what a strip of 128 channels adds, stage by stage, in terms of the rows, the weights
   and the bias that it reads. -/
module

public import proofs.«01_k».proof.Proof.ConformerIdealRun
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384
noncomputable section

namespace Cert.ConformerOps

open Cert.ConformerIdeal Cert.ConformerIdeal.Gen Idealize.ShloMosaic Idealize.ShloMosaic.TcCoe Idealize.ShloMosaic.Tactic

/-! ## What a strip reads -/

theorem bound (k : Fin k0_t1_loop.trips) : k.val < 32 := Nat.lt_of_lt_of_le k.isLt k0_t1_abs.2.1

/-- The channel of the array for a lane of a strip. -/
def col (k : Fin k0_t1_loop.trips) (l : Fin 128) : Fin 4096 := ⟨128 * k.val + l.val, by have := bound k; omega⟩

/-- A tap's weight. -/
def wAt (X : Vec Ideal S32x4096 .f32) (t : ℕ) (j : Fin 4096) : EReal := X (ix2 ⟨t % 32, Nat.mod_lt _ (by omega)⟩ j)

/-- A row of the buffer: 32 rows of the block before, then the block's own. -/
def bufAt (X : Vec Ideal S288x4096 .f32) (n : ℕ) (j : Fin 4096) : EReal := X (ix2 ⟨n % 288, Nat.mod_lt _ (by omega)⟩ j)

/-- Where a strip's channels begin. -/
theorem off_col (k : Fin k0_t1_loop.trips) : BitVec.toNat (Scalar.indexCast (Scalar.muli (Scf.iv 0#32 1#32 k.val) 128#32)) = 128 * k.val :=
  (by decide +kernel : ∀ k : Fin k0_t1_loop.trips, BitVec.toNat (Scalar.indexCast (Scalar.muli (Scf.iv 0#32 1#32 k.val) 128#32)) = 128 * k.val) k

theorem ld_bias (X : Vec Ideal S1x4096 .f32) (k : Fin k0_t1_loop.trips) (n : ℕ) (inb) (l : Fin 128) :
    View.ld X (Rect.unit (s := S1x4096) ![n, BitVec.toNat (Scalar.indexCast (Scalar.muli (Scf.iv 0#32 1#32 k.val) 128#32))] ![1, 128] inb) (ix2 (0 : Fin 1) l) = X (ix2 0 (col k l)) := by
  have hn : n + 1 ≤ 1 := inb 0
  have hc := off_col k
  show X ((Rect.unit (s := S1x4096) _ ![1, 128] inb).emb (ix2 (0 : Fin 1) l)) = X _
  congr 1
  funext a
  refine Fin.ext ((ValueKit.rect_emb_unit_val (s := S1x4096) _ ![1, 128] inb (ix2 (0 : Fin 1) l) a).trans ?_)
  match a with
  | ⟨0, _⟩ => show n + 0 = 0; omega
  | ⟨1, _⟩ => show BitVec.toNat _ + l.val = 128 * k.val + l.val; omega

theorem ld_w (X : Vec Ideal S32x4096 .f32) (k : Fin k0_t1_loop.trips) (n : ℕ) (inb) (l : Fin 128) :
    View.ld X (Rect.unit (s := S32x4096) ![n, BitVec.toNat (Scalar.indexCast (Scalar.muli (Scf.iv 0#32 1#32 k.val) 128#32))] ![1, 128] inb) (ix2 (0 : Fin 1) l) = wAt X n (col k l) := by
  have hn : n + 1 ≤ 32 := inb 0
  have hc := off_col k
  show X ((Rect.unit (s := S32x4096) _ ![1, 128] inb).emb (ix2 (0 : Fin 1) l)) = X _
  congr 1
  funext a
  refine Fin.ext ((ValueKit.rect_emb_unit_val (s := S32x4096) _ ![1, 128] inb (ix2 (0 : Fin 1) l) a).trans ?_)
  match a with
  | ⟨0, _⟩ => show n + 0 = n % 32; omega
  | ⟨1, _⟩ => show BitVec.toNat _ + l.val = 128 * k.val + l.val; omega

theorem ld_128 (X : Vec Ideal S288x4096 .f32) (k : Fin k0_t1_loop.trips) (n : ℕ) (inb) (r : Fin 128) (l : Fin 128) :
    View.ld X (Rect.unit (s := S288x4096) ![n, BitVec.toNat (Scalar.indexCast (Scalar.muli (Scf.iv 0#32 1#32 k.val) 128#32))] ![128, 128] inb) (ix2 r l) = bufAt X (r.val + n) (col k l) := by
  have hn : n + 128 ≤ 288 := inb 0
  have hc := off_col k
  show X ((Rect.unit (s := S288x4096) _ ![128, 128] inb).emb (ix2 r l)) = X _
  congr 1
  funext a
  refine Fin.ext ((ValueKit.rect_emb_unit_val (s := S288x4096) _ ![128, 128] inb (ix2 r l) a).trans ?_)
  match a with
  | ⟨0, _⟩ => show n + r.val = (r.val + n) % 288; omega
  | ⟨1, _⟩ => show BitVec.toNat _ + l.val = 128 * k.val + l.val; omega

theorem ld_136 (X : Vec Ideal S288x4096 .f32) (k : Fin k0_t1_loop.trips) (n : ℕ) (inb) (r : Fin 136) (l : Fin 128) :
    View.ld X (Rect.unit (s := S288x4096) ![n, BitVec.toNat (Scalar.indexCast (Scalar.muli (Scf.iv 0#32 1#32 k.val) 128#32))] ![136, 128] inb) (ix2 r l) = bufAt X (r.val + n) (col k l) := by
  have hn : n + 136 ≤ 288 := inb 0
  have hc := off_col k
  show X ((Rect.unit (s := S288x4096) _ ![136, 128] inb).emb (ix2 r l)) = X _
  congr 1
  funext a
  refine Fin.ext ((ValueKit.rect_emb_unit_val (s := S288x4096) _ ![136, 128] inb (ix2 r l) a).trans ?_)
  match a with
  | ⟨0, _⟩ => show n + r.val = (r.val + n) % 288; omega
  | ⟨1, _⟩ => show BitVec.toNat _ + l.val = 128 * k.val + l.val; omega

/-! ## The stages at an entry -/

theorem pay4 (v550 : Vec Ideal S128x128 .f32) (r : Fin 128) (l : Fin 128) :
    k0_pay4 (F := Ideal) v550 (ix2 r l) = v550 (ix2 r l) := by
  pointwise [k0_pay4]
  first | done | rfl | simp only [Nat.add_comm]

theorem pay6 (v28 : Vec Ideal S1x128 .f32) (v33 : Vec Ideal S1x128 .f32) (v36 : Vec Ideal S128x128 .f32) (v40 : Vec Ideal S1x128 .f32) (v43 : Vec Ideal S128x128 .f32) (v48 : Vec Ideal S1x128 .f32) (v51 : Vec Ideal S128x128 .f32) (v56 : Vec Ideal S1x128 .f32) (v59 : Vec Ideal S128x128 .f32) (r : Fin 128) (l : Fin 128) :
    k0_pay6 (F := Ideal) v28 v33 v36 v40 v43 v48 v51 v56 v59 (ix2 r l) = (v28 (ix2 (0 : Fin 1) l) + ((((v33 (ix2 (0 : Fin 1) l) * v36 (ix2 r l)) + (v40 (ix2 (0 : Fin 1) l) * v43 (ix2 r l))) + (v48 (ix2 (0 : Fin 1) l) * v51 (ix2 r l))) + (v56 (ix2 (0 : Fin 1) l) * v59 (ix2 r l)))) := by
  pointwise [k0_pay6]
  first | done | rfl | simp only [Nat.add_comm]

theorem pay7 (v65 : Vec Ideal S1x128 .f32) (v68 : Vec Ideal S136x128 .f32) (r : Fin 136) (l : Fin 128) :
    k0_pay7 (F := Ideal) v65 v68 (ix2 r l) = (v65 (ix2 (0 : Fin 1) l) * v68 (ix2 r l)) := by
  pointwise [k0_pay7]
  first | done | rfl | simp only [Nat.add_comm]

theorem pay8 (v63 : Vec Ideal S128x128 .f32) (v70 : Vec Ideal S136x128 .f32) (v72 : Vec Ideal S1x128 .f32) (v75 : Vec Ideal S136x128 .f32) (v80 : Vec Ideal S1x128 .f32) (v83 : Vec Ideal S136x128 .f32) (r : Fin 128) (l : Fin 128) :
    k0_pay8 (F := Ideal) v63 v70 v72 v75 v80 v83 (ix2 r l) = (v63 (ix2 r l) + ((v70 (ix2 (⟨r.val + 1, by omega⟩ : Fin 136) l) + (v72 (ix2 (0 : Fin 1) l) * v75 (ix2 (⟨r.val + 1, by omega⟩ : Fin 136) l))) + (v80 (ix2 (0 : Fin 1) l) * v83 (ix2 (⟨r.val + 1, by omega⟩ : Fin 136) l)))) := by
  pointwise [k0_pay8]
  first | done | rfl | simp only [Nat.add_comm]

theorem pay9 (v90 : Vec Ideal S1x128 .f32) (v93 : Vec Ideal S136x128 .f32) (v97 : Vec Ideal S1x128 .f32) (v100 : Vec Ideal S136x128 .f32) (v105 : Vec Ideal S1x128 .f32) (v108 : Vec Ideal S136x128 .f32) (v113 : Vec Ideal S1x128 .f32) (v116 : Vec Ideal S136x128 .f32) (r : Fin 136) (l : Fin 128) :
    k0_pay9 (F := Ideal) v90 v93 v97 v100 v105 v108 v113 v116 (ix2 r l) = ((((v90 (ix2 (0 : Fin 1) l) * v93 (ix2 r l)) + (v97 (ix2 (0 : Fin 1) l) * v100 (ix2 r l))) + (v105 (ix2 (0 : Fin 1) l) * v108 (ix2 r l))) + (v113 (ix2 (0 : Fin 1) l) * v116 (ix2 r l))) := by
  pointwise [k0_pay9]
  first | done | rfl | simp only [Nat.add_comm]

theorem pay10 (v88 : Vec Ideal S128x128 .f32) (v119 : Vec Ideal S136x128 .f32) (v123 : Vec Ideal S1x128 .f32) (v126 : Vec Ideal S136x128 .f32) (v130 : Vec Ideal S1x128 .f32) (v133 : Vec Ideal S136x128 .f32) (v138 : Vec Ideal S1x128 .f32) (v141 : Vec Ideal S136x128 .f32) (v146 : Vec Ideal S1x128 .f32) (v149 : Vec Ideal S136x128 .f32) (r : Fin 128) (l : Fin 128) :
    k0_pay10 (F := Ideal) v88 v119 v123 v126 v130 v133 v138 v141 v146 v149 (ix2 r l) = ((v88 (ix2 r l) + v119 (ix2 (⟨r.val + 2, by omega⟩ : Fin 136) l)) + ((((v123 (ix2 (0 : Fin 1) l) * v126 (ix2 (⟨r.val + 3, by omega⟩ : Fin 136) l)) + (v130 (ix2 (0 : Fin 1) l) * v133 (ix2 (⟨r.val + 3, by omega⟩ : Fin 136) l))) + (v138 (ix2 (0 : Fin 1) l) * v141 (ix2 (⟨r.val + 3, by omega⟩ : Fin 136) l))) + (v146 (ix2 (0 : Fin 1) l) * v149 (ix2 (⟨r.val + 3, by omega⟩ : Fin 136) l)))) := by
  pointwise [k0_pay10]
  first | done | rfl | simp only [Nat.add_comm]

theorem pay11 (v156 : Vec Ideal S1x128 .f32) (v159 : Vec Ideal S136x128 .f32) (r : Fin 136) (l : Fin 128) :
    k0_pay11 (F := Ideal) v156 v159 (ix2 r l) = (v156 (ix2 (0 : Fin 1) l) * v159 (ix2 r l)) := by
  pointwise [k0_pay11]
  first | done | rfl | simp only [Nat.add_comm]

theorem pay12 (v163 : Vec Ideal S1x128 .f32) (r : Fin 136) (l : Fin 128) :
    k0_pay12 (F := Ideal) v163 (ix2 r l) = v163 (ix2 (0 : Fin 1) l) := by
  pointwise [k0_pay12]
  first | done | rfl | simp only [Nat.add_comm]

theorem pay13 (v154 : Vec Ideal S128x128 .f32) (v161 : Vec Ideal S136x128 .f32) (v166 : Vec Ideal S136x128 .f32) (v167 : Vec Ideal S136x128 .f32) (v171 : Vec Ideal S1x128 .f32) (v174 : Vec Ideal S136x128 .f32) (v179 : Vec Ideal S1x128 .f32) (v182 : Vec Ideal S136x128 .f32) (r : Fin 128) (l : Fin 128) :
    k0_pay13 (F := Ideal) v154 v161 v166 v167 v171 v174 v179 v182 (ix2 r l) = (v154 (ix2 r l) + (((v161 (ix2 (⟨r.val + 4, by omega⟩ : Fin 136) l) + (v167 (ix2 (⟨r.val + 4, by omega⟩ : Fin 136) l) * v166 (ix2 (⟨r.val + 4, by omega⟩ : Fin 136) l))) + (v171 (ix2 (0 : Fin 1) l) * v174 (ix2 (⟨r.val + 4, by omega⟩ : Fin 136) l))) + (v179 (ix2 (0 : Fin 1) l) * v182 (ix2 (⟨r.val + 4, by omega⟩ : Fin 136) l)))) := by
  pointwise [k0_pay13]
  first | done | rfl | simp only [Nat.add_comm]

theorem pay14 (v189 : Vec Ideal S1x128 .f32) (v192 : Vec Ideal S136x128 .f32) (v196 : Vec Ideal S1x128 .f32) (v199 : Vec Ideal S136x128 .f32) (v204 : Vec Ideal S1x128 .f32) (v207 : Vec Ideal S136x128 .f32) (r : Fin 136) (l : Fin 128) :
    k0_pay14 (F := Ideal) v189 v192 v196 v199 v204 v207 (ix2 r l) = (((v189 (ix2 (0 : Fin 1) l) * v192 (ix2 r l)) + (v196 (ix2 (0 : Fin 1) l) * v199 (ix2 r l))) + (v204 (ix2 (0 : Fin 1) l) * v207 (ix2 r l))) := by
  pointwise [k0_pay14]
  first | done | rfl | simp only [Nat.add_comm]

theorem pay15 (v212 : Vec Ideal S1x128 .f32) (l : Fin 128) :
    k0_pay15 (F := Ideal) v212 (ix2 (0 : Fin 1) l) = v212 (ix2 (0 : Fin 1) l) := by
  pointwise [k0_pay15]
  first | done | rfl | simp only [Nat.add_comm]

theorem pay16 (v187 : Vec Ideal S128x128 .f32) (v210 : Vec Ideal S136x128 .f32) (v213 : Vec Ideal S1x128 .f32) (v215 : Vec Ideal S136x128 .f32) (v222 : Vec Ideal S1x128 .f32) (v225 : Vec Ideal S136x128 .f32) (v229 : Vec Ideal S1x128 .f32) (v232 : Vec Ideal S136x128 .f32) (v237 : Vec Ideal S1x128 .f32) (v240 : Vec Ideal S136x128 .f32) (v245 : Vec Ideal S1x128 .f32) (v248 : Vec Ideal S136x128 .f32) (r : Fin 128) (l : Fin 128) :
    k0_pay16 (F := Ideal) v187 v210 v213 v215 v222 v225 v229 v232 v237 v240 v245 v248 (ix2 r l) = ((v187 (ix2 r l) + (v210 (ix2 (⟨r.val + 5, by omega⟩ : Fin 136) l) + (v213 (ix2 (0 : Fin 1) l) * v215 (ix2 (⟨r.val + 5, by omega⟩ : Fin 136) l)))) + ((((v222 (ix2 (0 : Fin 1) l) * v225 (ix2 (⟨r.val + 6, by omega⟩ : Fin 136) l)) + (v229 (ix2 (0 : Fin 1) l) * v232 (ix2 (⟨r.val + 6, by omega⟩ : Fin 136) l))) + (v237 (ix2 (0 : Fin 1) l) * v240 (ix2 (⟨r.val + 6, by omega⟩ : Fin 136) l))) + (v245 (ix2 (0 : Fin 1) l) * v248 (ix2 (⟨r.val + 6, by omega⟩ : Fin 136) l)))) := by
  pointwise [k0_pay16]
  first | done | rfl | simp only [Nat.add_comm]

theorem pay17 (v255 : Vec Ideal S1x128 .f32) (v258 : Vec Ideal S136x128 .f32) (r : Fin 136) (l : Fin 128) :
    k0_pay17 (F := Ideal) v255 v258 (ix2 r l) = (v255 (ix2 (0 : Fin 1) l) * v258 (ix2 r l)) := by
  pointwise [k0_pay17]
  first | done | rfl | simp only [Nat.add_comm]

theorem pay18 (v262 : Vec Ideal S1x128 .f32) (l : Fin 128) :
    k0_pay18 (F := Ideal) v262 (ix2 (0 : Fin 1) l) = v262 (ix2 (0 : Fin 1) l) := by
  pointwise [k0_pay18]
  first | done | rfl | simp only [Nat.add_comm]

theorem pay19 (v253 : Vec Ideal S128x128 .f32) (v260 : Vec Ideal S136x128 .f32) (v263 : Vec Ideal S1x128 .f32) (v265 : Vec Ideal S136x128 .f32) (v270 : Vec Ideal S1x128 .f32) (v273 : Vec Ideal S136x128 .f32) (v278 : Vec Ideal S1x128 .f32) (v281 : Vec Ideal S136x128 .f32) (r : Fin 128) (l : Fin 128) :
    k0_pay19 (F := Ideal) v253 v260 v263 v265 v270 v273 v278 v281 (ix2 r l) = (v253 (ix2 r l) + (((v260 (ix2 (⟨r.val + 7, by omega⟩ : Fin 136) l) + (v263 (ix2 (0 : Fin 1) l) * v265 (ix2 (⟨r.val + 7, by omega⟩ : Fin 136) l))) + (v270 (ix2 (0 : Fin 1) l) * v273 (ix2 (⟨r.val + 7, by omega⟩ : Fin 136) l))) + (v278 (ix2 (0 : Fin 1) l) * v281 (ix2 (⟨r.val + 7, by omega⟩ : Fin 136) l)))) := by
  pointwise [k0_pay19]
  first | done | rfl | simp only [Nat.add_comm]

theorem pay20 (v292 : Vec Ideal S1x128 .f32) (r : Fin 128) (l : Fin 128) :
    k0_pay20 (F := Ideal) v292 (ix2 r l) = v292 (ix2 (0 : Fin 1) l) := by
  pointwise [k0_pay20]
  first | done | rfl | simp only [Nat.add_comm]

theorem pay21 (v297 : Vec Ideal S1x128 .f32) (v300 : Vec Ideal S128x128 .f32) (v304 : Vec Ideal S1x128 .f32) (v307 : Vec Ideal S128x128 .f32) (r : Fin 128) (l : Fin 128) :
    k0_pay21 (F := Ideal) v297 v300 v304 v307 (ix2 r l) = ((v297 (ix2 (0 : Fin 1) l) * v300 (ix2 r l)) + (v304 (ix2 (0 : Fin 1) l) * v307 (ix2 r l))) := by
  pointwise [k0_pay21]
  first | done | rfl | simp only [Nat.add_comm]

theorem pay22 (v295 : Vec Ideal S128x128 .f32) (v310 : Vec Ideal S128x128 .f32) (v312 : Vec Ideal S1x128 .f32) (v315 : Vec Ideal S128x128 .f32) (v320 : Vec Ideal S1x128 .f32) (v323 : Vec Ideal S128x128 .f32) (v329 : Vec Ideal S1x128 .f32) (v332 : Vec Ideal S136x128 .f32) (v336 : Vec Ideal S1x128 .f32) (v339 : Vec Ideal S136x128 .f32) (v344 : Vec Ideal S1x128 .f32) (v347 : Vec Ideal S136x128 .f32) (r : Fin 128) (l : Fin 128) :
    k0_pay22 (F := Ideal) v295 v310 v312 v315 v320 v323 v329 v332 v336 v339 v344 v347 (ix2 r l) = ((v295 (ix2 r l) + ((v310 (ix2 r l) + (v312 (ix2 (0 : Fin 1) l) * v315 (ix2 r l))) + (v320 (ix2 (0 : Fin 1) l) * v323 (ix2 r l)))) + (((v329 (ix2 (0 : Fin 1) l) * v332 (ix2 (⟨r.val + 1, by omega⟩ : Fin 136) l)) + (v336 (ix2 (0 : Fin 1) l) * v339 (ix2 (⟨r.val + 1, by omega⟩ : Fin 136) l))) + (v344 (ix2 (0 : Fin 1) l) * v347 (ix2 (⟨r.val + 1, by omega⟩ : Fin 136) l)))) := by
  pointwise [k0_pay22]
  first | done | rfl | simp only [Nat.add_comm]

theorem pay23 (v354 : Vec Ideal S1x128 .f32) (v357 : Vec Ideal S136x128 .f32) (r : Fin 136) (l : Fin 128) :
    k0_pay23 (F := Ideal) v354 v357 (ix2 r l) = (v354 (ix2 (0 : Fin 1) l) * v357 (ix2 r l)) := by
  pointwise [k0_pay23]
  first | done | rfl | simp only [Nat.add_comm]

theorem pay24 (v352 : Vec Ideal S128x128 .f32) (v359 : Vec Ideal S136x128 .f32) (v361 : Vec Ideal S1x128 .f32) (v364 : Vec Ideal S136x128 .f32) (v369 : Vec Ideal S1x128 .f32) (v372 : Vec Ideal S136x128 .f32) (v377 : Vec Ideal S1x128 .f32) (v380 : Vec Ideal S136x128 .f32) (r : Fin 128) (l : Fin 128) :
    k0_pay24 (F := Ideal) v352 v359 v361 v364 v369 v372 v377 v380 (ix2 r l) = (v352 (ix2 r l) + (((v359 (ix2 (⟨r.val + 2, by omega⟩ : Fin 136) l) + (v361 (ix2 (0 : Fin 1) l) * v364 (ix2 (⟨r.val + 2, by omega⟩ : Fin 136) l))) + (v369 (ix2 (0 : Fin 1) l) * v372 (ix2 (⟨r.val + 2, by omega⟩ : Fin 136) l))) + (v377 (ix2 (0 : Fin 1) l) * v380 (ix2 (⟨r.val + 2, by omega⟩ : Fin 136) l)))) := by
  pointwise [k0_pay24]
  first | done | rfl | simp only [Nat.add_comm]

theorem pay25 (v387 : Vec Ideal S1x128 .f32) (v390 : Vec Ideal S136x128 .f32) (v394 : Vec Ideal S1x128 .f32) (v397 : Vec Ideal S136x128 .f32) (v402 : Vec Ideal S1x128 .f32) (v405 : Vec Ideal S136x128 .f32) (r : Fin 136) (l : Fin 128) :
    k0_pay25 (F := Ideal) v387 v390 v394 v397 v402 v405 (ix2 r l) = (((v387 (ix2 (0 : Fin 1) l) * v390 (ix2 r l)) + (v394 (ix2 (0 : Fin 1) l) * v397 (ix2 r l))) + (v402 (ix2 (0 : Fin 1) l) * v405 (ix2 r l))) := by
  pointwise [k0_pay25]
  first | done | rfl | simp only [Nat.add_comm]

theorem pay26 (v385 : Vec Ideal S128x128 .f32) (v408 : Vec Ideal S136x128 .f32) (v410 : Vec Ideal S1x128 .f32) (v413 : Vec Ideal S136x128 .f32) (v420 : Vec Ideal S1x128 .f32) (v423 : Vec Ideal S136x128 .f32) (v427 : Vec Ideal S1x128 .f32) (v430 : Vec Ideal S136x128 .f32) (v435 : Vec Ideal S1x128 .f32) (v438 : Vec Ideal S136x128 .f32) (v443 : Vec Ideal S1x128 .f32) (v446 : Vec Ideal S136x128 .f32) (r : Fin 128) (l : Fin 128) :
    k0_pay26 (F := Ideal) v385 v408 v410 v413 v420 v423 v427 v430 v435 v438 v443 v446 (ix2 r l) = ((v385 (ix2 r l) + (v408 (ix2 (⟨r.val + 3, by omega⟩ : Fin 136) l) + (v410 (ix2 (0 : Fin 1) l) * v413 (ix2 (⟨r.val + 3, by omega⟩ : Fin 136) l)))) + ((((v420 (ix2 (0 : Fin 1) l) * v423 (ix2 (⟨r.val + 4, by omega⟩ : Fin 136) l)) + (v427 (ix2 (0 : Fin 1) l) * v430 (ix2 (⟨r.val + 4, by omega⟩ : Fin 136) l))) + (v435 (ix2 (0 : Fin 1) l) * v438 (ix2 (⟨r.val + 4, by omega⟩ : Fin 136) l))) + (v443 (ix2 (0 : Fin 1) l) * v446 (ix2 (⟨r.val + 4, by omega⟩ : Fin 136) l)))) := by
  pointwise [k0_pay26]
  first | done | rfl | simp only [Nat.add_comm]

theorem pay27 (v453 : Vec Ideal S1x128 .f32) (l : Fin 128) :
    k0_pay27 (F := Ideal) v453 (ix2 (0 : Fin 1) l) = v453 (ix2 (0 : Fin 1) l) := by
  pointwise [k0_pay27]
  first | done | rfl | simp only [Nat.add_comm]

theorem pay28 (v451 : Vec Ideal S128x128 .f32) (v454 : Vec Ideal S1x128 .f32) (v456 : Vec Ideal S136x128 .f32) (v460 : Vec Ideal S1x128 .f32) (v463 : Vec Ideal S136x128 .f32) (v468 : Vec Ideal S1x128 .f32) (v471 : Vec Ideal S136x128 .f32) (v476 : Vec Ideal S1x128 .f32) (v479 : Vec Ideal S136x128 .f32) (r : Fin 128) (l : Fin 128) :
    k0_pay28 (F := Ideal) v451 v454 v456 v460 v463 v468 v471 v476 v479 (ix2 r l) = (v451 (ix2 r l) + ((((v454 (ix2 (0 : Fin 1) l) * v456 (ix2 (⟨r.val + 5, by omega⟩ : Fin 136) l)) + (v460 (ix2 (0 : Fin 1) l) * v463 (ix2 (⟨r.val + 5, by omega⟩ : Fin 136) l))) + (v468 (ix2 (0 : Fin 1) l) * v471 (ix2 (⟨r.val + 5, by omega⟩ : Fin 136) l))) + (v476 (ix2 (0 : Fin 1) l) * v479 (ix2 (⟨r.val + 5, by omega⟩ : Fin 136) l)))) := by
  pointwise [k0_pay28]
  first | done | rfl | simp only [Nat.add_comm]

theorem pay29 (v486 : Vec Ideal S1x128 .f32) (v489 : Vec Ideal S136x128 .f32) (v493 : Vec Ideal S1x128 .f32) (v496 : Vec Ideal S136x128 .f32) (r : Fin 136) (l : Fin 128) :
    k0_pay29 (F := Ideal) v486 v489 v493 v496 (ix2 r l) = ((v486 (ix2 (0 : Fin 1) l) * v489 (ix2 r l)) + (v493 (ix2 (0 : Fin 1) l) * v496 (ix2 r l))) := by
  pointwise [k0_pay29]
  first | done | rfl | simp only [Nat.add_comm]

theorem pay30 (v501 : Vec Ideal S1x128 .f32) (l : Fin 128) :
    k0_pay30 (F := Ideal) v501 (ix2 (0 : Fin 1) l) = v501 (ix2 (0 : Fin 1) l) := by
  pointwise [k0_pay30]
  first | done | rfl | simp only [Nat.add_comm]

theorem pay31 (v484 : Vec Ideal S128x128 .f32) (v499 : Vec Ideal S136x128 .f32) (v502 : Vec Ideal S1x128 .f32) (v504 : Vec Ideal S136x128 .f32) (v509 : Vec Ideal S1x128 .f32) (v512 : Vec Ideal S136x128 .f32) (v519 : Vec Ideal S1x128 .f32) (v522 : Vec Ideal S136x128 .f32) (v526 : Vec Ideal S1x128 .f32) (v529 : Vec Ideal S136x128 .f32) (v534 : Vec Ideal S1x128 .f32) (v537 : Vec Ideal S136x128 .f32) (v542 : Vec Ideal S1x128 .f32) (v545 : Vec Ideal S136x128 .f32) (r : Fin 128) (l : Fin 128) :
    k0_pay31 (F := Ideal) v484 v499 v502 v504 v509 v512 v519 v522 v526 v529 v534 v537 v542 v545 (ix2 r l) = ((v484 (ix2 r l) + ((v499 (ix2 (⟨r.val + 6, by omega⟩ : Fin 136) l) + (v502 (ix2 (0 : Fin 1) l) * v504 (ix2 (⟨r.val + 6, by omega⟩ : Fin 136) l))) + (v509 (ix2 (0 : Fin 1) l) * v512 (ix2 (⟨r.val + 6, by omega⟩ : Fin 136) l)))) + ((((v519 (ix2 (0 : Fin 1) l) * v522 (ix2 (⟨r.val + 7, by omega⟩ : Fin 136) l)) + (v526 (ix2 (0 : Fin 1) l) * v529 (ix2 (⟨r.val + 7, by omega⟩ : Fin 136) l))) + (v534 (ix2 (0 : Fin 1) l) * v537 (ix2 (⟨r.val + 7, by omega⟩ : Fin 136) l))) + (v542 (ix2 (0 : Fin 1) l) * v545 (ix2 (⟨r.val + 7, by omega⟩ : Fin 136) l)))) := by
  pointwise [k0_pay31]
  first | done | rfl | simp only [Nat.add_comm]

/-! ## The convolution -/

/-- The convolved row `n` of a block: the bias and 31 taps. -/
def convAt (W : Vec Ideal S32x4096 .f32) (B : Vec Ideal S1x4096 .f32) (X : Vec Ideal S288x4096 .f32) (n : ℕ) (j : Fin 4096) : EReal :=
  B (ix2 0 j) + ∑ t ∈ Finset.range 31, wAt W t j * bufAt X (n + (t + 2)) j

/-- The convolved block. -/
def conv (W : Vec Ideal S32x4096 .f32) (B : Vec Ideal S1x4096 .f32) (X : Vec Ideal S288x4096 .f32) (y : S256x4096.Idx) : EReal :=
  convAt W B X (y 0).val ⟨(y 1).val, (y 1).isLt⟩

theorem emb_strip (k : Fin k0_t1_loop.trips) (n : ℕ) (inb) (hn : n + 128 ≤ 256) (r l : Fin 128) :
    (Rect.unit (s := S256x4096) ![n, BitVec.toNat (Scalar.indexCast (Scalar.muli (Scf.iv 0#32 1#32 k.val) 128#32))] ![128, 128] inb).emb (ix2 r l)
      = ix2 (⟨r.val + n, by omega⟩ : Fin 256) (col k l) := by
  have hc := off_col k
  funext a
  refine Fin.ext ((ValueKit.rect_emb_unit_val (s := S256x4096) _ ![128, 128] inb (ix2 r l) a).trans ?_)
  match a with
  | ⟨0, _⟩ => show n + r.val = r.val + n; omega
  | ⟨1, _⟩ => show BitVec.toNat _ + l.val = 128 * k.val + l.val; omega

/-- A strip's entry is at a row and a lane. -/
theorem exists_ix2 (x : S128x128.Idx) : ∃ r l : Fin 128, x = ix2 r l :=
  ⟨⟨(x 0).val, (x 0).isLt⟩, ⟨(x 1).val, (x 1).isLt⟩, by
    funext a
    match a with
    | ⟨0, _⟩ => rfl
    | ⟨1, _⟩ => rfl⟩

set_option maxHeartbeats 4000000 in
/-- The stages of the upper half of a strip add the bias and the 31 taps. -/
theorem strip0 (W : Vec Ideal S32x4096 .f32) (B : Vec Ideal S1x4096 .f32) (X : Vec Ideal S288x4096 .f32) (j : Fin 4096) (l : Fin 128)
    (v28 : Vec Ideal S1x128 .f32) (v33 : Vec Ideal S1x128 .f32) (v36 : Vec Ideal S128x128 .f32) (v40 : Vec Ideal S1x128 .f32) (v43 : Vec Ideal S128x128 .f32) (v48 : Vec Ideal S1x128 .f32) (v51 : Vec Ideal S128x128 .f32) (v56 : Vec Ideal S1x128 .f32) (v59 : Vec Ideal S128x128 .f32) (v65 : Vec Ideal S1x128 .f32) (v68 : Vec Ideal S136x128 .f32) (v72 : Vec Ideal S1x128 .f32) (v75 : Vec Ideal S136x128 .f32) (v80 : Vec Ideal S1x128 .f32) (v83 : Vec Ideal S136x128 .f32) (v90 : Vec Ideal S1x128 .f32) (v93 : Vec Ideal S136x128 .f32) (v97 : Vec Ideal S1x128 .f32) (v100 : Vec Ideal S136x128 .f32) (v105 : Vec Ideal S1x128 .f32) (v108 : Vec Ideal S136x128 .f32) (v113 : Vec Ideal S1x128 .f32) (v116 : Vec Ideal S136x128 .f32) (v123 : Vec Ideal S1x128 .f32) (v126 : Vec Ideal S136x128 .f32) (v130 : Vec Ideal S1x128 .f32) (v133 : Vec Ideal S136x128 .f32) (v138 : Vec Ideal S1x128 .f32) (v141 : Vec Ideal S136x128 .f32) (v146 : Vec Ideal S1x128 .f32) (v149 : Vec Ideal S136x128 .f32) (v156 : Vec Ideal S1x128 .f32) (v159 : Vec Ideal S136x128 .f32) (v163 : Vec Ideal S1x128 .f32) (v166 : Vec Ideal S136x128 .f32) (v171 : Vec Ideal S1x128 .f32) (v174 : Vec Ideal S136x128 .f32) (v179 : Vec Ideal S1x128 .f32) (v182 : Vec Ideal S136x128 .f32) (v189 : Vec Ideal S1x128 .f32) (v192 : Vec Ideal S136x128 .f32) (v196 : Vec Ideal S1x128 .f32) (v199 : Vec Ideal S136x128 .f32) (v204 : Vec Ideal S1x128 .f32) (v207 : Vec Ideal S136x128 .f32) (v212 : Vec Ideal S1x128 .f32) (v215 : Vec Ideal S136x128 .f32) (v222 : Vec Ideal S1x128 .f32) (v225 : Vec Ideal S136x128 .f32) (v229 : Vec Ideal S1x128 .f32) (v232 : Vec Ideal S136x128 .f32) (v237 : Vec Ideal S1x128 .f32) (v240 : Vec Ideal S136x128 .f32) (v245 : Vec Ideal S1x128 .f32) (v248 : Vec Ideal S136x128 .f32) (v255 : Vec Ideal S1x128 .f32) (v258 : Vec Ideal S136x128 .f32) (v262 : Vec Ideal S1x128 .f32) (v265 : Vec Ideal S136x128 .f32) (v270 : Vec Ideal S1x128 .f32) (v273 : Vec Ideal S136x128 .f32) (v278 : Vec Ideal S1x128 .f32) (v281 : Vec Ideal S136x128 .f32)
    (hv28 : v28 (ix2 (0 : Fin 1) l) = B (ix2 0 j)) (hv33 : v33 (ix2 (0 : Fin 1) l) = wAt W 6 j) (hv36 : ∀ r : Fin 128, v36 (ix2 r l) = bufAt X (r.val + 8) j) (hv40 : v40 (ix2 (0 : Fin 1) l) = wAt W 14 j) (hv43 : ∀ r : Fin 128, v43 (ix2 r l) = bufAt X (r.val + 16) j) (hv48 : v48 (ix2 (0 : Fin 1) l) = wAt W 22 j) (hv51 : ∀ r : Fin 128, v51 (ix2 r l) = bufAt X (r.val + 24) j) (hv56 : v56 (ix2 (0 : Fin 1) l) = wAt W 30 j) (hv59 : ∀ r : Fin 128, v59 (ix2 r l) = bufAt X (r.val + 32) j) (hv65 : v65 (ix2 (0 : Fin 1) l) = wAt W 7 j) (hv68 : ∀ r : Fin 136, v68 (ix2 r l) = bufAt X (r.val + 8) j) (hv72 : v72 (ix2 (0 : Fin 1) l) = wAt W 15 j) (hv75 : ∀ r : Fin 136, v75 (ix2 r l) = bufAt X (r.val + 16) j) (hv80 : v80 (ix2 (0 : Fin 1) l) = wAt W 23 j) (hv83 : ∀ r : Fin 136, v83 (ix2 r l) = bufAt X (r.val + 24) j) (hv90 : v90 (ix2 (0 : Fin 1) l) = wAt W 0 j) (hv93 : ∀ r : Fin 136, v93 (ix2 r l) = bufAt X (r.val + 0) j) (hv97 : v97 (ix2 (0 : Fin 1) l) = wAt W 8 j) (hv100 : ∀ r : Fin 136, v100 (ix2 r l) = bufAt X (r.val + 8) j) (hv105 : v105 (ix2 (0 : Fin 1) l) = wAt W 16 j) (hv108 : ∀ r : Fin 136, v108 (ix2 r l) = bufAt X (r.val + 16) j) (hv113 : v113 (ix2 (0 : Fin 1) l) = wAt W 24 j) (hv116 : ∀ r : Fin 136, v116 (ix2 r l) = bufAt X (r.val + 24) j) (hv123 : v123 (ix2 (0 : Fin 1) l) = wAt W 1 j) (hv126 : ∀ r : Fin 136, v126 (ix2 r l) = bufAt X (r.val + 0) j) (hv130 : v130 (ix2 (0 : Fin 1) l) = wAt W 9 j) (hv133 : ∀ r : Fin 136, v133 (ix2 r l) = bufAt X (r.val + 8) j) (hv138 : v138 (ix2 (0 : Fin 1) l) = wAt W 17 j) (hv141 : ∀ r : Fin 136, v141 (ix2 r l) = bufAt X (r.val + 16) j) (hv146 : v146 (ix2 (0 : Fin 1) l) = wAt W 25 j) (hv149 : ∀ r : Fin 136, v149 (ix2 r l) = bufAt X (r.val + 24) j) (hv156 : v156 (ix2 (0 : Fin 1) l) = wAt W 2 j) (hv159 : ∀ r : Fin 136, v159 (ix2 r l) = bufAt X (r.val + 0) j) (hv163 : v163 (ix2 (0 : Fin 1) l) = wAt W 10 j) (hv166 : ∀ r : Fin 136, v166 (ix2 r l) = bufAt X (r.val + 8) j) (hv171 : v171 (ix2 (0 : Fin 1) l) = wAt W 18 j) (hv174 : ∀ r : Fin 136, v174 (ix2 r l) = bufAt X (r.val + 16) j) (hv179 : v179 (ix2 (0 : Fin 1) l) = wAt W 26 j) (hv182 : ∀ r : Fin 136, v182 (ix2 r l) = bufAt X (r.val + 24) j) (hv189 : v189 (ix2 (0 : Fin 1) l) = wAt W 3 j) (hv192 : ∀ r : Fin 136, v192 (ix2 r l) = bufAt X (r.val + 0) j) (hv196 : v196 (ix2 (0 : Fin 1) l) = wAt W 11 j) (hv199 : ∀ r : Fin 136, v199 (ix2 r l) = bufAt X (r.val + 8) j) (hv204 : v204 (ix2 (0 : Fin 1) l) = wAt W 19 j) (hv207 : ∀ r : Fin 136, v207 (ix2 r l) = bufAt X (r.val + 16) j) (hv212 : v212 (ix2 (0 : Fin 1) l) = wAt W 27 j) (hv215 : ∀ r : Fin 136, v215 (ix2 r l) = bufAt X (r.val + 24) j) (hv222 : v222 (ix2 (0 : Fin 1) l) = wAt W 4 j) (hv225 : ∀ r : Fin 136, v225 (ix2 r l) = bufAt X (r.val + 0) j) (hv229 : v229 (ix2 (0 : Fin 1) l) = wAt W 12 j) (hv232 : ∀ r : Fin 136, v232 (ix2 r l) = bufAt X (r.val + 8) j) (hv237 : v237 (ix2 (0 : Fin 1) l) = wAt W 20 j) (hv240 : ∀ r : Fin 136, v240 (ix2 r l) = bufAt X (r.val + 16) j) (hv245 : v245 (ix2 (0 : Fin 1) l) = wAt W 28 j) (hv248 : ∀ r : Fin 136, v248 (ix2 r l) = bufAt X (r.val + 24) j) (hv255 : v255 (ix2 (0 : Fin 1) l) = wAt W 5 j) (hv258 : ∀ r : Fin 136, v258 (ix2 r l) = bufAt X (r.val + 0) j) (hv262 : v262 (ix2 (0 : Fin 1) l) = wAt W 13 j) (hv265 : ∀ r : Fin 136, v265 (ix2 r l) = bufAt X (r.val + 8) j) (hv270 : v270 (ix2 (0 : Fin 1) l) = wAt W 21 j) (hv273 : ∀ r : Fin 136, v273 (ix2 r l) = bufAt X (r.val + 16) j) (hv278 : v278 (ix2 (0 : Fin 1) l) = wAt W 29 j) (hv281 : ∀ r : Fin 136, v281 (ix2 r l) = bufAt X (r.val + 24) j) (r : Fin 128) :
    (k0_pay19 (F := Ideal) (k0_pay16 (F := Ideal) (k0_pay13 (F := Ideal) (k0_pay10 (F := Ideal) (k0_pay8 (F := Ideal) (k0_pay6 (F := Ideal) v28 v33 v36 v40 v43 v48 v51 v56 v59) (k0_pay7 (F := Ideal) v65 v68) v72 v75 v80 v83) (k0_pay9 (F := Ideal) v90 v93 v97 v100 v105 v108 v113 v116) v123 v126 v130 v133 v138 v141 v146 v149) (k0_pay11 (F := Ideal) v156 v159) v166 (k0_pay12 (F := Ideal) v163) v171 v174 v179 v182) (k0_pay14 (F := Ideal) v189 v192 v196 v199 v204 v207) (k0_pay15 (F := Ideal) v212) v215 v222 v225 v229 v232 v237 v240 v245 v248) (k0_pay17 (F := Ideal) v255 v258) (k0_pay18 (F := Ideal) v262) v265 v270 v273 v278 v281) (ix2 r l) = convAt W B X (r.val + 0) j := by
  simp only [pay4, pay6, pay7, pay8, pay9, pay10, pay11, pay12, pay13, pay14, pay15, pay16, pay17, pay18, pay19, pay20, pay21, pay22, pay23, pay24, pay25, pay26, pay27, pay28, pay29, pay30, pay31, hv28, hv33, hv36, hv40, hv43, hv48, hv51, hv56, hv59, hv65, hv68, hv72, hv75, hv80, hv83, hv90, hv93, hv97, hv100, hv105, hv108, hv113, hv116, hv123, hv126, hv130, hv133, hv138, hv141, hv146, hv149, hv156, hv159, hv163, hv166, hv171, hv174, hv179, hv182, hv189, hv192, hv196, hv199, hv204, hv207, hv212, hv215, hv222, hv225, hv229, hv232, hv237, hv240, hv245, hv248, hv255, hv258, hv262, hv265, hv270, hv273, hv278, hv281]
  simp only [convAt, Finset.sum_range_succ, Finset.sum_range_zero, zero_add, Nat.add_assoc, Nat.reduceAdd]
  ac_rfl

set_option maxHeartbeats 4000000 in
/-- The stages of the lower half of a strip add the bias and the 31 taps. -/
theorem strip1 (W : Vec Ideal S32x4096 .f32) (B : Vec Ideal S1x4096 .f32) (X : Vec Ideal S288x4096 .f32) (j : Fin 4096) (l : Fin 128)
    (v292 : Vec Ideal S1x128 .f32) (v297 : Vec Ideal S1x128 .f32) (v300 : Vec Ideal S128x128 .f32) (v304 : Vec Ideal S1x128 .f32) (v307 : Vec Ideal S128x128 .f32) (v312 : Vec Ideal S1x128 .f32) (v315 : Vec Ideal S128x128 .f32) (v320 : Vec Ideal S1x128 .f32) (v323 : Vec Ideal S128x128 .f32) (v329 : Vec Ideal S1x128 .f32) (v332 : Vec Ideal S136x128 .f32) (v336 : Vec Ideal S1x128 .f32) (v339 : Vec Ideal S136x128 .f32) (v344 : Vec Ideal S1x128 .f32) (v347 : Vec Ideal S136x128 .f32) (v354 : Vec Ideal S1x128 .f32) (v357 : Vec Ideal S136x128 .f32) (v361 : Vec Ideal S1x128 .f32) (v364 : Vec Ideal S136x128 .f32) (v369 : Vec Ideal S1x128 .f32) (v372 : Vec Ideal S136x128 .f32) (v377 : Vec Ideal S1x128 .f32) (v380 : Vec Ideal S136x128 .f32) (v387 : Vec Ideal S1x128 .f32) (v390 : Vec Ideal S136x128 .f32) (v394 : Vec Ideal S1x128 .f32) (v397 : Vec Ideal S136x128 .f32) (v402 : Vec Ideal S1x128 .f32) (v405 : Vec Ideal S136x128 .f32) (v410 : Vec Ideal S1x128 .f32) (v413 : Vec Ideal S136x128 .f32) (v420 : Vec Ideal S1x128 .f32) (v423 : Vec Ideal S136x128 .f32) (v427 : Vec Ideal S1x128 .f32) (v430 : Vec Ideal S136x128 .f32) (v435 : Vec Ideal S1x128 .f32) (v438 : Vec Ideal S136x128 .f32) (v443 : Vec Ideal S1x128 .f32) (v446 : Vec Ideal S136x128 .f32) (v453 : Vec Ideal S1x128 .f32) (v456 : Vec Ideal S136x128 .f32) (v460 : Vec Ideal S1x128 .f32) (v463 : Vec Ideal S136x128 .f32) (v468 : Vec Ideal S1x128 .f32) (v471 : Vec Ideal S136x128 .f32) (v476 : Vec Ideal S1x128 .f32) (v479 : Vec Ideal S136x128 .f32) (v486 : Vec Ideal S1x128 .f32) (v489 : Vec Ideal S136x128 .f32) (v493 : Vec Ideal S1x128 .f32) (v496 : Vec Ideal S136x128 .f32) (v501 : Vec Ideal S1x128 .f32) (v504 : Vec Ideal S136x128 .f32) (v509 : Vec Ideal S1x128 .f32) (v512 : Vec Ideal S136x128 .f32) (v519 : Vec Ideal S1x128 .f32) (v522 : Vec Ideal S136x128 .f32) (v526 : Vec Ideal S1x128 .f32) (v529 : Vec Ideal S136x128 .f32) (v534 : Vec Ideal S1x128 .f32) (v537 : Vec Ideal S136x128 .f32) (v542 : Vec Ideal S1x128 .f32) (v545 : Vec Ideal S136x128 .f32)
    (hv292 : v292 (ix2 (0 : Fin 1) l) = B (ix2 0 j)) (hv297 : v297 (ix2 (0 : Fin 1) l) = wAt W 6 j) (hv300 : ∀ r : Fin 128, v300 (ix2 r l) = bufAt X (r.val + 136) j) (hv304 : v304 (ix2 (0 : Fin 1) l) = wAt W 14 j) (hv307 : ∀ r : Fin 128, v307 (ix2 r l) = bufAt X (r.val + 144) j) (hv312 : v312 (ix2 (0 : Fin 1) l) = wAt W 22 j) (hv315 : ∀ r : Fin 128, v315 (ix2 r l) = bufAt X (r.val + 152) j) (hv320 : v320 (ix2 (0 : Fin 1) l) = wAt W 30 j) (hv323 : ∀ r : Fin 128, v323 (ix2 r l) = bufAt X (r.val + 160) j) (hv329 : v329 (ix2 (0 : Fin 1) l) = wAt W 7 j) (hv332 : ∀ r : Fin 136, v332 (ix2 r l) = bufAt X (r.val + 136) j) (hv336 : v336 (ix2 (0 : Fin 1) l) = wAt W 15 j) (hv339 : ∀ r : Fin 136, v339 (ix2 r l) = bufAt X (r.val + 144) j) (hv344 : v344 (ix2 (0 : Fin 1) l) = wAt W 23 j) (hv347 : ∀ r : Fin 136, v347 (ix2 r l) = bufAt X (r.val + 152) j) (hv354 : v354 (ix2 (0 : Fin 1) l) = wAt W 0 j) (hv357 : ∀ r : Fin 136, v357 (ix2 r l) = bufAt X (r.val + 128) j) (hv361 : v361 (ix2 (0 : Fin 1) l) = wAt W 8 j) (hv364 : ∀ r : Fin 136, v364 (ix2 r l) = bufAt X (r.val + 136) j) (hv369 : v369 (ix2 (0 : Fin 1) l) = wAt W 16 j) (hv372 : ∀ r : Fin 136, v372 (ix2 r l) = bufAt X (r.val + 144) j) (hv377 : v377 (ix2 (0 : Fin 1) l) = wAt W 24 j) (hv380 : ∀ r : Fin 136, v380 (ix2 r l) = bufAt X (r.val + 152) j) (hv387 : v387 (ix2 (0 : Fin 1) l) = wAt W 1 j) (hv390 : ∀ r : Fin 136, v390 (ix2 r l) = bufAt X (r.val + 128) j) (hv394 : v394 (ix2 (0 : Fin 1) l) = wAt W 9 j) (hv397 : ∀ r : Fin 136, v397 (ix2 r l) = bufAt X (r.val + 136) j) (hv402 : v402 (ix2 (0 : Fin 1) l) = wAt W 17 j) (hv405 : ∀ r : Fin 136, v405 (ix2 r l) = bufAt X (r.val + 144) j) (hv410 : v410 (ix2 (0 : Fin 1) l) = wAt W 25 j) (hv413 : ∀ r : Fin 136, v413 (ix2 r l) = bufAt X (r.val + 152) j) (hv420 : v420 (ix2 (0 : Fin 1) l) = wAt W 2 j) (hv423 : ∀ r : Fin 136, v423 (ix2 r l) = bufAt X (r.val + 128) j) (hv427 : v427 (ix2 (0 : Fin 1) l) = wAt W 10 j) (hv430 : ∀ r : Fin 136, v430 (ix2 r l) = bufAt X (r.val + 136) j) (hv435 : v435 (ix2 (0 : Fin 1) l) = wAt W 18 j) (hv438 : ∀ r : Fin 136, v438 (ix2 r l) = bufAt X (r.val + 144) j) (hv443 : v443 (ix2 (0 : Fin 1) l) = wAt W 26 j) (hv446 : ∀ r : Fin 136, v446 (ix2 r l) = bufAt X (r.val + 152) j) (hv453 : v453 (ix2 (0 : Fin 1) l) = wAt W 3 j) (hv456 : ∀ r : Fin 136, v456 (ix2 r l) = bufAt X (r.val + 128) j) (hv460 : v460 (ix2 (0 : Fin 1) l) = wAt W 11 j) (hv463 : ∀ r : Fin 136, v463 (ix2 r l) = bufAt X (r.val + 136) j) (hv468 : v468 (ix2 (0 : Fin 1) l) = wAt W 19 j) (hv471 : ∀ r : Fin 136, v471 (ix2 r l) = bufAt X (r.val + 144) j) (hv476 : v476 (ix2 (0 : Fin 1) l) = wAt W 27 j) (hv479 : ∀ r : Fin 136, v479 (ix2 r l) = bufAt X (r.val + 152) j) (hv486 : v486 (ix2 (0 : Fin 1) l) = wAt W 4 j) (hv489 : ∀ r : Fin 136, v489 (ix2 r l) = bufAt X (r.val + 128) j) (hv493 : v493 (ix2 (0 : Fin 1) l) = wAt W 12 j) (hv496 : ∀ r : Fin 136, v496 (ix2 r l) = bufAt X (r.val + 136) j) (hv501 : v501 (ix2 (0 : Fin 1) l) = wAt W 20 j) (hv504 : ∀ r : Fin 136, v504 (ix2 r l) = bufAt X (r.val + 144) j) (hv509 : v509 (ix2 (0 : Fin 1) l) = wAt W 28 j) (hv512 : ∀ r : Fin 136, v512 (ix2 r l) = bufAt X (r.val + 152) j) (hv519 : v519 (ix2 (0 : Fin 1) l) = wAt W 5 j) (hv522 : ∀ r : Fin 136, v522 (ix2 r l) = bufAt X (r.val + 128) j) (hv526 : v526 (ix2 (0 : Fin 1) l) = wAt W 13 j) (hv529 : ∀ r : Fin 136, v529 (ix2 r l) = bufAt X (r.val + 136) j) (hv534 : v534 (ix2 (0 : Fin 1) l) = wAt W 21 j) (hv537 : ∀ r : Fin 136, v537 (ix2 r l) = bufAt X (r.val + 144) j) (hv542 : v542 (ix2 (0 : Fin 1) l) = wAt W 29 j) (hv545 : ∀ r : Fin 136, v545 (ix2 r l) = bufAt X (r.val + 152) j) (r : Fin 128) :
    (k0_pay4 (F := Ideal) (k0_pay31 (F := Ideal) (k0_pay28 (F := Ideal) (k0_pay26 (F := Ideal) (k0_pay24 (F := Ideal) (k0_pay22 (F := Ideal) (k0_pay20 (F := Ideal) v292) (k0_pay21 (F := Ideal) v297 v300 v304 v307) v312 v315 v320 v323 v329 v332 v336 v339 v344 v347) (k0_pay23 (F := Ideal) v354 v357) v361 v364 v369 v372 v377 v380) (k0_pay25 (F := Ideal) v387 v390 v394 v397 v402 v405) v410 v413 v420 v423 v427 v430 v435 v438 v443 v446) (k0_pay27 (F := Ideal) v453) v456 v460 v463 v468 v471 v476 v479) (k0_pay29 (F := Ideal) v486 v489 v493 v496) (k0_pay30 (F := Ideal) v501) v504 v509 v512 v519 v522 v526 v529 v534 v537 v542 v545)) (ix2 r l) = convAt W B X (r.val + 128) j := by
  simp only [pay4, pay6, pay7, pay8, pay9, pay10, pay11, pay12, pay13, pay14, pay15, pay16, pay17, pay18, pay19, pay20, pay21, pay22, pay23, pay24, pay25, pay26, pay27, pay28, pay29, pay30, pay31, hv292, hv297, hv300, hv304, hv307, hv312, hv315, hv320, hv323, hv329, hv332, hv336, hv339, hv344, hv347, hv354, hv357, hv361, hv364, hv369, hv372, hv377, hv380, hv387, hv390, hv394, hv397, hv402, hv405, hv410, hv413, hv420, hv423, hv427, hv430, hv435, hv438, hv443, hv446, hv453, hv456, hv460, hv463, hv468, hv471, hv476, hv479, hv486, hv489, hv493, hv496, hv501, hv504, hv509, hv512, hv519, hv522, hv526, hv529, hv534, hv537, hv542, hv545]
  simp only [convAt, Finset.sum_range_succ, Finset.sum_range_zero, zero_add, Nat.add_assoc, Nat.reduceAdd]
  ac_rfl

set_option maxHeartbeats 4000000 in
/-- What one trip of the first loop stores is the convolution. -/
theorem trip_conv (𝒱 : Variants) (c : Dev nD) (bd : Option 𝒱.V) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole) (X_arg5 : BufTy.Contents (Elt Ideal) arg5.view.ty) (X_arg6 : BufTy.Contents (Elt Ideal) arg6.view.ty) (X_arg10 : BufTy.Contents (Elt Ideal) arg10.view.ty) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 X_arg5 X_arg6 X_arg10 k, ∀ x : p.1.shape.Idx,
      p.2 x = conv (arg5.view.read (Elt Ideal) X_arg5) (arg6.view.read (Elt Ideal) X_arg6) (arg10.view.read (Elt Ideal) X_arg10) (p.1.emb x) := by
  unfold tripL_k0_t1 trip_k0_t1
  dsimp only
  sl_unfold_words
  simp only [View.readAt_eq_ld]
  generalize arg5.view.read (Elt Ideal) X_arg5 = W
  generalize arg6.view.read (Elt Ideal) X_arg6 = B
  generalize arg10.view.read (Elt Ideal) X_arg10 = X
  refine List.forall_mem_cons.mpr ⟨?_, List.forall_mem_cons.mpr ⟨?_, fun _ h => nomatch h⟩⟩
  · intro x
    obtain ⟨r, l, rfl⟩ := exists_ix2 x
    refine Eq.trans ?_ (congrArg (conv W B X) (emb_strip k 128 (k0_off50_inb k) (by omega) r l)).symm
    refine strip1 W B X (col k l) l _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r
    all_goals first | exact ld_w W k _ _ l | exact fun r => ld_136 X k _ _ r l | exact fun r => ld_128 X k _ _ r l | exact ld_bias B k _ _ l
  · intro x
    obtain ⟨r, l, rfl⟩ := exists_ix2 x
    refine Eq.trans ?_ (congrArg (conv W B X) (emb_strip k 0 (k0_off41_inb k) (by omega) r l)).symm
    refine strip0 W B X (col k l) l _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r
    all_goals first | exact ld_w W k _ _ l | exact fun r => ld_136 X k _ _ r l | exact fun r => ld_128 X k _ _ r l | exact ld_bias B k _ _ l

end Cert.ConformerOps
-- ==== Proof.ConformerReference.lean ====
/- The reference's convolution branch over the extended reals, read stage by stage at an index, and its closed form: the row's
   convolution of the gated inputs, normed, gated by its own logistic and by that of the gate. -/
module

public import proofs.«01_k».proof.Proof.FoxReference
public import proofs.«01_k».proof.Proof.Gen.ConformerReferenceIdeal.Read
public import Idealize.ShloMosaic.Lib.Pointwise
public import Idealize.ShloMosaic.Lib.Pipeline.Value

@[expose] public section

set_option maxRecDepth 16384
noncomputable section

namespace Cert.ConformerReference

open Cert.ConformerReferenceIdeal Cert.ConformerReferenceIdeal.Gen Cert.ConformerReferenceIdeal.Read Idealize.ShloMosaic Idealize.ShloMosaic.TcCoe

/-! ## Scalars -/

/-- The logistic by the hyperbolic tangent. -/
def sig (x : EReal) : EReal := ((0.5 : ℝ) : EReal) * Ideal.tanh (((0.5 : ℝ) : EReal) * x) + ((0.5 : ℝ) : EReal)

/-- It is the logistic at every extended real. -/
theorem sig_eq (x : EReal) : sig x = Ideal.div 1 (1 + Ideal.exp (-x)) := by
  unfold sig
  induction x with
  | bot =>
    rw [EReal.coe_mul_bot_of_pos (by norm_num), Ideal.tanh_bot, EReal.neg_bot, Ideal.exp_top, EReal.add_top_of_ne_bot (by decide)]
    rw [show ((-1 : EReal)) = ((-1 : ℝ) : EReal) by simp, ← EReal.coe_mul, ← EReal.coe_add]
    norm_num [Ideal.div]
  | top =>
    rw [EReal.coe_mul_top_of_pos (by norm_num), Ideal.tanh_top, EReal.neg_top, Ideal.exp_bot, add_zero, mul_one, ← EReal.coe_add]
    rw [show (1 : EReal) = ((1 : ℝ) : EReal) by simp, Ideal.div_coe one_ne_zero, ← EReal.coe_mul]
    norm_num
  | coe r =>
    have h : (1 : ℝ) + Real.exp (-r) ≠ 0 := (by positivity : (0 : ℝ) < 1 + Real.exp (-r)).ne'
    rw [← EReal.coe_mul, Ideal.tanh_coe, ← EReal.coe_mul, ← EReal.coe_add, FoxMath.half_tanh, ← EReal.coe_neg, Ideal.exp_coe,
      show (1 : EReal) = ((1 : ℝ) : EReal) by simp, ← EReal.coe_add, Ideal.div_coe h, ← EReal.coe_mul, one_mul, one_div]

/-- An entry of a row `C`, normed, scaled by `g` and shifted by `a`. -/
def normed (C : Fin 4096 → EReal) (j : Fin 4096) (g a : EReal) : EReal :=
  (C j - Ideal.div (∑ k, C k) (Ideal.ofBits .f32 0x45800000#32))
    * Ideal.rsqrt (Ideal.div (∑ k, (C k - Ideal.div (∑ k, C k) (Ideal.ofBits .f32 0x45800000#32))
        * (C k - Ideal.div (∑ k, C k) (Ideal.ofBits .f32 0x45800000#32))) (Ideal.ofBits .f32 0x45800000#32) + Ideal.ofBits .f32 0x358637BD#32) * g + a

/-- The entry gated by its own logistic and by that of `q`. -/
def result (C : Fin 4096 → EReal) (j : Fin 4096) (g a q : EReal) : EReal :=
  FoxBlock.gate (normed C j g a) * FoxBlock.gate q

/-! ## The stages at an index -/

section Stages

/-- A lane of the projection in its first three parts of 4096. -/
def lane (part : Fin 3) (j : Fin 4096) : Fin 28672 := ⟨part.val * 4096 + j.val, by omega⟩

variable (U : (⟨S4x4096x28672, .bf16⟩ : BufTy).Contents (Elt Ideal)) (W : (⟨S31x4096, .f32⟩ : BufTy).Contents (Elt Ideal))
  (B G A : (⟨S4096, .f32⟩ : BufTy).Contents (Elt Ideal))

/-- A gated input. -/
def gated (b : Fin 4) (s : Fin 4096) (j : Fin 4096) : EReal := U (ix3 b s (lane 0 j)) * sig (U (ix3 b s (lane 1 j)))

/-- The gated inputs behind thirty rows of zeros. -/
def padded (b : Fin 4) (n : ℕ) (j : Fin 4096) : EReal := if h : 30 ≤ n ∧ n < 4126 then gated U b ⟨n - 30, by omega⟩ j else 0

/-- A tap of the convolution. -/
def wR (t : ℕ) (j : Fin 4096) : EReal := W (ix2 ⟨t % 31, Nat.mod_lt _ (by decide)⟩ j)

/-- A convolved row. -/
def convolved (b : Fin 4) (s : ℕ) (j : Fin 4096) : EReal := B (ix1 j) + ∑ t ∈ Finset.range 31, wR W t j * padded U b (s + t) j

variable (b : Fin 4) (s : Fin 4096) (j : Fin 4096)

theorem gated_apply : val_main_v13 (F := Ideal) U (ix3 b s j) = gated U b s j := by
  have e0 : (⟨j.val, by omega⟩ : Fin 28672) = lane 0 j := Fin.ext (by simp [lane])
  have e1 : (⟨4096 + j.val, by omega⟩ : Fin 28672) = lane 1 j := Fin.ext (by simp [lane])
  pointwise [val_main_v13, val_main_v12, val_main_v11, val_main_v10, val_main_v9, val_main_v8, val_main_v7, val_main_v3, val_main_v2,
    val_main_v1, val_main_v0, val_main_cst_0, val_main_cst_1]
  rw [gated, sig_eq, e0, e1]

theorem rows_apply (n : Fin 4126) (j : Fin 4096) : val_main_v14 (F := Ideal) U (ix3 b n j) = padded U b n.val j := by
  unfold padded val_main_v14
  by_cases h : 30 ≤ n.val ∧ n.val < 4126
  · rw [dif_pos h, ← gated_apply]
    generalize val_main_v13 (F := Ideal) U = X
    generalize val_main_v6 (F := Ideal) = Z
    pointwise
    have h' : ¬ n.val < 30 := by omega
    simp [h']
  · rw [dif_neg h]
    generalize val_main_v13 (F := Ideal) U = X
    pointwise [val_main_v6, val_main_cst]
    have h' : n.val < 30 := by omega
    simp [h']

theorem bias_apply : val_main_v22 (F := Ideal) B (ix3 b s j) = B (ix1 j) := by
  pointwise [val_main_v22, val_main_v21]

theorem tap0 : val_main_v20 (F := Ideal) U W (ix3 b s j) = wR W 0 j * padded U b (s.val + 0) j := by
  refine Eq.trans ?_ (congrArg (wR W 0 j * ·) (rows_apply U b ⟨s.val + 0, by omega⟩ j))
  unfold val_main_v20 val_main_v19 val_main_v18 val_main_v17 val_main_v16 val_main_v15
  generalize val_main_v14 (F := Ideal) U = X
  pointwise
  first | done | rfl | (simp only [Nat.add_comm]; rfl)

theorem tap1 : val_main_v29 (F := Ideal) U W (ix3 b s j) = wR W 1 j * padded U b (s.val + 1) j := by
  refine Eq.trans ?_ (congrArg (wR W 1 j * ·) (rows_apply U b ⟨s.val + 1, by omega⟩ j))
  unfold val_main_v29 val_main_v28 val_main_v27 val_main_v26 val_main_v25 val_main_v24
  generalize val_main_v14 (F := Ideal) U = X
  pointwise
  first | done | rfl | (simp only [Nat.add_comm]; rfl)

theorem tap2 : val_main_v36 (F := Ideal) U W (ix3 b s j) = wR W 2 j * padded U b (s.val + 2) j := by
  refine Eq.trans ?_ (congrArg (wR W 2 j * ·) (rows_apply U b ⟨s.val + 2, by omega⟩ j))
  unfold val_main_v36 val_main_v35 val_main_v34 val_main_v33 val_main_v32 val_main_v31
  generalize val_main_v14 (F := Ideal) U = X
  pointwise
  first | done | rfl | (simp only [Nat.add_comm]; rfl)

theorem tap3 : val_main_v43 (F := Ideal) U W (ix3 b s j) = wR W 3 j * padded U b (s.val + 3) j := by
  refine Eq.trans ?_ (congrArg (wR W 3 j * ·) (rows_apply U b ⟨s.val + 3, by omega⟩ j))
  unfold val_main_v43 val_main_v42 val_main_v41 val_main_v40 val_main_v39 val_main_v38
  generalize val_main_v14 (F := Ideal) U = X
  pointwise
  first | done | rfl | (simp only [Nat.add_comm]; rfl)

theorem tap4 : val_main_v50 (F := Ideal) U W (ix3 b s j) = wR W 4 j * padded U b (s.val + 4) j := by
  refine Eq.trans ?_ (congrArg (wR W 4 j * ·) (rows_apply U b ⟨s.val + 4, by omega⟩ j))
  unfold val_main_v50 val_main_v49 val_main_v48 val_main_v47 val_main_v46 val_main_v45
  generalize val_main_v14 (F := Ideal) U = X
  pointwise
  first | done | rfl | (simp only [Nat.add_comm]; rfl)

theorem tap5 : val_main_v57 (F := Ideal) U W (ix3 b s j) = wR W 5 j * padded U b (s.val + 5) j := by
  refine Eq.trans ?_ (congrArg (wR W 5 j * ·) (rows_apply U b ⟨s.val + 5, by omega⟩ j))
  unfold val_main_v57 val_main_v56 val_main_v55 val_main_v54 val_main_v53 val_main_v52
  generalize val_main_v14 (F := Ideal) U = X
  pointwise
  first | done | rfl | (simp only [Nat.add_comm]; rfl)

theorem tap6 : val_main_v64 (F := Ideal) U W (ix3 b s j) = wR W 6 j * padded U b (s.val + 6) j := by
  refine Eq.trans ?_ (congrArg (wR W 6 j * ·) (rows_apply U b ⟨s.val + 6, by omega⟩ j))
  unfold val_main_v64 val_main_v63 val_main_v62 val_main_v61 val_main_v60 val_main_v59
  generalize val_main_v14 (F := Ideal) U = X
  pointwise
  first | done | rfl | (simp only [Nat.add_comm]; rfl)

theorem tap7 : val_main_v71 (F := Ideal) U W (ix3 b s j) = wR W 7 j * padded U b (s.val + 7) j := by
  refine Eq.trans ?_ (congrArg (wR W 7 j * ·) (rows_apply U b ⟨s.val + 7, by omega⟩ j))
  unfold val_main_v71 val_main_v70 val_main_v69 val_main_v68 val_main_v67 val_main_v66
  generalize val_main_v14 (F := Ideal) U = X
  pointwise
  first | done | rfl | (simp only [Nat.add_comm]; rfl)

theorem tap8 : val_main_v78 (F := Ideal) U W (ix3 b s j) = wR W 8 j * padded U b (s.val + 8) j := by
  refine Eq.trans ?_ (congrArg (wR W 8 j * ·) (rows_apply U b ⟨s.val + 8, by omega⟩ j))
  unfold val_main_v78 val_main_v77 val_main_v76 val_main_v75 val_main_v74 val_main_v73
  generalize val_main_v14 (F := Ideal) U = X
  pointwise
  first | done | rfl | (simp only [Nat.add_comm]; rfl)

theorem tap9 : val_main_v85 (F := Ideal) U W (ix3 b s j) = wR W 9 j * padded U b (s.val + 9) j := by
  refine Eq.trans ?_ (congrArg (wR W 9 j * ·) (rows_apply U b ⟨s.val + 9, by omega⟩ j))
  unfold val_main_v85 val_main_v84 val_main_v83 val_main_v82 val_main_v81 val_main_v80
  generalize val_main_v14 (F := Ideal) U = X
  pointwise
  first | done | rfl | (simp only [Nat.add_comm]; rfl)

theorem tap10 : val_main_v92 (F := Ideal) U W (ix3 b s j) = wR W 10 j * padded U b (s.val + 10) j := by
  refine Eq.trans ?_ (congrArg (wR W 10 j * ·) (rows_apply U b ⟨s.val + 10, by omega⟩ j))
  unfold val_main_v92 val_main_v91 val_main_v90 val_main_v89 val_main_v88 val_main_v87
  generalize val_main_v14 (F := Ideal) U = X
  pointwise
  first | done | rfl | (simp only [Nat.add_comm]; rfl)

theorem tap11 : val_main_v99 (F := Ideal) U W (ix3 b s j) = wR W 11 j * padded U b (s.val + 11) j := by
  refine Eq.trans ?_ (congrArg (wR W 11 j * ·) (rows_apply U b ⟨s.val + 11, by omega⟩ j))
  unfold val_main_v99 val_main_v98 val_main_v97 val_main_v96 val_main_v95 val_main_v94
  generalize val_main_v14 (F := Ideal) U = X
  pointwise
  first | done | rfl | (simp only [Nat.add_comm]; rfl)

theorem tap12 : val_main_v106 (F := Ideal) U W (ix3 b s j) = wR W 12 j * padded U b (s.val + 12) j := by
  refine Eq.trans ?_ (congrArg (wR W 12 j * ·) (rows_apply U b ⟨s.val + 12, by omega⟩ j))
  unfold val_main_v106 val_main_v105 val_main_v104 val_main_v103 val_main_v102 val_main_v101
  generalize val_main_v14 (F := Ideal) U = X
  pointwise
  first | done | rfl | (simp only [Nat.add_comm]; rfl)

theorem tap13 : val_main_v113 (F := Ideal) U W (ix3 b s j) = wR W 13 j * padded U b (s.val + 13) j := by
  refine Eq.trans ?_ (congrArg (wR W 13 j * ·) (rows_apply U b ⟨s.val + 13, by omega⟩ j))
  unfold val_main_v113 val_main_v112 val_main_v111 val_main_v110 val_main_v109 val_main_v108
  generalize val_main_v14 (F := Ideal) U = X
  pointwise
  first | done | rfl | (simp only [Nat.add_comm]; rfl)

theorem tap14 : val_main_v120 (F := Ideal) U W (ix3 b s j) = wR W 14 j * padded U b (s.val + 14) j := by
  refine Eq.trans ?_ (congrArg (wR W 14 j * ·) (rows_apply U b ⟨s.val + 14, by omega⟩ j))
  unfold val_main_v120 val_main_v119 val_main_v118 val_main_v117 val_main_v116 val_main_v115
  generalize val_main_v14 (F := Ideal) U = X
  pointwise
  first | done | rfl | (simp only [Nat.add_comm]; rfl)

theorem tap15 : val_main_v127 (F := Ideal) U W (ix3 b s j) = wR W 15 j * padded U b (s.val + 15) j := by
  refine Eq.trans ?_ (congrArg (wR W 15 j * ·) (rows_apply U b ⟨s.val + 15, by omega⟩ j))
  unfold val_main_v127 val_main_v126 val_main_v125 val_main_v124 val_main_v123 val_main_v122
  generalize val_main_v14 (F := Ideal) U = X
  pointwise
  first | done | rfl | (simp only [Nat.add_comm]; rfl)

theorem tap16 : val_main_v134 (F := Ideal) U W (ix3 b s j) = wR W 16 j * padded U b (s.val + 16) j := by
  refine Eq.trans ?_ (congrArg (wR W 16 j * ·) (rows_apply U b ⟨s.val + 16, by omega⟩ j))
  unfold val_main_v134 val_main_v133 val_main_v132 val_main_v131 val_main_v130 val_main_v129
  generalize val_main_v14 (F := Ideal) U = X
  pointwise
  first | done | rfl | (simp only [Nat.add_comm]; rfl)

theorem tap17 : val_main_v141 (F := Ideal) U W (ix3 b s j) = wR W 17 j * padded U b (s.val + 17) j := by
  refine Eq.trans ?_ (congrArg (wR W 17 j * ·) (rows_apply U b ⟨s.val + 17, by omega⟩ j))
  unfold val_main_v141 val_main_v140 val_main_v139 val_main_v138 val_main_v137 val_main_v136
  generalize val_main_v14 (F := Ideal) U = X
  pointwise
  first | done | rfl | (simp only [Nat.add_comm]; rfl)

theorem tap18 : val_main_v148 (F := Ideal) U W (ix3 b s j) = wR W 18 j * padded U b (s.val + 18) j := by
  refine Eq.trans ?_ (congrArg (wR W 18 j * ·) (rows_apply U b ⟨s.val + 18, by omega⟩ j))
  unfold val_main_v148 val_main_v147 val_main_v146 val_main_v145 val_main_v144 val_main_v143
  generalize val_main_v14 (F := Ideal) U = X
  pointwise
  first | done | rfl | (simp only [Nat.add_comm]; rfl)

theorem tap19 : val_main_v155 (F := Ideal) U W (ix3 b s j) = wR W 19 j * padded U b (s.val + 19) j := by
  refine Eq.trans ?_ (congrArg (wR W 19 j * ·) (rows_apply U b ⟨s.val + 19, by omega⟩ j))
  unfold val_main_v155 val_main_v154 val_main_v153 val_main_v152 val_main_v151 val_main_v150
  generalize val_main_v14 (F := Ideal) U = X
  pointwise
  first | done | rfl | (simp only [Nat.add_comm]; rfl)

theorem tap20 : val_main_v162 (F := Ideal) U W (ix3 b s j) = wR W 20 j * padded U b (s.val + 20) j := by
  refine Eq.trans ?_ (congrArg (wR W 20 j * ·) (rows_apply U b ⟨s.val + 20, by omega⟩ j))
  unfold val_main_v162 val_main_v161 val_main_v160 val_main_v159 val_main_v158 val_main_v157
  generalize val_main_v14 (F := Ideal) U = X
  pointwise
  first | done | rfl | (simp only [Nat.add_comm]; rfl)

theorem tap21 : val_main_v169 (F := Ideal) U W (ix3 b s j) = wR W 21 j * padded U b (s.val + 21) j := by
  refine Eq.trans ?_ (congrArg (wR W 21 j * ·) (rows_apply U b ⟨s.val + 21, by omega⟩ j))
  unfold val_main_v169 val_main_v168 val_main_v167 val_main_v166 val_main_v165 val_main_v164
  generalize val_main_v14 (F := Ideal) U = X
  pointwise
  first | done | rfl | (simp only [Nat.add_comm]; rfl)

theorem tap22 : val_main_v176 (F := Ideal) U W (ix3 b s j) = wR W 22 j * padded U b (s.val + 22) j := by
  refine Eq.trans ?_ (congrArg (wR W 22 j * ·) (rows_apply U b ⟨s.val + 22, by omega⟩ j))
  unfold val_main_v176 val_main_v175 val_main_v174 val_main_v173 val_main_v172 val_main_v171
  generalize val_main_v14 (F := Ideal) U = X
  pointwise
  first | done | rfl | (simp only [Nat.add_comm]; rfl)

theorem tap23 : val_main_v183 (F := Ideal) U W (ix3 b s j) = wR W 23 j * padded U b (s.val + 23) j := by
  refine Eq.trans ?_ (congrArg (wR W 23 j * ·) (rows_apply U b ⟨s.val + 23, by omega⟩ j))
  unfold val_main_v183 val_main_v182 val_main_v181 val_main_v180 val_main_v179 val_main_v178
  generalize val_main_v14 (F := Ideal) U = X
  pointwise
  first | done | rfl | (simp only [Nat.add_comm]; rfl)

theorem tap24 : val_main_v190 (F := Ideal) U W (ix3 b s j) = wR W 24 j * padded U b (s.val + 24) j := by
  refine Eq.trans ?_ (congrArg (wR W 24 j * ·) (rows_apply U b ⟨s.val + 24, by omega⟩ j))
  unfold val_main_v190 val_main_v189 val_main_v188 val_main_v187 val_main_v186 val_main_v185
  generalize val_main_v14 (F := Ideal) U = X
  pointwise
  first | done | rfl | (simp only [Nat.add_comm]; rfl)

theorem tap25 : val_main_v197 (F := Ideal) U W (ix3 b s j) = wR W 25 j * padded U b (s.val + 25) j := by
  refine Eq.trans ?_ (congrArg (wR W 25 j * ·) (rows_apply U b ⟨s.val + 25, by omega⟩ j))
  unfold val_main_v197 val_main_v196 val_main_v195 val_main_v194 val_main_v193 val_main_v192
  generalize val_main_v14 (F := Ideal) U = X
  pointwise
  first | done | rfl | (simp only [Nat.add_comm]; rfl)

theorem tap26 : val_main_v204 (F := Ideal) U W (ix3 b s j) = wR W 26 j * padded U b (s.val + 26) j := by
  refine Eq.trans ?_ (congrArg (wR W 26 j * ·) (rows_apply U b ⟨s.val + 26, by omega⟩ j))
  unfold val_main_v204 val_main_v203 val_main_v202 val_main_v201 val_main_v200 val_main_v199
  generalize val_main_v14 (F := Ideal) U = X
  pointwise
  first | done | rfl | (simp only [Nat.add_comm]; rfl)

theorem tap27 : val_main_v211 (F := Ideal) U W (ix3 b s j) = wR W 27 j * padded U b (s.val + 27) j := by
  refine Eq.trans ?_ (congrArg (wR W 27 j * ·) (rows_apply U b ⟨s.val + 27, by omega⟩ j))
  unfold val_main_v211 val_main_v210 val_main_v209 val_main_v208 val_main_v207 val_main_v206
  generalize val_main_v14 (F := Ideal) U = X
  pointwise
  first | done | rfl | (simp only [Nat.add_comm]; rfl)

theorem tap28 : val_main_v218 (F := Ideal) U W (ix3 b s j) = wR W 28 j * padded U b (s.val + 28) j := by
  refine Eq.trans ?_ (congrArg (wR W 28 j * ·) (rows_apply U b ⟨s.val + 28, by omega⟩ j))
  unfold val_main_v218 val_main_v217 val_main_v216 val_main_v215 val_main_v214 val_main_v213
  generalize val_main_v14 (F := Ideal) U = X
  pointwise
  first | done | rfl | (simp only [Nat.add_comm]; rfl)

theorem tap29 : val_main_v225 (F := Ideal) U W (ix3 b s j) = wR W 29 j * padded U b (s.val + 29) j := by
  refine Eq.trans ?_ (congrArg (wR W 29 j * ·) (rows_apply U b ⟨s.val + 29, by omega⟩ j))
  unfold val_main_v225 val_main_v224 val_main_v223 val_main_v222 val_main_v221 val_main_v220
  generalize val_main_v14 (F := Ideal) U = X
  pointwise
  first | done | rfl | (simp only [Nat.add_comm]; rfl)

theorem tap30 : val_main_v232 (F := Ideal) U W (ix3 b s j) = wR W 30 j * padded U b (s.val + 30) j := by
  refine Eq.trans ?_ (congrArg (wR W 30 j * ·) (rows_apply U b ⟨s.val + 30, by omega⟩ j))
  unfold val_main_v232 val_main_v231 val_main_v230 val_main_v229 val_main_v228 val_main_v227
  generalize val_main_v14 (F := Ideal) U = X
  pointwise
  first | done | rfl | (simp only [Nat.add_comm]; rfl)

theorem acc0 : val_main_v23 (F := Ideal) U W B (ix3 b s j) = B (ix1 j) + ∑ t ∈ Finset.range 1, wR W t j * padded U b (s.val + t) j := by
  rw [Finset.sum_range_one]
  exact congrArg₂ (fun x y : EReal => x + y) (bias_apply B b s j) (tap0 U W b s j)

theorem acc1 : val_main_v30 (F := Ideal) U W B (ix3 b s j) = B (ix1 j) + ∑ t ∈ Finset.range 2, wR W t j * padded U b (s.val + t) j := by
  rw [Finset.sum_range_succ, ← add_assoc]
  exact congrArg₂ (fun x y : EReal => x + y) (acc0 U W B b s j) (tap1 U W b s j)

theorem acc2 : val_main_v37 (F := Ideal) U W B (ix3 b s j) = B (ix1 j) + ∑ t ∈ Finset.range 3, wR W t j * padded U b (s.val + t) j := by
  rw [Finset.sum_range_succ, ← add_assoc]
  exact congrArg₂ (fun x y : EReal => x + y) (acc1 U W B b s j) (tap2 U W b s j)

theorem acc3 : val_main_v44 (F := Ideal) U W B (ix3 b s j) = B (ix1 j) + ∑ t ∈ Finset.range 4, wR W t j * padded U b (s.val + t) j := by
  rw [Finset.sum_range_succ, ← add_assoc]
  exact congrArg₂ (fun x y : EReal => x + y) (acc2 U W B b s j) (tap3 U W b s j)

theorem acc4 : val_main_v51 (F := Ideal) U W B (ix3 b s j) = B (ix1 j) + ∑ t ∈ Finset.range 5, wR W t j * padded U b (s.val + t) j := by
  rw [Finset.sum_range_succ, ← add_assoc]
  exact congrArg₂ (fun x y : EReal => x + y) (acc3 U W B b s j) (tap4 U W b s j)

theorem acc5 : val_main_v58 (F := Ideal) U W B (ix3 b s j) = B (ix1 j) + ∑ t ∈ Finset.range 6, wR W t j * padded U b (s.val + t) j := by
  rw [Finset.sum_range_succ, ← add_assoc]
  exact congrArg₂ (fun x y : EReal => x + y) (acc4 U W B b s j) (tap5 U W b s j)

theorem acc6 : val_main_v65 (F := Ideal) U W B (ix3 b s j) = B (ix1 j) + ∑ t ∈ Finset.range 7, wR W t j * padded U b (s.val + t) j := by
  rw [Finset.sum_range_succ, ← add_assoc]
  exact congrArg₂ (fun x y : EReal => x + y) (acc5 U W B b s j) (tap6 U W b s j)

theorem acc7 : val_main_v72 (F := Ideal) U W B (ix3 b s j) = B (ix1 j) + ∑ t ∈ Finset.range 8, wR W t j * padded U b (s.val + t) j := by
  rw [Finset.sum_range_succ, ← add_assoc]
  exact congrArg₂ (fun x y : EReal => x + y) (acc6 U W B b s j) (tap7 U W b s j)

theorem acc8 : val_main_v79 (F := Ideal) U W B (ix3 b s j) = B (ix1 j) + ∑ t ∈ Finset.range 9, wR W t j * padded U b (s.val + t) j := by
  rw [Finset.sum_range_succ, ← add_assoc]
  exact congrArg₂ (fun x y : EReal => x + y) (acc7 U W B b s j) (tap8 U W b s j)

theorem acc9 : val_main_v86 (F := Ideal) U W B (ix3 b s j) = B (ix1 j) + ∑ t ∈ Finset.range 10, wR W t j * padded U b (s.val + t) j := by
  rw [Finset.sum_range_succ, ← add_assoc]
  exact congrArg₂ (fun x y : EReal => x + y) (acc8 U W B b s j) (tap9 U W b s j)

theorem acc10 : val_main_v93 (F := Ideal) U W B (ix3 b s j) = B (ix1 j) + ∑ t ∈ Finset.range 11, wR W t j * padded U b (s.val + t) j := by
  rw [Finset.sum_range_succ, ← add_assoc]
  exact congrArg₂ (fun x y : EReal => x + y) (acc9 U W B b s j) (tap10 U W b s j)

theorem acc11 : val_main_v100 (F := Ideal) U W B (ix3 b s j) = B (ix1 j) + ∑ t ∈ Finset.range 12, wR W t j * padded U b (s.val + t) j := by
  rw [Finset.sum_range_succ, ← add_assoc]
  exact congrArg₂ (fun x y : EReal => x + y) (acc10 U W B b s j) (tap11 U W b s j)

theorem acc12 : val_main_v107 (F := Ideal) U W B (ix3 b s j) = B (ix1 j) + ∑ t ∈ Finset.range 13, wR W t j * padded U b (s.val + t) j := by
  rw [Finset.sum_range_succ, ← add_assoc]
  exact congrArg₂ (fun x y : EReal => x + y) (acc11 U W B b s j) (tap12 U W b s j)

theorem acc13 : val_main_v114 (F := Ideal) U W B (ix3 b s j) = B (ix1 j) + ∑ t ∈ Finset.range 14, wR W t j * padded U b (s.val + t) j := by
  rw [Finset.sum_range_succ, ← add_assoc]
  exact congrArg₂ (fun x y : EReal => x + y) (acc12 U W B b s j) (tap13 U W b s j)

theorem acc14 : val_main_v121 (F := Ideal) U W B (ix3 b s j) = B (ix1 j) + ∑ t ∈ Finset.range 15, wR W t j * padded U b (s.val + t) j := by
  rw [Finset.sum_range_succ, ← add_assoc]
  exact congrArg₂ (fun x y : EReal => x + y) (acc13 U W B b s j) (tap14 U W b s j)

theorem acc15 : val_main_v128 (F := Ideal) U W B (ix3 b s j) = B (ix1 j) + ∑ t ∈ Finset.range 16, wR W t j * padded U b (s.val + t) j := by
  rw [Finset.sum_range_succ, ← add_assoc]
  exact congrArg₂ (fun x y : EReal => x + y) (acc14 U W B b s j) (tap15 U W b s j)

theorem acc16 : val_main_v135 (F := Ideal) U W B (ix3 b s j) = B (ix1 j) + ∑ t ∈ Finset.range 17, wR W t j * padded U b (s.val + t) j := by
  rw [Finset.sum_range_succ, ← add_assoc]
  exact congrArg₂ (fun x y : EReal => x + y) (acc15 U W B b s j) (tap16 U W b s j)

theorem acc17 : val_main_v142 (F := Ideal) U W B (ix3 b s j) = B (ix1 j) + ∑ t ∈ Finset.range 18, wR W t j * padded U b (s.val + t) j := by
  rw [Finset.sum_range_succ, ← add_assoc]
  exact congrArg₂ (fun x y : EReal => x + y) (acc16 U W B b s j) (tap17 U W b s j)

theorem acc18 : val_main_v149 (F := Ideal) U W B (ix3 b s j) = B (ix1 j) + ∑ t ∈ Finset.range 19, wR W t j * padded U b (s.val + t) j := by
  rw [Finset.sum_range_succ, ← add_assoc]
  exact congrArg₂ (fun x y : EReal => x + y) (acc17 U W B b s j) (tap18 U W b s j)

theorem acc19 : val_main_v156 (F := Ideal) U W B (ix3 b s j) = B (ix1 j) + ∑ t ∈ Finset.range 20, wR W t j * padded U b (s.val + t) j := by
  rw [Finset.sum_range_succ, ← add_assoc]
  exact congrArg₂ (fun x y : EReal => x + y) (acc18 U W B b s j) (tap19 U W b s j)

theorem acc20 : val_main_v163 (F := Ideal) U W B (ix3 b s j) = B (ix1 j) + ∑ t ∈ Finset.range 21, wR W t j * padded U b (s.val + t) j := by
  rw [Finset.sum_range_succ, ← add_assoc]
  exact congrArg₂ (fun x y : EReal => x + y) (acc19 U W B b s j) (tap20 U W b s j)

theorem acc21 : val_main_v170 (F := Ideal) U W B (ix3 b s j) = B (ix1 j) + ∑ t ∈ Finset.range 22, wR W t j * padded U b (s.val + t) j := by
  rw [Finset.sum_range_succ, ← add_assoc]
  exact congrArg₂ (fun x y : EReal => x + y) (acc20 U W B b s j) (tap21 U W b s j)

theorem acc22 : val_main_v177 (F := Ideal) U W B (ix3 b s j) = B (ix1 j) + ∑ t ∈ Finset.range 23, wR W t j * padded U b (s.val + t) j := by
  rw [Finset.sum_range_succ, ← add_assoc]
  exact congrArg₂ (fun x y : EReal => x + y) (acc21 U W B b s j) (tap22 U W b s j)

theorem acc23 : val_main_v184 (F := Ideal) U W B (ix3 b s j) = B (ix1 j) + ∑ t ∈ Finset.range 24, wR W t j * padded U b (s.val + t) j := by
  rw [Finset.sum_range_succ, ← add_assoc]
  exact congrArg₂ (fun x y : EReal => x + y) (acc22 U W B b s j) (tap23 U W b s j)

theorem acc24 : val_main_v191 (F := Ideal) U W B (ix3 b s j) = B (ix1 j) + ∑ t ∈ Finset.range 25, wR W t j * padded U b (s.val + t) j := by
  rw [Finset.sum_range_succ, ← add_assoc]
  exact congrArg₂ (fun x y : EReal => x + y) (acc23 U W B b s j) (tap24 U W b s j)

theorem acc25 : val_main_v198 (F := Ideal) U W B (ix3 b s j) = B (ix1 j) + ∑ t ∈ Finset.range 26, wR W t j * padded U b (s.val + t) j := by
  rw [Finset.sum_range_succ, ← add_assoc]
  exact congrArg₂ (fun x y : EReal => x + y) (acc24 U W B b s j) (tap25 U W b s j)

theorem acc26 : val_main_v205 (F := Ideal) U W B (ix3 b s j) = B (ix1 j) + ∑ t ∈ Finset.range 27, wR W t j * padded U b (s.val + t) j := by
  rw [Finset.sum_range_succ, ← add_assoc]
  exact congrArg₂ (fun x y : EReal => x + y) (acc25 U W B b s j) (tap26 U W b s j)

theorem acc27 : val_main_v212 (F := Ideal) U W B (ix3 b s j) = B (ix1 j) + ∑ t ∈ Finset.range 28, wR W t j * padded U b (s.val + t) j := by
  rw [Finset.sum_range_succ, ← add_assoc]
  exact congrArg₂ (fun x y : EReal => x + y) (acc26 U W B b s j) (tap27 U W b s j)

theorem acc28 : val_main_v219 (F := Ideal) U W B (ix3 b s j) = B (ix1 j) + ∑ t ∈ Finset.range 29, wR W t j * padded U b (s.val + t) j := by
  rw [Finset.sum_range_succ, ← add_assoc]
  exact congrArg₂ (fun x y : EReal => x + y) (acc27 U W B b s j) (tap28 U W b s j)

theorem acc29 : val_main_v226 (F := Ideal) U W B (ix3 b s j) = B (ix1 j) + ∑ t ∈ Finset.range 30, wR W t j * padded U b (s.val + t) j := by
  rw [Finset.sum_range_succ, ← add_assoc]
  exact congrArg₂ (fun x y : EReal => x + y) (acc28 U W B b s j) (tap29 U W b s j)

theorem acc30 : val_main_v233 (F := Ideal) U W B (ix3 b s j) = B (ix1 j) + ∑ t ∈ Finset.range 31, wR W t j * padded U b (s.val + t) j := by
  rw [Finset.sum_range_succ, ← add_assoc]
  exact congrArg₂ (fun x y : EReal => x + y) (acc29 U W B b s j) (tap30 U W b s j)

theorem convolved_apply : val_main_v233 (F := Ideal) U W B (ix3 b s j) = convolved U W B b s.val j := acc30 U W B b s j

theorem normed_apply : val_main_v255 (F := Ideal) U W B G A (ix3 b s j)
    = normed (fun k => val_main_v233 (F := Ideal) U W B (ix3 b s k)) j (G (ix1 j)) (A (ix1 j)) := by
  unfold val_main_v255 val_main_v254 val_main_v253 val_main_v252 val_main_v251 val_main_v250 val_main_v249 val_main_v248 val_main_v247
    val_main_v246 val_main_v245 val_main_v244 val_main_v243 val_main_v242 val_main_v241 val_main_v240 val_main_v239 val_main_v238
    val_main_v237 val_main_v236 val_main_v235 val_main_v234
  generalize val_main_v233 (F := Ideal) U W B = O
  pointwise [val_main_cst_2, val_main_cst_3, val_main_cst_4, val_main_cst_5, val_main_cst_6]
  first | done | rfl

theorem value : val_main_v259 (F := Ideal) U W B G A (ix3 b s j)
    = result (fun k => convolved U W B b s.val k) j (G (ix1 j)) (A (ix1 j)) (U (ix3 b s (lane 2 j))) := by
  have e2 : (⟨8192 + j.val, by omega⟩ : Fin 28672) = lane 2 j := Fin.ext (by simp [lane])
  have key : val_main_v259 (F := Ideal) U W B G A (ix3 b s j)
      = FoxBlock.gate (val_main_v255 (F := Ideal) U W B G A (ix3 b s j)) * FoxBlock.gate (U (ix3 b s (lane 2 j))) := by
    unfold val_main_v259 val_main_v258 val_main_v257 val_main_v256 val_main_call0_v5 val_main_call0_v3 val_main_call0_v1 val_main_call0_v0
    generalize val_main_v255 (F := Ideal) U W B G A = O
    pointwise [val_main_call0_v2, val_main_call0_v4, val_main_call0_cst, val_main_call0_cst_0, val_main_call1_v5, val_main_call1_v4,
      val_main_call1_v3, val_main_call1_v2, val_main_call1_v1, val_main_call1_v0, val_main_call1_cst, val_main_call1_cst_0, val_main_v5, val_main_v4]
    rw [e2, FoxReference.gate_eq, FoxReference.gate_eq]
  rw [key, normed_apply]
  simp only [convolved_apply]
  rfl

end Stages

end Cert.ConformerReference
-- ==== Proof.ConformerIdealBlocks.lean ====
module

public import proofs.«01_k».proof.Proof.ConformerIdealFrame
public import Idealize.ShloMosaic.Lib.Pipeline.Value

/-!
The conformer branch: the result is what the grid points leave, block by block.
-/

@[expose] public section

noncomputable section

namespace Cert.ConformerIdeal.Value

open Cert.ConformerIdeal Cert.ConformerIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

theorem flushed7_A (c : Dev nD) (t : Fin cfg0.N) (h0 : t.val % 16 = 0) (h1 : ¬1 ≤ t.val % 16) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  simp only [flushed7, outsAt0_A m c t h0 h1]

theorem flushed7_B (c : Dev nD) (t : Fin cfg0.N) (h0 : ¬t.val % 16 = 0) (h1 : 1 ≤ t.val % 16) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  simp only [flushed7, outsAt0_B m c t h0 h1]

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem entry7 (c : Dev nD) (i : S4x4096x4096.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem post7 (r : PUnit × MemSt nD τ sig (Elt F)) (h : Pipeline.FramePost cfgs (dats m) 0 (V m) r) (c : Dev nD) :
    r.2.mem ((c : Thread nD τ).loc main_v5) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem run_blocks : θ_run defs (onTc (τ := τ) (main (F := F))) ⟨m, fun _ => 0, ρ⟩ fun r => ∀ c : Dev nD,
      r.2.mem ((c : Thread nD τ).loc main_v5) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      kept_main_arg0 m r h c,
      kept_main_arg1 m r h c,
      kept_main_arg2 m r h c,
      kept_main_arg3 m r h c,
      kept_main_arg4 m r h c⟩)
    (run_main m ρ)

def scAt0_0 (c : Dev nD) (n : ℕ) (hb : n < cfg0.N) (acc : Vec F S288x4096 .f32) : Vec F S288x4096 .f32 :=
  if h0 : n % 16 = 0 then
    if h1 : 1 ≤ n % 16 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    if h1 : 1 ≤ n % 16 then
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
    else
      acc

theorem soutsAt0_0_eq (c : Dev nD) (t : Fin cfg0.N) :
    (outsAt0 m c t.val t.isLt).2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2) 16 (fun n h => scAt0_0 m c n h (VS0_0.read (Elt F) VS0_0.junk)) (scAt0_0 m c)
    (fun n h hn => by
      have hN := lt_of_lt_of_eq h (show cfg0.N = 64 from N_0)
      by_cases h0 : n % 16 = 0 <;> by_cases h1 : 1 ≤ n % 16
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_pos h1] <;> try rfl))
    (fun n h hn => by
      have hN := lt_of_lt_of_eq h (show cfg0.N = 64 from N_0)
      by_cases h0 : (n + 1) % 16 = 0 <;> by_cases h1 : 1 ≤ (n + 1) % 16
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_pos h1] <;> try rfl))
    (by decide) t.val t.isLt _

def junk0 : Vec F S1x256x4096 .bf16 × Vec F S288x4096 .f32 :=
  ((VO0_7.read (Elt F) VO0_7.junk, VS0_0.read (Elt F) VS0_0.junk) : Vec F S1x256x4096 .bf16 × Vec F S288x4096 .f32)

def stAt0 (c : Dev nD) (n : ℕ) (hb : n < cfg0.N) (acc : Vec F S1x256x4096 .bf16 × Vec F S288x4096 .f32) : Vec F S1x256x4096 .bf16 × Vec F S288x4096 .f32 :=
  if h0 : n % 16 = 0 then
    if h1 : 1 ≤ n % 16 then
      False.elim (by have hN : n < 64 := lt_of_lt_of_eq hb (show cfg0.N = 64 from N_0); omega)
    else
      (out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)))
  else
    if h1 : 1 ≤ n % 16 then
      (out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2)
    else
      False.elim (by have hN : n < 64 := lt_of_lt_of_eq hb (show cfg0.N = 64 from N_0); omega)

theorem stAt0_A (c : Dev nD) (t : Fin cfg0.N) (acc : Vec F S1x256x4096 .bf16 × Vec F S288x4096 .f32) (h0 : t.val % 16 = 0) (h1 : ¬1 ≤ t.val % 16) :
    stAt0 m c t.val t.isLt acc = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) :=
  (dif_pos h0).trans ((dif_neg h1).trans rfl)

theorem stAt0_B (c : Dev nD) (t : Fin cfg0.N) (acc : Vec F S1x256x4096 .bf16 × Vec F S288x4096 .f32) (h0 : ¬t.val % 16 = 0) (h1 : 1 ≤ t.val % 16) :
    stAt0 m c t.val t.isLt acc = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2) :=
  (dif_neg h0).trans ((dif_pos h1).trans rfl)

theorem outsAt0_succ (c : Dev nD) (n : ℕ) (hn : n + 1 < cfg0.N) :
    outsAt0 m c (n + 1) hn = stAt0 m c (n + 1) hn (outsAt0 m c n (Nat.lt_of_succ_lt hn)) := rfl

theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

abbrev run7Of (i : S4x4096x4096.Idx) : ℕ := 16 * ((i 0).val / 1 - 0) + 1 * ((i 1).val / 256 - 0) + 1 * ((i 2).val / 4096 - 0)
set_option backward.proofsInPublic true in
abbrev loc7Of (i : S4x4096x4096.Idx) : S1x256x4096.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 4096, Nat.mod_lt _ (by decide)⟩
abbrev pt7Of (i : S4x4096x4096.Idx) : ℕ := run7Of i

def G7 (c : Dev nD) : Buf (Elt F) ((c : Thread nD τ).loc main_v5) := fun i =>
  if h : pt7Of i < cfg0.N then
    (Pipeline.accAt (fun n h => stAt0 m c n h junk0) (stAt0 m c) 0 (pt7Of i) (by omega)).1 (loc7Of i)
  else V m c (Pipeline.arrRef spec0 7) i

theorem idx_facts7 : ∀ t : Fin cfg0.N, 0 ≤ win0_7.index t (0 : Fin 3) ∧ win0_7.index t (0 : Fin 3) ≤ 3
    ∧ 0 ≤ win0_7.index t (1 : Fin 3) ∧ win0_7.index t (1 : Fin 3) ≤ 15
    ∧ 0 ≤ win0_7.index t (2 : Fin 3) ∧ win0_7.index t (2 : Fin 3) ≤ 0
    ∧ 16 * (win0_7.index t (0 : Fin 3) - 0) + 1 * (win0_7.index t (1 : Fin 3) - 0) + 1 * (win0_7.index t (2 : Fin 3) - 0) = t.val :=
  (by decide +kernel : ∀ t : Fin grid0.N, _)

abbrev onto7Pt (q0 : Fin 4) (q1 : Fin 16) (q2 : Fin 1) : Fin grid0.N :=
  ⟨16 * q0.val + 1 * q1.val + 1 * q2.val, lt_of_lt_of_eq (by omega) N_0.symm⟩
theorem idx_onto7 : ∀ (q0 : Fin 4) (q1 : Fin 16) (q2 : Fin 1), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 4) (q1 : Fin 16) (q2 : Fin 1), win0_7.flush (onto7Pt q0 q1 q2) = true ∧ win0_7.index (onto7Pt q0 q1 q2) = ![q0.val + 0, q1.val + 0, q2.val + 0]) q0 q1 q2⟩

theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2, e3⟩ := idx_facts7 t
  funext y
  have hy0 : (y 0).val < 1 := (y 0).isLt
  have hy1 : (y 1).val < 256 := (y 1).isLt
  have hy2 : (y 2).val < 4096 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 256 + 1 * (y 1).val := rfl
  have hb2 : (((cfg0.win 7).blk t).view.emb y 2).val = win0_7.index t (2 : Fin 3) * 4096 + 1 * (y 2).val := rfl
  have hr : run7Of (((cfg0.win 7).blk t).view.emb y) = t.val := by
    show 16 * ((((cfg0.win 7).blk t).view.emb y 0).val / 1 - 0) + 1 * ((((cfg0.win 7).blk t).view.emb y 1).val / 256 - 0) + 1 * ((((cfg0.win 7).blk t).view.emb y 2).val / 4096 - 0) = _
    rw [hb0, hb1, hb2]
    rw [show (win0_7.index t (0 : Fin 3) * 1 + 1 * (y 0).val) / 1 = win0_7.index t (0 : Fin 3) from by omega]; rw [show (win0_7.index t (1 : Fin 3) * 256 + 1 * (y 1).val) / 256 = win0_7.index t (1 : Fin 3) from by omega]; rw [show (win0_7.index t (2 : Fin 3) * 4096 + 1 * (y 2).val) / 4096 = win0_7.index t (2 : Fin 3) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 256 = (y 1).val; rw [hb1]; omega
    | ⟨2, _⟩ => show (((cfg0.win 7).blk t).view.emb y 2).val % 4096 = (y 2).val; rw [hb2]; omega
  have hp : pt7Of (((cfg0.win 7).blk t).view.emb y) = t.val := by
    exact hr
  show (Pipeline.accAt (fun n h => stAt0 m c n h junk0) (stAt0 m c) 0 t.val _).1 ((cfg0.win 7).xinj (grid0.coords t) y) = G7 m c (((cfg0.win 7).blk t).view.emb y)
  unfold G7
  rw [dif_pos (by rw [hp]; exact t.isLt), hl, fold0_congr m c _ _ _ _ hp.symm]

theorem mem_blk7 (t : Fin cfg0.N) (i : S4x4096x4096.Idx) :
    i ∈ ((cfg0.win 7).blk t).view.set ↔ ∀ a : Fin 3, win0_7.index t a * S1x256x4096.size a ≤ (i a).val ∧ (i a).val < win0_7.index t a * S1x256x4096.size a + S1x256x4096.size a := by
  show i ∈ ((View.whole main_v5).slice (win0_7.rect t)).set ↔ _
  rw [View.set_slice_whole, Rect.mem_set_unit]
  exact Iff.rfl

theorem covered_iff7 (i : S4x4096x4096.Idx) :
    (∃ t : Fin cfg0.N, (cfg0.win 7).flush t = true ∧ i ∈ ((cfg0.win 7).blk t).view.set) ↔ 0 ≤ (i 0).val ∧ (i 0).val < 4 ∧ 0 ≤ (i 1).val ∧ (i 1).val < 4096 ∧ 0 ≤ (i 2).val ∧ (i 2).val < 4096 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 256 ≤ (i 1).val ∧ (i 1).val < win0_7.index t (1 : Fin 3) * 256 + 256 := hi 1
    have b2 : win0_7.index t (2 : Fin 3) * 4096 ≤ (i 2).val ∧ (i 2).val < win0_7.index t (2 : Fin 3) * 4096 + 4096 := hi 2
    obtain ⟨e0, e1, e2, e3⟩ := idx_facts7 t
    omega
  · intro h
    have hi0 : (i 0).val < 4 := (i 0).isLt
    have hi1 : (i 1).val < 4096 := (i 1).isLt
    have hi2 : (i 2).val < 4096 := (i 2).isLt
    obtain ⟨t, hft, ht⟩ := idx_onto7 ⟨(i 0).val / 1 - 0, by omega⟩ ⟨(i 1).val / 256 - 0, by omega⟩ ⟨(i 2).val / 4096 - 0, by omega⟩
    have q0 : win0_7.index t (0 : Fin 3) = (i 0).val / 1 - 0 + 0 := congrFun ht 0
    have q1 : win0_7.index t (1 : Fin 3) = (i 1).val / 256 - 0 + 0 := congrFun ht 1
    have q2 : win0_7.index t (2 : Fin 3) = (i 2).val / 4096 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 256 ≤ (i 1).val ∧ (i 1).val < win0_7.index t (1 : Fin 3) * 256 + 256; omega
    | ⟨2, _⟩ => show win0_7.index t (2 : Fin 3) * 4096 ≤ (i 2).val ∧ (i 2).val < win0_7.index t (2 : Fin 3) * 4096 + 4096; omega

theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 4 := (i 0).isLt; have h1 : (i 1).val < 4096 := (i 1).isLt; have h2 : (i 2).val < 4096 := (i 2).isLt; omega))

theorem run : θ_run defs (onTc (τ := τ) (main (F := F))) ⟨m, fun _ => 0, ρ⟩ fun r => ∀ c : Dev nD,
      r.2.mem ((c : Thread nD τ).loc main_v5) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post7 m r h c).trans (final7 m c),
      kept_main_arg0 m r h c,
      kept_main_arg1 m r h c,
      kept_main_arg2 m r h c,
      kept_main_arg3 m r h c,
      kept_main_arg4 m r h c⟩)
    (run_main m ρ)

end Cert.ConformerIdeal.Value

end
-- ==== Proof.ConformerBlock.lean ====
/- The conformer branch's body at an entry: the buffer that it fills, the rows that it convolves, and the block that it writes. -/
module

public import proofs.«01_k».proof.Proof.ConformerOps
public import proofs.«01_k».proof.Proof.ConformerReference
public import proofs.«01_k».proof.Proof.ConformerIdealBlocks
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384
noncomputable section

namespace Cert.ConformerBlock

open Cert.ConformerIdeal Cert.ConformerIdeal.Gen Cert.ConformerOps Idealize.ShloMosaic Idealize.ShloMosaic.TcCoe Idealize.ShloMosaic.Tactic
open Cert.ConformerReference (sig sig_eq normed result)

/-! ## The stages at an entry -/

theorem pay1 (r : Fin 32) (l : Fin 4096) : k0_pay1 (F := Ideal) (ix2 r l) = 0 := by
  pointwise [k0_pay1]
  first | done | exact Ideal.ofBits_zero_f32

theorem pay2 (v : Vec Ideal S32x4096 .f32) (r : Fin 32) (l : Fin 4096) : k0_pay2 (F := Ideal) v (ix2 r l) = v (ix2 r l) := by
  pointwise [k0_pay2]

theorem pay3 (a g : Vec Ideal S1x256x4096 .bf16) (r : Fin 256) (l : Fin 4096) :
    k0_pay3 (F := Ideal) a g (ix2 r l) = a (ix3 0 r l) * sig (g (ix3 0 r l)) := by
  pointwise [k0_pay3]
  rw [FoxBlock.half]
  rfl

theorem pay32 (C : Vec Ideal S16x4096 .f32) (g a : Vec Ideal S1x4096 .f32) (r : Fin 16) (l : Fin 4096) :
    k0_pay32 (F := Ideal) C g a (ix2 r l) = normed (fun k => C (ix2 r k)) l (g (ix2 0 l)) (a (ix2 0 l)) := by
  pointwise [k0_pay32]
  first | done | rfl

theorem pay33 (q : Vec Ideal S1x16x4096 .bf16) (r : Fin 16) (l : Fin 4096) :
    k0_pay33 (F := Ideal) q (ix2 r l) = FoxBlock.gate (q (ix3 0 r l)) := by
  pointwise [k0_pay33]
  rw [FoxBlock.half]
  rfl

theorem pay5 (Y Z : FVec Ideal S16x4096 .f32) (C : Vec Ideal S16x4096 .f32) (g a : Vec Ideal S1x4096 .f32) (r : Fin 16) (l : Fin 4096)
    (hY : Y = k0_pay32 (F := Ideal) C g a) :
    k0_pay5 (F := Ideal) Y Z (k0_pay34 (F := Ideal) C g a) (ix3 0 r l) = FoxBlock.gate (Y (ix2 r l)) * Z (ix2 r l) := by
  have e : k0_pay34 (F := Ideal) C g a (ix2 r l) = ((0.5 : ℝ) : EReal) * Y (ix2 r l) := by
    unfold k0_pay34
    rw [← hY]
    pointwise
    rw [FoxBlock.half]
  generalize k0_pay34 (F := Ideal) C g a = P at e
  pointwise [k0_pay5]
  rw [FoxBlock.half]
  refine congrArg (fun p : EReal => Y (ix2 r l) * (((0.5 : ℝ) : EReal) * Ideal.tanh p + ((0.5 : ℝ) : EReal)) * Z (ix2 r l)) e

/-! ## The convolved rows -/

section Loops

variable (𝒱 : Variants) (c : Dev nD) (bd : Option 𝒱.V) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole)

theorem strips_conv (X5 : BufTy.Contents (Elt Ideal) arg5.view.ty) (X6 : BufTy.Contents (Elt Ideal) arg6.view.ty) (X10 : BufTy.Contents (Elt Ideal) arg10.view.ty) :
    ∀ n : ℕ, n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 X5 X6 X10 n, ∀ x : p.1.shape.Idx,
      p.2 x = conv (arg5.view.read (Elt Ideal) X5) (arg6.view.read (Elt Ideal) X6) (arg10.view.read (Elt Ideal) X10) (p.1.emb x) := by
  intro n
  induction n with
  | zero => intro _ p hp; exact absurd hp (List.not_mem_nil)
  | succ n ih =>
    intro hn
    rw [pb_k0_t1_succ (F := Ideal) 𝒱 c bd i arg2 harg2 arg3 harg3 arg4 harg4 arg5 harg5 arg6 harg6 arg7 harg7 arg8 harg8 arg9 harg9 arg10 harg10 arg11 harg11 X5 X6 X10 ⟨n, hn⟩]
    intro p hp
    rcases List.mem_append.mp hp with h | h
    · exact trip_conv 𝒱 c bd i arg2 harg2 arg3 harg3 arg4 harg4 arg5 harg5 arg6 harg6 arg7 harg7 arg8 harg8 arg9 harg9 arg10 harg10 arg11 harg11 X5 X6 X10 ⟨n, hn⟩ p h
    · exact ih (Nat.le_of_lt hn) p h

/-- What the first loop leaves. -/
theorem conv_read (X5 : BufTy.Contents (Elt Ideal) arg5.view.ty) (X6 : BufTy.Contents (Elt Ideal) arg6.view.ty) (X10 : BufTy.Contents (Elt Ideal) arg10.view.ty)
    (f : BufTy.Contents (Elt Ideal) arg11.view.ty) :
    arg11.view.read (Elt Ideal) (arg11.view.writes (Elt Ideal) f (pb_k0_t1 (F := Ideal) 𝒱 c bd i arg2 harg2 arg3 harg3 arg4 harg4 arg5 harg5 arg6 harg6 arg7 harg7 arg8 harg8 arg9 harg9 arg10 harg10 arg11 harg11 X5 X6 X10 (Scf.trips k0_t1_loop.lb k0_t1_loop.ub k0_t1_loop.st)))
      = conv (arg5.view.read (Elt Ideal) X5) (arg6.view.read (Elt Ideal) X6) (arg10.view.read (Elt Ideal) X10) := by
  have cover := conf_strips_cover (F := Ideal) 𝒱 c bd i arg2 harg2 arg3 harg3 arg4 harg4 arg5 harg5 arg6 harg6 arg7 harg7 arg8 harg8 arg9 harg9 arg10 harg10 arg11 harg11 X5 X6 X10
  rw [View.read_writes_eq_canon _ _ _ cover]
  funext y
  exact View.canon_apply_of_pieces (Val := Elt Ideal) (e := .f32) (conv (arg5.view.read (Elt Ideal) X5) (arg6.view.read (Elt Ideal) X6) (arg10.view.read (Elt Ideal) X10)) _
    (strips_conv 𝒱 c bd i arg2 harg2 arg3 harg3 arg4 harg4 arg5 harg5 arg6 harg6 arg7 harg7 arg8 harg8 arg9 harg9 arg10 harg10 arg11 harg11 X5 X6 X10 _ (Nat.le_refl _)) y (cover y)

/-- The block over the convolved rows `V`. -/
def written (V : Vec Ideal S256x4096 .f32) (g a : Vec Ideal S1x4096 .f32) (q : Vec Ideal S1x256x4096 .bf16) (y : S1x256x4096.Idx) : Elt Ideal .bf16 :=
  result (fun k => V (ix2 ⟨(y 1).val, (y 1).isLt⟩ k)) ⟨(y 2).val, (y 2).isLt⟩ (g (ix2 0 ⟨(y 2).val, (y 2).isLt⟩)) (a (ix2 0 ⟨(y 2).val, (y 2).isLt⟩))
    (q (ix3 0 ⟨(y 1).val, (y 1).isLt⟩ ⟨(y 2).val, (y 2).isLt⟩))

theorem written_at (V : Vec Ideal S256x4096 .f32) (g a : Vec Ideal S1x4096 .f32) (q : Vec Ideal S1x256x4096 .bf16) (r : Fin 256) (l : Fin 4096) :
    written V g a q (ix3 0 r l) = result (fun k => V (ix2 r k)) l (g (ix2 0 l)) (a (ix2 0 l)) (q (ix3 0 r l)) := rfl

theorem normed_congr {C C' : Fin 4096 → EReal} (j : Fin 4096) {g g' a a' : EReal} (hC : C = C') (hg : g = g') (ha : a = a') :
    normed C j g a = normed C' j g' a' := by
  rw [hC, hg, ha]

theorem ld_row (Y : Vec Ideal S1x4096 .f32) (inb) (l : Fin 4096) :
    View.ld Y (Rect.unit (s := S1x4096) ![0, 0] ![1, 4096] inb) (ix2 (0 : Fin 1) l) = Y (ix2 0 l) := by
  show Y ((Rect.unit (s := S1x4096) _ ![1, 4096] inb).emb (ix2 (0 : Fin 1) l)) = Y _
  congr 1
  funext a
  refine Fin.ext ((ValueKit.rect_emb_unit_val (s := S1x4096) _ ![1, 4096] inb (ix2 (0 : Fin 1) l) a).trans ?_)
  match a with
  | ⟨0, _⟩ => rfl
  | ⟨1, _⟩ => show 0 + l.val = l.val; omega

theorem bound2 (k : Fin k0_t2_loop.trips) : k.val < 16 := Nat.lt_of_lt_of_le k.isLt k0_t2_abs.2.1

/-- Where a strip's rows begin. -/
theorem off_row (k : Fin k0_t2_loop.trips) : BitVec.toNat (Scalar.indexCast (Scalar.muli (Scf.iv 0#32 1#32 k.val) 16#32)) = 16 * k.val :=
  (by decide +kernel : ∀ k : Fin k0_t2_loop.trips, BitVec.toNat (Scalar.indexCast (Scalar.muli (Scf.iv 0#32 1#32 k.val) 16#32)) = 16 * k.val) k

/-- The row of the block for that of a strip of 16. -/
def srow (k : Fin k0_t2_loop.trips) (r : Fin 16) : Fin 256 := ⟨16 * k.val + r.val, by have := bound2 k; omega⟩

theorem ld_rows (X : Vec Ideal S256x4096 .f32) (k : Fin k0_t2_loop.trips) (inb) (r : Fin 16) (l : Fin 4096) :
    View.ld X (Rect.unit (s := S256x4096) ![BitVec.toNat (Scalar.indexCast (Scalar.muli (Scf.iv 0#32 1#32 k.val) 16#32)), 0] ![16, 4096] inb) (ix2 r l) = X (ix2 (srow k r) l) := by
  have hc := off_row k
  show X ((Rect.unit (s := S256x4096) _ ![16, 4096] inb).emb (ix2 r l)) = X _
  congr 1
  funext a
  refine Fin.ext ((ValueKit.rect_emb_unit_val (s := S256x4096) _ ![16, 4096] inb (ix2 r l) a).trans ?_)
  match a with
  | ⟨0, _⟩ => show BitVec.toNat _ + r.val = 16 * k.val + r.val; omega
  | ⟨1, _⟩ => show 0 + l.val = l.val; omega

theorem emb_rows (k : Fin k0_t2_loop.trips) (inb) (r : Fin 16) (l : Fin 4096) :
    (Rect.unit (s := S1x256x4096) ![0, BitVec.toNat (Scalar.indexCast (Scalar.muli (Scf.iv 0#32 1#32 k.val) 16#32)), 0] ![1, 16, 4096] inb).emb (ix3 (0 : Fin 1) r l) = ix3 0 (srow k r) l := by
  have hc := off_row k
  funext a
  refine Fin.ext ((ValueKit.rect_emb_unit_val (s := S1x256x4096) _ ![1, 16, 4096] inb (ix3 (0 : Fin 1) r l) a).trans ?_)
  match a with
  | ⟨0, _⟩ => rfl
  | ⟨1, _⟩ => show BitVec.toNat _ + r.val = 16 * k.val + r.val; omega
  | ⟨2, _⟩ => show 0 + l.val = l.val; omega

theorem exists_ix3 (x : S1x16x4096.Idx) : ∃ (r : Fin 16) (l : Fin 4096), x = ix3 0 r l := by
  refine ⟨⟨(x 1).val, (x 1).isLt⟩, ⟨(x 2).val, (x 2).isLt⟩, ?_⟩
  funext a
  match a with
  | ⟨0, _⟩ => exact Fin.ext (by have : (x 0).val < 1 := (x 0).isLt; show (x 0).val = 0; omega)
  | ⟨1, _⟩ => rfl
  | ⟨2, _⟩ => rfl

set_option maxHeartbeats 1000000 in
/-- What one trip of the second loop stores. -/
theorem trip_rows (X4 : BufTy.Contents (Elt Ideal) arg4.view.ty) (X7 : BufTy.Contents (Elt Ideal) arg7.view.ty) (X8 : BufTy.Contents (Elt Ideal) arg8.view.ty)
    (X11 : BufTy.Contents (Elt Ideal) arg11.view.ty) (k : Fin k0_t2_loop.trips) :
    ∀ p ∈ tripL_k0_t2 (F := Ideal) 𝒱 c bd i arg2 harg2 arg3 harg3 arg4 harg4 arg5 harg5 arg6 harg6 arg7 harg7 arg8 harg8 arg9 harg9 arg10 harg10 arg11 harg11 X4 X7 X8 X11 k, ∀ x : p.1.shape.Idx,
      p.2 x = written (arg11.view.read (Elt Ideal) X11) (arg7.view.read (Elt Ideal) X7) (arg8.view.read (Elt Ideal) X8) (arg4.view.read (Elt Ideal) X4) (p.1.emb x) := by
  unfold tripL_k0_t2 trip_k0_t2
  dsimp only
  sl_unfold_words
  simp only [View.readAt_eq_ld]
  generalize arg11.view.read (Elt Ideal) X11 = V
  generalize arg7.view.read (Elt Ideal) X7 = g
  generalize arg8.view.read (Elt Ideal) X8 = a
  generalize arg4.view.read (Elt Ideal) X4 = q
  refine List.forall_mem_cons.mpr ⟨?_, fun _ h => nomatch h⟩
  intro x
  obtain ⟨r, l, rfl⟩ := exists_ix3 x
  refine Eq.trans ?_ ((congrArg (written V g a q) (emb_rows k (k0_off52_inb k) r l)).trans (written_at V g a q (srow k r) l)).symm
  refine (pay5 _ _ _ _ _ r l rfl).trans ?_
  refine congrArg₂ (fun u v : EReal => u * v) (congrArg FoxBlock.gate ((pay32 _ _ _ r l).trans ?_)) ((pay33 _ r l).trans (congrArg FoxBlock.gate ?_))
  · exact normed_congr l (funext fun k' => ld_rows V k (k0_off51_inb k) r k') (ld_row g _ l) (ld_row a _ l)
  · exact congrArg q (emb_rows k (k0_off52_inb k) r l)

theorem rows_written (X4 : BufTy.Contents (Elt Ideal) arg4.view.ty) (X7 : BufTy.Contents (Elt Ideal) arg7.view.ty) (X8 : BufTy.Contents (Elt Ideal) arg8.view.ty)
    (X11 : BufTy.Contents (Elt Ideal) arg11.view.ty) :
    ∀ n : ℕ, n ≤ k0_t2_loop.trips → ∀ p ∈ pb_k0_t2 (F := Ideal) 𝒱 c bd i arg2 harg2 arg3 harg3 arg4 harg4 arg5 harg5 arg6 harg6 arg7 harg7 arg8 harg8 arg9 harg9 arg10 harg10 arg11 harg11 X4 X7 X8 X11 n, ∀ x : p.1.shape.Idx,
      p.2 x = written (arg11.view.read (Elt Ideal) X11) (arg7.view.read (Elt Ideal) X7) (arg8.view.read (Elt Ideal) X8) (arg4.view.read (Elt Ideal) X4) (p.1.emb x) := by
  intro n
  induction n with
  | zero => intro _ p hp; exact absurd hp (List.not_mem_nil)
  | succ n ih =>
    intro hn
    rw [pb_k0_t2_succ (F := Ideal) 𝒱 c bd i arg2 harg2 arg3 harg3 arg4 harg4 arg5 harg5 arg6 harg6 arg7 harg7 arg8 harg8 arg9 harg9 arg10 harg10 arg11 harg11 X4 X7 X8 X11 ⟨n, hn⟩]
    intro p hp
    rcases List.mem_append.mp hp with h | h
    · exact trip_rows 𝒱 c bd i arg2 harg2 arg3 harg3 arg4 harg4 arg5 harg5 arg6 harg6 arg7 harg7 arg8 harg8 arg9 harg9 arg10 harg10 arg11 harg11 X4 X7 X8 X11 ⟨n, hn⟩ p h
    · exact ih (Nat.le_of_lt hn) p h

end Loops

/-! ## What a grid point leaves -/

/-! ## The buffer that a point leaves -/

/-- Thirty-two rows above the gated rows of the point's block. -/
def buffer (top : Fin 32 → Fin 4096 → EReal) (a g : Vec Ideal S1x256x4096 .bf16) (y : S288x4096.Idx) : EReal :=
  if h : (y 0).val < 32 then top ⟨(y 0).val, h⟩ ⟨(y 1).val, (y 1).isLt⟩
  else a (ix3 0 ⟨(y 0).val - 32, by have : (y 0).val < 288 := (y 0).isLt; omega⟩ ⟨(y 1).val, (y 1).isLt⟩)
    * sig (g (ix3 0 ⟨(y 0).val - 32, by have : (y 0).val < 288 := (y 0).isLt; omega⟩ ⟨(y 1).val, (y 1).isLt⟩))

theorem buffer_top (top : Fin 32 → Fin 4096 → EReal) (a g : Vec Ideal S1x256x4096 .bf16) (n : Fin 288) (h : n.val < 32) (l : Fin 4096) :
    buffer top a g (ix2 n l) = top ⟨n.val, h⟩ l := dif_pos (c := n.val < 32) h

theorem buffer_rows (top : Fin 32 → Fin 4096 → EReal) (a g : Vec Ideal S1x256x4096 .bf16) (n : Fin 288) (h : ¬n.val < 32) (l : Fin 4096) :
    buffer top a g (ix2 n l) = a (ix3 0 ⟨n.val - 32, by omega⟩ l) * sig (g (ix3 0 ⟨n.val - 32, by omega⟩ l)) := dif_neg (c := n.val < 32) h

theorem emb_lower (inb) (r : Fin 256) (l : Fin 4096) :
    (Rect.unit (s := S288x4096) ![32, 0] ![256, 4096] inb).emb (ix2 r l) = ix2 (⟨32 + r.val, by omega⟩ : Fin 288) l := by
  funext a
  refine Fin.ext ((ValueKit.rect_emb_unit_val (s := S288x4096) _ ![256, 4096] inb (ix2 r l) a).trans ?_)
  match a with
  | ⟨0, _⟩ => rfl
  | ⟨1, _⟩ => show 0 + l.val = l.val; omega

theorem emb_upper (inb) (r : Fin 32) (l : Fin 4096) :
    (Rect.unit (s := S288x4096) ![0, 0] ![32, 4096] inb).emb (ix2 r l) = ix2 (⟨r.val, by omega⟩ : Fin 288) l := by
  funext a
  refine Fin.ext ((ValueKit.rect_emb_unit_val (s := S288x4096) _ ![32, 4096] inb (ix2 r l) a).trans ?_)
  match a with
  | ⟨0, _⟩ => show 0 + r.val = r.val; omega
  | ⟨1, _⟩ => show 0 + l.val = l.val; omega

theorem emb_bottom (inb) (r : Fin 32) (l : Fin 4096) :
    (Rect.unit (s := S288x4096) ![256, 0] ![32, 4096] inb).emb (ix2 r l) = ix2 (⟨256 + r.val, by omega⟩ : Fin 288) l := by
  funext a
  refine Fin.ext ((ValueKit.rect_emb_unit_val (s := S288x4096) _ ![32, 4096] inb (ix2 r l) a).trans ?_)
  match a with
  | ⟨0, _⟩ => rfl
  | ⟨1, _⟩ => show 0 + l.val = l.val; omega

theorem emb_block (inb) (r : Fin 256) (l : Fin 4096) :
    (Rect.unit (s := S1x256x4096) ![0, 0, 0] ![1, 256, 4096] inb).emb (ix3 (0 : Fin 1) r l) = ix3 (0 : Fin 1) r l := by
  funext a
  refine Fin.ext ((ValueKit.rect_emb_unit_val (s := S1x256x4096) _ ![1, 256, 4096] inb (ix3 (0 : Fin 1) r l) a).trans ?_)
  match a with
  | ⟨0, _⟩ => rfl
  | ⟨1, _⟩ => show 0 + r.val = r.val; omega
  | ⟨2, _⟩ => show 0 + l.val = l.val; omega

theorem whole_block {M : Memref ConformerIdeal.sig .tc .vmem S1x256x4096 .bf16} (hM : M.IsWhole) (x : Vec Ideal S1x256x4096 .bf16) (inb)
    (r : Fin 256) (l : Fin 4096) :
    M.view.readAt (Elt Ideal) (Rect.unit (s := S1x256x4096) ![0, 0, 0] ![1, 256, 4096] inb).toLoadRect (hM.unread x) (ix3 (0 : Fin 1) r l)
      = x (ix3 0 r l) := by
  rw [View.readAt_eq_ld, hM.read_unread]
  exact congrArg x (emb_block inb r l)

theorem bottom_block {M : Memref ConformerIdeal.sig .tc .vmem S288x4096 .f32} (hM : M.IsWhole) (x : Vec Ideal S288x4096 .f32) (inb)
    (r : Fin 32) (l : Fin 4096) :
    M.view.readAt (Elt Ideal) (Rect.unit (s := S288x4096) ![256, 0] ![32, 4096] inb).toLoadRect (hM.unread x) (ix2 r l)
      = x (ix2 ⟨256 + r.val, by omega⟩ l) := by
  rw [View.readAt_eq_ld, hM.read_unread]
  exact congrArg x (emb_bottom inb r l)

theorem exists_rows {n : ℕ} (x : (⟨2, ![n, 4096]⟩ : Shape).Idx) : ∃ (r : Fin n) (l : Fin 4096), x = ix2 r l := by
  refine ⟨⟨(x 0).val, (x 0).isLt⟩, ⟨(x 1).val, (x 1).isLt⟩, ?_⟩
  funext a
  match a with
  | ⟨0, _⟩ => rfl
  | ⟨1, _⟩ => rfl

/-- The two stores that fill the buffer. -/
theorem buffer_pieces (top : Fin 32 → Fin 4096 → EReal) (x0 x1 a g : Vec Ideal S1x256x4096 .bf16) (t : Vec Ideal S32x4096 .f32) (inb) (inb')
    (ht : ∀ r l, t (ix2 r l) = top r l) (ha : ∀ r l, a (ix3 (0 : Fin 1) r l) = x0 (ix3 0 r l)) (hg : ∀ r l, g (ix3 (0 : Fin 1) r l) = x1 (ix3 0 r l)) :
    ∀ p ∈ ([⟨Rect.unit (s := S288x4096) ![32, 0] ![256, 4096] inb, k0_pay3 (F := Ideal) a g⟩,
        ⟨Rect.unit (s := S288x4096) ![0, 0] ![32, 4096] inb', t⟩] : List (View.Piece (Elt Ideal) S288x4096 .f32)),
      ∀ x, p.2 x = buffer top x0 x1 (p.1.emb x) := by
  intro p hp
  rcases List.mem_cons.mp hp with rfl | hp
  · intro x
    obtain ⟨r, l, rfl⟩ := exists_rows x
    refine (pay3 a g r l).trans (Eq.trans ?_ (congrArg (buffer top x0 x1) (emb_lower inb r l)).symm)
    rw [buffer_rows _ _ _ _ (by show ¬32 + r.val < 32; omega), ha, hg]
    have e : (⟨32 + r.val - 32, by omega⟩ : Fin 256) = r := Fin.ext (by show 32 + r.val - 32 = r.val; omega)
    exact (congrArg (fun q : Fin 256 => x0 (ix3 0 q l) * sig (x1 (ix3 0 q l))) e).symm
  · obtain rfl := List.mem_singleton.mp hp
    intro x
    obtain ⟨r, l, rfl⟩ := exists_rows x
    refine (ht r l).trans (Eq.trans ?_ (congrArg (buffer top x0 x1) (emb_upper inb' r l)).symm)
    rw [buffer_top _ _ _ _ (by show r.val < 32; omega)]

section Points

variable (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S32x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x256x4096 .bf16) (harg9 : arg9.IsWhole) (arg10 : Memref sig .tc .vmem S288x4096 .f32) (harg10 : arg10.IsWhole) (arg11 : Memref sig .tc .vmem S256x4096 .f32) (harg11 : arg11.IsWhole)
  (x0 x1 x2 : Vec Ideal S1x256x4096 .bf16) (x3 : Vec Ideal S32x4096 .f32) (x4 x5 x6 : Vec Ideal S1x4096 .f32) (xs0 : Vec Ideal S288x4096 .f32)

theorem first_out (hc0 : cond0_0 i) (hc1 : ¬cond0_1 i) :
    out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6
      = written (conv x3 x4 (sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6)) x5 x6 x2 := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 hc0 hc1 x0 x1 x2 x3 x4 x5 x6)]
  funext y
  refine View.canon_apply_of_pieces (Val := Elt Ideal) (e := .bf16) (written (conv x3 x4 (sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6)) x5 x6 x2) _
    ?_ y (cover0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 y)
  have hb : ∀ f, arg10.view.read (Elt Ideal) (arg10.view.writes (Elt Ideal) f (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).2.1)
      = sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 := by
    intro f
    unfold sout0_A_0
    rw [View.read_writes_eq_canon _ _ _ (scover0_A_0 (F := Ideal) c i arg2 harg2 arg3 harg3 arg4 harg4 arg5 harg5 arg6 harg6 arg7 harg7 arg8 harg8 arg9 harg9 arg10 harg10 arg11 harg11 hc0 hc1 x0 x1 x2 x3 x4 x5 x6), View.read_writes_eq_canon _ _ _ (scover0_A_0 (F := Ideal) c i arg2 harg2 arg3 harg3 arg4 harg4 arg5 harg5 arg6 harg6 arg7 harg7 arg8 harg8 arg9 harg9 arg10 harg10 arg11 harg11 hc0 hc1 x0 x1 x2 x3 x4 x5 x6)]
  generalize sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 = X at hb ⊢
  unfold kernelRun0_A at hb ⊢
  dsimp only at hb ⊢
  intro p hp
  have key := rows_written Variants.none c none i arg2 harg2 arg3 harg3 arg4 harg4 arg5 harg5 arg6 harg6 arg7 harg7 arg8 harg8 arg9 harg9 arg10 harg10 arg11 harg11 _ _ _ _ _ (Nat.le_refl _) p hp
  rw [conv_read, hb, harg4.read_unread, harg5.read_unread, harg6.read_unread, harg7.read_unread, harg8.read_unread] at key
  exact key

theorem later_out (hc0 : ¬cond0_0 i) (hc1 : cond0_1 i) :
    out0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0
      = written (conv x3 x4 (sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0)) x5 x6 x2 := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0)]
  funext y
  refine View.canon_apply_of_pieces (Val := Elt Ideal) (e := .bf16) (written (conv x3 x4 (sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0)) x5 x6 x2) _
    ?_ y (cover0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 y)
  have hb : ∀ f, arg10.view.read (Elt Ideal) (arg10.view.writes (Elt Ideal) f (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 x6 xs0).2.1)
      = sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 := by
    intro f
    unfold sout0_B_0
    rw [View.read_writes_eq_canon _ _ _ (scover0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0), View.read_writes_eq_canon _ _ _ (scover0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0)]
  generalize sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = X at hb ⊢
  unfold kernelRun0_B at hb ⊢
  dsimp only at hb ⊢
  intro p hp
  have key := rows_written Variants.none c none i arg2 harg2 arg3 harg3 arg4 harg4 arg5 harg5 arg6 harg6 arg7 harg7 arg8 harg8 arg9 harg9 arg10 harg10 arg11 harg11 _ _ _ _ _ (Nat.le_refl _) p hp
  rw [conv_read, hb, harg4.read_unread, harg5.read_unread, harg6.read_unread, harg7.read_unread, harg8.read_unread] at key
  exact key

theorem first_buf (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 = buffer (fun _ _ => 0) x0 x1 := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 hc0 hc1 x0 x1 x2 x3 x4 x5 x6)]
  funext y
  refine View.canon_apply_of_pieces (Val := Elt Ideal) (e := .f32) (buffer (fun _ _ => 0) x0 x1) _
    ?_ y (scover0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 y)
  refine buffer_pieces (fun _ _ => 0) x0 x1 _ _ _ _ _ (fun r l => pay1 r l) ?_ ?_
  · exact whole_block harg2 x0 _
  · exact whole_block harg3 x1 _

theorem later_buf (hc0 : ¬cond0_0 i) (hc1 : cond0_1 i) :
    sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = buffer (fun r l => xs0 (ix2 ⟨256 + r.val, by omega⟩ l)) x0 x1 := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0)]
  funext y
  refine View.canon_apply_of_pieces (Val := Elt Ideal) (e := .f32) (buffer (fun r l => xs0 (ix2 ⟨256 + r.val, by omega⟩ l)) x0 x1) _
    ?_ y (scover0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 y)
  refine buffer_pieces (fun r l => xs0 (ix2 ⟨256 + r.val, by omega⟩ l)) x0 x1 _ _ _ _ _ (fun r l => (pay2 _ r l).trans (bottom_block harg10 xs0 _ r l)) ?_ ?_
  · exact whole_block harg2 x0 _
  · exact whole_block harg3 x1 _

end Points

end Cert.ConformerBlock
-- ==== Proof.ConformerValue.lean ====
/- The conformer branch, over the extended reals: by induction over the grid the buffer of a block holds the thirty-two gated rows
   before it, so that the array that the kernel leaves is the reference's. -/
module

public import proofs.«01_k».proof.Defs
public import proofs.«01_k».proof.Proof.ConformerBlock
public import proofs.«01_k».proof.Proof.ConformerReference
public import proofs.«01_k».proof.Proof.ConformerIdealBlocks
public import proofs.«01_k».proof.Proof.Gen.ConformerReferenceIdeal.Run
public import proofs.«01_k».proof.Proof.Gen.ConformerReferenceIdeal.Read
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384
noncomputable section

namespace Cert.ConformerValue

open Cert.ConformerIdeal Cert.ConformerIdeal.Gen Cert.ConformerOps Cert.ConformerBlock Idealize.ShloMosaic Idealize.ShloMosaic.TcCoe Idealize.SL.Sem
open Cert.ConformerReference (result lane gated padded wR convolved)

/-! ## Where the blocks lie -/

/-- The block that each window takes at a grid point: the rows run fastest, then the batch. -/
theorem blocks : ∀ t : Fin cfg0.N,
    (win0_0.index t = ![t.val / 16, t.val % 16, 0]
    ∧ win0_1.index t = ![t.val / 16, t.val % 16, 1]
    ∧ win0_2.index t = ![t.val / 16, t.val % 16, 2])
    ∧ (win0_3.index t = ![0, 0] ∧ win0_4.index t = ![0, 0] ∧ win0_5.index t = ![0, 0] ∧ win0_6.index t = ![0, 0])
    ∧ win0_7.index t = ![t.val / 16, t.val % 16, 0] :=
  (by decide +kernel : ∀ t : Fin grid0.N, _)

theorem points (p : Fin cfg0.N) : p.val < 64 := p.isLt

/-- Every result lies in the block of some grid point. -/
theorem covered : (cfg0.win 7).Covers := by
  decide +kernel

variable (m : (ℓ : Loc nD τ sig) → Buf (Elt Ideal) ℓ) (c : Dev nD) (p : Fin cfg0.N)

/-- Batch, and row of the array for a row of the block. -/
def batch : Fin 4 := ⟨p.val / 16, by have := points p; omega⟩
def row (r : Fin 256) : Fin 4096 := ⟨256 * (p.val % 16) + r.val, by omega⟩

/-- The five arguments. -/
abbrev rows : Vec Ideal S4x4096x28672 .bf16 := m ((c : Thread nD τ).loc main_arg0)
abbrev taps : Vec Ideal S31x4096 .f32 := m ((c : Thread nD τ).loc main_arg1)
abbrev bias : Vec Ideal S4096 .f32 := m ((c : Thread nD τ).loc main_arg2)
abbrev scale : Vec Ideal S4096 .f32 := m ((c : Thread nD τ).loc main_arg3)
abbrev shift : Vec Ideal S4096 .f32 := m ((c : Thread nD τ).loc main_arg4)

theorem a_block (r : Fin 256) (l : Fin 4096) : iblk (F := Ideal) m c 0 p (ix3 0 r l) = rows m c (ix3 (batch p) (row p r) (lane 0 l)) := by
  obtain ⟨⟨e, _, _⟩, _, _⟩ := blocks p
  blk_ext [iblk, V, e, batch, row, lane]

theorem g_block (r : Fin 256) (l : Fin 4096) : iblk (F := Ideal) m c 1 p (ix3 0 r l) = rows m c (ix3 (batch p) (row p r) (lane 1 l)) := by
  obtain ⟨⟨_, e, _⟩, _, _⟩ := blocks p
  blk_ext [iblk, V, e, batch, row, lane]

theorem q_block (r : Fin 256) (l : Fin 4096) : iblk (F := Ideal) m c 2 p (ix3 0 r l) = rows m c (ix3 (batch p) (row p r) (lane 2 l)) := by
  obtain ⟨⟨_, _, e⟩, _, _⟩ := blocks p
  blk_ext [iblk, V, e, batch, row, lane]

theorem w_block (n : Fin 31) (l : Fin 4096) : iblk (F := Ideal) m c 3 p (ix2 (⟨n.val, by omega⟩ : Fin 32) l) = taps m c (ix2 n l) := by
  obtain ⟨_, ⟨e, _, _, _⟩, _⟩ := blocks p
  show V m c main_v1 (((cfg0.win 3).blk p).view.emb (ix2 (⟨n.val, by omega⟩ : Fin 32) l)) = _
  rw [show ((cfg0.win 3).blk p).view.emb (ix2 (⟨n.val, by omega⟩ : Fin 32) l) = ix2 (⟨n.val, by omega⟩ : Fin 32) l from by blk_ext [e]]
  entry_read
  have hn : n.val < 31 := n.isLt
  pointwise

theorem b_block (l : Fin 4096) : iblk (F := Ideal) m c 4 p (ix2 0 l) = bias m c (ix1 l) := by
  obtain ⟨_, ⟨_, e, _, _⟩, _⟩ := blocks p
  show V m c main_v2 (((cfg0.win 4).blk p).view.emb (ix2 0 l)) = _
  rw [show ((cfg0.win 4).blk p).view.emb (ix2 (0 : Fin 1) l) = ix2 (0 : Fin 1) l from by blk_ext [e]]
  entry_read
  pointwise

theorem s_block (l : Fin 4096) : iblk (F := Ideal) m c 5 p (ix2 0 l) = scale m c (ix1 l) := by
  obtain ⟨_, ⟨_, _, e, _⟩, _⟩ := blocks p
  show V m c main_v3 (((cfg0.win 5).blk p).view.emb (ix2 0 l)) = _
  rw [show ((cfg0.win 5).blk p).view.emb (ix2 (0 : Fin 1) l) = ix2 (0 : Fin 1) l from by blk_ext [e]]
  entry_read
  pointwise

theorem t_block (l : Fin 4096) : iblk (F := Ideal) m c 6 p (ix2 0 l) = shift m c (ix1 l) := by
  obtain ⟨_, ⟨_, _, _, e⟩, _⟩ := blocks p
  show V m c main_v4 (((cfg0.win 6).blk p).view.emb (ix2 0 l)) = _
  rw [show ((cfg0.win 6).blk p).view.emb (ix2 (0 : Fin 1) l) = ix2 (0 : Fin 1) l from by blk_ext [e]]
  entry_read
  pointwise

/-! ## What a point leaves -/

/-- The buffer that a point leaves. -/
abbrev left : Vec Ideal S288x4096 .f32 := (outsAt0 m c p.val p.isLt).2

theorem point_first (h : p.val % 16 = 0) :
    left m c p = buffer (fun _ _ => 0) (iblk m c 0 p) (iblk m c 1 p)
    ∧ (outsAt0 m c p.val p.isLt).1 = written (conv (iblk m c 3 p) (iblk m c 4 p) (left m c p)) (iblk m c 5 p) (iblk m c 6 p) (iblk m c 2 p) := by
  unfold left
  rw [outsAt0_A m c p h (by omega)]
  dsimp only
  exact ⟨first_buf c _ _ _ _ _ _ _ _ _ _ _ _ _ _ _ _ _ _ _ _ _ _ _ _ _ _ _ _ _ _, first_out c _ _ _ _ _ _ _ _ _ _ _ _ _ _ _ _ _ _ _ _ _ _ _ _ _ _ _ _ _ _⟩

theorem point_later (h : ¬p.val % 16 = 0) :
    left m c p = buffer (fun r l => left m c ⟨p.val - 1, Nat.lt_of_le_of_lt (Nat.sub_le _ _) p.isLt⟩ (ix2 ⟨256 + r.val, by omega⟩ l)) (iblk m c 0 p) (iblk m c 1 p)
    ∧ (outsAt0 m c p.val p.isLt).1 = written (conv (iblk m c 3 p) (iblk m c 4 p) (left m c p)) (iblk m c 5 p) (iblk m c 6 p) (iblk m c 2 p) := by
  unfold left
  rw [outsAt0_B m c p h (by omega)]
  dsimp only
  exact ⟨later_buf c _ _ _ _ _ _ _ _ _ _ _ _ _ _ _ _ _ _ _ _ _ _ _ _ _ _ _ _ _ _ _, later_out c _ _ _ _ _ _ _ _ _ _ _ _ _ _ _ _ _ _ _ _ _ _ _ _ _ _ _ _ _ _ _⟩

/-- Below its first thirty-two rows a buffer holds the gated rows of its point. -/
theorem left_rows (n : Fin 288) (h : ¬n.val < 32) (l : Fin 4096) :
    left m c p (ix2 n l) = gated (rows m c) (batch p) (row p ⟨n.val - 32, by omega⟩) l := by
  have e : ∃ top, left m c p = buffer top (iblk m c 0 p) (iblk m c 1 p) := by
    by_cases h0 : p.val % 16 = 0
    · exact ⟨_, (point_first m c p h0).1⟩
    · exact ⟨_, (point_later m c p h0).1⟩
  obtain ⟨top, e⟩ := e
  rw [e, buffer_rows _ _ _ _ h, a_block, g_block]
  rfl

theorem gated_padded (b : Fin 4) (s : Fin 4096) (n : ℕ) (h : n = s.val + 30) (l : Fin 4096) :
    gated (rows m c) b s l = padded (rows m c) b n l := by
  subst h
  unfold padded
  rw [dif_pos ⟨by omega, by omega⟩]
  rfl

/-- The whole buffer holds the rows that the convolution of the block reads. -/
theorem left_padded (n : ℕ) (h : 2 ≤ n) (h' : n < 288) (l : Fin 4096) :
    bufAt (left m c p) n l = padded (rows m c) (batch p) (256 * (p.val % 16) + n - 2) l := by
  have hp := points p
  unfold bufAt
  rw [show (⟨n % 288, Nat.mod_lt _ (by omega)⟩ : Fin 288) = ⟨n, h'⟩ from Fin.ext (Nat.mod_eq_of_lt h')]
  by_cases hn : n < 32
  · by_cases h0 : p.val % 16 = 0
    · rw [(point_first m c p h0).1, buffer_top _ _ _ _ hn]
      unfold padded
      rw [dif_neg (by omega)]
    · rw [(point_later m c p h0).1, buffer_top _ _ _ _ hn, left_rows _ _ _ _ (by show ¬256 + n < 32; omega)]
      have eb : batch (⟨p.val - 1, Nat.lt_of_le_of_lt (Nat.sub_le _ _) p.isLt⟩ : Fin cfg0.N) = batch p :=
        Fin.ext (by show (p.val - 1) / 16 = p.val / 16; omega)
      rw [eb]
      exact gated_padded m c _ _ _ (by show _ = 256 * ((p.val - 1) % 16) + (256 + n - 32) + 30; omega) l
  · rw [left_rows _ _ _ _ hn]
    exact gated_padded m c _ _ _ (by show _ = 256 * (p.val % 16) + (n - 32) + 30; omega) l

theorem taps_at (t : ℕ) (h : t < 31) (l : Fin 4096) : wAt (iblk (F := Ideal) m c 3 p) t l = wR (taps m c) t l := by
  unfold wAt wR
  rw [show (⟨t % 32, Nat.mod_lt _ (by omega)⟩ : Fin 32) = ⟨(⟨t, h⟩ : Fin 31).val, by show t < 32; omega⟩ from Fin.ext (Nat.mod_eq_of_lt (by omega)),
    show (⟨t % 31, Nat.mod_lt _ (by decide)⟩ : Fin 31) = ⟨t, h⟩ from Fin.ext (Nat.mod_eq_of_lt h)]
  exact w_block m c p ⟨t, h⟩ l

/-- The convolution of a block's rows is that of the array's. -/
theorem conv_rows (r : Fin 256) (l : Fin 4096) :
    conv (iblk m c 3 p) (iblk m c 4 p) (left m c p) (ix2 r l) = convolved (rows m c) (taps m c) (bias m c) (batch p) (row p r).val l := by
  show convAt (iblk m c 3 p) (iblk m c 4 p) (left m c p) r.val l = _
  unfold convAt convolved
  rw [b_block]
  refine congrArg (fun s : EReal => bias m c (ix1 l) + s) (Finset.sum_congr rfl fun t ht => ?_)
  have ht : t < 31 := Finset.mem_range.mp ht
  rw [taps_at m c p t ht, left_padded m c p _ (by omega) (by omega)]
  refine congrArg (fun n : ℕ => wR (taps m c) t l * padded (rows m c) (batch p) n l) ?_
  show 256 * (p.val % 16) + (r.val + (t + 2)) - 2 = 256 * (p.val % 16) + r.val + t
  omega

/-- The block that a point leaves. -/
theorem block_value (r : Fin 256) (l : Fin 4096) :
    (outsAt0 m c p.val p.isLt).1 (ix3 (0 : Fin 1) r l) = Cert.ConformerReferenceIdeal.Read.val_main_v259 (F := Ideal)
      (rows m c) (taps m c) (bias m c) (scale m c) (shift m c) (ix3 (batch p) (row p r) l) := by
  have e : (outsAt0 m c p.val p.isLt).1
      = written (conv (iblk m c 3 p) (iblk m c 4 p) (left m c p)) (iblk m c 5 p) (iblk m c 6 p) (iblk m c 2 p) := by
    by_cases h0 : p.val % 16 = 0
    · exact (point_first m c p h0).2
    · exact (point_later m c p h0).2
  rw [e, written_at, Cert.ConformerReference.value, s_block, t_block, q_block]
  simp only [conv_rows]

/-- The array that the kernel leaves is the reference's. -/
theorem array_value :
    (dats m 0 c).arrAt 7 cfg0.N = Cert.ConformerReferenceIdeal.Read.val_main_v259 (F := Ideal)
      (rows m c) (taps m c) (bias m c) (scale m c) (shift m c) := by
  refine (dats m 0 c).arrAt_eq_of_covers 7 _ covered fun t hf y => ?_
  blk_simp
  rw [after0_7]
  have key : ∀ y : S1x256x4096.Idx, (outsAt0 m c t.val t.isLt).1 y
      = Cert.ConformerReferenceIdeal.Read.val_main_v259 (F := Ideal) (rows m c) (taps m c) (bias m c) (scale m c) (shift m c)
          ((win0_7.blk t).view.emb y) := by
    intro y
    obtain ⟨_, _, e⟩ := blocks t
    have h0 : (y 0).val < 1 := (y 0).isLt
    have h1 : (y 1).val < 256 := (y 1).isLt
    have h2 : (y 2).val < 4096 := (y 2).isLt
    have hy : y = ix3 (0 : Fin 1) (⟨(y 1).val, h1⟩ : Fin 256) (⟨(y 2).val, h2⟩ : Fin 4096) := by
      funext a
      match a with
      | ⟨0, _⟩ => exact Fin.ext (by show (y 0).val = 0; omega)
      | ⟨1, _⟩ => rfl
      | ⟨2, _⟩ => rfl
    have hb : (win0_7.blk t).view.emb y = ix3 (batch t) (row t ⟨(y 1).val, h1⟩) (⟨(y 2).val, h2⟩ : Fin 4096) := by
      blk_ext [e, row, batch]
    rw [hb, ← block_value]
    exact congrArg _ hy
  exact key y

/-- The reference runs, leaves its arguments alone and every counter at zero. -/
theorem frame_ref : Cert.quiescent_ConformerReferenceIdeal := fun m g _ =>
  (θ_run Cert.ConformerReferenceIdeal.defs _ _).mono
    (fun r h => ⟨fun c => (h c).2, sem_eq_zero_of_no_sems (by decide) r.2⟩)
    (Cert.ConformerReferenceIdeal.Value.run (F := Ideal) m g)

/-- Both programs run, from equal arguments, to equal results with their arguments unchanged. -/
theorem algebraic : Cert.algebraic_ConformerIdeal_ConformerReferenceIdeal := by
  intro m g m' g' _ hag
  refine ⟨fun c => (dats m 0 c).arrAt 7 cfg0.N, Cert.ConformerIdeal.Value.run_blocks m g, ?_⟩
  refine (θ_run Cert.ConformerReferenceIdeal.defs _ _).mono (fun r h c => ⟨?_, (h c).2⟩) (Cert.ConformerReferenceIdeal.Value.run (F := Ideal) m' g')
  refine (h c).1.trans ?_
  rw [Cert.ConformerReferenceIdeal.Read.val_main_v259_eq]
  obtain ⟨h0, h1, h2, h3, h4⟩ := hag c
  have key : ∀ U W B G A, U = rows m c → W = taps m c → B = bias m c → G = scale m c → A = shift m c →
      Cert.ConformerReferenceIdeal.Read.val_main_v259 (F := Ideal) U W B G A = (dats m 0 c).arrAt 7 cfg0.N := by
    rintro _ _ _ _ _ rfl rfl rfl rfl rfl
    exact (array_value m c).symm
  exact key _ _ _ _ _ h0 h1 h2 h3 h4

end Cert.ConformerValue
-- ==== Proof.FoxBlock.lean ====
/- One grid point of the attention kernel over the extended reals. Given blocks whose queries, keys and running sums are real
   numbers, the state that its rows carry is that of the running softmax (`FoxMath.Online`) over the keys met so far. -/
module

public import proofs.«01_k».proof.Proof.FoxOps
public import proofs.«01_k».proof.Proof.FoxMath
public import Idealize.ShloMosaic.Lib.Pointwise
public import Idealize.ShloMosaic.Lib.Pipeline.ValueKit.Tiles
public import Idealize.ShloMosaic.Lib.Tactic.WordOmega

@[expose] public section

set_option maxRecDepth 16384
noncomputable section

namespace Cert.FoxBlock

open Cert.KernelIdeal Cert.KernelIdeal.Gen Cert.FoxRun Cert.FoxMath Idealize.ShloMosaic Idealize.ShloMosaic.TcCoe

/-! ## The loads at an index -/

section Loads

variable (i : grid0.Coords) (X : Vec Ideal S1x4096x128 .bf16) (C : Vec Ideal S1x1x1x4096 .f32)

theorem lt4 : (i 2).val < 4 := (i 2).isLt

/-- The first key of the diagonal block. -/
theorem off_diag : BitVec.toNat (Scalar.indexCast (Scalar.muli (BitVec.ofNat 32 (i 2).val) 1024#32)) = (i 2).val * 1024 := by
  have hi := lt4 i
  simp [Scalar.indexCast, Scalar.muli, IntOp.muli, BitVec.toNat_mul, BitVec.toNat_ofNat]; omega

/-- The first key of the full block `k`. -/
theorem off_full (k : ℕ) (hk : k < 4) : BitVec.toNat (Scalar.indexCast (Scalar.muli (Scf.iv 0#32 1#32 k) 1024#32)) = k * 1024 := by
  simp [Scalar.indexCast, Scalar.muli, IntOp.muli, Scf.iv, BitVec.toNat_mul, BitVec.toNat_ofNat]; omega

theorem diagA_apply (k : Fin 512) (d : Fin 128) (h : (i 2).val * 1024 + k.val < 4096) :
    diagA (F := Ideal) i X (ix3 0 k d) = X (ix3 0 ⟨(i 2).val * 1024 + k.val, h⟩ d) := by
  unfold diagA
  refine View.ld_unit_apply_of _ _ _ _ _ _ fun a => ?_
  fin_cases a
  · rfl
  · exact (congrArg (· + k.val) (off_diag i)).symm
  · exact (Nat.zero_add _).symm

theorem diagB_apply (k : Fin 1024) (d : Fin 128) (h : (i 2).val * 1024 + k.val < 4096) :
    diagB (F := Ideal) i X (ix3 0 k d) = X (ix3 0 ⟨(i 2).val * 1024 + k.val, h⟩ d) := by
  unfold diagB
  refine View.ld_unit_apply_of _ _ _ _ _ _ fun a => ?_
  fin_cases a
  · rfl
  · exact (congrArg (· + k.val) (off_diag i)).symm
  · exact (Nat.zero_add _).symm

theorem diagAC_apply (k : Fin 512) (h : (i 2).val * 1024 + k.val < 4096) :
    diagAC (F := Ideal) i C (ix4 0 0 0 k) = C (ix4 0 0 0 ⟨(i 2).val * 1024 + k.val, h⟩) := by
  unfold diagAC
  refine View.ld_unit_apply_of _ _ _ _ _ _ fun a => ?_
  fin_cases a
  · rfl
  · rfl
  · rfl
  · exact (congrArg (· + k.val) (off_diag i)).symm

theorem diagBC_apply (k : Fin 1024) (h : (i 2).val * 1024 + k.val < 4096) :
    diagBC (F := Ideal) i C (ix4 0 0 0 k) = C (ix4 0 0 0 ⟨(i 2).val * 1024 + k.val, h⟩) := by
  unfold diagBC
  refine View.ld_unit_apply_of _ _ _ _ _ _ fun a => ?_
  fin_cases a
  · rfl
  · rfl
  · rfl
  · exact (congrArg (· + k.val) (off_diag i)).symm

theorem full_apply (n : Fin (k0_t1_loop i).trips) (k : Fin 1024) (d : Fin 128) (h : n.val * 1024 + k.val < 4096) :
    full (F := Ideal) i n X (ix3 0 k d) = X (ix3 0 ⟨n.val * 1024 + k.val, h⟩ d) := by
  unfold full
  refine View.ld_unit_apply_of _ _ _ _ _ _ fun a => ?_
  fin_cases a
  · rfl
  · exact (congrArg (· + k.val) (off_full n.val (by omega))).symm
  · exact (Nat.zero_add _).symm

theorem fullC_apply (n : Fin (k0_t1_loop i).trips) (k : Fin 1024) (h : n.val * 1024 + k.val < 4096) :
    fullC (F := Ideal) i n C (ix4 0 0 0 k) = C (ix4 0 0 0 ⟨n.val * 1024 + k.val, h⟩) := by
  unfold fullC
  refine View.ld_unit_apply_of _ _ _ _ _ _ fun a => ?_
  fin_cases a
  · rfl
  · rfl
  · rfl
  · exact (congrArg (· + k.val) (off_full n.val (by omega))).symm

end Loads

/-! ## The rows -/

/-- The keys that row `t` of query block `b` has met after the diagonal and the first `n` full blocks. -/
def met (b n t : ℕ) : Finset (Fin 4096) :=
  Finset.univ.filter fun s => s.val < n * 1024 ∨ (b * 1024 ≤ s.val ∧ s.val ≤ b * 1024 + t)

/-- The score of key `s` for query `t`, to base two, of real queries, keys and running sums. -/
def score (qr : Fin 1024 → Fin 128 → ℝ) (kr : Fin 4096 → Fin 128 → ℝ) (cr : Fin 4096 → ℝ) (t : Fin 1024) (s : Fin 4096) : ℝ :=
  (∑ x : Fin 128, qr t x * qs * kr s x) - cr s * l2e

section Rows

variable (i : grid0.Coords) (Q G : Vec Ideal S1x1024x128 .bf16) (K V : Vec Ideal S1x4096x128 .bf16) (C : Vec Ideal S1x1x1x4096 .f32)
  (qr : Fin 1024 → Fin 128 → ℝ) (kr : Fin 4096 → Fin 128 → ℝ) (cr : Fin 4096 → ℝ)
  (hQ : ∀ t x, Q (ix3 0 t x) = (qr t x : EReal)) (hK : ∀ s x, K (ix3 0 s x) = (kr s x : EReal))
  (hC : ∀ s, C (ix4 0 0 0 s) = (cr s : EReal))

include hQ hK hC in
/-- A score that the body computes is the real score. -/
theorem score_eq (t : Fin 1024) (s : Fin 4096) :
    ∑ x : Fin 128, k0_pay16 (F := Ideal) Q (ix2 t x) * K (ix3 0 s x) - C (ix4 0 0 0 s) * (l2e : EReal)
      = (score qr kr cr t s : EReal) := by
  unfold score
  rw [EReal.coe_sub, coe_sum, hC, EReal.coe_mul]
  congr 1
  refine Finset.sum_congr rfl fun x _ => ?_
  rw [pay16, hQ, hK, EReal.coe_mul, EReal.coe_mul]

/-- What the rows of both halves carry after `n` full blocks. -/
def Rows (n : ℕ) (s : St Ideal) : Prop :=
  ∀ (r : Fin 512) (d : Fin 128),
    Online (met (i 2).val n r.val) (score qr kr cr ⟨r.val, by omega⟩) (fun s => V (ix3 0 s d)) (s.1 (ix2 r 0)) (s.2.1 (ix2 r 0)) (s.2.2.1 (ix2 r d))
    ∧ Online (met (i 2).val n (512 + r.val)) (score qr kr cr ⟨512 + r.val, by omega⟩) (fun s => V (ix3 0 s d))
        (s.2.2.2.1 (ix2 r 0)) (s.2.2.2.2.1 (ix2 r 0)) (s.2.2.2.2.2 (ix2 r d))

include hQ hK hC in
/-- THE DIAGONAL: each row has met the keys of its own block up to itself. -/
theorem rows_start : Rows i V qr kr cr 0 (start (F := Ideal) i Q K V C) := by
  have hi := lt4 i
  intro r d
  constructor
  · refine Online.first (n := 512) (fun k => ⟨(i 2).val * 1024 + k.val, by omega⟩) (fun a b h => ?_) (fun k => k.val ≤ r.val) _ _
      (fun k => k0_pay20 (F := Ideal) i Q (diagA i K) (diagAC i C) (ix2 r k)) (fun k => diagA (F := Ideal) i V (ix3 0 k d))
      (fun k hk => ?_) (fun k hk => ?_) (fun k => ?_) _ (fun s => ?_) r le_rfl _ _ _
      (pay21 i Q _ _ r) (pay25 i Q _ _ r) (pay26 i Q _ _ _ r d)
    · have := congrArg Fin.val h; simp only at this; exact Fin.ext (by omega)
    · rw [pay20, if_pos hk]
      simp only [diagA_apply i K _ _ (show (i 2).val * 1024 + k.val < 4096 by omega), diagAC_apply i C _ (show (i 2).val * 1024 + k.val < 4096 by omega)]
      exact score_eq Q K C qr kr cr hQ hK hC _ _
    · rw [pay20, if_neg hk]
    · exact diagA_apply i V _ _ _
    · simp only [met, Finset.mem_filter, Finset.mem_univ, true_and]
      constructor
      · rintro (h | ⟨h1, h2⟩)
        · omega
        · exact ⟨⟨s.val - (i 2).val * 1024, by omega⟩, by simp only; omega, Fin.ext (by simp only; omega)⟩
      · rintro ⟨k, hk, rfl⟩
        right; simp only; omega
  · refine Online.first (n := 1024) (fun k => ⟨(i 2).val * 1024 + k.val, by omega⟩) (fun a b h => ?_) (fun k => k.val ≤ 512 + r.val) _ _
      (fun k => k0_pay30 (F := Ideal) (BitVec.ofNat 32 (i 2).val) (k0_pay16 Q) (Scalar.muli (BitVec.ofNat 32 (i 2).val) 1024#32) (diagB i K) (diagBC i C) (ix2 r k))
      (fun k => diagB (F := Ideal) i V (ix3 0 k d))
      (fun k hk => ?_) (fun k hk => ?_) (fun k => ?_) _ (fun s => ?_) ⟨r.val, by omega⟩ (by simp only; omega) _ _ _
      (pay31 r _) (pay34 r _) (pay35 _ r d _)
    · have := congrArg Fin.val h; simp only at this; exact Fin.ext (by omega)
    · rw [pay30, if_pos hk]
      simp only [diagB_apply i K _ _ (show (i 2).val * 1024 + k.val < 4096 by omega), diagBC_apply i C _ (show (i 2).val * 1024 + k.val < 4096 by omega)]
      exact score_eq Q K C qr kr cr hQ hK hC _ _
    · rw [pay30, if_neg hk]
    · exact diagB_apply i V _ _ _
    · simp only [met, Finset.mem_filter, Finset.mem_univ, true_and]
      constructor
      · rintro (h | ⟨h1, h2⟩)
        · omega
        · exact ⟨⟨s.val - (i 2).val * 1024, by omega⟩, by simp only; omega, Fin.ext (by simp only; omega)⟩
      · rintro ⟨k, hk, rfl⟩
        right; simp only; omega

/-- The keys met after one more full block. -/
theorem met_succ (b n t : ℕ) (hn : n < b) (s : Fin 4096) :
    s ∈ met b (n + 1) t ↔ s ∈ met b n t ∨ s ∈ (Finset.univ.filter fun s : Fin 4096 => n * 1024 ≤ s.val ∧ s.val < (n + 1) * 1024) := by
  simp only [met, Finset.mem_filter, Finset.mem_univ, true_and]
  omega

/-- The keys of a full block are new. -/
theorem met_disj (b n t : ℕ) (hn : n < b) (s : Fin 4096) (h : s ∈ met b n t) :
    s ∉ (Finset.univ.filter fun s : Fin 4096 => n * 1024 ≤ s.val ∧ s.val < (n + 1) * 1024) := by
  simp only [met, Finset.mem_filter, Finset.mem_univ, true_and] at h ⊢
  omega

/-- The keys of a full block, by their place in it. -/
theorem block_mem (n : ℕ) (hn : n < 3) (s : Fin 4096) :
    s ∈ (Finset.univ.filter fun s : Fin 4096 => n * 1024 ≤ s.val ∧ s.val < (n + 1) * 1024)
      ↔ ∃ k : Fin 1024, True ∧ (⟨n * 1024 + k.val, by omega⟩ : Fin 4096) = s := by
  simp only [Finset.mem_filter, Finset.mem_univ, true_and]
  constructor
  · intro h
    exact ⟨⟨s.val - n * 1024, by omega⟩, Fin.ext (by simp only; omega)⟩
  · rintro ⟨k, rfl⟩
    simp only; omega

include hQ hK hC in
/-- A FULL BLOCK: each row meets all its keys. -/
theorem rows_next (n : Fin (k0_t1_loop i).trips) (s : St Ideal) (h : Rows i V qr kr cr n.val s) :
    Rows i V qr kr cr (n.val + 1) (next (F := Ideal) i (k0_pay16 Q) K V C n s) := by
  have hi := lt4 i
  have hn : n.val < (i 2).val := lt_of_lt_of_eq n.isLt (trips1 i)
  have hlt : ∀ k : Fin 1024, n.val * 1024 + k.val < 4096 := fun k => by omega
  intro r d
  constructor
  · refine Online.step (n := 1024) (fun k => ⟨n.val * 1024 + k.val, hlt k⟩) (fun a b h => ?_) (fun _ => True) _ _
      (fun k => k0_pay2 (F := Ideal) (k0_pay16 Q) (full i n K) (fullC i n C) (ix2 r k)) (fun k => full (F := Ideal) i n V (ix3 0 k d))
      (fun k _ => ?_) (fun k hk => absurd trivial hk) (fun k => ?_) _ (block_mem n.val (by omega)) (h r d).1
      (met_disj _ _ _ hn) (met_succ _ _ _ hn) 0 trivial _ _ _
      (pay3 _ _ _ _ r) (pay6 _ _ _ _ _ r) (pay7 _ _ _ _ _ _ r d)
    · have := congrArg Fin.val h; simp only at this; exact Fin.ext (by omega)
    · rw [pay2]
      simp only [full_apply i K n _ _ (hlt k), fullC_apply i C n _ (hlt k)]
      exact score_eq Q K C qr kr cr hQ hK hC _ _
    · exact full_apply i V _ _ _ _
  · refine Online.step (n := 1024) (fun k => ⟨n.val * 1024 + k.val, hlt k⟩) (fun a b h => ?_) (fun _ => True) _ _
      (fun k => k0_pay36 (F := Ideal) (k0_pay8 (k0_pay16 Q) (full i n K)) (fullC i n C) (ix2 r k)) (fun k => full (F := Ideal) i n V (ix3 0 k d))
      (fun k _ => ?_) (fun k hk => absurd trivial hk) (fun k => ?_) _ (block_mem n.val (by omega)) (h r d).2
      (met_disj _ _ _ hn) (met_succ _ _ _ hn) 0 trivial _ _ _
      (pay37 _ _ r _) (pay40 _ _ _ r _) (pay41 _ _ _ _ r d _)
    · have := congrArg Fin.val h; simp only at this; exact Fin.ext (by omega)
    · rw [pay36]
      simp only [full_apply i K n _ _ (hlt k), fullC_apply i C n _ (hlt k)]
      exact score_eq Q K C qr kr cr hQ hK hC _ _
    · exact full_apply i V _ _ _ _

/-- At the end a row has met the keys up to itself, and the block written holds the softmax-weighted values, gated. -/
theorem rows_end (s : St Ideal) (h : Rows i V qr kr cr (k0_t1_loop i).trips s) (t : Fin 1024) (d : Fin 128) :
    k0_pay1 (F := Ideal) (k0_pay48 s.2.1 s.2.2.1 s.2.2.2.2.1 s.2.2.2.2.2 G) (ix3 0 t d)
      = soft (Finset.univ.filter fun s : Fin 4096 => s.val ≤ (i 2).val * 1024 + t.val) (score qr kr cr t) (fun s => V (ix3 0 s d))
        * gate (G (ix3 0 t d)) := by
  have hi := lt4 i
  rw [trips1] at h
  have hmet : ∀ t, met (i 2).val (i 2).val t = Finset.univ.filter fun s : Fin 4096 => s.val ≤ (i 2).val * 1024 + t := fun t => by
    ext s
    simp only [met, Finset.mem_filter, Finset.mem_univ, true_and]
    omega
  have hne : ∀ t, (met (i 2).val (i 2).val t).Nonempty := fun t =>
    ⟨⟨(i 2).val * 1024, by omega⟩, by simp only [met, Finset.mem_filter, Finset.mem_univ, true_and]; omega⟩
  rw [pay1, pay48]
  congr 1
  by_cases ht : t.val < 512
  · rw [dif_pos ht]
    have := ((h ⟨t.val, ht⟩ d).1).quotient (hne _)
    rw [hmet] at this
    exact this
  · rw [dif_neg ht]
    have := ((h ⟨t.val - 512, by omega⟩ d).2).quotient (hne _)
    rw [hmet] at this
    have e : (512 + (t.val - 512)) = t.val := by omega
    simp only [e] at this
    exact this

include hQ hK hC in
/-- WHAT A GRID POINT WRITES at row `t`, column `d` of its block. -/
theorem point_value (m : (ℓ : Loc nD τ sig) → Buf (Elt Ideal) ℓ) (c : Dev nD) (p : Fin cfg0.N) (hi : i = grid0.coords p)
    (h0 : iblk m c 0 p = Q) (h1 : iblk m c 1 p = K) (h2 : iblk m c 2 p = V) (h3 : iblk m c 3 p = C) (h4 : iblk m c 4 p = G)
    (t : Fin 1024) (d : Fin 128) :
    outsAt0 (F := Ideal) m c p (ix3 0 t d)
      = soft (Finset.univ.filter fun s : Fin 4096 => s.val ≤ (i 2).val * 1024 + t.val) (score qr kr cr t) (fun s => V (ix3 0 s d))
        * gate (G (ix3 0 t d)) := by
  subst hi h0 h1 h2 h3 h4
  obtain ⟨s, hs, he⟩ := out_eq (F := Ideal) m c p (Rows (grid0.coords p) (iblk m c 2 p) qr kr cr)
    (rows_start _ _ _ _ _ qr kr cr hQ hK hC) (rows_next _ _ _ _ _ qr kr cr hQ hK hC)
  rw [he]
  exact rows_end _ _ _ qr kr cr s hs t d

end Rows

end Cert.FoxBlock
-- ==== Proof.FoxArray.lean ====
/- The array that the attention kernel leaves, over the extended reals: each result is the softmax-weighted sum of the
   values of the keys up to its query, times the gate, read from the two arguments of the kernel. -/
module

public import proofs.«01_k».proof.Proof.FoxBlock
public import proofs.«01_k».proof.Proof.Gen.KernelIdeal.Value
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384
noncomputable section

namespace Cert.FoxArray

open Cert.KernelIdeal Cert.KernelIdeal.Gen Cert.FoxMath Idealize.ShloMosaic Idealize.ShloMosaic.TcCoe

/-! ## Where the blocks lie -/

/-- The block that each window takes at a grid point (batch, head, query block). -/
theorem blocks : ∀ t : Fin cfg0.N,
    (win0_0.index t = ![(grid0.coords t 0).val, (grid0.coords t 2).val, 96 + (grid0.coords t 1).val]
    ∧ win0_1.index t = ![(grid0.coords t 0).val, 0, 128 + (grid0.coords t 1).val]
    ∧ win0_2.index t = ![(grid0.coords t 0).val, 0, 160 + (grid0.coords t 1).val])
    ∧ win0_3.index t = ![(grid0.coords t 0).val, (grid0.coords t 1).val, 0, 0]
    ∧ win0_4.index t = ![(grid0.coords t 0).val, (grid0.coords t 2).val, 192 + (grid0.coords t 1).val]
    ∧ win0_5.index t = ![(grid0.coords t 0).val, (grid0.coords t 2).val, (grid0.coords t 1).val] :=
  (by decide +kernel : ∀ t : Fin grid0.N, _)

variable (m : (ℓ : Loc nD τ sig) → Buf (Elt Ideal) ℓ) (c : Dev nD) (p : Fin cfg0.N)

theorem c0 : (grid0.coords p 0).val < 4 := (grid0.coords p 0).isLt
theorem c1 : (grid0.coords p 1).val < 32 := (grid0.coords p 1).isLt
theorem c2 : (grid0.coords p 2).val < 4 := (grid0.coords p 2).isLt

/-- Batch, head, row of the array for a row of the block, and lane of the argument for part `g` of the last four. -/
def batch : Fin 4 := ⟨(grid0.coords p 0).val, c0 p⟩
def head : Fin 32 := ⟨(grid0.coords p 1).val, c1 p⟩
def row (t : Fin 1024) : Fin 4096 := ⟨(grid0.coords p 2).val * 1024 + t.val, by have := c2 p; omega⟩
def lane (g : Fin 4) (h : Fin 32) (d : Fin 128) : Fin 28672 := ⟨12288 + g.val * 4096 + h.val * 128 + d.val, by omega⟩

theorem q_block (t : Fin 1024) (d : Fin 128) : iblk (F := Ideal) m c 0 p (ix3 0 t d)
    = m ((c : Thread nD τ).loc main_arg0) (ix3 (batch p) (row p t) (lane 0 (head p) d)) := by
  obtain ⟨⟨e, _, _⟩, _, _, _⟩ := blocks p
  blk_ext [iblk, V, e, batch, head, row, lane]

theorem k_block (s : Fin 4096) (d : Fin 128) : iblk (F := Ideal) m c 1 p (ix3 0 s d)
    = m ((c : Thread nD τ).loc main_arg0) (ix3 (batch p) s (lane 1 (head p) d)) := by
  obtain ⟨⟨_, e, _⟩, _, _, _⟩ := blocks p
  blk_ext [iblk, V, e, batch, head, row, lane]

theorem v_block (s : Fin 4096) (d : Fin 128) : iblk (F := Ideal) m c 2 p (ix3 0 s d)
    = m ((c : Thread nD τ).loc main_arg0) (ix3 (batch p) s (lane 2 (head p) d)) := by
  obtain ⟨⟨_, _, e⟩, _, _, _⟩ := blocks p
  blk_ext [iblk, V, e, batch, head, row, lane]

theorem g_block (t : Fin 1024) (d : Fin 128) : iblk (F := Ideal) m c 4 p (ix3 0 t d)
    = m ((c : Thread nD τ).loc main_arg0) (ix3 (batch p) (row p t) (lane 3 (head p) d)) := by
  obtain ⟨_, _, e, _⟩ := blocks p
  blk_ext [iblk, V, e, batch, head, row, lane]

theorem c_block (s : Fin 4096) : iblk (F := Ideal) m c 3 p (ix4 0 0 0 s)
    = m ((c : Thread nD τ).loc main_arg1) (ix3 (batch p) (head p) s) := by
  obtain ⟨_, e, _, _⟩ := blocks p
  show V m c main_v0 (((cfg0.win 3).blk p).view.emb (ix4 0 0 0 s)) = _
  rw [show ((cfg0.win 3).blk p).view.emb (ix4 0 0 0 s) = ix4 (batch p) (head p) 0 s from by
    blk_ext [e, batch, head]]
  entry_read
  pointwise

/-- Every result lies in the block of some grid point. -/
theorem covered : (cfg0.win 5).Covers := by
  decide +kernel

/-! ## The array -/

/-- The block that a grid point leaves, from the arguments: the rows of the plain softmax over the keys up to the row. -/
theorem block_value (qr : Fin 4 → Fin 4096 → Fin 32 → Fin 128 → ℝ) (kr : Fin 4 → Fin 4096 → Fin 32 → Fin 128 → ℝ)
    (cr : Fin 4 → Fin 32 → Fin 4096 → ℝ)
    (hq : ∀ b t h d, m ((c : Thread nD τ).loc main_arg0) (ix3 b t (lane 0 h d)) = (qr b t h d : EReal))
    (hk : ∀ b t h d, m ((c : Thread nD τ).loc main_arg0) (ix3 b t (lane 1 h d)) = (kr b t h d : EReal))
    (hc : ∀ b h t, m ((c : Thread nD τ).loc main_arg1) (ix3 b h t) = (cr b h t : EReal)) (t : Fin 1024) (d : Fin 128) :
    outsAt0 (F := Ideal) m c p (ix3 0 t d)
      = soft (Finset.univ.filter fun s : Fin 4096 => s.val ≤ (row p t).val)
          (fun s => (∑ x, qr (batch p) (row p t) (head p) x * FoxBlock.qs * kr (batch p) s (head p) x) - cr (batch p) (head p) s * FoxBlock.l2e)
          (fun s => m ((c : Thread nD τ).loc main_arg0) (ix3 (batch p) s (lane 2 (head p) d)))
        * FoxBlock.gate (m ((c : Thread nD τ).loc main_arg0) (ix3 (batch p) (row p t) (lane 3 (head p) d))) := by
  have key := FoxBlock.point_value (grid0.coords p) (iblk m c 0 p) (iblk m c 4 p) (iblk m c 1 p) (iblk m c 2 p) (iblk m c 3 p)
    (fun t x => qr (batch p) (row p t) (head p) x) (fun s x => kr (batch p) s (head p) x) (fun s => cr (batch p) (head p) s)
    (fun t x => (q_block m c p t x).trans (hq _ _ _ _)) (fun s x => (k_block m c p s x).trans (hk _ _ _ _))
    (fun s => (c_block m c p s).trans (hc _ _ _)) m c p rfl rfl rfl rfl rfl rfl t d
  refine key.trans ?_
  rw [g_block]
  simp only [v_block]
  rfl

/-- The whole array: any array `G` that is the plain softmax, gated, at every batch, head, row and lane. -/
theorem array_value (qr : Fin 4 → Fin 4096 → Fin 32 → Fin 128 → ℝ) (kr : Fin 4 → Fin 4096 → Fin 32 → Fin 128 → ℝ)
    (cr : Fin 4 → Fin 32 → Fin 4096 → ℝ)
    (hq : ∀ b t h d, m ((c : Thread nD τ).loc main_arg0) (ix3 b t (lane 0 h d)) = (qr b t h d : EReal))
    (hk : ∀ b t h d, m ((c : Thread nD τ).loc main_arg0) (ix3 b t (lane 1 h d)) = (kr b t h d : EReal))
    (hc : ∀ b h t, m ((c : Thread nD τ).loc main_arg1) (ix3 b h t) = (cr b h t : EReal))
    (G : Vec Ideal S4x4096x4096 .bf16)
    (hG : ∀ (b : Fin 4) (t : Fin 4096) (h : Fin 32) (d : Fin 128) (e : Fin 4096), e.val = h.val * 128 + d.val →
      G (ix3 b t e)
        = soft (Finset.univ.filter fun s : Fin 4096 => s.val ≤ t.val)
            (fun s => (∑ x, qr b t h x * FoxBlock.qs * kr b s h x) - cr b h s * FoxBlock.l2e)
            (fun s => m ((c : Thread nD τ).loc main_arg0) (ix3 b s (lane 2 h d)))
          * FoxBlock.gate (m ((c : Thread nD τ).loc main_arg0) (ix3 b t (lane 3 h d)))) :
    (dats m 0 c).arrAt 5 cfg0.N = G := by
  refine (dats m 0 c).arrAt_eq_of_covers 5 G covered fun t hf y => ?_
  blk_simp
  rw [after0_5]
  have key : ∀ y : S1x1024x128.Idx, outsAt0 (F := Ideal) m c t y = G ((win0_5.blk t).view.emb y) := by
    intro y
    obtain ⟨_, _, _, e⟩ := blocks t
    have h0 : (y 0).val < 1 := (y 0).isLt
    have h1 : (y 1).val < 1024 := (y 1).isLt
    have h2 : (y 2).val < 128 := (y 2).isLt
    have hh := c1 t
    have hy : y = ix3 (0 : Fin 1) (⟨(y 1).val, h1⟩ : Fin 1024) (⟨(y 2).val, h2⟩ : Fin 128) := by
      funext a
      match a with
      | ⟨0, _⟩ => exact Fin.ext (show (y 0).val = 0 by omega)
      | ⟨1, _⟩ => rfl
      | ⟨2, _⟩ => rfl
    have hb : (win0_5.blk t).view.emb y
        = ix3 (batch t) (row t ⟨(y 1).val, h1⟩) (⟨(grid0.coords t 1).val * 128 + (y 2).val, by omega⟩ : Fin 4096) := by
      blk_ext [e, batch, row]
    rw [hb, hG (batch t) (row t ⟨(y 1).val, h1⟩) (head t) ⟨(y 2).val, h2⟩ _ rfl]
    conv_lhs => rw [hy]
    exact block_value m c t qr kr cr hq hk hc _ _
  exact key y

end Cert.FoxArray
-- ==== Proof.FoxClaims.lean ====
/- The claims about the attention kernel: the reference's frame, the named constants, and the equation of the two programs. -/
module

public import proofs.«01_k».proof.Defs
public import proofs.«01_k».proof.Proof.FoxArray
public import proofs.«01_k».proof.Proof.FoxReference
public import proofs.«01_k».proof.Proof.FoxPre
public import proofs.«01_k».proof.Proof.Gen.ReferenceIdeal.Run
public import proofs.«01_k».proof.Proof.Gen.KernelIdeal.Value

@[expose] public section

set_option maxRecDepth 16384
noncomputable section

namespace Cert.FoxClaims

open Idealize.ShloMosaic Idealize.ShloMosaic.TcCoe Idealize.SL.Sem

/-- The reference runs, leaves its arguments alone and every counter at zero. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m g)

/-- The two named constants are what the body's words stand for. -/
theorem preserves : Cert.preserves_Kernel_KernelIdeal :=
  ⟨IdealRules.named_const.statement Cert.KernelIdeal.κ "qscale" .f32 0x3E0293EE#32 _ rfl,
    IdealRules.named_const.statement Cert.KernelIdeal.κ "log2e" .f32 0x3FB8AA3B#32 _ rfl⟩

/-- From equal arguments with real queries, keys and running sums, the kernel's array is the reference's. -/
theorem arrays_equal (m : (ℓ : Loc Cert.KernelIdeal.nD Cert.KernelIdeal.τ Cert.KernelIdeal.sig) → Buf (Elt Ideal) ℓ)
    (c : Dev Cert.KernelIdeal.nD) (hpre : Cert.Pre_KernelIdeal_finite_qk_and_c m) :
    (Cert.KernelIdeal.Gen.dats m 0 c).arrAt 5 Cert.KernelIdeal.cfg0.N
      = Cert.ReferenceIdeal.Read.val_main_v42 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1)) := by
  have hU := (hpre c).1
  have hC := (hpre c).2
  have hq : ∀ (b : Fin 4) (t : Fin 4096) (h : Fin 32) (d : Fin 128), ∃ r : ℝ,
      m ((c : Thread Cert.KernelIdeal.nD Cert.KernelIdeal.τ).loc Cert.KernelIdeal.main_arg0) (ix3 b t (FoxArray.lane 0 h d)) = (r : EReal) := by
    intro b t h d
    obtain ⟨r, hr⟩ := FoxPre.qk_real _ _ hU b t ⟨h.val * 128 + d.val, by omega⟩
    refine ⟨r, Eq.trans (congrArg _ (congrArg (ix3 b t) (Fin.ext ?_))) hr⟩
    simp [FoxArray.lane]; omega
  have hk : ∀ (b : Fin 4) (t : Fin 4096) (h : Fin 32) (d : Fin 128), ∃ r : ℝ,
      m ((c : Thread Cert.KernelIdeal.nD Cert.KernelIdeal.τ).loc Cert.KernelIdeal.main_arg0) (ix3 b t (FoxArray.lane 1 h d)) = (r : EReal) := by
    intro b t h d
    obtain ⟨r, hr⟩ := FoxPre.qk_real _ _ hU b t ⟨4096 + h.val * 128 + d.val, by omega⟩
    refine ⟨r, Eq.trans (congrArg _ (congrArg (ix3 b t) (Fin.ext ?_))) hr⟩
    simp [FoxArray.lane]; omega
  have hc := FoxPre.c_real _ _ hC
  choose qr hqr using hq
  choose kr hkr using hk
  choose cr hcr using hc
  refine FoxArray.array_value m c qr kr cr hqr hkr hcr _ fun b t h d e he => ?_
  exact FoxReference.value _ _ b t h d e he (qr b t h) (fun s => kr b s h) (cr b h) (fun x => hqr b t h x) (fun s x => hkr b s h x) (fun s => hcr b h s)

/-- Both programs run, from equal arguments, to equal results with their arguments unchanged. -/
theorem algebraic : Cert.algebraic_KernelIdeal_ReferenceIdeal_pre_finite_qk_and_c := by
  intro m g m' g' hpre hag
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨?_, (h c).2.1, (h c).2.2⟩) (Cert.ReferenceIdeal.Value.run (F := Ideal) m' g')
  refine (h c).1.trans ?_
  rw [Cert.ReferenceIdeal.Read.val_main_v42_eq, (hag c).1, (hag c).2]
  exact (arrays_equal m c hpre).symm

end Cert.FoxClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_qk_and_c
public import proofs.«01_k».proof.Proof.Gen.Pre_finite_qkv_a_and_b

public import proofs.«01_k».proof.Proof.Gen.InProj.Frame
public import proofs.«01_k».proof.Proof.InProjValue
public import proofs.«01_k».proof.Proof.Gen.InProjIdeal.Value
public import proofs.«01_k».proof.Proof.Gen.InProjReferenceIdeal.Run
public import proofs.«01_k».proof.Proof.Gen.InProjReferenceIdeal.Read
public import proofs.«01_k».proof.Proof.Gen.OutProj.Frame
public import proofs.«01_k».proof.Proof.OutProjValue
public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.Gen.Norm.Frame
public import proofs.«01_k».proof.Proof.NormValue
public import proofs.«01_k».proof.Proof.Gen.NormIdeal.Value
public import proofs.«01_k».proof.Proof.Gen.NormReferenceIdeal.Run
public import proofs.«01_k».proof.Proof.Gen.NormReferenceIdeal.Read
public import proofs.«01_k».proof.Proof.Gen.MlstmIn.Frame
public import proofs.«01_k».proof.Proof.MlstmInValue
public import proofs.«01_k».proof.Proof.Gen.MlstmInIdeal.Value
public import proofs.«01_k».proof.Proof.Gen.MlstmInReferenceIdeal.Run
public import proofs.«01_k».proof.Proof.Gen.MlstmInReferenceIdeal.Read
public import proofs.«01_k».proof.Proof.Gen.SsdIn.Frame
public import proofs.«01_k».proof.Proof.SsdInValue
public import proofs.«01_k».proof.Proof.Gen.SsdInIdeal.Value
public import proofs.«01_k».proof.Proof.Gen.SsdInReferenceIdeal.Run
public import proofs.«01_k».proof.Proof.Gen.SsdInReferenceIdeal.Read
public import proofs.«01_k».proof.Proof.Gen.Mlstm.Frame
public import proofs.«01_k».proof.Proof.MlstmValue
public import proofs.«01_k».proof.Proof.Gen.MlstmIdeal.Value
public import proofs.«01_k».proof.Proof.Gen.MlstmReferenceIdeal.Run
public import proofs.«01_k».proof.Proof.Gen.MlstmReferenceIdeal.Read
public import proofs.«01_k».proof.Proof.Gen.FinalNorm.Frame
public import proofs.«01_k».proof.Proof.FinalNormValue
public import proofs.«01_k».proof.Proof.Gen.FinalNormIdeal.Value
public import proofs.«01_k».proof.Proof.Gen.FinalNormReferenceIdeal.Run
public import proofs.«01_k».proof.Proof.Gen.FinalNormReferenceIdeal.Read
public import proofs.«01_k».proof.Proof.Gen.EvenGatesIn.Frame
public import proofs.«01_k».proof.Proof.EvenGatesInValue
public import proofs.«01_k».proof.Proof.Gen.EvenGatesInIdeal.Value
public import proofs.«01_k».proof.Proof.Gen.EvenGatesInReferenceIdeal.Run
public import proofs.«01_k».proof.Proof.Gen.EvenGatesInReferenceIdeal.Read
public import proofs.«01_k».proof.Proof.Gen.OddGatesIn.Frame
public import proofs.«01_k».proof.Proof.OddGatesInValue
public import proofs.«01_k».proof.Proof.Gen.OddGatesInIdeal.Value
public import proofs.«01_k».proof.Proof.Gen.OddGatesInReferenceIdeal.Run
public import proofs.«01_k».proof.Proof.Gen.OddGatesInReferenceIdeal.Read
public import proofs.«01_k».proof.Proof.Gen.FoxGates.Frame
public import proofs.«01_k».proof.Proof.FoxGatesValue
public import proofs.«01_k».proof.Proof.Gen.FoxGatesIdeal.Value
public import proofs.«01_k».proof.Proof.Gen.FoxGatesReferenceIdeal.Run
public import proofs.«01_k».proof.Proof.Gen.FoxGatesReferenceIdeal.Read
public import proofs.«01_k».proof.Proof.Gen.MlstmGates.Frame
public import proofs.«01_k».proof.Proof.MlstmGatesValue
public import proofs.«01_k».proof.Proof.Gen.MlstmGatesIdeal.Frame
public import proofs.«01_k».proof.Proof.Gen.MlstmGatesReferenceIdeal.Run
public import proofs.«01_k».proof.Proof.Gen.MlstmGatesReferenceIdeal.Read
public import proofs.«01_k».proof.Proof.Gen.SsdGates.Frame
public import proofs.«01_k».proof.Proof.SsdGatesValue
public import proofs.«01_k».proof.Proof.Gen.SsdGatesIdeal.Value
public import proofs.«01_k».proof.Proof.Gen.SsdGatesReferenceIdeal.Run
public import proofs.«01_k».proof.Proof.Gen.SsdGatesReferenceIdeal.Read
public import proofs.«01_k».proof.Proof.ConformerFrame
public import proofs.«01_k».proof.Proof.ConformerIdealFrame
public import proofs.«01_k».proof.Proof.ConformerValue
public import proofs.«01_k».proof.Proof.Gen.ConformerReferenceIdeal.Run
public import proofs.«01_k».proof.Proof.Gen.ConformerReferenceIdeal.Read
public import proofs.«01_k».proof.Proof.Gen.Ssd.Frame
public import proofs.«01_k».proof.Proof.Gen.SsdIdeal.Frame
public import proofs.«01_k».proof.Proof.FoxClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.OutProj.Gen.facts, Cert.OutProjIdeal.Gen.facts, Cert.OutProjReferenceIdeal.Gen.facts,
  Cert.Norm.Gen.facts, Cert.NormIdeal.Gen.facts, Cert.NormReferenceIdeal.Gen.facts,
  Cert.MlstmIn.Gen.facts, Cert.MlstmInIdeal.Gen.facts, Cert.MlstmInReferenceIdeal.Gen.facts,
  Cert.SsdIn.Gen.facts, Cert.SsdInIdeal.Gen.facts, Cert.SsdInReferenceIdeal.Gen.facts,
  Cert.Mlstm.Gen.facts, Cert.MlstmIdeal.Gen.facts, Cert.MlstmReferenceIdeal.Gen.facts,
  Cert.FinalNorm.Gen.facts, Cert.FinalNormIdeal.Gen.facts, Cert.FinalNormReferenceIdeal.Gen.facts,
  Cert.EvenGatesIn.Gen.facts, Cert.EvenGatesInIdeal.Gen.facts, Cert.EvenGatesInReferenceIdeal.Gen.facts,
  Cert.OddGatesIn.Gen.facts, Cert.OddGatesInIdeal.Gen.facts, Cert.OddGatesInReferenceIdeal.Gen.facts,
  Cert.FoxGates.Gen.facts, Cert.FoxGatesIdeal.Gen.facts, Cert.FoxGatesReferenceIdeal.Gen.facts,
  Cert.MlstmGates.Gen.facts, Cert.MlstmGatesIdeal.Gen.facts, Cert.MlstmGatesReferenceIdeal.Gen.facts,
  Cert.SsdGates.Gen.facts, Cert.SsdGatesIdeal.Gen.facts, Cert.SsdGatesReferenceIdeal.Gen.facts,
  Cert.Conformer.Gen.facts, Cert.ConformerIdeal.Gen.facts, Cert.ConformerReferenceIdeal.Gen.facts,
  Cert.Ssd.Gen.facts, Cert.SsdIdeal.Gen.facts,
  Cert.Pre_finite_qk_and_c.Gen.facts, Cert.Pre_finite_qkv_a_and_b.Gen.facts, by
  refine ⟨fun m ρ _ => Cert.Kernel.Gen.frame m ρ, fun m ρ _ => Cert.KernelIdeal.Gen.frame m ρ, fun m ρ _ => Cert.KernelIdeal.Gen.frame m ρ,
    fun m ρ _ => Cert.FoxClaims.frame_ref m ρ, fun m ρ _ => Cert.FoxClaims.frame_ref m ρ,
    fun m ρ _ => Cert.InProj.Gen.frame m ρ, fun m ρ _ => Cert.InProjIdeal.Gen.frame m ρ, Cert.InProjValue.frame_ref,
    fun m ρ _ => Cert.OutProj.Gen.frame m ρ, fun m ρ _ => Cert.OutProjIdeal.Gen.frame m ρ, Cert.OutProjValue.frame_ref,
    fun m ρ _ => Cert.Norm.Gen.frame m ρ, fun m ρ _ => Cert.NormIdeal.Gen.frame m ρ, Cert.NormValue.frame_ref,
    fun m ρ _ => Cert.MlstmIn.Gen.frame m ρ, fun m ρ _ => Cert.MlstmInIdeal.Gen.frame m ρ, Cert.MlstmInValue.frame_ref,
    fun m ρ _ => Cert.SsdIn.Gen.frame m ρ, fun m ρ _ => Cert.SsdInIdeal.Gen.frame m ρ, Cert.SsdInValue.frame_ref,
    fun m ρ _ => Cert.Mlstm.Gen.frame m ρ, fun m ρ _ => Cert.MlstmIdeal.Gen.frame m ρ, fun m ρ _ => Cert.MlstmIdeal.Gen.frame m ρ,
    Cert.MlstmValue.frame_ref, fun m ρ _ => Cert.MlstmValue.frame_ref m ρ trivial,
    fun m ρ _ => Cert.FinalNorm.Gen.frame m ρ, fun m ρ _ => Cert.FinalNormIdeal.Gen.frame m ρ, Cert.FinalNormValue.frame_ref,
    fun m ρ _ => Cert.EvenGatesIn.Gen.frame m ρ, fun m ρ _ => Cert.EvenGatesInIdeal.Gen.frame m ρ, Cert.EvenGatesInValue.frame_ref,
    fun m ρ _ => Cert.OddGatesIn.Gen.frame m ρ, fun m ρ _ => Cert.OddGatesInIdeal.Gen.frame m ρ, Cert.OddGatesInValue.frame_ref,
    fun m ρ _ => Cert.FoxGates.Gen.frame m ρ, fun m ρ _ => Cert.FoxGatesIdeal.Gen.frame m ρ, Cert.FoxGatesValue.frame_ref,
    fun m ρ _ => Cert.MlstmGates.Gen.frame m ρ, fun m ρ _ => Cert.MlstmGatesIdeal.Gen.frame m ρ, Cert.MlstmGatesValue.frame_ref,
    fun m ρ _ => Cert.SsdGates.Gen.frame m ρ, fun m ρ _ => Cert.SsdGatesIdeal.Gen.frame m ρ, Cert.SsdGatesValue.frame_ref,
    fun m ρ _ => Cert.Conformer.Gen.frame m ρ, fun m ρ _ => Cert.ConformerIdeal.Gen.frame m ρ, Cert.ConformerValue.frame_ref,
    fun m ρ _ => Cert.Ssd.Gen.frame m ρ, fun m ρ _ => Cert.SsdIdeal.Gen.frame m ρ,
    Cert.FoxClaims.preserves, Cert.FoxClaims.algebraic,
    trivial, Cert.InProjValue.algebraic,
    trivial, Cert.OutProjValue.algebraic,
    trivial, Cert.NormValue.algebraic,
    trivial, Cert.MlstmInValue.algebraic,
    trivial, Cert.SsdInValue.algebraic,
    trivial, Cert.MlstmValue.algebraic,
    trivial, Cert.FinalNormValue.algebraic,
    trivial, Cert.EvenGatesInValue.algebraic,
    trivial, Cert.OddGatesInValue.algebraic,
    trivial, Cert.FoxGatesValue.algebraic,
    trivial, Cert.MlstmGatesValue.algebraic,
    trivial, Cert.SsdGatesValue.algebraic,
    trivial, Cert.ConformerValue.algebraic, trivial⟩⟩

end Cert.Proof

end
